-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Attnf (m : (ℓ : Loc Cert.Attnf.nD Cert.Attnf.τ Cert.Attnf.sig) → Buf (Elt Bits) ℓ) : Prop :=
  True

def Pre_AttnfIdeal (m : (ℓ : Loc Cert.AttnfIdeal.nD Cert.AttnfIdeal.τ Cert.AttnfIdeal.sig) → Buf (Elt Ideal) ℓ) : Prop :=
  True

def Pre_AttnfIdeal_finite_attnf [hPre_finite_attnf : Cert.Pre_finite_attnf.Facts] (m : (ℓ : Loc Cert.AttnfIdeal.nD Cert.AttnfIdeal.τ Cert.AttnfIdeal.sig) → Buf (Elt Ideal) ℓ) : Prop :=
  ∀ c : Dev Cert.AttnfIdeal.nD,
    (Cert.Pre_finite_attnf.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1)) (m ((c.tc : Thread Cert.AttnfIdeal.nD Cert.AttnfIdeal.τ).loc Cert.AttnfIdeal.main_arg2))).1 = (fun _ => 1#1)
    ∧ (Cert.Pre_finite_attnf.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1)) (m ((c.tc : Thread Cert.AttnfIdeal.nD Cert.AttnfIdeal.τ).loc Cert.AttnfIdeal.main_arg2))).2.1 = (fun _ => 1#1)
    ∧ (Cert.Pre_finite_attnf.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1)) (m ((c.tc : Thread Cert.AttnfIdeal.nD Cert.AttnfIdeal.τ).loc Cert.AttnfIdeal.main_arg2))).2.2 = (fun _ => 1#1)

def Pre_AttnfRefIdeal (m : (ℓ : Loc Cert.AttnfRefIdeal.nD Cert.AttnfRefIdeal.τ Cert.AttnfRefIdeal.sig) → Buf (Elt Ideal) ℓ) : Prop :=
  True

def Pre_AttnfRefIdeal_finite_attnf [hPre_finite_attnf : Cert.Pre_finite_attnf.Facts] (m : (ℓ : Loc Cert.AttnfRefIdeal.nD Cert.AttnfRefIdeal.τ Cert.AttnfRefIdeal.sig) → Buf (Elt Ideal) ℓ) : Prop :=
  ∀ c : Dev Cert.AttnfRefIdeal.nD,
    (Cert.Pre_finite_attnf.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1)) (m ((c.tc : Thread Cert.AttnfRefIdeal.nD Cert.AttnfRefIdeal.τ).loc Cert.AttnfRefIdeal.main_arg2))).1 = (fun _ => 1#1)
    ∧ (Cert.Pre_finite_attnf.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1)) (m ((c.tc : Thread Cert.AttnfRefIdeal.nD Cert.AttnfRefIdeal.τ).loc Cert.AttnfRefIdeal.main_arg2))).2.1 = (fun _ => 1#1)
    ∧ (Cert.Pre_finite_attnf.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1)) (m ((c.tc : Thread Cert.AttnfRefIdeal.nD Cert.AttnfRefIdeal.τ).loc Cert.AttnfRefIdeal.main_arg2))).2.2 = (fun _ => 1#1)

def Pre_Rmsf (m : (ℓ : Loc Cert.Rmsf.nD Cert.Rmsf.τ Cert.Rmsf.sig) → Buf (Elt Bits) ℓ) : Prop :=
  True

def Pre_RmsfIdeal (m : (ℓ : Loc Cert.RmsfIdeal.nD Cert.RmsfIdeal.τ Cert.RmsfIdeal.sig) → Buf (Elt Ideal) ℓ) : Prop :=
  True

def Pre_RmsfRefIdeal (m : (ℓ : Loc Cert.RmsfRefIdeal.nD Cert.RmsfRefIdeal.τ Cert.RmsfRefIdeal.sig) → Buf (Elt Ideal) ℓ) : Prop :=
  True

def Pre_Plef (m : (ℓ : Loc Cert.Plef.nD Cert.Plef.τ Cert.Plef.sig) → Buf (Elt Bits) ℓ) : Prop :=
  True

def Pre_PlefIdeal (m : (ℓ : Loc Cert.PlefIdeal.nD Cert.PlefIdeal.τ Cert.PlefIdeal.sig) → Buf (Elt Ideal) ℓ) : Prop :=
  True

def Pre_PlefRefIdeal (m : (ℓ : Loc Cert.PlefRefIdeal.nD Cert.PlefRefIdeal.τ Cert.PlefRefIdeal.sig) → Buf (Elt Ideal) ℓ) : Prop :=
  True

def Pre_Mixf (m : (ℓ : Loc Cert.Mixf.nD Cert.Mixf.τ Cert.Mixf.sig) → Buf (Elt Bits) ℓ) : Prop :=
  True

def Pre_MixfIdeal (m : (ℓ : Loc Cert.MixfIdeal.nD Cert.MixfIdeal.τ Cert.MixfIdeal.sig) → Buf (Elt Ideal) ℓ) : Prop :=
  True

def Pre_MixfRefIdeal (m : (ℓ : Loc Cert.MixfRefIdeal.nD Cert.MixfRefIdeal.τ Cert.MixfRefIdeal.sig) → Buf (Elt Ideal) ℓ) : Prop :=
  True

def Pre_Ffnf (m : (ℓ : Loc Cert.Ffnf.nD Cert.Ffnf.τ Cert.Ffnf.sig) → Buf (Elt Bits) ℓ) : Prop :=
  True

def Pre_FfnfIdeal (m : (ℓ : Loc Cert.FfnfIdeal.nD Cert.FfnfIdeal.τ Cert.FfnfIdeal.sig) → Buf (Elt Ideal) ℓ) : Prop :=
  True

def Pre_FfnfRefIdeal (m : (ℓ : Loc Cert.FfnfRefIdeal.nD Cert.FfnfRefIdeal.τ Cert.FfnfRefIdeal.sig) → Buf (Elt Ideal) ℓ) : Prop :=
  True

def Pre_Mlaf (m : (ℓ : Loc Cert.Mlaf.nD Cert.Mlaf.τ Cert.Mlaf.sig) → Buf (Elt Bits) ℓ) : Prop :=
  True

def Pre_MlafIdeal (m : (ℓ : Loc Cert.MlafIdeal.nD Cert.MlafIdeal.τ Cert.MlafIdeal.sig) → Buf (Elt Ideal) ℓ) : Prop :=
  True

def Pre_MlafIdeal_finite_mlaf [hPre_finite_mlaf : Cert.Pre_finite_mlaf.Facts] (m : (ℓ : Loc Cert.MlafIdeal.nD Cert.MlafIdeal.τ Cert.MlafIdeal.sig) → Buf (Elt Ideal) ℓ) : Prop :=
  ∀ c : Dev Cert.MlafIdeal.nD,
    (Cert.Pre_finite_mlaf.fn (F := Ideal) (m ((c.tc : Thread Cert.MlafIdeal.nD Cert.MlafIdeal.τ).loc Cert.MlafIdeal.main_arg0)) (m ((c.tc : Thread Cert.MlafIdeal.nD Cert.MlafIdeal.τ).loc Cert.MlafIdeal.main_arg1)) (m ((c.tc : Thread Cert.MlafIdeal.nD Cert.MlafIdeal.τ).loc Cert.MlafIdeal.main_arg2)) (m ((c.tc : Thread Cert.MlafIdeal.nD Cert.MlafIdeal.τ).loc Cert.MlafIdeal.main_arg3)) (m ((c.tc : Thread Cert.MlafIdeal.nD Cert.MlafIdeal.τ).loc Cert.MlafIdeal.main_arg4)) (m ((c.tc : Thread Cert.MlafIdeal.nD Cert.MlafIdeal.τ).loc Cert.MlafIdeal.main_arg5)) (m ((c.tc : Thread Cert.MlafIdeal.nD Cert.MlafIdeal.τ).loc Cert.MlafIdeal.main_arg6)) (m ((c.tc : Thread Cert.MlafIdeal.nD Cert.MlafIdeal.τ).loc Cert.MlafIdeal.main_arg7)) (m ((c.tc : Thread Cert.MlafIdeal.nD Cert.MlafIdeal.τ).loc Cert.MlafIdeal.main_arg8)) (m ((c.tc : Thread Cert.MlafIdeal.nD Cert.MlafIdeal.τ).loc Cert.MlafIdeal.main_arg9)) (m ((c.tc : Thread Cert.MlafIdeal.nD Cert.MlafIdeal.τ).loc Cert.MlafIdeal.main_arg10))).1 = (fun _ => 1#1)
    ∧ (Cert.Pre_finite_mlaf.fn (F := Ideal) (m ((c.tc : Thread Cert.MlafIdeal.nD Cert.MlafIdeal.τ).loc Cert.MlafIdeal.main_arg0)) (m ((c.tc : Thread Cert.MlafIdeal.nD Cert.MlafIdeal.τ).loc Cert.MlafIdeal.main_arg1)) (m ((c.tc : Thread Cert.MlafIdeal.nD Cert.MlafIdeal.τ).loc Cert.MlafIdeal.main_arg2)) (m ((c.tc : Thread Cert.MlafIdeal.nD Cert.MlafIdeal.τ).loc Cert.MlafIdeal.main_arg3)) (m ((c.tc : Thread Cert.MlafIdeal.nD Cert.MlafIdeal.τ).loc Cert.MlafIdeal.main_arg4)) (m ((c.tc : Thread Cert.MlafIdeal.nD Cert.MlafIdeal.τ).loc Cert.MlafIdeal.main_arg5)) (m ((c.tc : Thread Cert.MlafIdeal.nD Cert.MlafIdeal.τ).loc Cert.MlafIdeal.main_arg6)) (m ((c.tc : Thread Cert.MlafIdeal.nD Cert.MlafIdeal.τ).loc Cert.MlafIdeal.main_arg7)) (m ((c.tc : Thread Cert.MlafIdeal.nD Cert.MlafIdeal.τ).loc Cert.MlafIdeal.main_arg8)) (m ((c.tc : Thread Cert.MlafIdeal.nD Cert.MlafIdeal.τ).loc Cert.MlafIdeal.main_arg9)) (m ((c.tc : Thread Cert.MlafIdeal.nD Cert.MlafIdeal.τ).loc Cert.MlafIdeal.main_arg10))).2.1 = (fun _ => 1#1)
    ∧ (Cert.Pre_finite_mlaf.fn (F := Ideal) (m ((c.tc : Thread Cert.MlafIdeal.nD Cert.MlafIdeal.τ).loc Cert.MlafIdeal.main_arg0)) (m ((c.tc : Thread Cert.MlafIdeal.nD Cert.MlafIdeal.τ).loc Cert.MlafIdeal.main_arg1)) (m ((c.tc : Thread Cert.MlafIdeal.nD Cert.MlafIdeal.τ).loc Cert.MlafIdeal.main_arg2)) (m ((c.tc : Thread Cert.MlafIdeal.nD Cert.MlafIdeal.τ).loc Cert.MlafIdeal.main_arg3)) (m ((c.tc : Thread Cert.MlafIdeal.nD Cert.MlafIdeal.τ).loc Cert.MlafIdeal.main_arg4)) (m ((c.tc : Thread Cert.MlafIdeal.nD Cert.MlafIdeal.τ).loc Cert.MlafIdeal.main_arg5)) (m ((c.tc : Thread Cert.MlafIdeal.nD Cert.MlafIdeal.τ).loc Cert.MlafIdeal.main_arg6)) (m ((c.tc : Thread Cert.MlafIdeal.nD Cert.MlafIdeal.τ).loc Cert.MlafIdeal.main_arg7)) (m ((c.tc : Thread Cert.MlafIdeal.nD Cert.MlafIdeal.τ).loc Cert.MlafIdeal.main_arg8)) (m ((c.tc : Thread Cert.MlafIdeal.nD Cert.MlafIdeal.τ).loc Cert.MlafIdeal.main_arg9)) (m ((c.tc : Thread Cert.MlafIdeal.nD Cert.MlafIdeal.τ).loc Cert.MlafIdeal.main_arg10))).2.2.1 = (fun _ => 1#1)
    ∧ (Cert.Pre_finite_mlaf.fn (F := Ideal) (m ((c.tc : Thread Cert.MlafIdeal.nD Cert.MlafIdeal.τ).loc Cert.MlafIdeal.main_arg0)) (m ((c.tc : Thread Cert.MlafIdeal.nD Cert.MlafIdeal.τ).loc Cert.MlafIdeal.main_arg1)) (m ((c.tc : Thread Cert.MlafIdeal.nD Cert.MlafIdeal.τ).loc Cert.MlafIdeal.main_arg2)) (m ((c.tc : Thread Cert.MlafIdeal.nD Cert.MlafIdeal.τ).loc Cert.MlafIdeal.main_arg3)) (m ((c.tc : Thread Cert.MlafIdeal.nD Cert.MlafIdeal.τ).loc Cert.MlafIdeal.main_arg4)) (m ((c.tc : Thread Cert.MlafIdeal.nD Cert.MlafIdeal.τ).loc Cert.MlafIdeal.main_arg5)) (m ((c.tc : Thread Cert.MlafIdeal.nD Cert.MlafIdeal.τ).loc Cert.MlafIdeal.main_arg6)) (m ((c.tc : Thread Cert.MlafIdeal.nD Cert.MlafIdeal.τ).loc Cert.MlafIdeal.main_arg7)) (m ((c.tc : Thread Cert.MlafIdeal.nD Cert.MlafIdeal.τ).loc Cert.MlafIdeal.main_arg8)) (m ((c.tc : Thread Cert.MlafIdeal.nD Cert.MlafIdeal.τ).loc Cert.MlafIdeal.main_arg9)) (m ((c.tc : Thread Cert.MlafIdeal.nD Cert.MlafIdeal.τ).loc Cert.MlafIdeal.main_arg10))).2.2.2.1 = (fun _ => 1#1)
    ∧ (Cert.Pre_finite_mlaf.fn (F := Ideal) (m ((c.tc : Thread Cert.MlafIdeal.nD Cert.MlafIdeal.τ).loc Cert.MlafIdeal.main_arg0)) (m ((c.tc : Thread Cert.MlafIdeal.nD Cert.MlafIdeal.τ).loc Cert.MlafIdeal.main_arg1)) (m ((c.tc : Thread Cert.MlafIdeal.nD Cert.MlafIdeal.τ).loc Cert.MlafIdeal.main_arg2)) (m ((c.tc : Thread Cert.MlafIdeal.nD Cert.MlafIdeal.τ).loc Cert.MlafIdeal.main_arg3)) (m ((c.tc : Thread Cert.MlafIdeal.nD Cert.MlafIdeal.τ).loc Cert.MlafIdeal.main_arg4)) (m ((c.tc : Thread Cert.MlafIdeal.nD Cert.MlafIdeal.τ).loc Cert.MlafIdeal.main_arg5)) (m ((c.tc : Thread Cert.MlafIdeal.nD Cert.MlafIdeal.τ).loc Cert.MlafIdeal.main_arg6)) (m ((c.tc : Thread Cert.MlafIdeal.nD Cert.MlafIdeal.τ).loc Cert.MlafIdeal.main_arg7)) (m ((c.tc : Thread Cert.MlafIdeal.nD Cert.MlafIdeal.τ).loc Cert.MlafIdeal.main_arg8)) (m ((c.tc : Thread Cert.MlafIdeal.nD Cert.MlafIdeal.τ).loc Cert.MlafIdeal.main_arg9)) (m ((c.tc : Thread Cert.MlafIdeal.nD Cert.MlafIdeal.τ).loc Cert.MlafIdeal.main_arg10))).2.2.2.2.1 = (fun _ => 1#1)
    ∧ (Cert.Pre_finite_mlaf.fn (F := Ideal) (m ((c.tc : Thread Cert.MlafIdeal.nD Cert.MlafIdeal.τ).loc Cert.MlafIdeal.main_arg0)) (m ((c.tc : Thread Cert.MlafIdeal.nD Cert.MlafIdeal.τ).loc Cert.MlafIdeal.main_arg1)) (m ((c.tc : Thread Cert.MlafIdeal.nD Cert.MlafIdeal.τ).loc Cert.MlafIdeal.main_arg2)) (m ((c.tc : Thread Cert.MlafIdeal.nD Cert.MlafIdeal.τ).loc Cert.MlafIdeal.main_arg3)) (m ((c.tc : Thread Cert.MlafIdeal.nD Cert.MlafIdeal.τ).loc Cert.MlafIdeal.main_arg4)) (m ((c.tc : Thread Cert.MlafIdeal.nD Cert.MlafIdeal.τ).loc Cert.MlafIdeal.main_arg5)) (m ((c.tc : Thread Cert.MlafIdeal.nD Cert.MlafIdeal.τ).loc Cert.MlafIdeal.main_arg6)) (m ((c.tc : Thread Cert.MlafIdeal.nD Cert.MlafIdeal.τ).loc Cert.MlafIdeal.main_arg7)) (m ((c.tc : Thread Cert.MlafIdeal.nD Cert.MlafIdeal.τ).loc Cert.MlafIdeal.main_arg8)) (m ((c.tc : Thread Cert.MlafIdeal.nD Cert.MlafIdeal.τ).loc Cert.MlafIdeal.main_arg9)) (m ((c.tc : Thread Cert.MlafIdeal.nD Cert.MlafIdeal.τ).loc Cert.MlafIdeal.main_arg10))).2.2.2.2.2.1 = (fun _ => 1#1)
    ∧ (Cert.Pre_finite_mlaf.fn (F := Ideal) (m ((c.tc : Thread Cert.MlafIdeal.nD Cert.MlafIdeal.τ).loc Cert.MlafIdeal.main_arg0)) (m ((c.tc : Thread Cert.MlafIdeal.nD Cert.MlafIdeal.τ).loc Cert.MlafIdeal.main_arg1)) (m ((c.tc : Thread Cert.MlafIdeal.nD Cert.MlafIdeal.τ).loc Cert.MlafIdeal.main_arg2)) (m ((c.tc : Thread Cert.MlafIdeal.nD Cert.MlafIdeal.τ).loc Cert.MlafIdeal.main_arg3)) (m ((c.tc : Thread Cert.MlafIdeal.nD Cert.MlafIdeal.τ).loc Cert.MlafIdeal.main_arg4)) (m ((c.tc : Thread Cert.MlafIdeal.nD Cert.MlafIdeal.τ).loc Cert.MlafIdeal.main_arg5)) (m ((c.tc : Thread Cert.MlafIdeal.nD Cert.MlafIdeal.τ).loc Cert.MlafIdeal.main_arg6)) (m ((c.tc : Thread Cert.MlafIdeal.nD Cert.MlafIdeal.τ).loc Cert.MlafIdeal.main_arg7)) (m ((c.tc : Thread Cert.MlafIdeal.nD Cert.MlafIdeal.τ).loc Cert.MlafIdeal.main_arg8)) (m ((c.tc : Thread Cert.MlafIdeal.nD Cert.MlafIdeal.τ).loc Cert.MlafIdeal.main_arg9)) (m ((c.tc : Thread Cert.MlafIdeal.nD Cert.MlafIdeal.τ).loc Cert.MlafIdeal.main_arg10))).2.2.2.2.2.2.1 = (fun _ => 1#1)
    ∧ (Cert.Pre_finite_mlaf.fn (F := Ideal) (m ((c.tc : Thread Cert.MlafIdeal.nD Cert.MlafIdeal.τ).loc Cert.MlafIdeal.main_arg0)) (m ((c.tc : Thread Cert.MlafIdeal.nD Cert.MlafIdeal.τ).loc Cert.MlafIdeal.main_arg1)) (m ((c.tc : Thread Cert.MlafIdeal.nD Cert.MlafIdeal.τ).loc Cert.MlafIdeal.main_arg2)) (m ((c.tc : Thread Cert.MlafIdeal.nD Cert.MlafIdeal.τ).loc Cert.MlafIdeal.main_arg3)) (m ((c.tc : Thread Cert.MlafIdeal.nD Cert.MlafIdeal.τ).loc Cert.MlafIdeal.main_arg4)) (m ((c.tc : Thread Cert.MlafIdeal.nD Cert.MlafIdeal.τ).loc Cert.MlafIdeal.main_arg5)) (m ((c.tc : Thread Cert.MlafIdeal.nD Cert.MlafIdeal.τ).loc Cert.MlafIdeal.main_arg6)) (m ((c.tc : Thread Cert.MlafIdeal.nD Cert.MlafIdeal.τ).loc Cert.MlafIdeal.main_arg7)) (m ((c.tc : Thread Cert.MlafIdeal.nD Cert.MlafIdeal.τ).loc Cert.MlafIdeal.main_arg8)) (m ((c.tc : Thread Cert.MlafIdeal.nD Cert.MlafIdeal.τ).loc Cert.MlafIdeal.main_arg9)) (m ((c.tc : Thread Cert.MlafIdeal.nD Cert.MlafIdeal.τ).loc Cert.MlafIdeal.main_arg10))).2.2.2.2.2.2.2.1 = (fun _ => 1#1)
    ∧ (Cert.Pre_finite_mlaf.fn (F := Ideal) (m ((c.tc : Thread Cert.MlafIdeal.nD Cert.MlafIdeal.τ).loc Cert.MlafIdeal.main_arg0)) (m ((c.tc : Thread Cert.MlafIdeal.nD Cert.MlafIdeal.τ).loc Cert.MlafIdeal.main_arg1)) (m ((c.tc : Thread Cert.MlafIdeal.nD Cert.MlafIdeal.τ).loc Cert.MlafIdeal.main_arg2)) (m ((c.tc : Thread Cert.MlafIdeal.nD Cert.MlafIdeal.τ).loc Cert.MlafIdeal.main_arg3)) (m ((c.tc : Thread Cert.MlafIdeal.nD Cert.MlafIdeal.τ).loc Cert.MlafIdeal.main_arg4)) (m ((c.tc : Thread Cert.MlafIdeal.nD Cert.MlafIdeal.τ).loc Cert.MlafIdeal.main_arg5)) (m ((c.tc : Thread Cert.MlafIdeal.nD Cert.MlafIdeal.τ).loc Cert.MlafIdeal.main_arg6)) (m ((c.tc : Thread Cert.MlafIdeal.nD Cert.MlafIdeal.τ).loc Cert.MlafIdeal.main_arg7)) (m ((c.tc : Thread Cert.MlafIdeal.nD Cert.MlafIdeal.τ).loc Cert.MlafIdeal.main_arg8)) (m ((c.tc : Thread Cert.MlafIdeal.nD Cert.MlafIdeal.τ).loc Cert.MlafIdeal.main_arg9)) (m ((c.tc : Thread Cert.MlafIdeal.nD Cert.MlafIdeal.τ).loc Cert.MlafIdeal.main_arg10))).2.2.2.2.2.2.2.2 = (fun _ => 1#1)

def Pre_MlafRefIdeal (m : (ℓ : Loc Cert.MlafRefIdeal.nD Cert.MlafRefIdeal.τ Cert.MlafRefIdeal.sig) → Buf (Elt Ideal) ℓ) : Prop :=
  True

def Pre_MlafRefIdeal_finite_mlaf [hPre_finite_mlaf : Cert.Pre_finite_mlaf.Facts] (m : (ℓ : Loc Cert.MlafRefIdeal.nD Cert.MlafRefIdeal.τ Cert.MlafRefIdeal.sig) → Buf (Elt Ideal) ℓ) : Prop :=
  ∀ c : Dev Cert.MlafRefIdeal.nD,
    (Cert.Pre_finite_mlaf.fn (F := Ideal) (m ((c.tc : Thread Cert.MlafRefIdeal.nD Cert.MlafRefIdeal.τ).loc Cert.MlafRefIdeal.main_arg0)) (m ((c.tc : Thread Cert.MlafRefIdeal.nD Cert.MlafRefIdeal.τ).loc Cert.MlafRefIdeal.main_arg1)) (m ((c.tc : Thread Cert.MlafRefIdeal.nD Cert.MlafRefIdeal.τ).loc Cert.MlafRefIdeal.main_arg2)) (m ((c.tc : Thread Cert.MlafRefIdeal.nD Cert.MlafRefIdeal.τ).loc Cert.MlafRefIdeal.main_arg3)) (m ((c.tc : Thread Cert.MlafRefIdeal.nD Cert.MlafRefIdeal.τ).loc Cert.MlafRefIdeal.main_arg4)) (m ((c.tc : Thread Cert.MlafRefIdeal.nD Cert.MlafRefIdeal.τ).loc Cert.MlafRefIdeal.main_arg5)) (m ((c.tc : Thread Cert.MlafRefIdeal.nD Cert.MlafRefIdeal.τ).loc Cert.MlafRefIdeal.main_arg6)) (m ((c.tc : Thread Cert.MlafRefIdeal.nD Cert.MlafRefIdeal.τ).loc Cert.MlafRefIdeal.main_arg7)) (m ((c.tc : Thread Cert.MlafRefIdeal.nD Cert.MlafRefIdeal.τ).loc Cert.MlafRefIdeal.main_arg8)) (m ((c.tc : Thread Cert.MlafRefIdeal.nD Cert.MlafRefIdeal.τ).loc Cert.MlafRefIdeal.main_arg9)) (m ((c.tc : Thread Cert.MlafRefIdeal.nD Cert.MlafRefIdeal.τ).loc Cert.MlafRefIdeal.main_arg10))).1 = (fun _ => 1#1)
    ∧ (Cert.Pre_finite_mlaf.fn (F := Ideal) (m ((c.tc : Thread Cert.MlafRefIdeal.nD Cert.MlafRefIdeal.τ).loc Cert.MlafRefIdeal.main_arg0)) (m ((c.tc : Thread Cert.MlafRefIdeal.nD Cert.MlafRefIdeal.τ).loc Cert.MlafRefIdeal.main_arg1)) (m ((c.tc : Thread Cert.MlafRefIdeal.nD Cert.MlafRefIdeal.τ).loc Cert.MlafRefIdeal.main_arg2)) (m ((c.tc : Thread Cert.MlafRefIdeal.nD Cert.MlafRefIdeal.τ).loc Cert.MlafRefIdeal.main_arg3)) (m ((c.tc : Thread Cert.MlafRefIdeal.nD Cert.MlafRefIdeal.τ).loc Cert.MlafRefIdeal.main_arg4)) (m ((c.tc : Thread Cert.MlafRefIdeal.nD Cert.MlafRefIdeal.τ).loc Cert.MlafRefIdeal.main_arg5)) (m ((c.tc : Thread Cert.MlafRefIdeal.nD Cert.MlafRefIdeal.τ).loc Cert.MlafRefIdeal.main_arg6)) (m ((c.tc : Thread Cert.MlafRefIdeal.nD Cert.MlafRefIdeal.τ).loc Cert.MlafRefIdeal.main_arg7)) (m ((c.tc : Thread Cert.MlafRefIdeal.nD Cert.MlafRefIdeal.τ).loc Cert.MlafRefIdeal.main_arg8)) (m ((c.tc : Thread Cert.MlafRefIdeal.nD Cert.MlafRefIdeal.τ).loc Cert.MlafRefIdeal.main_arg9)) (m ((c.tc : Thread Cert.MlafRefIdeal.nD Cert.MlafRefIdeal.τ).loc Cert.MlafRefIdeal.main_arg10))).2.1 = (fun _ => 1#1)
    ∧ (Cert.Pre_finite_mlaf.fn (F := Ideal) (m ((c.tc : Thread Cert.MlafRefIdeal.nD Cert.MlafRefIdeal.τ).loc Cert.MlafRefIdeal.main_arg0)) (m ((c.tc : Thread Cert.MlafRefIdeal.nD Cert.MlafRefIdeal.τ).loc Cert.MlafRefIdeal.main_arg1)) (m ((c.tc : Thread Cert.MlafRefIdeal.nD Cert.MlafRefIdeal.τ).loc Cert.MlafRefIdeal.main_arg2)) (m ((c.tc : Thread Cert.MlafRefIdeal.nD Cert.MlafRefIdeal.τ).loc Cert.MlafRefIdeal.main_arg3)) (m ((c.tc : Thread Cert.MlafRefIdeal.nD Cert.MlafRefIdeal.τ).loc Cert.MlafRefIdeal.main_arg4)) (m ((c.tc : Thread Cert.MlafRefIdeal.nD Cert.MlafRefIdeal.τ).loc Cert.MlafRefIdeal.main_arg5)) (m ((c.tc : Thread Cert.MlafRefIdeal.nD Cert.MlafRefIdeal.τ).loc Cert.MlafRefIdeal.main_arg6)) (m ((c.tc : Thread Cert.MlafRefIdeal.nD Cert.MlafRefIdeal.τ).loc Cert.MlafRefIdeal.main_arg7)) (m ((c.tc : Thread Cert.MlafRefIdeal.nD Cert.MlafRefIdeal.τ).loc Cert.MlafRefIdeal.main_arg8)) (m ((c.tc : Thread Cert.MlafRefIdeal.nD Cert.MlafRefIdeal.τ).loc Cert.MlafRefIdeal.main_arg9)) (m ((c.tc : Thread Cert.MlafRefIdeal.nD Cert.MlafRefIdeal.τ).loc Cert.MlafRefIdeal.main_arg10))).2.2.1 = (fun _ => 1#1)
    ∧ (Cert.Pre_finite_mlaf.fn (F := Ideal) (m ((c.tc : Thread Cert.MlafRefIdeal.nD Cert.MlafRefIdeal.τ).loc Cert.MlafRefIdeal.main_arg0)) (m ((c.tc : Thread Cert.MlafRefIdeal.nD Cert.MlafRefIdeal.τ).loc Cert.MlafRefIdeal.main_arg1)) (m ((c.tc : Thread Cert.MlafRefIdeal.nD Cert.MlafRefIdeal.τ).loc Cert.MlafRefIdeal.main_arg2)) (m ((c.tc : Thread Cert.MlafRefIdeal.nD Cert.MlafRefIdeal.τ).loc Cert.MlafRefIdeal.main_arg3)) (m ((c.tc : Thread Cert.MlafRefIdeal.nD Cert.MlafRefIdeal.τ).loc Cert.MlafRefIdeal.main_arg4)) (m ((c.tc : Thread Cert.MlafRefIdeal.nD Cert.MlafRefIdeal.τ).loc Cert.MlafRefIdeal.main_arg5)) (m ((c.tc : Thread Cert.MlafRefIdeal.nD Cert.MlafRefIdeal.τ).loc Cert.MlafRefIdeal.main_arg6)) (m ((c.tc : Thread Cert.MlafRefIdeal.nD Cert.MlafRefIdeal.τ).loc Cert.MlafRefIdeal.main_arg7)) (m ((c.tc : Thread Cert.MlafRefIdeal.nD Cert.MlafRefIdeal.τ).loc Cert.MlafRefIdeal.main_arg8)) (m ((c.tc : Thread Cert.MlafRefIdeal.nD Cert.MlafRefIdeal.τ).loc Cert.MlafRefIdeal.main_arg9)) (m ((c.tc : Thread Cert.MlafRefIdeal.nD Cert.MlafRefIdeal.τ).loc Cert.MlafRefIdeal.main_arg10))).2.2.2.1 = (fun _ => 1#1)
    ∧ (Cert.Pre_finite_mlaf.fn (F := Ideal) (m ((c.tc : Thread Cert.MlafRefIdeal.nD Cert.MlafRefIdeal.τ).loc Cert.MlafRefIdeal.main_arg0)) (m ((c.tc : Thread Cert.MlafRefIdeal.nD Cert.MlafRefIdeal.τ).loc Cert.MlafRefIdeal.main_arg1)) (m ((c.tc : Thread Cert.MlafRefIdeal.nD Cert.MlafRefIdeal.τ).loc Cert.MlafRefIdeal.main_arg2)) (m ((c.tc : Thread Cert.MlafRefIdeal.nD Cert.MlafRefIdeal.τ).loc Cert.MlafRefIdeal.main_arg3)) (m ((c.tc : Thread Cert.MlafRefIdeal.nD Cert.MlafRefIdeal.τ).loc Cert.MlafRefIdeal.main_arg4)) (m ((c.tc : Thread Cert.MlafRefIdeal.nD Cert.MlafRefIdeal.τ).loc Cert.MlafRefIdeal.main_arg5)) (m ((c.tc : Thread Cert.MlafRefIdeal.nD Cert.MlafRefIdeal.τ).loc Cert.MlafRefIdeal.main_arg6)) (m ((c.tc : Thread Cert.MlafRefIdeal.nD Cert.MlafRefIdeal.τ).loc Cert.MlafRefIdeal.main_arg7)) (m ((c.tc : Thread Cert.MlafRefIdeal.nD Cert.MlafRefIdeal.τ).loc Cert.MlafRefIdeal.main_arg8)) (m ((c.tc : Thread Cert.MlafRefIdeal.nD Cert.MlafRefIdeal.τ).loc Cert.MlafRefIdeal.main_arg9)) (m ((c.tc : Thread Cert.MlafRefIdeal.nD Cert.MlafRefIdeal.τ).loc Cert.MlafRefIdeal.main_arg10))).2.2.2.2.1 = (fun _ => 1#1)
    ∧ (Cert.Pre_finite_mlaf.fn (F := Ideal) (m ((c.tc : Thread Cert.MlafRefIdeal.nD Cert.MlafRefIdeal.τ).loc Cert.MlafRefIdeal.main_arg0)) (m ((c.tc : Thread Cert.MlafRefIdeal.nD Cert.MlafRefIdeal.τ).loc Cert.MlafRefIdeal.main_arg1)) (m ((c.tc : Thread Cert.MlafRefIdeal.nD Cert.MlafRefIdeal.τ).loc Cert.MlafRefIdeal.main_arg2)) (m ((c.tc : Thread Cert.MlafRefIdeal.nD Cert.MlafRefIdeal.τ).loc Cert.MlafRefIdeal.main_arg3)) (m ((c.tc : Thread Cert.MlafRefIdeal.nD Cert.MlafRefIdeal.τ).loc Cert.MlafRefIdeal.main_arg4)) (m ((c.tc : Thread Cert.MlafRefIdeal.nD Cert.MlafRefIdeal.τ).loc Cert.MlafRefIdeal.main_arg5)) (m ((c.tc : Thread Cert.MlafRefIdeal.nD Cert.MlafRefIdeal.τ).loc Cert.MlafRefIdeal.main_arg6)) (m ((c.tc : Thread Cert.MlafRefIdeal.nD Cert.MlafRefIdeal.τ).loc Cert.MlafRefIdeal.main_arg7)) (m ((c.tc : Thread Cert.MlafRefIdeal.nD Cert.MlafRefIdeal.τ).loc Cert.MlafRefIdeal.main_arg8)) (m ((c.tc : Thread Cert.MlafRefIdeal.nD Cert.MlafRefIdeal.τ).loc Cert.MlafRefIdeal.main_arg9)) (m ((c.tc : Thread Cert.MlafRefIdeal.nD Cert.MlafRefIdeal.τ).loc Cert.MlafRefIdeal.main_arg10))).2.2.2.2.2.1 = (fun _ => 1#1)
    ∧ (Cert.Pre_finite_mlaf.fn (F := Ideal) (m ((c.tc : Thread Cert.MlafRefIdeal.nD Cert.MlafRefIdeal.τ).loc Cert.MlafRefIdeal.main_arg0)) (m ((c.tc : Thread Cert.MlafRefIdeal.nD Cert.MlafRefIdeal.τ).loc Cert.MlafRefIdeal.main_arg1)) (m ((c.tc : Thread Cert.MlafRefIdeal.nD Cert.MlafRefIdeal.τ).loc Cert.MlafRefIdeal.main_arg2)) (m ((c.tc : Thread Cert.MlafRefIdeal.nD Cert.MlafRefIdeal.τ).loc Cert.MlafRefIdeal.main_arg3)) (m ((c.tc : Thread Cert.MlafRefIdeal.nD Cert.MlafRefIdeal.τ).loc Cert.MlafRefIdeal.main_arg4)) (m ((c.tc : Thread Cert.MlafRefIdeal.nD Cert.MlafRefIdeal.τ).loc Cert.MlafRefIdeal.main_arg5)) (m ((c.tc : Thread Cert.MlafRefIdeal.nD Cert.MlafRefIdeal.τ).loc Cert.MlafRefIdeal.main_arg6)) (m ((c.tc : Thread Cert.MlafRefIdeal.nD Cert.MlafRefIdeal.τ).loc Cert.MlafRefIdeal.main_arg7)) (m ((c.tc : Thread Cert.MlafRefIdeal.nD Cert.MlafRefIdeal.τ).loc Cert.MlafRefIdeal.main_arg8)) (m ((c.tc : Thread Cert.MlafRefIdeal.nD Cert.MlafRefIdeal.τ).loc Cert.MlafRefIdeal.main_arg9)) (m ((c.tc : Thread Cert.MlafRefIdeal.nD Cert.MlafRefIdeal.τ).loc Cert.MlafRefIdeal.main_arg10))).2.2.2.2.2.2.1 = (fun _ => 1#1)
    ∧ (Cert.Pre_finite_mlaf.fn (F := Ideal) (m ((c.tc : Thread Cert.MlafRefIdeal.nD Cert.MlafRefIdeal.τ).loc Cert.MlafRefIdeal.main_arg0)) (m ((c.tc : Thread Cert.MlafRefIdeal.nD Cert.MlafRefIdeal.τ).loc Cert.MlafRefIdeal.main_arg1)) (m ((c.tc : Thread Cert.MlafRefIdeal.nD Cert.MlafRefIdeal.τ).loc Cert.MlafRefIdeal.main_arg2)) (m ((c.tc : Thread Cert.MlafRefIdeal.nD Cert.MlafRefIdeal.τ).loc Cert.MlafRefIdeal.main_arg3)) (m ((c.tc : Thread Cert.MlafRefIdeal.nD Cert.MlafRefIdeal.τ).loc Cert.MlafRefIdeal.main_arg4)) (m ((c.tc : Thread Cert.MlafRefIdeal.nD Cert.MlafRefIdeal.τ).loc Cert.MlafRefIdeal.main_arg5)) (m ((c.tc : Thread Cert.MlafRefIdeal.nD Cert.MlafRefIdeal.τ).loc Cert.MlafRefIdeal.main_arg6)) (m ((c.tc : Thread Cert.MlafRefIdeal.nD Cert.MlafRefIdeal.τ).loc Cert.MlafRefIdeal.main_arg7)) (m ((c.tc : Thread Cert.MlafRefIdeal.nD Cert.MlafRefIdeal.τ).loc Cert.MlafRefIdeal.main_arg8)) (m ((c.tc : Thread Cert.MlafRefIdeal.nD Cert.MlafRefIdeal.τ).loc Cert.MlafRefIdeal.main_arg9)) (m ((c.tc : Thread Cert.MlafRefIdeal.nD Cert.MlafRefIdeal.τ).loc Cert.MlafRefIdeal.main_arg10))).2.2.2.2.2.2.2.1 = (fun _ => 1#1)
    ∧ (Cert.Pre_finite_mlaf.fn (F := Ideal) (m ((c.tc : Thread Cert.MlafRefIdeal.nD Cert.MlafRefIdeal.τ).loc Cert.MlafRefIdeal.main_arg0)) (m ((c.tc : Thread Cert.MlafRefIdeal.nD Cert.MlafRefIdeal.τ).loc Cert.MlafRefIdeal.main_arg1)) (m ((c.tc : Thread Cert.MlafRefIdeal.nD Cert.MlafRefIdeal.τ).loc Cert.MlafRefIdeal.main_arg2)) (m ((c.tc : Thread Cert.MlafRefIdeal.nD Cert.MlafRefIdeal.τ).loc Cert.MlafRefIdeal.main_arg3)) (m ((c.tc : Thread Cert.MlafRefIdeal.nD Cert.MlafRefIdeal.τ).loc Cert.MlafRefIdeal.main_arg4)) (m ((c.tc : Thread Cert.MlafRefIdeal.nD Cert.MlafRefIdeal.τ).loc Cert.MlafRefIdeal.main_arg5)) (m ((c.tc : Thread Cert.MlafRefIdeal.nD Cert.MlafRefIdeal.τ).loc Cert.MlafRefIdeal.main_arg6)) (m ((c.tc : Thread Cert.MlafRefIdeal.nD Cert.MlafRefIdeal.τ).loc Cert.MlafRefIdeal.main_arg7)) (m ((c.tc : Thread Cert.MlafRefIdeal.nD Cert.MlafRefIdeal.τ).loc Cert.MlafRefIdeal.main_arg8)) (m ((c.tc : Thread Cert.MlafRefIdeal.nD Cert.MlafRefIdeal.τ).loc Cert.MlafRefIdeal.main_arg9)) (m ((c.tc : Thread Cert.MlafRefIdeal.nD Cert.MlafRefIdeal.τ).loc Cert.MlafRefIdeal.main_arg10))).2.2.2.2.2.2.2.2 = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Attnf [hAttnf : Cert.Attnf.Facts] : Prop :=
  ∀ (m : (ℓ : Loc Cert.Attnf.nD Cert.Attnf.τ Cert.Attnf.sig) → Buf (Elt Bits) ℓ) (g : Dev Cert.Attnf.nD → PrngReg), Pre_Attnf m →
    θ_run (Cert.Attnf.defs (F := Bits)) (onTc (τ := Cert.Attnf.τ) (Cert.Attnf.main (F := Bits))) ⟨m, fun _ => 0, g⟩ (fun r => (∀ c : Dev Cert.Attnf.nD,
      r.2.mem ((c.tc : Thread Cert.Attnf.nD Cert.Attnf.τ).loc Cert.Attnf.main_arg0) = m ((c.tc : Thread Cert.Attnf.nD Cert.Attnf.τ).loc Cert.Attnf.main_arg0)
      ∧ r.2.mem ((c.tc : Thread Cert.Attnf.nD Cert.Attnf.τ).loc Cert.Attnf.main_arg1) = m ((c.tc : Thread Cert.Attnf.nD Cert.Attnf.τ).loc Cert.Attnf.main_arg1)
      ∧ r.2.mem ((c.tc : Thread Cert.Attnf.nD Cert.Attnf.τ).loc Cert.Attnf.main_arg2) = m ((c.tc : Thread Cert.Attnf.nD Cert.Attnf.τ).loc Cert.Attnf.main_arg2))
      ∧ r.2.sem = fun _ => 0)

def quiescent_AttnfIdeal [hAttnfIdeal : Cert.AttnfIdeal.Facts] : Prop :=
  ∀ (m : (ℓ : Loc Cert.AttnfIdeal.nD Cert.AttnfIdeal.τ Cert.AttnfIdeal.sig) → Buf (Elt Ideal) ℓ) (g : Dev Cert.AttnfIdeal.nD → PrngReg), Pre_AttnfIdeal m →
    θ_run (Cert.AttnfIdeal.defs (F := Ideal)) (onTc (τ := Cert.AttnfIdeal.τ) (Cert.AttnfIdeal.main (F := Ideal))) ⟨m, fun _ => 0, g⟩ (fun r => (∀ c : Dev Cert.AttnfIdeal.nD,
      r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
      ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1)
      ∧ r.2.mem ((c.tc : Thread Cert.AttnfIdeal.nD Cert.AttnfIdeal.τ).loc Cert.AttnfIdeal.main_arg2) = m ((c.tc : Thread Cert.AttnfIdeal.nD Cert.AttnfIdeal.τ).loc Cert.AttnfIdeal.main_arg2))
      ∧ r.2.sem = fun _ => 0)

def quiescent_AttnfIdeal_pre_finite_attnf [hAttnfIdeal : Cert.AttnfIdeal.Facts] [hPre_finite_attnf : Cert.Pre_finite_attnf.Facts] : Prop :=
  ∀ (m : (ℓ : Loc Cert.AttnfIdeal.nD Cert.AttnfIdeal.τ Cert.AttnfIdeal.sig) → Buf (Elt Ideal) ℓ) (g : Dev Cert.AttnfIdeal.nD → PrngReg), Pre_AttnfIdeal_finite_attnf m →
    θ_run (Cert.AttnfIdeal.defs (F := Ideal)) (onTc (τ := Cert.AttnfIdeal.τ) (Cert.AttnfIdeal.main (F := Ideal))) ⟨m, fun _ => 0, g⟩ (fun r => (∀ c : Dev Cert.AttnfIdeal.nD,
      r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
      ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1)
      ∧ r.2.mem ((c.tc : Thread Cert.AttnfIdeal.nD Cert.AttnfIdeal.τ).loc Cert.AttnfIdeal.main_arg2) = m ((c.tc : Thread Cert.AttnfIdeal.nD Cert.AttnfIdeal.τ).loc Cert.AttnfIdeal.main_arg2))
      ∧ r.2.sem = fun _ => 0)

def quiescent_AttnfRefIdeal [hAttnfRefIdeal : Cert.AttnfRefIdeal.Facts] : Prop :=
  ∀ (m : (ℓ : Loc Cert.AttnfRefIdeal.nD Cert.AttnfRefIdeal.τ Cert.AttnfRefIdeal.sig) → Buf (Elt Ideal) ℓ) (g : Dev Cert.AttnfRefIdeal.nD → PrngReg), Pre_AttnfRefIdeal m →
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread Cert.AttnfRefIdeal.nD Cert.AttnfRefIdeal.τ).loc Cert.AttnfRefIdeal.main_arg0) = m ((c.tc : Thread Cert.AttnfRefIdeal.nD Cert.AttnfRefIdeal.τ).loc Cert.AttnfRefIdeal.main_arg0)
      ∧ r.2.mem ((c.tc : Thread Cert.AttnfRefIdeal.nD Cert.AttnfRefIdeal.τ).loc Cert.AttnfRefIdeal.main_arg1) = m ((c.tc : Thread Cert.AttnfRefIdeal.nD Cert.AttnfRefIdeal.τ).loc Cert.AttnfRefIdeal.main_arg1)
      ∧ r.2.mem ((c.tc : Thread Cert.AttnfRefIdeal.nD Cert.AttnfRefIdeal.τ).loc Cert.AttnfRefIdeal.main_arg2) = m ((c.tc : Thread Cert.AttnfRefIdeal.nD Cert.AttnfRefIdeal.τ).loc Cert.AttnfRefIdeal.main_arg2))
      ∧ r.2.sem = fun _ => 0)

def quiescent_AttnfRefIdeal_pre_finite_attnf [hAttnfRefIdeal : Cert.AttnfRefIdeal.Facts] [hPre_finite_attnf : Cert.Pre_finite_attnf.Facts] : Prop :=
  ∀ (m : (ℓ : Loc Cert.AttnfRefIdeal.nD Cert.AttnfRefIdeal.τ Cert.AttnfRefIdeal.sig) → Buf (Elt Ideal) ℓ) (g : Dev Cert.AttnfRefIdeal.nD → PrngReg), Pre_AttnfRefIdeal_finite_attnf m →
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread Cert.AttnfRefIdeal.nD Cert.AttnfRefIdeal.τ).loc Cert.AttnfRefIdeal.main_arg0) = m ((c.tc : Thread Cert.AttnfRefIdeal.nD Cert.AttnfRefIdeal.τ).loc Cert.AttnfRefIdeal.main_arg0)
      ∧ r.2.mem ((c.tc : Thread Cert.AttnfRefIdeal.nD Cert.AttnfRefIdeal.τ).loc Cert.AttnfRefIdeal.main_arg1) = m ((c.tc : Thread Cert.AttnfRefIdeal.nD Cert.AttnfRefIdeal.τ).loc Cert.AttnfRefIdeal.main_arg1)
      ∧ r.2.mem ((c.tc : Thread Cert.AttnfRefIdeal.nD Cert.AttnfRefIdeal.τ).loc Cert.AttnfRefIdeal.main_arg2) = m ((c.tc : Thread Cert.AttnfRefIdeal.nD Cert.AttnfRefIdeal.τ).loc Cert.AttnfRefIdeal.main_arg2))
      ∧ r.2.sem = fun _ => 0)

def quiescent_Rmsf [hRmsf : Cert.Rmsf.Facts] : Prop :=
  ∀ (m : (ℓ : Loc Cert.Rmsf.nD Cert.Rmsf.τ Cert.Rmsf.sig) → Buf (Elt Bits) ℓ) (g : Dev Cert.Rmsf.nD → PrngReg), Pre_Rmsf m →
    θ_run (Cert.Rmsf.defs (F := Bits)) (onTc (τ := Cert.Rmsf.τ) (Cert.Rmsf.main (F := Bits))) ⟨m, fun _ => 0, g⟩ (fun r => (∀ c : Dev Cert.Rmsf.nD,
      r.2.mem ((c.tc : Thread Cert.Rmsf.nD Cert.Rmsf.τ).loc Cert.Rmsf.main_arg0) = m ((c.tc : Thread Cert.Rmsf.nD Cert.Rmsf.τ).loc Cert.Rmsf.main_arg0)
      ∧ r.2.mem ((c.tc : Thread Cert.Rmsf.nD Cert.Rmsf.τ).loc Cert.Rmsf.main_arg1) = m ((c.tc : Thread Cert.Rmsf.nD Cert.Rmsf.τ).loc Cert.Rmsf.main_arg1))
      ∧ r.2.sem = fun _ => 0)

def quiescent_RmsfIdeal [hRmsfIdeal : Cert.RmsfIdeal.Facts] : Prop :=
  ∀ (m : (ℓ : Loc Cert.RmsfIdeal.nD Cert.RmsfIdeal.τ Cert.RmsfIdeal.sig) → Buf (Elt Ideal) ℓ) (g : Dev Cert.RmsfIdeal.nD → PrngReg), Pre_RmsfIdeal m →
    θ_run (Cert.RmsfIdeal.defs (F := Ideal)) (onTc (τ := Cert.RmsfIdeal.τ) (Cert.RmsfIdeal.main (F := Ideal))) ⟨m, fun _ => 0, g⟩ (fun r => (∀ c : Dev Cert.RmsfIdeal.nD,
      r.2.mem ((c.tc : Thread Cert.RmsfIdeal.nD Cert.RmsfIdeal.τ).loc Cert.RmsfIdeal.main_arg0) = m ((c.tc : Thread Cert.RmsfIdeal.nD Cert.RmsfIdeal.τ).loc Cert.RmsfIdeal.main_arg0)
      ∧ r.2.mem ((c.tc : Thread Cert.RmsfIdeal.nD Cert.RmsfIdeal.τ).loc Cert.RmsfIdeal.main_arg1) = m ((c.tc : Thread Cert.RmsfIdeal.nD Cert.RmsfIdeal.τ).loc Cert.RmsfIdeal.main_arg1))
      ∧ r.2.sem = fun _ => 0)

def quiescent_RmsfRefIdeal [hRmsfRefIdeal : Cert.RmsfRefIdeal.Facts] : Prop :=
  ∀ (m : (ℓ : Loc Cert.RmsfRefIdeal.nD Cert.RmsfRefIdeal.τ Cert.RmsfRefIdeal.sig) → Buf (Elt Ideal) ℓ) (g : Dev Cert.RmsfRefIdeal.nD → PrngReg), Pre_RmsfRefIdeal m →
    θ_run (Cert.RmsfRefIdeal.defs (F := Ideal)) (onTc (τ := Cert.RmsfRefIdeal.τ) (Cert.RmsfRefIdeal.main (F := Ideal))) ⟨m, fun _ => 0, g⟩ (fun r => (∀ c : Dev Cert.RmsfRefIdeal.nD,
      r.2.mem ((c.tc : Thread Cert.RmsfRefIdeal.nD Cert.RmsfRefIdeal.τ).loc Cert.RmsfRefIdeal.main_arg0) = m ((c.tc : Thread Cert.RmsfRefIdeal.nD Cert.RmsfRefIdeal.τ).loc Cert.RmsfRefIdeal.main_arg0)
      ∧ r.2.mem ((c.tc : Thread Cert.RmsfRefIdeal.nD Cert.RmsfRefIdeal.τ).loc Cert.RmsfRefIdeal.main_arg1) = m ((c.tc : Thread Cert.RmsfRefIdeal.nD Cert.RmsfRefIdeal.τ).loc Cert.RmsfRefIdeal.main_arg1))
      ∧ r.2.sem = fun _ => 0)

def quiescent_Plef [hPlef : Cert.Plef.Facts] : Prop :=
  ∀ (m : (ℓ : Loc Cert.Plef.nD Cert.Plef.τ Cert.Plef.sig) → Buf (Elt Bits) ℓ) (g : Dev Cert.Plef.nD → PrngReg), Pre_Plef m →
    θ_run (Cert.Plef.defs (F := Bits)) (onTc (τ := Cert.Plef.τ) (Cert.Plef.main (F := Bits))) ⟨m, fun _ => 0, g⟩ (fun r => (∀ c : Dev Cert.Plef.nD,
      r.2.mem ((c.tc : Thread Cert.Plef.nD Cert.Plef.τ).loc Cert.Plef.main_arg0) = m ((c.tc : Thread Cert.Plef.nD Cert.Plef.τ).loc Cert.Plef.main_arg0)
      ∧ r.2.mem ((c.tc : Thread Cert.Plef.nD Cert.Plef.τ).loc Cert.Plef.main_arg1) = m ((c.tc : Thread Cert.Plef.nD Cert.Plef.τ).loc Cert.Plef.main_arg1)
      ∧ r.2.mem ((c.tc : Thread Cert.Plef.nD Cert.Plef.τ).loc Cert.Plef.main_arg2) = m ((c.tc : Thread Cert.Plef.nD Cert.Plef.τ).loc Cert.Plef.main_arg2)
      ∧ r.2.mem ((c.tc : Thread Cert.Plef.nD Cert.Plef.τ).loc Cert.Plef.main_arg3) = m ((c.tc : Thread Cert.Plef.nD Cert.Plef.τ).loc Cert.Plef.main_arg3))
      ∧ r.2.sem = fun _ => 0)

def quiescent_PlefIdeal [hPlefIdeal : Cert.PlefIdeal.Facts] : Prop :=
  ∀ (m : (ℓ : Loc Cert.PlefIdeal.nD Cert.PlefIdeal.τ Cert.PlefIdeal.sig) → Buf (Elt Ideal) ℓ) (g : Dev Cert.PlefIdeal.nD → PrngReg), Pre_PlefIdeal m →
    θ_run (Cert.PlefIdeal.defs (F := Ideal)) (onTc (τ := Cert.PlefIdeal.τ) (Cert.PlefIdeal.main (F := Ideal))) ⟨m, fun _ => 0, g⟩ (fun r => (∀ c : Dev Cert.PlefIdeal.nD,
      r.2.mem ((c.tc : Thread Cert.PlefIdeal.nD Cert.PlefIdeal.τ).loc Cert.PlefIdeal.main_arg0) = m ((c.tc : Thread Cert.PlefIdeal.nD Cert.PlefIdeal.τ).loc Cert.PlefIdeal.main_arg0)
      ∧ r.2.mem ((c.tc : Thread Cert.PlefIdeal.nD Cert.PlefIdeal.τ).loc Cert.PlefIdeal.main_arg1) = m ((c.tc : Thread Cert.PlefIdeal.nD Cert.PlefIdeal.τ).loc Cert.PlefIdeal.main_arg1)
      ∧ r.2.mem ((c.tc : Thread Cert.PlefIdeal.nD Cert.PlefIdeal.τ).loc Cert.PlefIdeal.main_arg2) = m ((c.tc : Thread Cert.PlefIdeal.nD Cert.PlefIdeal.τ).loc Cert.PlefIdeal.main_arg2)
      ∧ r.2.mem ((c.tc : Thread Cert.PlefIdeal.nD Cert.PlefIdeal.τ).loc Cert.PlefIdeal.main_arg3) = m ((c.tc : Thread Cert.PlefIdeal.nD Cert.PlefIdeal.τ).loc Cert.PlefIdeal.main_arg3))
      ∧ r.2.sem = fun _ => 0)

def quiescent_PlefRefIdeal [hPlefRefIdeal : Cert.PlefRefIdeal.Facts] : Prop :=
  ∀ (m : (ℓ : Loc Cert.PlefRefIdeal.nD Cert.PlefRefIdeal.τ Cert.PlefRefIdeal.sig) → Buf (Elt Ideal) ℓ) (g : Dev Cert.PlefRefIdeal.nD → PrngReg), Pre_PlefRefIdeal m →
    θ_run (Cert.PlefRefIdeal.defs (F := Ideal)) (onTc (τ := Cert.PlefRefIdeal.τ) (Cert.PlefRefIdeal.main (F := Ideal))) ⟨m, fun _ => 0, g⟩ (fun r => (∀ c : Dev Cert.PlefRefIdeal.nD,
      r.2.mem ((c.tc : Thread Cert.PlefRefIdeal.nD Cert.PlefRefIdeal.τ).loc Cert.PlefRefIdeal.main_arg0) = m ((c.tc : Thread Cert.PlefRefIdeal.nD Cert.PlefRefIdeal.τ).loc Cert.PlefRefIdeal.main_arg0)
      ∧ r.2.mem ((c.tc : Thread Cert.PlefRefIdeal.nD Cert.PlefRefIdeal.τ).loc Cert.PlefRefIdeal.main_arg1) = m ((c.tc : Thread Cert.PlefRefIdeal.nD Cert.PlefRefIdeal.τ).loc Cert.PlefRefIdeal.main_arg1)
      ∧ r.2.mem ((c.tc : Thread Cert.PlefRefIdeal.nD Cert.PlefRefIdeal.τ).loc Cert.PlefRefIdeal.main_arg2) = m ((c.tc : Thread Cert.PlefRefIdeal.nD Cert.PlefRefIdeal.τ).loc Cert.PlefRefIdeal.main_arg2)
      ∧ r.2.mem ((c.tc : Thread Cert.PlefRefIdeal.nD Cert.PlefRefIdeal.τ).loc Cert.PlefRefIdeal.main_arg3) = m ((c.tc : Thread Cert.PlefRefIdeal.nD Cert.PlefRefIdeal.τ).loc Cert.PlefRefIdeal.main_arg3))
      ∧ r.2.sem = fun _ => 0)

def quiescent_Mixf [hMixf : Cert.Mixf.Facts] : Prop :=
  ∀ (m : (ℓ : Loc Cert.Mixf.nD Cert.Mixf.τ Cert.Mixf.sig) → Buf (Elt Bits) ℓ) (g : Dev Cert.Mixf.nD → PrngReg), Pre_Mixf m →
    θ_run (Cert.Mixf.defs (F := Bits)) (onTc (τ := Cert.Mixf.τ) (Cert.Mixf.main (F := Bits))) ⟨m, fun _ => 0, g⟩ (fun r => (∀ c : Dev Cert.Mixf.nD,
      r.2.mem ((c.tc : Thread Cert.Mixf.nD Cert.Mixf.τ).loc Cert.Mixf.main_arg0) = m ((c.tc : Thread Cert.Mixf.nD Cert.Mixf.τ).loc Cert.Mixf.main_arg0)
      ∧ r.2.mem ((c.tc : Thread Cert.Mixf.nD Cert.Mixf.τ).loc Cert.Mixf.main_arg1) = m ((c.tc : Thread Cert.Mixf.nD Cert.Mixf.τ).loc Cert.Mixf.main_arg1)
      ∧ r.2.mem ((c.tc : Thread Cert.Mixf.nD Cert.Mixf.τ).loc Cert.Mixf.main_arg2) = m ((c.tc : Thread Cert.Mixf.nD Cert.Mixf.τ).loc Cert.Mixf.main_arg2)
      ∧ r.2.mem ((c.tc : Thread Cert.Mixf.nD Cert.Mixf.τ).loc Cert.Mixf.main_arg3) = m ((c.tc : Thread Cert.Mixf.nD Cert.Mixf.τ).loc Cert.Mixf.main_arg3)
      ∧ r.2.mem ((c.tc : Thread Cert.Mixf.nD Cert.Mixf.τ).loc Cert.Mixf.main_arg4) = m ((c.tc : Thread Cert.Mixf.nD Cert.Mixf.τ).loc Cert.Mixf.main_arg4)
      ∧ r.2.mem ((c.tc : Thread Cert.Mixf.nD Cert.Mixf.τ).loc Cert.Mixf.main_arg5) = m ((c.tc : Thread Cert.Mixf.nD Cert.Mixf.τ).loc Cert.Mixf.main_arg5)
      ∧ r.2.mem ((c.tc : Thread Cert.Mixf.nD Cert.Mixf.τ).loc Cert.Mixf.main_arg6) = m ((c.tc : Thread Cert.Mixf.nD Cert.Mixf.τ).loc Cert.Mixf.main_arg6)
      ∧ r.2.mem ((c.tc : Thread Cert.Mixf.nD Cert.Mixf.τ).loc Cert.Mixf.main_arg7) = m ((c.tc : Thread Cert.Mixf.nD Cert.Mixf.τ).loc Cert.Mixf.main_arg7))
      ∧ r.2.sem = fun _ => 0)

def quiescent_MixfIdeal [hMixfIdeal : Cert.MixfIdeal.Facts] : Prop :=
  ∀ (m : (ℓ : Loc Cert.MixfIdeal.nD Cert.MixfIdeal.τ Cert.MixfIdeal.sig) → Buf (Elt Ideal) ℓ) (g : Dev Cert.MixfIdeal.nD → PrngReg), Pre_MixfIdeal m →
    θ_run (Cert.MixfIdeal.defs (F := Ideal)) (onTc (τ := Cert.MixfIdeal.τ) (Cert.MixfIdeal.main (F := Ideal))) ⟨m, fun _ => 0, g⟩ (fun r => (∀ c : Dev Cert.MixfIdeal.nD,
      r.2.mem ((c.tc : Thread Cert.MixfIdeal.nD Cert.MixfIdeal.τ).loc Cert.MixfIdeal.main_arg0) = m ((c.tc : Thread Cert.MixfIdeal.nD Cert.MixfIdeal.τ).loc Cert.MixfIdeal.main_arg0)
      ∧ r.2.mem ((c.tc : Thread Cert.MixfIdeal.nD Cert.MixfIdeal.τ).loc Cert.MixfIdeal.main_arg1) = m ((c.tc : Thread Cert.MixfIdeal.nD Cert.MixfIdeal.τ).loc Cert.MixfIdeal.main_arg1)
      ∧ r.2.mem ((c.tc : Thread Cert.MixfIdeal.nD Cert.MixfIdeal.τ).loc Cert.MixfIdeal.main_arg2) = m ((c.tc : Thread Cert.MixfIdeal.nD Cert.MixfIdeal.τ).loc Cert.MixfIdeal.main_arg2)
      ∧ r.2.mem ((c.tc : Thread Cert.MixfIdeal.nD Cert.MixfIdeal.τ).loc Cert.MixfIdeal.main_arg3) = m ((c.tc : Thread Cert.MixfIdeal.nD Cert.MixfIdeal.τ).loc Cert.MixfIdeal.main_arg3)
      ∧ r.2.mem ((c.tc : Thread Cert.MixfIdeal.nD Cert.MixfIdeal.τ).loc Cert.MixfIdeal.main_arg4) = m ((c.tc : Thread Cert.MixfIdeal.nD Cert.MixfIdeal.τ).loc Cert.MixfIdeal.main_arg4)
      ∧ r.2.mem ((c.tc : Thread Cert.MixfIdeal.nD Cert.MixfIdeal.τ).loc Cert.MixfIdeal.main_arg5) = m ((c.tc : Thread Cert.MixfIdeal.nD Cert.MixfIdeal.τ).loc Cert.MixfIdeal.main_arg5)
      ∧ r.2.mem ((c.tc : Thread Cert.MixfIdeal.nD Cert.MixfIdeal.τ).loc Cert.MixfIdeal.main_arg6) = m ((c.tc : Thread Cert.MixfIdeal.nD Cert.MixfIdeal.τ).loc Cert.MixfIdeal.main_arg6)
      ∧ r.2.mem ((c.tc : Thread Cert.MixfIdeal.nD Cert.MixfIdeal.τ).loc Cert.MixfIdeal.main_arg7) = m ((c.tc : Thread Cert.MixfIdeal.nD Cert.MixfIdeal.τ).loc Cert.MixfIdeal.main_arg7))
      ∧ r.2.sem = fun _ => 0)

def quiescent_MixfRefIdeal [hMixfRefIdeal : Cert.MixfRefIdeal.Facts] : Prop :=
  ∀ (m : (ℓ : Loc Cert.MixfRefIdeal.nD Cert.MixfRefIdeal.τ Cert.MixfRefIdeal.sig) → Buf (Elt Ideal) ℓ) (g : Dev Cert.MixfRefIdeal.nD → PrngReg), Pre_MixfRefIdeal m →
    θ_run (Cert.MixfRefIdeal.defs (F := Ideal)) (onTc (τ := Cert.MixfRefIdeal.τ) (Cert.MixfRefIdeal.main (F := Ideal))) ⟨m, fun _ => 0, g⟩ (fun r => (∀ c : Dev Cert.MixfRefIdeal.nD,
      r.2.mem ((c.tc : Thread Cert.MixfRefIdeal.nD Cert.MixfRefIdeal.τ).loc Cert.MixfRefIdeal.main_arg0) = m ((c.tc : Thread Cert.MixfRefIdeal.nD Cert.MixfRefIdeal.τ).loc Cert.MixfRefIdeal.main_arg0)
      ∧ r.2.mem ((c.tc : Thread Cert.MixfRefIdeal.nD Cert.MixfRefIdeal.τ).loc Cert.MixfRefIdeal.main_arg1) = m ((c.tc : Thread Cert.MixfRefIdeal.nD Cert.MixfRefIdeal.τ).loc Cert.MixfRefIdeal.main_arg1)
      ∧ r.2.mem ((c.tc : Thread Cert.MixfRefIdeal.nD Cert.MixfRefIdeal.τ).loc Cert.MixfRefIdeal.main_arg2) = m ((c.tc : Thread Cert.MixfRefIdeal.nD Cert.MixfRefIdeal.τ).loc Cert.MixfRefIdeal.main_arg2)
      ∧ r.2.mem ((c.tc : Thread Cert.MixfRefIdeal.nD Cert.MixfRefIdeal.τ).loc Cert.MixfRefIdeal.main_arg3) = m ((c.tc : Thread Cert.MixfRefIdeal.nD Cert.MixfRefIdeal.τ).loc Cert.MixfRefIdeal.main_arg3)
      ∧ r.2.mem ((c.tc : Thread Cert.MixfRefIdeal.nD Cert.MixfRefIdeal.τ).loc Cert.MixfRefIdeal.main_arg4) = m ((c.tc : Thread Cert.MixfRefIdeal.nD Cert.MixfRefIdeal.τ).loc Cert.MixfRefIdeal.main_arg4)
      ∧ r.2.mem ((c.tc : Thread Cert.MixfRefIdeal.nD Cert.MixfRefIdeal.τ).loc Cert.MixfRefIdeal.main_arg5) = m ((c.tc : Thread Cert.MixfRefIdeal.nD Cert.MixfRefIdeal.τ).loc Cert.MixfRefIdeal.main_arg5)
      ∧ r.2.mem ((c.tc : Thread Cert.MixfRefIdeal.nD Cert.MixfRefIdeal.τ).loc Cert.MixfRefIdeal.main_arg6) = m ((c.tc : Thread Cert.MixfRefIdeal.nD Cert.MixfRefIdeal.τ).loc Cert.MixfRefIdeal.main_arg6)
      ∧ r.2.mem ((c.tc : Thread Cert.MixfRefIdeal.nD Cert.MixfRefIdeal.τ).loc Cert.MixfRefIdeal.main_arg7) = m ((c.tc : Thread Cert.MixfRefIdeal.nD Cert.MixfRefIdeal.τ).loc Cert.MixfRefIdeal.main_arg7))
      ∧ r.2.sem = fun _ => 0)

def quiescent_Ffnf [hFfnf : Cert.Ffnf.Facts] : Prop :=
  ∀ (m : (ℓ : Loc Cert.Ffnf.nD Cert.Ffnf.τ Cert.Ffnf.sig) → Buf (Elt Bits) ℓ) (g : Dev Cert.Ffnf.nD → PrngReg), Pre_Ffnf m →
    θ_run (Cert.Ffnf.defs (F := Bits)) (onTc (τ := Cert.Ffnf.τ) (Cert.Ffnf.main (F := Bits))) ⟨m, fun _ => 0, g⟩ (fun r => (∀ c : Dev Cert.Ffnf.nD,
      r.2.mem ((c.tc : Thread Cert.Ffnf.nD Cert.Ffnf.τ).loc Cert.Ffnf.main_arg0) = m ((c.tc : Thread Cert.Ffnf.nD Cert.Ffnf.τ).loc Cert.Ffnf.main_arg0)
      ∧ r.2.mem ((c.tc : Thread Cert.Ffnf.nD Cert.Ffnf.τ).loc Cert.Ffnf.main_arg1) = m ((c.tc : Thread Cert.Ffnf.nD Cert.Ffnf.τ).loc Cert.Ffnf.main_arg1)
      ∧ r.2.mem ((c.tc : Thread Cert.Ffnf.nD Cert.Ffnf.τ).loc Cert.Ffnf.main_arg2) = m ((c.tc : Thread Cert.Ffnf.nD Cert.Ffnf.τ).loc Cert.Ffnf.main_arg2)
      ∧ r.2.mem ((c.tc : Thread Cert.Ffnf.nD Cert.Ffnf.τ).loc Cert.Ffnf.main_arg3) = m ((c.tc : Thread Cert.Ffnf.nD Cert.Ffnf.τ).loc Cert.Ffnf.main_arg3)
      ∧ r.2.mem ((c.tc : Thread Cert.Ffnf.nD Cert.Ffnf.τ).loc Cert.Ffnf.main_arg4) = m ((c.tc : Thread Cert.Ffnf.nD Cert.Ffnf.τ).loc Cert.Ffnf.main_arg4))
      ∧ r.2.sem = fun _ => 0)

def quiescent_FfnfIdeal [hFfnfIdeal : Cert.FfnfIdeal.Facts] : Prop :=
  ∀ (m : (ℓ : Loc Cert.FfnfIdeal.nD Cert.FfnfIdeal.τ Cert.FfnfIdeal.sig) → Buf (Elt Ideal) ℓ) (g : Dev Cert.FfnfIdeal.nD → PrngReg), Pre_FfnfIdeal m →
    θ_run (Cert.FfnfIdeal.defs (F := Ideal)) (onTc (τ := Cert.FfnfIdeal.τ) (Cert.FfnfIdeal.main (F := Ideal))) ⟨m, fun _ => 0, g⟩ (fun r => (∀ c : Dev Cert.FfnfIdeal.nD,
      r.2.mem ((c.tc : Thread Cert.FfnfIdeal.nD Cert.FfnfIdeal.τ).loc Cert.FfnfIdeal.main_arg0) = m ((c.tc : Thread Cert.FfnfIdeal.nD Cert.FfnfIdeal.τ).loc Cert.FfnfIdeal.main_arg0)
      ∧ r.2.mem ((c.tc : Thread Cert.FfnfIdeal.nD Cert.FfnfIdeal.τ).loc Cert.FfnfIdeal.main_arg1) = m ((c.tc : Thread Cert.FfnfIdeal.nD Cert.FfnfIdeal.τ).loc Cert.FfnfIdeal.main_arg1)
      ∧ r.2.mem ((c.tc : Thread Cert.FfnfIdeal.nD Cert.FfnfIdeal.τ).loc Cert.FfnfIdeal.main_arg2) = m ((c.tc : Thread Cert.FfnfIdeal.nD Cert.FfnfIdeal.τ).loc Cert.FfnfIdeal.main_arg2)
      ∧ r.2.mem ((c.tc : Thread Cert.FfnfIdeal.nD Cert.FfnfIdeal.τ).loc Cert.FfnfIdeal.main_arg3) = m ((c.tc : Thread Cert.FfnfIdeal.nD Cert.FfnfIdeal.τ).loc Cert.FfnfIdeal.main_arg3)
      ∧ r.2.mem ((c.tc : Thread Cert.FfnfIdeal.nD Cert.FfnfIdeal.τ).loc Cert.FfnfIdeal.main_arg4) = m ((c.tc : Thread Cert.FfnfIdeal.nD Cert.FfnfIdeal.τ).loc Cert.FfnfIdeal.main_arg4))
      ∧ r.2.sem = fun _ => 0)

def quiescent_FfnfRefIdeal [hFfnfRefIdeal : Cert.FfnfRefIdeal.Facts] : Prop :=
  ∀ (m : (ℓ : Loc Cert.FfnfRefIdeal.nD Cert.FfnfRefIdeal.τ Cert.FfnfRefIdeal.sig) → Buf (Elt Ideal) ℓ) (g : Dev Cert.FfnfRefIdeal.nD → PrngReg), Pre_FfnfRefIdeal m →
    θ_run (Cert.FfnfRefIdeal.defs (F := Ideal)) (onTc (τ := Cert.FfnfRefIdeal.τ) (Cert.FfnfRefIdeal.main (F := Ideal))) ⟨m, fun _ => 0, g⟩ (fun r => (∀ c : Dev Cert.FfnfRefIdeal.nD,
      r.2.mem ((c.tc : Thread Cert.FfnfRefIdeal.nD Cert.FfnfRefIdeal.τ).loc Cert.FfnfRefIdeal.main_arg0) = m ((c.tc : Thread Cert.FfnfRefIdeal.nD Cert.FfnfRefIdeal.τ).loc Cert.FfnfRefIdeal.main_arg0)
      ∧ r.2.mem ((c.tc : Thread Cert.FfnfRefIdeal.nD Cert.FfnfRefIdeal.τ).loc Cert.FfnfRefIdeal.main_arg1) = m ((c.tc : Thread Cert.FfnfRefIdeal.nD Cert.FfnfRefIdeal.τ).loc Cert.FfnfRefIdeal.main_arg1)
      ∧ r.2.mem ((c.tc : Thread Cert.FfnfRefIdeal.nD Cert.FfnfRefIdeal.τ).loc Cert.FfnfRefIdeal.main_arg2) = m ((c.tc : Thread Cert.FfnfRefIdeal.nD Cert.FfnfRefIdeal.τ).loc Cert.FfnfRefIdeal.main_arg2)
      ∧ r.2.mem ((c.tc : Thread Cert.FfnfRefIdeal.nD Cert.FfnfRefIdeal.τ).loc Cert.FfnfRefIdeal.main_arg3) = m ((c.tc : Thread Cert.FfnfRefIdeal.nD Cert.FfnfRefIdeal.τ).loc Cert.FfnfRefIdeal.main_arg3)
      ∧ r.2.mem ((c.tc : Thread Cert.FfnfRefIdeal.nD Cert.FfnfRefIdeal.τ).loc Cert.FfnfRefIdeal.main_arg4) = m ((c.tc : Thread Cert.FfnfRefIdeal.nD Cert.FfnfRefIdeal.τ).loc Cert.FfnfRefIdeal.main_arg4))
      ∧ r.2.sem = fun _ => 0)

def quiescent_Mlaf [hMlaf : Cert.Mlaf.Facts] : Prop :=
  ∀ (m : (ℓ : Loc Cert.Mlaf.nD Cert.Mlaf.τ Cert.Mlaf.sig) → Buf (Elt Bits) ℓ) (g : Dev Cert.Mlaf.nD → PrngReg), Pre_Mlaf m →
    θ_run (Cert.Mlaf.defs (F := Bits)) (onTc (τ := Cert.Mlaf.τ) (Cert.Mlaf.main (F := Bits))) ⟨m, fun _ => 0, g⟩ (fun r => (∀ c : Dev Cert.Mlaf.nD,
      r.2.mem ((c.tc : Thread Cert.Mlaf.nD Cert.Mlaf.τ).loc Cert.Mlaf.main_arg0) = m ((c.tc : Thread Cert.Mlaf.nD Cert.Mlaf.τ).loc Cert.Mlaf.main_arg0)
      ∧ r.2.mem ((c.tc : Thread Cert.Mlaf.nD Cert.Mlaf.τ).loc Cert.Mlaf.main_arg1) = m ((c.tc : Thread Cert.Mlaf.nD Cert.Mlaf.τ).loc Cert.Mlaf.main_arg1)
      ∧ r.2.mem ((c.tc : Thread Cert.Mlaf.nD Cert.Mlaf.τ).loc Cert.Mlaf.main_arg2) = m ((c.tc : Thread Cert.Mlaf.nD Cert.Mlaf.τ).loc Cert.Mlaf.main_arg2)
      ∧ r.2.mem ((c.tc : Thread Cert.Mlaf.nD Cert.Mlaf.τ).loc Cert.Mlaf.main_arg3) = m ((c.tc : Thread Cert.Mlaf.nD Cert.Mlaf.τ).loc Cert.Mlaf.main_arg3)
      ∧ r.2.mem ((c.tc : Thread Cert.Mlaf.nD Cert.Mlaf.τ).loc Cert.Mlaf.main_arg4) = m ((c.tc : Thread Cert.Mlaf.nD Cert.Mlaf.τ).loc Cert.Mlaf.main_arg4)
      ∧ r.2.mem ((c.tc : Thread Cert.Mlaf.nD Cert.Mlaf.τ).loc Cert.Mlaf.main_arg5) = m ((c.tc : Thread Cert.Mlaf.nD Cert.Mlaf.τ).loc Cert.Mlaf.main_arg5)
      ∧ r.2.mem ((c.tc : Thread Cert.Mlaf.nD Cert.Mlaf.τ).loc Cert.Mlaf.main_arg6) = m ((c.tc : Thread Cert.Mlaf.nD Cert.Mlaf.τ).loc Cert.Mlaf.main_arg6)
      ∧ r.2.mem ((c.tc : Thread Cert.Mlaf.nD Cert.Mlaf.τ).loc Cert.Mlaf.main_arg7) = m ((c.tc : Thread Cert.Mlaf.nD Cert.Mlaf.τ).loc Cert.Mlaf.main_arg7)
      ∧ r.2.mem ((c.tc : Thread Cert.Mlaf.nD Cert.Mlaf.τ).loc Cert.Mlaf.main_arg8) = m ((c.tc : Thread Cert.Mlaf.nD Cert.Mlaf.τ).loc Cert.Mlaf.main_arg8)
      ∧ r.2.mem ((c.tc : Thread Cert.Mlaf.nD Cert.Mlaf.τ).loc Cert.Mlaf.main_arg9) = m ((c.tc : Thread Cert.Mlaf.nD Cert.Mlaf.τ).loc Cert.Mlaf.main_arg9)
      ∧ r.2.mem ((c.tc : Thread Cert.Mlaf.nD Cert.Mlaf.τ).loc Cert.Mlaf.main_arg10) = m ((c.tc : Thread Cert.Mlaf.nD Cert.Mlaf.τ).loc Cert.Mlaf.main_arg10))
      ∧ r.2.sem = fun _ => 0)

def quiescent_MlafIdeal [hMlafIdeal : Cert.MlafIdeal.Facts] : Prop :=
  ∀ (m : (ℓ : Loc Cert.MlafIdeal.nD Cert.MlafIdeal.τ Cert.MlafIdeal.sig) → Buf (Elt Ideal) ℓ) (g : Dev Cert.MlafIdeal.nD → PrngReg), Pre_MlafIdeal m →
    θ_run (Cert.MlafIdeal.defs (F := Ideal)) (onTc (τ := Cert.MlafIdeal.τ) (Cert.MlafIdeal.main (F := Ideal))) ⟨m, fun _ => 0, g⟩ (fun r => (∀ c : Dev Cert.MlafIdeal.nD,
      r.2.mem ((c.tc : Thread Cert.MlafIdeal.nD Cert.MlafIdeal.τ).loc Cert.MlafIdeal.main_arg0) = m ((c.tc : Thread Cert.MlafIdeal.nD Cert.MlafIdeal.τ).loc Cert.MlafIdeal.main_arg0)
      ∧ r.2.mem ((c.tc : Thread Cert.MlafIdeal.nD Cert.MlafIdeal.τ).loc Cert.MlafIdeal.main_arg1) = m ((c.tc : Thread Cert.MlafIdeal.nD Cert.MlafIdeal.τ).loc Cert.MlafIdeal.main_arg1)
      ∧ r.2.mem ((c.tc : Thread Cert.MlafIdeal.nD Cert.MlafIdeal.τ).loc Cert.MlafIdeal.main_arg2) = m ((c.tc : Thread Cert.MlafIdeal.nD Cert.MlafIdeal.τ).loc Cert.MlafIdeal.main_arg2)
      ∧ r.2.mem ((c.tc : Thread Cert.MlafIdeal.nD Cert.MlafIdeal.τ).loc Cert.MlafIdeal.main_arg3) = m ((c.tc : Thread Cert.MlafIdeal.nD Cert.MlafIdeal.τ).loc Cert.MlafIdeal.main_arg3)
      ∧ r.2.mem ((c.tc : Thread Cert.MlafIdeal.nD Cert.MlafIdeal.τ).loc Cert.MlafIdeal.main_arg4) = m ((c.tc : Thread Cert.MlafIdeal.nD Cert.MlafIdeal.τ).loc Cert.MlafIdeal.main_arg4)
      ∧ r.2.mem ((c.tc : Thread Cert.MlafIdeal.nD Cert.MlafIdeal.τ).loc Cert.MlafIdeal.main_arg5) = m ((c.tc : Thread Cert.MlafIdeal.nD Cert.MlafIdeal.τ).loc Cert.MlafIdeal.main_arg5)
      ∧ r.2.mem ((c.tc : Thread Cert.MlafIdeal.nD Cert.MlafIdeal.τ).loc Cert.MlafIdeal.main_arg6) = m ((c.tc : Thread Cert.MlafIdeal.nD Cert.MlafIdeal.τ).loc Cert.MlafIdeal.main_arg6)
      ∧ r.2.mem ((c.tc : Thread Cert.MlafIdeal.nD Cert.MlafIdeal.τ).loc Cert.MlafIdeal.main_arg7) = m ((c.tc : Thread Cert.MlafIdeal.nD Cert.MlafIdeal.τ).loc Cert.MlafIdeal.main_arg7)
      ∧ r.2.mem ((c.tc : Thread Cert.MlafIdeal.nD Cert.MlafIdeal.τ).loc Cert.MlafIdeal.main_arg8) = m ((c.tc : Thread Cert.MlafIdeal.nD Cert.MlafIdeal.τ).loc Cert.MlafIdeal.main_arg8)
      ∧ r.2.mem ((c.tc : Thread Cert.MlafIdeal.nD Cert.MlafIdeal.τ).loc Cert.MlafIdeal.main_arg9) = m ((c.tc : Thread Cert.MlafIdeal.nD Cert.MlafIdeal.τ).loc Cert.MlafIdeal.main_arg9)
      ∧ r.2.mem ((c.tc : Thread Cert.MlafIdeal.nD Cert.MlafIdeal.τ).loc Cert.MlafIdeal.main_arg10) = m ((c.tc : Thread Cert.MlafIdeal.nD Cert.MlafIdeal.τ).loc Cert.MlafIdeal.main_arg10))
      ∧ r.2.sem = fun _ => 0)

def quiescent_MlafIdeal_pre_finite_mlaf [hMlafIdeal : Cert.MlafIdeal.Facts] [hPre_finite_mlaf : Cert.Pre_finite_mlaf.Facts] : Prop :=
  ∀ (m : (ℓ : Loc Cert.MlafIdeal.nD Cert.MlafIdeal.τ Cert.MlafIdeal.sig) → Buf (Elt Ideal) ℓ) (g : Dev Cert.MlafIdeal.nD → PrngReg), Pre_MlafIdeal_finite_mlaf m →
    θ_run (Cert.MlafIdeal.defs (F := Ideal)) (onTc (τ := Cert.MlafIdeal.τ) (Cert.MlafIdeal.main (F := Ideal))) ⟨m, fun _ => 0, g⟩ (fun r => (∀ c : Dev Cert.MlafIdeal.nD,
      r.2.mem ((c.tc : Thread Cert.MlafIdeal.nD Cert.MlafIdeal.τ).loc Cert.MlafIdeal.main_arg0) = m ((c.tc : Thread Cert.MlafIdeal.nD Cert.MlafIdeal.τ).loc Cert.MlafIdeal.main_arg0)
      ∧ r.2.mem ((c.tc : Thread Cert.MlafIdeal.nD Cert.MlafIdeal.τ).loc Cert.MlafIdeal.main_arg1) = m ((c.tc : Thread Cert.MlafIdeal.nD Cert.MlafIdeal.τ).loc Cert.MlafIdeal.main_arg1)
      ∧ r.2.mem ((c.tc : Thread Cert.MlafIdeal.nD Cert.MlafIdeal.τ).loc Cert.MlafIdeal.main_arg2) = m ((c.tc : Thread Cert.MlafIdeal.nD Cert.MlafIdeal.τ).loc Cert.MlafIdeal.main_arg2)
      ∧ r.2.mem ((c.tc : Thread Cert.MlafIdeal.nD Cert.MlafIdeal.τ).loc Cert.MlafIdeal.main_arg3) = m ((c.tc : Thread Cert.MlafIdeal.nD Cert.MlafIdeal.τ).loc Cert.MlafIdeal.main_arg3)
      ∧ r.2.mem ((c.tc : Thread Cert.MlafIdeal.nD Cert.MlafIdeal.τ).loc Cert.MlafIdeal.main_arg4) = m ((c.tc : Thread Cert.MlafIdeal.nD Cert.MlafIdeal.τ).loc Cert.MlafIdeal.main_arg4)
      ∧ r.2.mem ((c.tc : Thread Cert.MlafIdeal.nD Cert.MlafIdeal.τ).loc Cert.MlafIdeal.main_arg5) = m ((c.tc : Thread Cert.MlafIdeal.nD Cert.MlafIdeal.τ).loc Cert.MlafIdeal.main_arg5)
      ∧ r.2.mem ((c.tc : Thread Cert.MlafIdeal.nD Cert.MlafIdeal.τ).loc Cert.MlafIdeal.main_arg6) = m ((c.tc : Thread Cert.MlafIdeal.nD Cert.MlafIdeal.τ).loc Cert.MlafIdeal.main_arg6)
      ∧ r.2.mem ((c.tc : Thread Cert.MlafIdeal.nD Cert.MlafIdeal.τ).loc Cert.MlafIdeal.main_arg7) = m ((c.tc : Thread Cert.MlafIdeal.nD Cert.MlafIdeal.τ).loc Cert.MlafIdeal.main_arg7)
      ∧ r.2.mem ((c.tc : Thread Cert.MlafIdeal.nD Cert.MlafIdeal.τ).loc Cert.MlafIdeal.main_arg8) = m ((c.tc : Thread Cert.MlafIdeal.nD Cert.MlafIdeal.τ).loc Cert.MlafIdeal.main_arg8)
      ∧ r.2.mem ((c.tc : Thread Cert.MlafIdeal.nD Cert.MlafIdeal.τ).loc Cert.MlafIdeal.main_arg9) = m ((c.tc : Thread Cert.MlafIdeal.nD Cert.MlafIdeal.τ).loc Cert.MlafIdeal.main_arg9)
      ∧ r.2.mem ((c.tc : Thread Cert.MlafIdeal.nD Cert.MlafIdeal.τ).loc Cert.MlafIdeal.main_arg10) = m ((c.tc : Thread Cert.MlafIdeal.nD Cert.MlafIdeal.τ).loc Cert.MlafIdeal.main_arg10))
      ∧ r.2.sem = fun _ => 0)

def quiescent_MlafRefIdeal [hMlafRefIdeal : Cert.MlafRefIdeal.Facts] : Prop :=
  ∀ (m : (ℓ : Loc Cert.MlafRefIdeal.nD Cert.MlafRefIdeal.τ Cert.MlafRefIdeal.sig) → Buf (Elt Ideal) ℓ) (g : Dev Cert.MlafRefIdeal.nD → PrngReg), Pre_MlafRefIdeal m →
    θ_run (Cert.MlafRefIdeal.defs (F := Ideal)) (onTc (τ := Cert.MlafRefIdeal.τ) (Cert.MlafRefIdeal.main (F := Ideal))) ⟨m, fun _ => 0, g⟩ (fun r => (∀ c : Dev Cert.MlafRefIdeal.nD,
      r.2.mem ((c.tc : Thread Cert.MlafRefIdeal.nD Cert.MlafRefIdeal.τ).loc Cert.MlafRefIdeal.main_arg0) = m ((c.tc : Thread Cert.MlafRefIdeal.nD Cert.MlafRefIdeal.τ).loc Cert.MlafRefIdeal.main_arg0)
      ∧ r.2.mem ((c.tc : Thread Cert.MlafRefIdeal.nD Cert.MlafRefIdeal.τ).loc Cert.MlafRefIdeal.main_arg1) = m ((c.tc : Thread Cert.MlafRefIdeal.nD Cert.MlafRefIdeal.τ).loc Cert.MlafRefIdeal.main_arg1)
      ∧ r.2.mem ((c.tc : Thread Cert.MlafRefIdeal.nD Cert.MlafRefIdeal.τ).loc Cert.MlafRefIdeal.main_arg2) = m ((c.tc : Thread Cert.MlafRefIdeal.nD Cert.MlafRefIdeal.τ).loc Cert.MlafRefIdeal.main_arg2)
      ∧ r.2.mem ((c.tc : Thread Cert.MlafRefIdeal.nD Cert.MlafRefIdeal.τ).loc Cert.MlafRefIdeal.main_arg3) = m ((c.tc : Thread Cert.MlafRefIdeal.nD Cert.MlafRefIdeal.τ).loc Cert.MlafRefIdeal.main_arg3)
      ∧ r.2.mem ((c.tc : Thread Cert.MlafRefIdeal.nD Cert.MlafRefIdeal.τ).loc Cert.MlafRefIdeal.main_arg4) = m ((c.tc : Thread Cert.MlafRefIdeal.nD Cert.MlafRefIdeal.τ).loc Cert.MlafRefIdeal.main_arg4)
      ∧ r.2.mem ((c.tc : Thread Cert.MlafRefIdeal.nD Cert.MlafRefIdeal.τ).loc Cert.MlafRefIdeal.main_arg5) = m ((c.tc : Thread Cert.MlafRefIdeal.nD Cert.MlafRefIdeal.τ).loc Cert.MlafRefIdeal.main_arg5)
      ∧ r.2.mem ((c.tc : Thread Cert.MlafRefIdeal.nD Cert.MlafRefIdeal.τ).loc Cert.MlafRefIdeal.main_arg6) = m ((c.tc : Thread Cert.MlafRefIdeal.nD Cert.MlafRefIdeal.τ).loc Cert.MlafRefIdeal.main_arg6)
      ∧ r.2.mem ((c.tc : Thread Cert.MlafRefIdeal.nD Cert.MlafRefIdeal.τ).loc Cert.MlafRefIdeal.main_arg7) = m ((c.tc : Thread Cert.MlafRefIdeal.nD Cert.MlafRefIdeal.τ).loc Cert.MlafRefIdeal.main_arg7)
      ∧ r.2.mem ((c.tc : Thread Cert.MlafRefIdeal.nD Cert.MlafRefIdeal.τ).loc Cert.MlafRefIdeal.main_arg8) = m ((c.tc : Thread Cert.MlafRefIdeal.nD Cert.MlafRefIdeal.τ).loc Cert.MlafRefIdeal.main_arg8)
      ∧ r.2.mem ((c.tc : Thread Cert.MlafRefIdeal.nD Cert.MlafRefIdeal.τ).loc Cert.MlafRefIdeal.main_arg9) = m ((c.tc : Thread Cert.MlafRefIdeal.nD Cert.MlafRefIdeal.τ).loc Cert.MlafRefIdeal.main_arg9)
      ∧ r.2.mem ((c.tc : Thread Cert.MlafRefIdeal.nD Cert.MlafRefIdeal.τ).loc Cert.MlafRefIdeal.main_arg10) = m ((c.tc : Thread Cert.MlafRefIdeal.nD Cert.MlafRefIdeal.τ).loc Cert.MlafRefIdeal.main_arg10))
      ∧ r.2.sem = fun _ => 0)

def quiescent_MlafRefIdeal_pre_finite_mlaf [hMlafRefIdeal : Cert.MlafRefIdeal.Facts] [hPre_finite_mlaf : Cert.Pre_finite_mlaf.Facts] : Prop :=
  ∀ (m : (ℓ : Loc Cert.MlafRefIdeal.nD Cert.MlafRefIdeal.τ Cert.MlafRefIdeal.sig) → Buf (Elt Ideal) ℓ) (g : Dev Cert.MlafRefIdeal.nD → PrngReg), Pre_MlafRefIdeal_finite_mlaf m →
    θ_run (Cert.MlafRefIdeal.defs (F := Ideal)) (onTc (τ := Cert.MlafRefIdeal.τ) (Cert.MlafRefIdeal.main (F := Ideal))) ⟨m, fun _ => 0, g⟩ (fun r => (∀ c : Dev Cert.MlafRefIdeal.nD,
      r.2.mem ((c.tc : Thread Cert.MlafRefIdeal.nD Cert.MlafRefIdeal.τ).loc Cert.MlafRefIdeal.main_arg0) = m ((c.tc : Thread Cert.MlafRefIdeal.nD Cert.MlafRefIdeal.τ).loc Cert.MlafRefIdeal.main_arg0)
      ∧ r.2.mem ((c.tc : Thread Cert.MlafRefIdeal.nD Cert.MlafRefIdeal.τ).loc Cert.MlafRefIdeal.main_arg1) = m ((c.tc : Thread Cert.MlafRefIdeal.nD Cert.MlafRefIdeal.τ).loc Cert.MlafRefIdeal.main_arg1)
      ∧ r.2.mem ((c.tc : Thread Cert.MlafRefIdeal.nD Cert.MlafRefIdeal.τ).loc Cert.MlafRefIdeal.main_arg2) = m ((c.tc : Thread Cert.MlafRefIdeal.nD Cert.MlafRefIdeal.τ).loc Cert.MlafRefIdeal.main_arg2)
      ∧ r.2.mem ((c.tc : Thread Cert.MlafRefIdeal.nD Cert.MlafRefIdeal.τ).loc Cert.MlafRefIdeal.main_arg3) = m ((c.tc : Thread Cert.MlafRefIdeal.nD Cert.MlafRefIdeal.τ).loc Cert.MlafRefIdeal.main_arg3)
      ∧ r.2.mem ((c.tc : Thread Cert.MlafRefIdeal.nD Cert.MlafRefIdeal.τ).loc Cert.MlafRefIdeal.main_arg4) = m ((c.tc : Thread Cert.MlafRefIdeal.nD Cert.MlafRefIdeal.τ).loc Cert.MlafRefIdeal.main_arg4)
      ∧ r.2.mem ((c.tc : Thread Cert.MlafRefIdeal.nD Cert.MlafRefIdeal.τ).loc Cert.MlafRefIdeal.main_arg5) = m ((c.tc : Thread Cert.MlafRefIdeal.nD Cert.MlafRefIdeal.τ).loc Cert.MlafRefIdeal.main_arg5)
      ∧ r.2.mem ((c.tc : Thread Cert.MlafRefIdeal.nD Cert.MlafRefIdeal.τ).loc Cert.MlafRefIdeal.main_arg6) = m ((c.tc : Thread Cert.MlafRefIdeal.nD Cert.MlafRefIdeal.τ).loc Cert.MlafRefIdeal.main_arg6)
      ∧ r.2.mem ((c.tc : Thread Cert.MlafRefIdeal.nD Cert.MlafRefIdeal.τ).loc Cert.MlafRefIdeal.main_arg7) = m ((c.tc : Thread Cert.MlafRefIdeal.nD Cert.MlafRefIdeal.τ).loc Cert.MlafRefIdeal.main_arg7)
      ∧ r.2.mem ((c.tc : Thread Cert.MlafRefIdeal.nD Cert.MlafRefIdeal.τ).loc Cert.MlafRefIdeal.main_arg8) = m ((c.tc : Thread Cert.MlafRefIdeal.nD Cert.MlafRefIdeal.τ).loc Cert.MlafRefIdeal.main_arg8)
      ∧ r.2.mem ((c.tc : Thread Cert.MlafRefIdeal.nD Cert.MlafRefIdeal.τ).loc Cert.MlafRefIdeal.main_arg9) = m ((c.tc : Thread Cert.MlafRefIdeal.nD Cert.MlafRefIdeal.τ).loc Cert.MlafRefIdeal.main_arg9)
      ∧ r.2.mem ((c.tc : Thread Cert.MlafRefIdeal.nD Cert.MlafRefIdeal.τ).loc Cert.MlafRefIdeal.main_arg10) = m ((c.tc : Thread Cert.MlafRefIdeal.nD Cert.MlafRefIdeal.τ).loc Cert.MlafRefIdeal.main_arg10))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v36)) (v1 : (c : Dev Cert.AttnIdeal.nD) → Buf (Elt Ideal) ((c.tc : Thread Cert.AttnIdeal.nD Cert.AttnIdeal.τ).loc Cert.AttnIdeal.main_v34_1)) (v2 : (c : Dev Cert.AttnIdeal.nD) → Buf (Elt Ideal) ((c.tc : Thread Cert.AttnIdeal.nD Cert.AttnIdeal.τ).loc Cert.AttnIdeal.main_v34_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v36) = v0 c
          ∧ r.2.mem ((c.tc : Thread Cert.AttnIdeal.nD Cert.AttnIdeal.τ).loc Cert.AttnIdeal.main_v34_1) = v1 c
          ∧ r.2.mem ((c.tc : Thread Cert.AttnIdeal.nD Cert.AttnIdeal.τ).loc Cert.AttnIdeal.main_v34_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v66) = v0 c
          ∧ r.2.mem ((c.tc : Thread Cert.AttnRefIdeal.nD Cert.AttnRefIdeal.τ).loc Cert.AttnRefIdeal.main_v67) = v1 c
          ∧ r.2.mem ((c.tc : Thread Cert.AttnRefIdeal.nD Cert.AttnRefIdeal.τ).loc Cert.AttnRefIdeal.main_v68) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v37) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)) →
    ∃ (v0 : (c : Dev Cert.PleIdeal.nD) → Buf (Elt Ideal) ((c.tc : Thread Cert.PleIdeal.nD Cert.PleIdeal.τ).loc Cert.PleIdeal.main_v1_0)) (v1 : (c : Dev Cert.PleIdeal.nD) → Buf (Elt Ideal) ((c.tc : Thread Cert.PleIdeal.nD Cert.PleIdeal.τ).loc Cert.PleIdeal.main_v1_1)) (v2 : (c : Dev Cert.PleIdeal.nD) → Buf (Elt Ideal) ((c.tc : Thread Cert.PleIdeal.nD Cert.PleIdeal.τ).loc Cert.PleIdeal.main_v1_2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v1_0) = v0 c
          ∧ r.2.mem ((c.tc : Thread Cert.PleIdeal.nD Cert.PleIdeal.τ).loc Cert.PleIdeal.main_v1_1) = v1 c
          ∧ r.2.mem ((c.tc : Thread Cert.PleIdeal.nD Cert.PleIdeal.τ).loc Cert.PleIdeal.main_v1_2) = v2 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v49) = v0 c
          ∧ r.2.mem ((c.tc : Thread Cert.PleRefIdeal.nD Cert.PleRefIdeal.τ).loc Cert.PleRefIdeal.main_v50) = v1 c
          ∧ r.2.mem ((c.tc : Thread Cert.PleRefIdeal.nD Cert.PleRefIdeal.τ).loc Cert.PleRefIdeal.main_v51) = v2 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v15_0)) (v1 : (c : Dev Cert.FfnIdeal.nD) → Buf (Elt Ideal) ((c.tc : Thread Cert.FfnIdeal.nD Cert.FfnIdeal.τ).loc Cert.FfnIdeal.main_v15_1)) (v2 : (c : Dev Cert.FfnIdeal.nD) → Buf (Elt Ideal) ((c.tc : Thread Cert.FfnIdeal.nD Cert.FfnIdeal.τ).loc Cert.FfnIdeal.main_v15_2)) (v3 : (c : Dev Cert.FfnIdeal.nD) → Buf (Elt Ideal) ((c.tc : Thread Cert.FfnIdeal.nD Cert.FfnIdeal.τ).loc Cert.FfnIdeal.main_v15_3)) (v4 : (c : Dev Cert.FfnIdeal.nD) → Buf (Elt Ideal) ((c.tc : Thread Cert.FfnIdeal.nD Cert.FfnIdeal.τ).loc Cert.FfnIdeal.main_v15_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v15_0) = v0 c
          ∧ r.2.mem ((c.tc : Thread Cert.FfnIdeal.nD Cert.FfnIdeal.τ).loc Cert.FfnIdeal.main_v15_1) = v1 c
          ∧ r.2.mem ((c.tc : Thread Cert.FfnIdeal.nD Cert.FfnIdeal.τ).loc Cert.FfnIdeal.main_v15_2) = v2 c
          ∧ r.2.mem ((c.tc : Thread Cert.FfnIdeal.nD Cert.FfnIdeal.τ).loc Cert.FfnIdeal.main_v15_3) = v3 c
          ∧ r.2.mem ((c.tc : Thread Cert.FfnIdeal.nD Cert.FfnIdeal.τ).loc Cert.FfnIdeal.main_v15_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_v29) = v1 c
          ∧ r.2.mem ((c.tc : Thread Cert.FfnRefIdeal.nD Cert.FfnRefIdeal.τ).loc Cert.FfnRefIdeal.main_v32) = v2 c
          ∧ r.2.mem ((c.tc : Thread Cert.FfnRefIdeal.nD Cert.FfnRefIdeal.τ).loc Cert.FfnRefIdeal.main_v35) = v3 c
          ∧ r.2.mem ((c.tc : Thread Cert.FfnRefIdeal.nD Cert.FfnRefIdeal.τ).loc Cert.FfnRefIdeal.main_v40) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)) (v2 : (c : Dev Cert.MixIdeal.nD) → Buf (Elt Ideal) ((c.tc : Thread Cert.MixIdeal.nD Cert.MixIdeal.τ).loc Cert.MixIdeal.main_v5_2)) (v3 : (c : Dev Cert.MixIdeal.nD) → Buf (Elt Ideal) ((c.tc : Thread Cert.MixIdeal.nD Cert.MixIdeal.τ).loc Cert.MixIdeal.main_v5_3)) (v4 : (c : Dev Cert.MixIdeal.nD) → Buf (Elt Ideal) ((c.tc : Thread Cert.MixIdeal.nD Cert.MixIdeal.τ).loc Cert.MixIdeal.main_v5_4)) (v5 : (c : Dev Cert.MixIdeal.nD) → Buf (Elt Ideal) ((c.tc : Thread Cert.MixIdeal.nD Cert.MixIdeal.τ).loc Cert.MixIdeal.main_v5_5)) (v6 : (c : Dev Cert.MixIdeal.nD) → Buf (Elt Ideal) ((c.tc : Thread Cert.MixIdeal.nD Cert.MixIdeal.τ).loc Cert.MixIdeal.main_v5_6)) (v7 : (c : Dev Cert.MixIdeal.nD) → Buf (Elt Ideal) ((c.tc : Thread Cert.MixIdeal.nD Cert.MixIdeal.τ).loc Cert.MixIdeal.main_v5_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_v5_2) = v2 c
          ∧ r.2.mem ((c.tc : Thread Cert.MixIdeal.nD Cert.MixIdeal.τ).loc Cert.MixIdeal.main_v5_3) = v3 c
          ∧ r.2.mem ((c.tc : Thread Cert.MixIdeal.nD Cert.MixIdeal.τ).loc Cert.MixIdeal.main_v5_4) = v4 c
          ∧ r.2.mem ((c.tc : Thread Cert.MixIdeal.nD Cert.MixIdeal.τ).loc Cert.MixIdeal.main_v5_5) = v5 c
          ∧ r.2.mem ((c.tc : Thread Cert.MixIdeal.nD Cert.MixIdeal.τ).loc Cert.MixIdeal.main_v5_6) = v6 c
          ∧ r.2.mem ((c.tc : Thread Cert.MixIdeal.nD Cert.MixIdeal.τ).loc Cert.MixIdeal.main_v5_7) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v146) = v0 c
          ∧ r.2.mem ((c.tc : Thread Cert.MixRefIdeal.nD Cert.MixRefIdeal.τ).loc Cert.MixRefIdeal.main_v204) = v1 c
          ∧ r.2.mem ((c.tc : Thread Cert.MixRefIdeal.nD Cert.MixRefIdeal.τ).loc Cert.MixRefIdeal.main_v205) = v2 c
          ∧ r.2.mem ((c.tc : Thread Cert.MixRefIdeal.nD Cert.MixRefIdeal.τ).loc Cert.MixRefIdeal.main_v206) = v3 c
          ∧ r.2.mem ((c.tc : Thread Cert.MixRefIdeal.nD Cert.MixRefIdeal.τ).loc Cert.MixRefIdeal.main_v207) = v4 c
          ∧ r.2.mem ((c.tc : Thread Cert.MixRefIdeal.nD Cert.MixRefIdeal.τ).loc Cert.MixRefIdeal.main_v208) = v5 c
          ∧ r.2.mem ((c.tc : Thread Cert.MixRefIdeal.nD Cert.MixRefIdeal.τ).loc Cert.MixRefIdeal.main_v158) = v6 c
          ∧ r.2.mem ((c.tc : Thread Cert.MixRefIdeal.nD Cert.MixRefIdeal.τ).loc Cert.MixRefIdeal.main_v209) = v7 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Attnf_AttnfIdeal : Prop :=
  IdealRules.named_const.Statement Cert.AttnfIdeal.κ "mask" .f32 0xF149F2CA#32 ⊥

def algebraic_AttnfIdeal_AttnfRefIdeal_pre_finite_attnf [hAttnfIdeal : Cert.AttnfIdeal.Facts] [hAttnfRefIdeal : Cert.AttnfRefIdeal.Facts] [hPre_finite_attnf : Cert.Pre_finite_attnf.Facts] : Prop :=
  ∀ (m : (ℓ : Loc Cert.AttnfIdeal.nD Cert.AttnfIdeal.τ Cert.AttnfIdeal.sig) → Buf (Elt Ideal) ℓ) (g : Dev Cert.AttnfIdeal.nD → PrngReg)
    (m' : (ℓ : Loc Cert.AttnfRefIdeal.nD Cert.AttnfRefIdeal.τ Cert.AttnfRefIdeal.sig) → Buf (Elt Ideal) ℓ) (g' : Dev Cert.AttnfRefIdeal.nD → PrngReg), Pre_AttnfIdeal_finite_attnf m →
    (∀ c : Dev Cert.AttnfIdeal.nD,
      m' ((c.tc : Thread Cert.AttnfRefIdeal.nD Cert.AttnfRefIdeal.τ).loc Cert.AttnfRefIdeal.main_arg0) = m ((c.tc : Thread Cert.AttnfIdeal.nD Cert.AttnfIdeal.τ).loc Cert.AttnfIdeal.main_arg0)
      ∧ m' ((c.tc : Thread Cert.AttnfRefIdeal.nD Cert.AttnfRefIdeal.τ).loc Cert.AttnfRefIdeal.main_arg1) = m ((c.tc : Thread Cert.AttnfIdeal.nD Cert.AttnfIdeal.τ).loc Cert.AttnfIdeal.main_arg1)
      ∧ m' ((c.tc : Thread Cert.AttnfRefIdeal.nD Cert.AttnfRefIdeal.τ).loc Cert.AttnfRefIdeal.main_arg2) = m ((c.tc : Thread Cert.AttnfIdeal.nD Cert.AttnfIdeal.τ).loc Cert.AttnfIdeal.main_arg2)) →
    ∃ (v0 : (c : Dev Cert.AttnfIdeal.nD) → Buf (Elt Ideal) ((c.tc : Thread Cert.AttnfIdeal.nD Cert.AttnfIdeal.τ).loc Cert.AttnfIdeal.main_v8_0)) (v1 : (c : Dev Cert.AttnfIdeal.nD) → Buf (Elt Ideal) ((c.tc : Thread Cert.AttnfIdeal.nD Cert.AttnfIdeal.τ).loc Cert.AttnfIdeal.main_v8_1)),
      θ_run (Cert.AttnfIdeal.defs (F := Ideal)) (onTc (τ := Cert.AttnfIdeal.τ) (Cert.AttnfIdeal.main (F := Ideal))) ⟨m, fun _ => 0, g⟩ (fun r => ∀ c : Dev Cert.AttnfIdeal.nD,
          r.2.mem ((c.tc : Thread Cert.AttnfIdeal.nD Cert.AttnfIdeal.τ).loc Cert.AttnfIdeal.main_v8_0) = v0 c
          ∧ r.2.mem ((c.tc : Thread Cert.AttnfIdeal.nD Cert.AttnfIdeal.τ).loc Cert.AttnfIdeal.main_v8_1) = v1 c
          ∧ r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
          ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1)
          ∧ r.2.mem ((c.tc : Thread Cert.AttnfIdeal.nD Cert.AttnfIdeal.τ).loc Cert.AttnfIdeal.main_arg2) = m ((c.tc : Thread Cert.AttnfIdeal.nD Cert.AttnfIdeal.τ).loc Cert.AttnfIdeal.main_arg2))
      ∧ θ_run (Cert.AttnfRefIdeal.defs (F := Ideal)) (onTc (τ := Cert.AttnfRefIdeal.τ) (Cert.AttnfRefIdeal.main (F := Ideal))) ⟨m', fun _ => 0, g'⟩ (fun r => ∀ c : Dev Cert.AttnfRefIdeal.nD,
          r.2.mem ((c.tc : Thread Cert.AttnfRefIdeal.nD Cert.AttnfRefIdeal.τ).loc Cert.AttnfRefIdeal.main_v46) = v0 c
          ∧ r.2.mem ((c.tc : Thread Cert.AttnfRefIdeal.nD Cert.AttnfRefIdeal.τ).loc Cert.AttnfRefIdeal.main_v20) = v1 c
          ∧ r.2.mem ((c.tc : Thread Cert.AttnfRefIdeal.nD Cert.AttnfRefIdeal.τ).loc Cert.AttnfRefIdeal.main_arg0) = m' ((c.tc : Thread Cert.AttnfRefIdeal.nD Cert.AttnfRefIdeal.τ).loc Cert.AttnfRefIdeal.main_arg0)
          ∧ r.2.mem ((c.tc : Thread Cert.AttnfRefIdeal.nD Cert.AttnfRefIdeal.τ).loc Cert.AttnfRefIdeal.main_arg1) = m' ((c.tc : Thread Cert.AttnfRefIdeal.nD Cert.AttnfRefIdeal.τ).loc Cert.AttnfRefIdeal.main_arg1)
          ∧ r.2.mem ((c.tc : Thread Cert.AttnfRefIdeal.nD Cert.AttnfRefIdeal.τ).loc Cert.AttnfRefIdeal.main_arg2) = m' ((c.tc : Thread Cert.AttnfRefIdeal.nD Cert.AttnfRefIdeal.τ).loc Cert.AttnfRefIdeal.main_arg2))

def preserves_Rmsf_RmsfIdeal : Prop :=
  True

def algebraic_RmsfIdeal_RmsfRefIdeal [hRmsfIdeal : Cert.RmsfIdeal.Facts] [hRmsfRefIdeal : Cert.RmsfRefIdeal.Facts] : Prop :=
  ∀ (m : (ℓ : Loc Cert.RmsfIdeal.nD Cert.RmsfIdeal.τ Cert.RmsfIdeal.sig) → Buf (Elt Ideal) ℓ) (g : Dev Cert.RmsfIdeal.nD → PrngReg)
    (m' : (ℓ : Loc Cert.RmsfRefIdeal.nD Cert.RmsfRefIdeal.τ Cert.RmsfRefIdeal.sig) → Buf (Elt Ideal) ℓ) (g' : Dev Cert.RmsfRefIdeal.nD → PrngReg), Pre_RmsfIdeal m →
    (∀ c : Dev Cert.RmsfIdeal.nD,
      m' ((c.tc : Thread Cert.RmsfRefIdeal.nD Cert.RmsfRefIdeal.τ).loc Cert.RmsfRefIdeal.main_arg0) = m ((c.tc : Thread Cert.RmsfIdeal.nD Cert.RmsfIdeal.τ).loc Cert.RmsfIdeal.main_arg0)
      ∧ m' ((c.tc : Thread Cert.RmsfRefIdeal.nD Cert.RmsfRefIdeal.τ).loc Cert.RmsfRefIdeal.main_arg1) = m ((c.tc : Thread Cert.RmsfIdeal.nD Cert.RmsfIdeal.τ).loc Cert.RmsfIdeal.main_arg1)) →
    ∃ (v0 : (c : Dev Cert.RmsfIdeal.nD) → Buf (Elt Ideal) ((c.tc : Thread Cert.RmsfIdeal.nD Cert.RmsfIdeal.τ).loc Cert.RmsfIdeal.main_v1)),
      θ_run (Cert.RmsfIdeal.defs (F := Ideal)) (onTc (τ := Cert.RmsfIdeal.τ) (Cert.RmsfIdeal.main (F := Ideal))) ⟨m, fun _ => 0, g⟩ (fun r => ∀ c : Dev Cert.RmsfIdeal.nD,
          r.2.mem ((c.tc : Thread Cert.RmsfIdeal.nD Cert.RmsfIdeal.τ).loc Cert.RmsfIdeal.main_v1) = v0 c
          ∧ r.2.mem ((c.tc : Thread Cert.RmsfIdeal.nD Cert.RmsfIdeal.τ).loc Cert.RmsfIdeal.main_arg0) = m ((c.tc : Thread Cert.RmsfIdeal.nD Cert.RmsfIdeal.τ).loc Cert.RmsfIdeal.main_arg0)
          ∧ r.2.mem ((c.tc : Thread Cert.RmsfIdeal.nD Cert.RmsfIdeal.τ).loc Cert.RmsfIdeal.main_arg1) = m ((c.tc : Thread Cert.RmsfIdeal.nD Cert.RmsfIdeal.τ).loc Cert.RmsfIdeal.main_arg1))
      ∧ θ_run (Cert.RmsfRefIdeal.defs (F := Ideal)) (onTc (τ := Cert.RmsfRefIdeal.τ) (Cert.RmsfRefIdeal.main (F := Ideal))) ⟨m', fun _ => 0, g'⟩ (fun r => ∀ c : Dev Cert.RmsfRefIdeal.nD,
          r.2.mem ((c.tc : Thread Cert.RmsfRefIdeal.nD Cert.RmsfRefIdeal.τ).loc Cert.RmsfRefIdeal.main_v13) = v0 c
          ∧ r.2.mem ((c.tc : Thread Cert.RmsfRefIdeal.nD Cert.RmsfRefIdeal.τ).loc Cert.RmsfRefIdeal.main_arg0) = m' ((c.tc : Thread Cert.RmsfRefIdeal.nD Cert.RmsfRefIdeal.τ).loc Cert.RmsfRefIdeal.main_arg0)
          ∧ r.2.mem ((c.tc : Thread Cert.RmsfRefIdeal.nD Cert.RmsfRefIdeal.τ).loc Cert.RmsfRefIdeal.main_arg1) = m' ((c.tc : Thread Cert.RmsfRefIdeal.nD Cert.RmsfRefIdeal.τ).loc Cert.RmsfRefIdeal.main_arg1))

def preserves_Plef_PlefIdeal : Prop :=
  True

def algebraic_PlefIdeal_PlefRefIdeal [hPlefIdeal : Cert.PlefIdeal.Facts] [hPlefRefIdeal : Cert.PlefRefIdeal.Facts] : Prop :=
  ∀ (m : (ℓ : Loc Cert.PlefIdeal.nD Cert.PlefIdeal.τ Cert.PlefIdeal.sig) → Buf (Elt Ideal) ℓ) (g : Dev Cert.PlefIdeal.nD → PrngReg)
    (m' : (ℓ : Loc Cert.PlefRefIdeal.nD Cert.PlefRefIdeal.τ Cert.PlefRefIdeal.sig) → Buf (Elt Ideal) ℓ) (g' : Dev Cert.PlefRefIdeal.nD → PrngReg), Pre_PlefIdeal m →
    (∀ c : Dev Cert.PlefIdeal.nD,
      m' ((c.tc : Thread Cert.PlefRefIdeal.nD Cert.PlefRefIdeal.τ).loc Cert.PlefRefIdeal.main_arg0) = m ((c.tc : Thread Cert.PlefIdeal.nD Cert.PlefIdeal.τ).loc Cert.PlefIdeal.main_arg0)
      ∧ m' ((c.tc : Thread Cert.PlefRefIdeal.nD Cert.PlefRefIdeal.τ).loc Cert.PlefRefIdeal.main_arg1) = m ((c.tc : Thread Cert.PlefIdeal.nD Cert.PlefIdeal.τ).loc Cert.PlefIdeal.main_arg1)
      ∧ m' ((c.tc : Thread Cert.PlefRefIdeal.nD Cert.PlefRefIdeal.τ).loc Cert.PlefRefIdeal.main_arg2) = m ((c.tc : Thread Cert.PlefIdeal.nD Cert.PlefIdeal.τ).loc Cert.PlefIdeal.main_arg2)
      ∧ m' ((c.tc : Thread Cert.PlefRefIdeal.nD Cert.PlefRefIdeal.τ).loc Cert.PlefRefIdeal.main_arg3) = m ((c.tc : Thread Cert.PlefIdeal.nD Cert.PlefIdeal.τ).loc Cert.PlefIdeal.main_arg3)) →
    ∃ (v0 : (c : Dev Cert.PlefIdeal.nD) → Buf (Elt Ideal) ((c.tc : Thread Cert.PlefIdeal.nD Cert.PlefIdeal.τ).loc Cert.PlefIdeal.main_v1)),
      θ_run (Cert.PlefIdeal.defs (F := Ideal)) (onTc (τ := Cert.PlefIdeal.τ) (Cert.PlefIdeal.main (F := Ideal))) ⟨m, fun _ => 0, g⟩ (fun r => ∀ c : Dev Cert.PlefIdeal.nD,
          r.2.mem ((c.tc : Thread Cert.PlefIdeal.nD Cert.PlefIdeal.τ).loc Cert.PlefIdeal.main_v1) = v0 c
          ∧ r.2.mem ((c.tc : Thread Cert.PlefIdeal.nD Cert.PlefIdeal.τ).loc Cert.PlefIdeal.main_arg0) = m ((c.tc : Thread Cert.PlefIdeal.nD Cert.PlefIdeal.τ).loc Cert.PlefIdeal.main_arg0)
          ∧ r.2.mem ((c.tc : Thread Cert.PlefIdeal.nD Cert.PlefIdeal.τ).loc Cert.PlefIdeal.main_arg1) = m ((c.tc : Thread Cert.PlefIdeal.nD Cert.PlefIdeal.τ).loc Cert.PlefIdeal.main_arg1)
          ∧ r.2.mem ((c.tc : Thread Cert.PlefIdeal.nD Cert.PlefIdeal.τ).loc Cert.PlefIdeal.main_arg2) = m ((c.tc : Thread Cert.PlefIdeal.nD Cert.PlefIdeal.τ).loc Cert.PlefIdeal.main_arg2)
          ∧ r.2.mem ((c.tc : Thread Cert.PlefIdeal.nD Cert.PlefIdeal.τ).loc Cert.PlefIdeal.main_arg3) = m ((c.tc : Thread Cert.PlefIdeal.nD Cert.PlefIdeal.τ).loc Cert.PlefIdeal.main_arg3))
      ∧ θ_run (Cert.PlefRefIdeal.defs (F := Ideal)) (onTc (τ := Cert.PlefRefIdeal.τ) (Cert.PlefRefIdeal.main (F := Ideal))) ⟨m', fun _ => 0, g'⟩ (fun r => ∀ c : Dev Cert.PlefRefIdeal.nD,
          r.2.mem ((c.tc : Thread Cert.PlefRefIdeal.nD Cert.PlefRefIdeal.τ).loc Cert.PlefRefIdeal.main_v20) = v0 c
          ∧ r.2.mem ((c.tc : Thread Cert.PlefRefIdeal.nD Cert.PlefRefIdeal.τ).loc Cert.PlefRefIdeal.main_arg0) = m' ((c.tc : Thread Cert.PlefRefIdeal.nD Cert.PlefRefIdeal.τ).loc Cert.PlefRefIdeal.main_arg0)
          ∧ r.2.mem ((c.tc : Thread Cert.PlefRefIdeal.nD Cert.PlefRefIdeal.τ).loc Cert.PlefRefIdeal.main_arg1) = m' ((c.tc : Thread Cert.PlefRefIdeal.nD Cert.PlefRefIdeal.τ).loc Cert.PlefRefIdeal.main_arg1)
          ∧ r.2.mem ((c.tc : Thread Cert.PlefRefIdeal.nD Cert.PlefRefIdeal.τ).loc Cert.PlefRefIdeal.main_arg2) = m' ((c.tc : Thread Cert.PlefRefIdeal.nD Cert.PlefRefIdeal.τ).loc Cert.PlefRefIdeal.main_arg2)
          ∧ r.2.mem ((c.tc : Thread Cert.PlefRefIdeal.nD Cert.PlefRefIdeal.τ).loc Cert.PlefRefIdeal.main_arg3) = m' ((c.tc : Thread Cert.PlefRefIdeal.nD Cert.PlefRefIdeal.τ).loc Cert.PlefRefIdeal.main_arg3))

def preserves_Mixf_MixfIdeal : Prop :=
  True

def algebraic_MixfIdeal_MixfRefIdeal [hMixfIdeal : Cert.MixfIdeal.Facts] [hMixfRefIdeal : Cert.MixfRefIdeal.Facts] : Prop :=
  ∀ (m : (ℓ : Loc Cert.MixfIdeal.nD Cert.MixfIdeal.τ Cert.MixfIdeal.sig) → Buf (Elt Ideal) ℓ) (g : Dev Cert.MixfIdeal.nD → PrngReg)
    (m' : (ℓ : Loc Cert.MixfRefIdeal.nD Cert.MixfRefIdeal.τ Cert.MixfRefIdeal.sig) → Buf (Elt Ideal) ℓ) (g' : Dev Cert.MixfRefIdeal.nD → PrngReg), Pre_MixfIdeal m →
    (∀ c : Dev Cert.MixfIdeal.nD,
      m' ((c.tc : Thread Cert.MixfRefIdeal.nD Cert.MixfRefIdeal.τ).loc Cert.MixfRefIdeal.main_arg0) = m ((c.tc : Thread Cert.MixfIdeal.nD Cert.MixfIdeal.τ).loc Cert.MixfIdeal.main_arg0)
      ∧ m' ((c.tc : Thread Cert.MixfRefIdeal.nD Cert.MixfRefIdeal.τ).loc Cert.MixfRefIdeal.main_arg1) = m ((c.tc : Thread Cert.MixfIdeal.nD Cert.MixfIdeal.τ).loc Cert.MixfIdeal.main_arg1)
      ∧ m' ((c.tc : Thread Cert.MixfRefIdeal.nD Cert.MixfRefIdeal.τ).loc Cert.MixfRefIdeal.main_arg2) = m ((c.tc : Thread Cert.MixfIdeal.nD Cert.MixfIdeal.τ).loc Cert.MixfIdeal.main_arg2)
      ∧ m' ((c.tc : Thread Cert.MixfRefIdeal.nD Cert.MixfRefIdeal.τ).loc Cert.MixfRefIdeal.main_arg3) = m ((c.tc : Thread Cert.MixfIdeal.nD Cert.MixfIdeal.τ).loc Cert.MixfIdeal.main_arg3)
      ∧ m' ((c.tc : Thread Cert.MixfRefIdeal.nD Cert.MixfRefIdeal.τ).loc Cert.MixfRefIdeal.main_arg4) = m ((c.tc : Thread Cert.MixfIdeal.nD Cert.MixfIdeal.τ).loc Cert.MixfIdeal.main_arg4)
      ∧ m' ((c.tc : Thread Cert.MixfRefIdeal.nD Cert.MixfRefIdeal.τ).loc Cert.MixfRefIdeal.main_arg5) = m ((c.tc : Thread Cert.MixfIdeal.nD Cert.MixfIdeal.τ).loc Cert.MixfIdeal.main_arg5)
      ∧ m' ((c.tc : Thread Cert.MixfRefIdeal.nD Cert.MixfRefIdeal.τ).loc Cert.MixfRefIdeal.main_arg6) = m ((c.tc : Thread Cert.MixfIdeal.nD Cert.MixfIdeal.τ).loc Cert.MixfIdeal.main_arg6)
      ∧ m' ((c.tc : Thread Cert.MixfRefIdeal.nD Cert.MixfRefIdeal.τ).loc Cert.MixfRefIdeal.main_arg7) = m ((c.tc : Thread Cert.MixfIdeal.nD Cert.MixfIdeal.τ).loc Cert.MixfIdeal.main_arg7)) →
    ∃ (v0 : (c : Dev Cert.MixfIdeal.nD) → Buf (Elt Ideal) ((c.tc : Thread Cert.MixfIdeal.nD Cert.MixfIdeal.τ).loc Cert.MixfIdeal.main_v5)),
      θ_run (Cert.MixfIdeal.defs (F := Ideal)) (onTc (τ := Cert.MixfIdeal.τ) (Cert.MixfIdeal.main (F := Ideal))) ⟨m, fun _ => 0, g⟩ (fun r => ∀ c : Dev Cert.MixfIdeal.nD,
          r.2.mem ((c.tc : Thread Cert.MixfIdeal.nD Cert.MixfIdeal.τ).loc Cert.MixfIdeal.main_v5) = v0 c
          ∧ r.2.mem ((c.tc : Thread Cert.MixfIdeal.nD Cert.MixfIdeal.τ).loc Cert.MixfIdeal.main_arg0) = m ((c.tc : Thread Cert.MixfIdeal.nD Cert.MixfIdeal.τ).loc Cert.MixfIdeal.main_arg0)
          ∧ r.2.mem ((c.tc : Thread Cert.MixfIdeal.nD Cert.MixfIdeal.τ).loc Cert.MixfIdeal.main_arg1) = m ((c.tc : Thread Cert.MixfIdeal.nD Cert.MixfIdeal.τ).loc Cert.MixfIdeal.main_arg1)
          ∧ r.2.mem ((c.tc : Thread Cert.MixfIdeal.nD Cert.MixfIdeal.τ).loc Cert.MixfIdeal.main_arg2) = m ((c.tc : Thread Cert.MixfIdeal.nD Cert.MixfIdeal.τ).loc Cert.MixfIdeal.main_arg2)
          ∧ r.2.mem ((c.tc : Thread Cert.MixfIdeal.nD Cert.MixfIdeal.τ).loc Cert.MixfIdeal.main_arg3) = m ((c.tc : Thread Cert.MixfIdeal.nD Cert.MixfIdeal.τ).loc Cert.MixfIdeal.main_arg3)
          ∧ r.2.mem ((c.tc : Thread Cert.MixfIdeal.nD Cert.MixfIdeal.τ).loc Cert.MixfIdeal.main_arg4) = m ((c.tc : Thread Cert.MixfIdeal.nD Cert.MixfIdeal.τ).loc Cert.MixfIdeal.main_arg4)
          ∧ r.2.mem ((c.tc : Thread Cert.MixfIdeal.nD Cert.MixfIdeal.τ).loc Cert.MixfIdeal.main_arg5) = m ((c.tc : Thread Cert.MixfIdeal.nD Cert.MixfIdeal.τ).loc Cert.MixfIdeal.main_arg5)
          ∧ r.2.mem ((c.tc : Thread Cert.MixfIdeal.nD Cert.MixfIdeal.τ).loc Cert.MixfIdeal.main_arg6) = m ((c.tc : Thread Cert.MixfIdeal.nD Cert.MixfIdeal.τ).loc Cert.MixfIdeal.main_arg6)
          ∧ r.2.mem ((c.tc : Thread Cert.MixfIdeal.nD Cert.MixfIdeal.τ).loc Cert.MixfIdeal.main_arg7) = m ((c.tc : Thread Cert.MixfIdeal.nD Cert.MixfIdeal.τ).loc Cert.MixfIdeal.main_arg7))
      ∧ θ_run (Cert.MixfRefIdeal.defs (F := Ideal)) (onTc (τ := Cert.MixfRefIdeal.τ) (Cert.MixfRefIdeal.main (F := Ideal))) ⟨m', fun _ => 0, g'⟩ (fun r => ∀ c : Dev Cert.MixfRefIdeal.nD,
          r.2.mem ((c.tc : Thread Cert.MixfRefIdeal.nD Cert.MixfRefIdeal.τ).loc Cert.MixfRefIdeal.main_v80) = v0 c
          ∧ r.2.mem ((c.tc : Thread Cert.MixfRefIdeal.nD Cert.MixfRefIdeal.τ).loc Cert.MixfRefIdeal.main_arg0) = m' ((c.tc : Thread Cert.MixfRefIdeal.nD Cert.MixfRefIdeal.τ).loc Cert.MixfRefIdeal.main_arg0)
          ∧ r.2.mem ((c.tc : Thread Cert.MixfRefIdeal.nD Cert.MixfRefIdeal.τ).loc Cert.MixfRefIdeal.main_arg1) = m' ((c.tc : Thread Cert.MixfRefIdeal.nD Cert.MixfRefIdeal.τ).loc Cert.MixfRefIdeal.main_arg1)
          ∧ r.2.mem ((c.tc : Thread Cert.MixfRefIdeal.nD Cert.MixfRefIdeal.τ).loc Cert.MixfRefIdeal.main_arg2) = m' ((c.tc : Thread Cert.MixfRefIdeal.nD Cert.MixfRefIdeal.τ).loc Cert.MixfRefIdeal.main_arg2)
          ∧ r.2.mem ((c.tc : Thread Cert.MixfRefIdeal.nD Cert.MixfRefIdeal.τ).loc Cert.MixfRefIdeal.main_arg3) = m' ((c.tc : Thread Cert.MixfRefIdeal.nD Cert.MixfRefIdeal.τ).loc Cert.MixfRefIdeal.main_arg3)
          ∧ r.2.mem ((c.tc : Thread Cert.MixfRefIdeal.nD Cert.MixfRefIdeal.τ).loc Cert.MixfRefIdeal.main_arg4) = m' ((c.tc : Thread Cert.MixfRefIdeal.nD Cert.MixfRefIdeal.τ).loc Cert.MixfRefIdeal.main_arg4)
          ∧ r.2.mem ((c.tc : Thread Cert.MixfRefIdeal.nD Cert.MixfRefIdeal.τ).loc Cert.MixfRefIdeal.main_arg5) = m' ((c.tc : Thread Cert.MixfRefIdeal.nD Cert.MixfRefIdeal.τ).loc Cert.MixfRefIdeal.main_arg5)
          ∧ r.2.mem ((c.tc : Thread Cert.MixfRefIdeal.nD Cert.MixfRefIdeal.τ).loc Cert.MixfRefIdeal.main_arg6) = m' ((c.tc : Thread Cert.MixfRefIdeal.nD Cert.MixfRefIdeal.τ).loc Cert.MixfRefIdeal.main_arg6)
          ∧ r.2.mem ((c.tc : Thread Cert.MixfRefIdeal.nD Cert.MixfRefIdeal.τ).loc Cert.MixfRefIdeal.main_arg7) = m' ((c.tc : Thread Cert.MixfRefIdeal.nD Cert.MixfRefIdeal.τ).loc Cert.MixfRefIdeal.main_arg7))

def preserves_Ffnf_FfnfIdeal : Prop :=
  True

def algebraic_FfnfIdeal_FfnfRefIdeal [hFfnfIdeal : Cert.FfnfIdeal.Facts] [hFfnfRefIdeal : Cert.FfnfRefIdeal.Facts] : Prop :=
  ∀ (m : (ℓ : Loc Cert.FfnfIdeal.nD Cert.FfnfIdeal.τ Cert.FfnfIdeal.sig) → Buf (Elt Ideal) ℓ) (g : Dev Cert.FfnfIdeal.nD → PrngReg)
    (m' : (ℓ : Loc Cert.FfnfRefIdeal.nD Cert.FfnfRefIdeal.τ Cert.FfnfRefIdeal.sig) → Buf (Elt Ideal) ℓ) (g' : Dev Cert.FfnfRefIdeal.nD → PrngReg), Pre_FfnfIdeal m →
    (∀ c : Dev Cert.FfnfIdeal.nD,
      m' ((c.tc : Thread Cert.FfnfRefIdeal.nD Cert.FfnfRefIdeal.τ).loc Cert.FfnfRefIdeal.main_arg0) = m ((c.tc : Thread Cert.FfnfIdeal.nD Cert.FfnfIdeal.τ).loc Cert.FfnfIdeal.main_arg0)
      ∧ m' ((c.tc : Thread Cert.FfnfRefIdeal.nD Cert.FfnfRefIdeal.τ).loc Cert.FfnfRefIdeal.main_arg1) = m ((c.tc : Thread Cert.FfnfIdeal.nD Cert.FfnfIdeal.τ).loc Cert.FfnfIdeal.main_arg1)
      ∧ m' ((c.tc : Thread Cert.FfnfRefIdeal.nD Cert.FfnfRefIdeal.τ).loc Cert.FfnfRefIdeal.main_arg2) = m ((c.tc : Thread Cert.FfnfIdeal.nD Cert.FfnfIdeal.τ).loc Cert.FfnfIdeal.main_arg2)
      ∧ m' ((c.tc : Thread Cert.FfnfRefIdeal.nD Cert.FfnfRefIdeal.τ).loc Cert.FfnfRefIdeal.main_arg3) = m ((c.tc : Thread Cert.FfnfIdeal.nD Cert.FfnfIdeal.τ).loc Cert.FfnfIdeal.main_arg3)
      ∧ m' ((c.tc : Thread Cert.FfnfRefIdeal.nD Cert.FfnfRefIdeal.τ).loc Cert.FfnfRefIdeal.main_arg4) = m ((c.tc : Thread Cert.FfnfIdeal.nD Cert.FfnfIdeal.τ).loc Cert.FfnfIdeal.main_arg4)) →
    ∃ (v0 : (c : Dev Cert.FfnfIdeal.nD) → Buf (Elt Ideal) ((c.tc : Thread Cert.FfnfIdeal.nD Cert.FfnfIdeal.τ).loc Cert.FfnfIdeal.main_v9_0)) (v1 : (c : Dev Cert.FfnfIdeal.nD) → Buf (Elt Ideal) ((c.tc : Thread Cert.FfnfIdeal.nD Cert.FfnfIdeal.τ).loc Cert.FfnfIdeal.main_v9_1)) (v2 : (c : Dev Cert.FfnfIdeal.nD) → Buf (Elt Ideal) ((c.tc : Thread Cert.FfnfIdeal.nD Cert.FfnfIdeal.τ).loc Cert.FfnfIdeal.main_v9_2)),
      θ_run (Cert.FfnfIdeal.defs (F := Ideal)) (onTc (τ := Cert.FfnfIdeal.τ) (Cert.FfnfIdeal.main (F := Ideal))) ⟨m, fun _ => 0, g⟩ (fun r => ∀ c : Dev Cert.FfnfIdeal.nD,
          r.2.mem ((c.tc : Thread Cert.FfnfIdeal.nD Cert.FfnfIdeal.τ).loc Cert.FfnfIdeal.main_v9_0) = v0 c
          ∧ r.2.mem ((c.tc : Thread Cert.FfnfIdeal.nD Cert.FfnfIdeal.τ).loc Cert.FfnfIdeal.main_v9_1) = v1 c
          ∧ r.2.mem ((c.tc : Thread Cert.FfnfIdeal.nD Cert.FfnfIdeal.τ).loc Cert.FfnfIdeal.main_v9_2) = v2 c
          ∧ r.2.mem ((c.tc : Thread Cert.FfnfIdeal.nD Cert.FfnfIdeal.τ).loc Cert.FfnfIdeal.main_arg0) = m ((c.tc : Thread Cert.FfnfIdeal.nD Cert.FfnfIdeal.τ).loc Cert.FfnfIdeal.main_arg0)
          ∧ r.2.mem ((c.tc : Thread Cert.FfnfIdeal.nD Cert.FfnfIdeal.τ).loc Cert.FfnfIdeal.main_arg1) = m ((c.tc : Thread Cert.FfnfIdeal.nD Cert.FfnfIdeal.τ).loc Cert.FfnfIdeal.main_arg1)
          ∧ r.2.mem ((c.tc : Thread Cert.FfnfIdeal.nD Cert.FfnfIdeal.τ).loc Cert.FfnfIdeal.main_arg2) = m ((c.tc : Thread Cert.FfnfIdeal.nD Cert.FfnfIdeal.τ).loc Cert.FfnfIdeal.main_arg2)
          ∧ r.2.mem ((c.tc : Thread Cert.FfnfIdeal.nD Cert.FfnfIdeal.τ).loc Cert.FfnfIdeal.main_arg3) = m ((c.tc : Thread Cert.FfnfIdeal.nD Cert.FfnfIdeal.τ).loc Cert.FfnfIdeal.main_arg3)
          ∧ r.2.mem ((c.tc : Thread Cert.FfnfIdeal.nD Cert.FfnfIdeal.τ).loc Cert.FfnfIdeal.main_arg4) = m ((c.tc : Thread Cert.FfnfIdeal.nD Cert.FfnfIdeal.τ).loc Cert.FfnfIdeal.main_arg4))
      ∧ θ_run (Cert.FfnfRefIdeal.defs (F := Ideal)) (onTc (τ := Cert.FfnfRefIdeal.τ) (Cert.FfnfRefIdeal.main (F := Ideal))) ⟨m', fun _ => 0, g'⟩ (fun r => ∀ c : Dev Cert.FfnfRefIdeal.nD,
          r.2.mem ((c.tc : Thread Cert.FfnfRefIdeal.nD Cert.FfnfRefIdeal.τ).loc Cert.FfnfRefIdeal.main_v7) = v0 c
          ∧ r.2.mem ((c.tc : Thread Cert.FfnfRefIdeal.nD Cert.FfnfRefIdeal.τ).loc Cert.FfnfRefIdeal.main_v11) = v1 c
          ∧ r.2.mem ((c.tc : Thread Cert.FfnfRefIdeal.nD Cert.FfnfRefIdeal.τ).loc Cert.FfnfRefIdeal.main_v15) = v2 c
          ∧ r.2.mem ((c.tc : Thread Cert.FfnfRefIdeal.nD Cert.FfnfRefIdeal.τ).loc Cert.FfnfRefIdeal.main_arg0) = m' ((c.tc : Thread Cert.FfnfRefIdeal.nD Cert.FfnfRefIdeal.τ).loc Cert.FfnfRefIdeal.main_arg0)
          ∧ r.2.mem ((c.tc : Thread Cert.FfnfRefIdeal.nD Cert.FfnfRefIdeal.τ).loc Cert.FfnfRefIdeal.main_arg1) = m' ((c.tc : Thread Cert.FfnfRefIdeal.nD Cert.FfnfRefIdeal.τ).loc Cert.FfnfRefIdeal.main_arg1)
          ∧ r.2.mem ((c.tc : Thread Cert.FfnfRefIdeal.nD Cert.FfnfRefIdeal.τ).loc Cert.FfnfRefIdeal.main_arg2) = m' ((c.tc : Thread Cert.FfnfRefIdeal.nD Cert.FfnfRefIdeal.τ).loc Cert.FfnfRefIdeal.main_arg2)
          ∧ r.2.mem ((c.tc : Thread Cert.FfnfRefIdeal.nD Cert.FfnfRefIdeal.τ).loc Cert.FfnfRefIdeal.main_arg3) = m' ((c.tc : Thread Cert.FfnfRefIdeal.nD Cert.FfnfRefIdeal.τ).loc Cert.FfnfRefIdeal.main_arg3)
          ∧ r.2.mem ((c.tc : Thread Cert.FfnfRefIdeal.nD Cert.FfnfRefIdeal.τ).loc Cert.FfnfRefIdeal.main_arg4) = m' ((c.tc : Thread Cert.FfnfRefIdeal.nD Cert.FfnfRefIdeal.τ).loc Cert.FfnfRefIdeal.main_arg4))

def preserves_Mlaf_MlafIdeal : Prop :=
  True

def algebraic_MlafIdeal_MlafRefIdeal_pre_finite_mlaf [hMlafIdeal : Cert.MlafIdeal.Facts] [hMlafRefIdeal : Cert.MlafRefIdeal.Facts] [hPre_finite_mlaf : Cert.Pre_finite_mlaf.Facts] : Prop :=
  ∀ (m : (ℓ : Loc Cert.MlafIdeal.nD Cert.MlafIdeal.τ Cert.MlafIdeal.sig) → Buf (Elt Ideal) ℓ) (g : Dev Cert.MlafIdeal.nD → PrngReg)
    (m' : (ℓ : Loc Cert.MlafRefIdeal.nD Cert.MlafRefIdeal.τ Cert.MlafRefIdeal.sig) → Buf (Elt Ideal) ℓ) (g' : Dev Cert.MlafRefIdeal.nD → PrngReg), Pre_MlafIdeal_finite_mlaf m →
    (∀ c : Dev Cert.MlafIdeal.nD,
      m' ((c.tc : Thread Cert.MlafRefIdeal.nD Cert.MlafRefIdeal.τ).loc Cert.MlafRefIdeal.main_arg0) = m ((c.tc : Thread Cert.MlafIdeal.nD Cert.MlafIdeal.τ).loc Cert.MlafIdeal.main_arg0)
      ∧ m' ((c.tc : Thread Cert.MlafRefIdeal.nD Cert.MlafRefIdeal.τ).loc Cert.MlafRefIdeal.main_arg1) = m ((c.tc : Thread Cert.MlafIdeal.nD Cert.MlafIdeal.τ).loc Cert.MlafIdeal.main_arg1)
      ∧ m' ((c.tc : Thread Cert.MlafRefIdeal.nD Cert.MlafRefIdeal.τ).loc Cert.MlafRefIdeal.main_arg2) = m ((c.tc : Thread Cert.MlafIdeal.nD Cert.MlafIdeal.τ).loc Cert.MlafIdeal.main_arg2)
      ∧ m' ((c.tc : Thread Cert.MlafRefIdeal.nD Cert.MlafRefIdeal.τ).loc Cert.MlafRefIdeal.main_arg3) = m ((c.tc : Thread Cert.MlafIdeal.nD Cert.MlafIdeal.τ).loc Cert.MlafIdeal.main_arg3)
      ∧ m' ((c.tc : Thread Cert.MlafRefIdeal.nD Cert.MlafRefIdeal.τ).loc Cert.MlafRefIdeal.main_arg4) = m ((c.tc : Thread Cert.MlafIdeal.nD Cert.MlafIdeal.τ).loc Cert.MlafIdeal.main_arg4)
      ∧ m' ((c.tc : Thread Cert.MlafRefIdeal.nD Cert.MlafRefIdeal.τ).loc Cert.MlafRefIdeal.main_arg5) = m ((c.tc : Thread Cert.MlafIdeal.nD Cert.MlafIdeal.τ).loc Cert.MlafIdeal.main_arg5)
      ∧ m' ((c.tc : Thread Cert.MlafRefIdeal.nD Cert.MlafRefIdeal.τ).loc Cert.MlafRefIdeal.main_arg6) = m ((c.tc : Thread Cert.MlafIdeal.nD Cert.MlafIdeal.τ).loc Cert.MlafIdeal.main_arg6)
      ∧ m' ((c.tc : Thread Cert.MlafRefIdeal.nD Cert.MlafRefIdeal.τ).loc Cert.MlafRefIdeal.main_arg7) = m ((c.tc : Thread Cert.MlafIdeal.nD Cert.MlafIdeal.τ).loc Cert.MlafIdeal.main_arg7)
      ∧ m' ((c.tc : Thread Cert.MlafRefIdeal.nD Cert.MlafRefIdeal.τ).loc Cert.MlafRefIdeal.main_arg8) = m ((c.tc : Thread Cert.MlafIdeal.nD Cert.MlafIdeal.τ).loc Cert.MlafIdeal.main_arg8)
      ∧ m' ((c.tc : Thread Cert.MlafRefIdeal.nD Cert.MlafRefIdeal.τ).loc Cert.MlafRefIdeal.main_arg9) = m ((c.tc : Thread Cert.MlafIdeal.nD Cert.MlafIdeal.τ).loc Cert.MlafIdeal.main_arg9)
      ∧ m' ((c.tc : Thread Cert.MlafRefIdeal.nD Cert.MlafRefIdeal.τ).loc Cert.MlafRefIdeal.main_arg10) = m ((c.tc : Thread Cert.MlafIdeal.nD Cert.MlafIdeal.τ).loc Cert.MlafIdeal.main_arg10)) →
    ∃ (v0 : (c : Dev Cert.MlafIdeal.nD) → Buf (Elt Ideal) ((c.tc : Thread Cert.MlafIdeal.nD Cert.MlafIdeal.τ).loc Cert.MlafIdeal.main_v45_0)) (v1 : (c : Dev Cert.MlafIdeal.nD) → Buf (Elt Ideal) ((c.tc : Thread Cert.MlafIdeal.nD Cert.MlafIdeal.τ).loc Cert.MlafIdeal.main_v45_1)) (v2 : (c : Dev Cert.MlafIdeal.nD) → Buf (Elt Ideal) ((c.tc : Thread Cert.MlafIdeal.nD Cert.MlafIdeal.τ).loc Cert.MlafIdeal.main_v45_2)),
      θ_run (Cert.MlafIdeal.defs (F := Ideal)) (onTc (τ := Cert.MlafIdeal.τ) (Cert.MlafIdeal.main (F := Ideal))) ⟨m, fun _ => 0, g⟩ (fun r => ∀ c : Dev Cert.MlafIdeal.nD,
          r.2.mem ((c.tc : Thread Cert.MlafIdeal.nD Cert.MlafIdeal.τ).loc Cert.MlafIdeal.main_v45_0) = v0 c
          ∧ r.2.mem ((c.tc : Thread Cert.MlafIdeal.nD Cert.MlafIdeal.τ).loc Cert.MlafIdeal.main_v45_1) = v1 c
          ∧ r.2.mem ((c.tc : Thread Cert.MlafIdeal.nD Cert.MlafIdeal.τ).loc Cert.MlafIdeal.main_v45_2) = v2 c
          ∧ r.2.mem ((c.tc : Thread Cert.MlafIdeal.nD Cert.MlafIdeal.τ).loc Cert.MlafIdeal.main_arg0) = m ((c.tc : Thread Cert.MlafIdeal.nD Cert.MlafIdeal.τ).loc Cert.MlafIdeal.main_arg0)
          ∧ r.2.mem ((c.tc : Thread Cert.MlafIdeal.nD Cert.MlafIdeal.τ).loc Cert.MlafIdeal.main_arg1) = m ((c.tc : Thread Cert.MlafIdeal.nD Cert.MlafIdeal.τ).loc Cert.MlafIdeal.main_arg1)
          ∧ r.2.mem ((c.tc : Thread Cert.MlafIdeal.nD Cert.MlafIdeal.τ).loc Cert.MlafIdeal.main_arg2) = m ((c.tc : Thread Cert.MlafIdeal.nD Cert.MlafIdeal.τ).loc Cert.MlafIdeal.main_arg2)
          ∧ r.2.mem ((c.tc : Thread Cert.MlafIdeal.nD Cert.MlafIdeal.τ).loc Cert.MlafIdeal.main_arg3) = m ((c.tc : Thread Cert.MlafIdeal.nD Cert.MlafIdeal.τ).loc Cert.MlafIdeal.main_arg3)
          ∧ r.2.mem ((c.tc : Thread Cert.MlafIdeal.nD Cert.MlafIdeal.τ).loc Cert.MlafIdeal.main_arg4) = m ((c.tc : Thread Cert.MlafIdeal.nD Cert.MlafIdeal.τ).loc Cert.MlafIdeal.main_arg4)
          ∧ r.2.mem ((c.tc : Thread Cert.MlafIdeal.nD Cert.MlafIdeal.τ).loc Cert.MlafIdeal.main_arg5) = m ((c.tc : Thread Cert.MlafIdeal.nD Cert.MlafIdeal.τ).loc Cert.MlafIdeal.main_arg5)
          ∧ r.2.mem ((c.tc : Thread Cert.MlafIdeal.nD Cert.MlafIdeal.τ).loc Cert.MlafIdeal.main_arg6) = m ((c.tc : Thread Cert.MlafIdeal.nD Cert.MlafIdeal.τ).loc Cert.MlafIdeal.main_arg6)
          ∧ r.2.mem ((c.tc : Thread Cert.MlafIdeal.nD Cert.MlafIdeal.τ).loc Cert.MlafIdeal.main_arg7) = m ((c.tc : Thread Cert.MlafIdeal.nD Cert.MlafIdeal.τ).loc Cert.MlafIdeal.main_arg7)
          ∧ r.2.mem ((c.tc : Thread Cert.MlafIdeal.nD Cert.MlafIdeal.τ).loc Cert.MlafIdeal.main_arg8) = m ((c.tc : Thread Cert.MlafIdeal.nD Cert.MlafIdeal.τ).loc Cert.MlafIdeal.main_arg8)
          ∧ r.2.mem ((c.tc : Thread Cert.MlafIdeal.nD Cert.MlafIdeal.τ).loc Cert.MlafIdeal.main_arg9) = m ((c.tc : Thread Cert.MlafIdeal.nD Cert.MlafIdeal.τ).loc Cert.MlafIdeal.main_arg9)
          ∧ r.2.mem ((c.tc : Thread Cert.MlafIdeal.nD Cert.MlafIdeal.τ).loc Cert.MlafIdeal.main_arg10) = m ((c.tc : Thread Cert.MlafIdeal.nD Cert.MlafIdeal.τ).loc Cert.MlafIdeal.main_arg10))
      ∧ θ_run (Cert.MlafRefIdeal.defs (F := Ideal)) (onTc (τ := Cert.MlafRefIdeal.τ) (Cert.MlafRefIdeal.main (F := Ideal))) ⟨m', fun _ => 0, g'⟩ (fun r => ∀ c : Dev Cert.MlafRefIdeal.nD,
          r.2.mem ((c.tc : Thread Cert.MlafRefIdeal.nD Cert.MlafRefIdeal.τ).loc Cert.MlafRefIdeal.main_v100) = v0 c
          ∧ r.2.mem ((c.tc : Thread Cert.MlafRefIdeal.nD Cert.MlafRefIdeal.τ).loc Cert.MlafRefIdeal.main_v102) = v1 c
          ∧ r.2.mem ((c.tc : Thread Cert.MlafRefIdeal.nD Cert.MlafRefIdeal.τ).loc Cert.MlafRefIdeal.main_v104) = v2 c
          ∧ r.2.mem ((c.tc : Thread Cert.MlafRefIdeal.nD Cert.MlafRefIdeal.τ).loc Cert.MlafRefIdeal.main_arg0) = m' ((c.tc : Thread Cert.MlafRefIdeal.nD Cert.MlafRefIdeal.τ).loc Cert.MlafRefIdeal.main_arg0)
          ∧ r.2.mem ((c.tc : Thread Cert.MlafRefIdeal.nD Cert.MlafRefIdeal.τ).loc Cert.MlafRefIdeal.main_arg1) = m' ((c.tc : Thread Cert.MlafRefIdeal.nD Cert.MlafRefIdeal.τ).loc Cert.MlafRefIdeal.main_arg1)
          ∧ r.2.mem ((c.tc : Thread Cert.MlafRefIdeal.nD Cert.MlafRefIdeal.τ).loc Cert.MlafRefIdeal.main_arg2) = m' ((c.tc : Thread Cert.MlafRefIdeal.nD Cert.MlafRefIdeal.τ).loc Cert.MlafRefIdeal.main_arg2)
          ∧ r.2.mem ((c.tc : Thread Cert.MlafRefIdeal.nD Cert.MlafRefIdeal.τ).loc Cert.MlafRefIdeal.main_arg3) = m' ((c.tc : Thread Cert.MlafRefIdeal.nD Cert.MlafRefIdeal.τ).loc Cert.MlafRefIdeal.main_arg3)
          ∧ r.2.mem ((c.tc : Thread Cert.MlafRefIdeal.nD Cert.MlafRefIdeal.τ).loc Cert.MlafRefIdeal.main_arg4) = m' ((c.tc : Thread Cert.MlafRefIdeal.nD Cert.MlafRefIdeal.τ).loc Cert.MlafRefIdeal.main_arg4)
          ∧ r.2.mem ((c.tc : Thread Cert.MlafRefIdeal.nD Cert.MlafRefIdeal.τ).loc Cert.MlafRefIdeal.main_arg5) = m' ((c.tc : Thread Cert.MlafRefIdeal.nD Cert.MlafRefIdeal.τ).loc Cert.MlafRefIdeal.main_arg5)
          ∧ r.2.mem ((c.tc : Thread Cert.MlafRefIdeal.nD Cert.MlafRefIdeal.τ).loc Cert.MlafRefIdeal.main_arg6) = m' ((c.tc : Thread Cert.MlafRefIdeal.nD Cert.MlafRefIdeal.τ).loc Cert.MlafRefIdeal.main_arg6)
          ∧ r.2.mem ((c.tc : Thread Cert.MlafRefIdeal.nD Cert.MlafRefIdeal.τ).loc Cert.MlafRefIdeal.main_arg7) = m' ((c.tc : Thread Cert.MlafRefIdeal.nD Cert.MlafRefIdeal.τ).loc Cert.MlafRefIdeal.main_arg7)
          ∧ r.2.mem ((c.tc : Thread Cert.MlafRefIdeal.nD Cert.MlafRefIdeal.τ).loc Cert.MlafRefIdeal.main_arg8) = m' ((c.tc : Thread Cert.MlafRefIdeal.nD Cert.MlafRefIdeal.τ).loc Cert.MlafRefIdeal.main_arg8)
          ∧ r.2.mem ((c.tc : Thread Cert.MlafRefIdeal.nD Cert.MlafRefIdeal.τ).loc Cert.MlafRefIdeal.main_arg9) = m' ((c.tc : Thread Cert.MlafRefIdeal.nD Cert.MlafRefIdeal.τ).loc Cert.MlafRefIdeal.main_arg9)
          ∧ r.2.mem ((c.tc : Thread Cert.MlafRefIdeal.nD Cert.MlafRefIdeal.τ).loc Cert.MlafRefIdeal.main_arg10) = m' ((c.tc : Thread Cert.MlafRefIdeal.nD Cert.MlafRefIdeal.τ).loc Cert.MlafRefIdeal.main_arg10))

def Claim : Prop :=
  ∃ (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hRms : Cert.Rms.Facts) (hRmsIdeal : Cert.RmsIdeal.Facts) (hRmsRefIdeal : Cert.RmsRefIdeal.Facts) (hPle : Cert.Ple.Facts) (hPleIdeal : Cert.PleIdeal.Facts) (hPleRefIdeal : Cert.PleRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hAttnf : Cert.Attnf.Facts) (hAttnfIdeal : Cert.AttnfIdeal.Facts) (hAttnfRefIdeal : Cert.AttnfRefIdeal.Facts) (hRmsf : Cert.Rmsf.Facts) (hRmsfIdeal : Cert.RmsfIdeal.Facts) (hRmsfRefIdeal : Cert.RmsfRefIdeal.Facts) (hPlef : Cert.Plef.Facts) (hPlefIdeal : Cert.PlefIdeal.Facts) (hPlefRefIdeal : Cert.PlefRefIdeal.Facts) (hMixf : Cert.Mixf.Facts) (hMixfIdeal : Cert.MixfIdeal.Facts) (hMixfRefIdeal : Cert.MixfRefIdeal.Facts) (hFfnf : Cert.Ffnf.Facts) (hFfnfIdeal : Cert.FfnfIdeal.Facts) (hFfnfRefIdeal : Cert.FfnfRefIdeal.Facts) (hMlaf : Cert.Mlaf.Facts) (hMlafIdeal : Cert.MlafIdeal.Facts) (hMlafRefIdeal : Cert.MlafRefIdeal.Facts) (hPre_finite_attn : Cert.Pre_finite_attn.Facts) (hPre_finite_ffn : Cert.Pre_finite_ffn.Facts) (hPre_finite_attnf : Cert.Pre_finite_attnf.Facts) (hPre_finite_mlaf : Cert.Pre_finite_mlaf.Facts),
    quiescent_Loss (hLoss := hLoss)
    ∧ quiescent_LossIdeal (hLossIdeal := hLossIdeal)
    ∧ quiescent_LossRefIdeal (hLossRefIdeal := hLossRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Rms (hRms := hRms)
    ∧ quiescent_RmsIdeal (hRmsIdeal := hRmsIdeal)
    ∧ quiescent_RmsRefIdeal (hRmsRefIdeal := hRmsRefIdeal)
    ∧ quiescent_Ple (hPle := hPle)
    ∧ quiescent_PleIdeal (hPleIdeal := hPleIdeal)
    ∧ quiescent_PleRefIdeal (hPleRefIdeal := hPleRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Mix (hMix := hMix)
    ∧ quiescent_MixIdeal (hMixIdeal := hMixIdeal)
    ∧ quiescent_MixRefIdeal (hMixRefIdeal := hMixRefIdeal)
    ∧ quiescent_Attnf (hAttnf := hAttnf)
    ∧ quiescent_AttnfIdeal (hAttnfIdeal := hAttnfIdeal)
    ∧ quiescent_AttnfIdeal_pre_finite_attnf (hAttnfIdeal := hAttnfIdeal) (hPre_finite_attnf := hPre_finite_attnf)
    ∧ quiescent_AttnfRefIdeal (hAttnfRefIdeal := hAttnfRefIdeal)
    ∧ quiescent_AttnfRefIdeal_pre_finite_attnf (hAttnfRefIdeal := hAttnfRefIdeal) (hPre_finite_attnf := hPre_finite_attnf)
    ∧ quiescent_Rmsf (hRmsf := hRmsf)
    ∧ quiescent_RmsfIdeal (hRmsfIdeal := hRmsfIdeal)
    ∧ quiescent_RmsfRefIdeal (hRmsfRefIdeal := hRmsfRefIdeal)
    ∧ quiescent_Plef (hPlef := hPlef)
    ∧ quiescent_PlefIdeal (hPlefIdeal := hPlefIdeal)
    ∧ quiescent_PlefRefIdeal (hPlefRefIdeal := hPlefRefIdeal)
    ∧ quiescent_Mixf (hMixf := hMixf)
    ∧ quiescent_MixfIdeal (hMixfIdeal := hMixfIdeal)
    ∧ quiescent_MixfRefIdeal (hMixfRefIdeal := hMixfRefIdeal)
    ∧ quiescent_Ffnf (hFfnf := hFfnf)
    ∧ quiescent_FfnfIdeal (hFfnfIdeal := hFfnfIdeal)
    ∧ quiescent_FfnfRefIdeal (hFfnfRefIdeal := hFfnfRefIdeal)
    ∧ quiescent_Mlaf (hMlaf := hMlaf)
    ∧ quiescent_MlafIdeal (hMlafIdeal := hMlafIdeal)
    ∧ quiescent_MlafIdeal_pre_finite_mlaf (hMlafIdeal := hMlafIdeal) (hPre_finite_mlaf := hPre_finite_mlaf)
    ∧ quiescent_MlafRefIdeal (hMlafRefIdeal := hMlafRefIdeal)
    ∧ quiescent_MlafRefIdeal_pre_finite_mlaf (hMlafRefIdeal := hMlafRefIdeal) (hPre_finite_mlaf := hPre_finite_mlaf)
    ∧ preserves_Loss_LossIdeal
    ∧ algebraic_LossIdeal_LossRefIdeal (hLossIdeal := hLossIdeal) (hLossRefIdeal := hLossRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Rms_RmsIdeal
    ∧ algebraic_RmsIdeal_RmsRefIdeal (hRmsIdeal := hRmsIdeal) (hRmsRefIdeal := hRmsRefIdeal)
    ∧ preserves_Ple_PleIdeal
    ∧ algebraic_PleIdeal_PleRefIdeal (hPleIdeal := hPleIdeal) (hPleRefIdeal := hPleRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Mix_MixIdeal
    ∧ algebraic_MixIdeal_MixRefIdeal (hMixIdeal := hMixIdeal) (hMixRefIdeal := hMixRefIdeal)
    ∧ preserves_Attnf_AttnfIdeal
    ∧ algebraic_AttnfIdeal_AttnfRefIdeal_pre_finite_attnf (hAttnfIdeal := hAttnfIdeal) (hAttnfRefIdeal := hAttnfRefIdeal) (hPre_finite_attnf := hPre_finite_attnf)
    ∧ preserves_Rmsf_RmsfIdeal
    ∧ algebraic_RmsfIdeal_RmsfRefIdeal (hRmsfIdeal := hRmsfIdeal) (hRmsfRefIdeal := hRmsfRefIdeal)
    ∧ preserves_Plef_PlefIdeal
    ∧ algebraic_PlefIdeal_PlefRefIdeal (hPlefIdeal := hPlefIdeal) (hPlefRefIdeal := hPlefRefIdeal)
    ∧ preserves_Mixf_MixfIdeal
    ∧ algebraic_MixfIdeal_MixfRefIdeal (hMixfIdeal := hMixfIdeal) (hMixfRefIdeal := hMixfRefIdeal)
    ∧ preserves_Ffnf_FfnfIdeal
    ∧ algebraic_FfnfIdeal_FfnfRefIdeal (hFfnfIdeal := hFfnfIdeal) (hFfnfRefIdeal := hFfnfRefIdeal)
    ∧ preserves_Mlaf_MlafIdeal
    ∧ algebraic_MlafIdeal_MlafRefIdeal_pre_finite_mlaf (hMlafIdeal := hMlafIdeal) (hMlafRefIdeal := hMlafRefIdeal) (hPre_finite_mlaf := hPre_finite_mlaf)
-- ==== Pre_finite_attn.lean ====
abbrev S4096x8x192 : Shape := ⟨3, ![4096, 8, 192]⟩
abbrev S4096x8x128 : Shape := ⟨3, ![4096, 8, 128]⟩
abbrev S4096x1024 : Shape := ⟨2, ![4096, 1024]⟩
abbrev S_ : Shape := ⟨0, ![]⟩

class Facts : Prop where
  bcast_S_S4096x8x192 : S_.BroadcastsInDim S4096x8x192 (![] : Fin 0 → Fin S4096x8x192.rank)
  bcast_S_S4096x8x128 : S_.BroadcastsInDim S4096x8x128 (![] : Fin 0 → Fin S4096x8x128.rank)
  bcast_S_S4096x1024 : S_.BroadcastsInDim S4096x1024 (![] : Fin 0 → Fin S4096x1024.rank)

variable [Facts]

def fn {F : FTy → Type} [FloatOps F] (main_arg0 : FVec F S4096x8x192 .f32) (main_arg1 : FVec F S4096x8x192 .f32) (main_arg2 : FVec F S4096x8x128 .f32) (main_arg3 : FVec F S4096x1024 .f32) : IVec S4096x8x192 1 × IVec S4096x8x192 1 × IVec S4096x8x128 1 × IVec S4096x1024 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_v3 : FVec F S4096x8x192 .f32 := Host.absf main_arg1
  let main_cst_0 : FVec F S_ .f32 := constant S_ .f32 0x7F800000#32
  let main_v4 : FVec F S4096x8x192 .f32 := broadcastInDim S4096x8x192 ![] bcast_S_S4096x8x192 main_cst_0
  let main_v5 : IVec S4096x8x192 1 := cmpf .olt main_v3 main_v4
  let main_v6 : FVec F S4096x8x128 .f32 := Host.absf main_arg2
  let main_cst_1 : FVec F S_ .f32 := constant S_ .f32 0x7F800000#32
  let main_v7 : FVec F S4096x8x128 .f32 := broadcastInDim S4096x8x128 ![] bcast_S_S4096x8x128 main_cst_1
  let main_v8 : IVec S4096x8x128 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_attnf.lean ====
abbrev S4096x8x192 : Shape := ⟨3, ![4096, 8, 192]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  bcast_S_S4096x8x128 : S_.BroadcastsInDim S4096x8x128 (![] : Fin 0 → Fin S4096x8x128.rank)

variable [Facts]

def fn {F : FTy → Type} [FloatOps F] (main_arg0 : FVec F S4096x8x192 .f32) (main_arg1 : FVec F S4096x8x192 .f32) (main_arg2 : FVec F S4096x8x128 .f32) : IVec S4096x8x192 1 × IVec S4096x8x192 1 × IVec S4096x8x128 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_v3 : FVec F S4096x8x192 .f32 := Host.absf main_arg1
  let main_cst_0 : FVec F S_ .f32 := constant S_ .f32 0x7F800000#32
  let main_v4 : FVec F S4096x8x192 .f32 := broadcastInDim S4096x8x192 ![] bcast_S_S4096x8x192 main_cst_0
  let main_v5 : IVec S4096x8x192 1 := cmpf .olt main_v3 main_v4
  let main_v6 : FVec F S4096x8x128 .f32 := Host.absf main_arg2
  let main_cst_1 : FVec F S_ .f32 := constant S_ .f32 0x7F800000#32
  let main_v7 : FVec F S4096x8x128 .f32 := broadcastInDim S4096x8x128 ![] bcast_S_S4096x8x128 main_cst_1
  let main_v8 : IVec S4096x8x128 1 := cmpf .olt main_v6 main_v7
  (main_v2, main_v5, main_v8)
-- ==== Pre_finite_ffn.lean ====
abbrev S4096x2048 : Shape := ⟨2, ![4096, 2048]⟩
abbrev S2048x5504 : Shape := ⟨2, ![2048, 5504]⟩
abbrev S5504x2048 : Shape := ⟨2, ![5504, 2048]⟩
abbrev S_ : Shape := ⟨0, ![]⟩

class Facts : Prop where
  bcast_S_S4096x2048 : S_.BroadcastsInDim S4096x2048 (![] : Fin 0 → Fin S4096x2048.rank)
  bcast_S_S2048x5504 : S_.BroadcastsInDim S2048x5504 (![] : Fin 0 → Fin S2048x5504.rank)
  bcast_S_S5504x2048 : S_.BroadcastsInDim S5504x2048 (![] : Fin 0 → Fin S5504x2048.rank)

variable [Facts]

def fn {F : FTy → Type} [FloatOps F] (main_arg0 : FVec F S4096x2048 .f32) (main_arg1 : FVec F S2048x5504 .f32) (main_arg2 : FVec F S2048x5504 .f32) (main_arg3 : FVec F S5504x2048 .f32) (main_arg4 : FVec F S4096x2048 .f32) : IVec S4096x2048 1 × IVec S2048x5504 1 × IVec S2048x5504 1 × IVec S5504x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048x5504 .f32 := Host.absf main_arg1
  let main_cst_0 : FVec F S_ .f32 := constant S_ .f32 0x7F800000#32
  let main_v4 : FVec F S2048x5504 .f32 := broadcastInDim S2048x5504 ![] bcast_S_S2048x5504 main_cst_0
  let main_v5 : IVec S2048x5504 1 := cmpf .olt main_v3 main_v4
  let main_v6 : FVec F S2048x5504 .f32 := Host.absf main_arg2
  let main_cst_1 : FVec F S_ .f32 := constant S_ .f32 0x7F800000#32
  let main_v7 : FVec F S2048x5504 .f32 := broadcastInDim S2048x5504 ![] bcast_S_S2048x5504 main_cst_1
  let main_v8 : IVec S2048x5504 1 := cmpf .olt main_v6 main_v7
  let main_v9 : FVec F S5504x2048 .f32 := Host.absf main_arg3
  let main_cst_2 : FVec F S_ .f32 := constant S_ .f32 0x7F800000#32
  let main_v10 : FVec F S5504x2048 .f32 := broadcastInDim S5504x2048 ![] bcast_S_S5504x2048 main_cst_2
  let main_v11 : IVec S5504x2048 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  (main_v2, main_v5, main_v8, main_v11, main_v14)
-- ==== Pre_finite_mlaf.lean ====
abbrev S4096x512 : Shape := ⟨2, ![4096, 512]⟩
abbrev S4096x256 : Shape := ⟨2, ![4096, 256]⟩
abbrev S4096x64 : Shape := ⟨2, ![4096, 64]⟩
abbrev S4096x32 : Shape := ⟨2, ![4096, 32]⟩
abbrev S512 : Shape := ⟨1, ![512]⟩
abbrev S256 : Shape := ⟨1, ![256]⟩
abbrev S192 : Shape := ⟨1, ![192]⟩
abbrev S512x1536 : Shape := ⟨2, ![512, 1536]⟩
abbrev S256x2048 : Shape := ⟨2, ![256, 2048]⟩
abbrev S_ : Shape := ⟨0, ![]⟩

class Facts : Prop where
  bcast_S_S4096x512 : S_.BroadcastsInDim S4096x512 (![] : Fin 0 → Fin S4096x512.rank)
  bcast_S_S4096x256 : S_.BroadcastsInDim S4096x256 (![] : Fin 0 → Fin S4096x256.rank)
  bcast_S_S4096x64 : S_.BroadcastsInDim S4096x64 (![] : Fin 0 → Fin S4096x64.rank)
  bcast_S_S512 : S_.BroadcastsInDim S512 (![] : Fin 0 → Fin S512.rank)
  bcast_S_S256 : S_.BroadcastsInDim S256 (![] : Fin 0 → Fin S256.rank)
  bcast_S_S192 : S_.BroadcastsInDim S192 (![] : Fin 0 → Fin S192.rank)
  bcast_S_S512x1536 : S_.BroadcastsInDim S512x1536 (![] : Fin 0 → Fin S512x1536.rank)
  bcast_S_S256x2048 : S_.BroadcastsInDim S256x2048 (![] : Fin 0 → Fin S256x2048.rank)

variable [Facts]

def fn_part1 {F : FTy → Type} [FloatOps F] (main_arg8 : FVec F S192 .f32) (main_arg9 : FVec F S512x1536 .f32) (main_arg10 : FVec F S256x2048 .f32) (main_v2 : IVec S4096x512 1) (main_v5 : IVec S4096x256 1) (main_v8 : IVec S4096x64 1) (main_v11 : IVec S512 1) (main_v14 : IVec S256 1) (main_v17 : IVec S192 1) : IVec S4096x512 1 × IVec S4096x256 1 × IVec S4096x64 1 × IVec S512 1 × IVec S256 1 × IVec S192 1 × IVec S192 1 × IVec S512x1536 1 × IVec S256x2048 1 :=
  let main_v18 : FVec F S192 .f32 := Host.absf main_arg8
  let main_cst_5 : FVec F S_ .f32 := constant S_ .f32 0x7F800000#32
  let main_v19 : FVec F S192 .f32 := broadcastInDim S192 ![] bcast_S_S192 main_cst_5
  let main_v20 : IVec S192 1 := cmpf .olt main_v18 main_v19
  let main_v21 : FVec F S512x1536 .f32 := Host.absf main_arg9
  let main_cst_6 : FVec F S_ .f32 := constant S_ .f32 0x7F800000#32
  let main_v22 : FVec F S512x1536 .f32 := broadcastInDim S512x1536 ![] bcast_S_S512x1536 main_cst_6
  let main_v23 : IVec S512x1536 1 := cmpf .olt main_v21 main_v22
  let main_v24 : FVec F S256x2048 .f32 := Host.absf main_arg10
  let main_cst_7 : FVec F S_ .f32 := constant S_ .f32 0x7F800000#32
  let main_v25 : FVec F S256x2048 .f32 := broadcastInDim S256x2048 ![] bcast_S_S256x2048 main_cst_7
  let main_v26 : IVec S256x2048 1 := cmpf .olt main_v24 main_v25
  (main_v2, main_v5, main_v8, main_v11, main_v14, main_v17, main_v20, main_v23, main_v26)

def fn {F : FTy → Type} [FloatOps F] (main_arg0 : FVec F S4096x512 .f32) (main_arg1 : FVec F S4096x256 .f32) (main_arg2 : FVec F S4096x64 .f32) (main_arg3 : FVec F S4096x32 .f32) (main_arg4 : FVec F S4096x32 .f32) (main_arg5 : FVec F S512 .f32) (main_arg6 : FVec F S256 .f32) (main_arg7 : FVec F S192 .f32) (main_arg8 : FVec F S192 .f32) (main_arg9 : FVec F S512x1536 .f32) (main_arg10 : FVec F S256x2048 .f32) : IVec S4096x512 1 × IVec S4096x256 1 × IVec S4096x64 1 × IVec S512 1 × IVec S256 1 × IVec S192 1 × IVec S192 1 × IVec S512x1536 1 × IVec S256x2048 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S4096x64 .f32 := Host.absf main_arg2
  let main_cst_1 : FVec F S_ .f32 := constant S_ .f32 0x7F800000#32
  let main_v7 : FVec F S4096x64 .f32 := broadcastInDim S4096x64 ![] bcast_S_S4096x64 main_cst_1
  let main_v8 : IVec S4096x64 1 := cmpf .olt main_v6 main_v7
  let main_v9 : FVec F S512 .f32 := Host.absf main_arg5
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S256 .f32 := Host.absf main_arg6
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S192 .f32 := Host.absf main_arg7
  let main_cst_4 : FVec F S_ .f32 := constant S_ .f32 0x7F800000#32
  let main_v16 : FVec F S192 .f32 := broadcastInDim S192 ![] bcast_S_S192 main_cst_4
  let main_v17 : IVec S192 1 := cmpf .olt main_v15 main_v16
  fn_part1 (F := F) main_arg8 main_arg9 main_arg10 main_v2 main_v5 main_v8 main_v11 main_v14 main_v17
-- ==== Loss.lean ====
abbrev S4096x2048 : Shape := ⟨2, ![4096, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Attn.lean ====
abbrev S4096x8x192 : Shape := ⟨3, ![4096, 8, 192]⟩
abbrev S4096x8x128 : Shape := ⟨3, ![4096, 8, 128]⟩
abbrev S4096x1024 : Shape := ⟨2, ![4096, 1024]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S8x4096x128 : Shape := ⟨3, ![8, 4096, 128]⟩
abbrev S1x1024x192 : Shape := ⟨3, ![1, 1024, 192]⟩
abbrev S1x1024x128 : Shape := ⟨3, ![1, 1024, 128]⟩
abbrev S1024x128 : Shape := ⟨2, ![1024, 128]⟩
abbrev S1x1024x1 : Shape := ⟨3, ![1, 1024, 1]⟩
abbrev S1x4096x192 : Shape := ⟨3, ![1, 4096, 192]⟩
abbrev S1024x192 : Shape := ⟨2, ![1024, 192]⟩
abbrev S4096x192 : Shape := ⟨2, ![4096, 192]⟩
abbrev S1x512x192 : Shape := ⟨3, ![1, 512, 192]⟩
abbrev S512x192 : Shape := ⟨2, ![512, 192]⟩
abbrev S512x128 : Shape := ⟨2, ![512, 128]⟩
abbrev S512x1024 : Shape := ⟨2, ![512, 1024]⟩
abbrev S1x512x1 : Shape := ⟨3, ![1, 512, 1]⟩
abbrev S512x1 : Shape := ⟨2, ![512, 1]⟩
abbrev S512 : Shape := ⟨1, ![512]⟩
abbrev S512x512 : Shape := ⟨2, ![512, 512]⟩
abbrev S1x512x128 : Shape := ⟨3, ![1, 512, 128]⟩

abbrev nBuf : Space → Nat
  | .hbm => 52
  | .vmem => 20
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x1024, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S1x4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x128x4096, .f32⟩
  | .hbm, ⟨33, _⟩ => ⟨S4096x8x128, .f32⟩
  | .hbm, ⟨34, _⟩ => ⟨S4096x1024, .f32⟩
  | .hbm, ⟨35, _⟩ => ⟨S_, .f32⟩
  | .hbm, ⟨36, _⟩ => ⟨S4096x8x192, .f32⟩
  | .hbm, ⟨37, _⟩ => ⟨S4096x8x192, .f32⟩
  | .hbm, ⟨38, _⟩ => ⟨S4096x8x192, .bf16⟩
  | .hbm, ⟨39, _⟩ => ⟨S8x4096x192, .bf16⟩
  | .hbm, ⟨40, _⟩ => ⟨S4096x8x192, .bf16⟩
  | .hbm, ⟨41, _⟩ => ⟨S8x4096x192, .bf16⟩
  | .hbm, ⟨42, _⟩ => ⟨S4096x8x128, .bf16⟩
  | .hbm, ⟨43, _⟩ => ⟨S8x4096x128, .bf16⟩
  | .hbm, ⟨44, _⟩ => ⟨S8x4096x1, .f32⟩
  | .hbm, ⟨45, _⟩ => ⟨S8x4096x1, .f32⟩
  | .hbm, ⟨46, _⟩ => ⟨S8x4096x192, .f32⟩
  | .hbm, ⟨47, _⟩ => ⟨S8x4096x192, .f32⟩
  | .hbm, ⟨48, _⟩ => ⟨S8x4096x128, .f32⟩
  | .hbm, ⟨49, _⟩ => ⟨S_, .f32⟩
  | .hbm, ⟨50, _⟩ => ⟨S8x4096x192, .f32⟩
  | .hbm, ⟨51, _⟩ => ⟨S8x4096x192, .f32⟩
  | .local _ .vmem, ⟨0, _⟩ => ⟨S1x1024x192, .bf16⟩
  | .local _ .vmem, ⟨1, _⟩ => ⟨S1x1024x192, .bf16⟩
  | .local _ .vmem, ⟨2, _⟩ => ⟨S1x1024x192, .bf16⟩
  | .local _ .vmem, ⟨3, _⟩ => ⟨S1x1024x192, .bf16⟩
  | .local _ .vmem, ⟨4, _⟩ => ⟨S1x1024x128, .bf16⟩
  | .local _ .vmem, ⟨5, _⟩ => ⟨S1x1024x128, .bf16⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1024x128, .f32⟩
  | .local _ .vmem, ⟨11, _⟩ => ⟨S1024x128, .f32⟩
  | .local _ .vmem, ⟨12, _⟩ => ⟨S1x4096x192, .f32⟩
  | .local _ .vmem, ⟨13, _⟩ => ⟨S1x4096x192, .f32⟩
  | .local _ .vmem, ⟨14, _⟩ => ⟨S1x1024x192, .f32⟩
  | .local _ .vmem, ⟨15, _⟩ => ⟨S1x1024x192, .f32⟩
  | .local _ .vmem, ⟨16, _⟩ => ⟨S1x1024x128, .f32⟩
  | .local _ .vmem, ⟨17, _⟩ => ⟨S1x1024x128, .f32⟩
  | .local _ .vmem, ⟨18, _⟩ => ⟨S1024x192, .f32⟩
  | .local _ .vmem, ⟨19, _⟩ => ⟨S1024x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c1024_i32 : BitVec 32 := 1024#32
  let v48 : BitVec 32 := Scalar.muli arg2 c1024_i32
  let c0_i32_29 : BitVec 32 := 0#32
  let v49 : BitVec 32 := Scalar.addi v48 c0_i32_29
  v49
def k0_off1 (i : grid0.Coords) (c0_i32_29 : BitVec 32) : Fin 3 → Nat :=
  let c0_30 : Index := 0#32
  let arg2 : BitVec 32 := BitVec.ofNat 32 (i 2).val
  let c1024_i32 : BitVec 32 := 1024#32
  let v48 : BitVec 32 := Scalar.muli arg2 c1024_i32
  let v49 : BitVec 32 := Scalar.addi v48 c0_i32_29
  let v50 : BitVec 32 := v49
  let v51 : Index := Scalar.indexCast v50
  let c0_31 : Index := 0#32
  ![0, v51.toNat, 0]
def k0_mult2 (i : grid0.Coords) : BitVec 32 :=
  let arg2 : BitVec 32 := BitVec.ofNat 32 (i 2).val
  let c1024_i32_63 : BitVec 32 := 1024#32
  let v97 : BitVec 32 := Scalar.muli arg2 c1024_i32_63
  let c512_i32 : BitVec 32 := 512#32
  let v98 : BitVec 32 := Scalar.addi v97 c512_i32
  v98
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult3 (i : grid0.Coords) : BitVec 32 :=
  let arg2 : BitVec 32 := BitVec.ofNat 32 (i 2).val
  let c1024_i32 : BitVec 32 := 1024#32
  let v55 : BitVec 32 := Scalar.muli arg2 c1024_i32
  let c0_i32_31 : BitVec 32 := 0#32
  let v56 : BitVec 32 := Scalar.addi v55 c0_i32_31
  v56
def k0_off2 (i : grid0.Coords) (c0_i32_31 : BitVec 32) : Fin 3 → Nat :=
  let c0_32 : Index := 0#32
  let arg2 : BitVec 32 := BitVec.ofNat 32 (i 2).val
  let c1024_i32 : BitVec 32 := 1024#32
  let v55 : BitVec 32 := Scalar.muli arg2 c1024_i32
  let v56 : BitVec 32 := Scalar.addi v55 c0_i32_31
  let v57 : BitVec 32 := v56
  let v58 : Index := Scalar.indexCast v57
  let c0_33 : Index := 0#32
  ![0, v58.toNat, 0]
def k0_mult4 (i : grid0.Coords) : BitVec 32 :=
  let arg2 : BitVec 32 := BitVec.ofNat 32 (i 2).val
  let c1024_i32_66 : BitVec 32 := 1024#32
  let v111 : BitVec 32 := Scalar.muli arg2 c1024_i32_66
  let c512_i32_67 : BitVec 32 := 512#32
  let v112 : BitVec 32 := Scalar.addi v111 c512_i32_67
  v112
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4096x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== AttnRefIdeal.lean ====
abbrev S4096x8x192 : Shape := ⟨3, ![4096, 8, 192]⟩
abbrev S4096x8x128 : Shape := ⟨3, ![4096, 8, 128]⟩
abbrev S4096x1024 : Shape := ⟨2, ![4096, 1024]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S8x4096x128 : Shape := ⟨3, ![8, 4096, 128]⟩

abbrev nBuf : Space → Nat
  | .hbm => 95
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x1024, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S1x4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .i1⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x128x4096, .f32⟩
  | .hbm, ⟨62, _⟩ => ⟨S4096x8x128, .f32⟩
  | .hbm, ⟨63, _⟩ => ⟨S4096x8x128, .f32⟩
  | .hbm, ⟨64, _⟩ => ⟨S8x128x4096, .f32⟩
  | .hbm, ⟨65, _⟩ => ⟨S8x4096x4096, .f32⟩
  | .hbm, ⟨66, _⟩ => ⟨S8x128x4096, .f32⟩
  | .hbm, ⟨67, _⟩ => ⟨S4096x8x128, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S8x4096x1, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096x4096, .f32⟩
  | .hbm, ⟨87, _⟩ => ⟨S8x4096x4096, .f32⟩
  | .hbm, ⟨88, _⟩ => ⟨S8x4096x192, .f32⟩
  | .hbm, ⟨89, _⟩ => ⟨S4096x8x192, .f32⟩
  | .hbm, ⟨90, _⟩ => ⟨S8x4096x192, .f32⟩
  | .hbm, ⟨91, _⟩ => ⟨S4096x8x192, .f32⟩
  | .hbm, ⟨92, _⟩ => ⟨S8x4096x192, .f32⟩
  | .hbm, ⟨93, _⟩ => ⟨S8x4096x192, .f32⟩
  | .hbm, ⟨94, _⟩ => ⟨S8x4096x128, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Rms.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Ple.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .bf16⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PleRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S4096x2048, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x2048, .f32⟩
  | .hbm, ⟨52, _⟩ => ⟨S4096x2048, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .bf16⟩
  | .hbm, ⟨66, _⟩ => ⟨S4096x2048, .bf16⟩
  | .hbm, ⟨67, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Ffn.lean ====
abbrev S4096x2048 : Shape := ⟨2, ![4096, 2048]⟩
abbrev S2048x5504 : Shape := ⟨2, ![2048, 5504]⟩
abbrev S5504x2048 : Shape := ⟨2, ![5504, 2048]⟩
abbrev S2048x8x688 : Shape := ⟨3, ![2048, 8, 688]⟩
abbrev S8x2048x688 : Shape := ⟨3, ![8, 2048, 688]⟩
abbrev S8x688x2048 : Shape := ⟨3, ![8, 688, 2048]⟩
abbrev S8x688x4096 : Shape := ⟨3, ![8, 688, 4096]⟩
abbrev S8x4096x688 : Shape := ⟨3, ![8, 4096, 688]⟩
abbrev S512x2048 : Shape := ⟨2, ![512, 2048]⟩
abbrev S1x512x688 : Shape := ⟨3, ![1, 512, 688]⟩
abbrev S1x2048x688 : Shape := ⟨3, ![1, 2048, 688]⟩
abbrev S1x688x2048 : Shape := ⟨3, ![1, 688, 2048]⟩
abbrev S256x2048 : Shape := ⟨2, ![256, 2048]⟩
abbrev S688x2048 : Shape := ⟨2, ![688, 2048]⟩
abbrev S256x688 : Shape := ⟨2, ![256, 688]⟩
abbrev S1x256x688 : Shape := ⟨3, ![1, 256, 688]⟩
abbrev S2048x688 : Shape := ⟨2, ![2048, 688]⟩

abbrev nBuf : Space → Nat
  | .hbm => 25
  | .vmem => 23
  | .smem => 0
  | _ => 0

abbrev bufTy : (tb : Table) → Fin (tcTables nBuf tb) → BufTy
  | .hbm, ⟨0, _⟩ => ⟨S4096x2048, .f32⟩
  | .hbm, ⟨1, _⟩ => ⟨S2048x5504, .f32⟩
  | .hbm, ⟨2, _⟩ => ⟨S2048x5504, .f32⟩
  | .hbm, ⟨3, _⟩ => ⟨S5504x2048, .f32⟩
  | .hbm, ⟨4, _⟩ => ⟨S4096x2048, .f32⟩
  | .hbm, ⟨5, _⟩ => ⟨S2048x8x688, .f32⟩
  | .hbm, ⟨6, _⟩ => ⟨S8x2048x688, .f32⟩
  | .hbm, ⟨7, _⟩ => ⟨S8x2048x688, .bf16⟩
  | .hbm, ⟨8, _⟩ => ⟨S2048x8x688, .f32⟩
  | .hbm, ⟨9, _⟩ => ⟨S8x2048x688, .f32⟩
  | .hbm, ⟨10, _⟩ => ⟨S8x2048x688, .bf16⟩
  | .hbm, ⟨11, _⟩ => ⟨S8x688x2048, .f32⟩
  | .hbm, ⟨12, _⟩ => ⟨S8x688x2048, .bf16⟩
  | .hbm, ⟨13, _⟩ => ⟨S4096x2048, .bf16⟩
  | .hbm, ⟨14, _⟩ => ⟨S8x688x4096, .f32⟩
  | .hbm, ⟨15, _⟩ => ⟨S8x4096x688, .f32⟩
  | .hbm, ⟨16, _⟩ => ⟨S8x4096x688, .bf16⟩
  | .hbm, ⟨17, _⟩ => ⟨S8x688x4096, .f32⟩
  | .hbm, ⟨18, _⟩ => ⟨S8x4096x688, .f32⟩
  | .hbm, ⟨19, _⟩ => ⟨S8x4096x688, .bf16⟩
  | .hbm, ⟨20, _⟩ => ⟨S4096x2048, .f32⟩
  | .hbm, ⟨21, _⟩ => ⟨S4096x2048, .bf16⟩
  | .hbm, ⟨22, _⟩ => ⟨S8x4096x688, .bf16⟩
  | .hbm, ⟨23, _⟩ => ⟨S8x4096x688, .bf16⟩
  | .hbm, ⟨24, _⟩ => ⟨S8x4096x688, .bf16⟩
  | .local _ .vmem, ⟨0, _⟩ => ⟨S512x2048, .f32⟩
  | .local _ .vmem, ⟨1, _⟩ => ⟨S512x2048, .f32⟩
  | .local _ .vmem, ⟨2, _⟩ => ⟨S1x512x688, .bf16⟩
  | .local _ .vmem, ⟨3, _⟩ => ⟨S1x512x688, .bf16⟩
  | .local _ .vmem, ⟨4, _⟩ => ⟨S1x512x688, .bf16⟩
  | .local _ .vmem, ⟨5, _⟩ => ⟨S1x512x688, .bf16⟩
  | .local _ .vmem, ⟨6, _⟩ => ⟨S1x2048x688, .bf16⟩
  | .local _ .vmem, ⟨7, _⟩ => ⟨S1x2048x688, .bf16⟩
  | .local _ .vmem, ⟨8, _⟩ => ⟨S1x2048x688, .bf16⟩
  | .local _ .vmem, ⟨9, _⟩ => ⟨S1x2048x688, .bf16⟩
  | .local _ .vmem, ⟨10, _⟩ => ⟨S1x688x2048, .bf16⟩
  | .local _ .vmem, ⟨11, _⟩ => ⟨S1x688x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S1x512x688, .bf16⟩
  | .local _ .vmem, ⟨17, _⟩ => ⟨S1x512x688, .bf16⟩
  | .local _ .vmem, ⟨18, _⟩ => ⟨S1x512x688, .bf16⟩
  | .local _ .vmem, ⟨19, _⟩ => ⟨S1x512x688, .bf16⟩
  | .local _ .vmem, ⟨20, _⟩ => ⟨S1x512x688, .bf16⟩
  | .local _ .vmem, ⟨21, _⟩ => ⟨S1x512x688, .bf16⟩
  | .local _ .vmem, ⟨22, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v101 : BitVec 1 := Scalar.cmpi .eq arg1 c7_i32
  let v102 : BitVec 32 := Scalar.extui v101
  let c0_i32_70 : BitVec 32 := 0#32
  let v103 : BitVec 1 := Scalar.cmpi .ne v102 c0_i32_70
  v103

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x688x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x688 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x688 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x688 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnRefIdeal.lean ====
abbrev S4096x2048 : Shape := ⟨2, ![4096, 2048]⟩
abbrev S2048x5504 : Shape := ⟨2, ![2048, 5504]⟩
abbrev S5504x2048 : Shape := ⟨2, ![5504, 2048]⟩
abbrev S4096x5504 : Shape := ⟨2, ![4096, 5504]⟩
abbrev S_ : Shape := ⟨0, ![]⟩
abbrev S4096x8x688 : Shape := ⟨3, ![4096, 8, 688]⟩
abbrev S8x4096x688 : Shape := ⟨3, ![8, 4096, 688]⟩

abbrev nBuf : Space → Nat
  | .hbm => 88
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5504, .f32⟩
  | .hbm, ⟨2, _⟩ => ⟨S2048x5504, .f32⟩
  | .hbm, ⟨3, _⟩ => ⟨S5504x2048, .f32⟩
  | .hbm, ⟨4, _⟩ => ⟨S4096x2048, .f32⟩
  | .hbm, ⟨5, _⟩ => ⟨S4096x5504, .f32⟩
  | .hbm, ⟨6, _⟩ => ⟨S4096x5504, .f32⟩
  | .hbm, ⟨7, _⟩ => ⟨S4096x5504, .f32⟩
  | .hbm, ⟨8, _⟩ => ⟨S4096x5504, .f32⟩
  | .hbm, ⟨9, _⟩ => ⟨S_, .f32⟩
  | .hbm, ⟨10, _⟩ => ⟨S4096x5504, .f32⟩
  | .hbm, ⟨11, _⟩ => ⟨S4096x5504, .f32⟩
  | .hbm, ⟨12, _⟩ => ⟨S_, .f32⟩
  | .hbm, ⟨13, _⟩ => ⟨S4096x5504, .f32⟩
  | .hbm, ⟨14, _⟩ => ⟨S4096x5504, .f32⟩
  | .hbm, ⟨15, _⟩ => ⟨S_, .f32⟩
  | .hbm, ⟨16, _⟩ => ⟨S4096x5504, .f32⟩
  | .hbm, ⟨17, _⟩ => ⟨S4096x5504, .f32⟩
  | .hbm, ⟨18, _⟩ => ⟨S4096x5504, .f32⟩
  | .hbm, ⟨19, _⟩ => ⟨S4096x5504, .f32⟩
  | .hbm, ⟨20, _⟩ => ⟨S4096x5504, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x5504, .f32⟩
  | .hbm, ⟨29, _⟩ => ⟨S4096x5504, .f32⟩
  | .hbm, ⟨30, _⟩ => ⟨S4096x5504, .f32⟩
  | .hbm, ⟨31, _⟩ => ⟨S4096x5504, .f32⟩
  | .hbm, ⟨32, _⟩ => ⟨S4096x5504, .f32⟩
  | .hbm, ⟨33, _⟩ => ⟨S4096x5504, .f32⟩
  | .hbm, ⟨34, _⟩ => ⟨S4096x5504, .f32⟩
  | .hbm, ⟨35, _⟩ => ⟨S4096x5504, .f32⟩
  | .hbm, ⟨36, _⟩ => ⟨S4096x5504, .f32⟩
  | .hbm, ⟨37, _⟩ => ⟨S4096x5504, .f32⟩
  | .hbm, ⟨38, _⟩ => ⟨S_, .f32⟩
  | .hbm, ⟨39, _⟩ => ⟨S4096x5504, .f32⟩
  | .hbm, ⟨40, _⟩ => ⟨S4096x5504, .f32⟩
  | .hbm, ⟨41, _⟩ => ⟨S_, .f32⟩
  | .hbm, ⟨42, _⟩ => ⟨S4096x5504, .f32⟩
  | .hbm, ⟨43, _⟩ => ⟨S4096x5504, .f32⟩
  | .hbm, ⟨44, _⟩ => ⟨S_, .f32⟩
  | .hbm, ⟨45, _⟩ => ⟨S4096x5504, .f32⟩
  | .hbm, ⟨46, _⟩ => ⟨S4096x5504, .f32⟩
  | .hbm, ⟨47, _⟩ => ⟨S4096x5504, .f32⟩
  | .hbm, ⟨48, _⟩ => ⟨S4096x5504, .f32⟩
  | .hbm, ⟨49, _⟩ => ⟨S4096x5504, .f32⟩
  | .hbm, ⟨50, _⟩ => ⟨S4096x5504, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S4096x5504, .f32⟩
  | .hbm, ⟨59, _⟩ => ⟨S4096x5504, .f32⟩
  | .hbm, ⟨60, _⟩ => ⟨S4096x5504, .f32⟩
  | .hbm, ⟨61, _⟩ => ⟨S4096x2048, .f32⟩
  | .hbm, ⟨62, _⟩ => ⟨S4096x5504, .f32⟩
  | .hbm, ⟨63, _⟩ => ⟨S4096x5504, .f32⟩
  | .hbm, ⟨64, _⟩ => ⟨S4096x5504, .f32⟩
  | .hbm, ⟨65, _⟩ => ⟨S4096x5504, .f32⟩
  | .hbm, ⟨66, _⟩ => ⟨S4096x2048, .f32⟩
  | .hbm, ⟨67, _⟩ => ⟨S4096x2048, .f32⟩
  | .hbm, ⟨68, _⟩ => ⟨S4096x2048, .bf16⟩
  | .hbm, ⟨69, _⟩ => ⟨S4096x8x688, .f32⟩
  | .hbm, ⟨70, _⟩ => ⟨S8x4096x688, .f32⟩
  | .hbm, ⟨71, _⟩ => ⟨S8x4096x688, .bf16⟩
  | .hbm, ⟨72, _⟩ => ⟨S4096x8x688, .f32⟩
  | .hbm, ⟨73, _⟩ => ⟨S8x4096x688, .f32⟩
  | .hbm, ⟨74, _⟩ => ⟨S8x4096x688, .bf16⟩
  | .hbm, ⟨75, _⟩ => ⟨S4096x5504, .f32⟩
  | .hbm, ⟨76, _⟩ => ⟨S4096x5504, .f32⟩
  | .hbm, ⟨77, _⟩ => ⟨S_, .f32⟩
  | .hbm, ⟨78, _⟩ => ⟨S4096x5504, .f32⟩
  | .hbm, ⟨79, _⟩ => ⟨S4096x5504, .f32⟩
  | .hbm, ⟨80, _⟩ => ⟨S_, .f32⟩
  | .hbm, ⟨81, _⟩ => ⟨S4096x5504, .f32⟩
  | .hbm, ⟨82, _⟩ => ⟨S4096x5504, .f32⟩
  | .hbm, ⟨83, _⟩ => ⟨S4096x5504, .f32⟩
  | .hbm, ⟨84, _⟩ => ⟨S4096x5504, .f32⟩
  | .hbm, ⟨85, _⟩ => ⟨S4096x8x688, .f32⟩
  | .hbm, ⟨86, _⟩ => ⟨S8x4096x688, .f32⟩
  | .hbm, ⟨87, _⟩ => ⟨S8x4096x688, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_v14_2 : Ref sig .tc := ⟨.hbm, 43, rfl⟩
abbrev main_call2_cst_1 : Ref sig .tc := ⟨.hbm, 44, rfl⟩
abbrev main_call2_v6 : Ref sig .tc := ⟨.hbm, 45, rfl⟩
abbrev main_call2_v7 : Ref sig .tc := ⟨.hbm, 46, rfl⟩
abbrev main_v14_1 : Ref sig .tc := ⟨.hbm, 47, rfl⟩
abbrev main_v14_0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_1 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call4_v0 : Ref sig .tc := ⟨.hbm, 75, rfl⟩
abbrev main_call4_v1 : Ref sig .tc := ⟨.hbm, 76, rfl⟩
abbrev main_call4_cst : Ref sig .tc := ⟨.hbm, 77, rfl⟩
abbrev main_call4_v2 : Ref sig .tc := ⟨.hbm, 78, rfl⟩
abbrev main_call4_v3 : Ref sig .tc := ⟨.hbm, 79, rfl⟩
abbrev main_call4_cst_0 : Ref sig .tc := ⟨.hbm, 80, rfl⟩
abbrev main_call4_v4 : Ref sig .tc := ⟨.hbm, 81, rfl⟩
abbrev main_call4_v5 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩

abbrev nD : Nat := 1
abbrev τ : Topo := Topo.v7x

variable {F : FTy → Type} [FloatOps F]
-- ==== Mix.lean ====
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S4096x2048 : Shape := ⟨2, ![4096, 2048]⟩
abbrev S1x1024 : Shape := ⟨2, ![1, 1024]⟩
abbrev S128x8 : Shape := ⟨2, ![128, 8]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x1024 : Shape := ⟨2, ![128, 1024]⟩
abbrev S1x8 : Shape := ⟨2, ![1, 8]⟩
abbrev S128 : Shape := ⟨1, ![128]⟩

abbrev nBuf : Space → Nat
  | .hbm => 22
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S4096x2048, .f32⟩
  | .hbm, ⟨9, _⟩ => ⟨S4096x2048, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S128x8, .f32⟩
  | .hbm, ⟨14, _⟩ => ⟨S4096x1024, .f32⟩
  | .hbm, ⟨15, _⟩ => ⟨S4096x1024, .bf16⟩
  | .hbm, ⟨16, _⟩ => ⟨S4096x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S8x128x128, .f32⟩
  | .hbm, ⟨21, _⟩ => ⟨S128x8, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S8x128x128, .f32⟩
  | .local _ .vmem, ⟨10, _⟩ => ⟨S128x8, .f32⟩
  | .local _ .vmem, ⟨11, _⟩ => ⟨S256x2048, .f32⟩
  | .local _ .vmem, ⟨12, _⟩ => ⟨S256x2048, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S8x128x128, .f32⟩
  | .local _ .vmem, ⟨23, _⟩ => ⟨S128x8, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MixRefIdeal.lean ====
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 283
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S1024, .f32⟩
  | 4 => ⟨S1024, .f32⟩
  | 5 => ⟨S1024, .f32⟩
  | 6 => ⟨S8x128x128, .f32⟩
  | 7 => ⟨S8x128, .f32⟩
  | 8 => ⟨S4096x2048, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4096x1024, .f32⟩
  | 65 => ⟨S4096x1024, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x1, .f32⟩
  | 76 => ⟨S4096x1, .f32⟩
  | 77 => ⟨S_, .f32⟩
  | 78 => ⟨S4096x1, .f32⟩
  | 79 => ⟨S4096x1, .f32⟩
  | 80 => ⟨S4096x1024, .f32⟩
  | 81 => ⟨S4096x1024, .f32⟩
  | 82 => ⟨S1x1024, .f32⟩
  | 83 => ⟨S4096x1024, .f32⟩
  | 84 => ⟨S4096x1024, .f32⟩
  | 85 => ⟨S32x128x8x128, .f32⟩
  | 86 => ⟨S_, .i1⟩
  | 87 => ⟨S128x128, .i1⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .i1⟩
  | 95 => ⟨S128x128, .i1⟩
  | 96 => ⟨S128x128, .i1⟩
  | 97 => ⟨S1x128x128, .i1⟩
  | 98 => ⟨S_, .f32⟩
  | 99 => ⟨S8x128x128, .f32⟩
  | 100 => ⟨S8x128x128, .i1⟩
  | 101 => ⟨S8x128x128, .f32⟩
  | 102 => ⟨S_, .f32⟩
  | 103 => ⟨S8x128x128, .f32⟩
  | 104 => ⟨S8x32x128x128, .f32⟩
  | 105 => ⟨S32x128x8x128, .f32⟩
  | 106 => ⟨S128x8, .f32⟩
  | 107 => ⟨S1x128x8x1, .f32⟩
  | 108 => ⟨S32x128x8x128, .f32⟩
  | 109 => ⟨S32x128x8x128, .f32⟩
  | 110 => ⟨S4096x1024, .f32⟩
  | 111 => ⟨S4096x1024, .f32⟩
  | 112 => ⟨S4096x1024, .f32⟩
  | 113 => ⟨S_, .f32⟩
  | 114 => ⟨S4096, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096x1, .f32⟩
  | 121 => ⟨S4096x1, .f32⟩
  | 122 => ⟨S4096x1, .f32⟩
  | 123 => ⟨S4096x1, .f32⟩
  | 124 => ⟨S_, .f32⟩
  | 125 => ⟨S4096x1, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S1x1024, .f32⟩
  | 2 => ⟨S4096x1024, .f32⟩
  | 3 => ⟨S4096x1024, .f32⟩
  | 4 => ⟨S4096x1024, .f32⟩
  | 5 => ⟨S_, .f32⟩
  | 6 => ⟨S4096, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096x1, .f32⟩
  | 13 => ⟨S4096x1, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S4096x2048, .f32⟩
  | 25 => ⟨S4096x1024, .f32⟩
  | 26 => ⟨S4096x1024, .f32⟩
  | 27 => ⟨S4096x1024, .f32⟩
  | 28 => ⟨S_, .f32⟩
  | 29 => ⟨S1024, .f32⟩
  | 30 => ⟨S1x1024, .f32⟩
  | 31 => ⟨S4096x1024, .f32⟩
  | 32 => ⟨S4096x1024, .f32⟩
  | 33 => ⟨S_, .f32⟩
  | 34 => ⟨S1024, .f32⟩
  | 35 => ⟨S4096x1024, .f32⟩
  | 36 => ⟨S_, .f32⟩
  | 37 => ⟨S4096, .f32⟩
  | 38 => ⟨S4096x1, .f32⟩
  | 39 => ⟨S4096x1024, .f32⟩
  | 40 => ⟨S4096x1024, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S1024, .f32⟩
  | 55 => ⟨S1x1024, .f32⟩
  | 56 => ⟨S4096x1024, .f32⟩
  | 57 => ⟨S4096x1024, .f32⟩
  | 58 => ⟨S_, .f32⟩
  | 59 => ⟨S1024, .f32⟩
  | 60 => ⟨S4096x1024, .f32⟩
  | 61 => ⟨S_, .f32⟩
  | 62 => ⟨S4096, .f32⟩
  | 63 => ⟨S4096x1, .f32⟩
  | 64 => ⟨S4096x1024, .f32⟩
  | 65 => ⟨S4096x1024, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S32x128x8x128, .f32⟩
  | 80 => ⟨S_, .f32⟩
  | 81 => ⟨S128x8, .f32⟩
  | 82 => ⟨S1x128x8x1, .f32⟩
  | 83 => ⟨S_, .f32⟩
  | 84 => ⟨S128x8, .f32⟩
  | 85 => ⟨S8x128, .f32⟩
  | 86 => ⟨S8x32x128x128, .f32⟩
  | 87 => ⟨S8x128x128, .f32⟩
  | 88 => ⟨S8x32x128x128, .f32⟩
  | 89 => ⟨S32x128x8x128, .f32⟩
  | 90 => ⟨S_, .f32⟩
  | 91 => ⟨S8x128x128, .f32⟩
  | 92 => ⟨S8x128x128, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S4096x1024, .f32⟩
  | 99 => ⟨S4096x1024, .f32⟩
  | 100 => ⟨S_, .f32⟩
  | 101 => ⟨S1024, .f32⟩
  | 102 => ⟨S4096x1024, .f32⟩
  | 103 => ⟨S_, .f32⟩
  | 104 => ⟨S4096, .f32⟩
  | 105 => ⟨S4096x1, .f32⟩
  | 106 => ⟨S4096x1024, .f32⟩
  | 107 => ⟨S4096x1024, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x1024, .f32⟩

abbrev hbmTy0_2 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S4096x1024, .f32⟩
  | 21 => ⟨S4096x1024, .bf16⟩
  | 22 => ⟨S4096x1024, .bf16⟩
  | 23 => ⟨S1x1024, .f32⟩
  | 24 => ⟨S1x1024, .f32⟩
  | 25 => ⟨S1x1024, .f32⟩
  | 26 => ⟨S128x8, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_13 : Ref sig .tc := ⟨.hbm, 66, rfl⟩
abbrev main_v43 : Ref sig .tc := ⟨.hbm, 67, rfl⟩
abbrev main_v44 : Ref sig .tc := ⟨.hbm, 68, rfl⟩
abbrev main_cst_14 : Ref sig .tc := ⟨.hbm, 69, rfl⟩
abbrev main_v45 : Ref sig .tc := ⟨.hbm, 70, rfl⟩
abbrev main_v46 : Ref sig .tc := ⟨.hbm, 71, rfl⟩
abbrev main_cst_15 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_16 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c : Ref sig .tc := ⟨.hbm, 86, rfl⟩
abbrev main_v59 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_c_0 : Ref sig .tc := ⟨.hbm, 94, rfl⟩
abbrev main_call0_v5 : Ref sig .tc := ⟨.hbm, 95, rfl⟩
abbrev main_v60 : Ref sig .tc := ⟨.hbm, 96, rfl⟩
abbrev main_v61 : Ref sig .tc := ⟨.hbm, 97, rfl⟩
abbrev main_cst_17 : Ref sig .tc := ⟨.hbm, 98, rfl⟩
abbrev main_v62 : Ref sig .tc := ⟨.hbm, 99, rfl⟩
abbrev main_v63_1 : Ref sig .tc := ⟨.hbm, 100, rfl⟩
abbrev main_v63_0 : Ref sig .tc := ⟨.hbm, 101, rfl⟩
abbrev main_call1_cst : Ref sig .tc := ⟨.hbm, 102, rfl⟩
abbrev main_v63_2 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_18 : Ref sig .tc := ⟨.hbm, 113, rfl⟩
abbrev main_v73 : Ref sig .tc := ⟨.hbm, 114, rfl⟩
abbrev main_v74 : Ref sig .tc := ⟨.hbm, 115, rfl⟩
abbrev main_cst_19 : Ref sig .tc := ⟨.hbm, 116, rfl⟩
abbrev main_v75 : Ref sig .tc := ⟨.hbm, 117, rfl⟩
abbrev main_v76 : Ref sig .tc := ⟨.hbm, 118, rfl⟩
abbrev main_cst_20 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_21 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_22 : Ref sig .tc := ⟨.hbm, 133, rfl⟩
abbrev main_v89 : Ref sig .tc := ⟨.hbm, 134, rfl⟩
abbrev main_v90 : Ref sig .tc := ⟨.hbm, 135, rfl⟩
abbrev main_cst_23 : Ref sig .tc := ⟨.hbm, 136, rfl⟩
abbrev main_v91 : Ref sig .tc := ⟨.hbm, 137, rfl⟩
abbrev main_v92 : Ref sig .tc := ⟨.hbm, 138, rfl⟩
abbrev main_cst_24 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_25 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_26 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_27 : Ref sig .tc := ⟨.hbm, 161, rfl⟩
abbrev main_v112 : Ref sig .tc := ⟨.hbm, 162, rfl⟩
abbrev main_v113 : Ref sig .tc := ⟨.hbm, 163, rfl⟩
abbrev main_cst_28 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_29 : Ref sig .tc := ⟨.hbm, 170, rfl⟩
abbrev main_v119 : Ref sig .tc := ⟨.hbm, 171, rfl⟩
abbrev main_v120 : Ref sig .tc := ⟨.hbm, 172, rfl⟩
abbrev main_cst_30 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_31 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_32 : Ref sig .tc := ⟨.hbm, 186, rfl⟩
abbrev main_v132 : Ref sig .tc := ⟨.hbm, 187, rfl⟩
abbrev main_v133 : Ref sig .tc := ⟨.hbm, 188, rfl⟩
abbrev main_cst_33 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_34 : Ref sig .tc := ⟨.hbm, 195, rfl⟩
abbrev main_v139 : Ref sig .tc := ⟨.hbm, 196, rfl⟩
abbrev main_v140 : Ref sig .tc := ⟨.hbm, 197, rfl⟩
abbrev main_cst_35 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_36 : Ref sig .tc := ⟨.hbm, 208, rfl⟩
abbrev main_v150 : Ref sig .tc := ⟨.hbm, 209, rfl⟩
abbrev main_v151 : Ref sig .tc := ⟨.hbm, 210, rfl⟩
abbrev main_cst_37 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_call2_cst : Ref sig .tc := ⟨.hbm, 218, rfl⟩
abbrev main_call2_v0 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_cst_38 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_cst_39 : Ref sig .tc := ⟨.hbm, 228, rfl⟩
abbrev main_v165 : Ref sig .tc := ⟨.hbm, 229, rfl⟩
abbrev main_v166 : Ref sig .tc := ⟨.hbm, 230, rfl⟩
abbrev main_cst_40 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_cst_41 : Ref sig .tc := ⟨.hbm, 237, rfl⟩
abbrev main_v172 : Ref sig .tc := ⟨.hbm, 238, rfl⟩
abbrev main_v173 : Ref sig .tc := ⟨.hbm, 239, rfl⟩
abbrev main_cst_42 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_cst_43 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_cst_44 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_cst_45 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_cst_46 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_cst_47 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_cst_48 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩

abbrev nD : Nat := 1
abbrev τ : Topo := Topo.v7x

variable {F : FTy → Type} [FloatOps F]
-- ==== Attnf.lean ====
abbrev S4096x8x192 : Shape := ⟨3, ![4096, 8, 192]⟩
abbrev S4096x8x128 : Shape := ⟨3, ![4096, 8, 128]⟩
abbrev S_ : Shape := ⟨0, ![]⟩
abbrev S8x4096x192 : Shape := ⟨3, ![8, 4096, 192]⟩
abbrev S8x4096x128 : Shape := ⟨3, ![8, 4096, 128]⟩
abbrev S4096x1024 : Shape := ⟨2, ![4096, 1024]⟩
abbrev S8x4096x1 : Shape := ⟨3, ![8, 4096, 1]⟩
abbrev S1x1024x192 : Shape := ⟨3, ![1, 1024, 192]⟩
abbrev S1x1024x128 : Shape := ⟨3, ![1, 1024, 128]⟩
abbrev S1024x128 : Shape := ⟨2, ![1024, 128]⟩
abbrev S1x1024x1 : Shape := ⟨3, ![1, 1024, 1]⟩
abbrev S1024x1 : Shape := ⟨2, ![1024, 1]⟩
abbrev S1024x192 : Shape := ⟨2, ![1024, 192]⟩
abbrev S1024x1024 : Shape := ⟨2, ![1024, 1024]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S_, .f32⟩
  | .hbm, ⟨4, _⟩ => ⟨S4096x8x192, .f32⟩
  | .hbm, ⟨5, _⟩ => ⟨S4096x8x192, .f32⟩
  | .hbm, ⟨6, _⟩ => ⟨S4096x8x192, .bf16⟩
  | .hbm, ⟨7, _⟩ => ⟨S8x4096x192, .bf16⟩
  | .hbm, ⟨8, _⟩ => ⟨S4096x8x192, .bf16⟩
  | .hbm, ⟨9, _⟩ => ⟨S8x4096x192, .bf16⟩
  | .hbm, ⟨10, _⟩ => ⟨S4096x8x128, .bf16⟩
  | .hbm, ⟨11, _⟩ => ⟨S8x4096x128, .bf16⟩
  | .hbm, ⟨12, _⟩ => ⟨S4096x1024, .f32⟩
  | .hbm, ⟨13, _⟩ => ⟨S8x4096x1, .f32⟩
  | .local _ .vmem, ⟨0, _⟩ => ⟨S1x1024x192, .bf16⟩
  | .local _ .vmem, ⟨1, _⟩ => ⟨S1x1024x192, .bf16⟩
  | .local _ .vmem, ⟨2, _⟩ => ⟨S1x1024x192, .bf16⟩
  | .local _ .vmem, ⟨3, _⟩ => ⟨S1x1024x192, .bf16⟩
  | .local _ .vmem, ⟨4, _⟩ => ⟨S1x1024x128, .bf16⟩
  | .local _ .vmem, ⟨5, _⟩ => ⟨S1x1024x128, .bf16⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttnfIdeal.lean ====
variable {F : FTy → Type} [FloatOps F] [Named F]
def κ : String → Option EReal := fun
  | "mask" => some ⊥
  | _ => none
-- ==== AttnfRefIdeal.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S8x4096x4096, .f32⟩
  | .hbm, ⟨4, _⟩ => ⟨S_, .f32⟩
  | .hbm, ⟨5, _⟩ => ⟨S8x4096x4096, .f32⟩
  | .hbm, ⟨6, _⟩ => ⟨S8x4096x4096, .f32⟩
  | .hbm, ⟨7, _⟩ => ⟨S4096, .i32⟩
  | .hbm, ⟨8, _⟩ => ⟨S1x4096, .i32⟩
  | .hbm, ⟨9, _⟩ => ⟨S4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x4096, .f32⟩
  | .hbm, ⟨32, _⟩ => ⟨S_, .f32⟩
  | .hbm, ⟨33, _⟩ => ⟨S8x4096x4096, .f32⟩
  | .hbm, ⟨34, _⟩ => ⟨S8x4096x4096, .f32⟩
  | .hbm, ⟨35, _⟩ => ⟨S4096, .i32⟩
  | .hbm, ⟨36, _⟩ => ⟨S1x4096, .i32⟩
  | .hbm, ⟨37, _⟩ => ⟨S4096, .i32⟩
  | .hbm, ⟨38, _⟩ => ⟨S4096x1, .i32⟩
  | .hbm, ⟨39, _⟩ => ⟨S4096x4096, .i32⟩
  | .hbm, ⟨40, _⟩ => ⟨S4096x4096, .i32⟩
  | .hbm, ⟨41, _⟩ => ⟨S4096x4096, .i1⟩
  | .hbm, ⟨42, _⟩ => ⟨S1x4096x4096, .i1⟩
  | .hbm, ⟨43, _⟩ => ⟨S_, .f32⟩
  | .hbm, ⟨44, _⟩ => ⟨S_, .f32⟩
  | .hbm, ⟨45, _⟩ => ⟨S8x4096x4096, .i1⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S8x128x4096, .f32⟩
  | .hbm, ⟨63, _⟩ => ⟨S4096x8x128, .f32⟩
  | .hbm, ⟨64, _⟩ => ⟨S4096x1024, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Rmsf.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsfRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Plef.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PlefRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Mixf.lean ====
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S4096x2048 : Shape := ⟨2, ![4096, 2048]⟩
abbrev S1x1024 : Shape := ⟨2, ![1, 1024]⟩
abbrev S128x8 : Shape := ⟨2, ![128, 8]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128x1024 : Shape := ⟨2, ![128, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S4096x2048, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S128x8, .f32⟩
  | .hbm, ⟨13, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S8x128x128, .f32⟩
  | .local _ .vmem, ⟨10, _⟩ => ⟨S128x8, .f32⟩
  | .local _ .vmem, ⟨11, _⟩ => ⟨S512x2048, .bf16⟩
  | .local _ .vmem, ⟨12, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixfRefIdeal.lean ====
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4096x2048 : Shape := ⟨2, ![4096, 2048]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S32x128x8x128, .f32⟩
  | .hbm, ⟨59, _⟩ => ⟨S_, .i1⟩
  | .hbm, ⟨60, _⟩ => ⟨S128x128, .i1⟩
  | .hbm, ⟨61, _⟩ => ⟨S128x128, .i32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S_, .i1⟩
  | .hbm, ⟨68, _⟩ => ⟨S128x128, .i1⟩
  | .hbm, ⟨69, _⟩ => ⟨S128x128, .i1⟩
  | .hbm, ⟨70, _⟩ => ⟨S1x128x128, .i1⟩
  | .hbm, ⟨71, _⟩ => ⟨S_, .f32⟩
  | .hbm, ⟨72, _⟩ => ⟨S8x128x128, .f32⟩
  | .hbm, ⟨73, _⟩ => ⟨S8x128x128, .i1⟩
  | .hbm, ⟨74, _⟩ => ⟨S8x128x128, .f32⟩
  | .hbm, ⟨75, _⟩ => ⟨S8x32x128x128, .f32⟩
  | .hbm, ⟨76, _⟩ => ⟨S32x128x8x128, .f32⟩
  | .hbm, ⟨77, _⟩ => ⟨S128x8, .f32⟩
  | .hbm, ⟨78, _⟩ => ⟨S1x128x8x1, .f32⟩
  | .hbm, ⟨79, _⟩ => ⟨S32x128x8x128, .f32⟩
  | .hbm, ⟨80, _⟩ => ⟨S32x128x8x128, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S4096x1, .f32⟩
  | .hbm, ⟨94, _⟩ => ⟨S4096x1024, .f32⟩
  | .hbm, ⟨95, _⟩ => ⟨S4096x1024, .f32⟩
  | .hbm, ⟨96, _⟩ => ⟨S1x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S4096x1, .f32⟩
  | .hbm, ⟨108, _⟩ => ⟨S4096x1, .f32⟩
  | .hbm, ⟨109, _⟩ => ⟨S4096x1, .f32⟩
  | .hbm, ⟨110, _⟩ => ⟨S4096x1024, .f32⟩
  | .hbm, ⟨111, _⟩ => ⟨S4096x1024, .f32⟩
  | .hbm, ⟨112, _⟩ => ⟨S1x1024, .f32⟩
  | .hbm, ⟨113, _⟩ => ⟨S4096x1024, .f32⟩
  | .hbm, ⟨114, _⟩ => ⟨S4096x1024, .f32⟩
  | .hbm, ⟨115, _⟩ => ⟨S4096x2048, .f32⟩
  | .hbm, ⟨116, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c : Ref sig .tc := ⟨.hbm, 59, rfl⟩
abbrev main_v40 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_0 : Ref sig .tc := ⟨.hbm, 67, rfl⟩
abbrev main_call0_v5 : Ref sig .tc := ⟨.hbm, 68, rfl⟩
abbrev main_v41 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_call1_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_cst_13 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_cst_15 : Ref sig .tc := ⟨.hbm, 103, rfl⟩
abbrev main_v69 : Ref sig .tc := ⟨.hbm, 104, rfl⟩
abbrev main_v70 : Ref sig .tc := ⟨.hbm, 105, rfl⟩
abbrev main_cst_16 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== Ffnf.lean ====
abbrev S4096x2048 : Shape := ⟨2, ![4096, 2048]⟩
abbrev S2048x5504 : Shape := ⟨2, ![2048, 5504]⟩
abbrev S5504x2048 : Shape := ⟨2, ![5504, 2048]⟩
abbrev S2048x8x688 : Shape := ⟨3, ![2048, 8, 688]⟩
abbrev S8x2048x688 : Shape := ⟨3, ![8, 2048, 688]⟩
abbrev S8x688x2048 : Shape := ⟨3, ![8, 688, 2048]⟩
abbrev S8x4096x688 : Shape := ⟨3, ![8, 4096, 688]⟩
abbrev S512x2048 : Shape := ⟨2, ![512, 2048]⟩
abbrev S1x2048x688 : Shape := ⟨3, ![1, 2048, 688]⟩
abbrev S1x688x2048 : Shape := ⟨3, ![1, 688, 2048]⟩
abbrev S1x512x688 : Shape := ⟨3, ![1, 512, 688]⟩
abbrev S2048x688 : Shape := ⟨2, ![2048, 688]⟩
abbrev S512x688 : Shape := ⟨2, ![512, 688]⟩
abbrev S688x2048 : Shape := ⟨2, ![688, 2048]⟩

abbrev nBuf : Space → Nat
  | .hbm => 17
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S4096x2048, .bf16⟩
  | .hbm, ⟨6, _⟩ => ⟨S2048x8x688, .f32⟩
  | .hbm, ⟨7, _⟩ => ⟨S8x2048x688, .f32⟩
  | .hbm, ⟨8, _⟩ => ⟨S8x2048x688, .bf16⟩
  | .hbm, ⟨9, _⟩ => ⟨S2048x8x688, .f32⟩
  | .hbm, ⟨10, _⟩ => ⟨S8x2048x688, .f32⟩
  | .hbm, ⟨11, _⟩ => ⟨S8x2048x688, .bf16⟩
  | .hbm, ⟨12, _⟩ => ⟨S8x688x2048, .f32⟩
  | .hbm, ⟨13, _⟩ => ⟨S8x688x2048, .bf16⟩
  | .hbm, ⟨14, _⟩ => ⟨S4096x2048, .f32⟩
  | .hbm, ⟨15, _⟩ => ⟨S8x4096x688, .bf16⟩
  | .hbm, ⟨16, _⟩ => ⟨S8x4096x688, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048x688, .bf16⟩
  | .local _ .vmem, ⟨5, _⟩ => ⟨S1x2048x688, .bf16⟩
  | .local _ .vmem, ⟨6, _⟩ => ⟨S1x2048x688, .bf16⟩
  | .local _ .vmem, ⟨7, _⟩ => ⟨S1x2048x688, .bf16⟩
  | .local _ .vmem, ⟨8, _⟩ => ⟨S1x688x2048, .bf16⟩
  | .local _ .vmem, ⟨9, _⟩ => ⟨S1x688x2048, .bf16⟩
  | .local _ .vmem, ⟨10, _⟩ => ⟨S512x2048, .f32⟩
  | .local _ .vmem, ⟨11, _⟩ => ⟨S512x2048, .f32⟩
  | .local _ .vmem, ⟨12, _⟩ => ⟨S1x512x688, .bf16⟩
  | .local _ .vmem, ⟨13, _⟩ => ⟨S1x512x688, .bf16⟩
  | .local _ .vmem, ⟨14, _⟩ => ⟨S1x512x688, .bf16⟩
  | .local _ .vmem, ⟨15, _⟩ => ⟨S1x512x688, .bf16⟩
  | .local _ .vmem, ⟨16, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_23 : BitVec 32 := 0#32
  let v33 : BitVec 1 := Scalar.cmpi .ne v32 c0_i32_23
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x688x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x688 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x688 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnfRefIdeal.lean ====
abbrev S4096x2048 : Shape := ⟨2, ![4096, 2048]⟩
abbrev S2048x5504 : Shape := ⟨2, ![2048, 5504]⟩
abbrev S5504x2048 : Shape := ⟨2, ![5504, 2048]⟩
abbrev S4096x5504 : Shape := ⟨2, ![4096, 5504]⟩
abbrev S_ : Shape := ⟨0, ![]⟩
abbrev S4096x8x688 : Shape := ⟨3, ![4096, 8, 688]⟩
abbrev S8x4096x688 : Shape := ⟨3, ![8, 4096, 688]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S4096x5504, .f32⟩
  | .hbm, ⟨6, _⟩ => ⟨S4096x5504, .f32⟩
  | .hbm, ⟨7, _⟩ => ⟨S4096x5504, .f32⟩
  | .hbm, ⟨8, _⟩ => ⟨S_, .f32⟩
  | .hbm, ⟨9, _⟩ => ⟨S4096x5504, .f32⟩
  | .hbm, ⟨10, _⟩ => ⟨S4096x5504, .f32⟩
  | .hbm, ⟨11, _⟩ => ⟨S_, .f32⟩
  | .hbm, ⟨12, _⟩ => ⟨S4096x5504, .f32⟩
  | .hbm, ⟨13, _⟩ => ⟨S4096x5504, .f32⟩
  | .hbm, ⟨14, _⟩ => ⟨S4096x5504, .f32⟩
  | .hbm, ⟨15, _⟩ => ⟨S4096x5504, .f32⟩
  | .hbm, ⟨16, _⟩ => ⟨S4096x5504, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x5504, .f32⟩
  | .hbm, ⟨23, _⟩ => ⟨S4096x8x688, .f32⟩
  | .hbm, ⟨24, _⟩ => ⟨S8x4096x688, .f32⟩
  | .hbm, ⟨25, _⟩ => ⟨S8x4096x688, .bf16⟩
  | .hbm, ⟨26, _⟩ => ⟨S4096x5504, .f32⟩
  | .hbm, ⟨27, _⟩ => ⟨S4096x8x688, .f32⟩
  | .hbm, ⟨28, _⟩ => ⟨S8x4096x688, .f32⟩
  | .hbm, ⟨29, _⟩ => ⟨S8x4096x688, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Mlaf.lean ====
abbrev S4096x512 : Shape := ⟨2, ![4096, 512]⟩
abbrev S4096x256 : Shape := ⟨2, ![4096, 256]⟩
abbrev S4096x64 : Shape := ⟨2, ![4096, 64]⟩
abbrev S4096x32 : Shape := ⟨2, ![4096, 32]⟩
abbrev S512 : Shape := ⟨1, ![512]⟩
abbrev S256 : Shape := ⟨1, ![256]⟩
abbrev S192 : Shape := ⟨1, ![192]⟩
abbrev S512x1536 : Shape := ⟨2, ![512, 1536]⟩
abbrev S256x2048 : Shape := ⟨2, ![256, 2048]⟩
abbrev S_ : Shape := ⟨0, ![]⟩
abbrev S4096x192 : Shape := ⟨2, ![4096, 192]⟩
abbrev S4096x1024 : Shape := ⟨2, ![4096, 1024]⟩
abbrev S4096x128 : Shape := ⟨2, ![4096, 128]⟩
abbrev S192x1 : Shape := ⟨2, ![192, 1]⟩
abbrev S1x192 : Shape := ⟨2, ![1, 192]⟩
abbrev S192x192 : Shape := ⟨2, ![192, 192]⟩
abbrev S1x512 : Shape := ⟨2, ![1, 512]⟩
abbrev S1x256 : Shape := ⟨2, ![1, 256]⟩
abbrev S512x8x192 : Shape := ⟨3, ![512, 8, 192]⟩
abbrev S8x512x192 : Shape := ⟨3, ![8, 512, 192]⟩
abbrev S256x8x256 : Shape := ⟨3, ![256, 8, 256]⟩
abbrev S8x256x256 : Shape := ⟨3, ![8, 256, 256]⟩
abbrev S8x4096x192 : Shape := ⟨3, ![8, 4096, 192]⟩
abbrev S8x4096x128 : Shape := ⟨3, ![8, 4096, 128]⟩
abbrev S512x512 : Shape := ⟨2, ![512, 512]⟩
abbrev S512x256 : Shape := ⟨2, ![512, 256]⟩
abbrev S512x128 : Shape := ⟨2, ![512, 128]⟩
abbrev S512x192 : Shape := ⟨2, ![512, 192]⟩
abbrev S8x512x128 : Shape := ⟨3, ![8, 512, 128]⟩
abbrev S512x1 : Shape := ⟨2, ![512, 1]⟩
abbrev S512x64 : Shape := ⟨2, ![512, 64]⟩
abbrev S1x512x192 : Shape := ⟨3, ![1, 512, 192]⟩
abbrev S1x256x256 : Shape := ⟨3, ![1, 256, 256]⟩
abbrev S256x256 : Shape := ⟨2, ![256, 256]⟩
abbrev S1x512x128 : Shape := ⟨3, ![1, 512, 128]⟩

abbrev nBuf : Space → Nat
  | .hbm => 73
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x64, .f32⟩
  | .hbm, ⟨3, _⟩ => ⟨S4096x32, .f32⟩
  | .hbm, ⟨4, _⟩ => ⟨S4096x32, .f32⟩
  | .hbm, ⟨5, _⟩ => ⟨S512, .f32⟩
  | .hbm, ⟨6, _⟩ => ⟨S256, .f32⟩
  | .hbm, ⟨7, _⟩ => ⟨S192, .f32⟩
  | .hbm, ⟨8, _⟩ => ⟨S192, .f32⟩
  | .hbm, ⟨9, _⟩ => ⟨S512x1536, .f32⟩
  | .hbm, ⟨10, _⟩ => ⟨S256x2048, .f32⟩
  | .hbm, ⟨11, _⟩ => ⟨S_, .f32⟩
  | .hbm, ⟨12, _⟩ => ⟨S4096x192, .f32⟩
  | .hbm, ⟨13, _⟩ => ⟨S4096x1024, .f32⟩
  | .hbm, ⟨14, _⟩ => ⟨S_, .f32⟩
  | .hbm, ⟨15, _⟩ => ⟨S4096x128, .f32⟩
  | .hbm, ⟨16, _⟩ => ⟨S_, .f32⟩
  | .hbm, ⟨17, _⟩ => ⟨S4096x128, .f32⟩
  | .hbm, ⟨18, _⟩ => ⟨S4096x192, .f32⟩
  | .hbm, ⟨19, _⟩ => ⟨S4096x192, .f32⟩
  | .hbm, ⟨20, _⟩ => ⟨S192, .i32⟩
  | .hbm, ⟨21, _⟩ => ⟨S192x1, .i32⟩
  | .hbm, ⟨22, _⟩ => ⟨S192, .i32⟩
  | .hbm, ⟨23, _⟩ => ⟨S1x192, .i32⟩
  | .hbm, ⟨24, _⟩ => ⟨S_, .i32⟩
  | .hbm, ⟨25, _⟩ => ⟨S1x192, .i32⟩
  | .hbm, ⟨26, _⟩ => ⟨S1x192, .i1⟩
  | .hbm, ⟨27, _⟩ => ⟨S_, .i32⟩
  | .hbm, ⟨28, _⟩ => ⟨S1x192, .i32⟩
  | .hbm, ⟨29, _⟩ => ⟨S1x192, .i1⟩
  | .hbm, ⟨30, _⟩ => ⟨S1x192, .i1⟩
  | .hbm, ⟨31, _⟩ => ⟨S_, .i32⟩
  | .hbm, ⟨32, _⟩ => ⟨S1x192, .i32⟩
  | .hbm, ⟨33, _⟩ => ⟨S1x192, .i32⟩
  | .hbm, ⟨34, _⟩ => ⟨S192x192, .i32⟩
  | .hbm, ⟨35, _⟩ => ⟨S192x192, .i32⟩
  | .hbm, ⟨36, _⟩ => ⟨S192x192, .i1⟩
  | .hbm, ⟨37, _⟩ => ⟨S192x192, .i1⟩
  | .hbm, ⟨38, _⟩ => ⟨S192x192, .i1⟩
  | .hbm, ⟨39, _⟩ => ⟨S_, .i32⟩
  | .hbm, ⟨40, _⟩ => ⟨S1x192, .i32⟩
  | .hbm, ⟨41, _⟩ => ⟨S1x192, .i1⟩
  | .hbm, ⟨42, _⟩ => ⟨S_, .i32⟩
  | .hbm, ⟨43, _⟩ => ⟨S1x192, .i32⟩
  | .hbm, ⟨44, _⟩ => ⟨S1x192, .i32⟩
  | .hbm, ⟨45, _⟩ => ⟨S192x192, .i32⟩
  | .hbm, ⟨46, _⟩ => ⟨S192x192, .i32⟩
  | .hbm, ⟨47, _⟩ => ⟨S192x192, .i1⟩
  | .hbm, ⟨48, _⟩ => ⟨S192x192, .i1⟩
  | .hbm, ⟨49, _⟩ => ⟨S192x192, .i1⟩
  | .hbm, ⟨50, _⟩ => ⟨S_, .f32⟩
  | .hbm, ⟨51, _⟩ => ⟨S_, .f32⟩
  | .hbm, ⟨52, _⟩ => ⟨S192x192, .f32⟩
  | .hbm, ⟨53, _⟩ => ⟨S192x192, .f32⟩
  | .hbm, ⟨54, _⟩ => ⟨S192x192, .f32⟩
  | .hbm, ⟨55, _⟩ => ⟨S_, .f32⟩
  | .hbm, ⟨56, _⟩ => ⟨S192x192, .f32⟩
  | .hbm, ⟨57, _⟩ => ⟨S192x192, .f32⟩
  | .hbm, ⟨58, _⟩ => ⟨S192x192, .f32⟩
  | .hbm, ⟨59, _⟩ => ⟨S192x192, .bf16⟩
  | .hbm, ⟨60, _⟩ => ⟨S1x512, .f32⟩
  | .hbm, ⟨61, _⟩ => ⟨S1x256, .f32⟩
  | .hbm, ⟨62, _⟩ => ⟨S1x192, .f32⟩
  | .hbm, ⟨63, _⟩ => ⟨S1x192, .f32⟩
  | .hbm, ⟨64, _⟩ => ⟨S512x8x192, .f32⟩
  | .hbm, ⟨65, _⟩ => ⟨S8x512x192, .f32⟩
  | .hbm, ⟨66, _⟩ => ⟨S8x512x192, .bf16⟩
  | .hbm, ⟨67, _⟩ => ⟨S256x8x256, .f32⟩
  | .hbm, ⟨68, _⟩ => ⟨S8x256x256, .f32⟩
  | .hbm, ⟨69, _⟩ => ⟨S8x256x256, .bf16⟩
  | .hbm, ⟨70, _⟩ => ⟨S8x4096x192, .bf16⟩
  | .hbm, ⟨71, _⟩ => ⟨S8x4096x192, .bf16⟩
  | .hbm, ⟨72, _⟩ => ⟨S8x4096x128, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S192x192, .bf16⟩
  | .local _ .vmem, ⟨11, _⟩ => ⟨S1x512, .f32⟩
  | .local _ .vmem, ⟨12, _⟩ => ⟨S1x256, .f32⟩
  | .local _ .vmem, ⟨13, _⟩ => ⟨S1x192, .f32⟩
  | .local _ .vmem, ⟨14, _⟩ => ⟨S1x192, .f32⟩
  | .local _ .vmem, ⟨15, _⟩ => ⟨S8x512x192, .bf16⟩
  | .local _ .vmem, ⟨16, _⟩ => ⟨S8x256x256, .bf16⟩
  | .local _ .vmem, ⟨17, _⟩ => ⟨S8x512x192, .bf16⟩
  | .local _ .vmem, ⟨18, _⟩ => ⟨S8x512x192, .bf16⟩
  | .local _ .vmem, ⟨19, _⟩ => ⟨S8x512x192, .bf16⟩
  | .local _ .vmem, ⟨20, _⟩ => ⟨S8x512x192, .bf16⟩
  | .local _ .vmem, ⟨21, _⟩ => ⟨S8x512x128, .bf16⟩
  | .local _ .vmem, ⟨22, _⟩ => ⟨S8x512x128, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_v31 : Ref sig .tc := ⟨.hbm, 54, rfl⟩
abbrev main_cst_8 : Ref sig .tc := ⟨.hbm, 55, rfl⟩
abbrev main_call1_v0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_v45_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S192x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x512x192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512x192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MlafRefIdeal.lean ====
abbrev S4096x512 : Shape := ⟨2, ![4096, 512]⟩
abbrev S4096x256 : Shape := ⟨2, ![4096, 256]⟩
abbrev S4096x64 : Shape := ⟨2, ![4096, 64]⟩
abbrev S4096x32 : Shape := ⟨2, ![4096, 32]⟩
abbrev S512 : Shape := ⟨1, ![512]⟩
abbrev S256 : Shape := ⟨1, ![256]⟩
abbrev S192 : Shape := ⟨1, ![192]⟩
abbrev S512x1536 : Shape := ⟨2, ![512, 1536]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S4096x1536 : Shape := ⟨2, ![4096, 1536]⟩
abbrev S4096x8x192 : Shape := ⟨3, ![4096, 8, 192]⟩
abbrev S1x256 : Shape := ⟨2, ![1, 256]⟩
abbrev S4096x2048 : Shape := ⟨2, ![4096, 2048]⟩
abbrev S4096x8x256 : Shape := ⟨3, ![4096, 8, 256]⟩
abbrev S4096x8x128 : Shape := ⟨3, ![4096, 8, 128]⟩
abbrev S4096x1x64 : Shape := ⟨3, ![4096, 1, 64]⟩
abbrev S4096x8x64 : Shape := ⟨3, ![4096, 8, 64]⟩
abbrev S4096x8 : Shape := ⟨2, ![4096, 8]⟩
abbrev S4096x8x1 : Shape := ⟨3, ![4096, 8, 1]⟩
abbrev S1x1x192 : Shape := ⟨3, ![1, 1, 192]⟩
abbrev S4096x1x32 : Shape := ⟨3, ![4096, 1, 32]⟩
abbrev S4096x8x32 : Shape := ⟨3, ![4096, 8, 32]⟩
abbrev S8x4096x192 : Shape := ⟨3, ![8, 4096, 192]⟩
abbrev S8x4096x128 : Shape := ⟨3, ![8, 4096, 128]⟩

abbrev nBuf : Space → Nat
  | .hbm => 129
  | .vmem => 0
  | .smem => 0
  | _ => 0

abbrev hbmTy0_0 (i : Nat) : BufTy := match i % 128 with
  | 0 => ⟨S4096x512, .f32⟩
  | 1 => ⟨S4096x256, .f32⟩
  | 2 => ⟨S4096x64, .f32⟩
  | 3 => ⟨S4096x32, .f32⟩
  | 4 => ⟨S4096x32, .f32⟩
  | 5 => ⟨S512, .f32⟩
  | 6 => ⟨S256, .f32⟩
  | 7 => ⟨S192, .f32⟩
  | 8 => ⟨S192, .f32⟩
  | 9 => ⟨S512x1536, .f32⟩
  | 10 => ⟨S256x2048, .f32⟩
  | 11 => ⟨S4096x512, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x512, .f32⟩
  | 23 => ⟨S4096x512, .f32⟩
  | 24 => ⟨S1x512, .f32⟩
  | 25 => ⟨S4096x512, .f32⟩
  | 26 => ⟨S4096x512, .f32⟩
  | 27 => ⟨S4096x1536, .f32⟩
  | 28 => ⟨S4096x8x192, .f32⟩
  | 29 => ⟨S4096x256, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1, .f32⟩
  | 40 => ⟨S4096x256, .f32⟩
  | 41 => ⟨S4096x256, .f32⟩
  | 42 => ⟨S1x256, .f32⟩
  | 43 => ⟨S4096x256, .f32⟩
  | 44 => ⟨S4096x256, .f32⟩
  | 45 => ⟨S4096x2048, .f32⟩
  | 46 => ⟨S4096x8x256, .f32⟩
  | 47 => ⟨S4096x8x128, .f32⟩
  | 48 => ⟨S4096x8x128, .f32⟩
  | 49 => ⟨S4096x1x64, .f32⟩
  | 50 => ⟨S4096x8x64, .f32⟩
  | 51 => ⟨S4096x8x192, .f32⟩
  | 52 => ⟨S4096x8x192, .f32⟩
  | 53 => ⟨S_, .f32⟩
  | 54 => ⟨S4096x8, .f32⟩
  | 55 => ⟨S4096x8x1, .f32⟩
  | 56 => ⟨S_, .f32⟩
  | 57 => ⟨S4096x8x1, .f32⟩
  | 58 => ⟨S4096x8x1, .f32⟩
  | 59 => ⟨S_, .f32⟩
  | 60 => ⟨S4096x8x1, .f32⟩
  | 61 => ⟨S4096x8x1, .f32⟩
  | 62 => ⟨S4096x8x1, .f32⟩
  | 63 => ⟨S4096x8x192, .f32⟩
  | 64 => ⟨S4096x8x192, .f32⟩
  | 65 => ⟨S1x1x192, .f32⟩
  | 66 => ⟨S4096x8x192, .f32⟩
  | 67 => ⟨S4096x8x192, .f32⟩
  | 68 => ⟨S4096x8x192, .f32⟩
  | 69 => ⟨S_, .f32⟩
  | 70 => ⟨S4096x8, .f32⟩
  | 71 => ⟨S4096x8x1, .f32⟩
  | 72 => ⟨S_, .f32⟩
  | 73 => ⟨S4096x8x1, .f32⟩
  | 74 => ⟨S4096x8x1, .f32⟩
  | 75 => ⟨S_, .f32⟩
  | 76 => ⟨S4096x8x1, .f32⟩
  | 77 => ⟨S4096x8x1, .f32⟩
  | 78 => ⟨S4096x8x1, .f32⟩
  | 79 => ⟨S4096x8x192, .f32⟩
  | 80 => ⟨S4096x8x192, .f32⟩
  | 81 => ⟨S1x1x192, .f32⟩
  | 82 => ⟨S4096x8x192, .f32⟩
  | 83 => ⟨S4096x8x192, .f32⟩
  | 84 => ⟨S4096x8x128, .f32⟩
  | 85 => ⟨S4096x8x64, .f32⟩
  | 86 => ⟨S4096x1x32, .f32⟩
  | 87 => ⟨S4096x1x32, .f32⟩
  | 88 => ⟨S4096x8x32, .f32⟩
  | 89 => ⟨S4096x8x32, .f32⟩
  | 90 => ⟨S4096x8x32, .f32⟩
  | 91 => ⟨S4096x8x32, .f32⟩
  | 92 => ⟨S4096x8x32, .f32⟩
  | 93 => ⟨S4096x8x32, .f32⟩
  | 94 => ⟨S4096x8x32, .f32⟩
  | 95 => ⟨S4096x8x32, .f32⟩
  | 96 => ⟨S4096x8x32, .f32⟩
  | 97 => ⟨S4096x8x32, .f32⟩
  | 98 => ⟨S4096x8x32, .f32⟩
  | 99 => ⟨S4096x8x32, .f32⟩
  | 100 => ⟨S4096x8x64, .f32⟩
  | 101 => ⟨S4096x8x192, .f32⟩
  | 102 => ⟨S4096x8x128, .f32⟩
  | 103 => ⟨S4096x8x64, .f32⟩
  | 104 => ⟨S4096x1x32, .f32⟩
  | 105 => ⟨S4096x1x32, .f32⟩
  | 106 => ⟨S4096x8x32, .f32⟩
  | 107 => ⟨S4096x8x32, .f32⟩
  | 108 => ⟨S4096x8x32, .f32⟩
  | 109 => ⟨S4096x8x32, .f32⟩
  | 110 => ⟨S4096x8x32, .f32⟩
  | 111 => ⟨S4096x8x32, .f32⟩
  | 112 => ⟨S4096x8x32, .f32⟩
  | 113 => ⟨S4096x8x32, .f32⟩
  | 114 => ⟨S4096x8x32, .f32⟩
  | 115 => ⟨S4096x8x32, .f32⟩
  | 116 => ⟨S4096x8x32, .f32⟩
  | 117 => ⟨S4096x8x32, .f32⟩
  | 118 => ⟨S4096x8x64, .f32⟩
  | 119 => ⟨S4096x8x192, .f32⟩
  | 120 => ⟨S_, .f32⟩
  | 121 => ⟨S4096x8x192, .f32⟩
  | 122 => ⟨S4096x8x192, .f32⟩
  | 123 => ⟨S8x4096x192, .f32⟩
  | 124 => ⟨S8x4096x192, .bf16⟩
  | 125 => ⟨S8x4096x192, .f32⟩
  | 126 => ⟨S8x4096x192, .bf16⟩
  | 127 => ⟨S8x4096x128, .f32⟩
  | _ => ⟨S4096x512, .f32⟩

abbrev hbmTy0_1 (i : Nat) : BufTy := match i % 128 with
  | 0 => ⟨S8x4096x128, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_11 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩

abbrev nD : Nat := 1
abbrev τ : Topo := Topo.v7x

variable {F : FTy → Type} [FloatOps F]
-- ==== Proof.Shapes.lean ====
/- Facts every certificate of this directory shares: reductions, broadcasts and casts of small rank read at an index
   over the extended reals, running sums over a grid, sums split into blocks, and the constants the programs write. -/
module

public import Idealize.ShloMosaic.Lib.ValueIdx
public import Idealize.ShloMosaic.Lib.ValueIdxCore
public import Idealize.ShloMosaic.Lib.ValueLayout
public import Idealize.ShloMosaic.Lib.ValueLayoutCasts
public import Idealize.ShloMosaic.Lib.Pipeline.Value
public import Idealize.ShloMosaic.PureOps.Ideal.Laws

@[expose] public section

noncomputable section

namespace Cert.Shapes

open Idealize.ShloMosaic Idealize.ShloMosaic.ValueIdx

/-- Zero offsets of rank two and three, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## Reductions at an index -/

/-- A sum over the columns, at row `i`. -/
theorem rowSum {a b : Nat} (x : FVec Ideal ⟨2, ![a, b]⟩ .f32)
    (h : (⟨2, ![a, b]⟩ : Shape).Reduces [1] ⟨1, ![a]⟩) (hφ : FKind.Formats .f32) (hacc : (0x00000000#32 : BitVec 32) = 0x00000000#32) (i : Fin a) :
    multiReduction .add [1] ⟨1, ![a]⟩ x 0x00000000#32 h hφ hacc (ix1 i) = ∑ k : Fin b, x (ix2 i k) := by
  refine (Ideal.multiReduction_add_single (φ := .f32) x _ h hφ hacc _).trans ?_
  exact Finset.sum_congr rfl fun k _ => congrArg x (funext fun d => Fin.ext (by match d with | ⟨0, _⟩ => rfl | ⟨1, _⟩ => rfl))

/-- A sum over the rows, at column `j`. -/
theorem colSum {a b : Nat} (x : FVec Ideal ⟨2, ![a, b]⟩ .f32)
    (h : (⟨2, ![a, b]⟩ : Shape).Reduces [0] ⟨1, ![b]⟩) (hφ : FKind.Formats .f32) (hacc : (0x00000000#32 : BitVec 32) = 0x00000000#32) (j : Fin b) :
    multiReduction .add [0] ⟨1, ![b]⟩ x 0x00000000#32 h hφ hacc (ix1 j) = ∑ k : Fin a, x (ix2 k j) := by
  refine (Ideal.multiReduction_add_single (φ := .f32) x _ h hφ hacc _).trans ?_
  exact Finset.sum_congr rfl fun k _ => congrArg x (funext fun d => Fin.ext (by match d with | ⟨0, _⟩ => rfl | ⟨1, _⟩ => rfl))

/-! ## Broadcasts at an index -/

/-- A column broadcast along the rows. -/
theorem bcastCol {α : Type} {a b : Nat} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  unfold broadcastTo
  refine congrArg v (funext fun d => Fin.ext ?_)
  match d with
  | ⟨0, _⟩ =>
    dsimp only
    split
    · rename_i h1
      have h1' : a = 1 := h1
      have := i.isLt
      show 0 = i.val
      omega
    · rfl
  | ⟨1, _⟩ => rfl

/-- One element broadcast over a matrix. -/
theorem bcastOne {α : Type} {a b : Nat} (v : (⟨2, ![1, 1]⟩ : Shape).Idx → α)
    (h : (⟨2, ![1, 1]⟩ : Shape).Broadcasts ⟨2, ![a, b]⟩) (j : (⟨2, ![a, b]⟩ : Shape).Idx) :
    broadcastTo ⟨2, ![a, b]⟩ v h j = v (ix2 (0 : Fin 1) (0 : Fin 1)) := by
  unfold broadcastTo
  exact congrArg v (funext fun d => Fin.ext (by match d with | ⟨0, _⟩ => rfl | ⟨1, _⟩ => rfl))

/-! ## Running sums and sums by blocks -/

/-- A running sum over the positions of a grid is the sum up to the position. -/
theorem running {M : Type*} [AddCommMonoid M] {N : Nat} (g : Fin N → M) (a : ∀ n, n < N → M)
    (h0 : ∀ h, a 0 h = g ⟨0, h⟩) (hs : ∀ n (h : n + 1 < N), a (n + 1) h = a n (Nat.lt_of_succ_lt h) + g ⟨n + 1, h⟩) :
    ∀ n (h : n < N), a n h = ∑ t : Fin (n + 1), g ⟨t.val, lt_of_lt_of_le t.isLt h⟩
  | 0, h => by rw [h0]; simp
  | n + 1, h => by
    rw [hs, running g a h0 hs n, Fin.sum_univ_castSucc (n := n + 1)]
    rfl

/-- A sum over `n * b` indices, block by block. -/
theorem sum_blocks {M : Type*} [AddCommMonoid M] (n b : Nat) {N : Nat} (hN : N = n * b) (f : Fin N → M) :
    ∑ i, f i = ∑ t : Fin n, ∑ r : Fin b, f ⟨t.val * b + r.val, by
      subst hN; exact lt_of_lt_of_le (Nat.add_lt_add_left r.isLt _) (by rw [← Nat.succ_mul]; exact Nat.mul_le_mul_right _ t.isLt)⟩ := by
  subst hN
  rw [← finProdFinEquiv.sum_comp, Fintype.sum_prod_type]
  refine Finset.sum_congr rfl fun t _ => Finset.sum_congr rfl fun r _ => congrArg f (Fin.ext ?_)
  simp [finProdFinEquiv, mul_comm, add_comm]

/-- A finite nonnegative factor goes through a sum of extended reals. -/
theorem mul_sum_of_nonneg {ι : Type*} (s : Finset ι) (f : ι → EReal) (c : EReal) (h0 : 0 ≤ c) (ht : c ≠ ⊤) :
    c * ∑ i ∈ s, f i = ∑ i ∈ s, c * f i := by
  classical
  induction s using Finset.induction_on with
  | empty => simp
  | insert i s hi ih => rw [Finset.sum_insert hi, Finset.sum_insert hi, EReal.left_distrib_of_nonneg_of_ne_top h0 ht, ih]

/-- A finite sum of real numbers, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ## The constants the programs write -/

theorem c_half : Ideal.ofBits .f32 0x3F000000#32 = ((1 / 2 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_2048 : Ideal.ofBits .f32 0x45000000#32 = ((2048 : ℝ) : EReal) := by
  simp [Ideal.ofBits, Ideal.ieee, -EReal.coe_mul]; norm_num
theorem c_2048_inv : Ideal.ofBits .f32 0x3A000000#32 = ((1 / 2048 : ℝ) : EReal) := by
  simp [Ideal.ofBits, Ideal.ieee, -EReal.coe_mul]; norm_num

theorem inf_word : Ideal.ofBits .f32 0x7F800000#32 = ⊤ := by simp [Ideal.ofBits, Ideal.ieee]

/-- An array whose absolute values are all below infinity is an array of real numbers. -/
theorem real_of_finite {s : Shape} (x : FVec Ideal s .f32) (y : FVec Ideal s .f32) (hy : ∀ k, y k = Ideal.ofBits .f32 0x7F800000#32)
    (h : cmpf .olt (Host.absf x) y = fun _ => 1#1) : ∃ r : s.Idx → ℝ, ∀ k, x k = (r k : EReal) := by
  have h1 : ∀ k, ∃ r : ℝ, x k = (r : EReal) := by
    intro k
    have e := congrFun h k
    replace e : Ideal.cmp .olt (max (x k) (-x k)) (y k) = 1#1 := e
    rw [hy, inf_word] at e
    induction hx : x k using EReal.rec with
    | bot => rw [hx] at e; simp [Ideal.cmp] at e
    | coe r => exact ⟨r, rfl⟩
    | top => rw [hx] at e; simp [Ideal.cmp] at e
  exact ⟨fun k => (h1 k).choose, fun k => (h1 k).choose_spec⟩

end Cert.Shapes

end
-- ==== Proof.Loss.lean ====
/- The loss and its gradient: what the kernel leaves in its two results, what the reference computes, and that they agree. -/
module

public import proofs.«01_k».proof.Proof.Gen.LossIdeal.Value
public import proofs.«01_k».proof.Proof.Gen.LossRefIdeal.Read
public import proofs.«01_k».proof.Defs
public import proofs.«01_k».proof.Proof.Shapes

@[expose] public section

set_option maxRecDepth 16384

noncomputable section

namespace Cert.LossIdeal.Val

open Cert.LossIdeal Cert.LossIdeal.Gen Cert.Shapes
open Idealize.ShloMosaic Idealize.ShloMosaic.TcCoe Idealize.ShloMosaic.ValueIdx Idealize.ShloMosaic.Tactic
open Idealize.SL Idealize.SL.Sem
open Idealize.ShloMosaic.Pipeline (Dat Cfg Window)

variable (m : (ℓ : Loc nD τ sig) → Buf (Elt Ideal) ℓ)

/-! ## What one point leaves -/

theorem out_A_2 (c : Dev nD) (i : grid0.Coords) (a1 a2 a3 : Memref sig .tc .vmem S512x2048 .f32) (a4 : Memref sig .tc .vmem S8x128 .f32)
    (h1 : a1.IsWhole) (h2 : a2.IsWhole) (h3 : a3.IsWhole) (h4 : a4.IsWhole) (hc : cond0_0 i) (x0 x1 : Vec Ideal S512x2048 .f32) :
    out0_A_2 c i a1 h1 a2 h2 a3 h3 a4 h4 hc x0 x1 = k0_pay2 x0 x1 := by
  unfold out0_A_2
  rw [View.read_writes_eq_canon _ _ _ (cover0_A_2 c i a1 h1 a2 h2 a3 h3 a4 h4 hc x0 x1)]
  unfold kernelRun0_A
  dsimp only
  rw [View.canon_unit_zero hz2]
  simp only [View.readAt_eq_ld, h1.read_unread, h2.read_unread, View.ld_unit_zero (S := S512x2048) hz2]

theorem out_B_2 (c : Dev nD) (i : grid0.Coords) (a1 a2 a3 : Memref sig .tc .vmem S512x2048 .f32) (a4 : Memref sig .tc .vmem S8x128 .f32)
    (h1 : a1.IsWhole) (h2 : a2.IsWhole) (h3 : a3.IsWhole) (h4 : a4.IsWhole) (hc : ¬cond0_0 i) (x0 x1 : Vec Ideal S512x2048 .f32)
    (xo : Vec Ideal S8x128 .f32) : out0_B_2 c i a1 h1 a2 h2 a3 h3 a4 h4 hc x0 x1 xo = k0_pay2 x0 x1 := by
  unfold out0_B_2
  rw [View.read_writes_eq_canon _ _ _ (cover0_B_2 c i a1 h1 a2 h2 a3 h3 a4 h4 hc x0 x1 xo)]
  unfold kernelRun0_B
  dsimp only
  rw [View.canon_unit_zero hz2]
  simp only [View.readAt_eq_ld, h1.read_unread, h2.read_unread, View.ld_unit_zero (S := S512x2048) hz2]

theorem out_A_3 (c : Dev nD) (i : grid0.Coords) (a1 a2 a3 : Memref sig .tc .vmem S512x2048 .f32) (a4 : Memref sig .tc .vmem S8x128 .f32)
    (h1 : a1.IsWhole) (h2 : a2.IsWhole) (h3 : a3.IsWhole) (h4 : a4.IsWhole) (hc : cond0_0 i) (x0 x1 : Vec Ideal S512x2048 .f32) :
    out0_A_3 c i a1 h1 a2 h2 a3 h3 a4 h4 hc x0 x1 = k0_pay4 x0 x1 (k0_pay3 (F := Ideal)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S8x128) hz2, View.readCov_unit_zero (S := S8x128) _ hz2]
  simp only [View.readAt_eq_ld, h1.read_unread, h2.read_unread, View.ld_unit_zero (S := S512x2048) hz2]

theorem out_B_3 (c : Dev nD) (i : grid0.Coords) (a1 a2 a3 : Memref sig .tc .vmem S512x2048 .f32) (a4 : Memref sig .tc .vmem S8x128 .f32)
    (h1 : a1.IsWhole) (h2 : a2.IsWhole) (h3 : a3.IsWhole) (h4 : a4.IsWhole) (hc : ¬cond0_0 i) (x0 x1 : Vec Ideal S512x2048 .f32)
    (xo : Vec Ideal S8x128 .f32) : out0_B_3 c i a1 h1 a2 h2 a3 h3 a4 h4 hc x0 x1 xo = k0_pay4 x0 x1 xo := by
  unfold out0_B_3
  rw [View.read_writes_eq_canon _ _ _ (cover0_B_3 c i a1 h1 a2 h2 a3 h3 a4 h4 hc x0 x1 xo)]
  unfold kernelRun0_B
  dsimp only
  rw [View.canon_unit_zero hz2]
  simp only [View.readAt_eq_ld, h1.read_unread, h2.read_unread, h4.read_unread, View.ld_unit_zero (S := S512x2048) hz2,
    View.ld_unit_zero (S := S8x128) hz2]

/-! ## The payloads at an index -/

theorem pay2_apply (x0 x1 : Vec Ideal S512x2048 .f32) (i : S512x2048.Idx) :
    k0_pay2 x0 x1 i = (x0 i - x1 i) * ((1 / 2048 : ℝ) : EReal) := by
  rw [← c_2048_inv]; rfl

/-- The loss of the rows `f`, each the squared distance of a row. -/
def half (x : EReal) : EReal := ((1 / 2 : ℝ) : EReal) * x

theorem pay4_apply (x0 x1 : Vec Ideal S512x2048 .f32) (xo : Vec Ideal S8x128 .f32) (i : S8x128.Idx) :
    k0_pay4 x0 x1 xo i = xo i + half (∑ r : Fin 512, Ideal.div (∑ k : Fin 2048, (x0 (ix2 r k) - x1 (ix2 r k)) * (x0 (ix2 r k) - x1 (ix2 r k))) ((2048 : ℝ) : EReal)) := by
  obtain ⟨a, b, rfl⟩ : ∃ a b, i = ix2 a b := ⟨_, _, eq_ix2 i⟩
  unfold k0_pay4
  dsimp only
  rw [addf_apply, shapeCast_self, bcastOne, shapeCast_self, mulf_apply, shapeCast_a_a1_apply, colSum (a := 512) (b := 1)]
  rw [broadcast_apply]
  show _ + Ideal.ofBits .f32 0x3F000000#32 * _ = _
  rw [c_half]
  unfold half
  congr 2
  refine Finset.sum_congr rfl fun r _ => ?_
  rw [divf_apply, shapeCast_a_a1_apply, rowSum (a := 512) (b := 2048), broadcast_apply]
  show Ideal.div _ (Ideal.ofBits .f32 0x45000000#32) = _
  rw [c_2048]
  rfl

/-! ## The blocks the windows read -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- Row `r` of point `t`'s block, in the whole array. -/
def row (t : Fin cfg0.N) (r : Fin 512) : Fin 4096 :=
  ⟨t.val * 512 + r.val, by have := lt_of_lt_of_eq t.isLt (show cfg0.N = 8 from N_0); omega⟩

theorem iblk0 (c : Dev nD) (t : Fin cfg0.N) (r : Fin 512) (k : Fin 2048) :
    iblk m c 0 t (ix2 r k) = m ((c : Thread nD τ).loc main_arg0) (ix2 (row t r) k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = t.val * 512 + r.val; rw [(idx0 t).1]; omega
  | ⟨1, _⟩ => show win0_0.index t 1 * 2048 + 1 * k.val = k.val; rw [(idx0 t).2]; omega

theorem iblk1 (c : Dev nD) (t : Fin cfg0.N) (r : Fin 512) (k : Fin 2048) :
    iblk m c 1 t (ix2 r k) = m ((c : Thread nD τ).loc main_arg1) (ix2 (row t r) k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * r.val = t.val * 512 + r.val; rw [(idx1 t).1]; omega
  | ⟨1, _⟩ => show win0_1.index t 1 * 2048 + 1 * k.val = k.val; rw [(idx1 t).2]; omega

/-! ## The results -/

/-- The mean squared error of row `i`. -/
def rowErr (y z : S4096x2048.Idx → EReal) (i : Fin 4096) : EReal :=
  Ideal.div (∑ k : Fin 2048, (y (ix2 i k) - z (ix2 i k)) * (y (ix2 i k) - z (ix2 i k))) ((2048 : ℝ) : EReal)

abbrev Y (c : Dev nD) : S4096x2048.Idx → EReal := m ((c : Thread nD τ).loc main_arg0)
abbrev Z (c : Dev nD) : S4096x2048.Idx → EReal := m ((c : Thread nD τ).loc main_arg1)

/-- The gradient. -/
def grad (y z : S4096x2048.Idx → EReal) : S4096x2048.Idx → EReal := fun i => (y i - z i) * ((1 / 2048 : ℝ) : EReal)

theorem outs_1 (c : Dev nD) (t : Fin cfg0.N) : (outsAt0 m c t.val t.isLt).1 = k0_pay2 (iblk m c 0 t) (iblk m c 1 t) := by
  by_cases h0 : t.val % 8 = 0
  · rw [outsAt0_A m c t h0]; dsimp only; rw [out_A_2]
  · rw [outsAt0_B m c t h0]; dsimp only; rw [out_B_2]

theorem out_grad (c : Dev nD) (i : S4096x2048.Idx) : (dats m 0 c).arrAt 2 cfg0.N i = grad (Y m c) (Z m c) i := by
  have hN : cfg0.N = 8 := N_0
  refine congrFun ((dats m 0 c).arrAt_eq_of_cover 2 (grad (Y m c) (Z m c)) (fun t _ => ?_) fun i => ?_) i
  · show (cfg0.win 2).cut (grid0.coords t) ((dats m 0 c).after 2 t) = _
    rw [after0_2, outs_1]
    funext j
    obtain ⟨r, k, rfl⟩ : ∃ (r : Fin 512) (k : Fin 2048), j = ix2 r k := ⟨_, _, eq_ix2 j⟩
    rw [View.read_apply]
    show k0_pay2 (iblk m c 0 t) (iblk m c 1 t) (ix2 r k) = grad (Y m c) (Z m c) _
    rw [pay2_apply, iblk0, iblk1]
    unfold grad
    have : ((((cfg0.win 2).blk t).view.emb (ix2 r k)) : S4096x2048.Idx) = ix2 (row t r) k := funext fun a => Fin.ext (by
      match a with
      | ⟨0, _⟩ => show win0_2.index t 0 * 512 + 1 * r.val = t.val * 512 + r.val; rw [(idx2 t).1]; omega
      | ⟨1, _⟩ => show win0_2.index t 1 * 2048 + 1 * k.val = k.val; rw [(idx2 t).2]; omega)
    rw [this]
  · have h0 : (i 0 : Nat) < 4096 := (i 0).isLt
    have h1 : (i 1 : Nat) < 2048 := (i 1).isLt
    have ht : (i 0 : Nat) / 512 < cfg0.N := by omega
    refine ⟨⟨(i 0 : Nat) / 512, ht⟩, flush0_2 _, ?_⟩
    show i ∈ ((View.whole main_v0_0).slice (win0_2.rect ⟨(i 0 : Nat) / 512, ht⟩)).set
    rw [View.set_slice_whole, Rect.mem_set_unit]
    intro a
    match a with
    | ⟨0, _⟩ =>
      show win0_2.index ⟨(i 0 : Nat) / 512, ht⟩ 0 * 512 ≤ (i 0 : Nat) ∧ (i 0 : Nat) < win0_2.index ⟨(i 0 : Nat) / 512, ht⟩ 0 * 512 + 512
      rw [(idx2 _).1]; dsimp only; omega
    | ⟨1, _⟩ =>
      show win0_2.index ⟨(i 0 : Nat) / 512, ht⟩ 1 * 2048 ≤ (i 1 : Nat) ∧ (i 1 : Nat) < win0_2.index ⟨(i 0 : Nat) / 512, ht⟩ 1 * 2048 + 2048
      rw [(idx2 _).2]; omega

/-- What point `t` adds to the loss. -/
def part (c : Dev nD) (t : Fin cfg0.N) : EReal := half (∑ r : Fin 512, rowErr (Y m c) (Z m c) (row t r))

theorem outs_2 (c : Dev nD) (j : S8x128.Idx) (n : ℕ) (h : n < cfg0.N) :
    (outsAt0 m c n h).2 j = ∑ t : Fin (n + 1), part m c ⟨t.val, lt_of_lt_of_le t.isLt h⟩ := by
  have key : ∀ (t : Fin cfg0.N) (xo : Vec Ideal S8x128 .f32), k0_pay4 (iblk m c 0 t) (iblk m c 1 t) xo j = xo j + part m c t := by
    intro t xo
    rw [pay4_apply]
    simp only [iblk0, iblk1]
    rfl
  have hN : cfg0.N = 8 := N_0
  refine running (part m c) (fun n h => (outsAt0 m c n h).2 j) (fun h => ?_) (fun n h => ?_) n h
  · rw [outsAt0_A m c ⟨0, h⟩ rfl]
    dsimp only
    rw [out_A_3, key]
    show Ideal.ofBits .f32 0x00000000#32 + _ = _
    rw [Ideal.ofBits_zero_f32, zero_add]
  · rw [outsAt0_B m c ⟨n + 1, h⟩ (by dsimp only; omega)]
    dsimp only
    rw [out_B_3, key]
    rfl

/-- The loss, on every lane. -/
def loss (y z : S4096x2048.Idx → EReal) : S8x128.Idx → EReal := fun _ => half (∑ i : Fin 4096, rowErr y z i)

theorem rowErr_nonneg (y z : S4096x2048.Idx → EReal) (i : Fin 4096) : 0 ≤ rowErr y z i := by
  unfold rowErr
  rw [Ideal.div_coe (by norm_num)]
  refine mul_nonneg (Finset.sum_nonneg fun k _ => ?_) (by exact_mod_cast (by norm_num : (0 : ℝ) ≤ 1 / (2048 : ℝ)))
  rcases le_total 0 (y (ix2 i k) - z (ix2 i k)) with h | h
  · exact mul_nonneg h h
  · exact EReal.mul_nonneg_iff.mpr (Or.inr ⟨h, h⟩)

theorem out_loss (c : Dev nD) (i : S8x128.Idx) : (dats m 0 c).arrAt 3 cfg0.N i = loss (Y m c) (Z m c) i := by
  have hN : cfg0.N = 8 := N_0
  refine congrFun ((dats m 0 c).arrAt_eq_of_cover 3 (loss (Y m c) (Z m c)) (fun t hf => ?_) fun i => ?_) i
  · have h7 : t.val = 7 := by have := (flush0_3 t).mp hf; have := t.isLt; omega
    obtain rfl : t = t0_7 := Fin.ext h7
    show (cfg0.win 3).cut (grid0.coords t0_7) ((dats m 0 c).after 3 t0_7) = _
    rw [after0_3]
    have hz' : (fun a => win0_3.index t0_7 a * main_v0_1.ty.shape.size a) = fun _ => 0 := funext fun a => by fin_cases a <;> decide
    refine Eq.trans ?_ (Memref.read_access_unit_zero (Elt Ideal) main_v0_1 hz' (fun a => by rw [congrFun hz' a]; simp) (loss (Y m c) (Z m c))).symm
    funext j
    refine (outs_2 m c j _ t0_7.isLt).trans ?_
    unfold loss half part
    rw [sum_blocks 8 512 rfl]
    unfold half
    rw [mul_sum_of_nonneg _ _ _ (by exact_mod_cast (by norm_num : (0 : ℝ) ≤ 1 / 2)) (EReal.coe_ne_top _)]
    rfl
  · refine ⟨t0_7, (flush0_3 t0_7).mpr rfl, ?_⟩
    show i ∈ ((View.whole main_v0_1).slice (win0_3.rect t0_7)).set
    rw [View.set_slice_whole, Rect.mem_set_unit]
    intro a
    have h0 : (i 0 : Nat) < 8 := (i 0).isLt
    have h1 : (i 1 : Nat) < 128 := (i 1).isLt
    match a with
    | ⟨0, _⟩ =>
      show win0_3.index t0_7 0 * 8 ≤ (i 0 : Nat) ∧ (i 0 : Nat) < win0_3.index t0_7 0 * 8 + 8
      rw [show win0_3.index t0_7 0 = 0 from by decide +kernel]; omega
    | ⟨1, _⟩ =>
      show win0_3.index t0_7 1 * 128 ≤ (i 1 : Nat) ∧ (i 1 : Nat) < win0_3.index t0_7 1 * 128 + 128
      rw [show win0_3.index t0_7 1 = 0 from by decide +kernel]; omega

end Cert.LossIdeal.Val

/-! ## The reference -/

namespace Cert.LossRefIdeal.Val

open Cert.LossRefIdeal Cert.LossRefIdeal.Gen Cert.LossRefIdeal.Read Cert.Shapes
open Idealize.ShloMosaic Idealize.ShloMosaic.ValueIdx

theorem ref_grad (y z : S4096x2048.Idx → EReal) : val_main_v14 (F := Ideal) y z = Cert.LossIdeal.Val.grad y z := by
  funext i
  rw [val_main_v14_apply, val_main_v13_apply, val_main_v12_apply, val_main_v10_apply, val_main_v9_apply, val_main_v11_apply,
    val_main_v3_apply, val_main_v2_apply, val_main_v0_apply, val_main_cst_4_apply, val_main_cst_5_apply, val_main_cst_6_apply, val_main_cst_apply]
  show Ideal.div (Ideal.ofBits .f32 0x3F000000#32 * Ideal.ofBits .f32 0x3F800000#32) (Ideal.ofBits .f32 0x45000000#32)
    * (Ideal.ofBits .f32 0x40000000#32 * (y i - z i)) = (y i - z i) * _
  rw [c_half, c_one, c_two, c_2048, Ideal.div_coe (by norm_num), ← mul_assoc, mul_comm (y i - z i)]
  congr 1
  norm_cast
  norm_num

theorem ref_loss (y z : S4096x2048.Idx → EReal) : val_main_v15 (F := Ideal) y z = Cert.LossIdeal.Val.loss y z := by
  funext i
  rw [val_main_v15_apply, val_main_v8_apply, val_main_v7_apply, val_main_cst_2_apply, val_main_cst_3_apply]
  show Ideal.ofBits .f32 0x3F000000#32 * (Ideal.ofBits .f32 0x00000000#32 + _) = _
  rw [c_half, Ideal.ofBits_zero_f32, zero_add]
  unfold Cert.LossIdeal.Val.loss Cert.LossIdeal.Val.half
  congr 1
  refine Fintype.sum_equiv ⟨fun j => j 0, fun k => ix1 k, fun j => (eq_ix1 j).symm, fun k => rfl⟩ _ _ fun j => ?_
  obtain ⟨k, rfl⟩ : ∃ k, j = ix1 k := ⟨_, eq_ix1 j⟩
  rw [val_main_v6_apply, val_main_v4_apply, val_main_v5_apply, val_main_cst_0_apply, val_main_cst_1_apply]
  show Ideal.div (Ideal.ofBits .f32 0x00000000#32 + _) (Ideal.ofBits .f32 0x45000000#32) = _
  rw [c_2048, Ideal.ofBits_zero_f32, zero_add]
  unfold Cert.LossIdeal.Val.rowErr
  congr 1
  refine Finset.sum_congr rfl fun q _ => ?_
  rw [val_main_v1_apply, val_main_v0_apply]
  have : idx_main_v4 (ix1 k) q = ix2 k q := funext fun a => by match a with | ⟨0, _⟩ => rfl | ⟨1, _⟩ => rfl
  rw [this]
  rfl

end Cert.LossRefIdeal.Val

/-! ## The claim -/

namespace Cert.Loss.Claim

open Idealize.ShloMosaic Idealize.ShloMosaic.TcCoe Idealize.SL.Sem

theorem frame_ref : Cert.quiescent_LossRefIdeal (hLossRefIdeal := Cert.LossRefIdeal.Gen.facts) := fun m g _ =>
  (θ_run _ _ _).mono (fun r h => ⟨fun c => (h c).2.2, sem_eq_zero_of_no_sems (by decide) r.2⟩)
    (Cert.LossRefIdeal.Value.run (F := Ideal) m g)

theorem algebraic : Cert.algebraic_LossIdeal_LossRefIdeal (hLossIdeal := Cert.LossIdeal.Gen.facts) (hLossRefIdeal := Cert.LossRefIdeal.Gen.facts) := by
  intro m g m' g' _ hargs
  refine ⟨fun c => Cert.LossIdeal.Val.grad (m ((c.tc : Thread _ _).loc Cert.LossIdeal.main_arg0)) (m ((c.tc : Thread _ _).loc Cert.LossIdeal.main_arg1)),
    fun c => Cert.LossIdeal.Val.loss (m ((c.tc : Thread _ _).loc Cert.LossIdeal.main_arg0)) (m ((c.tc : Thread _ _).loc Cert.LossIdeal.main_arg1)), ?_, ?_⟩
  · refine (θ_run _ _ _).mono (fun r h c => ?_) (Cert.LossIdeal.Value.run_blocks (F := Ideal) m g)
    obtain ⟨h0, h1, h2, h3⟩ := h c
    exact ⟨h0.trans (funext fun i => Cert.LossIdeal.Val.out_grad m c i), h1.trans (funext fun i => Cert.LossIdeal.Val.out_loss m c i), h2, h3⟩
  · refine (θ_run _ _ _).mono (fun r h c => ?_) (Cert.LossRefIdeal.Value.run (F := Ideal) m' g')
    obtain ⟨h0, h1, h2, h3⟩ := h c
    obtain ⟨e0, e1⟩ := hargs c
    refine ⟨h0.trans ?_, h1.trans ?_, h2, h3⟩
    · rw [e0, e1]; exact Cert.LossRefIdeal.Val.ref_grad _ _
    · rw [e0, e1]; exact Cert.LossRefIdeal.Val.ref_loss _ _

end Cert.Loss.Claim

end
-- ==== Proof.AttnStep.lean ====
/-
  The attention backward kernel, one grid point at a time. The body of a point works on three running
  arrays: the gradient rows of the queries of the current head, and two scratch accumulators for the
  gradients of the current keys and values. Here each of the body's five conditional steps is given as a
  function of those arrays, and the body is shown to compute the composition of the five.
-/
module

public import proofs.«01_k».proof.Proof.Gen.AttnIdeal.Frame
public import proofs.«01_k».proof.Proof.Gen.AttnIdeal.Skeleton
public import Idealize.ShloMosaic.Lib.VecWindow

@[expose] public section

set_option maxRecDepth 16384

noncomputable section

namespace Cert.AttnIdeal.Step

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F]

local notation "𝕄" => MT nD τ sig Unit (Elt F) ℕ (UR sig nD τ) ℕ

/-- The blocks a grid point reads: queries, keys, values, saved output, saved log-sum, cotangent. -/
structure Blk (F : FTy → Type) where
  q : Vec F S1x1024x192 .bf16
  k : Vec F S1x1024x192 .bf16
  v : Vec F S1x1024x128 .bf16
  o : Vec F S1024x128 .f32
  l : Vec F S1x1024x1 .f32
  d : Vec F S1024x128 .f32

/-- The three running arrays. -/
structure Acc (F : FTy → Type) where
  dq : Vec F S1x4096x192 .f32
  dk : Vec F S1024x192 .f32
  dv : Vec F S1024x128 .f32

variable (x : Blk F)

abbrev q0 : Vec F S1x512x192 .bf16 := window x.q ![0, 0, 0] S1x512x192.size inb_S1x1024x192_S1x512x192_0_0_0
abbrev q1 : Vec F S1x512x192 .bf16 := window x.q ![0, 512, 0] S1x512x192.size inb_S1x1024x192_S1x512x192_0_512_0
abbrev kl : Vec F S1x512x192 .bf16 := window x.k ![0, 0, 0] S1x512x192.size inb_S1x1024x192_S1x512x192_0_0_0
abbrev vl : Vec F S1x512x128 .bf16 := window x.v ![0, 0, 0] S1x512x128.size inb_S1x1024x128_S1x512x128_0_0_0
abbrev d0 : Vec F S512x128 .f32 := window x.d ![0, 0] S512x128.size inb_S1024x128_S512x128_0_0
abbrev d1 : Vec F S512x128 .f32 := window x.d ![512, 0] S512x128.size inb_S1024x128_S512x128_512_0
abbrev o0 : Vec F S512x128 .f32 := window x.o ![0, 0] S512x128.size inb_S1024x128_S512x128_0_0
abbrev o1 : Vec F S512x128 .f32 := window x.o ![512, 0] S512x128.size inb_S1024x128_S512x128_512_0
abbrev l0 : Vec F S1x512x1 .f32 := window x.l ![0, 0, 0] S1x512x1.size inb_S1x1024x1_S1x512x1_0_0_0
abbrev l1 : Vec F S1x512x1 .f32 := window x.l ![0, 512, 0] S1x512x1.size inb_S1x1024x1_S1x512x1_0_512_0

/-- A window of 512 rows inside the 4096 rows of a head. -/
theorem rows_inb (n : Fin 4) (r : Fin 2) :
    ∀ a, (![0, 1024 * n.val + 512 * r.val, 0] : Fin 3 → ℕ) a + S1x512x192.size a ≤ S1x4096x192.size a := by
  intro a
  match a with
  | ⟨0, _⟩ => show 0 + 1 ≤ 1; omega
  | ⟨1, _⟩ => show 1024 * n.val + 512 * r.val + 512 ≤ 4096; omega
  | ⟨2, _⟩ => show 0 + 192 ≤ 192; omega

/-- 512 of the 4096 rows. -/
abbrev getRows (n : Fin 4) (r : Fin 2) (dq : Vec F S1x4096x192 .f32) : Vec F S1x512x192 .f32 :=
  window dq ![0, 1024 * n.val + 512 * r.val, 0] S1x512x192.size (rows_inb n r)

/-- 512 of the 4096 rows replaced. -/
abbrev setRows (n : Fin 4) (r : Fin 2) (dq : Vec F S1x4096x192 .f32) (w : Vec F S1x512x192 .f32) : Vec F S1x4096x192 .f32 :=
  put dq ![0, 1024 * n.val + 512 * r.val, 0] S1x512x192.size w

/-! A block of keys strictly before the block of queries. -/

abbrev ds0 : FVec F S512x1024 .bf16 := k0_pay17 (q0 x) x.k (d0 x) (l0 x) (o0 x) x.v

def offDv (dv : Vec F S1024x128 .f32) : Vec F S1024x128 .f32 :=
  k0_pay4 (k0_pay22 (q1 x) x.k (l1 x)) (k0_pay23 (d1 x)) (k0_pay16 (q0 x) x.k (d0 x) (l0 x) dv)

def offDk (dk : Vec F S1024x192 .f32) : Vec F S1024x192 .f32 :=
  k0_pay7 (k0_pay20 (q1 x)) (k0_pay22 (q1 x) x.k (l1 x)) (k0_pay23 (d1 x)) (k0_pay24 (d1 x) (o1 x)) x.v
    (k0_pay19 (k0_pay12 (q0 x)) (ds0 x) dk)

def offDqLow (n : Fin 4) (dq : Vec F S1x4096x192 .f32) : Vec F S1x4096x192 .f32 :=
  setRows n 0 dq (k0_pay18 (k0_pay13 x.k) (ds0 x) (getRows n 0 dq))

def offDq (n : Fin 4) (dq : Vec F S1x4096x192 .f32) : Vec F S1x4096x192 .f32 :=
  setRows n 1 (offDqLow x n dq)
    (k0_pay6 (k0_pay21 x.k) (k0_pay22 (q1 x) x.k (l1 x)) (k0_pay23 (d1 x)) (k0_pay24 (d1 x) (o1 x)) x.v
      (getRows n 1 dq))

/-! The block of keys at the same positions as the block of queries. -/

abbrev zeros : FVec F S512x512 .f32 := constant S512x512 .f32 0x00000000#32

def diagDvLow (dv : Vec F S1024x128 .f32) : Vec F S1024x128 .f32 :=
  put dv ![0, 0] S512x128.size
    (k0_pay30 (q0 x) (kl x) (d0 x) (l0 x) (window dv ![0, 0] S512x128.size inb_S1024x128_S512x128_0_0))

def diagDv (dv : Vec F S1024x128 .f32) : Vec F S1024x128 .f32 :=
  k0_pay40 (d1 x) (k0_pay37 (q1 x) x.k (l1 x)) (diagDvLow x dv)

def diagDkLow (dk : Vec F S1024x192 .f32) : Vec F S1024x192 .f32 :=
  put dk ![0, 0] S512x192.size
    (k0_pay34 (k0_pay25 (q0 x)) (k0_pay27 (q0 x) (kl x) (l0 x)) (k0_pay28 (d0 x)) (k0_pay29 (d0 x) (o0 x))
      (k0_pay31 (vl x)) zeros (window dk ![0, 0] S512x192.size inb_S1024x192_S512x192_0_0))

def diagDk (dk : Vec F S1024x192 .f32) : Vec F S1024x192 .f32 :=
  k0_pay9 (k0_pay35 (q1 x)) (k0_pay41 (d1 x) (k0_pay37 (q1 x) x.k (l1 x)) (o1 x) x.v) (diagDkLow x dk)

def diagDqLow (n : Fin 4) (dq : Vec F S1x4096x192 .f32) : Vec F S1x4096x192 .f32 :=
  setRows n 0 dq
    (k0_pay33 (k0_pay26 (kl x)) (k0_pay27 (q0 x) (kl x) (l0 x)) (k0_pay28 (d0 x)) (k0_pay29 (d0 x) (o0 x))
      (k0_pay31 (vl x)) zeros (getRows n 0 dq))

def diagDq (n : Fin 4) (dq : Vec F S1x4096x192 .f32) : Vec F S1x4096x192 .f32 :=
  setRows n 1 (diagDqLow x n dq)
    (k0_pay8 (k0_pay42 (k0_pay36 x.k) (d1 x) (k0_pay37 (q1 x) x.k (l1 x)) (o1 x) x.v (getRows n 1 dq)))

/-! The steps at a grid point. -/

/-- The queries' block is the first. -/
abbrev first (i : grid0.Coords) : Prop :=
  Scalar.cmpi .ne (Scalar.extui (Scalar.cmpi .eq (BitVec.ofNat 32 (i 2).val) 0#32) : BitVec 32) 0#32 = 1#1

def clearQ (i : grid0.Coords) (s : Acc F) : Acc F :=
  if k0_cond1 i = 1#1 then { s with dq := k0_pay1 } else s

def clearKV (i : grid0.Coords) (s : Acc F) : Acc F :=
  if first i then { s with dk := k0_pay2, dv := k0_pay3 } else s

def below (i : grid0.Coords) (s : Acc F) : Acc F :=
  if k0_cond3 i = 1#1 then { dq := offDq x (i 2) s.dq, dk := offDk x s.dk, dv := offDv x s.dv } else s

def onDiag (i : grid0.Coords) (s : Acc F) : Acc F :=
  if k0_cond4 i = 1#1 then { dq := diagDq x (i 2) s.dq, dk := diagDk x s.dk, dv := diagDv x s.dv } else s

/-- The running arrays after a grid point. -/
def step (i : grid0.Coords) (s : Acc F) : Acc F := onDiag x i (below x i (clearKV i (clearQ i s)))

/-- What the point leaves in the key gradient's block. -/
def outK (i : grid0.Coords) (s : Acc F) (y : Vec F S1x1024x192 .f32) : Vec F S1x1024x192 .f32 :=
  if k0_cond5 i = 1#1 then k0_pay10 s.dk else y

/-- What the point leaves in the value gradient's block. -/
def outV (i : grid0.Coords) (s : Acc F) (y : Vec F S1x1024x128 .f32) : Vec F S1x1024x128 .f32 :=
  if k0_cond5 i = 1#1 then k0_pay11 s.dv else y

theorem off1_low (i : grid0.Coords) : k0_off1 i 0#32 = ![0, 1024 * (i 2).val + 512 * (0 : Fin 2).val, 0] :=
  (by decide +kernel : ∀ n : Fin 4, (![0, (Scalar.indexCast (Scalar.addi (Scalar.muli (BitVec.ofNat 32 n.val) 1024#32) 0#32) : Index).toNat, 0] : Fin 3 → ℕ) = ![0, 1024 * n.val + 512 * (0 : Fin 2).val, 0]) (i 2)
theorem off1_high (i : grid0.Coords) : k0_off1 i 512#32 = ![0, 1024 * (i 2).val + 512 * (1 : Fin 2).val, 0] :=
  (by decide +kernel : ∀ n : Fin 4, (![0, (Scalar.indexCast (Scalar.addi (Scalar.muli (BitVec.ofNat 32 n.val) 1024#32) 512#32) : Index).toNat, 0] : Fin 3 → ℕ) = ![0, 1024 * n.val + 512 * (1 : Fin 2).val, 0]) (i 2)
theorem off2_low (i : grid0.Coords) : k0_off2 i 0#32 = ![0, 1024 * (i 2).val + 512 * (0 : Fin 2).val, 0] := off1_low i
theorem off2_high (i : grid0.Coords) : k0_off2 i 512#32 = ![0, 1024 * (i 2).val + 512 * (1 : Fin 2).val, 0] := off1_high i

section Body

variable (c : Dev nD) (i : grid0.Coords)
  (arg3 : Memref sig .tc .vmem S1x1024x192 .bf16) (h3 : arg3.IsWhole) (arg4 : Memref sig .tc .vmem S1x1024x192 .bf16) (h4 : arg4.IsWhole)
  (arg5 : Memref sig .tc .vmem S1x1024x128 .bf16) (h5 : arg5.IsWhole) (arg6 : Memref sig .tc .vmem S1024x128 .f32) (h6 : arg6.IsWhole)
  (arg7 : Memref sig .tc .vmem S1x1024x1 .f32) (h7 : arg7.IsWhole) (arg8 : Memref sig .tc .vmem S1024x128 .f32) (h8 : arg8.IsWhole)
  (arg9 : Memref sig .tc .vmem S1x4096x192 .f32) (h9 : arg9.IsWhole) (arg10 : Memref sig .tc .vmem S1x1024x192 .f32) (h10 : arg10.IsWhole)
  (arg11 : Memref sig .tc .vmem S1x1024x128 .f32) (h11 : arg11.IsWhole) (arg12 : Memref sig .tc .vmem S1024x192 .f32) (h12 : arg12.IsWhole)
  (arg13 : Memref sig .tc .vmem S1024x128 .f32) (h13 : arg13.IsWhole)

/-- The body's buffers at given contents. -/
def held (s : Acc F) (y : Vec F S1x1024x192 .f32) (z : Vec F S1x1024x128 .f32) : sProp 𝕄 :=
  iprop(owns (c : Thread nD τ) arg3 fullShare x.q ∗ owns (c : Thread nD τ) arg4 fullShare x.k ∗ owns (c : Thread nD τ) arg5 fullShare x.v
    ∗ owns (c : Thread nD τ) arg6 fullShare x.o ∗ owns (c : Thread nD τ) arg7 fullShare x.l ∗ owns (c : Thread nD τ) arg8 fullShare x.d
    ∗ owns (c : Thread nD τ) arg9 fullShare s.dq ∗ owns (c : Thread nD τ) arg10 fullShare y ∗ owns (c : Thread nD τ) arg11 fullShare z
    ∗ owns (c : Thread nD τ) arg12 fullShare s.dk ∗ owns (c : Thread nD τ) arg13 fullShare s.dv)

set_option maxHeartbeats 4000000 in
theorem body (E : Set ℕ) (s : Acc F) (y : Vec F S1x1024x192 .f32) (z : Vec F S1x1024x128 .f32) :
    held x c arg3 arg4 arg5 arg6 arg7 arg8 arg9 arg10 arg11 arg12 arg13 s y z
      ⊢ wp frame (wpE (defs₀ (F := F)) Variants.none c none) E
          (cc0_attn_bwd i arg3 h3 arg4 h4 arg5 h5 arg6 h6 arg7 h7 arg8 h8 arg9 h9 arg10 h10 arg11 h11 arg12 h12 arg13 h13)
          (fun _ => held x c arg3 arg4 arg5 arg6 arg7 arg8 arg9 arg10 arg11 arg12 arg13 (step x i s) (outK i (step x i s) y) (outV i (step x i s) z)) := by
  simp only [cc0_attn_bwd_eq_skeleton]; unfold cc0_attn_bwd_skel
  lift_lets
  intro a2 v5 v6 v7 e t5 t4 t3 t2
  have r5 : ∀ s : Acc F, held x c arg3 arg4 arg5 arg6 arg7 arg8 arg9 arg10 arg11 arg12 arg13 s y z
      ⊢ wp frame (wpE (defs₀ (F := F)) Variants.none c none) E (t5 ⟨⟩)
        (fun _ => held x c arg3 arg4 arg5 arg6 arg7 arg8 arg9 arg10 arg11 arg12 arg13 s (outK i s y) (outV i s z)) := by
    intro s
    unfold outK outV
    simp only [t5, e]
    by_cases hc : k0_cond5 i = 1#1
    · rw [if_pos hc, if_pos hc]
      unfold held owns
      iintro ⟨H3, H4, H5, H6, H7, H8, H9, ⟨%f10, %hf10, H10⟩, ⟨%f11, %hf11, H11⟩, ⟨%f12, %hf12, H12⟩, ⟨%f13, %hf13, H13⟩⟩
      sl_exec (disch := first | sl_exact hc)
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; swap; · iexact H10
        ipureintro
        exact (View.read_writes_full _ _ _ _ _).trans (congrArg k0_pay10 ((View.readAt_full _ _ _).trans hf12))
      isplitl [H11]
      · iexists _; isplitr; swap; · iexact H11
        ipureintro
        exact (View.read_writes_full _ _ _ _ _).trans (congrArg k0_pay11 ((View.readAt_full _ _ _).trans hf13))
      isplitl [H12]
      · iexists _; isplitr; swap; · iexact H12
        ipureintro; exact hf12
      iexists _; isplitr; swap; · iexact H13
      ipureintro; exact hf13
    · rw [if_neg hc, if_neg hc]
      iintro H
      sl_exec (disch := first | sl_exact hc)
      sl_step
      iexact H
  clear_value e t5
  have r4 : ∀ (s s' : Acc F) (K : PUnit → sProp 𝕄), onDiag x i s = s'
      → (held x c arg3 arg4 arg5 arg6 arg7 arg8 arg9 arg10 arg11 arg12 arg13 s' y z ⊢ wp frame (wpE (defs₀ (F := F)) Variants.none c none) E (t5 ⟨⟩) K)
      → (held x c arg3 arg4 arg5 arg6 arg7 arg8 arg9 arg10 arg11 arg12 arg13 s y z ⊢ wp frame (wpE (defs₀ (F := F)) Variants.none c none) E (t4 ⟨⟩) K) := by
    intro s s' K hs hK
    by_cases hc : k0_cond4 i = 1#1
    · have hs : ({ dq := diagDq x (i 2) s.dq, dk := diagDk x s.dk, dv := diagDv x s.dv } : Acc F) = s' := (if_pos hc).symm.trans hs
      simp only [t4]
      revert hK
      unfold held owns
      intro hK
      iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, H10, H11, ⟨%f12, %hf12, H12⟩, ⟨%f13, %hf13, H13⟩⟩
      sl_exec (disch := first | sl_exact hc)
      iapply hK
      subst hs
      have hx : x = ⟨View.read (Elt F) arg3.view f3, View.read (Elt F) arg4.view f4, View.read (Elt F) arg5.view f5, View.read (Elt F) arg6.view f6, View.read (Elt F) arg7.view f7, View.read (Elt F) arg8.view f8⟩ := by rw [hf3, hf4, hf5, hf6, hf7, hf8]
      sl_unfold_words
      isplitl [H3]
      · iexists _; isplitr; swap; · iexact H3
        ipureintro; exact hf3
      isplitl [H4]
      · iexists _; isplitr; swap; · iexact H4
        ipureintro; exact hf4
      isplitl [H5]
      · iexists _; isplitr; swap; · iexact H5
        ipureintro; exact hf5
      isplitl [H6]
      · iexists _; isplitr; swap; · iexact H6
        ipureintro; exact hf6
      isplitl [H7]
      · iexists _; isplitr; swap; · iexact H7
        ipureintro; exact hf7
      isplitl [H8]
      · iexists _; isplitr; swap; · iexact H8
        ipureintro; exact hf8
      isplitl [H9]
      · iexists _; isplitr; swap; · iexact H9
        ipureintro
        refine (View.read_writes_cons_put arg9.view f9 _ _ _ (off2_high i)).trans ?_
        show _ = diagDq x (i 2) s.dq
        rw [hx, ← hf9]
        unfold diagDq diagDqLow
        have e9 := View.readAt_unit arg9.view f9 (k0_off2_inb i hc 1) (off2_high i) (rows_inb (i 2) 1)
        have e9' := View.readAt_unit arg9.view f9 (k0_off2_inb i hc 0) (off2_low i) (rows_inb (i 2) 0)
        refine congrArg₂ (fun a b => put a _ _ b) ?_ ?_
        · refine (View.read_writes_cons_put arg9.view f9 _ _ _ (off2_low i)).trans ?_
          refine congrArg (put _ _ _) ?_
          exact congrArg (k0_pay33 _ _ _ _ _ _) e9'
        · rw [View.readAt_full, View.readAt_full]
          exact congrArg (fun w => k0_pay8 (k0_pay42 _ _ _ _ _ w)) e9
      isplitl [H10]; · iexact H10
      isplitl [H11]; · iexact H11
      isplitl [H12]
      · iexists _; isplitr; swap; · iexact H12
        ipureintro
        show _ = diagDk x s.dk
        rw [hx, ← hf12]
        unfold diagDk diagDkLow
        refine (View.read_writes_full _ _ _ _ _).trans ?_
        rw [View.readAt_full, View.readAt_full, View.readAt_full, View.read_writes_cons_put _ _ _ _ _ rfl]
        rfl
      iexists _; isplitr; swap; · iexact H13
      ipureintro
      show _ = diagDv x s.dv
      rw [hx, ← hf13]
      unfold diagDv diagDvLow
      refine (View.read_writes_full _ _ _ _ _).trans ?_
      rw [View.readAt_full, View.readAt_full, View.read_writes_cons_put _ _ _ _ _ rfl]
      rfl
    · have hs : s = s' := (if_neg hc).symm.trans hs
      simp only [t4]
      subst hs
      iintro H
      sl_exec (disch := first | sl_exact hc)
      iapply hK
      iexact H
  clear_value t4
  have r3 : ∀ (s s' : Acc F) (K : PUnit → sProp 𝕄), below x i s = s'
      → (held x c arg3 arg4 arg5 arg6 arg7 arg8 arg9 arg10 arg11 arg12 arg13 s' y z ⊢ wp frame (wpE (defs₀ (F := F)) Variants.none c none) E (t4 ⟨⟩) K)
      → (held x c arg3 arg4 arg5 arg6 arg7 arg8 arg9 arg10 arg11 arg12 arg13 s y z ⊢ wp frame (wpE (defs₀ (F := F)) Variants.none c none) E (t3 ⟨⟩) K) := by
    intro s s' K hs hK
    by_cases hc : k0_cond3 i = 1#1
    · have hs : ({ dq := offDq x (i 2) s.dq, dk := offDk x s.dk, dv := offDv x s.dv } : Acc F) = s' := (if_pos hc).symm.trans hs
      simp only [t3]
      revert hK
      unfold held owns
      intro hK
      iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, H10, H11, ⟨%f12, %hf12, H12⟩, ⟨%f13, %hf13, H13⟩⟩
      sl_exec (disch := first | sl_exact hc)
      iapply hK
      subst hs
      have hx : x = ⟨View.read (Elt F) arg3.view f3, View.read (Elt F) arg4.view f4, View.read (Elt F) arg5.view f5, View.read (Elt F) arg6.view f6, View.read (Elt F) arg7.view f7, View.read (Elt F) arg8.view f8⟩ := by rw [hf3, hf4, hf5, hf6, hf7, hf8]
      sl_unfold_words
      isplitl [H3]
      · iexists _; isplitr; swap; · iexact H3
        ipureintro; exact hf3
      isplitl [H4]
      · iexists _; isplitr; swap; · iexact H4
        ipureintro; exact hf4
      isplitl [H5]
      · iexists _; isplitr; swap; · iexact H5
        ipureintro; exact hf5
      isplitl [H6]
      · iexists _; isplitr; swap; · iexact H6
        ipureintro; exact hf6
      isplitl [H7]
      · iexists _; isplitr; swap; · iexact H7
        ipureintro; exact hf7
      isplitl [H8]
      · iexists _; isplitr; swap; · iexact H8
        ipureintro; exact hf8
      isplitl [H9]
      · iexists _; isplitr; swap; · iexact H9
        ipureintro
        refine (View.read_writes_cons_put arg9.view f9 _ _ _ (off1_high i)).trans ?_
        show _ = offDq x (i 2) s.dq
        rw [hx, ← hf9]
        unfold offDq offDqLow
        have e9 := View.readAt_unit arg9.view f9 (k0_off1_inb i hc 1) (off1_high i) (rows_inb (i 2) 1)
        have e9' := View.readAt_unit arg9.view f9 (k0_off1_inb i hc 0) (off1_low i) (rows_inb (i 2) 0)
        refine congrArg₂ (fun a b => put a _ _ b) ?_ ?_
        · refine (View.read_writes_cons_put arg9.view f9 _ _ _ (off1_low i)).trans ?_
          refine congrArg (put _ _ _) ?_
          rw [View.readAt_full, View.readAt_full]
          exact congrArg (k0_pay18 _ _) e9'
        · rw [View.readAt_full, View.readAt_full]
          exact congrArg (fun w => k0_pay6 _ _ _ _ _ w) e9
      isplitl [H10]; · iexact H10
      isplitl [H11]; · iexact H11
      isplitl [H12]
      · iexists _; isplitr; swap; · iexact H12
        ipureintro
        show _ = offDk x s.dk
        rw [hx, ← hf12]
        unfold offDk
        refine (View.read_writes_full _ _ _ _ _).trans ?_
        rw [View.readCov_full arg12.view, View.readAt_full, View.readAt_full, View.readAt_full]
        rfl
      iexists _; isplitr; swap; · iexact H13
      ipureintro
      show _ = offDv x s.dv
      rw [hx, ← hf13]
      unfold offDv
      refine (View.read_writes_full _ _ _ _ _).trans ?_
      rw [View.readCov_full arg13.view, View.readAt_full, View.readAt_full]
      rfl
    · have hs : s = s' := (if_neg hc).symm.trans hs
      simp only [t3]
      subst hs
      iintro H
      sl_exec (disch := first | sl_exact hc)
      iapply hK
      iexact H
  clear_value t3
  have r2 : ∀ (s s' : Acc F) (K : PUnit → sProp 𝕄), clearKV i s = s'
      → (held x c arg3 arg4 arg5 arg6 arg7 arg8 arg9 arg10 arg11 arg12 arg13 s' y z ⊢ wp frame (wpE (defs₀ (F := F)) Variants.none c none) E (t3 ⟨⟩) K)
      → (held x c arg3 arg4 arg5 arg6 arg7 arg8 arg9 arg10 arg11 arg12 arg13 s y z ⊢ wp frame (wpE (defs₀ (F := F)) Variants.none c none) E (t2 ⟨⟩) K) := by
    intro s s' K hs hK
    by_cases hc : first i
    · have hs : ({ s with dk := k0_pay2, dv := k0_pay3 } : Acc F) = s' := (if_pos hc).symm.trans hs
      simp only [t2]
      revert hK
      unfold held owns
      intro hK
      iintro ⟨H3, H4, H5, H6, H7, H8, H9, H10, H11, ⟨%f12, %hf12, H12⟩, ⟨%f13, %hf13, H13⟩⟩
      sl_exec (disch := first | sl_exact hc)
      iapply hK
      subst hs
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · iexists _; isplitr; swap; · iexact H12
        ipureintro
        exact View.read_writes_full _ _ _ _ _
      iexists _; isplitr; swap; · iexact H13
      ipureintro
      exact View.read_writes_full _ _ _ _ _
    · have hs : s = s' := (if_neg hc).symm.trans hs
      simp only [t2]
      subst hs
      iintro H
      sl_exec (disch := first | sl_exact hc)
      iapply hK
      iexact H
  clear_value t2
  suffices hK : held x c arg3 arg4 arg5 arg6 arg7 arg8 arg9 arg10 arg11 arg12 arg13 (clearQ i s) y z ⊢ wp frame (wpE (defs₀ (F := F)) Variants.none c none) E (t2 ⟨⟩)
      (fun _ => held x c arg3 arg4 arg5 arg6 arg7 arg8 arg9 arg10 arg11 arg12 arg13 (step x i s) (outK i (step x i s) y) (outV i (step x i s) z)) by
    revert hK
    generalize (fun _ : PUnit => held x c arg3 arg4 arg5 arg6 arg7 arg8 arg9 arg10 arg11 arg12 arg13 (step x i s) (outK i (step x i s) y) (outV i (step x i s) z)) = K
    intro hK
    by_cases hc : k0_cond1 i = 1#1
    · have hs : clearQ i s = { s with dq := k0_pay1 } := if_pos hc
      rw [hs] at hK
      revert hK
      unfold held owns
      intro hK
      iintro ⟨H3, H4, H5, H6, H7, H8, ⟨%f9, %hf9, H9⟩, H10, H11, H12, H13⟩
      sl_exec (disch := first | sl_exact hc)
      iapply hK
      isplitl [H3]; · iexact H3
      isplitl [H4]; · iexact H4
      isplitl [H5]; · iexact H5
      isplitl [H6]; · iexact H6
      isplitl [H7]; · iexact H7
      isplitl [H8]; · iexact H8
      isplitl [H9]
      · iexists _; isplitr; swap; · iexact H9
        ipureintro
        exact View.read_writes_full _ _ _ _ _
      isplitl [H10]; · iexact H10
      isplitl [H11]; · iexact H11
      isplitl [H12]; · iexact H12
      iexact H13
    · rw [show clearQ i s = s from if_neg hc] at hK
      iintro H
      sl_exec (disch := first | sl_exact hc)
      iapply hK
      iexact H
  exact r2 _ _ _ rfl (r3 _ _ _ rfl (r4 _ _ _ rfl (r5 _)))

end Body

end Cert.AttnIdeal.Step

end
-- ==== Proof.AttnFrame.lean ====
/-
  The attention backward program's run: the body's steps over the whole grid, the three running arrays carried
  from point to point, and the frame that follows.
-/
module

public import proofs.«01_k».proof.Proof.AttnStep
public import Idealize.ShloMosaic.Lib.Claim

@[expose] public section

set_option maxRecDepth 16384

noncomputable section

namespace Cert.AttnIdeal.Step

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Where a point's conditions hold. -/

theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)
theorem first_iff : ∀ t : Fin cfg0.N, first (grid0.coords t) ↔ t.val % 4 = 0 :=
  (by decide +kernel : ∀ t : Fin grid0.N, first (grid0.coords t) ↔ t.val % 4 = 0)
theorem cond3_iff : ∀ t : Fin cfg0.N, k0_cond3 (grid0.coords t) = 1#1 ↔ t.val / 4 % 4 < t.val % 4 :=
  (by decide +kernel : ∀ t : Fin grid0.N, k0_cond3 (grid0.coords t) = 1#1 ↔ t.val / 4 % 4 < t.val % 4)
theorem cond4_iff : ∀ t : Fin cfg0.N, k0_cond4 (grid0.coords t) = 1#1 ↔ t.val % 4 = t.val / 4 % 4 :=
  (by decide +kernel : ∀ t : Fin grid0.N, k0_cond4 (grid0.coords t) = 1#1 ↔ t.val % 4 = t.val / 4 % 4)
theorem cond5_iff : ∀ t : Fin cfg0.N, k0_cond5 (grid0.coords t) = 1#1 ↔ t.val % 4 = 3 :=
  (by decide +kernel : ∀ t : Fin grid0.N, k0_cond5 (grid0.coords t) = 1#1 ↔ t.val % 4 = 3)
theorem idle6_iff : ∀ t : Fin cfg0.N, cfg0.idle 6 (grid0.coords t) = true ↔ t.val % 4 < t.val / 4 % 4 :=
  (by decide +kernel : ∀ t : Fin grid0.N, idle0 6 (grid0.coords t) = true ↔ t.val % 4 < t.val / 4 % 4)
theorem idle7_iff : ∀ t : Fin cfg0.N, cfg0.idle 7 (grid0.coords t) = true ↔ ¬t.val % 4 = 3 :=
  (by decide +kernel : ∀ t : Fin grid0.N, idle0 7 (grid0.coords t) = true ↔ ¬t.val % 4 = 3)
theorem idle8_iff : ∀ t : Fin cfg0.N, cfg0.idle 8 (grid0.coords t) = true ↔ ¬t.val % 4 = 3 :=
  (by decide +kernel : ∀ t : Fin grid0.N, idle0 8 (grid0.coords t) = true ↔ ¬t.val % 4 = 3)

/-- The blocks read at a point. -/
def blk (c : Dev nD) (t : Fin cfg0.N) : Blk F where
  q := iblk m c 0 t
  k := iblk m c 1 t
  v := iblk m c 2 t
  o := iblk m c 3 t
  l := iblk m c 4 t
  d := iblk m c 5 t

/-- The running arrays before point `n`. -/
def st (c : Dev nD) : ℕ → Acc F
  | 0 => { dq := k0_pay1, dk := k0_pay2, dv := k0_pay3 }
  | n + 1 => if h : n < cfg0.N then step (blk m c ⟨n, h⟩) (grid0.coords ⟨n, h⟩) (st c n) else st c n

theorem st_succ (c : Dev nD) (t : Fin cfg0.N) : st m c (t.val + 1) = step (blk m c t) (grid0.coords t) (st m c t.val) :=
  dif_pos t.isLt

/-- What a point leaves depends only on the part of the running arrays that it does not clear first. -/
theorem step_eq (c : Dev nD) (t : Fin cfg0.N) (s : Acc F) (hq : ¬t.val % 16 = 0 → s.dq = (st m c t.val).dq)
    (hkv : ¬t.val % 4 = 0 → s.dk = (st m c t.val).dk ∧ s.dv = (st m c t.val).dv) :
    step (blk m c t) (grid0.coords t) s = st m c (t.val + 1) := by
  rw [st_succ]
  unfold step
  have e : clearKV (grid0.coords t) (clearQ (grid0.coords t) s) = clearKV (grid0.coords t) (clearQ (grid0.coords t) (st m c t.val)) := by
    obtain ⟨a, b, d⟩ := s
    generalize st m c t.val = s' at *
    obtain ⟨a', b', d'⟩ := s'
    unfold clearKV clearQ
    by_cases h4 : t.val % 4 = 0
    · rw [if_pos ((first_iff t).mpr h4), if_pos ((first_iff t).mpr h4)]
      by_cases h16 : t.val % 16 = 0
      · rw [if_pos ((cond1_iff t).mpr h16), if_pos ((cond1_iff t).mpr h16)]
      · rw [if_neg (fun h => h16 ((cond1_iff t).mp h)), if_neg (fun h => h16 ((cond1_iff t).mp h))]
        have := hq h16
        dsimp only at this ⊢
        rw [this]
    · rw [if_neg (fun h => h4 ((first_iff t).mp h)), if_neg (fun h => h4 ((first_iff t).mp h))]
      have h16 : ¬t.val % 16 = 0 := by omega
      rw [if_neg (fun h => h16 ((cond1_iff t).mp h)), if_neg (fun h => h16 ((cond1_iff t).mp h))]
      have h1 := hq h16
      have h2 := hkv h4
      dsimp only at h1 h2
      rw [h1, h2.1, h2.2]
  rw [e]

/-- A point with no query of its block after a key of its block leaves the query gradient alone. -/
theorem step_idle (c : Dev nD) (t : Fin cfg0.N) (h : t.val % 4 < t.val / 4 % 4) : (st m c (t.val + 1)).dq = (st m c t.val).dq := by
  rw [st_succ]
  unfold step onDiag below clearKV clearQ
  rw [if_neg (fun h' => by have := (cond4_iff t).mp h'; omega), if_neg (fun h' => by have := (cond3_iff t).mp h'; omega)]
  rw [if_neg (c := k0_cond1 (grid0.coords t) = 1#1) (fun h' => by have := (cond1_iff t).mp h'; omega)]
  split <;> rfl

/-- The two scratch accumulators between points. -/
def carried (c : Dev nD) (n : ℕ) : sProp 𝕄 :=
  iprop((∃ b : Vec F S1024x192 .f32, ∃ d : Vec F S1024x128 .f32, ⌜¬n % 4 = 0 → b = (st m c n).dk ∧ d = (st m c n).dv⌝
    ∗ owns (c : Thread nD τ) (Memref.whole cc0_scratch0) fullShare b ∗ owns (c : Thread nD τ) (Memref.whole cc0_scratch1) fullShare d)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (st m c (t.val + 1)).dq
    | ⟨7, _⟩ => k0_pay10 (st m c (t.val + 1)).dk
    | ⟨8, _⟩ => k0_pay11 (st m c (t.val + 1)).dv
  Φ n := carried m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (st m c (t.val + 1)).dq := by dsimp only [dats]
theorem after0_7 (c : Dev nD) (t : Fin cfg0.N) : (dats m 0 c).after 7 t = k0_pay10 (st m c (t.val + 1)).dk := by dsimp only [dats]
theorem after0_8 (c : Dev nD) (t : Fin cfg0.N) : (dats m 0 c).after 8 t = k0_pay11 (st m c (t.val + 1)).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The query gradient's buffer holds the running array wherever the point does not clear it. -/
theorem before0_6 (c : Dev nD) : ∀ (n : ℕ) (hn : n < cfg0.N) (_ : ¬n % 16 = 0) (d), (dats m 0 c).before 6 ⟨n, hn⟩ d = (st m c n).dq
  | 0, _, h, _ => absurd rfl h
  | n + 1, hn, h, d => by
    have hn' : n < cfg0.N := Nat.lt_of_succ_lt hn
    rw [Dat.before_of_pos (dats m 0 c) 6 ⟨n + 1, hn⟩ (Nat.succ_ne_zero n) rfl d,
      if_neg (fun hf => by have := (flush0_6 _).mp hf; dsimp only at this; omega)]
    show (dats m 0 c).left 6 ⟨n, hn'⟩ d = _
    unfold Dat.left
    by_cases hi : cfg0.idle 6 (grid0.coords ⟨n, hn'⟩) = true
    · have hlt := (idle6_iff ⟨n, hn'⟩).mp hi
      dsimp only at hlt
      rw [show cfg0.idle 6 (cfg0.grid.coords ⟨n, hn'⟩) = true from hi]
      dsimp only
      rw [before0_6 c n hn' (by omega) d]
      exact (step_idle m c ⟨n, hn'⟩ hlt).symm
    · rw [show cfg0.idle 6 (cfg0.grid.coords ⟨n, hn'⟩) = false from Bool.eq_false_iff.mpr hi]
      dsimp only
      unfold Dat.kept
      rw [Pipeline.fill_of_clip_none 6 _ (fun _ => rfl) d ((dats m 0 c).after 6 _), Window.fill_cut, after0_6]

/-- What the pipeline asks of the buffer of window `w` after a point: an idle point gives it back as found. -/
def leaves (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leaves_live (c : Dev nD) (w : Fin cfg0.W) (t : Fin cfg0.N) (h : ¬cfg0.idle w (grid0.coords t) = true) :
    leaves m c w t = owns (c : Thread nD τ) ((cfg0.win w).stage (cfg0.slots t w)) fullShare ((dats m 0 c).after w t) := by
  unfold leaves
  rw [show cfg0.idle w (cfg0.grid.coords t) = false from Bool.eq_false_iff.mpr h]

theorem leaves_idle (c : Dev nD) (w : Fin cfg0.W) (t : Fin cfg0.N) (h : cfg0.idle w (grid0.coords t) = true) (hf : ¬(cfg0.win w).flush t = true) :
    leaves m c w t = iprop(∃ d, owns (c : Thread nD τ) ((cfg0.win w).stage (cfg0.slots t w)) fullShare ((dats m 0 c).before w t d)) := by
  unfold leaves
  rw [show cfg0.idle w (cfg0.grid.coords t) = true from h, Bool.eq_false_iff.mpr hf]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ leaves m c 6 t ∗ leaves m c 7 t ∗ leaves m c 8 t)

/-- What the body leaves is what the pipeline asks for. -/
theorem post_of_held (c : Dev nD) (t : Fin cfg0.N) (e7 e8) :
    iprop(held (blk m c t) c (st0_0 t) (st0_1 t) (st0_2 t) (st0_3 t) (st0_4 t) (st0_5 t) (st0_6 t) (st0_7 t) (st0_8 t)
      (Memref.whole cc0_scratch0) (Memref.whole cc0_scratch1) (st m c (t.val + 1))
      (outK (grid0.coords t) (st m c (t.val + 1)) ((dats m 0 c).before 7 t e7)) (outV (grid0.coords t) (st m c (t.val + 1)) ((dats m 0 c).before 8 t e8))
      ∗ ((dats m 0 c).owesAt () t.castSucc ∗ ∃ r, prngReg c r)) ⊢ bodyPost m c t := by
  unfold held bodyPost
  rw [show (dats m 0 c).owesAt () t.succ = (dats m 0 c).owesAt () t.castSucc from rfl,
    show (dats m 0 c).Φ t.succ = carried m c (t.val + 1) from rfl,
    after0_0, after0_1, after0_2, after0_3, after0_4, after0_5]
  unfold carried
  iintro ⟨⟨H0, H1, H2, H3, H4, H5, H6, H7, H8, Hb, Hd⟩, Ho, Hr⟩
  isplitl [Hb Hd Hr]
  · isplitl [Hb Hd]
    · iexists (st m c (t.val + 1)).dk
      iexists (st m c (t.val + 1)).dv
      isplitr
      · ipureintro; exact fun _ => ⟨rfl, rfl⟩
      isplitl [Hb]; · iexact Hb
      iexact Hd
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · by_cases hi : cfg0.idle 6 (grid0.coords t) = true
    · have hlt := (idle6_iff t).mp hi
      rw [leaves_idle m c 6 t hi (fun h => by have := (flush0_6 t).mp h; omega)]
      iexists (st m c t.val).dq
      rw [before0_6 m c t.val t.isLt (by omega), ← step_idle m c t hlt]
      iexact H6
    · rw [leaves_live m c 6 t hi, after0_6]
      iexact H6
  have h7 := idle7_iff t
  have h8 := idle8_iff t
  by_cases h5 : t.val % 4 = 3
  · rw [leaves_live m c 7 t (fun h => h7.mp h h5), leaves_live m c 8 t (fun h => h8.mp h h5), after0_7, after0_8]
    unfold outK outV
    rw [if_pos ((cond5_iff t).mpr h5), if_pos ((cond5_iff t).mpr h5)]
    isplitl [H7]; · iexact H7
    iexact H8
  · rw [leaves_idle m c 7 t (h7.mpr h5) (fun h => h5 ((flush0_7 t).mp h)), leaves_idle m c 8 t (h8.mpr h5) (fun h => h5 ((flush0_8 t).mp h))]
    unfold outK outV
    rw [if_neg (fun h => h5 ((cond5_iff t).mp h)), if_neg (fun h => h5 ((cond5_iff t).mp h))]
    isplitl [H7]
    · iexists e7; iexact H7
    iexists e8; iexact H8

theorem sound_at (c : Dev nD) (t : Fin cfg0.N) (e6 e7 e8) (b : Vec F S1024x192 .f32) (d : Vec F S1024x128 .f32)
    (hkv : ¬t.val % 4 = 0 → b = (st m c t.val).dk ∧ d = (st m c t.val).dv) :
    iprop(held (blk m c t) c (st0_0 t) (st0_1 t) (st0_2 t) (st0_3 t) (st0_4 t) (st0_5 t) (st0_6 t) (st0_7 t) (st0_8 t)
      (Memref.whole cc0_scratch0) (Memref.whole cc0_scratch1) { dq := (dats m 0 c).before 6 t e6, dk := b, dv := d } ((dats m 0 c).before 7 t e7) ((dats m 0 c).before 8 t e8)
      ∗ ((dats m 0 c).owesAt () t.castSucc ∗ ∃ r, prngReg c r))
      ⊢ wp frame (wpE (defs₀ (F := F)) Variants.none c none) Set.univ (bodyAt0 t) (fun _ => bodyPost m c t) := by
  have hs := step_eq m c t { dq := (dats m 0 c).before 6 t e6, dk := b, dv := d }
    (fun h => before0_6 m c t.val t.isLt h e6) hkv
  have hb := body (blk m c t) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    (st0_8 t) (hstage0_8 ((cfg0.slots t 8).cast nbuf0_8)) (Memref.whole cc0_scratch0) (Memref.isWhole_whole _) (Memref.whole cc0_scratch1) (Memref.isWhole_whole _)
    Set.univ { dq := (dats m 0 c).before 6 t e6, dk := b, dv := d } ((dats m 0 c).before 7 t e7) ((dats m 0 c).before 8 t e8)
  rw [hs] at hb
  exact (sep_mono hb .rfl).trans ((wp_frame_r _ _ _).trans (wp_mono _ _ _ fun _ => post_of_held m c t e7 e8))

theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2, before0_3, before0_4, before0_5]
  rw [show (dats m 0 c).Φ t.castSucc = carried m c t.val from rfl]
  unfold carried
  iintro ⟨⟨⟨%b, %d, %hkv, Hb, Hd⟩, Hr⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  iapply (sound_at m c t e6 e7 e8 b d hkv)
  unfold held
  isplitr [Ho Hr]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hb]; · iexact Hb
    iexact Hd
  isplitl [Ho]; · iexact Ho
  iexact Hr

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffers as the region hands them over, -/
theorem enter (c : Dev nD) : Pipeline.ΦA spec0 c ⊢ (dats (F := F) m 0 c).Φ 0 := by
  rw [show (dats m 0 c).Φ 0 = carried m c 0 from rfl]
  unfold Pipeline.ΦA carried
  rw [scopedRest0_eq]
  simp only [owns_whole]
  iintro ⟨⟨⟨%f, Hf⟩, ⟨%g, Hg⟩⟩, Hr⟩
  isplitl [Hf Hg]
  · iexists f
    iexists g
    isplitr
    · ipureintro; exact fun h => (h trivial).elim
    isplitl [Hf]; · iexact Hf
    iexact Hg
  iexact Hr

/-- and as it takes them back. -/
theorem leave (c : Dev nD) : (dats (F := F) m 0 c).Φ (Fin.last cfg0.N) ⊢ Pipeline.ΦA spec0 c := by
  rw [show (dats m 0 c).Φ (Fin.last cfg0.N) = carried m c cfg0.N from rfl]
  unfold Pipeline.ΦA carried
  rw [scopedRest0_eq]
  simp only [owns_whole]
  iintro ⟨⟨%f, %g, %_, Hf, Hg⟩, Hr⟩
  isplitl [Hf Hg]
  · isplitl [Hf]
    · iexists f; iexact Hf
    iexists g; iexact Hg
  iexact Hr

set_option backward.isDefEq.respectTransparency.types false in
/-- The launch. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end as they were, and every counter at zero. -/
theorem frame_at : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttnIdeal.Step
-- ==== Proof.AttnClaim.lean ====
/- The frames of the attention's backward call, for the kernel over bits, over extended reals, and for the reference. -/
module

public import proofs.«01_k».proof.Defs
public import proofs.«01_k».proof.Proof.AttnFrame
public import proofs.«01_k».proof.Proof.Gen.Attn
public import proofs.«01_k».proof.Proof.Gen.AttnRefIdeal.Run
public import proofs.«01_k».proof.Proof.Gen.Pre_finite_attn
public import Idealize.ShloMosaic.Lib.Quiescent
public import Idealize.ShloMosaic.Lib.Tactic.ProgEq

@[expose] public section

noncomputable section

namespace Cert.Attn.Claim

open Idealize.ShloMosaic Idealize.ShloMosaic.TcCoe Idealize.SL.Sem

theorem frame : Cert.quiescent_Attn (hAttn := Cert.Attn.Gen.facts) := fun m ρ _ =>
  cast (by sl_kernel_rfl) (Cert.AttnIdeal.Step.frame_at (F := Bits) m ρ)

theorem frame_ideal : Cert.quiescent_AttnIdeal (hAttnIdeal := Cert.AttnIdeal.Gen.facts) := fun m ρ _ =>
  Cert.AttnIdeal.Step.frame_at m ρ

theorem frame_ideal_pre : Cert.quiescent_AttnIdeal_pre_finite_attn (hAttnIdeal := Cert.AttnIdeal.Gen.facts)
    (hPre_finite_attn := Cert.Pre_finite_attn.Gen.facts) := fun m ρ _ => Cert.AttnIdeal.Step.frame_at m ρ

theorem ref_run (m : (ℓ : Loc Cert.AttnRefIdeal.nD Cert.AttnRefIdeal.τ Cert.AttnRefIdeal.sig) → Buf (Elt Ideal) ℓ)
    (g : Dev Cert.AttnRefIdeal.nD → PrngReg) :
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread _ _).loc Cert.AttnRefIdeal.main_arg0) = m ((c.tc : Thread _ _).loc Cert.AttnRefIdeal.main_arg0)
      ∧ r.2.mem ((c.tc : Thread _ _).loc Cert.AttnRefIdeal.main_arg1) = m ((c.tc : Thread _ _).loc Cert.AttnRefIdeal.main_arg1)
      ∧ r.2.mem ((c.tc : Thread _ _).loc Cert.AttnRefIdeal.main_arg2) = m ((c.tc : Thread _ _).loc Cert.AttnRefIdeal.main_arg2)
      ∧ r.2.mem ((c.tc : Thread _ _).loc Cert.AttnRefIdeal.main_arg3) = m ((c.tc : Thread _ _).loc Cert.AttnRefIdeal.main_arg3))
      ∧ r.2.sem = fun _ => 0) :=
  (θ_run _ _ _).mono (fun r h => ⟨fun c => (h c).2.2.2, sem_eq_zero_of_no_sems (by decide) r.2⟩)
    (Cert.AttnRefIdeal.Value.run (F := Ideal) m g)

theorem frame_ref : Cert.quiescent_AttnRefIdeal (hAttnRefIdeal := Cert.AttnRefIdeal.Gen.facts) := fun m g _ => ref_run m g

theorem frame_ref_pre : Cert.quiescent_AttnRefIdeal_pre_finite_attn (hAttnRefIdeal := Cert.AttnRefIdeal.Gen.facts)
    (hPre_finite_attn := Cert.Pre_finite_attn.Gen.facts) := fun m g _ => ref_run m g

end Cert.Attn.Claim

end
-- ==== Proof.AttnPay.lean ====
/-
  The attention backward kernel's steps read at an index: each adds, to a row of a running array, the sum over a block
  of the attention weights, or of the gradients of the scores, times the other factor.
-/
module

public import proofs.«01_k».proof.Proof.AttnStep
public import Idealize.ShloMosaic.Lib.Pointwise
public import Idealize.ShloMosaic.Lib.Tactic.WordOmega

@[expose] public section

set_option maxRecDepth 16384

noncomputable section

namespace Cert.AttnIdeal.Step

open Cert.AttnIdeal Cert.AttnIdeal.Gen
open Idealize.ShloMosaic
open VecWindow (window put)

/-! ## Windows read at an index -/

theorem emb2 {n b w : ℕ} (o : ℕ) (h : ∀ a, (![o, 0] : Fin 2 → ℕ) a + (![w, b] : Fin 2 → ℕ) a ≤ (⟨2, ![n, b]⟩ : Shape).size a)
    (r : Fin w) (d : Fin b) :
    (Rect.unit (s := ⟨2, ![n, b]⟩) ![o, 0] ![w, b] h).emb (ix2 r d)
      = ix2 ⟨o + r.val, lt_of_lt_of_le (Nat.add_lt_add_left r.isLt o) (h 0)⟩ d :=
  funext fun a => Fin.ext (by
    match a with
    | ⟨0, _⟩ => show o + 1 * r.val = _; rw [one_mul]; rfl
    | ⟨1, _⟩ => show 0 + 1 * d.val = _; rw [one_mul, zero_add]; rfl)

theorem emb3 {n b w : ℕ} (o : ℕ) (h : ∀ a, (![0, o, 0] : Fin 3 → ℕ) a + (![1, w, b] : Fin 3 → ℕ) a ≤ (⟨3, ![1, n, b]⟩ : Shape).size a)
    (r : Fin w) (d : Fin b) :
    (Rect.unit (s := ⟨3, ![1, n, b]⟩) ![0, o, 0] ![1, w, b] h).emb (ix3 0 r d)
      = ix3 0 ⟨o + r.val, lt_of_lt_of_le (Nat.add_lt_add_left r.isLt o) (h 1)⟩ d :=
  funext fun a => Fin.ext (by
    match a with
    | ⟨0, _⟩ => rfl
    | ⟨1, _⟩ => show o + 1 * r.val = _; rw [one_mul]; rfl
    | ⟨2, _⟩ => show 0 + 1 * d.val = _; rw [one_mul, zero_add]; rfl)

theorem put2 {α : Type} {n b w : ℕ} (x : (⟨2, ![n, b]⟩ : Shape).Idx → α) (y : (⟨2, ![w, b]⟩ : Shape).Idx → α) (o : ℕ) (i : Fin n) (d : Fin b) :
    put x ![o, 0] ![w, b] y (ix2 i d) = if h : o ≤ i.val ∧ i.val < o + w then y (ix2 ⟨i.val - o, by omega⟩ d) else x (ix2 i d) := by
  unfold put
  by_cases h : o ≤ i.val ∧ i.val < o + w
  · rw [dif_pos h, dif_pos (fun a => by
      match a with
      | ⟨0, _⟩ => exact h
      | ⟨1, _⟩ => exact ⟨Nat.zero_le _, by show d.val < 0 + b; omega⟩)]
    refine congrArg y (funext fun a => Fin.ext ?_)
    match a with
    | ⟨0, _⟩ => rfl
    | ⟨1, _⟩ => rfl
  · rw [dif_neg h, dif_neg (fun h' => h (h' 0))]

theorem put3 {α : Type} {n b w : ℕ} (x : (⟨3, ![1, n, b]⟩ : Shape).Idx → α) (y : (⟨3, ![1, w, b]⟩ : Shape).Idx → α) (o : ℕ) (i : Fin n) (d : Fin b) :
    put x ![0, o, 0] ![1, w, b] y (ix3 0 i d) = if h : o ≤ i.val ∧ i.val < o + w then y (ix3 0 ⟨i.val - o, by omega⟩ d) else x (ix3 0 i d) := by
  unfold put
  by_cases h : o ≤ i.val ∧ i.val < o + w
  · rw [dif_pos h, dif_pos (fun a => by
      match a with
      | ⟨0, _⟩ => exact ⟨Nat.zero_le _, by show 0 < 0 + 1; omega⟩
      | ⟨1, _⟩ => exact h
      | ⟨2, _⟩ => exact ⟨Nat.zero_le _, by show d.val < 0 + b; omega⟩)]
    refine congrArg y (funext fun a => Fin.ext ?_)
    match a with
    | ⟨0, _⟩ => rfl
    | ⟨1, _⟩ => rfl
    | ⟨2, _⟩ => rfl
  · rw [dif_neg h, dif_neg (fun h' => h (h' 1))]

/-! ## What a block contributes -/

variable (x : Blk Ideal)

/-- The attention weight of query row `r` on key `s` in a block; `g` says that the block is on the diagonal. -/
def pr (g : Bool) (r s : Fin 1024) : EReal :=
  if g = true → s.val ≤ r.val then Ideal.exp ((∑ d : Fin 192, x.q (ix3 0 r d) * x.k (ix3 0 s d)) - x.l (ix3 0 r 0)) else 0

/-- The gradient of the score of query row `r` on key `s`. -/
def ds (g : Bool) (r s : Fin 1024) : EReal :=
  pr x g r s * ((∑ d : Fin 128, x.d (ix2 r d) * x.v (ix3 0 s d)) - ∑ d : Fin 128, x.o (ix2 r d) * x.d (ix2 r d))

/-- A row of the first half of a block, and one of the second. -/
abbrev lo (r : Fin 512) : Fin 1024 := ⟨r.val, by omega⟩
abbrev hi (r : Fin 512) : Fin 1024 := ⟨512 + r.val, by omega⟩

theorem sum_halves (f : Fin 1024 → EReal) : ∑ r, f r = (∑ r, f (lo r)) + ∑ r, f (hi r) := by
  rw [← Equiv.sum_comp (finCongr (rfl : 512 + 512 = 1024)), Fin.sum_univ_add]
  rfl

/-- A sum over the keys, when the second half contributes nothing. -/
theorem sum_low (f : Fin 1024 → EReal) (h : ∀ r, f (hi r) = 0) : ∑ r, f r = ∑ r, f (lo r) := by
  rw [sum_halves, Finset.sum_eq_zero (s := Finset.univ) (f := fun r => f (hi r)) (fun r _ => h r), add_zero]

/-- The causal mask's comparison of small words, in a select. -/
theorem select_sle {α : Type} (s r o : ℕ) (hs : s < 2048) (hr : r < 2048) (ho : o < 2048) (a b : α) :
    Scalar.select (IntOp.cmpi CmpIPredicate.sle (BitVec.ofNat 32 s) (IntOp.addi (BitVec.ofNat 32 r) (BitVec.ofNat 32 o))) a b
      = if s ≤ o + r then a else b := by
  have e : IntOp.cmpi CmpIPredicate.sle (BitVec.ofNat 32 s) (IntOp.addi (BitVec.ofNat 32 r) (BitVec.ofNat 32 o)) = 1#1 ↔ s ≤ o + r := by word_omega
  unfold Scalar.select
  exact if_congr e rfl rfl

/-! The weights and the score gradients that the steps compute are these, by halves of the queries. -/

theorem pr_lo (r : Fin 512) (s : Fin 1024) : k0_pay14 (F := Ideal) (q0 x) x.k (l0 x) (ix2 r s) = pr x false (lo r) s := by
  unfold pr
  rw [if_pos (by simp)]
  pointwise [k0_pay14, k0_pay12, k0_pay13, window, emb3, zero_add]

theorem pr_hi (r : Fin 512) (s : Fin 1024) : k0_pay22 (F := Ideal) (q1 x) x.k (l1 x) (ix2 r s) = pr x false (hi r) s := by
  unfold pr
  rw [if_pos (by simp)]
  pointwise [k0_pay22, k0_pay20, k0_pay21, window, emb3]

theorem pr_diag_lo (r s : Fin 512) : k0_pay27 (F := Ideal) (q0 x) (kl x) (l0 x) (ix2 r s) = pr x true (lo r) (lo s) := by
  unfold pr
  pointwise [k0_pay27, k0_pay25, k0_pay26, window, emb3, zero_add]
  rw [select_sle s.val r.val 0 (by omega) (by omega) (by omega)]
  exact if_congr (by simp) rfl rfl

theorem pr_diag_hi (r : Fin 512) (s : Fin 1024) : k0_pay38 (F := Ideal) (k0_pay37 (q1 x) x.k (l1 x)) (ix2 r s) = pr x true (hi r) s := by
  unfold pr
  pointwise [k0_pay37, k0_pay35, k0_pay36, k0_pay38, window, emb3]
  rw [select_sle s.val r.val 512 (by omega) (by omega) (by omega)]
  exact if_congr (by simp) rfl rfl

theorem ds_lo (r : Fin 512) (s : Fin 1024) : ds0 x (ix2 r s) = ds x false (lo r) s := by
  unfold ds
  rw [← pr_lo]
  pointwise [ds0, k0_pay17, k0_pay15, window, emb3, emb2, zero_add]

theorem ds_hi (r : Fin 512) (s : Fin 1024) :
    k0_pay5 (F := Ideal) (k0_pay22 (q1 x) x.k (l1 x)) (k0_pay23 (d1 x)) (k0_pay24 (d1 x) (o1 x)) x.v (ix2 r s) = ds x false (hi r) s := by
  unfold ds
  rw [← pr_hi]
  pointwise [k0_pay5, k0_pay23, k0_pay24, window, emb3, emb2]

theorem ds_diag_lo (r s : Fin 512) :
    k0_pay32 (F := Ideal) (k0_pay27 (q0 x) (kl x) (l0 x)) (k0_pay28 (d0 x)) (k0_pay29 (d0 x) (o0 x)) (k0_pay31 (vl x)) zeros (ix2 r s)
      = ds x true (lo r) (lo s) := by
  unfold ds
  rw [← pr_diag_lo]
  pointwise [k0_pay32, k0_pay28, k0_pay29, k0_pay31, zeros, window, emb3, emb2, zero_add]

theorem ds_diag_hi (r : Fin 512) (s : Fin 1024) :
    k0_pay41 (F := Ideal) (d1 x) (k0_pay37 (q1 x) x.k (l1 x)) (o1 x) x.v (ix2 r s) = ds x true (hi r) s := by
  unfold ds
  rw [← pr_diag_hi]
  pointwise [k0_pay41, k0_pay39, window, emb3, emb2]

theorem pr_diag_zero (r s : Fin 512) : pr x true (lo r) (hi s) = 0 := by
  unfold pr
  exact if_neg (fun h => by have := h rfl; simp only [hi, lo] at this; omega)

theorem ds_diag_zero (r s : Fin 512) : ds x true (lo r) (hi s) = 0 := by
  unfold ds
  rw [pr_diag_zero, zero_mul]

/-! ## The steps -/

theorem offDv_apply (dv : Vec Ideal S1024x128 .f32) (j : Fin 1024) (d : Fin 128) :
    offDv x dv (ix2 j d) = dv (ix2 j d) + ∑ r : Fin 1024, pr x false r j * x.d (ix2 r d) := by
  unfold offDv
  rw [sum_halves, ← add_assoc]
  simp only [← pr_lo, ← pr_hi]
  pointwise [k0_pay4, k0_pay16, k0_pay23, k0_pay15, window, emb2, zero_add]

theorem offDk_apply (dk : Vec Ideal S1024x192 .f32) (j : Fin 1024) (d : Fin 192) :
    offDk x dk (ix2 j d) = dk (ix2 j d) + ∑ r : Fin 1024, ds x false r j * x.q (ix3 0 r d) := by
  unfold offDk
  rw [sum_halves, ← add_assoc]
  simp only [← ds_lo, ← ds_hi]
  pointwise [k0_pay7, k0_pay19, k0_pay20, k0_pay12, window, emb3, zero_add]

theorem diagDvLow_apply (dv : Vec Ideal S1024x128 .f32) (j : Fin 1024) (d : Fin 128) :
    diagDvLow x dv (ix2 j d) = dv (ix2 j d) + ∑ r : Fin 512, pr x true (lo r) j * x.d (ix2 (lo r) d) := by
  unfold diagDvLow
  refine (put2 (n := 1024) (b := 128) (w := 512) dv _ 0 j d).trans ?_
  split
  · rename_i h
    obtain ⟨i, rfl⟩ : ∃ i : Fin 512, j = lo i := ⟨⟨j.val, by omega⟩, rfl⟩
    simp only [← pr_diag_lo]
    pointwise [k0_pay30, k0_pay28, window, emb2, zero_add, Nat.sub_zero]
  · rename_i h
    obtain ⟨i, rfl⟩ : ∃ i : Fin 512, j = hi i := ⟨⟨j.val - 512, by omega⟩, Fin.ext (by show j.val = 512 + (j.val - 512); omega)⟩
    simp only [pr_diag_zero, zero_mul, Finset.sum_const_zero, add_zero]

theorem diagDkLow_apply (dk : Vec Ideal S1024x192 .f32) (j : Fin 1024) (d : Fin 192) :
    diagDkLow x dk (ix2 j d) = dk (ix2 j d) + ∑ r : Fin 512, ds x true (lo r) j * x.q (ix3 0 (lo r) d) := by
  unfold diagDkLow
  refine (put2 (n := 1024) (b := 192) (w := 512) dk _ 0 j d).trans ?_
  split
  · rename_i h
    obtain ⟨i, rfl⟩ : ∃ i : Fin 512, j = lo i := ⟨⟨j.val, by omega⟩, rfl⟩
    simp only [← ds_diag_lo]
    pointwise [k0_pay34, k0_pay25, window, emb2, emb3, zero_add, Nat.sub_zero]
  · rename_i h
    obtain ⟨i, rfl⟩ : ∃ i : Fin 512, j = hi i := ⟨⟨j.val - 512, by omega⟩, Fin.ext (by show j.val = 512 + (j.val - 512); omega)⟩
    simp only [ds_diag_zero, zero_mul, Finset.sum_const_zero, add_zero]

theorem diagDv_apply (dv : Vec Ideal S1024x128 .f32) (j : Fin 1024) (d : Fin 128) :
    diagDv x dv (ix2 j d) = dv (ix2 j d) + ∑ r : Fin 1024, pr x true r j * x.d (ix2 r d) := by
  unfold diagDv
  rw [sum_halves, ← add_assoc, ← diagDvLow_apply]
  simp only [← pr_diag_hi]
  pointwise [k0_pay40, k0_pay39, window, emb2]

theorem diagDk_apply (dk : Vec Ideal S1024x192 .f32) (j : Fin 1024) (d : Fin 192) :
    diagDk x dk (ix2 j d) = dk (ix2 j d) + ∑ r : Fin 1024, ds x true r j * x.q (ix3 0 r d) := by
  unfold diagDk
  rw [sum_halves, ← add_assoc, ← diagDkLow_apply]
  simp only [← ds_diag_hi]
  pointwise [k0_pay9, k0_pay35, window, emb3]

/-- The rows of the query gradient, by blocks of 1024. -/
abbrev rowOf (n : Fin 4) (r : Fin 1024) : Fin 4096 := ⟨1024 * n.val + r.val, by omega⟩

theorem setRows_apply (n n' : Fin 4) (b : Fin 2) (dq : Vec Ideal S1x4096x192 .f32) (w : Vec Ideal S1x512x192 .f32) (r : Fin 1024) (d : Fin 192) :
    setRows n b dq w (ix3 0 (rowOf n' r) d)
      = if h : n' = n ∧ r.val / 512 = b.val then w (ix3 0 ⟨r.val % 512, by omega⟩ d) else dq (ix3 0 (rowOf n' r) d) := by
  refine (put3 (n := 4096) (b := 192) (w := 512) dq w _ _ d).trans ?_
  by_cases h : n' = n ∧ r.val / 512 = b.val
  · obtain ⟨rfl, hb⟩ := h
    rw [dif_pos ⟨by show 1024 * n'.val + 512 * b.val ≤ 1024 * n'.val + r.val; omega, by show 1024 * n'.val + r.val < 1024 * n'.val + 512 * b.val + 512; omega⟩,
      dif_pos ⟨rfl, hb⟩]
    refine congrArg w (congrArg (fun i => ix3 0 i d) (Fin.ext ?_))
    show 1024 * n'.val + r.val - (1024 * n'.val + 512 * b.val) = r.val % 512
    omega
  · rw [dif_neg h, dif_neg]
    rintro ⟨h1, h2⟩
    have h1' : 1024 * n.val + 512 * b.val ≤ 1024 * n'.val + r.val := h1
    have h2' : 1024 * n'.val + r.val < 1024 * n.val + 512 * b.val + 512 := h2
    have hn : n' = n := Fin.ext (by omega)
    subst hn
    exact h ⟨rfl, by omega⟩

theorem getRows_apply (n : Fin 4) (b : Fin 2) (dq : Vec Ideal S1x4096x192 .f32) (r : Fin 512) (d : Fin 192) :
    getRows n b dq (ix3 0 r d) = dq (ix3 0 ⟨1024 * n.val + 512 * b.val + r.val, by omega⟩ d) :=
  congrArg dq (emb3 (n := 4096) (b := 192) (w := 512) _ _ r d)

/-- What a step that adds rows to the query gradient leaves. -/
theorem rows_apply (n n' : Fin 4) (dq : Vec Ideal S1x4096x192 .f32) (w0 w1 : Vec Ideal S1x512x192 .f32) (f : Fin 1024 → Fin 192 → EReal)
    (h0 : ∀ (r : Fin 512) (d : Fin 192), w0 (ix3 0 r d) = getRows n 0 dq (ix3 0 r d) + f (lo r) d)
    (h1 : ∀ (r : Fin 512) (d : Fin 192), w1 (ix3 0 r d) = getRows n 1 dq (ix3 0 r d) + f (hi r) d) (r : Fin 1024) (d : Fin 192) :
    setRows n 1 (setRows n 0 dq w0) w1 (ix3 0 (rowOf n' r) d) = dq (ix3 0 (rowOf n' r) d) + if n' = n then f r d else 0 := by
  rw [setRows_apply, setRows_apply]
  by_cases hn : n' = n
  · subst hn
    rw [if_pos rfl]
    by_cases hr : r.val < 512
    · obtain ⟨i, rfl⟩ : ∃ i : Fin 512, r = lo i := ⟨⟨r.val, hr⟩, rfl⟩
      rw [dif_neg (fun h => by have := h.2; change i.val / 512 = 1 at this; omega), dif_pos ⟨rfl, by show i.val / 512 = 0; omega⟩]
      have e : (⟨(lo i).val % 512, by omega⟩ : Fin 512) = i := Fin.ext (by show i.val % 512 = i.val; omega)
      rw [e, h0, getRows_apply]
      congr 3
    · obtain ⟨i, rfl⟩ : ∃ i : Fin 512, r = hi i := ⟨⟨r.val - 512, by omega⟩, Fin.ext (by show r.val = 512 + (r.val - 512); omega)⟩
      rw [dif_pos ⟨rfl, by show (512 + i.val) / 512 = 1; omega⟩]
      have e : (⟨(hi i).val % 512, by omega⟩ : Fin 512) = i := Fin.ext (by show (512 + i.val) % 512 = i.val; omega)
      rw [e, h1, getRows_apply]
      congr 3
      exact Fin.ext (by show 1024 * n'.val + 512 * 1 + i.val = 1024 * n'.val + (512 + i.val); omega)
  · rw [dif_neg (fun h => hn h.1), dif_neg (fun h => hn h.1), if_neg hn, add_zero]

theorem offDq_apply (n n' : Fin 4) (dq : Vec Ideal S1x4096x192 .f32) (r : Fin 1024) (d : Fin 192) :
    offDq x n dq (ix3 0 (rowOf n' r) d)
      = dq (ix3 0 (rowOf n' r) d) + if n' = n then ∑ s : Fin 1024, ds x false r s * x.k (ix3 0 s d) else 0 := by
  refine rows_apply n n' dq _ _ (fun r d => ∑ s : Fin 1024, ds x false r s * x.k (ix3 0 s d)) (fun r d => ?_) (fun r d => ?_) r d
  · simp only [← ds_lo]
    pointwise [k0_pay18, k0_pay13]
  · simp only [← ds_hi]
    pointwise [k0_pay6, k0_pay21]

theorem diagDq_apply (n n' : Fin 4) (dq : Vec Ideal S1x4096x192 .f32) (r : Fin 1024) (d : Fin 192) :
    diagDq x n dq (ix3 0 (rowOf n' r) d)
      = dq (ix3 0 (rowOf n' r) d) + if n' = n then ∑ s : Fin 1024, ds x true r s * x.k (ix3 0 s d) else 0 := by
  refine rows_apply n n' dq _ _ (fun r d => ∑ s : Fin 1024, ds x true r s * x.k (ix3 0 s d)) (fun r d => ?_) (fun r d => ?_) r d
  · rw [sum_low _ (fun s => by rw [ds_diag_zero, zero_mul])]
    simp only [← ds_diag_lo]
    pointwise [k0_pay33, k0_pay26, window, emb3, zero_add]
  · simp only [← ds_diag_hi]
    pointwise [k0_pay8, k0_pay42, k0_pay36]

end Cert.AttnIdeal.Step

end
-- ==== Proof.AttnVal.lean ====
/-
  What the attention backward kernel leaves in its three results: every gradient as one sum over all queries, or over
  all keys, of the attention weights and the gradients of the scores, which are zero for a key after the query.
-/
module

public import proofs.«01_k».proof.Proof.AttnPay
public import proofs.«01_k».proof.Proof.AttnFrame
public import proofs.«01_k».proof.Proof.Shapes

@[expose] public section

set_option maxRecDepth 16384

noncomputable section

namespace Cert.AttnIdeal.Step

open Cert.AttnIdeal Cert.AttnIdeal.Gen
open Idealize.ShloMosaic Idealize.ShloMosaic.TcCoe
open Idealize.ShloMosaic.Pipeline (Dat Cfg Window)

variable (m : (ℓ : Loc nD τ sig) → Buf (Elt Ideal) ℓ) (c : Dev nD)

/-! ## The arrays the kernel reads -/

def Qa : S8x4096x192.Idx → EReal := V m c main_v27
def Ka : S8x4096x192.Idx → EReal := V m c main_v29
def Va : S8x4096x128.Idx → EReal := V m c main_v31
def Oa : S4096x1024.Idx → EReal := V m c main_v23
def La : S8x4096x1.Idx → EReal := V m c main_v33
def Da : S4096x1024.Idx → EReal := V m c main_arg3

/-- Column `d` of head `h` in an array of all heads side by side. -/
abbrev col (h : Fin 8) (d : Fin 128) : Fin 1024 := ⟨128 * h.val + d.val, by omega⟩

/-- The attention weight of query `i` on key `j`, -/
def P (h : Fin 8) (i j : Fin 4096) : EReal :=
  if j.val ≤ i.val then Ideal.exp ((∑ d : Fin 192, Qa m c (ix3 h i d) * Ka m c (ix3 h j d)) - La m c (ix3 h i 0)) else 0

/-- and the gradient of its score. -/
def DS (h : Fin 8) (i j : Fin 4096) : EReal :=
  P m c h i j * ((∑ d : Fin 128, Da m c (ix2 i (col h d)) * Va m c (ix3 h j d)) - ∑ d : Fin 128, Oa m c (ix2 i (col h d)) * Da m c (ix2 i (col h d)))

/-! ## The blocks at a point -/

theorem lt_N (t : Fin cfg0.N) : t.val < 128 := lt_of_lt_of_eq t.isLt (show cfg0.N = 128 from N_0)

abbrev hd (t : Fin cfg0.N) : Fin 8 := ⟨t.val / 16, by have := lt_N t; omega⟩
abbrev ki (t : Fin cfg0.N) : Fin 4 := ⟨t.val / 4 % 4, by omega⟩
abbrev qi (t : Fin cfg0.N) : Fin 4 := ⟨t.val % 4, by omega⟩

theorem coords2_val : ∀ t : Fin cfg0.N, (grid0.coords t 2).val = t.val % 4 :=
  (by decide +kernel : ∀ t : Fin grid0.N, (grid0.coords t 2).val = t.val % 4)
theorem coords2 (t : Fin cfg0.N) : grid0.coords t 2 = qi t := Fin.ext (coords2_val t)

theorem idx0 : ∀ t : Fin cfg0.N, win0_0.index t 0 = t.val / 16 ∧ win0_0.index t 1 = max (t.val % 4) (t.val / 4 % 4) ∧ win0_0.index t 2 = 0 :=
  (by decide +kernel : ∀ t : Fin grid0.N, win0_0.index t 0 = t.val / 16 ∧ win0_0.index t 1 = max (t.val % 4) (t.val / 4 % 4) ∧ win0_0.index t 2 = 0)
theorem idx1 : ∀ t : Fin cfg0.N, win0_1.index t 0 = t.val / 16 ∧ win0_1.index t 1 = t.val / 4 % 4 ∧ win0_1.index t 2 = 0 :=
  (by decide +kernel : ∀ t : Fin grid0.N, win0_1.index t 0 = t.val / 16 ∧ win0_1.index t 1 = t.val / 4 % 4 ∧ win0_1.index t 2 = 0)
theorem idx2 : ∀ t : Fin cfg0.N, win0_2.index t 0 = t.val / 16 ∧ win0_2.index t 1 = t.val / 4 % 4 ∧ win0_2.index t 2 = 0 :=
  (by decide +kernel : ∀ t : Fin grid0.N, win0_2.index t 0 = t.val / 16 ∧ win0_2.index t 1 = t.val / 4 % 4 ∧ win0_2.index t 2 = 0)
theorem idx3 : ∀ t : Fin cfg0.N, win0_3.index t 0 = max (t.val % 4) (t.val / 4 % 4) ∧ win0_3.index t 1 = t.val / 16 :=
  (by decide +kernel : ∀ t : Fin grid0.N, win0_3.index t 0 = max (t.val % 4) (t.val / 4 % 4) ∧ win0_3.index t 1 = t.val / 16)
theorem idx4 : ∀ t : Fin cfg0.N, win0_4.index t 0 = t.val / 16 ∧ win0_4.index t 1 = max (t.val % 4) (t.val / 4 % 4) ∧ win0_4.index t 2 = 0 :=
  (by decide +kernel : ∀ t : Fin grid0.N, win0_4.index t 0 = t.val / 16 ∧ win0_4.index t 1 = max (t.val % 4) (t.val / 4 % 4) ∧ win0_4.index t 2 = 0)
theorem idx5 : ∀ t : Fin cfg0.N, win0_5.index t 0 = max (t.val % 4) (t.val / 4 % 4) ∧ win0_5.index t 1 = t.val / 16 :=
  (by decide +kernel : ∀ t : Fin grid0.N, win0_5.index t 0 = max (t.val % 4) (t.val / 4 % 4) ∧ win0_5.index t 1 = t.val / 16)
theorem idx6 : ∀ t : Fin cfg0.N, win0_6.index t 0 = t.val / 16 ∧ win0_6.index t 1 = 0 ∧ win0_6.index t 2 = 0 :=
  (by decide +kernel : ∀ t : Fin grid0.N, win0_6.index t 0 = t.val / 16 ∧ win0_6.index t 1 = 0 ∧ win0_6.index t 2 = 0)
theorem idx7 : ∀ t : Fin cfg0.N, win0_7.index t 0 = t.val / 16 ∧ win0_7.index t 1 = t.val / 4 % 4 ∧ win0_7.index t 2 = 0 :=
  (by decide +kernel : ∀ t : Fin grid0.N, win0_7.index t 0 = t.val / 16 ∧ win0_7.index t 1 = t.val / 4 % 4 ∧ win0_7.index t 2 = 0)
theorem idx8 : ∀ t : Fin cfg0.N, win0_8.index t 0 = t.val / 16 ∧ win0_8.index t 1 = t.val / 4 % 4 ∧ win0_8.index t 2 = 0 :=
  (by decide +kernel : ∀ t : Fin grid0.N, win0_8.index t 0 = t.val / 16 ∧ win0_8.index t 1 = t.val / 4 % 4 ∧ win0_8.index t 2 = 0)

theorem blk_q (t : Fin cfg0.N) (h : t.val / 4 % 4 ≤ t.val % 4) (r : Fin 1024) (d : Fin 192) :
    (blk m c t).q (ix3 0 r d) = Qa m c (ix3 (hd t) (rowOf (qi t) r) d) := by
  show iblk m c 0 t (ix3 0 r d) = _
  unfold iblk Qa
  rw [View.read_apply]
  show V m c main_v27 _ = _
  refine congrArg (V m c main_v27) (funext fun a => Fin.ext ?_)
  obtain ⟨e0, e1, e2⟩ := idx0 t
  match a with
  | ⟨0, _⟩ => show win0_0.index t 0 * 1 + 1 * 0 = t.val / 16; omega
  | ⟨1, _⟩ => show win0_0.index t 1 * 1024 + 1 * r.val = 1024 * (t.val % 4) + r.val; omega
  | ⟨2, _⟩ => show win0_0.index t 2 * 192 + 1 * d.val = d.val; omega

theorem blk_k (t : Fin cfg0.N) (r : Fin 1024) (d : Fin 192) :
    (blk m c t).k (ix3 0 r d) = Ka m c (ix3 (hd t) (rowOf (ki t) r) d) := by
  show iblk m c 1 t (ix3 0 r d) = _
  unfold iblk Ka
  rw [View.read_apply]
  show V m c main_v29 _ = _
  refine congrArg (V m c main_v29) (funext fun a => Fin.ext ?_)
  obtain ⟨e0, e1, e2⟩ := idx1 t
  match a with
  | ⟨0, _⟩ => show win0_1.index t 0 * 1 + 1 * 0 = t.val / 16; omega
  | ⟨1, _⟩ => show win0_1.index t 1 * 1024 + 1 * r.val = 1024 * (t.val / 4 % 4) + r.val; omega
  | ⟨2, _⟩ => show win0_1.index t 2 * 192 + 1 * d.val = d.val; omega

theorem blk_v (t : Fin cfg0.N) (r : Fin 1024) (d : Fin 128) :
    (blk m c t).v (ix3 0 r d) = Va m c (ix3 (hd t) (rowOf (ki t) r) d) := by
  show iblk m c 2 t (ix3 0 r d) = _
  unfold iblk Va
  rw [View.read_apply]
  show V m c main_v31 _ = _
  refine congrArg (V m c main_v31) (funext fun a => Fin.ext ?_)
  obtain ⟨e0, e1, e2⟩ := idx2 t
  match a with
  | ⟨0, _⟩ => show win0_2.index t 0 * 1 + 1 * 0 = t.val / 16; omega
  | ⟨1, _⟩ => show win0_2.index t 1 * 1024 + 1 * r.val = 1024 * (t.val / 4 % 4) + r.val; omega
  | ⟨2, _⟩ => show win0_2.index t 2 * 128 + 1 * d.val = d.val; omega

theorem blk_o (t : Fin cfg0.N) (h : t.val / 4 % 4 ≤ t.val % 4) (r : Fin 1024) (d : Fin 128) :
    (blk m c t).o (ix2 r d) = Oa m c (ix2 (rowOf (qi t) r) (col (hd t) d)) := by
  show iblk m c 3 t (ix2 r d) = _
  unfold iblk Oa
  rw [View.read_apply]
  show V m c main_v23 _ = _
  refine congrArg (V m c main_v23) (funext fun a => Fin.ext ?_)
  obtain ⟨e0, e1⟩ := idx3 t
  match a with
  | ⟨0, _⟩ => show win0_3.index t 0 * 1024 + 1 * r.val = 1024 * (t.val % 4) + r.val; omega
  | ⟨1, _⟩ => show win0_3.index t 1 * 128 + 1 * d.val = 128 * (t.val / 16) + d.val; omega

theorem read_l (t : Fin cfg0.N) (h : t.val / 4 % 4 ≤ t.val % 4) (f : S8x4096x1.Idx → EReal) (r : Fin 1024) (z : Fin 1) :
    ((cfg0.win 4).blk t).view.read (Elt Ideal) f (ix3 0 r z) = f (ix3 (hd t) (rowOf (qi t) r) z) := by
  rw [View.read_apply]
  show f _ = _
  refine congrArg f (funext fun a => Fin.ext ?_)
  obtain ⟨e0, e1, e2⟩ := idx4 t
  match a with
  | ⟨0, _⟩ => show win0_4.index t 0 * 1 + 1 * 0 = t.val / 16; omega
  | ⟨1, _⟩ => show win0_4.index t 1 * 1024 + 1 * r.val = 1024 * (t.val % 4) + r.val; omega
  | ⟨2, _⟩ => show win0_4.index t 2 * 1 + 1 * z.val = z.val; omega

theorem blk_l (t : Fin cfg0.N) (h : t.val / 4 % 4 ≤ t.val % 4) (r : Fin 1024) (z : Fin 1) :
    (blk m c t).l (ix3 0 r z) = La m c (ix3 (hd t) (rowOf (qi t) r) z) := read_l t h (La m c) r z

theorem blk_d (t : Fin cfg0.N) (h : t.val / 4 % 4 ≤ t.val % 4) (r : Fin 1024) (d : Fin 128) :
    (blk m c t).d (ix2 r d) = Da m c (ix2 (rowOf (qi t) r) (col (hd t) d)) := by
  show iblk m c 5 t (ix2 r d) = _
  unfold iblk Da
  rw [View.read_apply]
  show V m c main_arg3 _ = _
  refine congrArg (V m c main_arg3) (funext fun a => Fin.ext ?_)
  obtain ⟨e0, e1⟩ := idx5 t
  match a with
  | ⟨0, _⟩ => show win0_5.index t 0 * 1024 + 1 * r.val = 1024 * (t.val % 4) + r.val; omega
  | ⟨1, _⟩ => show win0_5.index t 1 * 128 + 1 * d.val = 128 * (t.val / 16) + d.val; omega

theorem pr_eq (t : Fin cfg0.N) (g : Bool) (hg : t.val / 4 % 4 ≤ t.val % 4) (hd' : g = true ↔ t.val % 4 = t.val / 4 % 4) (r s : Fin 1024) :
    pr (blk m c t) g r s = P m c (hd t) (rowOf (qi t) r) (rowOf (ki t) s) := by
  unfold pr P
  simp only [blk_q m c t hg, blk_k, blk_l m c t hg]
  refine if_congr ?_ rfl rfl
  show (g = true → s.val ≤ r.val) ↔ 1024 * (t.val / 4 % 4) + s.val ≤ 1024 * (t.val % 4) + r.val
  rw [hd']
  omega

theorem ds_eq (t : Fin cfg0.N) (g : Bool) (hg : t.val / 4 % 4 ≤ t.val % 4) (hd' : g = true ↔ t.val % 4 = t.val / 4 % 4) (r s : Fin 1024) :
    ds (blk m c t) g r s = DS m c (hd t) (rowOf (qi t) r) (rowOf (ki t) s) := by
  unfold ds DS
  rw [pr_eq m c t g hg hd']
  simp only [blk_d m c t hg, blk_v, blk_o m c t hg]

theorem P_zero (t : Fin cfg0.N) (h : t.val % 4 < t.val / 4 % 4) (r s : Fin 1024) : P m c (hd t) (rowOf (qi t) r) (rowOf (ki t) s) = 0 := by
  unfold P
  refine if_neg ?_
  show ¬1024 * (t.val / 4 % 4) + s.val ≤ 1024 * (t.val % 4) + r.val
  omega

theorem DS_zero (t : Fin cfg0.N) (h : t.val % 4 < t.val / 4 % 4) (r s : Fin 1024) : DS m c (hd t) (rowOf (qi t) r) (rowOf (ki t) s) = 0 := by
  unfold DS
  rw [P_zero m c t h, zero_mul]

/-! ## One point -/

/-- What a point starts from. -/
def start (t : Fin cfg0.N) : Acc Ideal := clearKV (grid0.coords t) (clearQ (grid0.coords t) (st m c t.val))

theorem start_dv (t : Fin cfg0.N) (j : Fin 1024) (d : Fin 128) :
    (start m c t).dv (ix2 j d) = if t.val % 4 = 0 then 0 else (st m c t.val).dv (ix2 j d) := by
  unfold start clearKV
  by_cases h : t.val % 4 = 0
  · rw [if_pos ((first_iff t).mpr h), if_pos h]
    pointwise [k0_pay3]
  · rw [if_neg (fun h' => h ((first_iff t).mp h')), if_neg h]
    unfold clearQ
    split <;> rfl

theorem start_dk (t : Fin cfg0.N) (j : Fin 1024) (d : Fin 192) :
    (start m c t).dk (ix2 j d) = if t.val % 4 = 0 then 0 else (st m c t.val).dk (ix2 j d) := by
  unfold start clearKV
  by_cases h : t.val % 4 = 0
  · rw [if_pos ((first_iff t).mpr h), if_pos h]
    pointwise [k0_pay2]
  · rw [if_neg (fun h' => h ((first_iff t).mp h')), if_neg h]
    unfold clearQ
    split <;> rfl

theorem start_dq (t : Fin cfg0.N) (i : Fin 4096) (d : Fin 192) :
    (start m c t).dq (ix3 0 i d) = if t.val % 16 = 0 then 0 else (st m c t.val).dq (ix3 0 i d) := by
  have e : (start m c t).dq = (clearQ (grid0.coords t) (st m c t.val)).dq := by
    unfold start clearKV
    split <;> rfl
  rw [e]
  unfold clearQ
  by_cases h : t.val % 16 = 0
  · rw [if_pos ((cond1_iff t).mpr h), if_pos h]
    pointwise [k0_pay1]
  · rw [if_neg (fun h' => h ((cond1_iff t).mp h')), if_neg h]

theorem st_below (t : Fin cfg0.N) (h : t.val / 4 % 4 < t.val % 4) : st m c (t.val + 1)
    = { dq := offDq (blk m c t) (qi t) (start m c t).dq, dk := offDk (blk m c t) (start m c t).dk, dv := offDv (blk m c t) (start m c t).dv } := by
  rw [st_succ]
  show onDiag _ _ (below _ _ (start m c t)) = _
  unfold onDiag below
  rw [if_neg (fun h' => by have := (cond4_iff t).mp h'; omega), if_pos ((cond3_iff t).mpr h), coords2]

theorem st_diag (t : Fin cfg0.N) (h : t.val % 4 = t.val / 4 % 4) : st m c (t.val + 1)
    = { dq := diagDq (blk m c t) (qi t) (start m c t).dq, dk := diagDk (blk m c t) (start m c t).dk, dv := diagDv (blk m c t) (start m c t).dv } := by
  rw [st_succ]
  show onDiag _ _ (below _ _ (start m c t)) = _
  unfold onDiag below
  rw [if_pos ((cond4_iff t).mpr h), if_neg (fun h' => by have := (cond3_iff t).mp h'; omega), coords2]

theorem st_above (t : Fin cfg0.N) (h : t.val % 4 < t.val / 4 % 4) : st m c (t.val + 1) = start m c t := by
  rw [st_succ]
  show onDiag _ _ (below _ _ (start m c t)) = _
  unfold onDiag below
  rw [if_neg (fun h' => by have := (cond4_iff t).mp h'; omega), if_neg (fun h' => by have := (cond3_iff t).mp h'; omega)]

/-- The part of the value gradient that the queries of block `q` contribute. -/
def dvPart (h : Fin 8) (j : Fin 4096) (d : Fin 128) (q : Fin 4) : EReal :=
  ∑ r : Fin 1024, P m c h (rowOf q r) j * Da m c (ix2 (rowOf q r) (col h d))

def dkPart (h : Fin 8) (j : Fin 4096) (d : Fin 192) (q : Fin 4) : EReal :=
  ∑ r : Fin 1024, DS m c h (rowOf q r) j * Qa m c (ix3 h (rowOf q r) d)

def dqPart (h : Fin 8) (i : Fin 4096) (d : Fin 192) (k : Fin 4) : EReal :=
  ∑ s : Fin 1024, DS m c h i (rowOf k s) * Ka m c (ix3 h (rowOf k s) d)

theorem dv_step (t : Fin cfg0.N) (j : Fin 1024) (d : Fin 128) : (st m c (t.val + 1)).dv (ix2 j d)
    = (if t.val % 4 = 0 then 0 else (st m c t.val).dv (ix2 j d)) + dvPart m c (hd t) (rowOf (ki t) j) d (qi t) := by
  unfold dvPart
  rw [← start_dv]
  rcases lt_trichotomy (t.val % 4) (t.val / 4 % 4) with h | h | h
  · rw [st_above m c t h]
    simp only [P_zero m c t h, zero_mul, Finset.sum_const_zero, add_zero]
  · rw [st_diag m c t h]
    dsimp only
    rw [diagDv_apply]
    simp only [pr_eq m c t true h.ge ⟨fun _ => h, fun _ => rfl⟩, blk_d m c t h.ge]
  · rw [st_below m c t h]
    dsimp only
    rw [offDv_apply]
    simp only [pr_eq m c t false h.le ⟨fun e => absurd e (by decide), fun e => by omega⟩, blk_d m c t h.le]

theorem dk_step (t : Fin cfg0.N) (j : Fin 1024) (d : Fin 192) : (st m c (t.val + 1)).dk (ix2 j d)
    = (if t.val % 4 = 0 then 0 else (st m c t.val).dk (ix2 j d)) + dkPart m c (hd t) (rowOf (ki t) j) d (qi t) := by
  unfold dkPart
  rw [← start_dk]
  rcases lt_trichotomy (t.val % 4) (t.val / 4 % 4) with h | h | h
  · rw [st_above m c t h]
    simp only [DS_zero m c t h, zero_mul, Finset.sum_const_zero, add_zero]
  · rw [st_diag m c t h]
    dsimp only
    rw [diagDk_apply]
    simp only [ds_eq m c t true h.ge ⟨fun _ => h, fun _ => rfl⟩, blk_q m c t h.ge]
  · rw [st_below m c t h]
    dsimp only
    rw [offDk_apply]
    simp only [ds_eq m c t false h.le ⟨fun e => absurd e (by decide), fun e => by omega⟩, blk_q m c t h.le]

theorem dq_step (t : Fin cfg0.N) (n : Fin 4) (r : Fin 1024) (d : Fin 192) : (st m c (t.val + 1)).dq (ix3 0 (rowOf n r) d)
    = (if t.val % 16 = 0 then 0 else (st m c t.val).dq (ix3 0 (rowOf n r) d)) + if n = qi t then dqPart m c (hd t) (rowOf n r) d (ki t) else 0 := by
  rw [← start_dq]
  have e : (if n = qi t then dqPart m c (hd t) (rowOf n r) d (ki t) else 0)
      = if n = qi t then ∑ s : Fin 1024, DS m c (hd t) (rowOf (qi t) r) (rowOf (ki t) s) * Ka m c (ix3 (hd t) (rowOf (ki t) s) d) else 0 := by
    by_cases hn : n = qi t
    · rw [if_pos hn, if_pos hn, ← hn]; rfl
    · rw [if_neg hn, if_neg hn]
  rw [e]
  rcases lt_trichotomy (t.val % 4) (t.val / 4 % 4) with h | h | h
  · rw [st_above m c t h]
    simp only [DS_zero m c t h, zero_mul, Finset.sum_const_zero, add_zero, ite_self]
  · rw [st_diag m c t h]
    dsimp only
    rw [diagDq_apply]
    simp only [ds_eq m c t true h.ge ⟨fun _ => h, fun _ => rfl⟩, blk_k]
  · rw [st_below m c t h]
    dsimp only
    rw [offDq_apply]
    simp only [ds_eq m c t false h.le ⟨fun e => absurd e (by decide), fun e => by omega⟩, blk_k]

end Cert.AttnIdeal.Step

end
-- ==== Proof.AttnHost.lean ====
/-
  The arrays that the attention backward kernel reads, as the host lines before it compute them: the scaled queries, the
  keys, the values, the output of the attention and the logarithm of the softmax's denominator.
-/
module

public import proofs.«01_k».proof.Proof.AttnVal
public import Idealize.ShloMosaic.Lib.StableHlo.ReadAt

@[expose] public section

set_option maxRecDepth 16384

noncomputable section

namespace Cert.AttnIdeal.Step

open Cert.AttnIdeal Cert.AttnIdeal.Gen
open Idealize.ShloMosaic Idealize.ShloMosaic.TcCoe

variable (m : (ℓ : Loc nD τ sig) → Buf (Elt Ideal) ℓ) (c : Dev nD)

def A0 : FVec Ideal S4096x8x192 .f32 := m (c, Proc.devRef .tc main_arg0)
def A1 : FVec Ideal S4096x8x192 .f32 := m (c, Proc.devRef .tc main_arg1)
def A2 : FVec Ideal S4096x8x128 .f32 := m (c, Proc.devRef .tc main_arg2)
def A3 : FVec Ideal S4096x1024 .f32 := m ((c : Thread nD τ).loc main_arg3)

/-! ## The softmax at an index -/

section
variable (x0 x1 : FVec Ideal S4096x8x192 .f32) (x2 : FVec Ideal S4096x8x128 .f32)

/-- The scale of the scores. -/
def scale : EReal := Ideal.ofBits .f32 0x3D93CD3A#32

def sc (h : Fin 8) (i j : Fin 4096) : EReal := if j.val ≤ i.val then (∑ d : Fin 192, x0 (ix3 i h d) * x1 (ix3 j h d)) * scale else ⊥
def mx (h : Fin 8) (i : Fin 4096) : EReal := Finset.fold max ⊥ (fun j => sc x0 x1 h i j) Finset.univ
def ex (h : Fin 8) (i j : Fin 4096) : EReal := Ideal.exp (sc x0 x1 h i j - mx x0 x1 h i)
def ln (h : Fin 8) (i : Fin 4096) : EReal := ∑ j : Fin 4096, ex x0 x1 h i j

/-! The same as the host computes it. -/

def scH : FVec Ideal S8x4096x4096 .f32 :=
  select
    (broadcastInDim S8x4096x4096 ![0, 1, 2] bcast_S1x4096x4096_S8x4096x4096_0_1_2
      (broadcastInDim S1x4096x4096 ![1, 2] bcast_S4096x4096_S1x4096x4096_1_2
        (cmpi .sle
          (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0))))))
    (mulf (Host.dotGeneral dot_S4096x8x192_S4096x8x192_S8x4096x4096_2_2_0_0_1_1 none x0 x1)
      (broadcastInDim S8x4096x4096 ![] bcast_S_S8x4096x4096 (constant S_ .f32 0x3D93CD3A#32)))
    (broadcastInDim S8x4096x4096 ![] bcast_S_S8x4096x4096 (constant S_ .f32 0xFF800000#32))

def mxH : FVec Ideal S8x4096x1 .f32 :=
  broadcastInDim S8x4096x1 ![0, 1] bcast_S8x4096_S8x4096x1_0_1
    (Host.reduce FloatOps.maximumf (scH x0 x1) (constant S_ .f32 0xFF800000#32) reducesTo_S8x4096x4096_S8x4096_d2 h_S_)

def exH : FVec Ideal S8x4096x4096 .f32 :=
  Host.exp (subf (scH x0 x1) (broadcastInDim S8x4096x4096 ![0, 1, 2] bcast_S8x4096x1_S8x4096x4096_0_1_2 (mxH x0 x1)))

def lnH : FVec Ideal S8x4096x1 .f32 :=
  broadcastInDim S8x4096x1 ![0, 1] bcast_S8x4096_S8x4096x1_0_1
    (Host.reduceAdd (exH x0 x1) (constant S_ .f32 0x00000000#32) reducesTo_S8x4096x4096_S8x4096_d2 h_S_)

def outH : FVec Ideal S4096x1024 .f32 :=
  shapeCast S4096x1024
    (transpose S4096x8x128 [2, 0, 1]
      (Host.dotGeneral dot_S4096x8x128_S8x4096x4096_S8x128x4096_0_2_2_1_1_0 none x2
        (Host.divf (exH x0 x1) (broadcastInDim S8x4096x4096 ![0, 1, 2] bcast_S8x4096x1_S8x4096x4096_0_1_2 (lnH x0 x1))))
      transposes_S8x128x4096_S4096x8x128_2_0_1)
    shapeCasts_S4096x8x128_S4096x1024

theorem le_word (i j : Fin 4096) : IntOp.cmpi .sle (BitVec.ofNat 32 j.val) (BitVec.ofNat 32 i.val) = 1#1 ↔ j.val ≤ i.val := by
  word_omega

theorem bot_word : Ideal.ofBits .f32 0xFF800000#32 = ⊥ := by simp [Ideal.ofBits, Ideal.ieee]

theorem scH_apply (h : Fin 8) (i j : Fin 4096) : scH x0 x1 (ix3 h i j) = sc x0 x1 h i j := by
  unfold sc scale
  rw [← bot_word]
  pointwise [scH]
  unfold Scalar.select
  exact if_congr (le_word i j) rfl rfl

theorem mxH_apply (h : Fin 8) (i : Fin 4096) (z : Fin 1) : mxH x0 x1 (ix3 h i z) = mx x0 x1 h i := by
  unfold mx
  simp only [← scH_apply]
  rw [← bot_word]
  pointwise [mxH]

theorem exH_apply (h : Fin 8) (i j : Fin 4096) : exH x0 x1 (ix3 h i j) = ex x0 x1 h i j := by
  unfold ex
  rw [← scH_apply, ← mxH_apply x0 x1 h i 0]
  pointwise [exH]

theorem lnH_apply (h : Fin 8) (i : Fin 4096) (z : Fin 1) : lnH x0 x1 (ix3 h i z) = ln x0 x1 h i := by
  unfold ln
  simp only [← exH_apply]
  pointwise [lnH]

theorem add_log_apply {s : Shape} (a b : FVec Ideal s .f32) (i : s.Idx) : addf a (Host.log b) i = a i + Ideal.log (b i) := rfl

theorem lseH_apply (h : Fin 8) (i : Fin 4096) (z : Fin 1) :
    addf (mxH x0 x1) (Host.log (lnH x0 x1)) (ix3 h i z) = mx x0 x1 h i + Ideal.log (ln x0 x1 h i) := by
  rw [add_log_apply, mxH_apply, lnH_apply]

theorem outH_apply (i : Fin 4096) (h : Fin 8) (d : Fin 128) :
    outH x0 x1 x2 (ix2 i (col h d)) = ∑ j : Fin 4096, x2 (ix3 j h d) * Ideal.div (ex x0 x1 h i j) (ln x0 x1 h i) := by
  simp only [← exH_apply, ← lnH_apply x0 x1 h i 0]
  pointwise [outH]
  have e1 : (⟨(128 * h.val + d.val) / 128, by omega⟩ : Fin 8) = h := Fin.ext (by show (128 * h.val + d.val) / 128 = h.val; omega)
  have e2 : (⟨(128 * h.val + d.val) % 128, by omega⟩ : Fin 128) = d := Fin.ext (by show (128 * h.val + d.val) % 128 = d.val; omega)
  simp only [e1, e2]

end

/-! ## What the kernel reads -/

theorem Qa_apply (h : Fin 8) (i : Fin 4096) (d : Fin 192) : Qa m c (ix3 h i d) = A0 m c (ix3 i h d) * scale := by
  unfold Qa V V0 hostOps0 hostOps0_1 hostOps0_2
  after_reads_at
  rfl

theorem Ka_apply (h : Fin 8) (i : Fin 4096) (d : Fin 192) : Ka m c (ix3 h i d) = A1 m c (ix3 i h d) := by
  unfold Ka V V0 hostOps0 hostOps0_1 hostOps0_2
  after_reads_at
  rfl

theorem Va_apply (h : Fin 8) (i : Fin 4096) (d : Fin 128) : Va m c (ix3 h i d) = A2 m c (ix3 i h d) := by
  unfold Va V V0 hostOps0 hostOps0_1 hostOps0_2
  after_reads_at
  rfl

theorem Da_eq : Da m c = A3 m c := V_main_arg3 m c

theorem La_eq : La m c = addf (mxH (A0 m c) (A1 m c)) (Host.log (lnH (A0 m c) (A1 m c))) := by
  unfold mxH lnH exH mxH scH A0 A1
  unfold La V V0 hostOps0 hostOps0_1 hostOps0_2
  after_reads_simp
  simp -implicitDefEqProofs only [StableHlo.TRef.toBuf, StableHlo.TRef.ofBuf, cast_cast, cast_eq, id]

theorem Oa_eq : Oa m c = outH (A0 m c) (A1 m c) (A2 m c) := by
  unfold outH lnH exH mxH scH A0 A1 A2
  unfold Oa V V0 hostOps0 hostOps0_1 hostOps0_2
  after_reads_simp
  simp -implicitDefEqProofs only [StableHlo.TRef.toBuf, StableHlo.TRef.ofBuf, cast_cast, cast_eq, id]
  rfl

theorem La_apply (h : Fin 8) (i : Fin 4096) (z : Fin 1) :
    La m c (ix3 h i z) = mx (A0 m c) (A1 m c) h i + Ideal.log (ln (A0 m c) (A1 m c) h i) :=
  (congrFun (La_eq m c) (ix3 h i z)).trans (lseH_apply _ _ h i z)

theorem Oa_apply (i : Fin 4096) (h : Fin 8) (d : Fin 128) : Oa m c (ix2 i (col h d))
    = ∑ j : Fin 4096, A2 m c (ix3 j h d) * Ideal.div (ex (A0 m c) (A1 m c) h i j) (ln (A0 m c) (A1 m c) h i) := by
  rw [Oa_eq, outH_apply]

end Cert.AttnIdeal.Step

end
-- ==== Proof.AttnRef.lean ====
/-
  The three gradients of the reference's attention, each element as one sum over all queries or all keys.
-/
module

public import proofs.«01_k».proof.Proof.AttnHost
public import proofs.«01_k».proof.Proof.Gen.AttnRefIdeal.Read

@[expose] public section

set_option maxRecDepth 16384

noncomputable section

namespace Cert.AttnRefIdeal.Values

open Cert.AttnRefIdeal Cert.AttnRefIdeal.Gen Cert.AttnRefIdeal.Read
open Cert.AttnIdeal.Step (sc mx ex ln scale col le_word bot_word)
open Idealize.ShloMosaic

variable (x0 x1 : FVec Ideal S4096x8x192 .f32) (x2 : FVec Ideal S4096x8x128 .f32) (x3 : FVec Ideal S4096x1024 .f32)

theorem score (h : Fin 8) (i j : Fin 4096) : val_main_v11_0 (F := Ideal) x0 x1 (ix3 h i j) = sc x0 x1 h i j := by
  unfold sc scale
  rw [← bot_word]
  pointwise [val_main_v11_0, val_main_v11_1, val_main_v10, val_main_v9, val_main_v8, val_main_v7, val_main_v6, val_main_v5, val_main_v4, val_main_v3,
    val_main_v2, val_main_v1, val_main_v0, val_main_cst, val_main_call0_v2, val_main_call0_v0, val_main_cst_0]
  unfold Scalar.select
  exact if_congr (le_word i j) rfl rfl

theorem top (h : Fin 8) (i : Fin 4096) : val_main_v12 (F := Ideal) x0 x1 (ix2 h i) = mx x0 x1 h i := by
  unfold mx
  simp only [← score]
  rw [← bot_word]
  pointwise [val_main_v12, val_main_cst_1]

theorem max_bot (x : EReal) : max (Ideal.ofBits .f32 0xFF800000#32) x = x := by
  rw [bot_word]
  exact max_eq_right bot_le

theorem top_read (y : FVec Ideal S8x4096 .f32) (j : S8x4096.Idx) : maximumf (val_main_v18 (F := Ideal)) y j = y j :=
  max_bot (y j)

theorem top_again (h : Fin 8) (i : Fin 4096) : val_main_v19 (F := Ideal) x0 x1 (ix2 h i) = mx x0 x1 h i := by
  rw [← top]
  exact top_read _ _

theorem weight (h : Fin 8) (i j : Fin 4096) : val_main_v32 (F := Ideal) x0 x1 (ix3 h i j) = ex x0 x1 h i j := by
  unfold ex
  rw [← score, ← top_again]
  pointwise [val_main_v32, val_main_v31, val_main_v30, val_main_v29]

theorem total (h : Fin 8) (i : Fin 4096) (z : Fin 1) : val_main_v34 (F := Ideal) x0 x1 (ix3 h i z) = ln x0 x1 h i := by
  unfold ln
  simp only [← weight]
  pointwise [val_main_v34, val_main_v33, val_main_cst_9]

/-- The gradient of query `i`'s weight on key `j` before the softmax. -/
def dp (h : Fin 8) (i j : Fin 4096) : EReal := ∑ d : Fin 128, x3 (ix2 i (col h d)) * x2 (ix3 j h d)

theorem dp_eq (h : Fin 8) (i j : Fin 4096) : val_main_v44 (F := Ideal) x2 x3 (ix3 h i j) = dp x2 x3 h i j := by
  unfold dp
  pointwise [val_main_v44, val_main_v43, val_main_v42]
  simp only [col, Nat.mul_comm]

/-- The gradient of the score. -/
def dsc (h : Fin 8) (i j : Fin 4096) : EReal :=
  (if j.val ≤ i.val then
    (Ideal.div (dp x2 x3 h i j) (ln x0 x1 h i)
      + -∑ k : Fin 4096, dp x2 x3 h i k * Ideal.div 1 (ln x0 x1 h i * ln x0 x1 h i) * ex x0 x1 h i k) * ex x0 x1 h i j
   else 0) * scale

theorem dsc_eq (h : Fin 8) (i j : Fin 4096) : val_main_v61 (F := Ideal) x0 x1 x2 x3 (ix3 h i j) = dsc x0 x1 x2 x3 h i j := by
  unfold dsc scale
  simp only [← dp_eq, ← weight, ← total x0 x1 h i 0]
  pointwise [val_main_v61, val_main_v60, val_main_cst_13, val_main_v59, val_main_call1_v0, val_main_call1_cst, val_main_v58, val_main_v57,
    val_main_v56, val_main_v55, val_main_cst_12, val_main_v54, val_main_v53, val_main_v52, val_main_v51, val_main_v50, val_main_cst_11,
    val_main_v49, val_main_v48, val_main_v47, val_main_v39, val_main_v38, val_main_cst_10, val_main_v37,
    val_main_v11_1, val_main_v10, val_main_v9, val_main_v8, val_main_v7, val_main_v6, val_main_v5, val_main_v4, val_main_v3]
  unfold Scalar.select
  simp only [Fin.sum_univ_one, ite_mul, zero_mul]
  exact if_congr (le_word i j) rfl rfl

theorem dv_eq (h : Fin 8) (j : Fin 4096) (d : Fin 128) : val_main_v68 (F := Ideal) x0 x1 x3 (ix3 h j d)
    = ∑ i : Fin 4096, x3 (ix2 i (col h d)) * Ideal.div (ex x0 x1 h i j) (ln x0 x1 h i) := by
  simp only [← weight, ← total x0 x1 h _ 0]
  pointwise [val_main_v68, val_main_v46, val_main_v45, val_main_v43, val_main_v42, val_main_v36, val_main_v35]
  simp only [col, Nat.mul_comm]

theorem dk_eq (h : Fin 8) (j : Fin 4096) (d : Fin 192) : val_main_v67 (F := Ideal) x0 x1 x2 x3 (ix3 h j d)
    = ∑ i : Fin 4096, dsc x0 x1 x2 x3 h i j * x0 (ix3 i h d) := by
  simp only [← dsc_eq]
  pointwise [val_main_v67, val_main_v63, val_main_v62]

theorem dq_eq (h : Fin 8) (i : Fin 4096) (d : Fin 192) : val_main_v66 (F := Ideal) x0 x1 x2 x3 (ix3 h i d)
    = ∑ j : Fin 4096, dsc x0 x1 x2 x3 h i j * x1 (ix3 j h d) := by
  simp only [← dsc_eq]
  pointwise [val_main_v66, val_main_v65, val_main_v64]

end Cert.AttnRefIdeal.Values

end
-- ==== Proof.AttnAlg.lean ====
/-
  The softmax of real scores and its gradient: on finite arguments the kernel's attention weights, which it computes
  from the saved logarithm of the denominator, and its score gradients are the reference's.
-/
module

public import proofs.«01_k».proof.Proof.AttnHost
public import proofs.«01_k».proof.Proof.AttnRef
public import proofs.«01_k».proof.Proof.Shapes

@[expose] public section

set_option maxRecDepth 16384

noncomputable section

namespace Cert.AttnIdeal.Step

open Cert.AttnIdeal
open Idealize.ShloMosaic
open Cert.Shapes (coe_sum)
open Cert.AttnRefIdeal.Values (dp dsc)

/-- The scale of the scores, as a real number. -/
def scaleR : ℝ := 9686330 / 134217728

theorem scale_real : scale = (scaleR : EReal) := by
  unfold scale scaleR
  simp [Ideal.ofBits, Ideal.ieee, -EReal.coe_mul]; norm_num

theorem scaleR_pos : 0 < scaleR := by unfold scaleR; norm_num

variable (x0 x1 : FVec Ideal S4096x8x192 .f32) (x2 : FVec Ideal S4096x8x128 .f32) (x3 : FVec Ideal S4096x1024 .f32)
variable (r0 r1 : S4096x8x192.Idx → ℝ) (r2 : S4096x8x128.Idx → ℝ) (r3 : S4096x1024.Idx → ℝ)
variable (h : Fin 8) (i j : Fin 4096)

/-- The score of query `i` on key `j`, masked or not. -/
def scR : ℝ := (∑ d : Fin 192, r0 (ix3 i h d) * r1 (ix3 j h d)) * scaleR

theorem sc_real (h0 : ∀ k, x0 k = (r0 k : EReal)) (h1 : ∀ k, x1 k = (r1 k : EReal)) :
    sc x0 x1 h i j = if j.val ≤ i.val then (scR r0 r1 h i j : EReal) else ⊥ := by
  unfold sc scR
  simp only [h0, h1, scale_real, ← EReal.coe_mul, ← coe_sum]

theorem kernel_score (h0 : ∀ k, x0 k = (r0 k : EReal)) (h1 : ∀ k, x1 k = (r1 k : EReal)) :
    (∑ d : Fin 192, x0 (ix3 i h d) * scale * x1 (ix3 j h d)) = (scR r0 r1 h i j : EReal) := by
  unfold scR
  simp only [h0, h1, scale_real, ← EReal.coe_mul, ← coe_sum]
  rw [Finset.sum_mul]
  refine congrArg _ (Finset.sum_congr rfl fun d _ => ?_)
  ring

theorem mx_real (h0 : ∀ k, x0 k = (r0 k : EReal)) (h1 : ∀ k, x1 k = (r1 k : EReal)) : ∃ μ : ℝ, mx x0 x1 h i = (μ : EReal) := by
  have hlt : mx x0 x1 h i < ⊤ := by
    unfold mx
    rw [Finset.fold_max_lt]
    refine ⟨bot_lt_top, fun j _ => ?_⟩
    rw [sc_real x0 x1 r0 r1 h i j h0 h1]
    split
    · exact EReal.coe_lt_top _
    · exact bot_lt_top
  have hgt : (scR r0 r1 h i i : EReal) ≤ mx x0 x1 h i := by
    unfold mx
    rw [Finset.le_fold_max]
    refine Or.inr ⟨i, Finset.mem_univ _, ?_⟩
    rw [sc_real x0 x1 r0 r1 h i i h0 h1, if_pos le_rfl]
  induction hm : mx x0 x1 h i using EReal.rec with
  | bot => rw [hm] at hgt; exact absurd hgt (not_le.2 (EReal.bot_lt_coe _))
  | coe r => exact ⟨r, rfl⟩
  | top => rw [hm] at hlt; exact absurd hlt (lt_irrefl _)

/-- One row of the softmax of real scores: its greatest score, its weights before the division and their sum. -/
structure Row (μ : ℝ) (e : Fin 4096 → ℝ) : Prop where
  top : mx x0 x1 h i = (μ : EReal)
  weight : ∀ j, ex x0 x1 h i j = (e j : EReal)
  seen : ∀ j : Fin 4096, j.val ≤ i.val → e j = Real.exp (scR r0 r1 h i j - μ)
  hidden : ∀ j : Fin 4096, ¬j.val ≤ i.val → e j = 0
  total : ln x0 x1 h i = ((∑ j, e j : ℝ) : EReal)
  pos : 0 < ∑ j, e j

theorem row (h0 : ∀ k, x0 k = (r0 k : EReal)) (h1 : ∀ k, x1 k = (r1 k : EReal)) : ∃ μ e, Row x0 x1 r0 r1 h i μ e := by
  obtain ⟨μ, hμ⟩ := mx_real x0 x1 r0 r1 h i h0 h1
  have hw : ∀ j : Fin 4096, ex x0 x1 h i j = ((if j.val ≤ i.val then Real.exp (scR r0 r1 h i j - μ) else 0 : ℝ) : EReal) := by
    intro j
    unfold ex
    rw [sc_real x0 x1 r0 r1 h i j h0 h1, hμ]
    split
    · rw [← EReal.coe_sub, Ideal.exp_coe]
    · rw [EReal.bot_sub, Ideal.exp_bot, EReal.coe_zero]
  refine ⟨μ, fun j => if j.val ≤ i.val then Real.exp (scR r0 r1 h i j - μ) else 0, hμ, hw, fun j hj => if_pos hj, fun j hj => if_neg hj, ?_, ?_⟩
  · unfold ln
    simp only [hw, coe_sum]
  · refine Finset.sum_pos' (fun j _ => ?_) ⟨i, Finset.mem_univ _, ?_⟩
    · split
      · exact (Real.exp_pos _).le
      · exact le_rfl
    · rw [if_pos le_rfl]; exact Real.exp_pos _

variable {x0 x1 r0 r1 h i} {μ : ℝ} {e : Fin 4096 → ℝ}

theorem Row.div (R : Row x0 x1 r0 r1 h i μ e) (j : Fin 4096) :
    Ideal.div (ex x0 x1 h i j) (ln x0 x1 h i) = ((e j / ∑ k, e k : ℝ) : EReal) := by
  rw [R.weight, R.total, Ideal.div_coe R.pos.ne', ← EReal.coe_mul, mul_one_div]

/-- The kernel's weight, from the logarithm of the denominator. -/
theorem Row.kernel (R : Row x0 x1 r0 r1 h i μ e) (h0 : ∀ k, x0 k = (r0 k : EReal)) (h1 : ∀ k, x1 k = (r1 k : EReal)) (j : Fin 4096) :
    (if j.val ≤ i.val then
      Ideal.exp ((∑ d : Fin 192, x0 (ix3 i h d) * scale * x1 (ix3 j h d)) - (mx x0 x1 h i + Ideal.log (ln x0 x1 h i))) else 0)
    = ((e j / ∑ k, e k : ℝ) : EReal) := by
  split
  case isTrue hj =>
    rw [kernel_score x0 x1 r0 r1 h i j h0 h1, R.top, R.total, Ideal.log_coe, if_neg (not_le.2 R.pos), ← EReal.coe_add, ← EReal.coe_sub,
      Ideal.exp_coe, R.seen j hj, ← sub_sub, Real.exp_sub _ (Real.log _), Real.exp_log R.pos]
  case isFalse hj => rw [R.hidden j hj, zero_div, EReal.coe_zero]

/-- The gradient of query `i`'s weight on key `j`, as a real number. -/
def dpR (h : Fin 8) (i j : Fin 4096) : ℝ := ∑ d : Fin 128, r3 (ix2 i (col h d)) * r2 (ix3 j h d)

theorem dp_real (h2 : ∀ k, x2 k = (r2 k : EReal)) (h3 : ∀ k, x3 k = (r3 k : EReal)) (h : Fin 8) (i j : Fin 4096) :
    dp x2 x3 h i j = (dpR r2 r3 h i j : EReal) := by
  unfold dp dpR
  simp only [h2, h3, ← EReal.coe_mul, ← coe_sum]

/-- The score gradient of both programs, as a real number. -/
def dscR (h : Fin 8) (i : Fin 4096) (e : Fin 4096 → ℝ) (j : Fin 4096) : ℝ :=
  (e j / ∑ k, e k) * (dpR r2 r3 h i j - ∑ k, (e k / ∑ l, e l) * dpR r2 r3 h i k)

theorem Row.delta (R : Row x0 x1 r0 r1 h i μ e) (h2 : ∀ k, x2 k = (r2 k : EReal)) (h3 : ∀ k, x3 k = (r3 k : EReal)) :
    (∑ d : Fin 128, (∑ j : Fin 4096, x2 (ix3 j h d) * Ideal.div (ex x0 x1 h i j) (ln x0 x1 h i)) * x3 (ix2 i (col h d)))
    = ((∑ k, (e k / ∑ l, e l) * dpR r2 r3 h i k : ℝ) : EReal) := by
  simp only [R.div, h2, h3, ← EReal.coe_mul, ← coe_sum]
  refine congrArg _ ?_
  unfold dpR
  simp only [Finset.sum_mul, Finset.mul_sum]
  rw [Finset.sum_comm]
  refine Finset.sum_congr rfl fun k _ => Finset.sum_congr rfl fun d _ => ?_
  ring

theorem Row.ref (R : Row x0 x1 r0 r1 h i μ e) (h2 : ∀ k, x2 k = (r2 k : EReal)) (h3 : ∀ k, x3 k = (r3 k : EReal)) (j : Fin 4096) :
    dsc x0 x1 x2 x3 h i j = ((dscR r2 r3 h i e j * scaleR : ℝ) : EReal) := by
  have hL := R.pos.ne'
  have h1 : Ideal.div 1 (ln x0 x1 h i * ln x0 x1 h i) = ((1 / ((∑ k, e k) * ∑ k, e k) : ℝ) : EReal) := by
    rw [R.total, ← EReal.coe_mul, Ideal.div_coe (mul_ne_zero hL hL), one_mul]
  unfold dsc
  simp only [h1, dp_real x2 x3 r2 r3 h2 h3, R.weight, scale_real]
  rw [R.total, Ideal.div_coe hL]
  simp only [← EReal.coe_mul, ← coe_sum, ← EReal.coe_neg, ← EReal.coe_add]
  by_cases hj : j.val ≤ i.val
  · rw [if_pos hj, ← EReal.coe_mul]
    refine congrArg _ (congrArg (· * scaleR) ?_)
    unfold dscR
    have hs : (∑ k : Fin 4096, dpR r2 r3 h i k * (1 / ((∑ l, e l) * ∑ l, e l)) * e k)
        = (1 / ∑ l, e l) * ∑ k : Fin 4096, (e k / ∑ l, e l) * dpR r2 r3 h i k := by
      generalize (∑ l, e l) = L
      rw [Finset.mul_sum]
      exact Finset.sum_congr rfl fun k _ => by ring
    rw [hs]
    generalize (∑ l, e l) = L
    ring
  · rw [if_neg hj, zero_mul]
    unfold dscR
    rw [R.hidden j hj, zero_div, zero_mul, zero_mul, EReal.coe_zero]

end Cert.AttnIdeal.Step

end
-- ==== Proof.AttnOut.lean ====
/-
  The three arrays the attention backward kernel leaves, each element as a sum over all queries or all keys.
-/
module

public import proofs.«01_k».proof.Proof.AttnVal

@[expose] public section

set_option maxRecDepth 16384

noncomputable section

namespace Cert.AttnIdeal.Step

open Cert.AttnIdeal Cert.AttnIdeal.Gen Cert.Shapes
open Idealize.ShloMosaic Idealize.ShloMosaic.TcCoe
open Idealize.ShloMosaic.Pipeline (Dat Cfg Window)

variable (m : (ℓ : Loc nD τ sig) → Buf (Elt Ideal) ℓ) (c : Dev nD)

/-- A sum over all rows by blocks of rows. -/
theorem sum_rows (f : Fin 4096 → EReal) : ∑ q : Fin 4, ∑ r : Fin 1024, f (rowOf q r) = ∑ i, f i := by
  rw [sum_blocks 4 1024 rfl f]
  refine Finset.sum_congr rfl fun q _ => Finset.sum_congr rfl fun r _ => congrArg f (Fin.ext ?_)
  show 1024 * q.val + r.val = q.val * 1024 + r.val
  omega

/-- The point of head `h`, key block `k` and query block `q`. -/
abbrev pt (h : Fin 8) (k : Fin 4) (q : ℕ) (hq : q < 4) : Fin cfg0.N :=
  ⟨16 * h.val + 4 * k.val + q, lt_of_lt_of_eq (by omega : _ < 128) (show 128 = cfg0.N from N_0.symm)⟩

theorem dv_last (h : Fin 8) (k : Fin 4) (j : Fin 1024) (d : Fin 128) :
    (st m c (16 * h.val + 4 * k.val + 3 + 1)).dv (ix2 j d) = ∑ i : Fin 4096, P m c h i (rowOf k j) * Da m c (ix2 i (col h d)) := by
  rw [← sum_rows]
  have at_pt : ∀ q (hq : q < 4), dvPart m c (hd (pt h k q hq)) (rowOf (ki (pt h k q hq)) j) d (qi (pt h k q hq)) = dvPart m c h (rowOf k j) d ⟨q, hq⟩ := by
    intro q hq
    have e1 : hd (pt h k q hq) = h := Fin.ext (by show (16 * h.val + 4 * k.val + q) / 16 = h.val; omega)
    have e2 : ki (pt h k q hq) = k := Fin.ext (by show (16 * h.val + 4 * k.val + q) / 4 % 4 = k.val; omega)
    have e3 : qi (pt h k q hq) = ⟨q, hq⟩ := Fin.ext (by show (16 * h.val + 4 * k.val + q) % 4 = q; omega)
    rw [e1, e2, e3]
  refine running (dvPart m c h (rowOf k j) d) (fun n _ => (st m c (16 * h.val + 4 * k.val + n + 1)).dv (ix2 j d)) (fun hq => ?_) (fun n hq => ?_) 3 (by decide)
  · refine (dv_step m c (pt h k 0 hq) j d).trans ?_
    rw [if_pos (by show (16 * h.val + 4 * k.val + 0) % 4 = 0; omega), zero_add, at_pt]
  · refine (dv_step m c (pt h k (n + 1) hq) j d).trans ?_
    rw [if_neg (by show ¬(16 * h.val + 4 * k.val + (n + 1)) % 4 = 0; omega), at_pt]
    rfl

theorem dk_last (h : Fin 8) (k : Fin 4) (j : Fin 1024) (d : Fin 192) :
    (st m c (16 * h.val + 4 * k.val + 3 + 1)).dk (ix2 j d) = ∑ i : Fin 4096, DS m c h i (rowOf k j) * Qa m c (ix3 h i d) := by
  rw [← sum_rows]
  have at_pt : ∀ q (hq : q < 4), dkPart m c (hd (pt h k q hq)) (rowOf (ki (pt h k q hq)) j) d (qi (pt h k q hq)) = dkPart m c h (rowOf k j) d ⟨q, hq⟩ := by
    intro q hq
    have e1 : hd (pt h k q hq) = h := Fin.ext (by show (16 * h.val + 4 * k.val + q) / 16 = h.val; omega)
    have e2 : ki (pt h k q hq) = k := Fin.ext (by show (16 * h.val + 4 * k.val + q) / 4 % 4 = k.val; omega)
    have e3 : qi (pt h k q hq) = ⟨q, hq⟩ := Fin.ext (by show (16 * h.val + 4 * k.val + q) % 4 = q; omega)
    rw [e1, e2, e3]
  refine running (dkPart m c h (rowOf k j) d) (fun n _ => (st m c (16 * h.val + 4 * k.val + n + 1)).dk (ix2 j d)) (fun hq => ?_) (fun n hq => ?_) 3 (by decide)
  · refine (dk_step m c (pt h k 0 hq) j d).trans ?_
    rw [if_pos (by show (16 * h.val + 4 * k.val + 0) % 4 = 0; omega), zero_add, at_pt]
  · refine (dk_step m c (pt h k (n + 1) hq) j d).trans ?_
    rw [if_neg (by show ¬(16 * h.val + 4 * k.val + (n + 1)) % 4 = 0; omega), at_pt]
    rfl

/-- The point `p` of head `h`. -/
abbrev ph (h : Fin 8) (p : ℕ) (hp : p < 16) : Fin cfg0.N :=
  ⟨16 * h.val + p, lt_of_lt_of_eq (by omega : _ < 128) (show 128 = cfg0.N from N_0.symm)⟩

theorem dq_last (h : Fin 8) (n : Fin 4) (r : Fin 1024) (d : Fin 192) :
    (st m c (16 * h.val + 15 + 1)).dq (ix3 0 (rowOf n r) d) = ∑ j : Fin 4096, DS m c h (rowOf n r) j * Ka m c (ix3 h j d) := by
  rw [← sum_rows]
  let g : Fin 16 → EReal := fun p => if n.val = p.val % 4 then dqPart m c h (rowOf n r) d ⟨p.val / 4, by omega⟩ else 0
  have at_pt : ∀ p (hp : p < 16), (if n = qi (ph h p hp) then dqPart m c (hd (ph h p hp)) (rowOf n r) d (ki (ph h p hp)) else 0) = g ⟨p, hp⟩ := by
    intro p hp
    have e1 : hd (ph h p hp) = h := Fin.ext (by show (16 * h.val + p) / 16 = h.val; omega)
    have e2 : ki (ph h p hp) = ⟨p / 4, by omega⟩ := Fin.ext (by show (16 * h.val + p) / 4 % 4 = p / 4; omega)
    rw [e1, e2]
    refine if_congr ?_ rfl rfl
    rw [Fin.ext_iff]
    show n.val = (16 * h.val + p) % 4 ↔ n.val = p % 4
    omega
  have hs : (st m c (16 * h.val + 15 + 1)).dq (ix3 0 (rowOf n r) d) = ∑ p : Fin 16, g p := by
    refine running g (fun p _ => (st m c (16 * h.val + p + 1)).dq (ix3 0 (rowOf n r) d)) (fun hp => ?_) (fun p hp => ?_) 15 (by decide)
    · refine (dq_step m c (ph h 0 hp) n r d).trans ?_
      rw [if_pos (c := (ph h 0 hp).val % 16 = 0) (by show (16 * h.val + 0) % 16 = 0; omega), zero_add, at_pt]
    · refine (dq_step m c (ph h (p + 1) hp) n r d).trans ?_
      rw [if_neg (c := (ph h (p + 1) hp).val % 16 = 0) (by show ¬(16 * h.val + (p + 1)) % 16 = 0; omega), at_pt]
      rfl
  rw [hs, sum_blocks 4 4 rfl g]
  refine Finset.sum_congr rfl fun k _ => ?_
  rw [Finset.sum_eq_single n]
  · show (if n.val = (k.val * 4 + n.val) % 4 then dqPart m c h (rowOf n r) d ⟨(k.val * 4 + n.val) / 4, by omega⟩ else 0) = _
    rw [if_pos (by omega)]
    have e : (⟨(k.val * 4 + n.val) / 4, by omega⟩ : Fin 4) = k := Fin.ext (by show (k.val * 4 + n.val) / 4 = k.val; omega)
    rw [e]
    rfl
  · intro b _ hb
    refine if_neg ?_
    show ¬n.val = (k.val * 4 + b.val) % 4
    intro h'
    exact hb (Fin.ext (by omega))
  · intro h'
    exact absurd (Finset.mem_univ _) h'

/-! ## The arrays -/

def dvAll (i : S8x4096x128.Idx) : EReal := ∑ t : Fin 4096, P m c (i 0) t (i 1) * Da m c (ix2 t (col (i 0) (i 2)))
def dkAll (i : S8x4096x192.Idx) : EReal := ∑ t : Fin 4096, DS m c (i 0) t (i 1) * Qa m c (ix3 (i 0) t (i 2))
def dqAll (i : S8x4096x192.Idx) : EReal := ∑ t : Fin 4096, DS m c (i 0) (i 1) t * Ka m c (ix3 (i 0) t (i 2))

theorem out_dv (i : S8x4096x128.Idx) : (dats m 0 c).arrAt 8 cfg0.N i = dvAll m c i := by
  have hN : cfg0.N = 128 := N_0
  refine congrFun ((dats m 0 c).arrAt_eq_of_cover 8 (dvAll m c) (fun t hf => ?_) fun i => ?_) i
  · have h3 := (flush0_8 t).mp hf
    have ht := lt_N t
    obtain ⟨e0, e1, e2⟩ := idx8 t
    show (cfg0.win 8).cut (grid0.coords t) ((dats m 0 c).after 8 t) = _
    rw [after0_8]
    funext j
    obtain ⟨z, r, d, rfl⟩ : ∃ (z : Fin 1) (r : Fin 1024) (d : Fin 128), j = ix3 z r d := ⟨_, _, _, eq_ix3 j⟩
    obtain rfl : z = 0 := Subsingleton.elim _ _
    rw [View.read_apply]
    have e : ((((cfg0.win 8).blk t).view.emb (ix3 0 r d)) : S8x4096x128.Idx) = ix3 (hd t) (rowOf (ki t) r) d := funext fun a => Fin.ext (by
      match a with
      | ⟨0, _⟩ => show win0_8.index t 0 * 1 + 1 * 0 = t.val / 16; omega
      | ⟨1, _⟩ => show win0_8.index t 1 * 1024 + 1 * r.val = 1024 * (t.val / 4 % 4) + r.val; omega
      | ⟨2, _⟩ => show win0_8.index t 2 * 128 + 1 * d.val = d.val; omega)
    refine Eq.trans ?_ (congrArg (dvAll m c) e.symm)
    refine Eq.trans ?_ (dv_last m c (hd t) (ki t) r d)
    have et : 16 * (hd t).val + 4 * (ki t).val + 3 + 1 = t.val + 1 := by
      show 16 * (t.val / 16) + 4 * (t.val / 4 % 4) + 3 + 1 = t.val + 1
      omega
    rw [et]
    show k0_pay11 (st m c (t.val + 1)).dv (ix3 0 r d) = _
    pointwise [k0_pay11]
  · have h0 : (i 0 : Nat) < 8 := (i 0).isLt
    have h1 : (i 1 : Nat) < 4096 := (i 1).isLt
    have h2 : (i 2 : Nat) < 128 := (i 2).isLt
    have ht : 16 * (i 0 : Nat) + 4 * ((i 1 : Nat) / 1024) + 3 < cfg0.N := by omega
    obtain ⟨e0, e1, e2⟩ := idx8 ⟨_, ht⟩
    dsimp only at e0 e1 e2
    refine ⟨⟨_, ht⟩, (flush0_8 _).mpr (by dsimp only; omega), ?_⟩
    show i ∈ ((View.whole main_v34_2).slice (win0_8.rect ⟨_, ht⟩)).set
    rw [View.set_slice_whole, Rect.mem_set_unit]
    intro a
    match a with
    | ⟨0, _⟩ => show win0_8.index ⟨_, ht⟩ 0 * 1 ≤ (i 0 : Nat) ∧ (i 0 : Nat) < win0_8.index ⟨_, ht⟩ 0 * 1 + 1; omega
    | ⟨1, _⟩ => show win0_8.index ⟨_, ht⟩ 1 * 1024 ≤ (i 1 : Nat) ∧ (i 1 : Nat) < win0_8.index ⟨_, ht⟩ 1 * 1024 + 1024; omega
    | ⟨2, _⟩ => show win0_8.index ⟨_, ht⟩ 2 * 128 ≤ (i 2 : Nat) ∧ (i 2 : Nat) < win0_8.index ⟨_, ht⟩ 2 * 128 + 128; omega

theorem out_dk (i : S8x4096x192.Idx) : (dats m 0 c).arrAt 7 cfg0.N i = dkAll m c i := by
  have hN : cfg0.N = 128 := N_0
  refine congrFun ((dats m 0 c).arrAt_eq_of_cover 7 (dkAll m c) (fun t hf => ?_) fun i => ?_) i
  · have h3 := (flush0_7 t).mp hf
    have ht := lt_N t
    obtain ⟨e0, e1, e2⟩ := idx7 t
    show (cfg0.win 7).cut (grid0.coords t) ((dats m 0 c).after 7 t) = _
    rw [after0_7]
    funext j
    obtain ⟨z, r, d, rfl⟩ : ∃ (z : Fin 1) (r : Fin 1024) (d : Fin 192), j = ix3 z r d := ⟨_, _, _, eq_ix3 j⟩
    obtain rfl : z = 0 := Subsingleton.elim _ _
    rw [View.read_apply]
    have e : ((((cfg0.win 7).blk t).view.emb (ix3 0 r d)) : S8x4096x192.Idx) = ix3 (hd t) (rowOf (ki t) r) d := funext fun a => Fin.ext (by
      match a with
      | ⟨0, _⟩ => show win0_7.index t 0 * 1 + 1 * 0 = t.val / 16; omega
      | ⟨1, _⟩ => show win0_7.index t 1 * 1024 + 1 * r.val = 1024 * (t.val / 4 % 4) + r.val; omega
      | ⟨2, _⟩ => show win0_7.index t 2 * 192 + 1 * d.val = d.val; omega)
    refine Eq.trans ?_ (congrArg (dkAll m c) e.symm)
    refine Eq.trans ?_ (dk_last m c (hd t) (ki t) r d)
    have et : 16 * (hd t).val + 4 * (ki t).val + 3 + 1 = t.val + 1 := by
      show 16 * (t.val / 16) + 4 * (t.val / 4 % 4) + 3 + 1 = t.val + 1
      omega
    rw [et]
    show k0_pay10 (st m c (t.val + 1)).dk (ix3 0 r d) = _
    pointwise [k0_pay10]
  · have h0 : (i 0 : Nat) < 8 := (i 0).isLt
    have h1 : (i 1 : Nat) < 4096 := (i 1).isLt
    have h2 : (i 2 : Nat) < 192 := (i 2).isLt
    have ht : 16 * (i 0 : Nat) + 4 * ((i 1 : Nat) / 1024) + 3 < cfg0.N := by omega
    obtain ⟨e0, e1, e2⟩ := idx7 ⟨_, ht⟩
    dsimp only at e0 e1 e2
    refine ⟨⟨_, ht⟩, (flush0_7 _).mpr (by dsimp only; omega), ?_⟩
    show i ∈ ((View.whole main_v34_1).slice (win0_7.rect ⟨_, ht⟩)).set
    rw [View.set_slice_whole, Rect.mem_set_unit]
    intro a
    match a with
    | ⟨0, _⟩ => show win0_7.index ⟨_, ht⟩ 0 * 1 ≤ (i 0 : Nat) ∧ (i 0 : Nat) < win0_7.index ⟨_, ht⟩ 0 * 1 + 1; omega
    | ⟨1, _⟩ => show win0_7.index ⟨_, ht⟩ 1 * 1024 ≤ (i 1 : Nat) ∧ (i 1 : Nat) < win0_7.index ⟨_, ht⟩ 1 * 1024 + 1024; omega
    | ⟨2, _⟩ => show win0_7.index ⟨_, ht⟩ 2 * 192 ≤ (i 2 : Nat) ∧ (i 2 : Nat) < win0_7.index ⟨_, ht⟩ 2 * 192 + 192; omega

theorem out_dq (i : S8x4096x192.Idx) : (dats m 0 c).arrAt 6 cfg0.N i = dqAll m c i := by
  have hN : cfg0.N = 128 := N_0
  refine congrFun ((dats m 0 c).arrAt_eq_of_cover 6 (dqAll m c) (fun t hf => ?_) fun i => ?_) i
  · have h3 := (flush0_6 t).mp hf
    have ht := lt_N t
    obtain ⟨e0, e1, e2⟩ := idx6 t
    show (cfg0.win 6).cut (grid0.coords t) ((dats m 0 c).after 6 t) = _
    rw [after0_6]
    funext j
    obtain ⟨z, r, d, rfl⟩ : ∃ (z : Fin 1) (r : Fin 4096) (d : Fin 192), j = ix3 z r d := ⟨_, _, _, eq_ix3 j⟩
    obtain rfl : z = 0 := Subsingleton.elim _ _
    rw [View.read_apply]
    have e : ((((cfg0.win 6).blk t).view.emb (ix3 0 r d)) : S8x4096x192.Idx) = ix3 (hd t) r d := funext fun a => Fin.ext (by
      match a with
      | ⟨0, _⟩ => show win0_6.index t 0 * 1 + 1 * 0 = t.val / 16; omega
      | ⟨1, _⟩ => show win0_6.index t 1 * 4096 + 1 * r.val = r.val; omega
      | ⟨2, _⟩ => show win0_6.index t 2 * 192 + 1 * d.val = d.val; omega)
    refine Eq.trans ?_ (congrArg (dqAll m c) e.symm)
    obtain ⟨n, s, rfl⟩ : ∃ (n : Fin 4) (s : Fin 1024), r = rowOf n s :=
      ⟨⟨r.val / 1024, by omega⟩, ⟨r.val % 1024, by omega⟩, Fin.ext (by show r.val = 1024 * (r.val / 1024) + r.val % 1024; omega)⟩
    refine Eq.trans ?_ (dq_last m c (hd t) n s d)
    have et : 16 * (hd t).val + 15 + 1 = t.val + 1 := by
      show 16 * (t.val / 16) + 15 + 1 = t.val + 1
      omega
    rw [et]
    rfl
  · have h0 : (i 0 : Nat) < 8 := (i 0).isLt
    have h1 : (i 1 : Nat) < 4096 := (i 1).isLt
    have h2 : (i 2 : Nat) < 192 := (i 2).isLt
    have ht : 16 * (i 0 : Nat) + 15 < cfg0.N := by omega
    obtain ⟨e0, e1, e2⟩ := idx6 ⟨_, ht⟩
    dsimp only at e0 e1 e2
    refine ⟨⟨_, ht⟩, (flush0_6 _).mpr (by dsimp only; omega), ?_⟩
    show i ∈ ((View.whole main_v34_0).slice (win0_6.rect ⟨_, ht⟩)).set
    rw [View.set_slice_whole, Rect.mem_set_unit]
    intro a
    match a with
    | ⟨0, _⟩ => show win0_6.index ⟨_, ht⟩ 0 * 1 ≤ (i 0 : Nat) ∧ (i 0 : Nat) < win0_6.index ⟨_, ht⟩ 0 * 1 + 1; omega
    | ⟨1, _⟩ => show win0_6.index ⟨_, ht⟩ 1 * 4096 ≤ (i 1 : Nat) ∧ (i 1 : Nat) < win0_6.index ⟨_, ht⟩ 1 * 4096 + 4096; omega
    | ⟨2, _⟩ => show win0_6.index ⟨_, ht⟩ 2 * 192 ≤ (i 2 : Nat) ∧ (i 2 : Nat) < win0_6.index ⟨_, ht⟩ 2 * 192 + 192; omega

end Cert.AttnIdeal.Step

end
-- ==== Proof.AttnEq.lean ====
/- The three gradients that the attention kernel leaves are the reference's, on finite arguments. -/
module

public import proofs.«01_k».proof.Proof.AttnAlg
public import proofs.«01_k».proof.Proof.AttnOut

@[expose] public section

set_option maxRecDepth 16384

noncomputable section

namespace Cert.AttnIdeal.Step

open Cert.AttnIdeal
open Idealize.ShloMosaic
open Cert.AttnRefIdeal.Values (dp dsc dv_eq dk_eq dq_eq)
open Cert.AttnRefIdeal.Read (val_main_v66 val_main_v67 val_main_v68)

variable (m : (ℓ : Loc nD τ sig) → Buf (Elt Ideal) ℓ) (c : Dev nD)

/-- The arguments are real numbers. -/
structure Real4 (r0 r1 : S4096x8x192.Idx → ℝ) (r2 : S4096x8x128.Idx → ℝ) (r3 : S4096x1024.Idx → ℝ) : Prop where
  q : ∀ k, A0 m c k = (r0 k : EReal)
  k : ∀ k, A1 m c k = (r1 k : EReal)
  v : ∀ k, A2 m c k = (r2 k : EReal)
  d : ∀ k, A3 m c k = (r3 k : EReal)

variable {m c} {r0 r1 : S4096x8x192.Idx → ℝ} {r2 : S4096x8x128.Idx → ℝ} {r3 : S4096x1024.Idx → ℝ}

theorem P_real (H : Real4 m c r0 r1 r2 r3) {h : Fin 8} {i : Fin 4096} {μ : ℝ} {e : Fin 4096 → ℝ}
    (R : Row (A0 m c) (A1 m c) r0 r1 h i μ e) (j : Fin 4096) : P m c h i j = ((e j / ∑ k, e k : ℝ) : EReal) := by
  unfold P
  simp only [Qa_apply, Ka_apply, La_apply]
  exact R.kernel H.q H.k j

theorem P_eq (H : Real4 m c r0 r1 r2 r3) (h : Fin 8) (i j : Fin 4096) :
    P m c h i j = Ideal.div (ex (A0 m c) (A1 m c) h i j) (ln (A0 m c) (A1 m c) h i) := by
  obtain ⟨μ, e, R⟩ := row (A0 m c) (A1 m c) r0 r1 h i H.q H.k
  rw [P_real H R, R.div]

theorem DS_eq (H : Real4 m c r0 r1 r2 r3) (h : Fin 8) (i j : Fin 4096) :
    DS m c h i j * scale = dsc (A0 m c) (A1 m c) (A2 m c) (A3 m c) h i j := by
  obtain ⟨μ, e, R⟩ := row (A0 m c) (A1 m c) r0 r1 h i H.q H.k
  have hp : (∑ d : Fin 128, A3 m c (ix2 i (col h d)) * A2 m c (ix3 j h d)) = (dpR r2 r3 h i j : EReal) :=
    dp_real (A2 m c) (A3 m c) r2 r3 H.v H.d h i j
  rw [R.ref (A2 m c) (A3 m c) r2 r3 H.v H.d]
  unfold DS
  simp only [P_real H R, Va_apply, Oa_apply, Da_eq]
  rw [R.delta (A2 m c) (A3 m c) r2 r3 H.v H.d, hp, scale_real, ← EReal.coe_sub, ← EReal.coe_mul, ← EReal.coe_mul]
  rfl

theorem dv_same (H : Real4 m c r0 r1 r2 r3) : dvAll m c = val_main_v68 (F := Ideal) (A0 m c) (A1 m c) (A3 m c) := by
  funext i
  obtain ⟨h, j, d, rfl⟩ : ∃ (h : Fin 8) (j : Fin 4096) (d : Fin 128), i = ix3 h j d := ⟨_, _, _, eq_ix3 i⟩
  rw [dv_eq]
  show ∑ t : Fin 4096, P m c h t j * Da m c (ix2 t (col h d)) = _
  simp only [P_eq H, Da_eq]
  exact Finset.sum_congr rfl fun t _ => mul_comm _ _

theorem dk_same (H : Real4 m c r0 r1 r2 r3) : dkAll m c = val_main_v67 (F := Ideal) (A0 m c) (A1 m c) (A2 m c) (A3 m c) := by
  funext i
  obtain ⟨h, j, d, rfl⟩ : ∃ (h : Fin 8) (j : Fin 4096) (d : Fin 192), i = ix3 h j d := ⟨_, _, _, eq_ix3 i⟩
  rw [dk_eq]
  show ∑ t : Fin 4096, DS m c h t j * Qa m c (ix3 h t d) = _
  simp only [Qa_apply, ← DS_eq H]
  exact Finset.sum_congr rfl fun t _ => by rw [mul_comm (A0 m c _), ← mul_assoc]

theorem dq_same (H : Real4 m c r0 r1 r2 r3) (i : S8x4096x192.Idx) :
    dqAll m c i * scale = val_main_v66 (F := Ideal) (A0 m c) (A1 m c) (A2 m c) (A3 m c) i := by
  obtain ⟨h, j, d, rfl⟩ : ∃ (h : Fin 8) (j : Fin 4096) (d : Fin 192), i = ix3 h j d := ⟨_, _, _, eq_ix3 i⟩
  rw [dq_eq]
  show (∑ t : Fin 4096, DS m c h j t * Ka m c (ix3 h t d)) * scale = _
  rw [mul_comm, Cert.Shapes.mul_sum_of_nonneg _ _ _ (by rw [scale_real]; exact_mod_cast scaleR_pos.le) (by rw [scale_real]; exact EReal.coe_ne_top _)]
  simp only [Ka_apply, ← DS_eq H]
  exact Finset.sum_congr rfl fun t _ => by rw [mul_comm scale, mul_right_comm]

end Cert.AttnIdeal.Step

end
-- ==== Proof.AttnValue.lean ====
/- The value claim of the attention's backward call: kernel and reference leave the same gradients. -/
module

public import proofs.«01_k».proof.Proof.AttnEq
public import proofs.«01_k».proof.Proof.AttnClaim

@[expose] public section

noncomputable section

namespace Cert.AttnIdeal.Step

open Cert.AttnIdeal Cert.AttnIdeal.Gen
open Idealize.ShloMosaic Idealize.ShloMosaic.TcCoe Idealize.SL.Sem
open Idealize.ShloMosaic.Pipeline (Dat Cfg Window)

/-- The first result and the array the kernel leaves for it. -/
def dqOut (W : Valuation τ sig (Elt Ideal)) : S8x4096x192.Idx → EReal := StableHlo.after (hostOps1 (F := Ideal)) W (Proc.devRef .tc main_v36)
def dqIn (W : Valuation τ sig (Elt Ideal)) : S8x4096x192.Idx → EReal := W (Proc.devRef .tc main_v34_0)

/-- After the region the host scales the queries' gradient. -/
theorem tail_dq (W : Valuation τ sig (Elt Ideal)) (i : S8x4096x192.Idx) :
    dqOut W i = dqIn W i * scale := by
  unfold dqOut dqIn
  unfold hostOps1
  after_reads_at
  rfl

variable (m : (ℓ : Loc nD τ sig) → Buf (Elt Ideal) ℓ) (ρ : Dev nD → PrngReg)

theorem kernel_run {r : _} (c : Dev nD)
    (h : Pipeline.FramePost cfgs (dats m) 0 (Pipeline.afterTail₀ cfgs (dats m) 0 (V0 m) [hostOps1]) r) :
    r.2.mem ((c.tc : Thread nD τ).loc main_v36) = (fun i => dqAll m c i * scale)
    ∧ r.2.mem ((c.tc : Thread nD τ).loc main_v34_1) = dkAll m c
    ∧ r.2.mem ((c.tc : Thread nD τ).loc main_v34_2) = dvAll m c := by
  have hc := h c
  refine ⟨?_, ((hc.1 7).trans (funext fun i => out_dk m c i)), ((hc.1 8).trans (funext fun i => out_dv m c i))⟩
  refine (hc.2 main_v36 (Pipeline.mem_restRefs_of main_v36 (by decide) (by decide))).trans ?_
  funext i
  refine (tail_dq _ i).trans ?_
  refine congrArg (fun y : EReal => y * scale) ?_
  exact (congrFun (Pipeline.withArrays_arr spec0 (by decide) c (V0 m c) (fun w => (dats m 0 c).arrAt w cfg0.N) 6) i).trans (out_dq m c i)

end Cert.AttnIdeal.Step

namespace Cert.Attn.Claim

open Idealize.ShloMosaic Idealize.ShloMosaic.TcCoe Idealize.SL.Sem
open Cert.AttnIdeal.Step (A0 A1 A2 A3 Real4 dqAll dkAll dvAll dq_same dk_same dv_same kernel_run scale)

theorem real_args {m : (ℓ : Loc Cert.AttnIdeal.nD Cert.AttnIdeal.τ Cert.AttnIdeal.sig) → Buf (Elt Ideal) ℓ}
    (h : Cert.Pre_AttnIdeal_finite_attn (hPre_finite_attn := Cert.Pre_finite_attn.Gen.facts) m) (c : Dev Cert.AttnIdeal.nD) :
    ∃ r0 r1 r2 r3, Real4 m c r0 r1 r2 r3 := by
  obtain ⟨h0, h1, h2, h3⟩ := h c
  obtain ⟨r0, e0⟩ := Cert.Shapes.real_of_finite (A0 m c) _ (fun _ => rfl) h0
  obtain ⟨r1, e1⟩ := Cert.Shapes.real_of_finite (A1 m c) _ (fun _ => rfl) h1
  obtain ⟨r2, e2⟩ := Cert.Shapes.real_of_finite (A2 m c) _ (fun _ => rfl) h2
  obtain ⟨r3, e3⟩ := Cert.Shapes.real_of_finite (A3 m c) _ (fun _ => rfl) h3
  exact ⟨r0, r1, r2, r3, e0, e1, e2, e3⟩

theorem algebraic : Cert.algebraic_AttnIdeal_AttnRefIdeal_pre_finite_attn (hAttnIdeal := Cert.AttnIdeal.Gen.facts)
    (hAttnRefIdeal := Cert.AttnRefIdeal.Gen.facts) (hPre_finite_attn := Cert.Pre_finite_attn.Gen.facts) := by
  intro m g m' g' hpre hargs
  refine ⟨fun c => fun i => dqAll m c i * scale, fun c => dkAll m c, fun c => dvAll m c, ?_, ?_⟩
  · refine (θ_run _ _ _).mono (fun r h c => ?_) (θ_run_and (Cert.AttnIdeal.Step.run_main m g) (Cert.AttnIdeal.Step.frame_at m g))
    obtain ⟨k0, k1, k2⟩ := kernel_run m c h.1
    exact ⟨k0, k1, k2, h.2.1 c⟩
  · refine (θ_run _ _ _).mono (fun r h c => ?_) (Cert.AttnRefIdeal.Value.run (F := Ideal) m' g')
    obtain ⟨h0, h1, h2, h3⟩ := h c
    obtain ⟨e0, e1, e2, e3⟩ := hargs c
    obtain ⟨r0, r1, r2, r3, H⟩ := real_args hpre c
    refine ⟨h0.trans ?_, h1.trans ?_, h2.trans ?_, h3⟩
    · rw [Cert.AttnRefIdeal.Read.val_main_v66_eq, e0, e1, e2, e3]; exact (funext fun i => dq_same H i).symm
    · rw [Cert.AttnRefIdeal.Read.val_main_v67_eq, e0, e1, e2, e3]; exact (dk_same H).symm
    · rw [Cert.AttnRefIdeal.Read.val_main_v68_eq, e0, e1, e3]; exact (dv_same H).symm

end Cert.Attn.Claim

end
-- ==== Proof.Rms.lean ====
/- The RMS norm's backward call: what the kernel leaves in its two results, what the reference computes, and that they agree. -/
module

public import proofs.«01_k».proof.Proof.Gen.RmsIdeal.Value
public import proofs.«01_k».proof.Proof.Gen.RmsRefIdeal.Read
public import proofs.«01_k».proof.Defs
public import proofs.«01_k».proof.Proof.Shapes
public import Idealize.ShloMosaic.Lib.Pointwise
public import Idealize.ShloMosaic.Lib.StableHlo.ReadAt

@[expose] public section

set_option maxRecDepth 16384

noncomputable section

namespace Cert.RmsIdeal.Val

open Cert.RmsIdeal Cert.RmsIdeal.Gen Cert.Shapes
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-! ## What one point leaves -/

section

variable (c : Dev nD) (i : grid0.Coords) (a1 : Memref sig .tc .vmem S512x2048 .f32) (a2 : Memref sig .tc .vmem S1x2048 .f32)
  (a3 a4 a5 : Memref sig .tc .vmem S512x2048 .f32) (a6 : Memref sig .tc .vmem S1x2048 .f32) (h1 : a1.IsWhole) (h2 : a2.IsWhole) (h3 : a3.IsWhole) (h4 : a4.IsWhole)
  (h5 : a5.IsWhole) (h6 : a6.IsWhole) (x0 : Vec Ideal S512x2048 .f32) (x1 : Vec Ideal S1x2048 .f32) (x2 x3 : Vec Ideal S512x2048 .f32)

theorem out_A_4 (hc0 : cond0_0 i) :
    out0_A_4 c i a1 h1 a2 h2 a3 h3 a4 h4 a5 h5 a6 h6 hc0 x0 x1 x2 x3 = k0_pay6 x0 x1 x2 x3 := by
  unfold out0_A_4
  rw [View.read_writes_eq_canon]
  on_goal 2 => exact fun _ => cover0_A_4 ..
  unfold kernelRun0_A
  dsimp only
  rw [View.canon_unit_zero hz2]
  simp only [View.readAt_eq_ld, Memref.IsWhole.read_unread, View.ld_unit_zero (S := ⟨2, _⟩) hz2]

theorem out_B_4 (hc0 : ¬cond0_0 i) (xo : Vec Ideal S1x2048 .f32) :
    out0_B_4 c i a1 h1 a2 h2 a3 h3 a4 h4 a5 h5 a6 h6 hc0 x0 x1 x2 x3 xo = k0_pay6 x0 x1 x2 x3 := by
  unfold out0_B_4
  rw [View.read_writes_eq_canon]
  on_goal 2 => exact fun _ => cover0_B_4 ..
  unfold kernelRun0_B
  dsimp only
  rw [View.canon_unit_zero hz2]
  simp only [View.readAt_eq_ld, Memref.IsWhole.read_unread, View.ld_unit_zero (S := ⟨2, _⟩) hz2]

theorem out_A_5 (hc0 : cond0_0 i) :
    out0_A_5 c i a1 h1 a2 h2 a3 h3 a4 h4 a5 h5 a6 h6 hc0 x0 x1 x2 x3 = k0_pay2 (k0_pay5 x0 x2) (k0_pay1 (F := Ideal)) := by
  unfold out0_A_5
  rw [View.read_writes_eq_canon]
  on_goal 2 => exact fun _ => cover0_A_5 ..
  unfold kernelRun0_A
  dsimp only
  sl_unfold_words
  rw [View.canon_cons_unit_zero (S := S1x2048) hz2, View.readCov_unit_zero (S := S1x2048) _ hz2]
  simp only [View.readAt_eq_ld, Memref.IsWhole.read_unread, View.ld_unit_zero (S := S512x2048) hz2]

theorem out_B_5 (hc0 : ¬cond0_0 i) (xo : Vec Ideal S1x2048 .f32) :
    out0_B_5 c i a1 h1 a2 h2 a3 h3 a4 h4 a5 h5 a6 h6 hc0 x0 x1 x2 x3 xo = k0_pay2 (k0_pay5 x0 x2) xo := by
  unfold out0_B_5
  rw [View.read_writes_eq_canon]
  on_goal 2 => exact fun _ => cover0_B_5 ..
  unfold kernelRun0_B
  dsimp only
  sl_unfold_words
  rw [View.canon_unit_zero hz2]
  simp only [View.readAt_eq_ld, Memref.IsWhole.read_unread, View.ld_unit_zero (S := ⟨2, _⟩) hz2]

end

/-! ## The norm's backward pass, a row at a time -/

/-- The mean square of a row with the constant added, -/
def ms (x : Fin 2048 → EReal) : EReal := Ideal.div (∑ k, x k * x k) (Ideal.ofBits .f32 0x45000000#32) + Ideal.ofBits .f32 0x358637BD#32

/-- its inverse root, -/
def rs (x : Fin 2048 → EReal) : EReal := Ideal.rsqrt (ms x)

/-- and the part of the gradient that reaches a row through them. -/
def sh (x g y : Fin 2048 → EReal) : EReal :=
  Ideal.div ((∑ k, x k * (y k * g k)) * (Ideal.ofBits .f32 0xBF000000#32 * Ideal.div (rs x) (ms x))) (Ideal.ofBits .f32 0x45000000#32)

/-- A row of the gradient of the input. -/
def dx (x g y d : Fin 2048 → EReal) (k : Fin 2048) : EReal := d k + ((y k * g k * rs x + x k * sh x g y) + sh x g y * x k)

theorem pay3_apply (x : Vec Ideal S512x2048 .f32) (r : Fin 512) (z : Fin 1) : k0_pay3 x (ix2 r z) = ms (fun k => x (ix2 r k)) := by
  unfold ms
  pointwise [k0_pay3]

theorem pay4_apply (x : Vec Ideal S512x2048 .f32) (r : Fin 512) (z : Fin 1) : k0_pay4 x (ix2 r z) = rs (fun k => x (ix2 r k)) := by
  unfold rs
  rw [← pay3_apply x r z]
  pointwise [k0_pay4]

theorem pay5_apply (x y : Vec Ideal S512x2048 .f32) (z : Fin 1) (k : Fin 2048) :
    k0_pay5 x y (ix2 z k) = ∑ r : Fin 512, x (ix2 r k) * rs (fun k => x (ix2 r k)) * y (ix2 r k) := by
  simp only [← pay4_apply x _ 0]
  pointwise [k0_pay5]

theorem pay6_apply (x : Vec Ideal S512x2048 .f32) (g : Vec Ideal S1x2048 .f32) (y d : Vec Ideal S512x2048 .f32) (r : Fin 512) (k : Fin 2048) :
    k0_pay6 x g y d (ix2 r k) = dx (fun k => x (ix2 r k)) (fun k => g (ix2 0 k)) (fun k => y (ix2 r k)) (fun k => d (ix2 r k)) k := by
  unfold dx sh
  rw [← pay4_apply x r 0, ← pay3_apply x r 0]
  pointwise [k0_pay6, Fin.sum_univ_one]

/-! ## The blocks the windows read -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)

/-- Row `r` of point `t`'s block, in the whole array. -/
def row (t : Fin cfg0.N) (r : Fin 512) : Fin 4096 :=
  ⟨t.val * 512 + r.val, by have := lt_of_lt_of_eq t.isLt (show cfg0.N = 8 from N_0); omega⟩

abbrev X (c : Dev nD) : S4096x2048.Idx → EReal := m ((c : Thread nD τ).loc main_arg0)
def G (c : Dev nD) : S2048.Idx → EReal := m (c, Proc.devRef .tc main_arg1)
abbrev Y (c : Dev nD) : S4096x2048.Idx → EReal := m ((c : Thread nD τ).loc main_arg2)
abbrev D (c : Dev nD) : S4096x2048.Idx → EReal := m ((c : Thread nD τ).loc main_arg3)
def Ga (c : Dev nD) : S1x2048.Idx → EReal := V m c main_v0

theorem Ga_apply (c : Dev nD) (z : Fin 1) (k : Fin 2048) : Ga m c (ix2 z k) = G m c (ix1 k) := by
  unfold Ga G V hostOps0
  after_reads_at

theorem iblk0 (c : Dev nD) (t : Fin cfg0.N) (r : Fin 512) (k : Fin 2048) : iblk m c 0 t (ix2 r k) = X m c (ix2 (row t r) k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = t.val * 512 + r.val; rw [(idx0 t).1]; omega
  | ⟨1, _⟩ => show win0_0.index t 1 * 2048 + 1 * k.val = k.val; rw [(idx0 t).2]; omega

theorem iblk2 (c : Dev nD) (t : Fin cfg0.N) (r : Fin 512) (k : Fin 2048) : iblk m c 2 t (ix2 r k) = Y m c (ix2 (row t r) k) := by
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 512 + 1 * r.val = t.val * 512 + r.val; rw [(idx2 t).1]; omega
  | ⟨1, _⟩ => show win0_2.index t 1 * 2048 + 1 * k.val = k.val; rw [(idx2 t).2]; omega

theorem iblk3 (c : Dev nD) (t : Fin cfg0.N) (r : Fin 512) (k : Fin 2048) : iblk m c 3 t (ix2 r k) = D m c (ix2 (row t r) k) := by
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 512 + 1 * r.val = t.val * 512 + r.val; rw [(idx3 t).1]; omega
  | ⟨1, _⟩ => show win0_3.index t 1 * 2048 + 1 * k.val = k.val; rw [(idx3 t).2]; omega

theorem iblk1 (c : Dev nD) (t : Fin cfg0.N) (k : Fin 2048) : iblk m c 1 t (ix2 0 k) = G m c (ix1 k) := by
  rw [← Ga_apply m c 0 k]
  unfold iblk Ga
  rw [View.read_apply]
  show V m c main_v0 _ = _
  refine congrArg (V m c main_v0) (funext fun a => Fin.ext ?_)
  match a with
  | ⟨0, _⟩ => show win0_1.index t 0 * 1 + 1 * 0 = 0; rw [(idx1 t).1]
  | ⟨1, _⟩ => show win0_1.index t 1 * 2048 + 1 * k.val = k.val; rw [(idx1 t).2]; omega

/-! ## The results -/

/-- The gradient of the input, -/
def gradX (x : S4096x2048.Idx → EReal) (g : S2048.Idx → EReal) (y d : S4096x2048.Idx → EReal) : S4096x2048.Idx → EReal := fun i =>
  dx (fun k => x (ix2 (i 0) k)) (fun k => g (ix1 k)) (fun k => y (ix2 (i 0) k)) (fun k => d (ix2 (i 0) k)) (i 1)

/-- what a row adds to the gradient of the gain, -/
def rowG (x y : S4096x2048.Idx → EReal) (k : Fin 2048) (i : Fin 4096) : EReal := x (ix2 i k) * rs (fun k => x (ix2 i k)) * y (ix2 i k)

/-- and the gradient of the gain. -/
def gradG (x y : S4096x2048.Idx → EReal) : S1x2048.Idx → EReal := fun j => ∑ i : Fin 4096, rowG x y (j 1) i

theorem outs_1 (c : Dev nD) (t : Fin cfg0.N) :
    (outsAt0 m c t.val t.isLt).1 = k0_pay6 (iblk m c 0 t) (iblk m c 1 t) (iblk m c 2 t) (iblk m c 3 t) := by
  by_cases h0 : t.val % 8 = 0
  · rw [outsAt0_A m c t h0]; dsimp only; rw [out_A_4]
  · rw [outsAt0_B m c t h0]; dsimp only; rw [out_B_4]

theorem out_x (c : Dev nD) : (dats m 0 c).arrAt 4 cfg0.N = gradX (X m c) (G m c) (Y m c) (D m c) := by
  have hN : cfg0.N = 8 := N_0
  refine (dats m 0 c).arrAt_eq_of_cover 4 (gradX (X m c) (G m c) (Y m c) (D m c)) (fun t _ => ?_) fun i => ?_
  · show (cfg0.win 4).cut (grid0.coords t) ((dats m 0 c).after 4 t) = _
    rw [after0_4, outs_1]
    funext j
    obtain ⟨r, k, rfl⟩ : ∃ (r : Fin 512) (k : Fin 2048), j = ix2 r k := ⟨_, _, eq_ix2 j⟩
    rw [View.read_apply]
    have e : ((((cfg0.win 4).blk t).view.emb (ix2 r k)) : S4096x2048.Idx) = ix2 (row t r) k := funext fun a => Fin.ext (by
      match a with
      | ⟨0, _⟩ => show win0_4.index t 0 * 512 + 1 * r.val = t.val * 512 + r.val; rw [(idx4 t).1]; omega
      | ⟨1, _⟩ => show win0_4.index t 1 * 2048 + 1 * k.val = k.val; rw [(idx4 t).2]; omega)
    refine Eq.trans ?_ (congrArg (gradX (X m c) (G m c) (Y m c) (D m c)) e.symm)
    refine (pay6_apply (iblk m c 0 t) (iblk m c 1 t) (iblk m c 2 t) (iblk m c 3 t) r k).trans ?_
    simp only [iblk0, iblk1, iblk2, iblk3]
    rfl
  · have h0 : (i 0 : Nat) < 4096 := (i 0).isLt
    have h1 : (i 1 : Nat) < 2048 := (i 1).isLt
    have ht : (i 0 : Nat) / 512 < cfg0.N := by omega
    refine ⟨⟨(i 0 : Nat) / 512, ht⟩, flush0_4 _, ?_⟩
    show i ∈ ((View.whole main_v1_0).slice (win0_4.rect ⟨(i 0 : Nat) / 512, ht⟩)).set
    rw [View.set_slice_whole, Rect.mem_set_unit]
    intro a
    match a with
    | ⟨0, _⟩ =>
      show win0_4.index ⟨(i 0 : Nat) / 512, ht⟩ 0 * 512 ≤ (i 0 : Nat) ∧ (i 0 : Nat) < win0_4.index ⟨(i 0 : Nat) / 512, ht⟩ 0 * 512 + 512
      rw [(idx4 _).1]; dsimp only; omega
    | ⟨1, _⟩ =>
      show win0_4.index ⟨(i 0 : Nat) / 512, ht⟩ 1 * 2048 ≤ (i 1 : Nat) ∧ (i 1 : Nat) < win0_4.index ⟨(i 0 : Nat) / 512, ht⟩ 1 * 2048 + 2048
      rw [(idx4 _).2]; omega

/-- What point `t` adds to the gradient of the gain. -/
def part (c : Dev nD) (k : Fin 2048) (t : Fin cfg0.N) : EReal := ∑ r : Fin 512, rowG (X m c) (Y m c) k (row t r)

theorem outs_2 (c : Dev nD) (z : Fin 1) (k : Fin 2048) (n : ℕ) (h : n < cfg0.N) :
    (outsAt0 m c n h).2 (ix2 z k) = ∑ t : Fin (n + 1), part m c k ⟨t.val, lt_of_lt_of_le t.isLt h⟩ := by
  have key : ∀ (t : Fin cfg0.N) (xo : Vec Ideal S1x2048 .f32), k0_pay2 (k0_pay5 (iblk m c 0 t) (iblk m c 2 t)) xo (ix2 z k) = xo (ix2 z k) + part m c k t := by
    intro t xo
    have e : k0_pay2 (k0_pay5 (iblk m c 0 t) (iblk m c 2 t)) xo (ix2 z k) = xo (ix2 z k) + k0_pay5 (iblk m c 0 t) (iblk m c 2 t) (ix2 z k) := by
      pointwise [k0_pay2]
    rw [e, pay5_apply]
    simp only [iblk0, iblk2]
    rfl
  have hN : cfg0.N = 8 := N_0
  refine running (part m c k) (fun n h => (outsAt0 m c n h).2 (ix2 z k)) (fun h => ?_) (fun n h => ?_) n h
  · rw [outsAt0_A m c ⟨0, h⟩ rfl]
    dsimp only
    rw [out_A_5, key]
    show Ideal.ofBits .f32 0x00000000#32 + _ = _
    rw [Ideal.ofBits_zero_f32, zero_add]
  · rw [outsAt0_B m c ⟨n + 1, h⟩ (by dsimp only; omega)]
    dsimp only
    rw [out_B_5, key]
    rfl

theorem out_g (c : Dev nD) : (dats m 0 c).arrAt 5 cfg0.N = gradG (X m c) (Y m c) := by
  have hN : cfg0.N = 8 := N_0
  refine (dats m 0 c).arrAt_eq_of_cover 5 (gradG (X m c) (Y m c)) (fun t hf => ?_) fun i => ?_
  · have h7 : t.val = 7 := by have := (flush0_5 t).mp hf; have := t.isLt; omega
    obtain rfl : t = t0_7 := Fin.ext h7
    show (cfg0.win 5).cut (grid0.coords t0_7) ((dats m 0 c).after 5 t0_7) = _
    rw [after0_5]
    have hz' : (fun a => win0_5.index t0_7 a * main_v1_1.ty.shape.size a) = fun _ => 0 := funext fun a => by fin_cases a <;> decide
    refine Eq.trans ?_ (Memref.read_access_unit_zero (Elt Ideal) main_v1_1 hz' (fun a => by rw [congrFun hz' a]; simp) (gradG (X m c) (Y m c))).symm
    funext j
    obtain ⟨z, k, rfl⟩ : ∃ (z : Fin 1) (k : Fin 2048), j = ix2 z k := ⟨_, _, eq_ix2 j⟩
    refine (outs_2 m c z k _ t0_7.isLt).trans ?_
    show _ = ∑ i : Fin 4096, rowG (X m c) (Y m c) k i
    unfold part
    rw [sum_blocks 8 512 rfl]
    rfl
  · refine ⟨t0_7, (flush0_5 t0_7).mpr rfl, ?_⟩
    show i ∈ ((View.whole main_v1_1).slice (win0_5.rect t0_7)).set
    rw [View.set_slice_whole, Rect.mem_set_unit]
    intro a
    have h0 : (i 0 : Nat) < 1 := (i 0).isLt
    have h1 : (i 1 : Nat) < 2048 := (i 1).isLt
    match a with
    | ⟨0, _⟩ =>
      show win0_5.index t0_7 0 * 1 ≤ (i 0 : Nat) ∧ (i 0 : Nat) < win0_5.index t0_7 0 * 1 + 1
      rw [show win0_5.index t0_7 0 = 0 from by decide +kernel]; omega
    | ⟨1, _⟩ =>
      show win0_5.index t0_7 1 * 2048 ≤ (i 1 : Nat) ∧ (i 1 : Nat) < win0_5.index t0_7 1 * 2048 + 2048
      rw [show win0_5.index t0_7 1 = 0 from by decide +kernel]; omega

end Cert.RmsIdeal.Val

/-! ## The reference -/

namespace Cert.RmsRefIdeal.Val

open Cert.RmsRefIdeal Cert.RmsRefIdeal.Gen Cert.RmsRefIdeal.Read Cert.Shapes
open Cert.RmsIdeal.Val (ms rs sh dx gradX gradG rowG)
open Idealize.ShloMosaic

variable (x : FVec Ideal S4096x2048 .f32) (g : FVec Ideal S2048 .f32) (y d : FVec Ideal S4096x2048 .f32)

theorem ref_ms (i : Fin 4096) (z : Fin 1) : val_main_v6 (F := Ideal) x (ix2 i z) = ms (fun k => x (ix2 i k)) := by
  unfold ms
  pointwise [val_main_v6, val_main_v5, val_main_cst_1, val_main_v4, val_main_v3, val_main_cst_0, val_main_v2, val_main_v1, val_main_cst, val_main_v0]

theorem ref_rs (i : Fin 4096) (z : Fin 1) : val_main_v7 (F := Ideal) x (ix2 i z) = rs (fun k => x (ix2 i k)) := by
  unfold rs
  rw [← ref_ms x i z]
  pointwise [val_main_v7]

theorem ref_x : val_main_v36 (F := Ideal) x g y d = gradX x g y d := by
  funext j
  obtain ⟨i, k, rfl⟩ : ∃ (i : Fin 4096) (k : Fin 2048), j = ix2 i k := ⟨_, _, eq_ix2 j⟩
  show _ = dx (fun k => x (ix2 i k)) (fun k => g (ix1 k)) (fun k => y (ix2 i k)) (fun k => d (ix2 i k)) k
  unfold dx sh
  rw [← ref_rs x i 0, ← ref_ms x i 0, ← add_assoc, ← add_assoc]
  pointwise [val_main_v36, val_main_v35, val_main_v34, val_main_v33, val_main_v32, val_main_v31, val_main_cst_7, val_main_v30, val_main_v29, val_main_cst_6,
    val_main_v28, val_main_v27, val_main_v26, val_main_v25, val_main_v24, val_main_v23, val_main_cst_5, val_main_v22, val_main_v20, val_main_v19,
    val_main_v13, val_main_v10, val_main_v9, val_main_cst_2, val_main_v8, Fin.sum_univ_one]

theorem ref_g : val_main_v37 (F := Ideal) x y = gradG x y := by
  funext j
  obtain ⟨z, k, rfl⟩ : ∃ (z : Fin 1) (k : Fin 2048), j = ix2 z k := ⟨_, _, eq_ix2 j⟩
  show _ = ∑ i : Fin 4096, rowG x y k i
  unfold rowG
  simp only [← ref_rs x _ 0]
  pointwise [val_main_v37, val_main_v21, val_main_cst_4, val_main_v18, val_main_v17, val_main_cst_3, val_main_v16, val_main_v12, val_main_v11, Fin.sum_univ_one]

end Cert.RmsRefIdeal.Val

/-! ## The claim -/

namespace Cert.Rms.Claim

open Idealize.ShloMosaic Idealize.ShloMosaic.TcCoe Idealize.SL.Sem
open Cert.RmsIdeal.Val (X G Y D gradX gradG)

theorem frame_ref : Cert.quiescent_RmsRefIdeal (hRmsRefIdeal := Cert.RmsRefIdeal.Gen.facts) := fun m g _ =>
  (θ_run _ _ _).mono (fun r h => ⟨fun c => (h c).2.2, sem_eq_zero_of_no_sems (by decide) r.2⟩)
    (Cert.RmsRefIdeal.Value.run (F := Ideal) m g)

theorem algebraic : Cert.algebraic_RmsIdeal_RmsRefIdeal (hRmsIdeal := Cert.RmsIdeal.Gen.facts) (hRmsRefIdeal := Cert.RmsRefIdeal.Gen.facts) := by
  intro m g m' g' _ hargs
  refine ⟨fun c => gradX (X m c) (G m c) (Y m c) (D m c), fun c => gradG (X m c) (Y m c), ?_, ?_⟩
  · refine (θ_run _ _ _).mono (fun r h c => ?_) (Cert.RmsIdeal.Value.run_blocks (F := Ideal) m g)
    obtain ⟨h0, h1, h2⟩ := h c
    exact ⟨h0.trans (Cert.RmsIdeal.Val.out_x m c), h1.trans (Cert.RmsIdeal.Val.out_g m c), h2⟩
  · refine (θ_run _ _ _).mono (fun r h c => ?_) (Cert.RmsRefIdeal.Value.run (F := Ideal) m' g')
    obtain ⟨h0, h1, h2⟩ := h c
    obtain ⟨e0, e1, e2, e3⟩ := hargs c
    refine ⟨h0.trans ?_, h1.trans ?_, h2⟩
    · rw [Cert.RmsRefIdeal.Read.val_main_v36_eq, e0, e1, e2, e3]; exact Cert.RmsRefIdeal.Val.ref_x _ _ _ _
    · rw [Cert.RmsRefIdeal.Read.val_main_v37_eq, e0, e2]; exact Cert.RmsRefIdeal.Val.ref_g _ _

end Cert.Rms.Claim

end
-- ==== Proof.Ple.lean ====
/- The backward call of the per-layer embedding's gate: what the kernel leaves in its three results, what the reference computes, and that they agree. -/
module

public import proofs.«01_k».proof.Proof.Gen.PleIdeal.Value
public import proofs.«01_k».proof.Proof.Gen.PleRefIdeal.Read
public import proofs.«01_k».proof.Defs
public import proofs.«01_k».proof.Proof.Shapes
public import proofs.«01_k».proof.Proof.Rms
public import Idealize.ShloMosaic.Lib.Pointwise
public import Idealize.ShloMosaic.Lib.StableHlo.ReadAt

@[expose] public section

set_option maxRecDepth 16384

noncomputable section

namespace Cert.PleIdeal.Val

open Cert.PleIdeal Cert.PleIdeal.Gen Cert.Shapes
open Cert.RmsIdeal.Val (ms rs sh)
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-! ## What one point leaves -/

section

variable (c : Dev nD) (i : grid0.Coords) (a1 a2 : Memref sig .tc .vmem S256x2048 .f32) (a3 : Memref sig .tc .vmem S1x2048 .f32) (a4 : Memref sig .tc .vmem S256x2048 .f32)
  (a5 a6 : Memref sig .tc .vmem S256x2048 .bf16) (a7 : Memref sig .tc .vmem S1x2048 .f32) (h1 : a1.IsWhole) (h2 : a2.IsWhole) (h3 : a3.IsWhole) (h4 : a4.IsWhole)
  (h5 : a5.IsWhole) (h6 : a6.IsWhole) (h7 : a7.IsWhole) (x0 x1 : Vec Ideal S256x2048 .f32) (x2 : Vec Ideal S1x2048 .f32) (x3 : Vec Ideal S256x2048 .f32)

theorem out_A_4 (hc0 : cond0_0 i) :
    out0_A_4 c i a1 h1 a2 h2 a3 h3 a4 h4 a5 h5 a6 h6 a7 h7 hc0 x0 x1 x2 x3 = k0_pay1 (k0_pay7 x0) (k0_pay12 x1 x2 x3) := by
  unfold out0_A_4
  rw [View.read_writes_eq_canon]
  on_goal 2 => exact fun _ => cover0_A_4 ..
  unfold kernelRun0_A
  dsimp only
  sl_unfold_words
  rw [View.canon_unit_zero hz2]
  simp only [View.readAt_eq_ld, Memref.IsWhole.read_unread, View.ld_unit_zero (S := ⟨2, _⟩) hz2]

theorem out_A_5 (hc0 : cond0_0 i) :
    out0_A_5 c i a1 h1 a2 h2 a3 h3 a4 h4 a5 h5 a6 h6 a7 h7 hc0 x0 x1 x2 x3 = k0_pay2 x1 (k0_pay15 x0 x1 x2 x3) (k0_pay16 x0 x1 x2 x3) := by
  unfold out0_A_5
  rw [View.read_writes_eq_canon]
  on_goal 2 => exact fun _ => cover0_A_5 ..
  unfold kernelRun0_A
  dsimp only
  sl_unfold_words
  rw [View.canon_unit_zero hz2]
  simp only [View.readAt_eq_ld, Memref.IsWhole.read_unread, View.ld_unit_zero (S := ⟨2, _⟩) hz2]

theorem out_B_4 (hc0 : ¬cond0_0 i) (xo : Vec Ideal S1x2048 .f32) :
    out0_B_4 c i a1 h1 a2 h2 a3 h3 a4 h4 a5 h5 a6 h6 a7 h7 hc0 x0 x1 x2 x3 xo = k0_pay1 (k0_pay7 x0) (k0_pay12 x1 x2 x3) := by
  unfold out0_B_4
  rw [View.read_writes_eq_canon]
  on_goal 2 => exact fun _ => cover0_B_4 ..
  unfold kernelRun0_B
  dsimp only
  sl_unfold_words
  rw [View.canon_unit_zero hz2]
  simp only [View.readAt_eq_ld, Memref.IsWhole.read_unread, View.ld_unit_zero (S := ⟨2, _⟩) hz2]

theorem out_B_5 (hc0 : ¬cond0_0 i) (xo : Vec Ideal S1x2048 .f32) :
    out0_B_5 c i a1 h1 a2 h2 a3 h3 a4 h4 a5 h5 a6 h6 a7 h7 hc0 x0 x1 x2 x3 xo = k0_pay2 x1 (k0_pay15 x0 x1 x2 x3) (k0_pay16 x0 x1 x2 x3) := by
  unfold out0_B_5
  rw [View.read_writes_eq_canon]
  on_goal 2 => exact fun _ => cover0_B_5 ..
  unfold kernelRun0_B
  dsimp only
  sl_unfold_words
  rw [View.canon_unit_zero hz2]
  simp only [View.readAt_eq_ld, Memref.IsWhole.read_unread, View.ld_unit_zero (S := ⟨2, _⟩) hz2]

theorem out_A_6 (hc0 : cond0_0 i) :
    out0_A_6 c i a1 h1 a2 h2 a3 h3 a4 h4 a5 h5 a6 h6 a7 h7 hc0 x0 x1 x2 x3 = k0_pay4 (k0_pay13 x0 x1 x3) (k0_pay3 (F := Ideal)) := by
  unfold out0_A_6
  rw [View.read_writes_eq_canon]
  on_goal 2 => exact fun _ => cover0_A_6 ..
  unfold kernelRun0_A
  dsimp only
  sl_unfold_words
  rw [View.canon_cons_unit_zero (S := S1x2048) hz2, View.readCov_unit_zero (S := S1x2048) _ hz2]
  simp only [View.readAt_eq_ld, Memref.IsWhole.read_unread, View.ld_unit_zero (S := S256x2048) hz2]

theorem out_B_6 (hc0 : ¬cond0_0 i) (xo : Vec Ideal S1x2048 .f32) :
    out0_B_6 c i a1 h1 a2 h2 a3 h3 a4 h4 a5 h5 a6 h6 a7 h7 hc0 x0 x1 x2 x3 xo = k0_pay4 (k0_pay13 x0 x1 x3) xo := by
  unfold out0_B_6
  rw [View.read_writes_eq_canon]
  on_goal 2 => exact fun _ => cover0_B_6 ..
  unfold kernelRun0_B
  dsimp only
  sl_unfold_words
  rw [View.canon_unit_zero hz2]
  simp only [View.readAt_eq_ld, Memref.IsWhole.read_unread, View.ld_unit_zero (S := ⟨2, _⟩) hz2]

end

/-! ## The gate's backward pass, a row at a time -/

/-- The logistic function's slope, -/
def sigSlope (a : EReal) : EReal := Ideal.logistic a * (Ideal.ofBits .f32 0x3F800000#32 - Ideal.logistic a)

/-- a row of the gradient of the gate, -/
def dgl (a x g d : Fin 2048 → EReal) (k : Fin 2048) : EReal := d k * (x k * rs x * g k) * sigSlope (a k)

/-- the gradient that reaches the norm, -/
def up (a d : Fin 2048 → EReal) (k : Fin 2048) : EReal := Ideal.logistic (a k) * d k

/-- and a row of the gradient of the embedding. -/
def dpe (a x g d : Fin 2048 → EReal) (k : Fin 2048) : EReal := up a d k * g k * rs x + x k * sh x g (up a d) + sh x g (up a d) * x k

variable (a x d : Vec Ideal S256x2048 .f32) (g : Vec Ideal S1x2048 .f32)

theorem pay7_apply (r : Fin 256) (k : Fin 2048) : k0_pay7 a (ix2 r k) = sigSlope (a (ix2 r k)) := by
  unfold sigSlope
  pointwise [k0_pay7, k0_pay6]

theorem pay8_apply (r : Fin 256) (z : Fin 1) : k0_pay8 x (ix2 r z) = ms (fun k => x (ix2 r k)) := by
  unfold ms
  pointwise [k0_pay8]

theorem pay9_apply (r : Fin 256) (z : Fin 1) : k0_pay9 x (ix2 r z) = rs (fun k => x (ix2 r k)) := by
  unfold rs
  rw [← pay8_apply x r z]
  pointwise [k0_pay9]

theorem pay1_apply (r : Fin 256) (k : Fin 2048) :
    k0_pay1 (k0_pay7 a) (k0_pay12 x g d) (ix2 r k) = dgl (fun k => a (ix2 r k)) (fun k => x (ix2 r k)) (fun k => g (ix2 0 k)) (fun k => d (ix2 r k)) k := by
  unfold dgl
  rw [← pay9_apply x r 0, ← pay7_apply a r k]
  pointwise [k0_pay1, k0_pay12, k0_pay10, k0_pay5]

theorem pay16_apply (r : Fin 256) (k : Fin 2048) :
    k0_pay16 a x g d (ix2 r k) = sh (fun k => x (ix2 r k)) (fun k => g (ix2 0 k)) (up (fun k => a (ix2 r k)) (fun k => d (ix2 r k))) := by
  unfold sh up
  rw [← pay9_apply x r 0, ← pay8_apply x r 0]
  pointwise [k0_pay16, k0_pay14, k0_pay11, k0_pay6, k0_pay5, Fin.sum_univ_one]

theorem pay2_apply (r : Fin 256) (k : Fin 2048) :
    k0_pay2 x (k0_pay15 a x g d) (k0_pay16 a x g d) (ix2 r k) = dpe (fun k => a (ix2 r k)) (fun k => x (ix2 r k)) (fun k => g (ix2 0 k)) (fun k => d (ix2 r k)) k := by
  unfold dpe
  rw [← pay16_apply a x d g r k, ← pay9_apply x r 0]
  unfold up
  pointwise [k0_pay2, k0_pay15, k0_pay14, k0_pay11, k0_pay6, k0_pay5]

theorem pay13_apply (z : Fin 1) (k : Fin 2048) :
    k0_pay13 a x d (ix2 z k) = ∑ r : Fin 256, x (ix2 r k) * rs (fun k => x (ix2 r k)) * (Ideal.logistic (a (ix2 r k)) * d (ix2 r k)) := by
  simp only [← pay9_apply x _ 0]
  pointwise [k0_pay13, k0_pay10, k0_pay11, k0_pay6]

/-! ## The blocks the windows read -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

/-- Row `r` of point `t`'s block, in the whole array. -/
def row (t : Fin cfg0.N) (r : Fin 256) : Fin 4096 :=
  ⟨t.val * 256 + r.val, by have := lt_of_lt_of_eq t.isLt (show cfg0.N = 16 from N_0); omega⟩

abbrev A (c : Dev nD) : S4096x2048.Idx → EReal := m ((c : Thread nD τ).loc main_arg0)
abbrev X (c : Dev nD) : S4096x2048.Idx → EReal := m ((c : Thread nD τ).loc main_arg1)
def G (c : Dev nD) : S2048.Idx → EReal := m (c, Proc.devRef .tc main_arg2)
abbrev D (c : Dev nD) : S4096x2048.Idx → EReal := m ((c : Thread nD τ).loc main_arg3)
def Ga (c : Dev nD) : S1x2048.Idx → EReal := V m c main_v0

theorem Ga_apply (c : Dev nD) (z : Fin 1) (k : Fin 2048) : Ga m c (ix2 z k) = G m c (ix1 k) := by
  unfold Ga G V hostOps0
  after_reads_at

theorem iblk0 (c : Dev nD) (t : Fin cfg0.N) (r : Fin 256) (k : Fin 2048) : iblk m c 0 t (ix2 r k) = A m c (ix2 (row t r) k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = t.val * 256 + r.val; rw [(idx0 t).1]; omega
  | ⟨1, _⟩ => show win0_0.index t 1 * 2048 + 1 * k.val = k.val; rw [(idx0 t).2]; omega

theorem iblk1 (c : Dev nD) (t : Fin cfg0.N) (r : Fin 256) (k : Fin 2048) : iblk m c 1 t (ix2 r k) = X m c (ix2 (row t r) k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 256 + 1 * r.val = t.val * 256 + r.val; rw [(idx1 t).1]; omega
  | ⟨1, _⟩ => show win0_1.index t 1 * 2048 + 1 * k.val = k.val; rw [(idx1 t).2]; omega

theorem iblk3 (c : Dev nD) (t : Fin cfg0.N) (r : Fin 256) (k : Fin 2048) : iblk m c 3 t (ix2 r k) = D m c (ix2 (row t r) k) := by
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 256 + 1 * r.val = t.val * 256 + r.val; rw [(idx3 t).1]; omega
  | ⟨1, _⟩ => show win0_3.index t 1 * 2048 + 1 * k.val = k.val; rw [(idx3 t).2]; omega

theorem iblk2 (c : Dev nD) (t : Fin cfg0.N) (r : Fin 1) (k : Fin 2048) : iblk m c 2 t (ix2 r k) = Ga m c (ix2 r k) := by
  unfold iblk Ga
  rw [View.read_apply]
  show V m c main_v0 _ = _
  refine congrArg (V m c main_v0) (funext fun a => Fin.ext ?_)
  match a with
  | ⟨0, _⟩ => show win0_2.index t 0 * 1 + 1 * r.val = r.val; rw [(idx2 t).1]; omega
  | ⟨1, _⟩ => show win0_2.index t 1 * 2048 + 1 * k.val = k.val; rw [(idx2 t).2]; omega

/-! ## The results -/

/-- The gradient of the gate, -/
def gradGl (a x : S4096x2048.Idx → EReal) (g : S2048.Idx → EReal) (d : S4096x2048.Idx → EReal) : S4096x2048.Idx → EReal := fun i =>
  dgl (fun k => a (ix2 (i 0) k)) (fun k => x (ix2 (i 0) k)) (fun k => g (ix1 k)) (fun k => d (ix2 (i 0) k)) (i 1)

/-- the gradient of the embedding, -/
def gradPe (a x : S4096x2048.Idx → EReal) (g : S2048.Idx → EReal) (d : S4096x2048.Idx → EReal) : S4096x2048.Idx → EReal := fun i =>
  dpe (fun k => a (ix2 (i 0) k)) (fun k => x (ix2 (i 0) k)) (fun k => g (ix1 k)) (fun k => d (ix2 (i 0) k)) (i 1)

/-- what a row adds to the gradient of the gain, -/
def rowG (a x d : S4096x2048.Idx → EReal) (k : Fin 2048) (i : Fin 4096) : EReal :=
  x (ix2 i k) * rs (fun k => x (ix2 i k)) * (Ideal.logistic (a (ix2 i k)) * d (ix2 i k))

/-- and the gradient of the gain. -/
def gradG (a x d : S4096x2048.Idx → EReal) : S1x2048.Idx → EReal := fun j => ∑ i : Fin 4096, rowG a x d (j 1) i

theorem outs_1 (c : Dev nD) (t : Fin cfg0.N) :
    (outsAt0 m c t.val t.isLt).1 = k0_pay1 (k0_pay7 (iblk m c 0 t)) (k0_pay12 (iblk m c 1 t) (iblk m c 2 t) (iblk m c 3 t)) := by
  by_cases h0 : t.val % 16 = 0
  · rw [outsAt0_A m c t h0]; dsimp only; rw [out_A_4]
  · rw [outsAt0_B m c t h0]; dsimp only; rw [out_B_4]

theorem outs_2 (c : Dev nD) (t : Fin cfg0.N) :
    (outsAt0 m c t.val t.isLt).2.1 = k0_pay2 (iblk m c 1 t) (k0_pay15 (iblk m c 0 t) (iblk m c 1 t) (iblk m c 2 t) (iblk m c 3 t)) (k0_pay16 (iblk m c 0 t) (iblk m c 1 t) (iblk m c 2 t) (iblk m c 3 t)) := by
  by_cases h0 : t.val % 16 = 0
  · rw [outsAt0_A m c t h0]; dsimp only; rw [out_A_5]
  · rw [outsAt0_B m c t h0]; dsimp only; rw [out_B_5]

theorem out_gl (c : Dev nD) : (dats m 0 c).arrAt 4 cfg0.N = gradGl (A m c) (X m c) (G m c) (D m c) := by
  have hN : cfg0.N = 16 := N_0
  refine (dats m 0 c).arrAt_eq_of_cover 4 (gradGl (A m c) (X m c) (G m c) (D m c)) (fun t _ => ?_) fun i => ?_
  · show (cfg0.win 4).cut (grid0.coords t) ((dats m 0 c).after 4 t) = _
    rw [after0_4, outs_1]
    funext j
    obtain ⟨r, k, rfl⟩ : ∃ (r : Fin 256) (k : Fin 2048), j = ix2 r k := ⟨_, _, eq_ix2 j⟩
    rw [View.read_apply]
    have e : ((((cfg0.win 4).blk t).view.emb (ix2 r k)) : S4096x2048.Idx) = ix2 (row t r) k := funext fun a => Fin.ext (by
      match a with
      | ⟨0, _⟩ => show win0_4.index t 0 * 256 + 1 * r.val = t.val * 256 + r.val; rw [(idx4 t).1]; omega
      | ⟨1, _⟩ => show win0_4.index t 1 * 2048 + 1 * k.val = k.val; rw [(idx4 t).2]; omega)
    refine Eq.trans ?_ (congrArg (gradGl (A m c) (X m c) (G m c) (D m c)) e.symm)
    refine (pay1_apply (iblk m c 0 t) (iblk m c 1 t) (iblk m c 3 t) (iblk m c 2 t) r k).trans ?_
    simp only [iblk0, iblk1, iblk2, iblk3, Ga_apply]
    rfl
  · have h0 : (i 0 : Nat) < 4096 := (i 0).isLt
    have h1 : (i 1 : Nat) < 2048 := (i 1).isLt
    have ht : (i 0 : Nat) / 256 < cfg0.N := by omega
    refine ⟨⟨(i 0 : Nat) / 256, ht⟩, flush0_4 _, ?_⟩
    show i ∈ ((View.whole main_v1_0).slice (win0_4.rect ⟨(i 0 : Nat) / 256, ht⟩)).set
    rw [View.set_slice_whole, Rect.mem_set_unit]
    intro a
    match a with
    | ⟨0, _⟩ =>
      show win0_4.index ⟨(i 0 : Nat) / 256, ht⟩ 0 * 256 ≤ (i 0 : Nat) ∧ (i 0 : Nat) < win0_4.index ⟨(i 0 : Nat) / 256, ht⟩ 0 * 256 + 256
      rw [(idx4 _).1]; dsimp only; omega
    | ⟨1, _⟩ =>
      show win0_4.index ⟨(i 0 : Nat) / 256, ht⟩ 1 * 2048 ≤ (i 1 : Nat) ∧ (i 1 : Nat) < win0_4.index ⟨(i 0 : Nat) / 256, ht⟩ 1 * 2048 + 2048
      rw [(idx4 _).2]; omega

theorem out_pe (c : Dev nD) : (dats m 0 c).arrAt 5 cfg0.N = gradPe (A m c) (X m c) (G m c) (D m c) := by
  have hN : cfg0.N = 16 := N_0
  refine (dats m 0 c).arrAt_eq_of_cover 5 (gradPe (A m c) (X m c) (G m c) (D m c)) (fun t _ => ?_) fun i => ?_
  · show (cfg0.win 5).cut (grid0.coords t) ((dats m 0 c).after 5 t) = _
    rw [after0_5, outs_2]
    funext j
    obtain ⟨r, k, rfl⟩ : ∃ (r : Fin 256) (k : Fin 2048), j = ix2 r k := ⟨_, _, eq_ix2 j⟩
    rw [View.read_apply]
    have e : ((((cfg0.win 5).blk t).view.emb (ix2 r k)) : S4096x2048.Idx) = ix2 (row t r) k := funext fun a => Fin.ext (by
      match a with
      | ⟨0, _⟩ => show win0_5.index t 0 * 256 + 1 * r.val = t.val * 256 + r.val; rw [(idx5 t).1]; omega
      | ⟨1, _⟩ => show win0_5.index t 1 * 2048 + 1 * k.val = k.val; rw [(idx5 t).2]; omega)
    refine Eq.trans ?_ (congrArg (gradPe (A m c) (X m c) (G m c) (D m c)) e.symm)
    refine (pay2_apply (iblk m c 0 t) (iblk m c 1 t) (iblk m c 3 t) (iblk m c 2 t) r k).trans ?_
    simp only [iblk0, iblk1, iblk2, iblk3, Ga_apply]
    rfl
  · have h0 : (i 0 : Nat) < 4096 := (i 0).isLt
    have h1 : (i 1 : Nat) < 2048 := (i 1).isLt
    have ht : (i 0 : Nat) / 256 < cfg0.N := by omega
    refine ⟨⟨(i 0 : Nat) / 256, ht⟩, flush0_5 _, ?_⟩
    show i ∈ ((View.whole main_v1_1).slice (win0_5.rect ⟨(i 0 : Nat) / 256, ht⟩)).set
    rw [View.set_slice_whole, Rect.mem_set_unit]
    intro a
    match a with
    | ⟨0, _⟩ =>
      show win0_5.index ⟨(i 0 : Nat) / 256, ht⟩ 0 * 256 ≤ (i 0 : Nat) ∧ (i 0 : Nat) < win0_5.index ⟨(i 0 : Nat) / 256, ht⟩ 0 * 256 + 256
      rw [(idx5 _).1]; dsimp only; omega
    | ⟨1, _⟩ =>
      show win0_5.index ⟨(i 0 : Nat) / 256, ht⟩ 1 * 2048 ≤ (i 1 : Nat) ∧ (i 1 : Nat) < win0_5.index ⟨(i 0 : Nat) / 256, ht⟩ 1 * 2048 + 2048
      rw [(idx5 _).2]; omega

/-- What point `t` adds to the gradient of the gain. -/
def part (c : Dev nD) (_ : Fin 1) (k : Fin 2048) (t : Fin cfg0.N) : EReal := ∑ r : Fin 256, rowG (A m c) (X m c) (D m c) k (row t r)

theorem outs_3 (c : Dev nD) (z : Fin 1) (k : Fin 2048) (n : ℕ) (h : n < cfg0.N) :
    (outsAt0 m c n h).2.2 (ix2 z k) = ∑ t : Fin (n + 1), part m c z k ⟨t.val, lt_of_lt_of_le t.isLt h⟩ := by
  have key : ∀ (t : Fin cfg0.N) (xo : Vec Ideal S1x2048 .f32), k0_pay4 (k0_pay13 (iblk m c 0 t) (iblk m c 1 t) (iblk m c 3 t)) xo (ix2 z k) = xo (ix2 z k) + part m c z k t := by
    intro t xo
    have e : k0_pay4 (k0_pay13 (iblk m c 0 t) (iblk m c 1 t) (iblk m c 3 t)) xo (ix2 z k) = xo (ix2 z k) + k0_pay13 (iblk m c 0 t) (iblk m c 1 t) (iblk m c 3 t) (ix2 z k) := by
      pointwise [k0_pay4]
    rw [e, pay13_apply]
    simp only [iblk0, iblk1, iblk3]
    rfl
  have hN : cfg0.N = 16 := N_0
  refine running (part m c z k) (fun n h => (outsAt0 m c n h).2.2 (ix2 z k)) (fun h => ?_) (fun n h => ?_) n h
  · rw [outsAt0_A m c ⟨0, h⟩ rfl]
    dsimp only
    rw [out_A_6, key]
    show Ideal.ofBits .f32 0x00000000#32 + _ = _
    rw [Ideal.ofBits_zero_f32, zero_add]
  · rw [outsAt0_B m c ⟨n + 1, h⟩ (by dsimp only; omega)]
    dsimp only
    rw [out_B_6, key]
    rfl

theorem out_g (c : Dev nD) : (dats m 0 c).arrAt 6 cfg0.N = gradG (A m c) (X m c) (D m c) := by
  have hN : cfg0.N = 16 := N_0
  refine (dats m 0 c).arrAt_eq_of_cover 6 (gradG (A m c) (X m c) (D m c)) (fun t hf => ?_) fun i => ?_
  · have h7 : t.val = 15 := by have := (flush0_6 t).mp hf; have := t.isLt; omega
    obtain rfl : t = t0_15 := Fin.ext h7
    show (cfg0.win 6).cut (grid0.coords t0_15) ((dats m 0 c).after 6 t0_15) = _
    rw [after0_6]
    have hz' : (fun a => win0_6.index t0_15 a * main_v1_2.ty.shape.size a) = fun _ => 0 := funext fun a => by fin_cases a <;> decide
    refine Eq.trans ?_ (Memref.read_access_unit_zero (Elt Ideal) main_v1_2 hz' (fun a => by rw [congrFun hz' a]; simp) (gradG (A m c) (X m c) (D m c))).symm
    funext j
    obtain ⟨z, k, rfl⟩ : ∃ (z : Fin 1) (k : Fin 2048), j = ix2 z k := ⟨_, _, eq_ix2 j⟩
    refine (outs_3 m c z k _ t0_15.isLt).trans ?_
    show _ = ∑ i : Fin 4096, rowG (A m c) (X m c) (D m c) k i
    unfold part
    rw [sum_blocks 16 256 rfl]
    rfl
  · refine ⟨t0_15, (flush0_6 t0_15).mpr rfl, ?_⟩
    show i ∈ ((View.whole main_v1_2).slice (win0_6.rect t0_15)).set
    rw [View.set_slice_whole, Rect.mem_set_unit]
    intro a
    have h0 : (i 0 : Nat) < 1 := (i 0).isLt
    have h1 : (i 1 : Nat) < 2048 := (i 1).isLt
    match a with
    | ⟨0, _⟩ =>
      show win0_6.index t0_15 0 * 1 ≤ (i 0 : Nat) ∧ (i 0 : Nat) < win0_6.index t0_15 0 * 1 + 1
      rw [show win0_6.index t0_15 0 = 0 from by decide +kernel]; omega
    | ⟨1, _⟩ =>
      show win0_6.index t0_15 1 * 2048 ≤ (i 1 : Nat) ∧ (i 1 : Nat) < win0_6.index t0_15 1 * 2048 + 2048
      rw [show win0_6.index t0_15 1 = 0 from by decide +kernel]; omega

end Cert.PleIdeal.Val

/-! ## The reference -/

namespace Cert.PleRefIdeal.Val

open Cert.PleRefIdeal Cert.PleRefIdeal.Gen Cert.PleRefIdeal.Read Cert.Shapes
open Cert.RmsIdeal.Val (ms rs sh)
open Cert.PleIdeal.Val (sigSlope dgl up dpe gradGl gradPe gradG rowG)
open Idealize.ShloMosaic

variable (a x : FVec Ideal S4096x2048 .f32) (g : FVec Ideal S2048 .f32) (d : FVec Ideal S4096x2048 .f32)

theorem ref_ms (i : Fin 4096) (z : Fin 1) : val_main_v15 (F := Ideal) x (ix2 i z) = ms (fun k => x (ix2 i k)) := by
  unfold ms
  pointwise [val_main_v15, val_main_v14, val_main_cst_4, val_main_v13, val_main_v12, val_main_cst_3, val_main_v11, val_main_v10, val_main_cst_2, val_main_v9]

theorem ref_rs (i : Fin 4096) (z : Fin 1) : val_main_v16 (F := Ideal) x (ix2 i z) = rs (fun k => x (ix2 i k)) := by
  unfold rs
  rw [← ref_ms x i z]
  pointwise [val_main_v16]

theorem ref_sig (i : Fin 4096) (k : Fin 2048) : val_main_v5 (F := Ideal) a (ix2 i k) = Ideal.logistic (a (ix2 i k)) := by
  pointwise [val_main_v5, val_main_v4, val_main_cst_0, val_main_v3, val_main_v2, val_main_cst, val_main_v1, val_main_v0]
  rfl

theorem ref_gl : val_main_v49 (F := Ideal) a x g d = gradGl a x g d := by
  funext j
  obtain ⟨i, k, rfl⟩ : ∃ (i : Fin 4096) (k : Fin 2048), j = ix2 i k := ⟨_, _, eq_ix2 j⟩
  show _ = dgl (fun k => a (ix2 i k)) (fun k => x (ix2 i k)) (fun k => g (ix1 k)) (fun k => d (ix2 i k)) k
  unfold dgl sigSlope
  rw [← ref_rs x i 0, ← ref_sig a i k]
  pointwise [val_main_v49, val_main_v48, val_main_v27, val_main_v24, val_main_v23, val_main_v22, val_main_v21, val_main_v20, val_main_v8, val_main_v7, val_main_v6, val_main_cst_1]

theorem ref_sh (i : Fin 4096) : val_main_v42 (F := Ideal) a x g d (ix1 i) = sh (fun k => x (ix2 i k)) (fun k => g (ix1 k)) (up (fun k => a (ix2 i k)) (fun k => d (ix2 i k))) := by
  unfold sh up
  rw [← ref_rs x i 0, ← ref_ms x i 0]
  simp only [← ref_sig a]
  pointwise [val_main_v42, val_main_cst_10, val_main_v41, val_main_v40, val_main_cst_9, val_main_v39, val_main_v36, val_main_v35, val_main_cst_8, val_main_v34, val_main_v32, val_main_v31, val_main_v26, val_main_v22, val_main_v19, val_main_v18, val_main_cst_5, val_main_v17, Fin.sum_univ_one]

theorem ref_pe : val_main_v50 (F := Ideal) a x g d = gradPe a x g d := by
  funext j
  obtain ⟨i, k, rfl⟩ : ∃ (i : Fin 4096) (k : Fin 2048), j = ix2 i k := ⟨_, _, eq_ix2 j⟩
  show _ = dpe (fun k => a (ix2 i k)) (fun k => x (ix2 i k)) (fun k => g (ix1 k)) (fun k => d (ix2 i k)) k
  unfold dpe
  rw [← ref_sh a x g d i, ← ref_rs x i 0]
  unfold up
  rw [← ref_sig a i k]
  pointwise [val_main_v50, val_main_v47, val_main_v46, val_main_v45, val_main_v44, val_main_v43, val_main_v38, val_main_v37, val_main_v32, val_main_v31, val_main_v26, val_main_v22]

theorem ref_g : val_main_v51 (F := Ideal) a x d = gradG a x d := by
  funext j
  obtain ⟨z, k, rfl⟩ : ∃ (z : Fin 1) (k : Fin 2048), j = ix2 z k := ⟨_, _, eq_ix2 j⟩
  show _ = ∑ i : Fin 4096, rowG a x d k i
  unfold rowG
  simp only [← ref_rs x _ 0, ← ref_sig a]
  pointwise [val_main_v51, val_main_v33, val_main_cst_7, val_main_v30, val_main_v29, val_main_cst_6, val_main_v28, val_main_v26, val_main_v21, val_main_v20, Fin.sum_univ_one]

end Cert.PleRefIdeal.Val

/-! ## The claim -/

namespace Cert.Ple.Claim

open Idealize.ShloMosaic Idealize.ShloMosaic.TcCoe Idealize.SL.Sem
open Cert.PleIdeal.Val (A X G D gradGl gradPe gradG)

theorem frame_ref : Cert.quiescent_PleRefIdeal (hPleRefIdeal := Cert.PleRefIdeal.Gen.facts) := fun m g _ =>
  (θ_run _ _ _).mono (fun r h => ⟨fun c => (h c).2.2.2, sem_eq_zero_of_no_sems (by decide) r.2⟩)
    (Cert.PleRefIdeal.Value.run (F := Ideal) m g)

theorem algebraic : Cert.algebraic_PleIdeal_PleRefIdeal (hPleIdeal := Cert.PleIdeal.Gen.facts) (hPleRefIdeal := Cert.PleRefIdeal.Gen.facts) := by
  intro m g m' g' _ hargs
  refine ⟨fun c => gradGl (A m c) (X m c) (G m c) (D m c), fun c => gradPe (A m c) (X m c) (G m c) (D m c), fun c => gradG (A m c) (X m c) (D m c), ?_, ?_⟩
  · refine (θ_run _ _ _).mono (fun r h c => ?_) (Cert.PleIdeal.Value.run_blocks (F := Ideal) m g)
    obtain ⟨h0, h1, h2, h3⟩ := h c
    exact ⟨h0.trans (Cert.PleIdeal.Val.out_gl m c), h1.trans (Cert.PleIdeal.Val.out_pe m c), h2.trans (Cert.PleIdeal.Val.out_g m c), h3⟩
  · refine (θ_run _ _ _).mono (fun r h c => ?_) (Cert.PleRefIdeal.Value.run (F := Ideal) m' g')
    obtain ⟨h0, h1, h2, h3⟩ := h c
    obtain ⟨e0, e1, e2, e3⟩ := hargs c
    refine ⟨h0.trans ?_, h1.trans ?_, h2.trans ?_, h3⟩
    · rw [Cert.PleRefIdeal.Read.val_main_v49_eq, e0, e1, e2, e3]; exact Cert.PleRefIdeal.Val.ref_gl _ _ _ _
    · rw [Cert.PleRefIdeal.Read.val_main_v50_eq, e0, e1, e2, e3]; exact Cert.PleRefIdeal.Val.ref_pe _ _ _ _
    · rw [Cert.PleRefIdeal.Read.val_main_v51_eq, e0, e1, e3]; exact Cert.PleRefIdeal.Val.ref_g _ _ _

end Cert.Ple.Claim

end
-- ==== Proof.FfnStep.lean ====
/-
  The backward kernel of the half-step SwiGLU, one grid point at a time. The body of a point works on two
  running arrays: the rounded cotangent of the current rows and a scratch accumulator for the gradient of the
  current rows. Here the body's effect is given as a function of the blocks it reads and of those two arrays.
-/
module

public import proofs.«01_k».proof.Proof.Gen.FfnIdeal.Frame
public import proofs.«01_k».proof.Proof.Gen.FfnIdeal.Skeleton
public import Idealize.ShloMosaic.Lib.VecWindow

@[expose] public section

set_option maxRecDepth 16384

noncomputable section

namespace Cert.FfnIdeal.Step

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F]

local notation "𝕄" => MT nD τ sig Unit (Elt F) ℕ (UR sig nD τ) ℕ

/-- The blocks a grid point reads: cotangent, the two hidden products, the three weights. -/
structure Blk (F : FTy → Type) where
  dy : Vec F S512x2048 .f32
  h1 : Vec F S1x512x688 .bf16
  h3 : Vec F S1x512x688 .bf16
  w1 : Vec F S1x2048x688 .bf16
  w3 : Vec F S1x2048x688 .bf16
  w2 : Vec F S1x688x2048 .bf16

/-- The two running arrays: the rounded cotangent and the accumulated gradient. -/
structure Acc (F : FTy → Type) where
  dyb : Vec F S512x2048 .bf16
  acc : Vec F S512x2048 .f32

variable (x : Blk F)

abbrev low {φ : EltTy} (a : Vec F S512x2048 φ) : Vec F S256x2048 φ := window a ![0, 0] S256x2048.size inb_S512x2048_S256x2048_0_0
abbrev high {φ : EltTy} (a : Vec F S512x2048 φ) : Vec F S256x2048 φ := window a ![256, 0] S256x2048.size inb_S512x2048_S256x2048_256_0
abbrev hlow (a : Vec F S1x512x688 .bf16) : Vec F S1x256x688 .bf16 := window a ![0, 0, 0] S1x256x688.size inb_S1x512x688_S1x256x688_0_0_0
abbrev hhigh (a : Vec F S1x512x688 .bf16) : Vec F S1x256x688 .bf16 := window a ![0, 256, 0] S1x256x688.size inb_S1x512x688_S1x256x688_0_256_0

/-! The first 256 rows: the gate's cotangent, the activation, the gradient of the first product. -/

abbrev dact0 (s : Acc F) : FVec F S256x688 .f32 := k0_pay4 (low s.dyb) x.w2
abbrev act0 : FVec F S256x688 .f32 := k0_pay9 (hlow x.h1)
abbrev dh0 (s : Acc F) : FVec F S256x688 .f32 := k0_pay10 (low s.dyb) x.w2 (hlow x.h1) (hlow x.h3)

/-! The last 256 rows. -/

abbrev dact1 (s : Acc F) : FVec F S256x688 .f32 := k0_pay5 (high s.dyb) x.w2
abbrev h1f : FVec F S256x688 .f32 := k0_pay17 (hhigh x.h1)

/-- A block of the hidden width, given by its two halves. -/
abbrev halves (y : Vec F S1x512x688 .bf16) (a b : Vec F S1x256x688 .bf16) : Vec F S1x512x688 .bf16 :=
  put (put y ![0, 0, 0] S1x256x688.size a) ![0, 256, 0] S1x256x688.size b

def outH1 (s : Acc F) (y : Vec F S1x512x688 .bf16) : Vec F S1x512x688 .bf16 :=
  halves y (k0_pay13 (dh0 x s)) (k0_pay23 (dact1 x s) (h1f x) (hhigh x.h3))
def outH3 (s : Acc F) (y : Vec F S1x512x688 .bf16) : Vec F S1x512x688 .bf16 :=
  halves y (k0_pay14 (dact0 x s) (act0 x)) (k0_pay24 (dact1 x s) (h1f x))
def outAct (y : Vec F S1x512x688 .bf16) : Vec F S1x512x688 .bf16 :=
  halves y (k0_pay15 (k0_pay7 (hlow x.h3)) (act0 x)) (k0_pay25 (h1f x) (hhigh x.h3))

def accLow (s : Acc F) : Vec F S512x2048 .f32 :=
  put s.acc ![0, 0] S256x2048.size (k0_pay16 (dact0 x s) (act0 x) (dh0 x s) (low s.acc) x.w1 x.w3)

def accNew (s : Acc F) : Vec F S512x2048 .f32 :=
  put (accLow x s) ![256, 0] S256x2048.size
    (k0_pay1 (k0_pay26 (dact1 x s) (h1f x) (hhigh x.h3) (high s.acc) x.w1 x.w3))

/-- The first block of the hidden width starts the two running arrays. -/
def start (i : grid0.Coords) (s : Acc F) : Acc F :=
  if k0_cond1 i = 1#1 then { dyb := k0_pay3 x.dy, acc := k0_pay2 } else s

/-- The running arrays after a grid point. -/
def step (i : grid0.Coords) (s : Acc F) : Acc F := { dyb := (start x i s).dyb, acc := accNew x (start x i s) }

/-- What the point leaves in the gradient's block. -/
def outX (i : grid0.Coords) (s : Acc F) (y : Vec F S512x2048 .f32) : Vec F S512x2048 .f32 :=
  if k0_cond2 i = 1#1 then s.acc else y

theorem not_both : ∀ i : grid0.Coords, k0_cond1 i = 1#1 → ¬k0_cond2 i = 1#1 := by decide +kernel

/-- Two halves of 256 rows cover the block: what was there before does not matter. -/
theorem rows_cover {φ : EltTy} (y z : Vec F S512x2048 φ) (a b : Vec F S256x2048 φ) :
    put (put y ![0, 0] S256x2048.size a) ![256, 0] S256x2048.size b = put (put z ![0, 0] S256x2048.size a) ![256, 0] S256x2048.size b := by
  funext k
  unfold put
  by_cases h : ∀ j, (![256, 0] : Fin 2 → ℕ) j ≤ (k j).val ∧ (k j).val < (![256, 0] : Fin 2 → ℕ) j + S256x2048.size j
  · rw [dif_pos h, dif_pos h]
  · rw [dif_neg h, dif_neg h]
    have h' : ∀ j, (![0, 0] : Fin 2 → ℕ) j ≤ (k j).val ∧ (k j).val < (![0, 0] : Fin 2 → ℕ) j + S256x2048.size j := by
      have h1 : (k 1).val < 2048 := (k 1).isLt
      have h0 : (k 0).val < 512 := (k 0).isLt
      have hn : ¬256 ≤ (k 0).val := fun hh => h (fun j => match j with
        | ⟨0, _⟩ => ⟨hh, h0⟩
        | ⟨1, _⟩ => ⟨Nat.zero_le _, by show (k 1).val < 0 + 2048; omega⟩)
      intro j
      match j with
      | ⟨0, _⟩ => exact ⟨Nat.zero_le _, by show (k 0).val < 0 + 256; omega⟩
      | ⟨1, _⟩ => exact ⟨Nat.zero_le _, by show (k 1).val < 0 + 2048; omega⟩
    rw [dif_pos h', dif_pos h']

theorem halves_cover (y z : Vec F S1x512x688 .bf16) (a b : Vec F S1x256x688 .bf16) : halves y a b = halves z a b := by
  funext k
  unfold halves put
  by_cases h : ∀ j, (![0, 256, 0] : Fin 3 → ℕ) j ≤ (k j).val ∧ (k j).val < (![0, 256, 0] : Fin 3 → ℕ) j + S1x256x688.size j
  · rw [dif_pos h, dif_pos h]
  · rw [dif_neg h, dif_neg h]
    have h' : ∀ j, (![0, 0, 0] : Fin 3 → ℕ) j ≤ (k j).val ∧ (k j).val < (![0, 0, 0] : Fin 3 → ℕ) j + S1x256x688.size j := by
      have h0 : (k 0).val < 1 := (k 0).isLt
      have h1 : (k 1).val < 512 := (k 1).isLt
      have h2 : (k 2).val < 688 := (k 2).isLt
      have hn : ¬256 ≤ (k 1).val := fun hh => h (fun j => match j with
        | ⟨0, _⟩ => ⟨Nat.zero_le _, by show (k 0).val < 0 + 1; omega⟩
        | ⟨1, _⟩ => ⟨hh, h1⟩
        | ⟨2, _⟩ => ⟨Nat.zero_le _, by show (k 2).val < 0 + 688; omega⟩)
      intro j
      match j with
      | ⟨0, _⟩ => exact ⟨Nat.zero_le _, by show (k 0).val < 0 + 1; omega⟩
      | ⟨1, _⟩ => exact ⟨Nat.zero_le _, by show (k 1).val < 0 + 256; omega⟩
      | ⟨2, _⟩ => exact ⟨Nat.zero_le _, by show (k 2).val < 0 + 688; omega⟩
    rw [dif_pos h', dif_pos h']

/-! Loads after stores, of one buffer of 512 rows. -/

section Loads
variable {sp : Space} {φ : EltTy} (v : View sig .tc sp S512x2048 φ)

theorem low_of_full (w : Vec F S512x2048 φ) :
    v.readCov (Val := Elt F) [⟨Rect.unit (s := S512x2048) ![0, 0] S512x2048.size inb_S512x2048_S512x2048_0_0, w⟩] (Rect.unit (s := S512x2048) ![0, 0] S256x2048.size inb_S512x2048_S256x2048_0_0).toLoadRect
      = low w := by
  show low (v.read (Elt F) (v.writes (Elt F) v.junk _)) = _
  rw [View.read_writes_full]

theorem high_of_full (w : Vec F S512x2048 φ) :
    v.readCov (Val := Elt F) [⟨Rect.unit (s := S512x2048) ![0, 0] S512x2048.size inb_S512x2048_S512x2048_0_0, w⟩] (Rect.unit (s := S512x2048) ![256, 0] S256x2048.size inb_S512x2048_S256x2048_256_0).toLoadRect
      = high w := by
  show high (v.read (Elt F) (v.writes (Elt F) v.junk _)) = _
  rw [View.read_writes_full]

theorem high_of_low (w : Vec F S512x2048 φ) (a : Vec F S256x2048 φ) :
    v.readCov (Val := Elt F) [⟨Rect.unit (s := S512x2048) ![0, 0] S256x2048.size inb_S512x2048_S256x2048_0_0, a⟩, ⟨Rect.unit (s := S512x2048) ![0, 0] S512x2048.size inb_S512x2048_S512x2048_0_0, w⟩]
        (Rect.unit (s := S512x2048) ![256, 0] S256x2048.size inb_S512x2048_S256x2048_256_0).toLoadRect
      = high w := by
  show high (v.read (Elt F) (v.writes (Elt F) v.junk _)) = _
  rw [View.read_writes_cons_put _ _ _ _ _ rfl, View.read_writes_full]
  exact VecWindow.window_put_of_disjoint w _ _ _ _ _ _ 0 (.inr (by decide))

theorem full_of_halves (y : Vec F S512x2048 φ) (a b : Vec F S256x2048 φ) :
    v.readCov (Val := Elt F) [⟨Rect.unit (s := S512x2048) ![256, 0] S256x2048.size inb_S512x2048_S256x2048_256_0, b⟩, ⟨Rect.unit (s := S512x2048) ![0, 0] S256x2048.size inb_S512x2048_S256x2048_0_0, a⟩]
        (Rect.unit (s := S512x2048) ![0, 0] S512x2048.size inb_S512x2048_S512x2048_0_0).toLoadRect
      = put (put y ![0, 0] S256x2048.size a) ![256, 0] S256x2048.size b := by
  unfold View.readCov
  rw [View.readAt_full, View.read_writes_cons_put _ _ _ _ _ rfl, View.read_writes_cons_put _ _ _ _ _ rfl]
  exact rows_cover _ _ _ _

theorem low_load (f : v.ty.Contents (Elt F)) {a : Vec F S512x2048 φ} (h : v.read (Elt F) f = a) :
    v.readAt (Elt F) (Rect.unit (s := S512x2048) ![0, 0] S256x2048.size inb_S512x2048_S256x2048_0_0).toLoadRect f = low a := congrArg low h

theorem high_load (f : v.ty.Contents (Elt F)) {a : Vec F S512x2048 φ} (h : v.read (Elt F) f = a) :
    v.readAt (Elt F) (Rect.unit (s := S512x2048) ![256, 0] S256x2048.size inb_S512x2048_S256x2048_256_0).toLoadRect f = high a := congrArg high h

theorem hlow_load (v : View sig .tc sp S1x512x688 .bf16) (f : v.ty.Contents (Elt F)) {a : Vec F S1x512x688 .bf16} (h : v.read (Elt F) f = a) :
    v.readAt (Elt F) (Rect.unit (s := S1x512x688) ![0, 0, 0] S1x256x688.size inb_S1x512x688_S1x256x688_0_0_0).toLoadRect f = hlow a := congrArg hlow h

theorem hhigh_load (v : View sig .tc sp S1x512x688 .bf16) (f : v.ty.Contents (Elt F)) {a : Vec F S1x512x688 .bf16} (h : v.read (Elt F) f = a) :
    v.readAt (Elt F) (Rect.unit (s := S1x512x688) ![0, 256, 0] S1x256x688.size inb_S1x512x688_S1x256x688_0_256_0).toLoadRect f = hhigh a := congrArg hhigh h
end Loads

section Body

variable (c : Dev nD) (i : grid0.Coords)
  (arg2 : Memref sig .tc .vmem S512x2048 .f32) (h2 : arg2.IsWhole) (arg3 : Memref sig .tc .vmem S1x512x688 .bf16) (h3 : arg3.IsWhole)
  (arg4 : Memref sig .tc .vmem S1x512x688 .bf16) (h4 : arg4.IsWhole) (arg5 : Memref sig .tc .vmem S1x2048x688 .bf16) (h5 : arg5.IsWhole)
  (arg6 : Memref sig .tc .vmem S1x2048x688 .bf16) (h6 : arg6.IsWhole) (arg7 : Memref sig .tc .vmem S1x688x2048 .bf16) (h7 : arg7.IsWhole)
  (arg8 : Memref sig .tc .vmem S512x2048 .f32) (h8 : arg8.IsWhole) (arg9 : Memref sig .tc .vmem S512x2048 .bf16) (h9 : arg9.IsWhole)
  (arg10 : Memref sig .tc .vmem S1x512x688 .bf16) (h10 : arg10.IsWhole) (arg11 : Memref sig .tc .vmem S1x512x688 .bf16) (h11 : arg11.IsWhole)
  (arg12 : Memref sig .tc .vmem S1x512x688 .bf16) (h12 : arg12.IsWhole) (arg13 : Memref sig .tc .vmem S512x2048 .f32) (h13 : arg13.IsWhole)

/-- The body's buffers at given contents. -/
def held (s : Acc F) (y : Vec F S512x2048 .f32) (y1 y2 y3 : Vec F S1x512x688 .bf16) : sProp 𝕄 :=
  iprop(owns (c : Thread nD τ) arg2 fullShare x.dy ∗ owns (c : Thread nD τ) arg3 fullShare x.h1 ∗ owns (c : Thread nD τ) arg4 fullShare x.h3
    ∗ owns (c : Thread nD τ) arg5 fullShare x.w1 ∗ owns (c : Thread nD τ) arg6 fullShare x.w3 ∗ owns (c : Thread nD τ) arg7 fullShare x.w2
    ∗ owns (c : Thread nD τ) arg8 fullShare y ∗ owns (c : Thread nD τ) arg9 fullShare s.dyb ∗ owns (c : Thread nD τ) arg10 fullShare y1
    ∗ owns (c : Thread nD τ) arg11 fullShare y2 ∗ owns (c : Thread nD τ) arg12 fullShare y3 ∗ owns (c : Thread nD τ) arg13 fullShare s.acc)

set_option maxHeartbeats 4000000 in
theorem body (E : Set ℕ) (s : Acc F) (y : Vec F S512x2048 .f32) (y1 y2 y3 : Vec F S1x512x688 .bf16) :
    held x c arg2 arg3 arg4 arg5 arg6 arg7 arg8 arg9 arg10 arg11 arg12 arg13 s y y1 y2 y3
      ⊢ wp frame (wpE (defs₀ (F := F)) Variants.none c none) E
          (cc0_ffn_bwd i arg2 h2 arg3 h3 arg4 h4 arg5 h5 arg6 h6 arg7 h7 arg8 h8 arg9 h9 arg10 h10 arg11 h11 arg12 h12 arg13 h13)
          (fun _ => held x c arg2 arg3 arg4 arg5 arg6 arg7 arg8 arg9 arg10 arg11 arg12 arg13 (step x i s) (outX i (step x i s) y)
            (outH1 x (start x i s) y1) (outH3 x (start x i s) y2) (outAct x y3)) := by
  simp only [cc0_ffn_bwd_eq_skeleton]; unfold cc0_ffn_bwd_skel
  simp only [k0_part1_eq_skeleton, k0_part2_eq_skeleton, k0_part3_eq_skeleton]
  unfold outX step start
  by_cases hc : k0_cond1 i = 1#1
  · have hd := not_both i hc
    rw [if_pos hc, if_neg hd]
    unfold held owns
    iintro ⟨⟨%f2, %hf2, H2⟩, ⟨%f3, %hf3, H3⟩, ⟨%f4, %hf4, H4⟩, ⟨%f5, %hf5, H5⟩, ⟨%f6, %hf6, H6⟩, ⟨%f7, %hf7, H7⟩, H8, ⟨%f9, %hf9, H9⟩, ⟨%f10, %hf10, H10⟩, ⟨%f11, %hf11, H11⟩, ⟨%f12, %hf12, H12⟩, ⟨%f13, %hf13, H13⟩⟩
    sl_exec (disch := first | sl_exact hc | sl_exact hd)
    sl_step
    sl_unfold_words
    have e2 := (View.readAt_full arg2.view f2 inb_S512x2048_S512x2048_0_0).trans hf2
    have e5 := (View.readAt_full arg5.view f5 inb_S1x2048x688_S1x2048x688_0_0_0).trans hf5
    have e6 := (View.readAt_full arg6.view f6 inb_S1x2048x688_S1x2048x688_0_0_0).trans hf6
    have e7 := (View.readAt_full arg7.view f7 inb_S1x688x2048_S1x688x2048_0_0_0).trans hf7
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]; · iexact H8
    isplitl [H9]
    · iexists _; isplitr; swap; · iexact H9
      ipureintro
      exact (View.read_writes_full _ _ _ _ _).trans (congrArg k0_pay3 e2)
    isplitl [H10]
    · iexists _; isplitr; swap; · iexact H10
      ipureintro
      rw [View.read_writes_cons_put _ _ _ _ _ rfl, View.read_writes_cons_put _ _ _ _ _ rfl, View.writes_nil, hf10]
      rw [e7, e2, hlow_load _ _ hf3, hhigh_load _ _ hf3, hlow_load _ _ hf4, hhigh_load _ _ hf4, low_of_full, high_of_full]
      rfl
    isplitl [H11]
    · iexists _; isplitr; swap; · iexact H11
      ipureintro
      rw [View.read_writes_cons_put _ _ _ _ _ rfl, View.read_writes_cons_put _ _ _ _ _ rfl, View.writes_nil, hf11]
      rw [e7, e2, hlow_load _ _ hf3, hhigh_load _ _ hf3, low_of_full, high_of_full]
      rfl
    isplitl [H12]
    · iexists _; isplitr; swap; · iexact H12
      ipureintro
      rw [View.read_writes_cons_put _ _ _ _ _ rfl, View.read_writes_cons_put _ _ _ _ _ rfl, View.writes_nil, hf12]
      rw [hlow_load _ _ hf3, hhigh_load _ _ hf3, hlow_load _ _ hf4, hhigh_load _ _ hf4]
      rfl
    iexists _; isplitr; swap; · iexact H13
    ipureintro
    rw [View.read_writes_cons_put _ _ _ _ _ rfl, View.read_writes_cons_put _ _ _ _ _ rfl, View.read_writes_full]
    rw [e2, e5, e6, e7, hlow_load _ _ hf3, hhigh_load _ _ hf3, hlow_load _ _ hf4, hhigh_load _ _ hf4, low_of_full arg9.view, high_of_full arg9.view,
      low_of_full arg13.view, high_of_low arg13.view]
    rfl
  · rw [if_neg hc]
    by_cases hd : k0_cond2 i = 1#1
    · rw [if_pos hd]
      unfold held owns
      iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
      sl_exec (disch := first | sl_exact hc | sl_exact hd)
      sl_step
      sl_unfold_words
      have e2 := (View.readAt_full arg2.view f2 inb_S512x2048_S512x2048_0_0).trans hf2
      have e5 := (View.readAt_full arg5.view f5 inb_S1x2048x688_S1x2048x688_0_0_0).trans hf5
      have e6 := (View.readAt_full arg6.view f6 inb_S1x2048x688_S1x2048x688_0_0_0).trans hf6
      have e7 := (View.readAt_full arg7.view f7 inb_S1x688x2048_S1x688x2048_0_0_0).trans hf7
      isplitl [H2]
      · iexists _; isplitr; swap; · iexact H2
        ipureintro; exact hf2
      isplitl [H3]
      · iexists _; isplitr; swap; · iexact H3
        ipureintro; exact hf3
      isplitl [H4]
      · iexists _; isplitr; swap; · iexact H4
        ipureintro; exact hf4
      isplitl [H5]
      · iexists _; isplitr; swap; · iexact H5
        ipureintro; exact hf5
      isplitl [H6]
      · iexists _; isplitr; swap; · iexact H6
        ipureintro; exact hf6
      isplitl [H7]
      · iexists _; isplitr; swap; · iexact H7
        ipureintro; exact hf7
      isplitl [H8]
      · iexists _; isplitr; swap; · iexact H8
        ipureintro
        refine (View.read_writes_full _ _ _ _ _).trans ?_
        refine (full_of_halves _ s.acc _ _).trans ?_
        simp only [e2, e5, e6, e7, hlow_load _ _ hf3, hhigh_load _ _ hf3, hlow_load _ _ hf4, hhigh_load _ _ hf4, low_load _ _ hf9, high_load _ _ hf9, low_load _ _ hf13, high_load _ _ hf13]
        rfl
      isplitl [H9]
      · iexists _; isplitr; swap; · iexact H9
        ipureintro
        exact hf9
      isplitl [H10]
      · iexists _; isplitr; swap; · iexact H10
        ipureintro
        rw [View.read_writes_cons_put _ _ _ _ _ rfl, View.read_writes_cons_put _ _ _ _ _ rfl, View.writes_nil, hf10]
        simp only [e2, e5, e6, e7, hlow_load _ _ hf3, hhigh_load _ _ hf3, hlow_load _ _ hf4, hhigh_load _ _ hf4, low_load _ _ hf9, high_load _ _ hf9, low_load _ _ hf13, high_load _ _ hf13]
        rfl
      isplitl [H11]
      · iexists _; isplitr; swap; · iexact H11
        ipureintro
        rw [View.read_writes_cons_put _ _ _ _ _ rfl, View.read_writes_cons_put _ _ _ _ _ rfl, View.writes_nil, hf11]
        simp only [e2, e5, e6, e7, hlow_load _ _ hf3, hhigh_load _ _ hf3, hlow_load _ _ hf4, hhigh_load _ _ hf4, low_load _ _ hf9, high_load _ _ hf9, low_load _ _ hf13, high_load _ _ hf13]
        rfl
      isplitl [H12]
      · iexists _; isplitr; swap; · iexact H12
        ipureintro
        rw [View.read_writes_cons_put _ _ _ _ _ rfl, View.read_writes_cons_put _ _ _ _ _ rfl, View.writes_nil, hf12]
        simp only [e2, e5, e6, e7, hlow_load _ _ hf3, hhigh_load _ _ hf3, hlow_load _ _ hf4, hhigh_load _ _ hf4, low_load _ _ hf9, high_load _ _ hf9, low_load _ _ hf13, high_load _ _ hf13]
        rfl
      iexists _; isplitr; swap; · iexact H13
      ipureintro
      rw [View.read_writes_cons_put _ _ _ _ _ rfl, View.read_writes_cons_put _ _ _ _ _ rfl, View.writes_nil, hf13]
      simp only [e2, e5, e6, e7, hlow_load _ _ hf3, hhigh_load _ _ hf3, hlow_load _ _ hf4, hhigh_load _ _ hf4, low_load _ _ hf9, high_load _ _ hf9, low_load _ _ hf13, high_load _ _ hf13]
      rfl
    · rw [if_neg hd]
      unfold held owns
      iintro ⟨⟨%f2, %hf2, H2⟩, ⟨%f3, %hf3, H3⟩, ⟨%f4, %hf4, H4⟩, ⟨%f5, %hf5, H5⟩, ⟨%f6, %hf6, H6⟩, ⟨%f7, %hf7, H7⟩, H8, ⟨%f9, %hf9, H9⟩, ⟨%f10, %hf10, H10⟩, ⟨%f11, %hf11, H11⟩, ⟨%f12, %hf12, H12⟩, ⟨%f13, %hf13, H13⟩⟩
      sl_exec (disch := first | sl_exact hc | sl_exact hd)
      sl_step
      sl_unfold_words
      have e2 := (View.readAt_full arg2.view f2 inb_S512x2048_S512x2048_0_0).trans hf2
      have e5 := (View.readAt_full arg5.view f5 inb_S1x2048x688_S1x2048x688_0_0_0).trans hf5
      have e6 := (View.readAt_full arg6.view f6 inb_S1x2048x688_S1x2048x688_0_0_0).trans hf6
      have e7 := (View.readAt_full arg7.view f7 inb_S1x688x2048_S1x688x2048_0_0_0).trans hf7
      isplitl [H2]
      · iexists _; isplitr; swap; · iexact H2
        ipureintro; exact hf2
      isplitl [H3]
      · iexists _; isplitr; swap; · iexact H3
        ipureintro; exact hf3
      isplitl [H4]
      · iexists _; isplitr; swap; · iexact H4
        ipureintro; exact hf4
      isplitl [H5]
      · iexists _; isplitr; swap; · iexact H5
        ipureintro; exact hf5
      isplitl [H6]
      · iexists _; isplitr; swap; · iexact H6
        ipureintro; exact hf6
      isplitl [H7]
      · iexists _; isplitr; swap; · iexact H7
        ipureintro; exact hf7
      isplitl [H8]; · iexact H8
      isplitl [H9]
      · iexists _; isplitr; swap; · iexact H9
        ipureintro
        exact hf9
      isplitl [H10]
      · iexists _; isplitr; swap; · iexact H10
        ipureintro
        rw [View.read_writes_cons_put _ _ _ _ _ rfl, View.read_writes_cons_put _ _ _ _ _ rfl, View.writes_nil, hf10]
        simp only [e2, e5, e6, e7, hlow_load _ _ hf3, hhigh_load _ _ hf3, hlow_load _ _ hf4, hhigh_load _ _ hf4, low_load _ _ hf9, high_load _ _ hf9, low_load _ _ hf13, high_load _ _ hf13]
        rfl
      isplitl [H11]
      · iexists _; isplitr; swap; · iexact H11
        ipureintro
        rw [View.read_writes_cons_put _ _ _ _ _ rfl, View.read_writes_cons_put _ _ _ _ _ rfl, View.writes_nil, hf11]
        simp only [e2, e5, e6, e7, hlow_load _ _ hf3, hhigh_load _ _ hf3, hlow_load _ _ hf4, hhigh_load _ _ hf4, low_load _ _ hf9, high_load _ _ hf9, low_load _ _ hf13, high_load _ _ hf13]
        rfl
      isplitl [H12]
      · iexists _; isplitr; swap; · iexact H12
        ipureintro
        rw [View.read_writes_cons_put _ _ _ _ _ rfl, View.read_writes_cons_put _ _ _ _ _ rfl, View.writes_nil, hf12]
        simp only [e2, e5, e6, e7, hlow_load _ _ hf3, hhigh_load _ _ hf3, hlow_load _ _ hf4, hhigh_load _ _ hf4, low_load _ _ hf9, high_load _ _ hf9, low_load _ _ hf13, high_load _ _ hf13]
        rfl
      iexists _; isplitr; swap; · iexact H13
      ipureintro
      rw [View.read_writes_cons_put _ _ _ _ _ rfl, View.read_writes_cons_put _ _ _ _ _ rfl, View.writes_nil, hf13]
      simp only [e2, e5, e6, e7, hlow_load _ _ hf3, hhigh_load _ _ hf3, hlow_load _ _ hf4, hhigh_load _ _ hf4, low_load _ _ hf9, high_load _ _ hf9, low_load _ _ hf13, high_load _ _ hf13]
      rfl

end Body

end Cert.FfnIdeal.Step

end
-- ==== Proof.FfnFrame.lean ====
/-
  The SwiGLU backward program's run: the body's steps over the whole grid, the two running arrays carried from
  point to point, and the frame that follows.
-/
module

public import proofs.«01_k».proof.Proof.FfnStep
public import Idealize.ShloMosaic.Lib.Claim

@[expose] public section

set_option maxRecDepth 16384

noncomputable section

namespace Cert.FfnIdeal.Step

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Where a point's conditions hold. -/

theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)
theorem cond2_iff : ∀ t : Fin cfg0.N, k0_cond2 (grid0.coords t) = 1#1 ↔ t.val % 8 = 7 :=
  (by decide +kernel : ∀ t : Fin grid0.N, k0_cond2 (grid0.coords t) = 1#1 ↔ t.val % 8 = 7)
theorem idle6_iff : ∀ t : Fin cfg0.N, cfg0.idle 6 (grid0.coords t) = true ↔ ¬t.val % 8 = 7 :=
  (by decide +kernel : ∀ t : Fin grid0.N, idle0 6 (grid0.coords t) = true ↔ ¬t.val % 8 = 7)
theorem idle7_iff : ∀ t : Fin cfg0.N, cfg0.idle 7 (grid0.coords t) = true ↔ ¬t.val % 8 = 0 :=
  (by decide +kernel : ∀ t : Fin grid0.N, idle0 7 (grid0.coords t) = true ↔ ¬t.val % 8 = 0)

/-- The blocks read at a point. -/
def blk (c : Dev nD) (t : Fin cfg0.N) : Blk F where
  dy := iblk m c 0 t
  h1 := iblk m c 1 t
  h3 := iblk m c 2 t
  w1 := iblk m c 3 t
  w3 := iblk m c 4 t
  w2 := iblk m c 5 t

/-- The running arrays before point `n`. -/
def st (c : Dev nD) : ℕ → Acc F
  | 0 => { dyb := k0_pay3 k0_pay2, acc := k0_pay2 }
  | n + 1 => if h : n < cfg0.N then step (blk m c ⟨n, h⟩) (grid0.coords ⟨n, h⟩) (st c n) else st c n

theorem st_succ (c : Dev nD) (t : Fin cfg0.N) : st m c (t.val + 1) = step (blk m c t) (grid0.coords t) (st m c t.val) :=
  dif_pos t.isLt

/-- The first block of the hidden width starts both running arrays, so that nothing before it matters. -/
theorem start_eq (c : Dev nD) (t : Fin cfg0.N) (s : Acc F)
    (h : ¬t.val % 8 = 0 → s.dyb = (st m c t.val).dyb ∧ s.acc = (st m c t.val).acc) :
    start (blk m c t) (grid0.coords t) s = start (blk m c t) (grid0.coords t) (st m c t.val) := by
  unfold start
  by_cases h8 : t.val % 8 = 0
  · rw [if_pos ((cond1_iff t).mpr h8), if_pos ((cond1_iff t).mpr h8)]
  · rw [if_neg (fun h => h8 ((cond1_iff t).mp h)), if_neg (fun h => h8 ((cond1_iff t).mp h))]
    obtain ⟨a, b⟩ := s
    generalize st m c t.val = s' at *
    obtain ⟨a', b'⟩ := s'
    have := h h8
    dsimp only at this
    rw [this.1, this.2]

theorem step_eq (c : Dev nD) (t : Fin cfg0.N) (s : Acc F)
    (h : ¬t.val % 8 = 0 → s.dyb = (st m c t.val).dyb ∧ s.acc = (st m c t.val).acc) :
    step (blk m c t) (grid0.coords t) s = st m c (t.val + 1) := by
  rw [st_succ]
  unfold step
  rw [start_eq m c t s h]

/-- Past the first block of the hidden width the rounded cotangent stays as it is. -/
theorem step_idle (c : Dev nD) (t : Fin cfg0.N) (h : ¬t.val % 8 = 0) : (st m c (t.val + 1)).dyb = (st m c t.val).dyb := by
  rw [st_succ]
  unfold step start
  rw [if_neg (fun h' => h ((cond1_iff t).mp h'))]

/-- The scratch accumulator between points. -/
def carried (c : Dev nD) (n : ℕ) : sProp 𝕄 :=
  iprop((∃ b : Vec F S512x2048 .f32, ⌜¬n % 8 = 0 → b = (st m c n).acc⌝
    ∗ owns (c : Thread nD τ) (Memref.whole cc0_scratch0) fullShare b)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (st m c (t.val + 1)).acc
    | ⟨7, _⟩ => (st m c (t.val + 1)).dyb
    | ⟨8, _⟩ => outH1 (blk m c t) (st m c (t.val + 1)) (blk m c t).h1
    | ⟨9, _⟩ => outH3 (blk m c t) (st m c (t.val + 1)) (blk m c t).h1
    | ⟨10, _⟩ => outAct (blk m c t) (blk m c t).h1
  Φ n := carried m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (st m c (t.val + 1)).acc := by dsimp only [dats]
theorem after0_7 (c : Dev nD) (t : Fin cfg0.N) : (dats m 0 c).after 7 t = (st m c (t.val + 1)).dyb := by dsimp only [dats]
theorem after0_8 (c : Dev nD) (t : Fin cfg0.N) : (dats m 0 c).after 8 t = outH1 (blk m c t) (st m c (t.val + 1)) (blk m c t).h1 := by dsimp only [dats]
theorem after0_9 (c : Dev nD) (t : Fin cfg0.N) : (dats m 0 c).after 9 t = outH3 (blk m c t) (st m c (t.val + 1)) (blk m c t).h1 := by dsimp only [dats]
theorem after0_10 (c : Dev nD) (t : Fin cfg0.N) : (dats m 0 c).after 10 t = outAct (blk m c t) (blk m c t).h1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The rounded cotangent's buffer holds the running array wherever the point does not start it. -/
theorem before0_7 (c : Dev nD) : ∀ (n : ℕ) (hn : n < cfg0.N) (_ : ¬n % 8 = 0) (d), (dats m 0 c).before 7 ⟨n, hn⟩ d = (st m c n).dyb
  | 0, _, h, _ => absurd rfl h
  | n + 1, hn, h, d => by
    have hn' : n < cfg0.N := Nat.lt_of_succ_lt hn
    rw [Dat.before_of_pos (dats m 0 c) 7 ⟨n + 1, hn⟩ (Nat.succ_ne_zero n) rfl d,
      if_neg (fun hf => by have := (flush0_7 _).mp hf; dsimp only at this; omega)]
    show (dats m 0 c).left 7 ⟨n, hn'⟩ d = _
    unfold Dat.left
    by_cases hi : cfg0.idle 7 (grid0.coords ⟨n, hn'⟩) = true
    · have h8 := (idle7_iff ⟨n, hn'⟩).mp hi
      dsimp only at h8
      rw [show cfg0.idle 7 (cfg0.grid.coords ⟨n, hn'⟩) = true from hi]
      dsimp only
      rw [before0_7 c n hn' h8 d]
      exact (step_idle m c ⟨n, hn'⟩ h8).symm
    · rw [show cfg0.idle 7 (cfg0.grid.coords ⟨n, hn'⟩) = false from Bool.eq_false_iff.mpr hi]
      dsimp only
      unfold Dat.kept
      rw [Pipeline.fill_of_clip_none 7 _ (fun _ => rfl) d ((dats m 0 c).after 7 _), Window.fill_cut, after0_7]

/-- What the pipeline asks of the buffer of window `w` after a point: an idle point gives it back as found. -/
def leaves (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leaves_live (c : Dev nD) (w : Fin cfg0.W) (t : Fin cfg0.N) (h : ¬cfg0.idle w (grid0.coords t) = true) :
    leaves m c w t = owns (c : Thread nD τ) ((cfg0.win w).stage (cfg0.slots t w)) fullShare ((dats m 0 c).after w t) := by
  unfold leaves
  rw [show cfg0.idle w (cfg0.grid.coords t) = false from Bool.eq_false_iff.mpr h]

theorem leaves_flush (c : Dev nD) (w : Fin cfg0.W) (t : Fin cfg0.N) (h : (cfg0.win w).flush t = true) :
    leaves m c w t = owns (c : Thread nD τ) ((cfg0.win w).stage (cfg0.slots t w)) fullShare ((dats m 0 c).after w t) := by
  unfold leaves
  rw [h]
  cases cfg0.idle w (cfg0.grid.coords t) <;> rfl

theorem leaves_idle (c : Dev nD) (w : Fin cfg0.W) (t : Fin cfg0.N) (h : cfg0.idle w (grid0.coords t) = true) (hf : ¬(cfg0.win w).flush t = true) :
    leaves m c w t = iprop(∃ d, owns (c : Thread nD τ) ((cfg0.win w).stage (cfg0.slots t w)) fullShare ((dats m 0 c).before w t d)) := by
  unfold leaves
  rw [show cfg0.idle w (cfg0.grid.coords t) = true from h, Bool.eq_false_iff.mpr hf]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ leaves m c 6 t ∗ leaves m c 7 t
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- What the body leaves is what the pipeline asks for. -/
theorem post_of_held (c : Dev nD) (t : Fin cfg0.N) (e6) :
    iprop(held (blk m c t) c (st0_0 t) (st0_1 t) (st0_2 t) (st0_3 t) (st0_4 t) (st0_5 t) (st0_6 t) (st0_7 t) (st0_8 t) (st0_9 t) (st0_10 t)
      (Memref.whole cc0_scratch0) (st m c (t.val + 1))
      (outX (grid0.coords t) (st m c (t.val + 1)) ((dats m 0 c).before 6 t e6)) ((dats m 0 c).after 8 t) ((dats m 0 c).after 9 t) ((dats m 0 c).after 10 t)
      ∗ ((dats m 0 c).owesAt () t.castSucc ∗ ∃ r, prngReg c r)) ⊢ bodyPost m c t := by
  unfold held bodyPost
  rw [show (dats m 0 c).owesAt () t.succ = (dats m 0 c).owesAt () t.castSucc from rfl,
    show (dats m 0 c).Φ t.succ = carried m c (t.val + 1) from rfl,
    after0_0, after0_1, after0_2, after0_3, after0_4, after0_5]
  unfold carried
  iintro ⟨⟨H0, H1, H2, H3, H4, H5, H6, H7, H8, H9, H10, Hb⟩, Ho, Hr⟩
  isplitl [Hb Hr]
  · isplitl [Hb]
    · iexists (st m c (t.val + 1)).acc
      isplitr
      · ipureintro; exact fun _ => rfl
      iexact Hb
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · by_cases h7 : t.val % 8 = 7
    · rw [leaves_flush m c 6 t ((flush0_6 t).mpr h7), after0_6]
      unfold outX
      rw [if_pos ((cond2_iff t).mpr h7)]
      iexact H6
    · rw [leaves_idle m c 6 t ((idle6_iff t).mpr h7) (fun h => h7 ((flush0_6 t).mp h))]
      unfold outX
      rw [if_neg (fun h => h7 ((cond2_iff t).mp h))]
      iexists e6; iexact H6
  isplitl [H7]
  · by_cases h0 : t.val % 8 = 0
    · rw [leaves_live m c 7 t (fun h => (idle7_iff t).mp h h0), after0_7]
      iexact H7
    · by_cases h7 : t.val % 8 = 7
      · rw [leaves_flush m c 7 t ((flush0_7 t).mpr h7), after0_7]
        iexact H7
      · rw [leaves_idle m c 7 t ((idle7_iff t).mpr h0) (fun h => h7 ((flush0_7 t).mp h))]
        iexists (st m c t.val).dyb
        rw [before0_7 m c t.val t.isLt h0, ← step_idle m c t h0]
        iexact H7
  isplitl [H8]; · iexact H8
  isplitl [H9]; · iexact H9
  iexact H10

theorem sound_at (c : Dev nD) (t : Fin cfg0.N) (e6 e7) (y1 y2 y3 : Vec F S1x512x688 .bf16) (b : Vec F S512x2048 .f32)
    (hb : ¬t.val % 8 = 0 → b = (st m c t.val).acc) :
    iprop(held (blk m c t) c (st0_0 t) (st0_1 t) (st0_2 t) (st0_3 t) (st0_4 t) (st0_5 t) (st0_6 t) (st0_7 t) (st0_8 t) (st0_9 t) (st0_10 t)
      (Memref.whole cc0_scratch0) { dyb := (dats m 0 c).before 7 t e7, acc := b } ((dats m 0 c).before 6 t e6) y1 y2 y3
      ∗ ((dats m 0 c).owesAt () t.castSucc ∗ ∃ r, prngReg c r))
      ⊢ wp frame (wpE (defs₀ (F := F)) Variants.none c none) Set.univ (bodyAt0 t) (fun _ => bodyPost m c t) := by
  have h : ¬t.val % 8 = 0 → ({ dyb := (dats m 0 c).before 7 t e7, acc := b } : Acc F).dyb = (st m c t.val).dyb
      ∧ ({ dyb := (dats m 0 c).before 7 t e7, acc := b } : Acc F).acc = (st m c t.val).acc :=
    fun h => ⟨before0_7 m c t.val t.isLt h e7, hb h⟩
  have hs := step_eq m c t { dyb := (dats m 0 c).before 7 t e7, acc := b } h
  have hd : (start (blk m c t) (grid0.coords t) { dyb := (dats m 0 c).before 7 t e7, acc := b }).dyb = (st m c (t.val + 1)).dyb := by
    rw [← hs]; rfl
  have hbd := body (blk m c t) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10))
    (Memref.whole cc0_scratch0) (Memref.isWhole_whole _)
    Set.univ { dyb := (dats m 0 c).before 7 t e7, acc := b } ((dats m 0 c).before 6 t e6) y1 y2 y3
  rw [hs] at hbd
  rw [show outH1 (blk m c t) (start (blk m c t) (grid0.coords t) { dyb := (dats m 0 c).before 7 t e7, acc := b }) y1 = (dats m 0 c).after 8 t from by
      rw [after0_8]; unfold outH1 dh0 dact1; rw [hd]; exact halves_cover _ _ _ _,
    show outH3 (blk m c t) (start (blk m c t) (grid0.coords t) { dyb := (dats m 0 c).before 7 t e7, acc := b }) y2 = (dats m 0 c).after 9 t from by
      rw [after0_9]; unfold outH3 dact0 dact1; rw [hd]; exact halves_cover _ _ _ _,
    show outAct (blk m c t) y3 = (dats m 0 c).after 10 t from by
      rw [after0_10]; exact halves_cover _ _ _ _] at hbd
  exact (sep_mono hbd .rfl).trans ((wp_frame_r _ _ _).trans (wp_mono _ _ _ fun _ => post_of_held m c t e6))

theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2, before0_3, before0_4, before0_5]
  rw [show (dats m 0 c).Φ t.castSucc = carried m c t.val from rfl]
  unfold carried
  iintro ⟨⟨⟨%b, %hb, Hb⟩, Hr⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
  iapply (sound_at m c t e6 e7 _ _ _ b hb)
  unfold held
  isplitr [Ho Hr]
  · isplitl [H0]; · iexact H0

    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact Hb
  isplitl [Ho]; · iexact Ho
  iexact Hr

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffer as the region hands it over, -/
theorem enter (c : Dev nD) : Pipeline.ΦA spec0 c ⊢ (dats (F := F) m 0 c).Φ 0 := by
  rw [show (dats m 0 c).Φ 0 = carried m c 0 from rfl]
  unfold Pipeline.ΦA carried
  rw [scopedRest0_eq]
  simp only [owns_whole]
  iintro ⟨⟨%f, Hf⟩, Hr⟩
  isplitl [Hf]
  · iexists f
    isplitr
    · ipureintro; exact fun h => (h trivial).elim
    iexact Hf
  iexact Hr

/-- and as it takes it back. -/
theorem leave (c : Dev nD) : (dats (F := F) m 0 c).Φ (Fin.last cfg0.N) ⊢ Pipeline.ΦA spec0 c := by
  rw [show (dats m 0 c).Φ (Fin.last cfg0.N) = carried m c cfg0.N from rfl]
  unfold Pipeline.ΦA carried
  rw [scopedRest0_eq]
  simp only [owns_whole]
  iintro ⟨⟨%f, %_, Hf⟩, Hr⟩
  isplitl [Hf]
  · iexists f; iexact Hf
  iexact Hr

set_option backward.isDefEq.respectTransparency.types false in
/-- The launch. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were, and every counter at zero. -/
theorem frame_at : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FfnIdeal.Step
-- ==== Proof.FfnClaim.lean ====
/- The frames of the backward call of the half-step SwiGLU, for the kernel over bits, over extended reals, and for the reference. -/
module

public import proofs.«01_k».proof.Defs
public import proofs.«01_k».proof.Proof.FfnFrame
public import proofs.«01_k».proof.Proof.Gen.Ffn
public import proofs.«01_k».proof.Proof.Gen.FfnRefIdeal.Run
public import proofs.«01_k».proof.Proof.Gen.Pre_finite_ffn
public import Idealize.ShloMosaic.Lib.Quiescent
public import Idealize.ShloMosaic.Lib.Tactic.ProgEq

@[expose] public section

noncomputable section

namespace Cert.Ffn.Claim

open Idealize.ShloMosaic Idealize.ShloMosaic.TcCoe Idealize.SL.Sem

theorem frame : Cert.quiescent_Ffn (hFfn := Cert.Ffn.Gen.facts) := fun m ρ _ =>
  cast (by sl_kernel_rfl) (Cert.FfnIdeal.Step.frame_at (F := Bits) m ρ)

theorem frame_ideal : Cert.quiescent_FfnIdeal (hFfnIdeal := Cert.FfnIdeal.Gen.facts) := fun m ρ _ =>
  Cert.FfnIdeal.Step.frame_at m ρ

theorem frame_ideal_pre : Cert.quiescent_FfnIdeal_pre_finite_ffn (hFfnIdeal := Cert.FfnIdeal.Gen.facts)
    (hPre_finite_ffn := Cert.Pre_finite_ffn.Gen.facts) := fun m ρ _ => Cert.FfnIdeal.Step.frame_at m ρ

theorem ref_run (m : (ℓ : Loc Cert.FfnRefIdeal.nD Cert.FfnRefIdeal.τ Cert.FfnRefIdeal.sig) → Buf (Elt Ideal) ℓ)
    (g : Dev Cert.FfnRefIdeal.nD → PrngReg) :
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread _ _).loc Cert.FfnRefIdeal.main_arg0) = m ((c.tc : Thread _ _).loc Cert.FfnRefIdeal.main_arg0)
      ∧ r.2.mem ((c.tc : Thread _ _).loc Cert.FfnRefIdeal.main_arg1) = m ((c.tc : Thread _ _).loc Cert.FfnRefIdeal.main_arg1)
      ∧ r.2.mem ((c.tc : Thread _ _).loc Cert.FfnRefIdeal.main_arg2) = m ((c.tc : Thread _ _).loc Cert.FfnRefIdeal.main_arg2)
      ∧ r.2.mem ((c.tc : Thread _ _).loc Cert.FfnRefIdeal.main_arg3) = m ((c.tc : Thread _ _).loc Cert.FfnRefIdeal.main_arg3)
      ∧ r.2.mem ((c.tc : Thread _ _).loc Cert.FfnRefIdeal.main_arg4) = m ((c.tc : Thread _ _).loc Cert.FfnRefIdeal.main_arg4))
      ∧ r.2.sem = fun _ => 0) :=
  (θ_run _ _ _).mono (fun r h => ⟨fun c => (h c).2.2.2.2.2, sem_eq_zero_of_no_sems (by decide) r.2⟩)
    (Cert.FfnRefIdeal.Value.run (F := Ideal) m g)

theorem frame_ref : Cert.quiescent_FfnRefIdeal (hFfnRefIdeal := Cert.FfnRefIdeal.Gen.facts) := fun m g _ => ref_run m g

theorem frame_ref_pre : Cert.quiescent_FfnRefIdeal_pre_finite_ffn (hFfnRefIdeal := Cert.FfnRefIdeal.Gen.facts)
    (hPre_finite_ffn := Cert.Pre_finite_ffn.Gen.facts) := fun m g _ => ref_run m g

end Cert.Ffn.Claim

end
-- ==== Proof.FfnPay.lean ====
/-
  The steps of the half-step SwiGLU's backward kernel read at an index.
-/
module

public import proofs.«01_k».proof.Proof.FfnFrame
public import proofs.«01_k».proof.Proof.AttnPay
public import proofs.«01_k».proof.Proof.Shapes
public import Idealize.ShloMosaic.Lib.Pointwise

@[expose] public section

set_option maxRecDepth 16384

noncomputable section

namespace Cert.FfnIdeal.Step

open Cert.FfnIdeal Cert.FfnIdeal.Gen
open Cert.AttnIdeal.Step (emb2 emb3 put2 put3)
open Idealize.ShloMosaic
open VecWindow (window put)

/-- The two constants of the call, as the exact values of their words. -/
abbrev half : EReal := Ideal.ofBits .f32 0x3F000000#32
abbrev one : EReal := Ideal.ofBits .f32 0x3F800000#32

/-- The derivative of `h ↦ h · σ(h)` as the kernel writes it. -/
def slope (h : EReal) : EReal := Ideal.logistic h * (one + h * (one - Ideal.logistic h))

variable (x : Blk Ideal) (s : Acc Ideal)

/-- The gradient of the gated product of row `r` at the hidden column `k` of a block, -/
def dA (r : Fin 512) (k : Fin 688) : EReal := half * ∑ d : Fin 2048, s.dyb (ix2 r d) * x.w2 (ix3 0 k d)

/-- of the first product, -/
def dH1 (r : Fin 512) (k : Fin 688) : EReal := dA x s r k * x.h3 (ix3 0 r k) * slope (x.h1 (ix3 0 r k))

/-- and of the second. -/
def dH3 (r : Fin 512) (k : Fin 688) : EReal := dA x s r k * (x.h1 (ix3 0 r k) * Ideal.logistic (x.h1 (ix3 0 r k)))

/-- The gated product. -/
def gated (r : Fin 512) (k : Fin 688) : EReal := x.h1 (ix3 0 r k) * Ideal.logistic (x.h1 (ix3 0 r k)) * x.h3 (ix3 0 r k)

/-- A row of the first half of a block, and one of the second. -/
abbrev lo (r : Fin 256) : Fin 512 := ⟨r.val, by omega⟩
abbrev hi (r : Fin 256) : Fin 512 := ⟨256 + r.val, by omega⟩

theorem lo_or_hi (r : Fin 512) : (∃ i, r = lo i) ∨ ∃ i, r = hi i :=
  if h : r.val < 256 then .inl ⟨⟨r.val, h⟩, rfl⟩
  else .inr ⟨⟨r.val - 256, by omega⟩, Fin.ext (by show r.val = 256 + (r.val - 256); omega)⟩

theorem dact0_apply (r : Fin 256) (k : Fin 688) : dact0 x s (ix2 r k) = dA x s (lo r) k := by
  unfold dA
  pointwise [k0_pay4, window, emb2, zero_add]

theorem dact1_apply (r : Fin 256) (k : Fin 688) : dact1 x s (ix2 r k) = dA x s (hi r) k := by
  unfold dA
  pointwise [k0_pay5, window, emb2, zero_add]

theorem act0_apply (r : Fin 256) (k : Fin 688) : act0 x (ix2 r k) = x.h1 (ix3 0 (lo r) k) * Ideal.logistic (x.h1 (ix3 0 (lo r) k)) := by
  pointwise [k0_pay9, k0_pay8, k0_pay6, window, emb3, zero_add]

theorem h1f_apply (r : Fin 256) (k : Fin 688) : h1f x (ix2 r k) = x.h1 (ix3 0 (hi r) k) := by
  pointwise [k0_pay17, window, emb3]

theorem dh0_apply (r : Fin 256) (k : Fin 688) : dh0 x s (ix2 r k) = dH1 x s (lo r) k := by
  unfold dH1 slope
  rw [← dact0_apply]
  pointwise [k0_pay10, k0_pay8, k0_pay7, k0_pay6, window, emb3, zero_add]

theorem dh1_apply (r : Fin 256) (k : Fin 688) : k0_pay21 (dact1 x s) (h1f x) (hhigh x.h3) (ix2 r k) = dH1 x s (hi r) k := by
  unfold dH1 slope
  rw [← dact1_apply, ← h1f_apply]
  pointwise [k0_pay21, k0_pay19, k0_pay18, window, emb3]

theorem dh3_apply (r : Fin 256) (k : Fin 688) : k0_pay22 (dact1 x s) (h1f x) (ix2 r k) = dH3 x s (hi r) k := by
  unfold dH3
  rw [← dact1_apply, ← h1f_apply]
  pointwise [k0_pay22, k0_pay20, k0_pay19]

theorem dh30_apply (r : Fin 256) (k : Fin 688) : k0_pay12 (dact0 x s) (act0 x) (ix2 r k) = dH3 x s (lo r) k := by
  unfold dH3
  rw [← dact0_apply, ← act0_apply]
  pointwise [k0_pay12]

/-- A block given by its two halves, read at an index. -/
theorem halves_apply (y : Vec Ideal S1x512x688 .bf16) (a b : Vec Ideal S1x256x688 .bf16) (f : Fin 512 → Fin 688 → EReal)
    (ha : ∀ r k, a (ix3 0 r k) = f (lo r) k) (hb : ∀ r k, b (ix3 0 r k) = f (hi r) k) (r : Fin 512) (k : Fin 688) :
    halves y a b (ix3 0 r k) = f r k := by
  refine (put3 (n := 512) (b := 688) (w := 256) _ b 256 r k).trans ?_
  obtain ⟨i, rfl⟩ | ⟨i, rfl⟩ := lo_or_hi r
  · rw [dif_neg (fun h => by have := h.1; change 256 ≤ i.val at this; omega)]
    refine (put3 (n := 512) (b := 688) (w := 256) y a 0 (lo i) k).trans ?_
    rw [dif_pos ⟨Nat.zero_le _, by show i.val < 0 + 256; omega⟩]
    exact (congrArg (fun j => a (ix3 0 j k)) (Fin.ext (Nat.sub_zero _))).trans (ha i k)
  · rw [dif_pos ⟨by show 256 ≤ 256 + i.val; omega, by show 256 + i.val < 256 + 256; omega⟩]
    exact (congrArg (fun j => b (ix3 0 j k)) (Fin.ext (by show 256 + i.val - 256 = i.val; omega))).trans (hb i k)

theorem outH1_apply (y : Vec Ideal S1x512x688 .bf16) (r : Fin 512) (k : Fin 688) : outH1 x s y (ix3 0 r k) = dH1 x s r k := by
  refine halves_apply y _ _ (dH1 x s) (fun r k => ?_) (fun r k => ?_) r k
  · rw [← dh0_apply]
    pointwise [k0_pay13, k0_pay11]
  · rw [← dh1_apply]
    pointwise [k0_pay23]

theorem outH3_apply (y : Vec Ideal S1x512x688 .bf16) (r : Fin 512) (k : Fin 688) : outH3 x s y (ix3 0 r k) = dH3 x s r k := by
  refine halves_apply y _ _ (dH3 x s) (fun r k => ?_) (fun r k => ?_) r k
  · rw [← dh30_apply]
    pointwise [k0_pay14]
  · rw [← dh3_apply]
    pointwise [k0_pay24]

theorem outAct_apply (y : Vec Ideal S1x512x688 .bf16) (r : Fin 512) (k : Fin 688) : outAct x y (ix3 0 r k) = gated x r k := by
  refine halves_apply y _ _ (gated x) (fun r k => ?_) (fun r k => ?_) r k
  · unfold gated
    rw [← act0_apply]
    pointwise [k0_pay15, k0_pay7, window, emb3, zero_add]
  · unfold gated
    rw [← h1f_apply]
    pointwise [k0_pay25, k0_pay20, k0_pay19, k0_pay18, window, emb3]

/-- What a block of the hidden width adds to the gradient. -/
def part (r : Fin 512) (d : Fin 2048) : EReal :=
  (∑ k : Fin 688, dH1 x s r k * x.w1 (ix3 0 d k)) + ∑ k : Fin 688, dH3 x s r k * x.w3 (ix3 0 d k)

theorem low_apply (a : Vec Ideal S512x2048 .f32) (r : Fin 256) (d : Fin 2048) : low a (ix2 r d) = a (ix2 (lo r) d) := by
  pointwise [window, emb2, zero_add]

theorem high_apply (a : Vec Ideal S512x2048 .f32) (r : Fin 256) (d : Fin 2048) : high a (ix2 r d) = a (ix2 (hi r) d) := by
  pointwise [window, emb2]

theorem accNew_apply (r : Fin 512) (d : Fin 2048) : accNew x s (ix2 r d) = s.acc (ix2 r d) + part x s r d := by
  unfold accNew accLow part
  refine (put2 (n := 512) (b := 2048) (w := 256) _ _ 256 r d).trans ?_
  obtain ⟨i, rfl⟩ | ⟨i, rfl⟩ := lo_or_hi r
  · rw [dif_neg (fun h => by have := h.1; change 256 ≤ i.val at this; omega)]
    refine (put2 (n := 512) (b := 2048) (w := 256) s.acc _ 0 (lo i) d).trans ?_
    rw [dif_pos ⟨Nat.zero_le _, by show i.val < 0 + 256; omega⟩]
    refine (congrArg (fun j => k0_pay16 (F := Ideal) (dact0 x s) (act0 x) (dh0 x s) (low s.acc) x.w1 x.w3 (ix2 j d)) (Fin.ext (Nat.sub_zero _))).trans ?_
    simp only [← dh0_apply, ← dh30_apply, ← low_apply]
    pointwise [k0_pay16, k0_pay11]
  · rw [dif_pos ⟨by show 256 ≤ 256 + i.val; omega, by show 256 + i.val < 256 + 256; omega⟩]
    refine (congrArg (fun j => k0_pay1 (F := Ideal) (k0_pay26 (dact1 x s) (h1f x) (hhigh x.h3) (high s.acc) x.w1 x.w3) (ix2 j d)) (Fin.ext (b := i) (by show 256 + i.val - 256 = i.val; omega))).trans ?_
    simp only [← dh1_apply, ← dh3_apply, ← high_apply]
    pointwise [k0_pay1, k0_pay26]

end Cert.FfnIdeal.Step

end
-- ==== Proof.FfnVal.lean ====
/-
  The half-step SwiGLU's backward kernel over its grid: the arrays it leaves, each element as sums over the arrays it reads.
-/
module

public import proofs.«01_k».proof.Proof.FfnPay

@[expose] public section

set_option maxRecDepth 16384

noncomputable section

namespace Cert.FfnIdeal.Step

open Cert.FfnIdeal Cert.FfnIdeal.Gen Cert.Shapes
open Idealize.ShloMosaic Idealize.ShloMosaic.TcCoe
open Idealize.ShloMosaic.Pipeline (Dat Cfg Window)

variable (m : (ℓ : Loc nD τ sig) → Buf (Elt Ideal) ℓ) (c : Dev nD)

/-! ## The arrays the kernel reads -/

def Ya : S4096x2048.Idx → EReal := V m c main_arg4
def H1a : S8x4096x688.Idx → EReal := V m c main_v11
def H3a : S8x4096x688.Idx → EReal := V m c main_v14
def W1a : S8x2048x688.Idx → EReal := V m c main_v2
def W3a : S8x2048x688.Idx → EReal := V m c main_v5
def W2a : S8x688x2048.Idx → EReal := V m c main_v7

/-- The gradient of the gated product of row `i` at column `k` of the hidden block `j`, -/
def DA (i : Fin 4096) (j : Fin 8) (k : Fin 688) : EReal := half * ∑ d : Fin 2048, Ya m c (ix2 i d) * W2a m c (ix3 j k d)

/-- of the first product, -/
def DH1 (i : Fin 4096) (j : Fin 8) (k : Fin 688) : EReal := DA m c i j k * H3a m c (ix3 j i k) * slope (H1a m c (ix3 j i k))

/-- of the second, -/
def DH3 (i : Fin 4096) (j : Fin 8) (k : Fin 688) : EReal :=
  DA m c i j k * (H1a m c (ix3 j i k) * Ideal.logistic (H1a m c (ix3 j i k)))

/-- the gated product, -/
def GA (i : Fin 4096) (j : Fin 8) (k : Fin 688) : EReal := H1a m c (ix3 j i k) * Ideal.logistic (H1a m c (ix3 j i k)) * H3a m c (ix3 j i k)

/-- and what the hidden block adds to the gradient of the input. -/
def DX (i : Fin 4096) (d : Fin 2048) (j : Fin 8) : EReal :=
  (∑ k : Fin 688, DH1 m c i j k * W1a m c (ix3 j d k)) + ∑ k : Fin 688, DH3 m c i j k * W3a m c (ix3 j d k)

/-! ## The blocks at a point -/

theorem lt_N (t : Fin cfg0.N) : t.val < 64 := lt_of_lt_of_eq t.isLt (show cfg0.N = 64 from N_0)

abbrev ri (t : Fin cfg0.N) : Fin 8 := ⟨t.val / 8, by have := lt_N t; omega⟩
abbrev hj (t : Fin cfg0.N) : Fin 8 := ⟨t.val % 8, by omega⟩

/-- The rows, by blocks of 512. -/
abbrev rowOf (n : Fin 8) (r : Fin 512) : Fin 4096 := ⟨512 * n.val + r.val, by omega⟩

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx6 : ∀ t : Fin cfg0.N, win0_6.index t 0 = t.val / 8 ∧ win0_6.index t 1 = 0 :=
  (by decide +kernel : ∀ t : Fin grid0.N, win0_6.index t 0 = t.val / 8 ∧ win0_6.index t 1 = 0)
theorem idx7 : ∀ t : Fin cfg0.N, win0_7.index t 0 = t.val / 8 ∧ win0_7.index t 1 = 0 :=
  (by decide +kernel : ∀ t : Fin grid0.N, win0_7.index t 0 = t.val / 8 ∧ win0_7.index t 1 = 0)
theorem idx1 : ∀ t : Fin cfg0.N, win0_1.index t 0 = t.val % 8 ∧ win0_1.index t 1 = t.val / 8 ∧ win0_1.index t 2 = 0 :=
  (by decide +kernel : ∀ t : Fin grid0.N, win0_1.index t 0 = t.val % 8 ∧ win0_1.index t 1 = t.val / 8 ∧ win0_1.index t 2 = 0)
theorem idx2 : ∀ t : Fin cfg0.N, win0_2.index t 0 = t.val % 8 ∧ win0_2.index t 1 = t.val / 8 ∧ win0_2.index t 2 = 0 :=
  (by decide +kernel : ∀ t : Fin grid0.N, win0_2.index t 0 = t.val % 8 ∧ win0_2.index t 1 = t.val / 8 ∧ win0_2.index t 2 = 0)
theorem idx8 : ∀ t : Fin cfg0.N, win0_8.index t 0 = t.val % 8 ∧ win0_8.index t 1 = t.val / 8 ∧ win0_8.index t 2 = 0 :=
  (by decide +kernel : ∀ t : Fin grid0.N, win0_8.index t 0 = t.val % 8 ∧ win0_8.index t 1 = t.val / 8 ∧ win0_8.index t 2 = 0)
theorem idx9 : ∀ t : Fin cfg0.N, win0_9.index t 0 = t.val % 8 ∧ win0_9.index t 1 = t.val / 8 ∧ win0_9.index t 2 = 0 :=
  (by decide +kernel : ∀ t : Fin grid0.N, win0_9.index t 0 = t.val % 8 ∧ win0_9.index t 1 = t.val / 8 ∧ win0_9.index t 2 = 0)
theorem idx10 : ∀ t : Fin cfg0.N, win0_10.index t 0 = t.val % 8 ∧ win0_10.index t 1 = t.val / 8 ∧ win0_10.index t 2 = 0 :=
  (by decide +kernel : ∀ t : Fin grid0.N, win0_10.index t 0 = t.val % 8 ∧ win0_10.index t 1 = t.val / 8 ∧ win0_10.index t 2 = 0)
theorem idx3 : ∀ t : Fin cfg0.N, win0_3.index t 0 = t.val % 8 ∧ win0_3.index t 1 = 0 ∧ win0_3.index t 2 = 0 :=
  (by decide +kernel : ∀ t : Fin grid0.N, win0_3.index t 0 = t.val % 8 ∧ win0_3.index t 1 = 0 ∧ win0_3.index t 2 = 0)
theorem idx4 : ∀ t : Fin cfg0.N, win0_4.index t 0 = t.val % 8 ∧ win0_4.index t 1 = 0 ∧ win0_4.index t 2 = 0 :=
  (by decide +kernel : ∀ t : Fin grid0.N, win0_4.index t 0 = t.val % 8 ∧ win0_4.index t 1 = 0 ∧ win0_4.index t 2 = 0)
theorem idx5 : ∀ t : Fin cfg0.N, win0_5.index t 0 = t.val % 8 ∧ win0_5.index t 1 = 0 ∧ win0_5.index t 2 = 0 :=
  (by decide +kernel : ∀ t : Fin grid0.N, win0_5.index t 0 = t.val % 8 ∧ win0_5.index t 1 = 0 ∧ win0_5.index t 2 = 0)

theorem blk_dy (t : Fin cfg0.N) (r : Fin 512) (d : Fin 2048) : (blk m c t).dy (ix2 r d) = Ya m c (ix2 (rowOf (ri t) r) d) := by
  show iblk m c 0 t (ix2 r d) = _
  unfold iblk Ya
  rw [View.read_apply]
  show V m c main_arg4 _ = _
  refine congrArg (V m c main_arg4) (funext fun a => Fin.ext ?_)
  obtain ⟨e0, e1⟩ := idx0 t
  match a with
  | ⟨0, _⟩ => show win0_0.index t 0 * 512 + 1 * r.val = 512 * (t.val / 8) + r.val; omega
  | ⟨1, _⟩ => show win0_0.index t 1 * 2048 + 1 * d.val = d.val; omega

theorem blk_h1 (t : Fin cfg0.N) (r : Fin 512) (k : Fin 688) : (blk m c t).h1 (ix3 0 r k) = H1a m c (ix3 (hj t) (rowOf (ri t) r) k) := by
  show iblk m c 1 t (ix3 0 r k) = _
  unfold iblk H1a
  rw [View.read_apply]
  show V m c main_v11 _ = _
  refine congrArg (V m c main_v11) (funext fun a => Fin.ext ?_)
  obtain ⟨e0, e1, e2⟩ := idx1 t
  match a with
  | ⟨0, _⟩ => show win0_1.index t 0 * 1 + 1 * 0 = t.val % 8; omega
  | ⟨1, _⟩ => show win0_1.index t 1 * 512 + 1 * r.val = 512 * (t.val / 8) + r.val; omega
  | ⟨2, _⟩ => show win0_1.index t 2 * 688 + 1 * k.val = k.val; omega

theorem blk_h3 (t : Fin cfg0.N) (r : Fin 512) (k : Fin 688) : (blk m c t).h3 (ix3 0 r k) = H3a m c (ix3 (hj t) (rowOf (ri t) r) k) := by
  show iblk m c 2 t (ix3 0 r k) = _
  unfold iblk H3a
  rw [View.read_apply]
  show V m c main_v14 _ = _
  refine congrArg (V m c main_v14) (funext fun a => Fin.ext ?_)
  obtain ⟨e0, e1, e2⟩ := idx2 t
  match a with
  | ⟨0, _⟩ => show win0_2.index t 0 * 1 + 1 * 0 = t.val % 8; omega
  | ⟨1, _⟩ => show win0_2.index t 1 * 512 + 1 * r.val = 512 * (t.val / 8) + r.val; omega
  | ⟨2, _⟩ => show win0_2.index t 2 * 688 + 1 * k.val = k.val; omega

theorem blk_w1 (t : Fin cfg0.N) (d : Fin 2048) (k : Fin 688) : (blk m c t).w1 (ix3 0 d k) = W1a m c (ix3 (hj t) d k) := by
  show iblk m c 3 t (ix3 0 d k) = _
  unfold iblk W1a
  rw [View.read_apply]
  show V m c main_v2 _ = _
  refine congrArg (V m c main_v2) (funext fun a => Fin.ext ?_)
  obtain ⟨e0, e1, e2⟩ := idx3 t
  match a with
  | ⟨0, _⟩ => show win0_3.index t 0 * 1 + 1 * 0 = t.val % 8; omega
  | ⟨1, _⟩ => show win0_3.index t 1 * 2048 + 1 * d.val = d.val; omega
  | ⟨2, _⟩ => show win0_3.index t 2 * 688 + 1 * k.val = k.val; omega

theorem blk_w3 (t : Fin cfg0.N) (d : Fin 2048) (k : Fin 688) : (blk m c t).w3 (ix3 0 d k) = W3a m c (ix3 (hj t) d k) := by
  show iblk m c 4 t (ix3 0 d k) = _
  unfold iblk W3a
  rw [View.read_apply]
  show V m c main_v5 _ = _
  refine congrArg (V m c main_v5) (funext fun a => Fin.ext ?_)
  obtain ⟨e0, e1, e2⟩ := idx4 t
  match a with
  | ⟨0, _⟩ => show win0_4.index t 0 * 1 + 1 * 0 = t.val % 8; omega
  | ⟨1, _⟩ => show win0_4.index t 1 * 2048 + 1 * d.val = d.val; omega
  | ⟨2, _⟩ => show win0_4.index t 2 * 688 + 1 * k.val = k.val; omega

theorem blk_w2 (t : Fin cfg0.N) (k : Fin 688) (d : Fin 2048) : (blk m c t).w2 (ix3 0 k d) = W2a m c (ix3 (hj t) k d) := by
  show iblk m c 5 t (ix3 0 k d) = _
  unfold iblk W2a
  rw [View.read_apply]
  show V m c main_v7 _ = _
  refine congrArg (V m c main_v7) (funext fun a => Fin.ext ?_)
  obtain ⟨e0, e1, e2⟩ := idx5 t
  match a with
  | ⟨0, _⟩ => show win0_5.index t 0 * 1 + 1 * 0 = t.val % 8; omega
  | ⟨1, _⟩ => show win0_5.index t 1 * 688 + 1 * k.val = k.val; omega
  | ⟨2, _⟩ => show win0_5.index t 2 * 2048 + 1 * d.val = d.val; omega

/-! ## The running arrays -/

/-- The point of the row block `i` and the hidden block `j`. -/
abbrev pt (i : Fin 8) (j : ℕ) (hj : j < 8) : Fin cfg0.N :=
  ⟨8 * i.val + j, lt_of_lt_of_eq (by omega : _ < 64) (show 64 = cfg0.N from N_0.symm)⟩

theorem start_first (t : Fin cfg0.N) (h : t.val % 8 = 0) (s : Acc Ideal) :
    start (blk m c t) (grid0.coords t) s = { dyb := k0_pay3 (F := Ideal) (blk m c t).dy, acc := k0_pay2 (F := Ideal) } := if_pos ((cond1_iff t).mpr h)

theorem start_later (t : Fin cfg0.N) (h : ¬t.val % 8 = 0) (s : Acc Ideal) :
    start (blk m c t) (grid0.coords t) s = s := if_neg (fun e => h ((cond1_iff t).mp e))

/-- The rounded cotangent after a point is the row block's. -/
theorem dyb_pt (i : Fin 8) (r : Fin 512) (d : Fin 2048) :
    ∀ (n : ℕ) (_ : n < 8), (st m c (8 * i.val + n + 1)).dyb (ix2 r d) = Ya m c (ix2 (rowOf i r) d)
  | 0, hn => by
    rw [show 8 * i.val + 0 + 1 = (pt i 0 hn).val + 1 from rfl, st_succ]
    unfold step
    rw [start_first m c (pt i 0 hn) (by show (8 * i.val + 0) % 8 = 0; omega)]
    show (blk m c (pt i 0 hn)).dy (ix2 r d) = _
    rw [blk_dy]
    refine congrArg (fun q => Ya m c (ix2 q d)) (Fin.ext ?_)
    show 512 * ((8 * i.val + 0) / 8) + r.val = 512 * i.val + r.val
    omega
  | n + 1, hn => by
    rw [show 8 * i.val + (n + 1) + 1 = (pt i (n + 1) hn).val + 1 from rfl, st_succ]
    unfold step
    rw [start_later m c (pt i (n + 1) hn) (by show ¬(8 * i.val + (n + 1)) % 8 = 0; omega)]
    exact dyb_pt i r d n (by omega)

theorem dyb_at (t : Fin cfg0.N) (r : Fin 512) (d : Fin 2048) :
    (st m c (t.val + 1)).dyb (ix2 r d) = Ya m c (ix2 (rowOf (ri t) r) d) := by
  have e : t.val + 1 = 8 * (ri t).val + t.val % 8 + 1 := by show t.val + 1 = 8 * (t.val / 8) + t.val % 8 + 1; omega
  rw [e]
  exact dyb_pt m c (ri t) r d (t.val % 8) (by omega)

section
variable (t : Fin cfg0.N) (s : Acc Ideal) (hs : ∀ r d, s.dyb (ix2 r d) = Ya m c (ix2 (rowOf (ri t) r) d))
include hs

theorem dA_at (r : Fin 512) (k : Fin 688) : dA (blk m c t) s r k = DA m c (rowOf (ri t) r) (hj t) k := by
  unfold dA DA
  simp only [hs, blk_w2]

theorem dH1_at (r : Fin 512) (k : Fin 688) : dH1 (blk m c t) s r k = DH1 m c (rowOf (ri t) r) (hj t) k := by
  unfold dH1 DH1
  rw [dA_at m c t s hs, blk_h1, blk_h3]

theorem dH3_at (r : Fin 512) (k : Fin 688) : dH3 (blk m c t) s r k = DH3 m c (rowOf (ri t) r) (hj t) k := by
  unfold dH3 DH3
  rw [dA_at m c t s hs, blk_h1]

theorem part_at (r : Fin 512) (d : Fin 2048) : part (blk m c t) s r d = DX m c (rowOf (ri t) r) d (hj t) := by
  unfold part DX
  simp only [dH1_at m c t s hs, dH3_at m c t s hs, blk_w1, blk_w3]

end

theorem gated_at (t : Fin cfg0.N) (r : Fin 512) (k : Fin 688) : gated (blk m c t) r k = GA m c (rowOf (ri t) r) (hj t) k := by
  unfold gated GA
  rw [blk_h1, blk_h3]

theorem zero_start (i : S512x2048.Idx) : (k0_pay2 (F := Ideal)) i = 0 := by
  obtain ⟨r, d, rfl⟩ : ∃ (r : Fin 512) (d : Fin 2048), i = ix2 r d := ⟨_, _, eq_ix2 i⟩
  pointwise [k0_pay2]

theorem acc_step (t : Fin cfg0.N) (r : Fin 512) (d : Fin 2048) : (st m c (t.val + 1)).acc (ix2 r d)
    = (if t.val % 8 = 0 then 0 else (st m c t.val).acc (ix2 r d)) + DX m c (rowOf (ri t) r) d (hj t) := by
  have hd := dyb_at m c t
  rw [st_succ] at hd ⊢
  unfold step at hd ⊢
  dsimp only at hd ⊢
  rw [accNew_apply, part_at m c t _ hd]
  refine congrArg (fun y : EReal => y + _) ?_
  by_cases h : t.val % 8 = 0
  · rw [start_first m c t h, if_pos h]
    exact zero_start (ix2 r d)
  · rw [start_later m c t h, if_neg h]

theorem acc_last (i : Fin 8) (r : Fin 512) (d : Fin 2048) :
    (st m c (8 * i.val + 7 + 1)).acc (ix2 r d) = ∑ j : Fin 8, DX m c (rowOf i r) d j := by
  have at_pt : ∀ j (hh : j < 8), DX m c (rowOf (ri (pt i j hh)) r) d (hj (pt i j hh)) = DX m c (rowOf i r) d ⟨j, hh⟩ := by
    intro j hh
    have e1 : ri (pt i j hh) = i := Fin.ext (by show (8 * i.val + j) / 8 = i.val; omega)
    have e2 : hj (pt i j hh) = ⟨j, hh⟩ := Fin.ext (by show (8 * i.val + j) % 8 = j; omega)
    rw [e1, e2]
  refine running (DX m c (rowOf i r) d) (fun n _ => (st m c (8 * i.val + n + 1)).acc (ix2 r d)) (fun hq => ?_) (fun n hq => ?_) 7 (by decide)
  · refine (acc_step m c (pt i 0 hq) r d).trans ?_
    rw [if_pos (by show (8 * i.val + 0) % 8 = 0; omega), zero_add, at_pt]
  · refine (acc_step m c (pt i (n + 1) hq) r d).trans ?_
    rw [if_neg (by show ¬(8 * i.val + (n + 1)) % 8 = 0; omega), at_pt]
    rfl

/-! ## The arrays left -/

def dxAll : S4096x2048.Idx → EReal := fun i => ∑ j : Fin 8, DX m c (i 0) (i 1) j
def dh1All : S8x4096x688.Idx → EReal := fun i => DH1 m c (i 1) (i 0) (i 2)
def dh3All : S8x4096x688.Idx → EReal := fun i => DH3 m c (i 1) (i 0) (i 2)
def gaAll : S8x4096x688.Idx → EReal := fun i => GA m c (i 1) (i 0) (i 2)

theorem out_dx : (dats m 0 c).arrAt 6 cfg0.N = dxAll m c := by
  have hN : cfg0.N = 64 := N_0
  refine (dats m 0 c).arrAt_eq_of_cover 6 (dxAll m c) (fun t hf => ?_) fun i => ?_
  · have h7 := (flush0_6 t).mp hf
    obtain ⟨e0, e1⟩ := idx6 t
    show (cfg0.win 6).cut (grid0.coords t) ((dats m 0 c).after 6 t) = _
    rw [after0_6]
    funext j
    obtain ⟨r, d, rfl⟩ : ∃ (r : Fin 512) (d : Fin 2048), j = ix2 r d := ⟨_, _, eq_ix2 j⟩
    rw [View.read_apply]
    have e : ((((cfg0.win 6).blk t).view.emb (ix2 r d)) : S4096x2048.Idx) = ix2 (rowOf (ri t) r) d := funext fun a => Fin.ext (by
      match a with
      | ⟨0, _⟩ => show win0_6.index t 0 * 512 + 1 * r.val = 512 * (t.val / 8) + r.val; omega
      | ⟨1, _⟩ => show win0_6.index t 1 * 2048 + 1 * d.val = d.val; omega)
    refine Eq.trans ?_ (congrArg (dxAll m c) e.symm)
    refine Eq.trans ?_ (acc_last m c (ri t) r d)
    have et : 8 * (ri t).val + 7 + 1 = t.val + 1 := by
      show 8 * (t.val / 8) + 7 + 1 = t.val + 1
      omega
    rw [et]
    rfl
  · have h0 : (i 0 : Nat) < 4096 := (i 0).isLt
    have h1 : (i 1 : Nat) < 2048 := (i 1).isLt
    have ht : 8 * ((i 0 : Nat) / 512) + 7 < cfg0.N := by omega
    obtain ⟨e0, e1⟩ := idx6 ⟨_, ht⟩
    dsimp only at e0 e1
    refine ⟨⟨_, ht⟩, (flush0_6 _).mpr (by dsimp only; omega), ?_⟩
    show i ∈ ((View.whole main_v15_0).slice (win0_6.rect ⟨_, ht⟩)).set
    rw [View.set_slice_whole, Rect.mem_set_unit]
    intro a
    match a with
    | ⟨0, _⟩ => show win0_6.index ⟨_, ht⟩ 0 * 512 ≤ (i 0 : Nat) ∧ (i 0 : Nat) < win0_6.index ⟨_, ht⟩ 0 * 512 + 512; omega
    | ⟨1, _⟩ => show win0_6.index ⟨_, ht⟩ 1 * 2048 ≤ (i 1 : Nat) ∧ (i 1 : Nat) < win0_6.index ⟨_, ht⟩ 1 * 2048 + 2048; omega

theorem out_dy : (dats m 0 c).arrAt 7 cfg0.N = Ya m c := by
  have hN : cfg0.N = 64 := N_0
  refine (dats m 0 c).arrAt_eq_of_cover 7 (Ya m c) (fun t hf => ?_) fun i => ?_
  · have h7 := (flush0_7 t).mp hf
    obtain ⟨e0, e1⟩ := idx7 t
    show (cfg0.win 7).cut (grid0.coords t) ((dats m 0 c).after 7 t) = _
    rw [after0_7]
    funext j
    obtain ⟨r, d, rfl⟩ : ∃ (r : Fin 512) (d : Fin 2048), j = ix2 r d := ⟨_, _, eq_ix2 j⟩
    rw [View.read_apply]
    have e : ((((cfg0.win 7).blk t).view.emb (ix2 r d)) : S4096x2048.Idx) = ix2 (rowOf (ri t) r) d := funext fun a => Fin.ext (by
      match a with
      | ⟨0, _⟩ => show win0_7.index t 0 * 512 + 1 * r.val = 512 * (t.val / 8) + r.val; omega
      | ⟨1, _⟩ => show win0_7.index t 1 * 2048 + 1 * d.val = d.val; omega)
    refine Eq.trans ?_ (congrArg (Ya m c) e.symm)
    exact dyb_at m c t r d
  · have h0 : (i 0 : Nat) < 4096 := (i 0).isLt
    have h1 : (i 1 : Nat) < 2048 := (i 1).isLt
    have ht : 8 * ((i 0 : Nat) / 512) + 7 < cfg0.N := by omega
    obtain ⟨e0, e1⟩ := idx7 ⟨_, ht⟩
    dsimp only at e0 e1
    refine ⟨⟨_, ht⟩, (flush0_7 _).mpr (by dsimp only; omega), ?_⟩
    show i ∈ ((View.whole main_v15_1).slice (win0_7.rect ⟨_, ht⟩)).set
    rw [View.set_slice_whole, Rect.mem_set_unit]
    intro a
    match a with
    | ⟨0, _⟩ => show win0_7.index ⟨_, ht⟩ 0 * 512 ≤ (i 0 : Nat) ∧ (i 0 : Nat) < win0_7.index ⟨_, ht⟩ 0 * 512 + 512; omega
    | ⟨1, _⟩ => show win0_7.index ⟨_, ht⟩ 1 * 2048 ≤ (i 1 : Nat) ∧ (i 1 : Nat) < win0_7.index ⟨_, ht⟩ 1 * 2048 + 2048; omega

theorem out_dh1 : (dats m 0 c).arrAt 8 cfg0.N = dh1All m c := by
  have hN : cfg0.N = 64 := N_0
  refine (dats m 0 c).arrAt_eq_of_cover 8 (dh1All m c) (fun t hf => ?_) fun i => ?_
  · obtain ⟨e0, e1, e2⟩ := idx8 t
    show (cfg0.win 8).cut (grid0.coords t) ((dats m 0 c).after 8 t) = _
    rw [after0_8]
    funext j
    obtain ⟨z, r, k, rfl⟩ : ∃ (z : Fin 1) (r : Fin 512) (k : Fin 688), j = ix3 z r k := ⟨_, _, _, eq_ix3 j⟩
    obtain rfl : z = 0 := Subsingleton.elim _ _
    rw [View.read_apply]
    have e : ((((cfg0.win 8).blk t).view.emb (ix3 0 r k)) : S8x4096x688.Idx) = ix3 (hj t) (rowOf (ri t) r) k := funext fun a => Fin.ext (by
      match a with
      | ⟨0, _⟩ => show win0_8.index t 0 * 1 + 1 * 0 = t.val % 8; omega
      | ⟨1, _⟩ => show win0_8.index t 1 * 512 + 1 * r.val = 512 * (t.val / 8) + r.val; omega
      | ⟨2, _⟩ => show win0_8.index t 2 * 688 + 1 * k.val = k.val; omega)
    refine Eq.trans ?_ (congrArg (dh1All m c) e.symm)
    exact (outH1_apply _ _ _ r k).trans (dH1_at m c t _ (dyb_at m c t) r k)
  · have h0 : (i 0 : Nat) < 8 := (i 0).isLt
    have h1 : (i 1 : Nat) < 4096 := (i 1).isLt
    have h2 : (i 2 : Nat) < 688 := (i 2).isLt
    have ht : 8 * ((i 1 : Nat) / 512) + (i 0 : Nat) < cfg0.N := by omega
    obtain ⟨e0, e1, e2⟩ := idx8 ⟨_, ht⟩
    dsimp only at e0 e1 e2
    refine ⟨⟨_, ht⟩, flush0_8 _, ?_⟩
    show i ∈ ((View.whole main_v15_2).slice (win0_8.rect ⟨_, ht⟩)).set
    rw [View.set_slice_whole, Rect.mem_set_unit]
    intro a
    match a with
    | ⟨0, _⟩ => show win0_8.index ⟨_, ht⟩ 0 * 1 ≤ (i 0 : Nat) ∧ (i 0 : Nat) < win0_8.index ⟨_, ht⟩ 0 * 1 + 1; omega
    | ⟨1, _⟩ => show win0_8.index ⟨_, ht⟩ 1 * 512 ≤ (i 1 : Nat) ∧ (i 1 : Nat) < win0_8.index ⟨_, ht⟩ 1 * 512 + 512; omega
    | ⟨2, _⟩ => show win0_8.index ⟨_, ht⟩ 2 * 688 ≤ (i 2 : Nat) ∧ (i 2 : Nat) < win0_8.index ⟨_, ht⟩ 2 * 688 + 688; omega

theorem out_dh3 : (dats m 0 c).arrAt 9 cfg0.N = dh3All m c := by
  have hN : cfg0.N = 64 := N_0
  refine (dats m 0 c).arrAt_eq_of_cover 9 (dh3All m c) (fun t hf => ?_) fun i => ?_
  · obtain ⟨e0, e1, e2⟩ := idx9 t
    show (cfg0.win 9).cut (grid0.coords t) ((dats m 0 c).after 9 t) = _
    rw [after0_9]
    funext j
    obtain ⟨z, r, k, rfl⟩ : ∃ (z : Fin 1) (r : Fin 512) (k : Fin 688), j = ix3 z r k := ⟨_, _, _, eq_ix3 j⟩
    obtain rfl : z = 0 := Subsingleton.elim _ _
    rw [View.read_apply]
    have e : ((((cfg0.win 9).blk t).view.emb (ix3 0 r k)) : S8x4096x688.Idx) = ix3 (hj t) (rowOf (ri t) r) k := funext fun a => Fin.ext (by
      match a with
      | ⟨0, _⟩ => show win0_9.index t 0 * 1 + 1 * 0 = t.val % 8; omega
      | ⟨1, _⟩ => show win0_9.index t 1 * 512 + 1 * r.val = 512 * (t.val / 8) + r.val; omega
      | ⟨2, _⟩ => show win0_9.index t 2 * 688 + 1 * k.val = k.val; omega)
    refine Eq.trans ?_ (congrArg (dh3All m c) e.symm)
    exact (outH3_apply _ _ _ r k).trans (dH3_at m c t _ (dyb_at m c t) r k)
  · have h0 : (i 0 : Nat) < 8 := (i 0).isLt
    have h1 : (i 1 : Nat) < 4096 := (i 1).isLt
    have h2 : (i 2 : Nat) < 688 := (i 2).isLt
    have ht : 8 * ((i 1 : Nat) / 512) + (i 0 : Nat) < cfg0.N := by omega
    obtain ⟨e0, e1, e2⟩ := idx9 ⟨_, ht⟩
    dsimp only at e0 e1 e2
    refine ⟨⟨_, ht⟩, flush0_9 _, ?_⟩
    show i ∈ ((View.whole main_v15_3).slice (win0_9.rect ⟨_, ht⟩)).set
    rw [View.set_slice_whole, Rect.mem_set_unit]
    intro a
    match a with
    | ⟨0, _⟩ => show win0_9.index ⟨_, ht⟩ 0 * 1 ≤ (i 0 : Nat) ∧ (i 0 : Nat) < win0_9.index ⟨_, ht⟩ 0 * 1 + 1; omega
    | ⟨1, _⟩ => show win0_9.index ⟨_, ht⟩ 1 * 512 ≤ (i 1 : Nat) ∧ (i 1 : Nat) < win0_9.index ⟨_, ht⟩ 1 * 512 + 512; omega
    | ⟨2, _⟩ => show win0_9.index ⟨_, ht⟩ 2 * 688 ≤ (i 2 : Nat) ∧ (i 2 : Nat) < win0_9.index ⟨_, ht⟩ 2 * 688 + 688; omega

theorem out_ga : (dats m 0 c).arrAt 10 cfg0.N = gaAll m c := by
  have hN : cfg0.N = 64 := N_0
  refine (dats m 0 c).arrAt_eq_of_cover 10 (gaAll m c) (fun t hf => ?_) fun i => ?_
  · obtain ⟨e0, e1, e2⟩ := idx10 t
    show (cfg0.win 10).cut (grid0.coords t) ((dats m 0 c).after 10 t) = _
    rw [after0_10]
    funext j
    obtain ⟨z, r, k, rfl⟩ : ∃ (z : Fin 1) (r : Fin 512) (k : Fin 688), j = ix3 z r k := ⟨_, _, _, eq_ix3 j⟩
    obtain rfl : z = 0 := Subsingleton.elim _ _
    rw [View.read_apply]
    have e : ((((cfg0.win 10).blk t).view.emb (ix3 0 r k)) : S8x4096x688.Idx) = ix3 (hj t) (rowOf (ri t) r) k := funext fun a => Fin.ext (by
      match a with
      | ⟨0, _⟩ => show win0_10.index t 0 * 1 + 1 * 0 = t.val % 8; omega
      | ⟨1, _⟩ => show win0_10.index t 1 * 512 + 1 * r.val = 512 * (t.val / 8) + r.val; omega
      | ⟨2, _⟩ => show win0_10.index t 2 * 688 + 1 * k.val = k.val; omega)
    refine Eq.trans ?_ (congrArg (gaAll m c) e.symm)
    exact (outAct_apply _ _ r k).trans (gated_at m c t r k)
  · have h0 : (i 0 : Nat) < 8 := (i 0).isLt
    have h1 : (i 1 : Nat) < 4096 := (i 1).isLt
    have h2 : (i 2 : Nat) < 688 := (i 2).isLt
    have ht : 8 * ((i 1 : Nat) / 512) + (i 0 : Nat) < cfg0.N := by omega
    obtain ⟨e0, e1, e2⟩ := idx10 ⟨_, ht⟩
    dsimp only at e0 e1 e2
    refine ⟨⟨_, ht⟩, flush0_10 _, ?_⟩
    show i ∈ ((View.whole main_v15_4).slice (win0_10.rect ⟨_, ht⟩)).set
    rw [View.set_slice_whole, Rect.mem_set_unit]
    intro a
    match a with
    | ⟨0, _⟩ => show win0_10.index ⟨_, ht⟩ 0 * 1 ≤ (i 0 : Nat) ∧ (i 0 : Nat) < win0_10.index ⟨_, ht⟩ 0 * 1 + 1; omega
    | ⟨1, _⟩ => show win0_10.index ⟨_, ht⟩ 1 * 512 ≤ (i 1 : Nat) ∧ (i 1 : Nat) < win0_10.index ⟨_, ht⟩ 1 * 512 + 512; omega
    | ⟨2, _⟩ => show win0_10.index ⟨_, ht⟩ 2 * 688 ≤ (i 2 : Nat) ∧ (i 2 : Nat) < win0_10.index ⟨_, ht⟩ 2 * 688 + 688; omega

end Cert.FfnIdeal.Step

end
-- ==== Proof.FfnRef.lean ====
/-
  The reference of the half-step SwiGLU's backward call read at an index.
-/
module

public import proofs.«01_k».proof.Proof.Gen.FfnRefIdeal.Read
public import proofs.«01_k».proof.Proof.Shapes
public import Idealize.ShloMosaic.Lib.Pointwise

@[expose] public section

set_option maxRecDepth 16384

noncomputable section

namespace Cert.FfnRefIdeal.Read

open Cert.FfnRefIdeal Cert.FfnRefIdeal.Gen Cert.Shapes
open Idealize.ShloMosaic

variable (x0 : FVec Ideal S4096x2048 .f32) (x1 x2 : FVec Ideal S2048x5504 .f32) (x3 : FVec Ideal S5504x2048 .f32) (x4 : FVec Ideal S4096x2048 .f32)

/-- Column `k` of the hidden block `j`. -/
abbrev colB (j : Fin 8) (k : Fin 688) : Fin 5504 := ⟨688 * j.val + k.val, by omega⟩

/-- A sum over the hidden width by blocks of columns. -/
theorem sum_cols (f : Fin 5504 → EReal) : ∑ j : Fin 8, ∑ k : Fin 688, f (colB j k) = ∑ q, f q := by
  rw [sum_blocks 8 688 rfl f]
  refine Finset.sum_congr rfl fun j _ => Finset.sum_congr rfl fun k _ => congrArg f (Fin.ext ?_)
  show 688 * j.val + k.val = j.val * 688 + k.val
  omega

/-- A hidden product, -/
def hid (w : FVec Ideal S2048x5504 .f32) (i : Fin 4096) (q : Fin 5504) : EReal := ∑ d : Fin 2048, x0 (ix2 i d) * w (ix2 d q)

/-- the gradient of the gated product, -/
def dg (i : Fin 4096) (q : Fin 5504) : EReal := ∑ d : Fin 2048, Ideal.ofBits .f32 0x3F000000#32 * x4 (ix2 i d) * x3 (ix2 q d)

/-- of the first hidden product, -/
def dh1 (i : Fin 4096) (q : Fin 5504) : EReal :=
  dg x3 x4 i q * hid x0 x2 i q * Ideal.logistic (hid x0 x1 i q)
    + hid x0 x1 i q * (dg x3 x4 i q * hid x0 x2 i q)
      * (Ideal.logistic (hid x0 x1 i q) * (Ideal.ofBits .f32 0x3F800000#32 - Ideal.logistic (hid x0 x1 i q)))

/-- and of the second. -/
def dh3 (i : Fin 4096) (q : Fin 5504) : EReal := hid x0 x1 i q * Ideal.logistic (hid x0 x1 i q) * dg x3 x4 i q

theorem first (i : Fin 4096) (q : Fin 5504) : val_main_v0 (F := Ideal) x0 x1 (ix2 i q) = hid x0 x1 i q := by
  unfold hid
  pointwise [val_main_v0]

theorem second (i : Fin 4096) (q : Fin 5504) : val_main_v1 (F := Ideal) x0 x2 (ix2 i q) = hid x0 x2 i q := by
  unfold hid
  pointwise [val_main_v1]

theorem logistic_word (h : EReal) :
    Ideal.div (Ideal.ofBits .f32 0x3F800000#32) (Ideal.ofBits .f32 0x3F800000#32 + Ideal.exp (-h)) = Ideal.logistic h := by
  rw [c_one]
  rfl

theorem gate (i : Fin 4096) (q : Fin 5504) : val_main_v2_2 (F := Ideal) x0 x1 (ix2 i q) = Ideal.logistic (hid x0 x1 i q) := by
  rw [← first, ← logistic_word]
  pointwise [val_main_v2_2, val_main_call0_v4, val_main_call0_cst_0, val_main_call0_v3, val_main_call0_v2, val_main_call0_cst, val_main_call0_v1, val_main_call0_v0]

theorem gated_grad (i : Fin 4096) (q : Fin 5504) : val_main_v9 (F := Ideal) x3 x4 (ix2 i q) = dg x3 x4 i q := by
  unfold dg
  pointwise [val_main_v9, val_main_v8, val_main_v7, val_main_cst_0]

theorem grad1 (i : Fin 4096) (q : Fin 5504) : val_main_v12 (F := Ideal) x0 x1 x2 x3 x4 (ix2 i q) = dh1 x0 x1 x2 x3 x4 i q := by
  unfold dh1
  rw [← gate, ← first x0 x1, ← second, ← gated_grad]
  pointwise [val_main_v12, val_main_call1_v2, val_main_call1_v1, val_main_call1_v0, val_main_v11, val_main_v2_1, val_main_call0_v7, val_main_call0_v6, val_main_call0_cst_1]

theorem grad3 (i : Fin 4096) (q : Fin 5504) : val_main_v10 (F := Ideal) x0 x1 x3 x4 (ix2 i q) = dh3 x0 x1 x3 x4 i q := by
  unfold dh3
  rw [← gate, ← first, ← gated_grad]
  pointwise [val_main_v10, val_main_v2_0]

theorem again1 : val_main_v26 (F := Ideal) x0 x1 x2 x3 x4 = val_main_v12 (F := Ideal) x0 x1 x2 x3 x4 := rfl
theorem again3 : val_main_v23 (F := Ideal) x0 x1 x3 x4 = val_main_v10 (F := Ideal) x0 x1 x3 x4 := rfl

theorem out0 (i : Fin 4096) (d : Fin 2048) : val_main_v28 (F := Ideal) x0 x1 x2 x3 x4 (ix2 i d)
    = (∑ q : Fin 5504, dh3 x0 x1 x3 x4 i q * x2 (ix2 d q)) + ∑ q : Fin 5504, dh1 x0 x1 x2 x3 x4 i q * x1 (ix2 d q) := by
  simp only [← grad1, ← grad3, ← again1 x0 x1 x2 x3 x4, ← again3 x0 x1 x3 x4]
  pointwise [val_main_v28, val_main_v25, val_main_v27]

theorem out2 (j : Fin 8) (i : Fin 4096) (k : Fin 688) : val_main_v32 (F := Ideal) x0 x1 x2 x3 x4 (ix3 j i k) = dh1 x0 x1 x2 x3 x4 i (colB j k) := by
  rw [← grad1]
  pointwise [val_main_v32, val_main_v31, val_main_v30]
  simp only [colB, Nat.mul_comm]

theorem out3 (j : Fin 8) (i : Fin 4096) (k : Fin 688) : val_main_v35 (F := Ideal) x0 x1 x3 x4 (ix3 j i k) = dh3 x0 x1 x3 x4 i (colB j k) := by
  rw [← grad3]
  pointwise [val_main_v35, val_main_v34, val_main_v33]
  simp only [colB, Nat.mul_comm]

theorem out4 (j : Fin 8) (i : Fin 4096) (k : Fin 688) : val_main_v40 (F := Ideal) x0 x1 x2 (ix3 j i k)
    = hid x0 x1 i (colB j k) * Ideal.logistic (hid x0 x1 i (colB j k)) * hid x0 x2 i (colB j k) := by
  rw [← gate, ← first x0 x1, ← second]
  pointwise [val_main_v40, val_main_v39, val_main_v38]
  simp only [colB, Nat.mul_comm]
  rfl

end Cert.FfnRefIdeal.Read

end
-- ==== Proof.FfnValue.lean ====
/-
  The value claim of the half-step SwiGLU's backward call.
-/
module

public import proofs.«01_k».proof.Proof.FfnVal
public import proofs.«01_k».proof.Proof.FfnRef
public import proofs.«01_k».proof.Proof.FfnClaim
public import Idealize.ShloMosaic.Lib.Pointwise
public import Idealize.ShloMosaic.Lib.StableHlo.ReadAt

@[expose] public section

set_option maxRecDepth 16384

noncomputable section

namespace Cert.FfnIdeal.Step

open Cert.FfnIdeal Cert.FfnIdeal.Gen Cert.Shapes
open Cert.FfnRefIdeal.Read (colB hid dg sum_cols)
open Idealize.ShloMosaic Idealize.ShloMosaic.TcCoe

variable (m : (ℓ : Loc nD τ sig) → Buf (Elt Ideal) ℓ) (c : Dev nD)

def A0 : FVec Ideal S4096x2048 .f32 := m (c, Proc.devRef .tc main_arg0)
def A1 : FVec Ideal S2048x5504 .f32 := m (c, Proc.devRef .tc main_arg1)
def A2 : FVec Ideal S2048x5504 .f32 := m (c, Proc.devRef .tc main_arg2)
def A3 : FVec Ideal S5504x2048 .f32 := m (c, Proc.devRef .tc main_arg3)
def A4 : FVec Ideal S4096x2048 .f32 := m ((c : Thread nD τ).loc main_arg4)

/-! ## What the kernel reads -/

theorem Ya_eq : Ya m c = A4 m c := V_main_arg4 m c

theorem W1a_apply (j : Fin 8) (d : Fin 2048) (k : Fin 688) : W1a m c (ix3 j d k) = A1 m c (ix2 d (colB j k)) := by
  unfold W1a V hostOps0
  after_reads_at
  simp only [colB, Nat.mul_comm]
  rfl

theorem W3a_apply (j : Fin 8) (d : Fin 2048) (k : Fin 688) : W3a m c (ix3 j d k) = A2 m c (ix2 d (colB j k)) := by
  unfold W3a V hostOps0
  after_reads_at
  simp only [colB, Nat.mul_comm]
  rfl

theorem W2a_apply (j : Fin 8) (k : Fin 688) (d : Fin 2048) : W2a m c (ix3 j k d) = A3 m c (ix2 (colB j k) d) := by
  unfold W2a V hostOps0
  after_reads_at
  simp only [colB, Nat.mul_comm]
  rfl

/-- A hidden product as the host computes it: the weights by blocks of columns, the product with its columns first. -/
def hidH (x : FVec Ideal S4096x2048 .f32) (w : FVec Ideal S2048x5504 .f32) : FVec Ideal S8x4096x688 .bf16 :=
  truncf .bf16 (transpose S8x4096x688 [0, 2, 1] ((Host.dotGeneral dot_S8x2048x688_S4096x2048_S8x688x4096_1_1_02_0_n_n none
    (truncf .bf16 (transpose S8x2048x688 [1, 0, 2] (shapeCast S2048x8x688 w shapeCasts_S2048x5504_S2048x8x688) transposes_S2048x8x688_S8x2048x688_1_0_2) bitsLt_bf16_f32)
    (truncf .bf16 x bitsLt_bf16_f32) : FVec Ideal S8x688x4096 .f32)) transposes_S8x688x4096_S8x4096x688_0_2_1) bitsLt_bf16_f32

theorem hidH_apply (x : FVec Ideal S4096x2048 .f32) (w : FVec Ideal S2048x5504 .f32) (j : Fin 8) (i : Fin 4096) (k : Fin 688) :
    hidH x w (ix3 j i k) = hid x w i (colB j k) := by
  unfold hid
  pointwise [hidH]
  refine Finset.sum_congr rfl fun d _ => ?_
  simp only [colB, Nat.mul_comm, mul_comm]

theorem H1a_eq : H1a m c = hidH (A0 m c) (A1 m c) := by
  unfold hidH A0 A1
  unfold H1a V hostOps0
  after_reads_simp
  rfl

theorem H3a_eq : H3a m c = hidH (A0 m c) (A2 m c) := by
  unfold hidH A0 A2
  unfold H3a V hostOps0
  after_reads_simp
  rfl

theorem H1a_apply (j : Fin 8) (i : Fin 4096) (k : Fin 688) : H1a m c (ix3 j i k) = hid (A0 m c) (A1 m c) i (colB j k) := by
  rw [H1a_eq, hidH_apply]

theorem H3a_apply (j : Fin 8) (i : Fin 4096) (k : Fin 688) : H3a m c (ix3 j i k) = hid (A0 m c) (A2 m c) i (colB j k) := by
  rw [H3a_eq, hidH_apply]

/-! ## The two programs' sums -/

theorem half_eq : half = ((1 / 2 : ℝ) : EReal) := c_half
theorem one_eq : one = ((1 : ℝ) : EReal) := c_one

theorem DA_eq (i : Fin 4096) (j : Fin 8) (k : Fin 688) : DA m c i j k = dg (A3 m c) (A4 m c) i (colB j k) := by
  unfold DA dg
  rw [mul_sum_of_nonneg _ _ _ (by rw [half_eq]; exact_mod_cast (by norm_num : (0 : ℝ) ≤ 1 / 2)) (by rw [half_eq]; exact EReal.coe_ne_top _), Ya_eq]
  refine Finset.sum_congr rfl fun d _ => ?_
  rw [W2a_apply, mul_assoc]

/-- All arguments are real. -/
structure Real5 (r0 : S4096x2048.Idx → ℝ) (r1 r2 : S2048x5504.Idx → ℝ) (r3 : S5504x2048.Idx → ℝ) (r4 : S4096x2048.Idx → ℝ) : Prop where
  h0 : ∀ i, A0 m c i = (r0 i : EReal)
  h1 : ∀ i, A1 m c i = (r1 i : EReal)
  h2 : ∀ i, A2 m c i = (r2 i : EReal)
  h3 : ∀ i, A3 m c i = (r3 i : EReal)
  h4 : ∀ i, A4 m c i = (r4 i : EReal)

theorem hid_real {x : FVec Ideal S4096x2048 .f32} {w : FVec Ideal S2048x5504 .f32} {rx : S4096x2048.Idx → ℝ} {rw' : S2048x5504.Idx → ℝ}
    (hx : ∀ i, x i = (rx i : EReal)) (hw : ∀ i, w i = (rw' i : EReal)) (i : Fin 4096) (q : Fin 5504) : ∃ r : ℝ, hid x w i q = (r : EReal) := by
  refine ⟨∑ d : Fin 2048, rx (ix2 i d) * rw' (ix2 d q), ?_⟩
  unfold hid
  rw [coe_sum]
  exact Finset.sum_congr rfl fun d _ => by rw [hx, hw, EReal.coe_mul]

theorem dg_real {w : FVec Ideal S5504x2048 .f32} {y : FVec Ideal S4096x2048 .f32} {rw' : S5504x2048.Idx → ℝ} {ry : S4096x2048.Idx → ℝ}
    (hw : ∀ i, w i = (rw' i : EReal)) (hy : ∀ i, y i = (ry i : EReal)) (i : Fin 4096) (q : Fin 5504) : ∃ r : ℝ, dg w y i q = (r : EReal) := by
  refine ⟨∑ d : Fin 2048, 1 / 2 * ry (ix2 i d) * rw' (ix2 q d), ?_⟩
  unfold dg
  rw [coe_sum, c_half]
  exact Finset.sum_congr rfl fun d _ => by rw [hw, hy, EReal.coe_mul, EReal.coe_mul]

variable {m c} {r0 : S4096x2048.Idx → ℝ} {r1 r2 : S2048x5504.Idx → ℝ} {r3 : S5504x2048.Idx → ℝ} {r4 : S4096x2048.Idx → ℝ}

theorem DH1_eq (H : Real5 m c r0 r1 r2 r3 r4) (i : Fin 4096) (j : Fin 8) (k : Fin 688) :
    DH1 m c i j k = Cert.FfnRefIdeal.Read.dh1 (A0 m c) (A1 m c) (A2 m c) (A3 m c) (A4 m c) i (colB j k) := by
  unfold DH1 Cert.FfnRefIdeal.Read.dh1 slope
  rw [DA_eq, H1a_apply, H3a_apply]
  obtain ⟨a, ha⟩ := dg_real H.h3 H.h4 i (colB j k)
  obtain ⟨u, hu⟩ := hid_real H.h0 H.h1 i (colB j k)
  obtain ⟨v, hv⟩ := hid_real H.h0 H.h2 i (colB j k)
  rw [ha, hu, hv, one_eq, c_one, Ideal.logistic_coe]
  norm_cast
  ring

theorem DH3_eq (i : Fin 4096) (j : Fin 8) (k : Fin 688) :
    DH3 m c i j k = Cert.FfnRefIdeal.Read.dh3 (A0 m c) (A1 m c) (A3 m c) (A4 m c) i (colB j k) := by
  unfold DH3 Cert.FfnRefIdeal.Read.dh3
  rw [DA_eq, H1a_apply, mul_comm]

theorem DX_eq (H : Real5 m c r0 r1 r2 r3 r4) (i : Fin 4096) (d : Fin 2048) : ∑ j : Fin 8, DX m c i d j
    = (∑ q : Fin 5504, Cert.FfnRefIdeal.Read.dh3 (A0 m c) (A1 m c) (A3 m c) (A4 m c) i q * A2 m c (ix2 d q))
      + ∑ q : Fin 5504, Cert.FfnRefIdeal.Read.dh1 (A0 m c) (A1 m c) (A2 m c) (A3 m c) (A4 m c) i q * A1 m c (ix2 d q) := by
  unfold DX
  rw [Finset.sum_add_distrib, add_comm, ← sum_cols, ← sum_cols]
  simp only [DH1_eq H, DH3_eq, W1a_apply, W3a_apply]

theorem dx_same (H : Real5 m c r0 r1 r2 r3 r4) :
    dxAll m c = Cert.FfnRefIdeal.Read.val_main_v28 (F := Ideal) (A0 m c) (A1 m c) (A2 m c) (A3 m c) (A4 m c) := by
  funext i
  obtain ⟨r, d, rfl⟩ : ∃ (r : Fin 4096) (d : Fin 2048), i = ix2 r d := ⟨_, _, eq_ix2 i⟩
  exact (DX_eq H r d).trans (Cert.FfnRefIdeal.Read.out0 _ _ _ _ _ r d).symm

theorem dh1_same (H : Real5 m c r0 r1 r2 r3 r4) :
    dh1All m c = Cert.FfnRefIdeal.Read.val_main_v32 (F := Ideal) (A0 m c) (A1 m c) (A2 m c) (A3 m c) (A4 m c) := by
  funext i
  obtain ⟨j, r, k, rfl⟩ : ∃ (j : Fin 8) (r : Fin 4096) (k : Fin 688), i = ix3 j r k := ⟨_, _, _, eq_ix3 i⟩
  exact (DH1_eq H r j k).trans (Cert.FfnRefIdeal.Read.out2 _ _ _ _ _ j r k).symm

theorem dh3_same : dh3All m c = Cert.FfnRefIdeal.Read.val_main_v35 (F := Ideal) (A0 m c) (A1 m c) (A3 m c) (A4 m c) := by
  funext i
  obtain ⟨j, r, k, rfl⟩ : ∃ (j : Fin 8) (r : Fin 4096) (k : Fin 688), i = ix3 j r k := ⟨_, _, _, eq_ix3 i⟩
  exact (DH3_eq r j k).trans (Cert.FfnRefIdeal.Read.out3 _ _ _ _ j r k).symm

theorem ga_same : gaAll m c = Cert.FfnRefIdeal.Read.val_main_v40 (F := Ideal) (A0 m c) (A1 m c) (A2 m c) := by
  funext i
  obtain ⟨j, r, k, rfl⟩ : ∃ (j : Fin 8) (r : Fin 4096) (k : Fin 688), i = ix3 j r k := ⟨_, _, _, eq_ix3 i⟩
  refine Eq.trans ?_ (Cert.FfnRefIdeal.Read.out4 _ _ _ j r k).symm
  show GA m c r j k = _
  unfold GA
  rw [H1a_apply, H3a_apply]

theorem kernel_run {r : _} (c : Dev nD) (h : Pipeline.FramePost cfgs (dats m) 0 (V m) r) :
    r.2.mem ((c.tc : Thread nD τ).loc main_v15_0) = dxAll m c
    ∧ r.2.mem ((c.tc : Thread nD τ).loc main_v15_1) = Ya m c
    ∧ r.2.mem ((c.tc : Thread nD τ).loc main_v15_2) = dh1All m c
    ∧ r.2.mem ((c.tc : Thread nD τ).loc main_v15_3) = dh3All m c
    ∧ r.2.mem ((c.tc : Thread nD τ).loc main_v15_4) = gaAll m c :=
  ⟨((h c).1 6).trans (out_dx m c), ((h c).1 7).trans (out_dy m c), ((h c).1 8).trans (out_dh1 m c), ((h c).1 9).trans (out_dh3 m c),
    ((h c).1 10).trans (out_ga m c)⟩

end Cert.FfnIdeal.Step

namespace Cert.Ffn.Claim

open Idealize.ShloMosaic Idealize.ShloMosaic.TcCoe Idealize.SL.Sem
open Cert.FfnIdeal.Step (A0 A1 A2 A3 A4 Ya Real5 dxAll dh1All dh3All gaAll dx_same dh1_same dh3_same ga_same kernel_run Ya_eq)

theorem real_args {m : (ℓ : Loc Cert.FfnIdeal.nD Cert.FfnIdeal.τ Cert.FfnIdeal.sig) → Buf (Elt Ideal) ℓ}
    (h : Cert.Pre_FfnIdeal_finite_ffn (hPre_finite_ffn := Cert.Pre_finite_ffn.Gen.facts) m) (c : Dev Cert.FfnIdeal.nD) :
    ∃ r0 r1 r2 r3 r4, Real5 m c r0 r1 r2 r3 r4 := by
  obtain ⟨h0, h1, h2, h3, h4⟩ := h c
  obtain ⟨r0, e0⟩ := Cert.Shapes.real_of_finite (A0 m c) _ (fun _ => rfl) h0
  obtain ⟨r1, e1⟩ := Cert.Shapes.real_of_finite (A1 m c) _ (fun _ => rfl) h1
  obtain ⟨r2, e2⟩ := Cert.Shapes.real_of_finite (A2 m c) _ (fun _ => rfl) h2
  obtain ⟨r3, e3⟩ := Cert.Shapes.real_of_finite (A3 m c) _ (fun _ => rfl) h3
  obtain ⟨r4, e4⟩ := Cert.Shapes.real_of_finite (A4 m c) _ (fun _ => rfl) h4
  exact ⟨r0, r1, r2, r3, r4, e0, e1, e2, e3, e4⟩

theorem algebraic : Cert.algebraic_FfnIdeal_FfnRefIdeal_pre_finite_ffn (hFfnIdeal := Cert.FfnIdeal.Gen.facts)
    (hFfnRefIdeal := Cert.FfnRefIdeal.Gen.facts) (hPre_finite_ffn := Cert.Pre_finite_ffn.Gen.facts) := by
  intro m g m' g' hpre hargs
  refine ⟨fun c => dxAll m c, fun c => Ya m c, fun c => dh1All m c, fun c => dh3All m c, fun c => gaAll m c, ?_, ?_⟩
  · refine (θ_run _ _ _).mono (fun r h c => ?_) (θ_run_and (Cert.FfnIdeal.Step.run_main m g) (Cert.FfnIdeal.Step.frame_at m g))
    obtain ⟨k0, k1, k2, k3, k4⟩ := kernel_run c h.1
    exact ⟨k0, k1, k2, k3, k4, h.2.1 c⟩
  · refine (θ_run _ _ _).mono (fun r h c => ?_) (Cert.FfnRefIdeal.Value.run (F := Ideal) m' g')
    obtain ⟨h0, h1, h2, h3, h4, h5⟩ := h c
    obtain ⟨e0, e1, e2, e3, e4⟩ := hargs c
    obtain ⟨r0, r1, r2, r3, r4, H⟩ := real_args hpre c
    refine ⟨h0.trans ?_, h1.trans ?_, h2.trans ?_, h3.trans ?_, h4.trans ?_, h5⟩
    · rw [Cert.FfnRefIdeal.Read.val_main_v28_eq, e0, e1, e2, e3, e4]; exact (dx_same H).symm
    · rw [Cert.FfnRefIdeal.Read.val_main_v29_eq, e4]; exact (Ya_eq m c).symm
    · rw [Cert.FfnRefIdeal.Read.val_main_v32_eq, e0, e1, e2, e3, e4]; exact (dh1_same H).symm
    · rw [Cert.FfnRefIdeal.Read.val_main_v35_eq, e0, e1, e3, e4]; exact dh3_same.symm
    · rw [Cert.FfnRefIdeal.Read.val_main_v40_eq, e0, e1, e2]; exact ga_same.symm

end Cert.Ffn.Claim

end
-- ==== Proof.MixFrame.lean ====
/- The frame of the reference of the position mixing's backward call. -/
module

public import proofs.«01_k».proof.Proof.Gen.MixRefIdeal.Run
public import proofs.«01_k».proof.Defs

@[expose] public section

noncomputable section

namespace Cert.Mix.Claim

open Idealize.ShloMosaic Idealize.SL.Sem

theorem frame_ref : Cert.quiescent_MixRefIdeal (hMixRefIdeal := Cert.MixRefIdeal.Gen.facts) := fun m g _ =>
  (θ_run _ _ _).mono (fun r h => ⟨fun c => (h c).2.2.2.2.2.2.2.2, sem_eq_zero_of_no_sems (by decide) r.2⟩)
    (Cert.MixRefIdeal.Value.run (F := Ideal) m g)

end Cert.Mix.Claim

end
-- ==== Proof.MixVal.lean ====
/- What one grid point of the backward call of the mixing computes, read at an index. -/
module

public import proofs.«01_k».proof.Proof.Shapes
public import proofs.«01_k».proof.Proof.Gen.MixIdeal.Value
public import Idealize.ShloMosaic.Lib.Pointwise
public import Idealize.ShloMosaic.Lib.Tactic.WordOmega

@[expose] public section

set_option maxRecDepth 16384

noncomputable section

namespace Cert.MixIdeal.Val

open Idealize.ShloMosaic Cert.MixIdeal Cert.MixIdeal.Gen Cert.Shapes

/-- The blocks one grid point reads. -/
structure Blk where
  x0 : Vec Ideal S256x1024 .f32
  x1 : Vec Ideal S256x1024 .f32
  x2 : Vec Ideal S256x1024 .f32
  x3 : Vec Ideal S1x1024 .f32
  x4 : Vec Ideal S1x1024 .f32
  x5 : Vec Ideal S1x1024 .f32
  x6 : Vec Ideal S8x128x128 .f32
  x7 : Vec Ideal S128x8 .f32
  x8 : Vec Ideal S256x2048 .f32

/-! ## What the body names, in its order -/

def n2 (b : Blk) : FVec Ideal S256x1024 .f32 := k0_pay5 b.x1
def n4 (b : Blk) : FVec Ideal S256x1024 .f32 := k0_pay6 b.x2
def n6 (b : Blk) : FVec Ideal S1x1024 .f32 := k0_pay7 b.x3
def n8 (b : Blk) : FVec Ideal S1x1024 .f32 := k0_pay8 b.x4
def n10 (b : Blk) : FVec Ideal S1x1024 .f32 := k0_pay9 b.x5
def n13 (b : Blk) : FVec Ideal S128x8 .f32 := k0_pay10 b.x7
def n19 (b : Blk) : FVec Ideal S256x1024 .f32 := k0_pay11 b.x1
def n30 (b : Blk) : FVec Ideal S256x1024 .f32 := k0_pay13 b.x1
def n32 (b : Blk) : FVec Ideal S256x1024 .f32 := k0_pay14 b.x1
def n34 (b : Blk) : FVec Ideal S256x1024 .f32 := k0_pay15 (n32 b) (Scalar.ofBits .f32 0x3F000000#32 : Ideal .f32)
def n35 (b : Blk) : FVec Ideal S256x1024 .f32 := k0_pay16 (n2 b) (n32 b) (Scalar.ofBits .f32 0x3F000000#32 : Ideal .f32)
def n40 (b : Blk) : FVec Ideal S256x1024 .f32 := k0_pay17 (n4 b)
def n51 (b : Blk) : FVec Ideal S256x1024 .f32 := k0_pay19 (n4 b)
def n55 (b : Blk) : FVec Ideal S256x1024 .f32 := k0_pay20 (n4 b)
def n56 (b : Blk) : FVec Ideal S256x1024 .f32 := k0_pay21 (n4 b)
def n64 (b : Blk) : FVec Ideal S256x1 .f32 := k0_pay23 (n4 b)
def n67 (b : Blk) : FVec Ideal S256x1 .f32 := k0_pay24 (n4 b)
def n69 (b : Blk) : FVec Ideal S256x1024 .f32 := k0_pay25 (n4 b)
def n71 (b : Blk) : FVec Ideal S256x1024 .f32 := k0_pay26 (n4 b) (n10 b)
def n80 (b : Blk) : FVec Ideal S8x128x128 .bf16 := k0_pay27 b.x6
def n81 (b : Blk) : FVec Ideal S256x1024 .bf16 := k0_pay28 (n71 b)
def n89 (b : Blk) : FVec Ideal S128x128 .f32 := k0_pay29 (n13 b) (n71 b) (n80 b)
def n97 (b : Blk) : FVec Ideal S128x128 .f32 := k0_pay30 (n13 b) (n71 b) (n80 b)
def n105 (b : Blk) : FVec Ideal S128x128 .f32 := k0_pay31 (n13 b) (n71 b) (n80 b)
def n113 (b : Blk) : FVec Ideal S128x128 .f32 := k0_pay32 (n13 b) (n71 b) (n80 b)
def n121 (b : Blk) : FVec Ideal S128x128 .f32 := k0_pay33 (n13 b) (n71 b) (n80 b)
def n129 (b : Blk) : FVec Ideal S128x128 .f32 := k0_pay34 (n13 b) (n71 b) (n80 b)
def n133 (b : Blk) : FVec Ideal S128x128 .f32 := k0_pay35 (n71 b) (n80 b)
def n146 (b : Blk) : FVec Ideal S128x1024 .f32 := k0_pay36 (n13 b) (n80 b) (n81 b) (n89 b) (n97 b) (n105 b) (n113 b) (n121 b) (n129 b) (n133 b)
def n154 (b : Blk) : FVec Ideal S128x128 .f32 := k0_pay37 (n13 b) (n80 b) (n81 b)
def n162 (b : Blk) : FVec Ideal S128x128 .f32 := k0_pay38 (n13 b) (n80 b) (n81 b)
def n170 (b : Blk) : FVec Ideal S128x128 .f32 := k0_pay39 (n13 b) (n80 b) (n81 b)
def n178 (b : Blk) : FVec Ideal S128x128 .f32 := k0_pay40 (n13 b) (n80 b) (n81 b)
def n186 (b : Blk) : FVec Ideal S128x128 .f32 := k0_pay41 (n13 b) (n80 b) (n81 b)
def n187 (b : Blk) : FVec Ideal S128x128 .bf16 := k0_pay42 (n81 b)
def n212 (b : Blk) : FVec Ideal S256x1024 .f32 := k0_pay43 (n13 b) (n80 b) (n81 b) (n146 b) (n154 b) (n162 b) (n170 b) (n178 b) (n186 b) (n187 b)
def n213 (b : Blk) : FVec Ideal S256x1024 .f32 := k0_pay44 (n13 b) (n35 b) (n80 b) (n81 b) (n146 b) (n154 b) (n162 b) (n170 b) (n178 b) (n186 b) (n187 b)
def n221 (b : Blk) : FVec Ideal S256x1 .f32 := k0_pay46 b.x0
def n224 (b : Blk) : FVec Ideal S256x1 .f32 := k0_pay47 b.x0
def n226 (b : Blk) : FVec Ideal S256x1024 .f32 := k0_pay48 b.x0
def n234 (b : Blk) : FVec Ideal S256x1 .f32 := k0_pay50 (n13 b) (n35 b) (n80 b) (n81 b) (n146 b) (n154 b) (n162 b) (n170 b) (n178 b) (n186 b) (n187 b)
def n235 (b : Blk) : FVec Ideal S256x1 .f32 := k0_pay51 (n13 b) (n35 b) (n80 b) (n81 b) (n146 b) (n154 b) (n162 b) (n170 b) (n178 b) (n186 b) (n187 b)
def n236 (b : Blk) : FVec Ideal S256x1 .f32 := k0_pay52 (F := Ideal)
def n244 (b : Blk) : FVec Ideal S1x1024 .f32 := k0_pay55 b.x8 (n213 b) (n234 b)
def n264 (b : Blk) : FVec Ideal S1x1024 .f32 := k0_pay57 b.x8 (n226 b)
def n281 (b : Blk) : FVec Ideal S256x1024 .f32 := k0_pay58 b.x0 (n6 b) b.x8 (n221 b) (n224 b)
def n282 (b : Blk) : FVec Ideal S256x1024 .f32 := k0_pay59 (n8 b) b.x8 (n35 b) (n213 b) (n234 b) (n235 b) (n236 b)
def n283 (b : Blk) : FVec Ideal S256x1024 .f32 := k0_pay60 (n8 b) b.x8 (n212 b) (n213 b) (n234 b) (n235 b) (n236 b)
def n286 (b : Blk) : IVec S128x128 1 := k0_pay61
def n287 (b : Blk) : IVec S1x128x128 1 := k0_pay62
def n292 (b : Blk) : FVec Ideal S8x128x128 .bf16 := k0_pay63 b.x6 (n287 b) (Scalar.ofBits .f32 0x00000000#32 : Ideal .f32)
def n293 (b : Blk) : FVec Ideal S256x1024 .bf16 := k0_pay64 (n71 b)
def n294 (b : Blk) : FVec Ideal S256x1024 .bf16 := k0_pay65 (n282 b)
def n297 (b : Blk) : FVec Ideal S128x128 .f32 := k0_pay66 (F := Ideal)
def n298 (b : Blk) : FVec Ideal S128x128 .f32 := k0_pay67 (F := Ideal)
def n299 (b : Blk) : FVec Ideal S128x128 .f32 := k0_pay68 (F := Ideal)
def n300 (b : Blk) : FVec Ideal S128x128 .f32 := k0_pay69 (F := Ideal)
def n301 (b : Blk) : FVec Ideal S128x128 .f32 := k0_pay70 (F := Ideal)
def n302 (b : Blk) : FVec Ideal S128x128 .f32 := k0_pay71 (F := Ideal)
def n308 (b : Blk) : FVec Ideal S128x128 .f32 := k0_pay72 b.x6 (n282 b) (n287 b) (Scalar.ofBits .f32 0x00000000#32 : Ideal .f32)
def n312 (b : Blk) : FVec Ideal S128x128 .f32 := k0_pay73 (n71 b) (n282 b)
def n323 (b : Blk) : FVec Ideal S128x8 .f32 := k0_pay74 (n282 b)
def n327 (b : Blk) : FVec Ideal S128x128 .f32 := k0_pay75 b.x6 (n282 b) (n287 b) (Scalar.ofBits .f32 0x00000000#32 : Ideal .f32)
def n331 (b : Blk) : FVec Ideal S128x128 .f32 := k0_pay76 (n71 b) (n282 b)
def n332 (b : Blk) : FVec Ideal S128x128 .f32 := k0_pay77 (n282 b)
def n346 (b : Blk) : FVec Ideal S128x128 .f32 := k0_pay78 (n292 b) (n294 b)
def n350 (b : Blk) : FVec Ideal S128x128 .f32 := k0_pay79 (n293 b) (n294 b) (n297 b)
def n365 (b : Blk) : FVec Ideal S128x128 .f32 := k0_pay80 (n292 b) (n294 b)
def n369 (b : Blk) : FVec Ideal S128x128 .f32 := k0_pay81 (n293 b) (n294 b) (n298 b)
def n380 (b : Blk) : FVec Ideal S128x8 .f32 := k0_pay82 (n282 b) (iota .tc S1x8 32 [1] iota_S1x8_d1_w32) (n323 b) (n332 b)
def n382 (b : Blk) : FVec Ideal S128x128 .bf16 := k0_pay83 (n292 b)
def n384 (b : Blk) : FVec Ideal S128x128 .f32 := k0_pay84 (n294 b) (n382 b)
def n388 (b : Blk) : FVec Ideal S128x128 .f32 := k0_pay85 (n293 b) (n294 b) (n299 b)
def n403 (b : Blk) : FVec Ideal S128x128 .f32 := k0_pay86 (n292 b) (n294 b)
def n407 (b : Blk) : FVec Ideal S128x128 .f32 := k0_pay87 (n293 b) (n294 b) (n300 b)
def n418 (b : Blk) : FVec Ideal S128x8 .f32 := k0_pay88 (n282 b) (iota .tc S1x8 32 [1] iota_S1x8_d1_w32) (n380 b)
def n422 (b : Blk) : FVec Ideal S128x128 .f32 := k0_pay89 (n292 b) (n294 b)
def n426 (b : Blk) : FVec Ideal S128x128 .f32 := k0_pay90 (n293 b) (n294 b) (n301 b)
def n429 (b : Blk) : FVec Ideal S128x1 .f32 := k0_pay91 (n282 b)
def n430 (b : Blk) : IVec S1x8 32 := k0_pay92
def n445 (b : Blk) : FVec Ideal S128x128 .f32 := k0_pay93 (n293 b) (n294 b) (n302 b)
def n457 (b : Blk) : FVec Ideal S128x1024 .f32 := k0_pay94 (n292 b) (n294 b) (n308 b) (n327 b) (n346 b) (n365 b) (n384 b) (n403 b) (n422 b)
def n461 (b : Blk) : FVec Ideal S128x128 .f32 := k0_pay95 (n292 b) (n294 b)
def n465 (b : Blk) : FVec Ideal S128x128 .f32 := k0_pay96 (n293 b) (n294 b) (n312 b)
def n476 (b : Blk) : FVec Ideal S128x8 .f32 := k0_pay97 (n282 b) (iota .tc S1x8 32 [1] iota_S1x8_d1_w32) (n418 b) (n429 b) (n430 b)
def n480 (b : Blk) : FVec Ideal S128x128 .f32 := k0_pay98 (n292 b) (n294 b)
def n481 (b : Blk) : FVec Ideal S128x128 .bf16 := k0_pay99 (n294 b)
def n484 (b : Blk) : FVec Ideal S128x128 .f32 := k0_pay100 (n293 b) (n331 b) (n481 b)
def n499 (b : Blk) : FVec Ideal S128x128 .f32 := k0_pay101 (n292 b) (n294 b)
def n503 (b : Blk) : FVec Ideal S128x128 .f32 := k0_pay102 (n293 b) (n294 b) (n350 b)
def n514 (b : Blk) : FVec Ideal S128x8 .f32 := k0_pay103 (n282 b) (iota .tc S1x8 32 [1] iota_S1x8_d1_w32) (n476 b)
def n518 (b : Blk) : FVec Ideal S128x128 .f32 := k0_pay104 (n292 b) (n294 b)
def n522 (b : Blk) : FVec Ideal S128x128 .f32 := k0_pay105 (n293 b) (n294 b) (n369 b)
def n529 (b : Blk) : FVec Ideal S1x8 .f32 := k0_pay106 (F := Ideal) (iota .tc S1x8 32 [1] iota_S1x8_d1_w32)
def n530 (b : Blk) : FVec Ideal S128x8 .f32 := k0_pay107 (n282 b)
def n537 (b : Blk) : FVec Ideal S128x128 .f32 := k0_pay108 (n292 b) (n294 b)
def n541 (b : Blk) : FVec Ideal S128x128 .f32 := k0_pay109 (n293 b) (n294 b) (n388 b)
def n556 (b : Blk) : FVec Ideal S128x128 .f32 := k0_pay110 (n292 b) (n294 b)
def n560 (b : Blk) : FVec Ideal S128x128 .f32 := k0_pay111 (n293 b) (n294 b) (n407 b)
def n571 (b : Blk) : FVec Ideal S128x8 .f32 := k0_pay112 (n282 b) (iota .tc S1x8 32 [1] iota_S1x8_d1_w32) (n514 b) (n529 b) (n530 b)
def n575 (b : Blk) : FVec Ideal S128x128 .f32 := k0_pay113 (n292 b) (n294 b)
def n579 (b : Blk) : FVec Ideal S128x128 .f32 := k0_pay114 (n293 b) (n294 b) (n426 b)
def n580 (b : Blk) : FVec Ideal S128x128 .f32 := k0_pay115 (n282 b)
def n609 (b : Blk) : FVec Ideal S128x8 .f32 := k0_pay116 (n282 b) (iota .tc S1x8 32 [1] iota_S1x8_d1_w32) (n571 b) (n580 b)
def n610 (b : Blk) : FVec Ideal S128x1024 .f32 := k0_pay117 (n292 b) (n294 b) (n461 b) (n480 b) (n499 b) (n518 b) (n537 b) (n556 b) (n575 b)
def n612 (b : Blk) : FVec Ideal S128x128 .f32 := k0_pay118 (n286 b) (n465 b)
def n614 (b : Blk) : FVec Ideal S128x128 .f32 := k0_pay119 (n286 b) (n484 b)
def n616 (b : Blk) : FVec Ideal S128x128 .f32 := k0_pay120 (n286 b) (n503 b)
def n618 (b : Blk) : FVec Ideal S128x128 .f32 := k0_pay121 (n286 b) (n522 b)
def n620 (b : Blk) : FVec Ideal S128x128 .f32 := k0_pay122 (n286 b) (n541 b)
def n622 (b : Blk) : FVec Ideal S128x128 .f32 := k0_pay123 (n286 b) (n560 b)
def n624 (b : Blk) : FVec Ideal S128x128 .f32 := k0_pay124 (n286 b) (n579 b)
def n626 (b : Blk) : FVec Ideal S128x128 .f32 := k0_pay125 (n286 b) (n293 b) (n294 b) (n445 b)
def n635 (b : Blk) : FVec Ideal S8x128x128 .f32 := k0_pay126 (n612 b) (n614 b) (n616 b) (n618 b) (n620 b) (n622 b) (n624 b) (n626 b)
def n639 (b : Blk) : FVec Ideal S1x1024 .f32 := k0_pay128 (n69 b) (n457 b) (n610 b)
def n668 (b : Blk) : FVec Ideal S256x1024 .f32 := k0_pay129 (n4 b) (n10 b) (n40 b) (n51 b) (n55 b) (n56 b) (n64 b) (n67 b) (n457 b) (n610 b)
def n675 (b : Blk) : FVec Ideal S256x1024 .f32 := k0_pay130 (n2 b) (n30 b) (n283 b)
def n676 (b : Blk) : FVec Ideal S256x1024 .f32 := k0_pay131 (n2 b) (n30 b) (n34 b) (n283 b)

/-! ## One entry -/

/-- The inner function of the activation, -/
def th (x : EReal) : EReal := Ideal.tanh (Ideal.ofBits .f32 0x3F4C422A#32 * (x + Ideal.ofBits .f32 0x3D372713#32 * (x * (x * x))))
/-- the activation, -/
def gl (x : EReal) : EReal := x * (Ideal.ofBits .f32 0x3F000000#32 * (1 + th x))
/-- what the inner function's gradient gives, -/
def ge (x δ : EReal) : EReal := Ideal.ofBits .f32 0x3F4C422A#32 * (Ideal.ofBits .f32 0x3F000000#32 * (x * δ) * ((1 + th x) * (1 - th x)))
/-- and the activation's gradient times `δ`. -/
def dgl (x δ : EReal) : EReal :=
  δ * (Ideal.ofBits .f32 0x3F000000#32 * (1 + th x)) + ge x δ + Ideal.ofBits .f32 0x3D372713#32 * ge x δ * (Ideal.ofBits .f32 0x40400000#32 * (x * x))

/-! ## One row -/

/-- The mean square of a row, raised, -/
def ms (x : Fin 1024 → EReal) : EReal := Ideal.div (∑ k, x k * x k) (Ideal.ofBits .f32 0x44800000#32) + Ideal.ofBits .f32 0x358637BD#32
/-- its inverse root, -/
def rs (x : Fin 1024 → EReal) : EReal := Ideal.rsqrt (ms x)
/-- what every entry of the row shares in the gradient, -/
def sh (x y : Fin 1024 → EReal) : EReal :=
  Ideal.div ((∑ k, x k * y k) * (Ideal.ofBits .f32 0xBF000000#32 * Ideal.div (rs x) (ms x))) (Ideal.ofBits .f32 0x44800000#32)
/-- and the gradient of the normalised row `x` at the scaled cotangent `y`. -/
def bw (x y : Fin 1024 → EReal) (k : Fin 1024) : EReal := y k * rs x + x k * sh x y + sh x y * x k

/-! ## One chunk of 128 rows -/

/-- The rows of a chunk: the other head group's outputs, the two halves of the mixing's input, the cotangent. -/
structure Chk where
  A : Fin 128 → Fin 1024 → EReal
  U : Fin 128 → Fin 1024 → EReal
  V : Fin 128 → Fin 1024 → EReal
  D : Fin 128 → Fin 2048 → EReal

/-- The weights: three gains, the mixing's matrices and biases. -/
structure Par where
  aon : Fin 1024 → EReal
  gon : Fin 1024 → EReal
  vn : Fin 1024 → EReal
  w : Fin 8 → Fin 128 → Fin 128 → EReal
  bs : Fin 128 → Fin 8 → EReal

def lo2 (k : Fin 1024) : Fin 2048 := ⟨k.val, by omega⟩
def hi2 (k : Fin 1024) : Fin 2048 := ⟨1024 + k.val, by omega⟩
/-- The group of lane `k`, -/
def grp (k : Fin 1024) : Fin 8 := ⟨k.val / 128, by omega⟩
/-- and lane `d` of group `g`. -/
def lane (g : Fin 8) (d : Fin 128) : Fin 1024 := ⟨g.val * 128 + d.val, by omega⟩

/-- The lower triangle of the matrix of group `g`. -/
def wt (w : Fin 8 → Fin 128 → Fin 128 → EReal) (g : Fin 8) (t s : Fin 128) : EReal := if s ≤ t then w g t s else 0

section
variable (p : Par) (x : Chk)

/-- The normalised half that is mixed, -/
def nv (s : Fin 128) (k : Fin 1024) : EReal := gl (x.V s k) * rs (fun k => gl (x.V s k)) * p.vn k
/-- the gate, -/
def gate (t : Fin 128) (k : Fin 1024) : EReal := (∑ s, wt p.w (grp k) t s * nv p x s k) + p.bs t (grp k)
/-- the gated half, -/
def go (t : Fin 128) (k : Fin 1024) : EReal := gl (x.U t k) * gate p x t k
/-- its gradient, -/
def dgo (t : Fin 128) (k : Fin 1024) : EReal := bw (go p x t) (fun k => x.D t (hi2 k) * p.gon k) k
/-- the gradient of the other head group, -/
def da (t : Fin 128) (k : Fin 1024) : EReal := bw (x.A t) (fun k => x.D t (lo2 k) * p.aon k) k
/-- of the gate, -/
def dgt (t : Fin 128) (k : Fin 1024) : EReal := gl (x.U t k) * dgo p x t k
/-- of the first half, -/
def du (t : Fin 128) (k : Fin 1024) : EReal := dgl (x.U t k) (dgo p x t k * gate p x t k)
/-- of the normalised half, -/
def dn (s : Fin 128) (k : Fin 1024) : EReal := ∑ t, wt p.w (grp k) t s * dgt p x t k
/-- of the second half; -/
def dv (s : Fin 128) (k : Fin 1024) : EReal := dgl (x.V s k) (bw (fun k => gl (x.V s k)) (fun k => dn p x s k * p.vn k) k)
/-- and what the chunk adds to the gradients of the matrices, the biases and the gains. -/
def aw (g : Fin 8) (t s : Fin 128) : EReal := ∑ d : Fin 128, dgt p x t (lane g d) * nv p x s (lane g d)
def ab (t : Fin 128) (g : Fin 8) : EReal := ∑ d : Fin 128, dgt p x t (lane g d)
def aaon (k : Fin 1024) : EReal := ∑ t, x.A t k * rs (x.A t) * x.D t (lo2 k)
def agon (k : Fin 1024) : EReal := ∑ t, go p x t k * rs (go p x t) * x.D t (hi2 k)
def avn (k : Fin 1024) : EReal := ∑ s, gl (x.V s k) * rs (fun k => gl (x.V s k)) * dn p x s k

end

theorem piece (f : Fin 8 → Fin 1024 → EReal) {k q : Fin 1024} {j : Fin 8} (hj : j.val = k.val / 128) (hq : q.val = k.val) : f j q = f (grp k) k := by
  obtain rfl : q = k := Fin.ext hq
  obtain rfl : j = grp q := Fin.ext hj
  rfl

/-! ## The body -/

variable (b : Blk)

theorem n35_apply (r : Fin 256) (k : Fin 1024) : n35 b (ix2 r k) = gl (b.x1 (ix2 r k)) := by
  unfold gl th
  pointwise [n35, k0_pay16, n2, k0_pay5, n32, k0_pay14, k0_pay15, k0_pay12]

theorem n56_apply (r : Fin 256) (k : Fin 1024) : n56 b (ix2 r k) = gl (b.x2 (ix2 r k)) := by
  unfold gl th
  pointwise [n56, k0_pay21, n4, k0_pay6, k0_pay20, k0_pay18]

theorem m63_apply (r : Fin 256) (z : Fin 1) : k0_pay22 (n4 b) (ix2 r z) = ms (fun k => gl (b.x2 (ix2 r k))) := by
  simp only [← n56_apply]
  unfold ms n56
  pointwise [k0_pay22]

theorem n64_apply (r : Fin 256) (z : Fin 1) : n64 b (ix2 r z) = rs (fun k => gl (b.x2 (ix2 r k))) := by
  unfold rs
  rw [← m63_apply b r z]
  pointwise [n64, k0_pay23]

theorem n67_apply (r : Fin 256) (z : Fin 1) : n67 b (ix2 r z) = Ideal.ofBits .f32 0xBF000000#32 * Ideal.div (rs (fun k => gl (b.x2 (ix2 r k)))) (ms (fun k => gl (b.x2 (ix2 r k)))) := by
  rw [← m63_apply b r z, ← n64_apply b r z]
  pointwise [n67, k0_pay24, n64]

theorem n69_apply (r : Fin 256) (k : Fin 1024) : n69 b (ix2 r k) = gl (b.x2 (ix2 r k)) * rs (fun k => gl (b.x2 (ix2 r k))) := by
  rw [← n64_apply b r 0, ← n56_apply b r k]
  pointwise [n69, k0_pay25, n64, n56]

theorem n71_apply (r : Fin 256) (k : Fin 1024) : n71 b (ix2 r k) = gl (b.x2 (ix2 r k)) * rs (fun k => gl (b.x2 (ix2 r k))) * b.x5 (ix2 0 k) := by
  rw [← n69_apply b r k]
  pointwise [n71, k0_pay26, n69, n10, k0_pay9]

theorem le_word (t s : Fin 128) : IntOp.cmpi .sle (BitVec.ofNat 32 s.val) (BitVec.ofNat 32 t.val) = 1#1 ↔ s ≤ t := by
  have hs := s.isLt
  have ht := t.isLt
  rw [Fin.le_def]
  word_omega

theorem n80_apply (g : Fin 8) (t s : Fin 128) : n80 b (ix3 g t s) = wt (fun g t s => b.x6 (ix3 g t s)) g t s := by
  unfold wt
  pointwise [n80, k0_pay27]
  unfold Scalar.select
  exact if_congr (le_word t s) rfl rfl

theorem n292_apply (g : Fin 8) (t s : Fin 128) : n292 b (ix3 g t s) = wt (fun g t s => b.x6 (ix3 g t s)) g t s := by
  unfold wt
  pointwise [n292, k0_pay63, n287, k0_pay62, k0_pay61]
  unfold Scalar.select
  exact if_congr (le_word t s) rfl rfl

theorem n294_eq : n294 b = n282 b := by
  funext i
  rfl

theorem n293_eq : n293 b = n71 b := by
  funext i
  rfl

/-- Row `t` of chunk `c` in the block. -/
def rw' (c : Fin 2) (t : Fin 128) : Fin 256 := ⟨c.val * 128 + t.val, by omega⟩

theorem rw_0 (t : Fin 128) : rw' 0 t = ⟨t.val, by omega⟩ := Fin.ext (by simp [rw'])
theorem rw_1 (t : Fin 128) : rw' 1 t = ⟨128 + t.val, by omega⟩ := Fin.ext (by simp [rw'])

theorem gate_tiles_0 (t : Fin 128) (k : Fin 1024) :
    n212 b (ix2 (rw' 0 t) k) = (∑ s, n80 b (ix3 (grp k) t s) * n71 b (ix2 (rw' 0 s) k)) + b.x7 (ix2 t (grp k)) := by
  simp only [rw_0]
  unfold n212 n146 n154 n162 n170 n178 n186 n187 n89 n97 n105 n113 n121 n129 n133 n81 n13
  generalize n80 b = w
  generalize n71 b = y
  obtain ⟨_, _, _, _, _, _, _, v, _⟩ := b
  dsimp only
  pointwise [k0_pay43, k0_pay36, k0_pay37, k0_pay38, k0_pay39, k0_pay40, k0_pay41, k0_pay42, k0_pay29, k0_pay30, k0_pay31, k0_pay32, k0_pay33, k0_pay34, k0_pay35, k0_pay28, k0_pay10, k0_pay28]
  have hk := k.isLt
  by_cases h0 : k.val < 128
  · rw [dif_pos h0]
    exact piece (fun g q => (∑ s : Fin 128, w (ix3 g t s) * y (ix2 ⟨s.val, by omega⟩ q)) + v (ix2 t g)) (by show (0 : ℕ) = _; omega) (rfl)
  rw [dif_neg h0]
  by_cases h1 : k.val - 128 < 128
  · rw [dif_pos h1]
    exact piece (fun g q => (∑ s : Fin 128, w (ix3 g t s) * y (ix2 ⟨s.val, by omega⟩ q)) + v (ix2 t g)) (by show (1 : ℕ) = _; omega) ((by dsimp only; omega))
  rw [dif_neg h1]
  by_cases h2 : k.val - 128 - 128 < 128
  · rw [dif_pos h2]
    exact piece (fun g q => (∑ s : Fin 128, w (ix3 g t s) * y (ix2 ⟨s.val, by omega⟩ q)) + v (ix2 t g)) (by show (2 : ℕ) = _; omega) ((by dsimp only; omega))
  rw [dif_neg h2]
  by_cases h3 : k.val - 128 - 128 - 128 < 128
  · rw [dif_pos h3]
    exact piece (fun g q => (∑ s : Fin 128, w (ix3 g t s) * y (ix2 ⟨s.val, by omega⟩ q)) + v (ix2 t g)) (by show (3 : ℕ) = _; omega) ((by dsimp only; omega))
  rw [dif_neg h3]
  by_cases h4 : k.val - 128 - 128 - 128 - 128 < 128
  · rw [dif_pos h4]
    exact piece (fun g q => (∑ s : Fin 128, w (ix3 g t s) * y (ix2 ⟨s.val, by omega⟩ q)) + v (ix2 t g)) (by show (4 : ℕ) = _; omega) ((by dsimp only; omega))
  rw [dif_neg h4]
  by_cases h5 : k.val - 128 - 128 - 128 - 128 - 128 < 128
  · rw [dif_pos h5]
    exact piece (fun g q => (∑ s : Fin 128, w (ix3 g t s) * y (ix2 ⟨s.val, by omega⟩ q)) + v (ix2 t g)) (by show (5 : ℕ) = _; omega) ((by dsimp only; omega))
  rw [dif_neg h5]
  by_cases h6 : k.val - 128 - 128 - 128 - 128 - 128 - 128 < 128
  · rw [dif_pos h6]
    exact piece (fun g q => (∑ s : Fin 128, w (ix3 g t s) * y (ix2 ⟨s.val, by omega⟩ q)) + v (ix2 t g)) (by show (6 : ℕ) = _; omega) ((by dsimp only; omega))
  rw [dif_neg h6]
  exact piece (fun g q => (∑ s : Fin 128, w (ix3 g t s) * y (ix2 ⟨s.val, by omega⟩ q)) + v (ix2 t g)) (by show (7 : ℕ) = _; omega) (by dsimp only; omega)

theorem gate_tiles_1 (t : Fin 128) (k : Fin 1024) :
    n212 b (ix2 (rw' 1 t) k) = (∑ s, n80 b (ix3 (grp k) t s) * n71 b (ix2 (rw' 1 s) k)) + b.x7 (ix2 t (grp k)) := by
  simp only [rw_1]
  unfold n212 n146 n154 n162 n170 n178 n186 n187 n89 n97 n105 n113 n121 n129 n133 n81 n13
  generalize n80 b = w
  generalize n71 b = y
  obtain ⟨_, _, _, _, _, _, _, v, _⟩ := b
  dsimp only
  pointwise [k0_pay43, k0_pay36, k0_pay37, k0_pay38, k0_pay39, k0_pay40, k0_pay41, k0_pay42, k0_pay29, k0_pay30, k0_pay31, k0_pay32, k0_pay33, k0_pay34, k0_pay35, k0_pay28, k0_pay10, k0_pay28]
  have hk := k.isLt
  by_cases h0 : k.val < 128
  · rw [dif_pos h0]
    exact piece (fun g q => (∑ s : Fin 128, w (ix3 g t s) * y (ix2 ⟨128 + s.val, by omega⟩ q)) + v (ix2 t g)) (by show (0 : ℕ) = _; omega) (rfl)
  rw [dif_neg h0]
  by_cases h1 : k.val - 128 < 128
  · rw [dif_pos h1]
    exact piece (fun g q => (∑ s : Fin 128, w (ix3 g t s) * y (ix2 ⟨128 + s.val, by omega⟩ q)) + v (ix2 t g)) (by show (1 : ℕ) = _; omega) ((by dsimp only; omega))
  rw [dif_neg h1]
  by_cases h2 : k.val - 128 - 128 < 128
  · rw [dif_pos h2]
    exact piece (fun g q => (∑ s : Fin 128, w (ix3 g t s) * y (ix2 ⟨128 + s.val, by omega⟩ q)) + v (ix2 t g)) (by show (2 : ℕ) = _; omega) ((by dsimp only; omega))
  rw [dif_neg h2]
  by_cases h3 : k.val - 128 - 128 - 128 < 128
  · rw [dif_pos h3]
    exact piece (fun g q => (∑ s : Fin 128, w (ix3 g t s) * y (ix2 ⟨128 + s.val, by omega⟩ q)) + v (ix2 t g)) (by show (3 : ℕ) = _; omega) ((by dsimp only; omega))
  rw [dif_neg h3]
  by_cases h4 : k.val - 128 - 128 - 128 - 128 < 128
  · rw [dif_pos h4]
    exact piece (fun g q => (∑ s : Fin 128, w (ix3 g t s) * y (ix2 ⟨128 + s.val, by omega⟩ q)) + v (ix2 t g)) (by show (4 : ℕ) = _; omega) ((by dsimp only; omega))
  rw [dif_neg h4]
  by_cases h5 : k.val - 128 - 128 - 128 - 128 - 128 < 128
  · rw [dif_pos h5]
    exact piece (fun g q => (∑ s : Fin 128, w (ix3 g t s) * y (ix2 ⟨128 + s.val, by omega⟩ q)) + v (ix2 t g)) (by show (5 : ℕ) = _; omega) ((by dsimp only; omega))
  rw [dif_neg h5]
  by_cases h6 : k.val - 128 - 128 - 128 - 128 - 128 - 128 < 128
  · rw [dif_pos h6]
    exact piece (fun g q => (∑ s : Fin 128, w (ix3 g t s) * y (ix2 ⟨128 + s.val, by omega⟩ q)) + v (ix2 t g)) (by show (6 : ℕ) = _; omega) ((by dsimp only; omega))
  rw [dif_neg h6]
  exact piece (fun g q => (∑ s : Fin 128, w (ix3 g t s) * y (ix2 ⟨128 + s.val, by omega⟩ q)) + v (ix2 t g)) (by show (7 : ℕ) = _; omega) (by dsimp only; omega)

end Cert.MixIdeal.Val

end
-- ==== Proof.MixTiles.lean ====
/- The tile products of the backward call of the mixing, read at an index. -/
module

public import proofs.«01_k».proof.Proof.MixVal

@[expose] public section

set_option maxRecDepth 16384

noncomputable section

namespace Cert.MixIdeal.Val

open Idealize.ShloMosaic Cert.MixIdeal Cert.MixIdeal.Gen Cert.Shapes

variable (b : Blk)

theorem dn_tiles_0 (s : Fin 128) (k : Fin 1024) :
    k0_pay127 (n457 b) (n610 b) (ix2 (rw' 0 s) k) = ∑ t, n292 b (ix3 (grp k) t s) * n294 b (ix2 (rw' 0 t) k) := by
  simp only [rw_0]
  unfold n457 n610 n308 n327 n346 n365 n384 n382 n403 n422 n461 n480 n499 n518 n537 n556 n575 n292 n294
  unfold k0_pay72 k0_pay75
  generalize k0_pay63 (F := Ideal) _ _ _ = w
  generalize k0_pay65 (F := Ideal) _ = y
  pointwise [k0_pay127, k0_pay94, k0_pay117, k0_pay72, k0_pay75, k0_pay78, k0_pay80, k0_pay84, k0_pay83, k0_pay86, k0_pay89, k0_pay95, k0_pay98, k0_pay101, k0_pay104, k0_pay108, k0_pay110, k0_pay113]
  have hk := k.isLt
  by_cases h0 : k.val < 128
  · rw [dif_pos h0]
    exact piece (fun g q => ∑ t : Fin 128, w (ix3 g t s) * y (ix2 ⟨t.val, by omega⟩ q)) (by show (0 : ℕ) = _; omega) (rfl)
  rw [dif_neg h0]
  by_cases h1 : k.val - 128 < 128
  · rw [dif_pos h1]
    exact piece (fun g q => ∑ t : Fin 128, w (ix3 g t s) * y (ix2 ⟨t.val, by omega⟩ q)) (by show (1 : ℕ) = _; omega) ((by dsimp only; omega))
  rw [dif_neg h1]
  by_cases h2 : k.val - 128 - 128 < 128
  · rw [dif_pos h2]
    exact piece (fun g q => ∑ t : Fin 128, w (ix3 g t s) * y (ix2 ⟨t.val, by omega⟩ q)) (by show (2 : ℕ) = _; omega) ((by dsimp only; omega))
  rw [dif_neg h2]
  by_cases h3 : k.val - 128 - 128 - 128 < 128
  · rw [dif_pos h3]
    exact piece (fun g q => ∑ t : Fin 128, w (ix3 g t s) * y (ix2 ⟨t.val, by omega⟩ q)) (by show (3 : ℕ) = _; omega) ((by dsimp only; omega))
  rw [dif_neg h3]
  by_cases h4 : k.val - 128 - 128 - 128 - 128 < 128
  · rw [dif_pos h4]
    exact piece (fun g q => ∑ t : Fin 128, w (ix3 g t s) * y (ix2 ⟨t.val, by omega⟩ q)) (by show (4 : ℕ) = _; omega) ((by dsimp only; omega))
  rw [dif_neg h4]
  by_cases h5 : k.val - 128 - 128 - 128 - 128 - 128 < 128
  · rw [dif_pos h5]
    exact piece (fun g q => ∑ t : Fin 128, w (ix3 g t s) * y (ix2 ⟨t.val, by omega⟩ q)) (by show (5 : ℕ) = _; omega) ((by dsimp only; omega))
  rw [dif_neg h5]
  by_cases h6 : k.val - 128 - 128 - 128 - 128 - 128 - 128 < 128
  · rw [dif_pos h6]
    exact piece (fun g q => ∑ t : Fin 128, w (ix3 g t s) * y (ix2 ⟨t.val, by omega⟩ q)) (by show (6 : ℕ) = _; omega) ((by dsimp only; omega))
  rw [dif_neg h6]
  exact piece (fun g q => ∑ t : Fin 128, w (ix3 g t s) * y (ix2 ⟨t.val, by omega⟩ q)) (by show (7 : ℕ) = _; omega) (by dsimp only; omega)

theorem dn_tiles_1 (s : Fin 128) (k : Fin 1024) :
    k0_pay127 (n457 b) (n610 b) (ix2 (rw' 1 s) k) = ∑ t, n292 b (ix3 (grp k) t s) * n294 b (ix2 (rw' 1 t) k) := by
  simp only [rw_1]
  unfold n457 n610 n308 n327 n346 n365 n384 n382 n403 n422 n461 n480 n499 n518 n537 n556 n575 n292 n294
  unfold k0_pay72 k0_pay75
  generalize k0_pay63 (F := Ideal) _ _ _ = w
  generalize k0_pay65 (F := Ideal) _ = y
  pointwise [k0_pay127, k0_pay94, k0_pay117, k0_pay72, k0_pay75, k0_pay78, k0_pay80, k0_pay84, k0_pay83, k0_pay86, k0_pay89, k0_pay95, k0_pay98, k0_pay101, k0_pay104, k0_pay108, k0_pay110, k0_pay113]
  have hk := k.isLt
  by_cases h0 : k.val < 128
  · rw [dif_pos h0]
    exact piece (fun g q => ∑ t : Fin 128, w (ix3 g t s) * y (ix2 ⟨128 + t.val, by omega⟩ q)) (by show (0 : ℕ) = _; omega) (rfl)
  rw [dif_neg h0]
  by_cases h1 : k.val - 128 < 128
  · rw [dif_pos h1]
    exact piece (fun g q => ∑ t : Fin 128, w (ix3 g t s) * y (ix2 ⟨128 + t.val, by omega⟩ q)) (by show (1 : ℕ) = _; omega) ((by dsimp only; omega))
  rw [dif_neg h1]
  by_cases h2 : k.val - 128 - 128 < 128
  · rw [dif_pos h2]
    exact piece (fun g q => ∑ t : Fin 128, w (ix3 g t s) * y (ix2 ⟨128 + t.val, by omega⟩ q)) (by show (2 : ℕ) = _; omega) ((by dsimp only; omega))
  rw [dif_neg h2]
  by_cases h3 : k.val - 128 - 128 - 128 < 128
  · rw [dif_pos h3]
    exact piece (fun g q => ∑ t : Fin 128, w (ix3 g t s) * y (ix2 ⟨128 + t.val, by omega⟩ q)) (by show (3 : ℕ) = _; omega) ((by dsimp only; omega))
  rw [dif_neg h3]
  by_cases h4 : k.val - 128 - 128 - 128 - 128 < 128
  · rw [dif_pos h4]
    exact piece (fun g q => ∑ t : Fin 128, w (ix3 g t s) * y (ix2 ⟨128 + t.val, by omega⟩ q)) (by show (4 : ℕ) = _; omega) ((by dsimp only; omega))
  rw [dif_neg h4]
  by_cases h5 : k.val - 128 - 128 - 128 - 128 - 128 < 128
  · rw [dif_pos h5]
    exact piece (fun g q => ∑ t : Fin 128, w (ix3 g t s) * y (ix2 ⟨128 + t.val, by omega⟩ q)) (by show (5 : ℕ) = _; omega) ((by dsimp only; omega))
  rw [dif_neg h5]
  by_cases h6 : k.val - 128 - 128 - 128 - 128 - 128 - 128 < 128
  · rw [dif_pos h6]
    exact piece (fun g q => ∑ t : Fin 128, w (ix3 g t s) * y (ix2 ⟨128 + t.val, by omega⟩ q)) (by show (6 : ℕ) = _; omega) ((by dsimp only; omega))
  rw [dif_neg h6]
  exact piece (fun g q => ∑ t : Fin 128, w (ix3 g t s) * y (ix2 ⟨128 + t.val, by omega⟩ q)) (by show (7 : ℕ) = _; omega) (by dsimp only; omega)

theorem dw_tiles (g : Fin 8) (t s : Fin 128) :
    n635 b (ix3 g t s) = if s ≤ t then (∑ d, n294 b (ix2 (rw' 0 t) (lane g d)) * n293 b (ix2 (rw' 0 s) (lane g d))) + (∑ d, n294 b (ix2 (rw' 1 t) (lane g d)) * n293 b (ix2 (rw' 1 s) (lane g d))) else 0 := by
  simp only [rw_0, rw_1]
  unfold n635 n612 n465 n312 n614 n484 n331 n481 n616 n503 n350 n297 n618 n522 n369 n298 n620 n541 n388 n299 n622 n560 n407 n300 n624 n579 n426 n301 n626 n445 n302 n294 n293
  pointwise [k0_pay126, k0_pay118, k0_pay96, k0_pay73, k0_pay119, k0_pay100, k0_pay76, k0_pay99, k0_pay120, k0_pay102, k0_pay79, k0_pay66, k0_pay121, k0_pay105, k0_pay81, k0_pay67, k0_pay122, k0_pay109, k0_pay85, k0_pay68, k0_pay123, k0_pay111, k0_pay87, k0_pay69, k0_pay124, k0_pay114, k0_pay90, k0_pay70, k0_pay125, k0_pay93, k0_pay71, n286, k0_pay61]
  generalize k0_pay65 (n282 b) = w
  generalize k0_pay64 (n71 b) = y
  have hg := g.isLt
  by_cases h0 : g.val < 1
  · rw [dif_pos h0]
    obtain rfl : g = 0 := Fin.ext (by show _ = (0 : ℕ); omega)
    unfold Scalar.select
    exact if_congr (le_word t s) rfl rfl
  rw [dif_neg h0]
  by_cases h1 : g.val - 1 < 1
  · rw [dif_pos h1]
    obtain rfl : g = 1 := Fin.ext (by show _ = (1 : ℕ); omega)
    unfold Scalar.select
    exact if_congr (le_word t s) rfl rfl
  rw [dif_neg h1]
  by_cases h2 : g.val - 1 - 1 < 1
  · rw [dif_pos h2]
    obtain rfl : g = 2 := Fin.ext (by show _ = (2 : ℕ); omega)
    unfold Scalar.select
    exact if_congr (le_word t s) rfl rfl
  rw [dif_neg h2]
  by_cases h3 : g.val - 1 - 1 - 1 < 1
  · rw [dif_pos h3]
    obtain rfl : g = 3 := Fin.ext (by show _ = (3 : ℕ); omega)
    unfold Scalar.select
    exact if_congr (le_word t s) rfl rfl
  rw [dif_neg h3]
  by_cases h4 : g.val - 1 - 1 - 1 - 1 < 1
  · rw [dif_pos h4]
    obtain rfl : g = 4 := Fin.ext (by show _ = (4 : ℕ); omega)
    unfold Scalar.select
    exact if_congr (le_word t s) rfl rfl
  rw [dif_neg h4]
  by_cases h5 : g.val - 1 - 1 - 1 - 1 - 1 < 1
  · rw [dif_pos h5]
    obtain rfl : g = 5 := Fin.ext (by show _ = (5 : ℕ); omega)
    unfold Scalar.select
    exact if_congr (le_word t s) rfl rfl
  rw [dif_neg h5]
  by_cases h6 : g.val - 1 - 1 - 1 - 1 - 1 - 1 < 1
  · rw [dif_pos h6]
    obtain rfl : g = 6 := Fin.ext (by show _ = (6 : ℕ); omega)
    unfold Scalar.select
    exact if_congr (le_word t s) rfl rfl
  rw [dif_neg h6]
  obtain rfl : g = 7 := Fin.ext (by show _ = (7 : ℕ); omega)
  unfold Scalar.select
  exact if_congr (le_word t s) rfl rfl

theorem hot_0 (g : Fin 8) : FloatOps.sitofp (F := Ideal) FTy.f32 (BitVec.setWidth 32 (IntOp.cmpi .eq (BitVec.ofNat 32 g.val) 0#32)) = if g = 0 then 1 else 0 := by
  have e : (BitVec.setWidth 32 (IntOp.cmpi .eq (BitVec.ofNat 32 g.val) 0#32)).toInt = if g = 0 then 1 else 0 := by
    revert g
    decide
  show (((BitVec.setWidth 32 (IntOp.cmpi .eq (BitVec.ofNat 32 g.val) 0#32)).toInt : ℝ) : EReal) = _
  rw [e]
  split_ifs <;> simp

theorem hot_1 (g : Fin 8) : FloatOps.sitofp (F := Ideal) FTy.f32 (BitVec.setWidth 32 (IntOp.cmpi .eq (BitVec.ofNat 32 g.val) 1#32)) = if g = 1 then 1 else 0 := by
  have e : (BitVec.setWidth 32 (IntOp.cmpi .eq (BitVec.ofNat 32 g.val) 1#32)).toInt = if g = 1 then 1 else 0 := by
    revert g
    decide
  show (((BitVec.setWidth 32 (IntOp.cmpi .eq (BitVec.ofNat 32 g.val) 1#32)).toInt : ℝ) : EReal) = _
  rw [e]
  split_ifs <;> simp

theorem hot_2 (g : Fin 8) : FloatOps.sitofp (F := Ideal) FTy.f32 (BitVec.setWidth 32 (IntOp.cmpi .eq (BitVec.ofNat 32 g.val) 2#32)) = if g = 2 then 1 else 0 := by
  have e : (BitVec.setWidth 32 (IntOp.cmpi .eq (BitVec.ofNat 32 g.val) 2#32)).toInt = if g = 2 then 1 else 0 := by
    revert g
    decide
  show (((BitVec.setWidth 32 (IntOp.cmpi .eq (BitVec.ofNat 32 g.val) 2#32)).toInt : ℝ) : EReal) = _
  rw [e]
  split_ifs <;> simp

theorem hot_3 (g : Fin 8) : FloatOps.sitofp (F := Ideal) FTy.f32 (BitVec.setWidth 32 (IntOp.cmpi .eq (BitVec.ofNat 32 g.val) 3#32)) = if g = 3 then 1 else 0 := by
  have e : (BitVec.setWidth 32 (IntOp.cmpi .eq (BitVec.ofNat 32 g.val) 3#32)).toInt = if g = 3 then 1 else 0 := by
    revert g
    decide
  show (((BitVec.setWidth 32 (IntOp.cmpi .eq (BitVec.ofNat 32 g.val) 3#32)).toInt : ℝ) : EReal) = _
  rw [e]
  split_ifs <;> simp

theorem hot_4 (g : Fin 8) : FloatOps.sitofp (F := Ideal) FTy.f32 (BitVec.setWidth 32 (IntOp.cmpi .eq (BitVec.ofNat 32 g.val) 4#32)) = if g = 4 then 1 else 0 := by
  have e : (BitVec.setWidth 32 (IntOp.cmpi .eq (BitVec.ofNat 32 g.val) 4#32)).toInt = if g = 4 then 1 else 0 := by
    revert g
    decide
  show (((BitVec.setWidth 32 (IntOp.cmpi .eq (BitVec.ofNat 32 g.val) 4#32)).toInt : ℝ) : EReal) = _
  rw [e]
  split_ifs <;> simp

theorem hot_5 (g : Fin 8) : FloatOps.sitofp (F := Ideal) FTy.f32 (BitVec.setWidth 32 (IntOp.cmpi .eq (BitVec.ofNat 32 g.val) 5#32)) = if g = 5 then 1 else 0 := by
  have e : (BitVec.setWidth 32 (IntOp.cmpi .eq (BitVec.ofNat 32 g.val) 5#32)).toInt = if g = 5 then 1 else 0 := by
    revert g
    decide
  show (((BitVec.setWidth 32 (IntOp.cmpi .eq (BitVec.ofNat 32 g.val) 5#32)).toInt : ℝ) : EReal) = _
  rw [e]
  split_ifs <;> simp

theorem hot_6 (g : Fin 8) : FloatOps.sitofp (F := Ideal) FTy.f32 (BitVec.setWidth 32 (IntOp.cmpi .eq (BitVec.ofNat 32 g.val) 6#32)) = if g = 6 then 1 else 0 := by
  have e : (BitVec.setWidth 32 (IntOp.cmpi .eq (BitVec.ofNat 32 g.val) 6#32)).toInt = if g = 6 then 1 else 0 := by
    revert g
    decide
  show (((BitVec.setWidth 32 (IntOp.cmpi .eq (BitVec.ofNat 32 g.val) 6#32)).toInt : ℝ) : EReal) = _
  rw [e]
  split_ifs <;> simp

theorem hot_7 (g : Fin 8) : FloatOps.sitofp (F := Ideal) FTy.f32 (BitVec.setWidth 32 (IntOp.cmpi .eq (BitVec.ofNat 32 g.val) 7#32)) = if g = 7 then 1 else 0 := by
  have e : (BitVec.setWidth 32 (IntOp.cmpi .eq (BitVec.ofNat 32 g.val) 7#32)).toInt = if g = 7 then 1 else 0 := by
    revert g
    decide
  show (((BitVec.setWidth 32 (IntOp.cmpi .eq (BitVec.ofNat 32 g.val) 7#32)).toInt : ℝ) : EReal) = _
  rw [e]
  split_ifs <;> simp

theorem db_tiles (t : Fin 128) (g : Fin 8) :
    n609 b (ix2 t g) = (∑ d, n282 b (ix2 (rw' 0 t) (lane g d))) + ∑ d, n282 b (ix2 (rw' 1 t) (lane g d)) := by
  simp only [rw_0, rw_1]
  unfold n609 n571 n514 n476 n418 n380 n323 n332 n429 n430 n529 n530 n580
  generalize n282 b = y
  pointwise [k0_pay116, k0_pay112, k0_pay103, k0_pay97, k0_pay88, k0_pay82, k0_pay74, k0_pay77, k0_pay91, k0_pay92, k0_pay106, k0_pay107, k0_pay115]
  simp only [hot_0, hot_1, hot_2, hot_3, hot_4, hot_5, hot_6, hot_7]
  have hg : g = 0 ∨ g = 1 ∨ g = 2 ∨ g = 3 ∨ g = 4 ∨ g = 5 ∨ g = 6 ∨ g = 7 := by
    revert g
    decide
  rcases hg with rfl | rfl | rfl | rfl | rfl | rfl | rfl | rfl <;>
    simp only [mul_one, mul_zero, add_zero, zero_add, ↓reduceIte, Fin.reduceEq] <;> rfl

end Cert.MixIdeal.Val

end
-- ==== Proof.MixRows.lean ====
/- What one grid point of the backward call of the mixing leaves, a chunk and a row at a time. -/
module

public import proofs.«01_k».proof.Proof.MixTiles

@[expose] public section

set_option maxRecDepth 16384

noncomputable section

namespace Cert.MixIdeal.Val

open Idealize.ShloMosaic Cert.MixIdeal Cert.MixIdeal.Gen Cert.Shapes

variable (b : Blk) (c : Fin 2) (t : Fin 128) (k : Fin 1024) (z : Fin 1)

/-- The rows of chunk `c` of the blocks, -/
def ck (b : Blk) (c : Fin 2) : Chk where
  A t k := b.x0 (ix2 (rw' c t) k)
  U t k := b.x1 (ix2 (rw' c t) k)
  V t k := b.x2 (ix2 (rw' c t) k)
  D t k := b.x8 (ix2 (rw' c t) k)

/-- and the weights. -/
def pr (b : Blk) : Par where
  aon k := b.x3 (ix2 0 k)
  gon k := b.x4 (ix2 0 k)
  vn k := b.x5 (ix2 0 k)
  w g t s := b.x6 (ix3 g t s)
  bs t g := b.x7 (ix2 t g)

theorem gate_tiles : n212 b (ix2 (rw' c t) k) = (∑ s, n80 b (ix3 (grp k) t s) * n71 b (ix2 (rw' c s) k)) + b.x7 (ix2 t (grp k)) :=
  match c with
  | 0 => gate_tiles_0 b t k
  | 1 => gate_tiles_1 b t k

theorem dn_tiles : k0_pay127 (n457 b) (n610 b) (ix2 (rw' c t) k) = ∑ s, n292 b (ix3 (grp k) s t) * n294 b (ix2 (rw' c s) k) :=
  match c with
  | 0 => dn_tiles_0 b t k
  | 1 => dn_tiles_1 b t k

theorem n71_row : n71 b (ix2 (rw' c t) k) = nv (pr b) (ck b c) t k := n71_apply b _ k
theorem n56_row : n56 b (ix2 (rw' c t) k) = gl ((ck b c).V t k) := n56_apply b _ k
theorem n64_row : n64 b (ix2 (rw' c t) z) = rs (fun k => gl ((ck b c).V t k)) := n64_apply b _ z
theorem n67_row : n67 b (ix2 (rw' c t) z) = Ideal.ofBits .f32 0xBF000000#32 * Ideal.div (rs (fun k => gl ((ck b c).V t k))) (ms (fun k => gl ((ck b c).V t k))) := n67_apply b _ z
theorem n69_row : n69 b (ix2 (rw' c t) k) = gl ((ck b c).V t k) * rs (fun k => gl ((ck b c).V t k)) := n69_apply b _ k
theorem n35_row : n35 b (ix2 (rw' c t) k) = gl ((ck b c).U t k) := n35_apply b _ k

theorem n212_row : n212 b (ix2 (rw' c t) k) = gate (pr b) (ck b c) t k := by
  rw [gate_tiles]
  simp only [n80_apply, n71_row]
  rfl

theorem n213_row : n213 b (ix2 (rw' c t) k) = go (pr b) (ck b c) t k := by
  have e : n213 b (ix2 (rw' c t) k) = n35 b (ix2 (rw' c t) k) * n212 b (ix2 (rw' c t) k) := by
    pointwise [n213, k0_pay44, n212]
  rw [e, n35_row, n212_row]
  rfl

theorem n234_row : n234 b (ix2 (rw' c t) z) = rs (go (pr b) (ck b c) t) := by
  unfold rs ms
  simp only [← n213_row]
  pointwise [n234, k0_pay50, k0_pay49, n213]

theorem n235_row : n235 b (ix2 (rw' c t) z) = Ideal.div (rs (go (pr b) (ck b c) t)) (ms (go (pr b) (ck b c) t)) := by
  rw [← n234_row b c t z]
  unfold ms
  simp only [← n213_row]
  pointwise [n235, n234, k0_pay51, k0_pay49, n213]

theorem pay56_row : k0_pay56 (n8 b) b.x8 (n213 b) (n234 b) (n235 b) (n236 b) (ix2 (rw' c t) k) = dgo (pr b) (ck b c) t k := by
  unfold dgo bw sh
  rw [← n235_row b c t 0, ← n234_row b c t 0]
  simp only [← n213_row]
  pointwise [k0_pay56, k0_pay54, n236, k0_pay52, n8, k0_pay8, Fin.sum_univ_one]
  rfl

theorem n282_row : n282 b (ix2 (rw' c t) k) = dgt (pr b) (ck b c) t k := by
  unfold dgt
  rw [← pay56_row, ← n35_row]
  pointwise [n282, k0_pay59]

theorem n283_row : n283 b (ix2 (rw' c t) k) = dgo (pr b) (ck b c) t k * gate (pr b) (ck b c) t k := by
  rw [← pay56_row, ← n212_row]
  pointwise [n283, k0_pay60]

theorem dn_row : k0_pay127 (n457 b) (n610 b) (ix2 (rw' c t) k) = dn (pr b) (ck b c) t k := by
  rw [dn_tiles]
  simp only [n292_apply, n294_eq, n282_row]
  rfl

theorem dv_row : k0_pay133 (n668 b) (ix2 (rw' c t) k) = dv (pr b) (ck b c) t k := by
  unfold dv dgl bw sh ge
  rw [← n67_row b c t 0, ← n64_row b c t 0]
  simp only [← n56_row, ← dn_row]
  unfold th
  pointwise [k0_pay133, n668, k0_pay129, n4, k0_pay6, n10, k0_pay9, n40, k0_pay17, n51, k0_pay19, k0_pay18, n55, k0_pay20, Fin.sum_univ_one, ck, pr]

theorem du_row : k0_pay132 (n19 b) (n675 b) (n676 b) (Scalar.ofBits .f32 0x3D372713#32 : Ideal .f32) (ix2 (rw' c t) k) = du (pr b) (ck b c) t k := by
  unfold du dgl ge
  rw [← n283_row]
  unfold th
  pointwise [k0_pay132, n675, k0_pay130, n676, k0_pay131, n2, k0_pay5, n30, k0_pay13, k0_pay12, n34, k0_pay15, n32, k0_pay14, n19, k0_pay11, ck]

theorem n221_row : n221 b (ix2 (rw' c t) z) = rs ((ck b c).A t) := by
  unfold rs ms
  pointwise [n221, k0_pay46, k0_pay45, ck]

theorem n224_row : n224 b (ix2 (rw' c t) z) = Ideal.ofBits .f32 0xBF000000#32 * Ideal.div (rs ((ck b c).A t)) (ms ((ck b c).A t)) := by
  rw [← n221_row b c t z]
  unfold ms
  pointwise [n224, n221, k0_pay47, k0_pay45, ck]

theorem n226_row : n226 b (ix2 (rw' c t) k) = (ck b c).A t k * rs ((ck b c).A t) := by
  rw [← n221_row b c t 0]
  pointwise [n226, n221, k0_pay48, ck]

theorem da_row : n281 b (ix2 (rw' c t) k) = da (pr b) (ck b c) t k := by
  unfold da bw sh
  rw [← n224_row b c t 0, ← n221_row b c t 0]
  pointwise [n281, k0_pay58, k0_pay53, n6, k0_pay7, Fin.sum_univ_one, ck, pr]
  rfl

theorem aaon_row : n264 b (ix2 z k) = ∑ c, aaon (ck b c) k := by
  have e : n264 b (ix2 z k) = ∑ r : Fin 256, n226 b (ix2 r k) * b.x8 (ix2 r (lo2 k)) := by
    pointwise [n264, k0_pay57, k0_pay53]
    rfl
  rw [e, sum_blocks 2 128 rfl]
  refine Finset.sum_congr rfl fun c _ => Finset.sum_congr rfl fun t _ => ?_
  show n226 b (ix2 (rw' c t) k) * _ = _
  rw [n226_row]
  rfl

theorem agon_row : n244 b (ix2 z k) = ∑ c, agon (pr b) (ck b c) k := by
  have e : n244 b (ix2 z k) = ∑ r : Fin 256, n213 b (ix2 r k) * n234 b (ix2 r 0) * b.x8 (ix2 r (hi2 k)) := by
    pointwise [n244, k0_pay55, k0_pay54]
    rfl
  rw [e, sum_blocks 2 128 rfl]
  refine Finset.sum_congr rfl fun c _ => Finset.sum_congr rfl fun t _ => ?_
  show n213 b (ix2 (rw' c t) k) * n234 b (ix2 (rw' c t) 0) * _ = _
  rw [n213_row, n234_row]
  rfl

theorem avn_row : n639 b (ix2 z k) = ∑ c, avn (pr b) (ck b c) k := by
  have e : n639 b (ix2 z k) = ∑ r : Fin 256, n69 b (ix2 r k) * k0_pay127 (n457 b) (n610 b) (ix2 r k) := by
    pointwise [n639, k0_pay128]
  rw [e, sum_blocks 2 128 rfl]
  refine Finset.sum_congr rfl fun c _ => Finset.sum_congr rfl fun t _ => ?_
  show n69 b (ix2 (rw' c t) k) * k0_pay127 (n457 b) (n610 b) (ix2 (rw' c t) k) = _
  rw [n69_row, dn_row]

theorem aw_row (g : Fin 8) (t s : Fin 128) : n635 b (ix3 g t s) = if s ≤ t then ∑ c, aw (pr b) (ck b c) g t s else 0 := by
  rw [dw_tiles]
  simp only [n294_eq, n293_eq, n282_row, n71_row, Fin.sum_univ_two]
  rfl

theorem ab_row (g : Fin 8) : n609 b (ix2 t g) = ∑ c, ab (pr b) (ck b c) t g := by
  rw [db_tiles]
  simp only [n282_row, Fin.sum_univ_two]
  rfl

end Cert.MixIdeal.Val

end
-- ==== Proof.MixOut.lean ====
/- What one grid point of the backward call of the mixing leaves in its eight blocks. -/
module

public import proofs.«01_k».proof.Proof.MixRows

@[expose] public section

set_option maxRecDepth 16384

noncomputable section

namespace Cert.MixIdeal.Val

open Cert.MixIdeal Cert.MixIdeal.Gen Cert.Shapes
open Idealize.ShloMosaic Idealize.ShloMosaic.TcCoe Idealize.ShloMosaic.Tactic
open Idealize.SL Idealize.SL.Sem

variable (c : Dev nD) (i : grid0.Coords) (a1 a2 a3 : Memref sig .tc .vmem S256x1024 .f32) (a4 a5 a6 : Memref sig .tc .vmem S1x1024 .f32)
  (a7 : Memref sig .tc .vmem S8x128x128 .f32) (a8 : Memref sig .tc .vmem S128x8 .f32) (a9 : Memref sig .tc .vmem S256x2048 .f32)
  (a10 : Memref sig .tc .vmem S256x1024 .f32) (a11 a12 : Memref sig .tc .vmem S256x1024 .bf16) (a13 a14 a15 : Memref sig .tc .vmem S1x1024 .f32)
  (a16 : Memref sig .tc .vmem S8x128x128 .f32) (a17 : Memref sig .tc .vmem S128x8 .f32) (h1 : a1.IsWhole) (h2 : a2.IsWhole) (h3 : a3.IsWhole) (h4 : a4.IsWhole)
  (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole)
  (h14 : a14.IsWhole) (h15 : a15.IsWhole) (h16 : a16.IsWhole) (h17 : a17.IsWhole) (x0 x1 x2 : Vec Ideal S256x1024 .f32) (x3 x4 x5 : Vec Ideal S1x1024 .f32)
  (x6 : Vec Ideal S8x128x128 .f32) (x7 : Vec Ideal S128x8 .f32) (x8 : Vec Ideal S256x2048 .f32)

/-- The nine blocks that the kernel reads at the point. -/
local notation "B" => Blk.mk x0 x1 x2 x3 x4 x5 x6 x7 x8

section

variable (hc0 : cond0_0 i) (hc1 : cond0_1 i) (hc2 : cond0_2 i) (hc3 : cond0_3 i) (hc4 : cond0_4 i)

theorem out_A_9 : out0_A_9 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 = n281 B := by
  unfold out0_A_9
  rw [View.read_writes_eq_canon]
  on_goal 2 => exact fun _ => cover0_A_9 ..
  unfold kernelRun0_A
  dsimp only
  sl_unfold_words
  rw [View.canon_unit_zero hz2]
  simp only [View.readAt_eq_ld, Memref.IsWhole.read_unread, View.ld_unit_zero (S := ⟨2, _⟩) hz2, View.ld_unit_zero (S := ⟨3, _⟩) hz3]
  rfl

theorem out_A_10 : out0_A_10 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 = k0_pay132 (n19 B) (n675 B) (n676 B) (Scalar.ofBits .f32 0x3D372713#32 : Ideal .f32) := by
  unfold out0_A_10
  rw [View.read_writes_eq_canon]
  on_goal 2 => exact fun _ => cover0_A_10 ..
  unfold kernelRun0_A
  dsimp only
  sl_unfold_words
  rw [View.canon_unit_zero hz2]
  simp only [View.readAt_eq_ld, Memref.IsWhole.read_unread, View.ld_unit_zero (S := ⟨2, _⟩) hz2, View.ld_unit_zero (S := ⟨3, _⟩) hz3]
  rfl

theorem out_A_11 : out0_A_11 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 = k0_pay133 (n668 B) := by
  unfold out0_A_11
  rw [View.read_writes_eq_canon]
  on_goal 2 => exact fun _ => cover0_A_11 ..
  unfold kernelRun0_A
  dsimp only
  sl_unfold_words
  rw [View.canon_unit_zero hz2]
  simp only [View.readAt_eq_ld, Memref.IsWhole.read_unread, View.ld_unit_zero (S := ⟨2, _⟩) hz2, View.ld_unit_zero (S := ⟨3, _⟩) hz3]
  rfl

theorem out_A_12 : out0_A_12 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 = k0_pay135 (n264 B) (k0_pay134 (F := Ideal)) := by
  unfold out0_A_12
  rw [View.read_writes_eq_canon]
  on_goal 2 => exact fun _ => cover0_A_12 ..
  unfold kernelRun0_A
  dsimp only
  sl_unfold_words
  rw [View.canon_cons_unit_zero (S := S1x1024) hz2, View.readCov_unit_zero (S := S1x1024) _ hz2]
  simp only [View.readAt_eq_ld, Memref.IsWhole.read_unread, View.ld_unit_zero (S := ⟨2, _⟩) hz2, View.ld_unit_zero (S := ⟨3, _⟩) hz3]
  rfl

theorem out_A_13 : out0_A_13 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 = k0_pay137 (n244 B) (k0_pay136 (F := Ideal)) := by
  unfold out0_A_13
  rw [View.read_writes_eq_canon]
  on_goal 2 => exact fun _ => cover0_A_13 ..
  unfold kernelRun0_A
  dsimp only
  sl_unfold_words
  rw [View.canon_cons_unit_zero (S := S1x1024) hz2, View.readCov_unit_zero (S := S1x1024) _ hz2]
  simp only [View.readAt_eq_ld, Memref.IsWhole.read_unread, View.ld_unit_zero (S := ⟨2, _⟩) hz2, View.ld_unit_zero (S := ⟨3, _⟩) hz3]
  rfl

theorem out_A_14 : out0_A_14 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 = k0_pay139 (n639 B) (k0_pay138 (F := Ideal)) := by
  unfold out0_A_14
  rw [View.read_writes_eq_canon]
  on_goal 2 => exact fun _ => cover0_A_14 ..
  unfold kernelRun0_A
  dsimp only
  sl_unfold_words
  rw [View.canon_cons_unit_zero (S := S1x1024) hz2, View.readCov_unit_zero (S := S1x1024) _ hz2]
  simp only [View.readAt_eq_ld, Memref.IsWhole.read_unread, View.ld_unit_zero (S := ⟨2, _⟩) hz2, View.ld_unit_zero (S := ⟨3, _⟩) hz3]
  rfl

theorem out_A_15 : out0_A_15 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 = k0_pay2 (n635 B) (k0_pay1 (F := Ideal)) := by
  unfold out0_A_15
  rw [View.read_writes_eq_canon]
  on_goal 2 => exact fun _ => cover0_A_15 ..
  unfold kernelRun0_A
  dsimp only
  sl_unfold_words
  rw [View.canon_cons_unit_zero (S := S8x128x128) hz3, View.readCov_unit_zero (S := S8x128x128) _ hz3]
  simp only [View.readAt_eq_ld, Memref.IsWhole.read_unread, View.ld_unit_zero (S := ⟨2, _⟩) hz2, View.ld_unit_zero (S := ⟨3, _⟩) hz3]
  rfl

theorem out_A_16 : out0_A_16 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 = k0_pay4 (n609 B) (k0_pay3 (F := Ideal)) := by
  unfold out0_A_16
  rw [View.read_writes_eq_canon]
  on_goal 2 => exact fun _ => cover0_A_16 ..
  unfold kernelRun0_A
  dsimp only
  sl_unfold_words
  rw [View.canon_cons_unit_zero (S := S128x8) hz2, View.readCov_unit_zero (S := S128x8) _ hz2]
  simp only [View.readAt_eq_ld, Memref.IsWhole.read_unread, View.ld_unit_zero (S := ⟨2, _⟩) hz2, View.ld_unit_zero (S := ⟨3, _⟩) hz3]
  rfl

end

section

variable (hc0 : ¬cond0_0 i) (hc1 : ¬cond0_1 i) (hc2 : ¬cond0_2 i) (hc3 : ¬cond0_3 i) (hc4 : ¬cond0_4 i)
  (xo12 xo13 xo14 : Vec Ideal S1x1024 .f32) (xo15 : Vec Ideal S8x128x128 .f32) (xo16 : Vec Ideal S128x8 .f32)

theorem out_B_9 : out0_B_9 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 xo12 xo13 xo14 xo15 xo16 = n281 B := by
  unfold out0_B_9
  rw [View.read_writes_eq_canon]
  on_goal 2 => exact fun _ => cover0_B_9 ..
  unfold kernelRun0_B
  dsimp only
  sl_unfold_words
  rw [View.canon_unit_zero hz2]
  simp only [View.readAt_eq_ld, Memref.IsWhole.read_unread, View.ld_unit_zero (S := ⟨2, _⟩) hz2, View.ld_unit_zero (S := ⟨3, _⟩) hz3]
  rfl

theorem out_B_10 : out0_B_10 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 xo12 xo13 xo14 xo15 xo16 = k0_pay132 (n19 B) (n675 B) (n676 B) (Scalar.ofBits .f32 0x3D372713#32 : Ideal .f32) := by
  unfold out0_B_10
  rw [View.read_writes_eq_canon]
  on_goal 2 => exact fun _ => cover0_B_10 ..
  unfold kernelRun0_B
  dsimp only
  sl_unfold_words
  rw [View.canon_unit_zero hz2]
  simp only [View.readAt_eq_ld, Memref.IsWhole.read_unread, View.ld_unit_zero (S := ⟨2, _⟩) hz2, View.ld_unit_zero (S := ⟨3, _⟩) hz3]
  rfl

theorem out_B_11 : out0_B_11 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 xo12 xo13 xo14 xo15 xo16 = k0_pay133 (n668 B) := by
  unfold out0_B_11
  rw [View.read_writes_eq_canon]
  on_goal 2 => exact fun _ => cover0_B_11 ..
  unfold kernelRun0_B
  dsimp only
  sl_unfold_words
  rw [View.canon_unit_zero hz2]
  simp only [View.readAt_eq_ld, Memref.IsWhole.read_unread, View.ld_unit_zero (S := ⟨2, _⟩) hz2, View.ld_unit_zero (S := ⟨3, _⟩) hz3]
  rfl

theorem out_B_12 : out0_B_12 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 xo12 xo13 xo14 xo15 xo16 = k0_pay135 (n264 B) xo12 := by
  unfold out0_B_12
  rw [View.read_writes_eq_canon]
  on_goal 2 => exact fun _ => cover0_B_12 ..
  unfold kernelRun0_B
  dsimp only
  sl_unfold_words
  rw [View.canon_unit_zero hz2]
  simp only [View.readAt_eq_ld, Memref.IsWhole.read_unread, View.ld_unit_zero (S := ⟨2, _⟩) hz2, View.ld_unit_zero (S := ⟨3, _⟩) hz3]
  rfl

theorem out_B_13 : out0_B_13 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 xo12 xo13 xo14 xo15 xo16 = k0_pay137 (n244 B) xo13 := by
  unfold out0_B_13
  rw [View.read_writes_eq_canon]
  on_goal 2 => exact fun _ => cover0_B_13 ..
  unfold kernelRun0_B
  dsimp only
  sl_unfold_words
  rw [View.canon_unit_zero hz2]
  simp only [View.readAt_eq_ld, Memref.IsWhole.read_unread, View.ld_unit_zero (S := ⟨2, _⟩) hz2, View.ld_unit_zero (S := ⟨3, _⟩) hz3]
  rfl

theorem out_B_14 : out0_B_14 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 xo12 xo13 xo14 xo15 xo16 = k0_pay139 (n639 B) xo14 := by
  unfold out0_B_14
  rw [View.read_writes_eq_canon]
  on_goal 2 => exact fun _ => cover0_B_14 ..
  unfold kernelRun0_B
  dsimp only
  sl_unfold_words
  rw [View.canon_unit_zero hz2]
  simp only [View.readAt_eq_ld, Memref.IsWhole.read_unread, View.ld_unit_zero (S := ⟨2, _⟩) hz2, View.ld_unit_zero (S := ⟨3, _⟩) hz3]
  rfl

theorem out_B_15 : out0_B_15 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 xo12 xo13 xo14 xo15 xo16 = k0_pay2 (n635 B) xo15 := by
  unfold out0_B_15
  rw [View.read_writes_eq_canon]
  on_goal 2 => exact fun _ => cover0_B_15 ..
  unfold kernelRun0_B
  dsimp only
  sl_unfold_words
  rw [View.canon_unit_zero hz3]
  simp only [View.readAt_eq_ld, Memref.IsWhole.read_unread, View.ld_unit_zero (S := ⟨2, _⟩) hz2, View.ld_unit_zero (S := ⟨3, _⟩) hz3]
  rfl

theorem out_B_16 : out0_B_16 c i a1 h1 a2 h2 a3 h3 a4 h4 a5 h5 a6 h6 a7 h7 a8 h8 a9 h9 a10 h10 a11 h11 a12 h12 a13 h13 a14 h14 a15 h15 a16 h16 a17 h17 hc0 hc1 hc2 hc3 hc4 x0 x1 x2 x3 x4 x5 x6 x7 x8 xo12 xo13 xo14 xo15 xo16 = k0_pay4 (n609 B) xo16 := by
  unfold out0_B_16
  rw [View.read_writes_eq_canon]
  on_goal 2 => exact fun _ => cover0_B_16 ..
  unfold kernelRun0_B
  dsimp only
  sl_unfold_words
  rw [View.canon_unit_zero hz2]
  simp only [View.readAt_eq_ld, Memref.IsWhole.read_unread, View.ld_unit_zero (S := ⟨2, _⟩) hz2, View.ld_unit_zero (S := ⟨3, _⟩) hz3]
  rfl

end

end Cert.MixIdeal.Val

end
-- ==== Proof.MixSpec.lean ====
/- The backward call of the mixing as a whole: what its eight results are, of its nine arguments. -/
module

public import proofs.«01_k».proof.Proof.MixVal

@[expose] public section

set_option maxRecDepth 16384

noncomputable section

namespace Cert.MixIdeal.Val

open Idealize.ShloMosaic

/-- The arguments: the other head group's outputs, the two halves, three gains, the matrices, the biases, the cotangent. -/
structure Args where
  x0 : (⟨2, ![4096, 1024]⟩ : Shape).Idx → EReal
  x1 : (⟨2, ![4096, 1024]⟩ : Shape).Idx → EReal
  x2 : (⟨2, ![4096, 1024]⟩ : Shape).Idx → EReal
  x3 : (⟨1, ![1024]⟩ : Shape).Idx → EReal
  x4 : (⟨1, ![1024]⟩ : Shape).Idx → EReal
  x5 : (⟨1, ![1024]⟩ : Shape).Idx → EReal
  x6 : (⟨3, ![8, 128, 128]⟩ : Shape).Idx → EReal
  x7 : (⟨2, ![8, 128]⟩ : Shape).Idx → EReal
  x8 : (⟨2, ![4096, 2048]⟩ : Shape).Idx → EReal

/-- Row `t` of chunk `g`, -/
def cr (g : Fin 32) (t : Fin 128) : Fin 4096 := ⟨g.val * 128 + t.val, by omega⟩
/-- the chunk of a row, -/
def cg (i : Fin 4096) : Fin 32 := ⟨i.val / 128, by omega⟩
/-- and its place in the chunk. -/
def ct (i : Fin 4096) : Fin 128 := ⟨i.val % 128, by omega⟩
/-- The place of lane `k` in its group. -/
def ln (k : Fin 1024) : Fin 128 := ⟨k.val % 128, by omega⟩

theorem cg_cr (g : Fin 32) (t : Fin 128) : cg (cr g t) = g := Fin.ext (by show (g.val * 128 + t.val) / 128 = g.val; omega)
theorem ct_cr (g : Fin 32) (t : Fin 128) : ct (cr g t) = t := Fin.ext (by show (g.val * 128 + t.val) % 128 = t.val; omega)
theorem cr_of (i : Fin 4096) : cr (cg i) (ct i) = i := Fin.ext (by show i.val / 128 * 128 + i.val % 128 = i.val; omega)
theorem lane_of (k : Fin 1024) : lane (grp k) (ln k) = k := Fin.ext (by show k.val / 128 * 128 + k.val % 128 = k.val; omega)
theorem grp_lane (g : Fin 8) (d : Fin 128) : grp (lane g d) = g := Fin.ext (by show (g.val * 128 + d.val) / 128 = g.val; omega)

/-- The weights of the call, -/
def par (q : Args) : Par where
  aon k := q.x3 (ix1 k)
  gon k := q.x4 (ix1 k)
  vn k := q.x5 (ix1 k)
  w g t s := q.x6 (ix3 g t s)
  bs t g := q.x7 (ix2 g t)

/-- and the rows of a chunk. -/
def chk (q : Args) (g : Fin 32) : Chk where
  A t k := q.x0 (ix2 (cr g t) k)
  U t k := q.x1 (ix2 (cr g t) k)
  V t k := q.x2 (ix2 (cr g t) k)
  D t k := q.x8 (ix2 (cr g t) k)

section
variable (q : Args)

def resA : (⟨2, ![4096, 1024]⟩ : Shape).Idx → EReal := fun i => da (par q) (chk q (cg (i 0))) (ct (i 0)) (i 1)
def resU : (⟨2, ![4096, 1024]⟩ : Shape).Idx → EReal := fun i => du (par q) (chk q (cg (i 0))) (ct (i 0)) (i 1)
def resV : (⟨2, ![4096, 1024]⟩ : Shape).Idx → EReal := fun i => dv (par q) (chk q (cg (i 0))) (ct (i 0)) (i 1)
def resAon : (⟨2, ![1, 1024]⟩ : Shape).Idx → EReal := fun i => ∑ g : Fin 32, aaon (chk q g) (i 1)
def resGon : (⟨2, ![1, 1024]⟩ : Shape).Idx → EReal := fun i => ∑ g : Fin 32, agon (par q) (chk q g) (i 1)
def resVn : (⟨2, ![1, 1024]⟩ : Shape).Idx → EReal := fun i => ∑ g : Fin 32, avn (par q) (chk q g) (i 1)
def resW : (⟨3, ![8, 128, 128]⟩ : Shape).Idx → EReal := fun i => if i 2 ≤ i 1 then ∑ g : Fin 32, aw (par q) (chk q g) (i 0) (i 1) (i 2) else 0
def resB : (⟨2, ![128, 8]⟩ : Shape).Idx → EReal := fun i => ∑ g : Fin 32, ab (par q) (chk q g) (i 0) (i 1)

end

end Cert.MixIdeal.Val

end
-- ==== Proof.MixRef.lean ====
/- What the reference of the backward call of the mixing computes: the same eight results. -/
module

public import proofs.«01_k».proof.Proof.MixSpec
public import proofs.«01_k».proof.Proof.Gen.MixRefIdeal.Read
public import Idealize.ShloMosaic.Lib.TwoAxisContraction
public import Idealize.ShloMosaic.Lib.Pointwise
public import Idealize.ShloMosaic.Lib.Tactic.WordOmega

@[expose] public section

set_option maxRecDepth 16384

noncomputable section

namespace Cert.MixRefIdeal.Val

open Cert.MixRefIdeal Cert.MixRefIdeal.Gen Cert.MixRefIdeal.Read Cert.Shapes
open Cert.MixIdeal.Val
open Idealize.ShloMosaic

variable (q : Args) (g : Fin 32) (t s : Fin 128) (k : Fin 1024) (z : Fin 1)

/-! ## The activation and the norm -/

theorem u_th : val_main_v10 (F := Ideal) q.x1 (ix2 (cr g t) k) = th ((chk q g).U t k) := by
  show _ = th (q.x1 (ix2 (cr g t) k))
  unfold th
  rw [mul_comm (q.x1 (ix2 (cr g t) k)) (_ * _)]
  pointwise [val_main_v10, val_main_v9, val_main_v8, val_main_cst_1, val_main_v7, val_main_v6, val_main_v5, val_main_cst_0, val_main_v1, val_main_v0]

theorem v_th : val_main_v31 (F := Ideal) q.x2 (ix2 (cr g t) k) = th ((chk q g).V t k) := by
  show _ = th (q.x2 (ix2 (cr g t) k))
  unfold th
  rw [mul_comm (q.x2 (ix2 (cr g t) k)) (_ * _)]
  pointwise [val_main_v31, val_main_v30, val_main_v29, val_main_cst_8, val_main_v28, val_main_v27, val_main_v26, val_main_cst_7, val_main_v22, val_main_v21]

theorem u_gl : val_main_v20 (F := Ideal) q.x1 (ix2 (cr g t) k) = gl ((chk q g).U t k) := by
  unfold gl
  rw [← u_th]
  pointwise [val_main_v20, val_main_v19, val_main_v18, val_main_cst_5, val_main_v17, val_main_v16, val_main_cst_4, chk]

theorem v_gl : val_main_v41 (F := Ideal) q.x2 (ix2 (cr g t) k) = gl ((chk q g).V t k) := by
  unfold gl
  rw [← v_th]
  pointwise [val_main_v41, val_main_v40, val_main_v39, val_main_cst_12, val_main_v38, val_main_v37, val_main_cst_11, chk]

theorem v_ms : val_main_v48 (F := Ideal) q.x2 (ix2 (cr g t) z) = ms (fun k => gl ((chk q g).V t k)) := by
  simp only [← v_gl]
  unfold ms
  pointwise [val_main_v48, val_main_v47, val_main_cst_15, val_main_v46, val_main_v45, val_main_cst_14, val_main_v44, val_main_v43, val_main_cst_13, val_main_v42]

theorem v_rs : val_main_v49 (F := Ideal) q.x2 (ix2 (cr g t) z) = rs (fun k => gl ((chk q g).V t k)) := by
  unfold rs
  rw [← v_ms q g t z]
  pointwise [val_main_v49]

theorem v_w : val_main_v52 (F := Ideal) q.x2 (ix2 (cr g t) z) = Ideal.ofBits .f32 0xBF000000#32 * Ideal.div (rs (fun k => gl ((chk q g).V t k))) (ms (fun k => gl ((chk q g).V t k))) := by
  rw [← v_ms q g t z, ← v_rs q g t z]
  pointwise [val_main_v52, val_main_v51, val_main_cst_16, val_main_v50]

theorem v_n : val_main_v54 (F := Ideal) q.x2 (ix2 (cr g t) k) = gl ((chk q g).V t k) * rs (fun k => gl ((chk q g).V t k)) := by
  rw [← v_rs q g t 0, ← v_gl]
  pointwise [val_main_v54, val_main_v53]

theorem v_nv : val_main_v57 (F := Ideal) q.x2 q.x5 (ix2 (cr g t) k) = nv (par q) (chk q g) t k := by
  unfold nv
  rw [← v_n]
  pointwise [val_main_v57, val_main_v56, val_main_v55, par]

/-! ## The mixing -/

theorem ge_word (t s : Fin 128) : IntOp.cmpi .sge (IntOp.addi (BitVec.ofNat 32 t.val) 0#32) (BitVec.ofNat 32 s.val) = 1#1 ↔ s ≤ t := by
  have hs := s.isLt
  have ht := t.isLt
  rw [Fin.le_def]
  word_omega

theorem mask_at (h : Fin 8) (t s : Fin 128) : val_main_v63_1 (F := Ideal) (ix3 h t s) = if s ≤ t then 1#1 else 0#1 := by
  pointwise [val_main_v63_1, val_main_v61, val_main_v60, val_main_call0_v5, val_main_call0_c_0, val_main_call0_v4, val_main_call0_v3, val_main_call0_v2, val_main_call0_v1, val_main_call0_c, val_main_call0_v0, val_main_v59, val_main_c]
  unfold Scalar.select
  exact if_congr (ge_word t s) rfl rfl

theorem w_at (h : Fin 8) (t s : Fin 128) : val_main_v63_0 (F := Ideal) q.x6 (ix3 h t s) = wt (par q).w h t s := by
  have e : val_main_v63_0 (F := Ideal) q.x6 (ix3 h t s) = Scalar.select (val_main_v63_1 (F := Ideal) (ix3 h t s)) (q.x6 (ix3 h t s)) 0 := by
    pointwise [val_main_v63_0, val_main_v62, val_main_cst_17]
  rw [e, mask_at]
  unfold Scalar.select wt
  by_cases hs : s ≤ t
  · rw [if_pos hs, if_pos (show (1#1 : BitVec 1) = 1 from rfl), if_pos hs]
    rfl
  · rw [if_neg hs, if_neg (by decide), if_neg hs]

theorem idx58 (h : Fin 8) (d : Fin 128) : idx_main_v58 (ix4 g t h d) = ix2 (cr g t) (lane h d) := funext fun a => Fin.ext (by
  match a with
  | ⟨0, _⟩ => show (((g.val * 128 + t.val) * 8 + h.val) * 128 + d.val) / 1024 = g.val * 128 + t.val; omega
  | ⟨1, _⟩ => show (((g.val * 128 + t.val) * 8 + h.val) * 128 + d.val) % 1024 = h.val * 128 + d.val; omega)

theorem idx70 : idx_main_v70 (ix2 (cr g t) k) = ix4 g t (grp k) (ln k) := funext fun a => Fin.ext (by
  have hk := k.isLt
  have ht := t.isLt
  match a with
  | ⟨0, _⟩ => show ((g.val * 128 + t.val) * 1024 + k.val) / 131072 = g.val; omega
  | ⟨1, _⟩ => show ((g.val * 128 + t.val) * 1024 + k.val) / 1024 % 128 = t.val; omega
  | ⟨2, _⟩ => show ((g.val * 128 + t.val) * 1024 + k.val) / 128 % 8 = k.val / 128; omega
  | ⟨3, _⟩ => show ((g.val * 128 + t.val) * 1024 + k.val) % 128 = k.val % 128; omega)

theorem n_at (h : Fin 8) (d : Fin 128) : val_main_v58 (F := Ideal) q.x2 q.x5 (ix4 g t h d) = nv (par q) (chk q g) t (lane h d) := by
  rw [val_main_v58_apply, idx58, v_nv]

theorem gate_at : val_main_v70 (F := Ideal) q.x2 q.x5 q.x6 q.x7 (ix2 (cr g t) k) = gate (par q) (chk q g) t k := by
  have e0 : val_main_v65 (F := Ideal) q.x2 q.x5 q.x6 (ix4 g t (grp k) (ln k)) = ∑ s, wt (par q).w (grp k) t s * nv (par q) (chk q g) s k := by
    rw [val_main_v65_apply, val_main_v64_apply]
    refine Finset.sum_congr rfl fun s _ => ?_
    refine (congrArg₂ (· * ·) (congrArg _ (funext fun a => Fin.ext (by
      match a with
      | ⟨0, _⟩ => rfl
      | ⟨1, _⟩ => rfl
      | ⟨2, _⟩ => rfl
      | ⟨3, _⟩ => rfl) : _ = ix4 g s (grp k) (ln k))) (congrArg _ (funext fun a => Fin.ext (by
      match a with
      | ⟨0, _⟩ => rfl
      | ⟨1, _⟩ => rfl
      | ⟨2, _⟩ => rfl) : _ = ix3 (grp k) t s))).trans ?_
    dsimp only
    rw [n_at, w_at, lane_of, mul_comm]
  have e1 : val_main_v68 (F := Ideal) q.x7 (ix4 g t (grp k) (ln k)) = (par q).bs t (grp k) := by
    rw [val_main_v68_apply, val_main_v67_apply, val_main_v66_apply]
    exact congrArg q.x7 (funext fun a => Fin.ext (by
      match a with
      | ⟨0, _⟩ => rfl
      | ⟨1, _⟩ => rfl))
  rw [val_main_v70_apply, idx70, val_main_v69_apply, e0, e1]
  rfl

theorem go_at : val_main_v71 (F := Ideal) q.x1 q.x2 q.x5 q.x6 q.x7 (ix2 (cr g t) k) = go (par q) (chk q g) t k := by
  unfold go
  rw [← u_gl, ← gate_at]
  pointwise [val_main_v71]

theorem go_ms : val_main_v94 (F := Ideal) q.x1 q.x2 q.x5 q.x6 q.x7 (ix2 (cr g t) z) = ms (go (par q) (chk q g) t) := by
  unfold ms
  simp only [← go_at]
  pointwise [val_main_v94, val_main_v93, val_main_cst_24, val_main_v92, val_main_v91, val_main_cst_23, val_main_v90, val_main_v89, val_main_cst_22, val_main_v88]

theorem go_rs : val_main_v95 (F := Ideal) q.x1 q.x2 q.x5 q.x6 q.x7 (ix2 (cr g t) z) = rs (go (par q) (chk q g) t) := by
  unfold rs
  rw [← go_ms q g t z]
  pointwise [val_main_v95]

theorem go_w : val_main_v98 (F := Ideal) q.x1 q.x2 q.x5 q.x6 q.x7 (ix2 (cr g t) z) = Ideal.ofBits .f32 0xBF000000#32 * Ideal.div (rs (go (par q) (chk q g) t)) (ms (go (par q) (chk q g) t)) := by
  rw [← go_ms q g t z, ← go_rs q g t z]
  pointwise [val_main_v98, val_main_v97, val_main_cst_25, val_main_v96]

/-! ## The gradient of the gated half -/

theorem dgo_at : val_main_v126 (F := Ideal) q.x1 q.x2 q.x4 q.x5 q.x6 q.x7 q.x8 (ix2 (cr g t) k) = dgo (par q) (chk q g) t k := by
  unfold dgo bw sh
  rw [← go_w q g t 0, ← go_rs q g t 0]
  simp only [← go_at]
  pointwise [val_main_v126, val_main_v125, val_main_v124, val_main_v123, val_main_v122, val_main_v121, val_main_cst_30, val_main_v120, val_main_v119, val_main_cst_29, val_main_v118, val_main_v117, val_main_v116, val_main_v115, val_main_v114, val_main_cst_28, val_main_v113, val_main_v111, val_main_v110, val_main_v101, val_main_v106, Fin.sum_univ_one, chk, par]
  rfl

theorem dgt_at : val_main_v147 (F := Ideal) q.x1 q.x2 q.x4 q.x5 q.x6 q.x7 q.x8 (ix2 (cr g t) k) = dgt (par q) (chk q g) t k := by
  unfold dgt
  rw [← u_gl, ← dgo_at]
  pointwise [val_main_v147]

theorem du_at : val_main_v204 (F := Ideal) q.x1 q.x2 q.x4 q.x5 q.x6 q.x7 q.x8 (ix2 (cr g t) k) = du (par q) (chk q g) t k := by
  unfold du dgl ge
  rw [← dgo_at, ← gate_at, ← u_th]
  pointwise [val_main_v204, val_main_v203, val_main_v202, val_main_v201, val_main_v200, val_main_cst_48, val_main_v199, val_main_v198, val_main_v197, val_main_cst_47, val_main_v196, val_main_v195, val_main_v194, val_main_cst_46, val_main_v193, val_main_v192, val_main_v148, val_main_v19, val_main_v18, val_main_cst_5, val_main_v17, val_main_v16, val_main_cst_4, val_main_v15, val_main_v14, val_main_cst_3, val_main_v13, val_main_v12, val_main_v11, val_main_cst_2, val_main_v4, val_main_v3, val_main_cst, val_main_v2, chk]

/-! ## The gradients of the other half, the matrices and the biases -/

theorem dt_at (h : Fin 8) (d : Fin 128) : val_main_v149 (F := Ideal) q.x1 q.x2 q.x4 q.x5 q.x6 q.x7 q.x8 (ix4 g t h d) = dgt (par q) (chk q g) t (lane h d) := by
  rw [val_main_v149_apply, ← dgt_at]
  exact congrArg _ (idx58 g t h d)

theorem dtt_at (h : Fin 8) (d : Fin 128) : val_main_v154 (F := Ideal) q.x1 q.x2 q.x4 q.x5 q.x6 q.x7 q.x8 (ix4 h g d t) = dgt (par q) (chk q g) t (lane h d) := by
  rw [val_main_v154_apply, ← dt_at]
  exact congrArg _ (funext fun a => Fin.ext (by
    match a with
    | ⟨0, _⟩ => rfl
    | ⟨1, _⟩ => rfl
    | ⟨2, _⟩ => rfl
    | ⟨3, _⟩ => rfl))

theorem dn_at : val_main_v159 (F := Ideal) q.x1 q.x2 q.x4 q.x5 q.x6 q.x7 q.x8 (ix2 (cr g s) k) = dn (par q) (chk q g) s k := by
  rw [val_main_v159_apply]
  refine (congrArg _ (idx70 g s k)).trans ?_
  rw [val_main_v157_apply, val_main_v156_apply]
  refine Finset.sum_congr rfl fun t _ => ?_
  refine (congrArg₂ (· * ·) (congrArg _ (funext fun a => Fin.ext (by
    match a with
    | ⟨0, _⟩ => rfl
    | ⟨1, _⟩ => rfl
    | ⟨2, _⟩ => rfl
    | ⟨3, _⟩ => rfl) : _ = ix4 (grp k) g (ln k) t)) (congrArg _ (funext fun a => Fin.ext (by
    match a with
    | ⟨0, _⟩ => rfl
    | ⟨1, _⟩ => rfl
    | ⟨2, _⟩ => rfl) : _ = ix3 (grp k) t s))).trans ?_
  dsimp only
  rw [dtt_at, w_at, lane_of, mul_comm]

theorem dv_at : val_main_v205 (F := Ideal) q.x1 q.x2 q.x4 q.x5 q.x6 q.x7 q.x8 (ix2 (cr g t) k) = dv (par q) (chk q g) t k := by
  unfold dv dgl bw sh ge
  rw [← v_w q g t 0, ← v_rs q g t 0]
  simp only [← v_gl, ← dn_at]
  rw [← v_th]
  pointwise [val_main_v205, val_main_v191, val_main_v190, val_main_v189, val_main_v188, val_main_cst_45, val_main_v187, val_main_v186, val_main_v185, val_main_cst_44, val_main_v184, val_main_v183, val_main_v182, val_main_cst_43, val_main_v181, val_main_v180, val_main_v179, val_main_v178, val_main_v177, val_main_v176, val_main_v175, val_main_v174, val_main_cst_42, val_main_v173, val_main_v172, val_main_cst_41, val_main_v171, val_main_v170, val_main_v169, val_main_v168, val_main_v167, val_main_cst_40, val_main_v166, val_main_v164, val_main_v163, val_main_v55, val_main_v40, val_main_v39, val_main_cst_12, val_main_v38, val_main_v37, val_main_cst_11, val_main_v36, val_main_v35, val_main_cst_10, val_main_v34, val_main_v33, val_main_v32, val_main_cst_9, val_main_v25, val_main_v24, val_main_cst_6, val_main_v23, Fin.sum_univ_one, chk, par]

/-! ## The other head group -/

theorem a_ms : val_main_v78 (F := Ideal) q.x0 (ix2 (cr g t) z) = ms ((chk q g).A t) := by
  unfold ms
  pointwise [val_main_v78, val_main_v77, val_main_cst_20, val_main_v76, val_main_v75, val_main_cst_19, val_main_v74, val_main_v73, val_main_cst_18, val_main_v72, chk]

theorem a_rs : val_main_v79 (F := Ideal) q.x0 (ix2 (cr g t) z) = rs ((chk q g).A t) := by
  unfold rs
  rw [← a_ms q g t z]
  pointwise [val_main_v79]

theorem a_w : val_main_v82 (F := Ideal) q.x0 (ix2 (cr g t) z) = Ideal.ofBits .f32 0xBF000000#32 * Ideal.div (rs ((chk q g).A t)) (ms ((chk q g).A t)) := by
  rw [← a_ms q g t z, ← a_rs q g t z]
  pointwise [val_main_v82, val_main_v81, val_main_cst_21, val_main_v80]

theorem da_at : val_main_v146 (F := Ideal) q.x0 q.x3 q.x8 (ix2 (cr g t) k) = da (par q) (chk q g) t k := by
  unfold da bw sh
  rw [← a_w q g t 0, ← a_rs q g t 0]
  pointwise [val_main_v146, val_main_v145, val_main_v144, val_main_v143, val_main_v142, val_main_v141, val_main_cst_35, val_main_v140, val_main_v139, val_main_cst_34, val_main_v138, val_main_v137, val_main_v136, val_main_v135, val_main_v134, val_main_cst_33, val_main_v133, val_main_v131, val_main_v130, val_main_v85, val_main_v105, Fin.sum_univ_one, chk, par]
  rfl

/-! ## The results -/

theorem ref_A : val_main_v146 (F := Ideal) q.x0 q.x3 q.x8 = resA q := by
  funext j
  obtain ⟨i, k, rfl⟩ : ∃ (i : Fin 4096) (k : Fin 1024), j = ix2 i k := ⟨_, _, eq_ix2 j⟩
  have e := da_at q (cg i) (ct i) k
  rw [cr_of] at e
  exact e

theorem ref_U : val_main_v204 (F := Ideal) q.x1 q.x2 q.x4 q.x5 q.x6 q.x7 q.x8 = resU q := by
  funext j
  obtain ⟨i, k, rfl⟩ : ∃ (i : Fin 4096) (k : Fin 1024), j = ix2 i k := ⟨_, _, eq_ix2 j⟩
  have e := du_at q (cg i) (ct i) k
  rw [cr_of] at e
  exact e

theorem ref_V : val_main_v205 (F := Ideal) q.x1 q.x2 q.x4 q.x5 q.x6 q.x7 q.x8 = resV q := by
  funext j
  obtain ⟨i, k, rfl⟩ : ∃ (i : Fin 4096) (k : Fin 1024), j = ix2 i k := ⟨_, _, eq_ix2 j⟩
  have e := dv_at q (cg i) (ct i) k
  rw [cr_of] at e
  exact e

theorem ref_Aon : val_main_v206 (F := Ideal) q.x0 q.x8 = resAon q := by
  funext j
  obtain ⟨z, k, rfl⟩ : ∃ (z : Fin 1) (k : Fin 1024), j = ix2 z k := ⟨_, _, eq_ix2 j⟩
  show _ = ∑ g : Fin 32, aaon (chk q g) k
  have e : val_main_v206 (F := Ideal) q.x0 q.x8 (ix2 z k) = ∑ i : Fin 4096, q.x0 (ix2 i k) * val_main_v79 (F := Ideal) q.x0 (ix2 i 0) * q.x8 (ix2 i (lo2 k)) := by
    pointwise [val_main_v206, val_main_v132, val_main_cst_32, val_main_v129, val_main_v128, val_main_cst_31, val_main_v127, val_main_v84, val_main_v83, val_main_v105, Fin.sum_univ_one]
    rfl
  rw [e, sum_blocks 32 128 rfl]
  refine Finset.sum_congr rfl fun g _ => Finset.sum_congr rfl fun t _ => ?_
  show _ * val_main_v79 (F := Ideal) q.x0 (ix2 (cr g t) 0) * _ = _
  rw [a_rs]
  rfl

theorem ref_Gon : val_main_v207 (F := Ideal) q.x1 q.x2 q.x5 q.x6 q.x7 q.x8 = resGon q := by
  funext j
  obtain ⟨z, k, rfl⟩ : ∃ (z : Fin 1) (k : Fin 1024), j = ix2 z k := ⟨_, _, eq_ix2 j⟩
  show _ = ∑ g : Fin 32, agon (par q) (chk q g) k
  have e : val_main_v207 (F := Ideal) q.x1 q.x2 q.x5 q.x6 q.x7 q.x8 (ix2 z k) = ∑ i : Fin 4096, val_main_v71 (F := Ideal) q.x1 q.x2 q.x5 q.x6 q.x7 (ix2 i k) * val_main_v95 (F := Ideal) q.x1 q.x2 q.x5 q.x6 q.x7 (ix2 i 0) * q.x8 (ix2 i (hi2 k)) := by
    pointwise [val_main_v207, val_main_v112, val_main_cst_27, val_main_v109, val_main_v108, val_main_cst_26, val_main_v107, val_main_v100, val_main_v99, val_main_v106, Fin.sum_univ_one]
    rfl
  rw [e, sum_blocks 32 128 rfl]
  refine Finset.sum_congr rfl fun g _ => Finset.sum_congr rfl fun t _ => ?_
  show val_main_v71 (F := Ideal) q.x1 q.x2 q.x5 q.x6 q.x7 (ix2 (cr g t) k) * val_main_v95 (F := Ideal) q.x1 q.x2 q.x5 q.x6 q.x7 (ix2 (cr g t) 0) * _ = _
  rw [go_at, go_rs]
  rfl

theorem ref_Vn : val_main_v208 (F := Ideal) q.x1 q.x2 q.x4 q.x5 q.x6 q.x7 q.x8 = resVn q := by
  funext j
  obtain ⟨z, k, rfl⟩ : ∃ (z : Fin 1) (k : Fin 1024), j = ix2 z k := ⟨_, _, eq_ix2 j⟩
  show _ = ∑ g : Fin 32, avn (par q) (chk q g) k
  have e : val_main_v208 (F := Ideal) q.x1 q.x2 q.x4 q.x5 q.x6 q.x7 q.x8 (ix2 z k) = ∑ i : Fin 4096, val_main_v54 (F := Ideal) q.x2 (ix2 i k) * val_main_v159 (F := Ideal) q.x1 q.x2 q.x4 q.x5 q.x6 q.x7 q.x8 (ix2 i k) := by
    pointwise [val_main_v208, val_main_v165, val_main_cst_39, val_main_v162, val_main_v161, val_main_cst_38, val_main_v160, Fin.sum_univ_one]
  rw [e, sum_blocks 32 128 rfl]
  refine Finset.sum_congr rfl fun g _ => Finset.sum_congr rfl fun t _ => ?_
  show val_main_v54 (F := Ideal) q.x2 (ix2 (cr g t) k) * val_main_v159 (F := Ideal) q.x1 q.x2 q.x4 q.x5 q.x6 q.x7 q.x8 (ix2 (cr g t) k) = _
  rw [v_n, dn_at]

theorem dw_at (h : Fin 8) (t s : Fin 128) : val_main_v155 (F := Ideal) q.x1 q.x2 q.x4 q.x5 q.x6 q.x7 q.x8 (ix3 h t s) = ∑ g, aw (par q) (chk q g) h t s := by
  have e : val_main_v155 (F := Ideal) q.x1 q.x2 q.x4 q.x5 q.x6 q.x7 q.x8 (ix3 h t s) = ∑ g : Fin 32, ∑ d : Fin 128, val_main_v154 (F := Ideal) q.x1 q.x2 q.x4 q.x5 q.x6 q.x7 q.x8 (ix4 h g d t) * val_main_v58 (F := Ideal) q.x2 q.x5 (ix4 g s h d) := by
    unfold val_main_v155
    generalize val_main_v154 (F := Ideal) q.x1 q.x2 q.x4 q.x5 q.x6 q.x7 q.x8 = y0
    generalize val_main_v58 (F := Ideal) q.x2 q.x5 = y1
    simp only [Host.dotGeneral]
    rw [Ideal.dotGeneral_apply, ValueIdx.sum_contr2 dot_S8x32x128x128_S32x128x8x128_S8x128x128_12_03_3_1_0_2 32 128 rfl rfl rfl]
    refine Finset.sum_congr rfl fun g _ => Finset.sum_congr rfl fun d _ => ?_
    have k0 := ValueIdx.contrEquiv2_symm_val0 dot_S8x32x128x128_S32x128x8x128_S8x128x128_12_03_3_1_0_2 32 128 rfl rfl rfl (g, d)
    have k1 := ValueIdx.contrEquiv2_symm_val1 dot_S8x32x128x128_S32x128x8x128_S8x128x128_12_03_3_1_0_2 32 128 rfl rfl rfl (g, d)
    refine congrArg₂ (· * ·) (congrArg y0 (funext fun a => Fin.ext ?_)) (congrArg y1 (funext fun a => Fin.ext ?_))
    · match a with
      | ⟨0, _⟩ => rfl
      | ⟨1, _⟩ => exact k0
      | ⟨2, _⟩ => exact k1
      | ⟨3, _⟩ => rfl
    · match a with
      | ⟨0, _⟩ => exact k0
      | ⟨1, _⟩ => rfl
      | ⟨2, _⟩ => rfl
      | ⟨3, _⟩ => exact k1
  rw [e]
  refine Finset.sum_congr rfl fun g _ => Finset.sum_congr rfl fun d _ => ?_
  rw [dtt_at, n_at]

theorem ref_W : val_main_v158 (F := Ideal) q.x1 q.x2 q.x4 q.x5 q.x6 q.x7 q.x8 = resW q := by
  funext j
  obtain ⟨h, t, s, rfl⟩ : ∃ (h : Fin 8) (t s : Fin 128), j = ix3 h t s := ⟨_, _, _, eq_ix3 j⟩
  show _ = if s ≤ t then ∑ g, aw (par q) (chk q g) h t s else 0
  have e : val_main_v158 (F := Ideal) q.x1 q.x2 q.x4 q.x5 q.x6 q.x7 q.x8 (ix3 h t s) = Scalar.select (val_main_v63_1 (F := Ideal) (ix3 h t s)) (val_main_v155 (F := Ideal) q.x1 q.x2 q.x4 q.x5 q.x6 q.x7 q.x8 (ix3 h t s)) 0 := by
    pointwise [val_main_v158, val_main_call2_v0, val_main_call2_cst]
  rw [e, mask_at, dw_at]
  unfold Scalar.select
  by_cases hs : s ≤ t
  · rw [if_pos hs, if_pos (show (1#1 : BitVec 1) = 1 from rfl), if_pos hs]
  · rw [if_neg hs, if_neg (by decide), if_neg hs]

/-- A sum over the first and the last of four axes. -/
theorem sum03 {n0 n1 n2 n3 : ℕ} (h : (⟨4, ![n0, n1, n2, n3]⟩ : Shape).ReducesTo [0, 3] ⟨2, ![n1, n2]⟩) (x : (⟨4, ![n0, n1, n2, n3]⟩ : Shape).Idx → EReal)
    (c : EReal) (t : Fin n1) (u : Fin n2) : Ideal.hostReduceAdd h x c (ix2 t u) = c + ∑ a : Fin n0, ∑ b : Fin n3, x (ix4 a t u b) := by
  unfold Ideal.hostReduceAdd
  refine congrArg (c + ·) ?_
  rw [← Fintype.sum_prod_type' (f := fun a b => x (ix4 a t u b))]
  refine Finset.sum_bij' (fun i _ => (i 0, i 3)) (fun p _ => ix4 p.1 t u p.2) (fun _ _ => Finset.mem_univ _) (fun p _ => ?_) (fun i hi => ?_) (fun p _ => rfl) (fun i hi => ?_)
  · refine Finset.mem_filter.mpr ⟨Finset.mem_univ _, funext fun b => Fin.ext ?_⟩
    match b with
    | ⟨0, _⟩ => rfl
    | ⟨1, _⟩ => rfl
  all_goals
    have hd := (Finset.mem_filter.mp hi).2
    have h0 : i 1 = t := Fin.ext (congrArg Fin.val (congrFun hd 0))
    have h1 : i 2 = u := Fin.ext (congrArg Fin.val (congrFun hd 1))
    subst h0 h1
  · exact (eq_ix4 i).symm
  · exact congrArg x (eq_ix4 i)

theorem ref_B : val_main_v209 (F := Ideal) q.x1 q.x2 q.x4 q.x5 q.x6 q.x7 q.x8 = resB q := by
  funext j
  obtain ⟨t, h, rfl⟩ : ∃ (t : Fin 128) (h : Fin 8), j = ix2 t h := ⟨_, _, eq_ix2 j⟩
  show _ = ∑ g, ab (par q) (chk q g) t h
  have e0 : val_main_v150 (F := Ideal) q.x1 q.x2 q.x4 q.x5 q.x6 q.x7 q.x8 (ix2 t h) = ∑ g, ab (par q) (chk q g) t h := by
    have e : val_main_v150 (F := Ideal) q.x1 q.x2 q.x4 q.x5 q.x6 q.x7 q.x8 (ix2 t h) = Ideal.ofBits .f32 0x00000000#32 + ∑ g : Fin 32, ∑ d : Fin 128, val_main_v149 (F := Ideal) q.x1 q.x2 q.x4 q.x5 q.x6 q.x7 q.x8 (ix4 g t h d) := by
      unfold val_main_v150
      exact sum03 _ _ _ t h
    rw [e, Ideal.ofBits_zero_f32, zero_add]
    refine Finset.sum_congr rfl fun g _ => Finset.sum_congr rfl fun d _ => ?_
    rw [dt_at]
  have e1 : val_main_v152 (F := Ideal) q.x1 q.x2 q.x4 q.x5 q.x6 q.x7 q.x8 (ix2 t h) = val_main_v150 (F := Ideal) q.x1 q.x2 q.x4 q.x5 q.x6 q.x7 q.x8 (ix2 t h) := by
    have e : val_main_v152 (F := Ideal) q.x1 q.x2 q.x4 q.x5 q.x6 q.x7 q.x8 (ix2 t h) = Ideal.ofBits .f32 0x00000000#32 + ∑ g : Fin 1, ∑ d : Fin 1, val_main_v151 (F := Ideal) q.x1 q.x2 q.x4 q.x5 q.x6 q.x7 q.x8 (ix4 g t h d) := by
      unfold val_main_v152
      exact sum03 _ _ _ t h
    rw [e, Ideal.ofBits_zero_f32, zero_add, Fin.sum_univ_one, Fin.sum_univ_one, val_main_v151_apply]
    exact congrArg _ (funext fun a => Fin.ext (by
      have hh := h.isLt
      match a with
      | ⟨0, _⟩ => show (((0 * 128 + t.val) * 8 + h.val) * 1 + 0) / 8 = t.val; omega
      | ⟨1, _⟩ => show (((0 * 128 + t.val) * 8 + h.val) * 1 + 0) % 8 = h.val; omega))
  rw [val_main_v209_apply, val_main_v153_apply, ← e0, ← e1]
  exact congrArg _ (funext fun a => Fin.ext (by
    match a with
    | ⟨0, _⟩ => rfl
    | ⟨1, _⟩ => rfl))

end Cert.MixRefIdeal.Val

end
-- ==== Proof.MixValue.lean ====
/- The backward call of the mixing: what the kernel leaves in its eight results, and that the reference computes the same. -/
module

public import proofs.«01_k».proof.Proof.MixOut
public import proofs.«01_k».proof.Proof.MixSpec
public import proofs.«01_k».proof.Proof.MixRef
public import proofs.«01_k».proof.Proof.MixFrame
public import proofs.«01_k».proof.Defs
public import Idealize.ShloMosaic.Lib.StableHlo.ReadAt

@[expose] public section

set_option maxRecDepth 16384

noncomputable section

namespace Cert.MixIdeal.Val

open Cert.MixIdeal Cert.MixIdeal.Gen Cert.Shapes
open Idealize.ShloMosaic Idealize.ShloMosaic.TcCoe Idealize.ShloMosaic.Tactic
open Idealize.SL Idealize.SL.Sem

open Idealize.ShloMosaic.Pipeline (Dat Cfg Window)

variable (m : (ℓ : Loc nD τ sig) → Buf (Elt Ideal) ℓ)

/-! ## The blocks the windows read -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)
theorem idx13 : ∀ t : Fin cfg0.N, win0_13.index t 0 = 0 ∧ win0_13.index t 1 = 0 :=
  (by decide +kernel : ∀ t : Fin grid0.N, win0_13.index t 0 = 0 ∧ win0_13.index t 1 = 0)
theorem idx14 : ∀ t : Fin cfg0.N, win0_14.index t 0 = 0 ∧ win0_14.index t 1 = 0 :=
  (by decide +kernel : ∀ t : Fin grid0.N, win0_14.index t 0 = 0 ∧ win0_14.index t 1 = 0)
theorem idx16 : ∀ t : Fin cfg0.N, win0_16.index t 0 = 0 ∧ win0_16.index t 1 = 0 :=
  (by decide +kernel : ∀ t : Fin grid0.N, win0_16.index t 0 = 0 ∧ win0_16.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 1 :=
  (by decide +kernel : ∀ t : Fin grid0.N, win0_2.index t 0 = t.val ∧ win0_2.index t 1 = 1)
theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

/-- Row `r` of point `t`'s block, in the whole array. -/
def row (t : Fin cfg0.N) (r : Fin 256) : Fin 4096 :=
  ⟨t.val * 256 + r.val, by have := lt_of_lt_of_eq t.isLt (show cfg0.N = 16 from N_0); omega⟩

/-- Chunk `d` of point `t`'s block, in the whole array. -/
def gch (t : Fin cfg0.N) (d : Fin 2) : Fin 32 :=
  ⟨t.val * 2 + d.val, by have := lt_of_lt_of_eq t.isLt (show cfg0.N = 16 from N_0); omega⟩

theorem row_rw (t : Fin cfg0.N) (d : Fin 2) (r : Fin 128) : row t (rw' d r) = cr (gch t d) r :=
  Fin.ext (by show t.val * 256 + (d.val * 128 + r.val) = (t.val * 2 + d.val) * 128 + r.val; omega)

theorem rw_of (r : Fin 256) : ∃ (d : Fin 2) (s : Fin 128), r = rw' d s :=
  ⟨⟨r.val / 128, by omega⟩, ⟨r.val % 128, by omega⟩, Fin.ext (by show r.val = r.val / 128 * 128 + r.val % 128; omega)⟩

/-- What the call is given. -/
def args (c : Dev nD) : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)

def X0 (c : Dev nD) := (args m c).x0
def X8 (c : Dev nD) := (args m c).x8
def Z (c : Dev nD) : S4096x2048.Idx → EReal := V m c main_v0
def G3 (c : Dev nD) : S1x1024.Idx → EReal := V m c main_v1
def G4 (c : Dev nD) : S1x1024.Idx → EReal := V m c main_v2
def G5 (c : Dev nD) : S1x1024.Idx → EReal := V m c main_v3
def B7 (c : Dev nD) : S128x8.Idx → EReal := V m c main_v4

theorem G3_apply (c : Dev nD) (z : Fin 1) (k : Fin 1024) : G3 m c (ix2 z k) = (args m c).x3 (ix1 k) := by
  show _ = m (c, Proc.devRef .tc main_arg3) (ix1 k)
  unfold G3 V hostOps0
  after_reads_at

theorem G4_apply (c : Dev nD) (z : Fin 1) (k : Fin 1024) : G4 m c (ix2 z k) = (args m c).x4 (ix1 k) := by
  show _ = m (c, Proc.devRef .tc main_arg4) (ix1 k)
  unfold G4 V hostOps0
  after_reads_at

theorem G5_apply (c : Dev nD) (z : Fin 1) (k : Fin 1024) : G5 m c (ix2 z k) = (args m c).x5 (ix1 k) := by
  show _ = m (c, Proc.devRef .tc main_arg5) (ix1 k)
  unfold G5 V hostOps0
  after_reads_at

theorem B7_apply (c : Dev nD) (t : Fin 128) (g : Fin 8) : B7 m c (ix2 t g) = (args m c).x7 (ix2 g t) := by
  show _ = m (c, Proc.devRef .tc main_arg7) (ix2 g t)
  unfold B7 V hostOps0
  after_reads_at

theorem Z_eq (c : Dev nD) : Z m c = concatenate S4096x2048 1 [⟨S4096x1024, (args m c).x1⟩, ⟨S4096x1024, (args m c).x2⟩] concatenates_S4096x1024_S4096x1024_S4096x2048_d1 := by
  unfold Z V hostOps0
  after_reads_simp
  rfl

theorem Z_lo (c : Dev nD) (i : Fin 4096) (k : Fin 1024) : Z m c (ix2 i (lo2 k)) = (args m c).x1 (ix2 i k) := by
  rw [Z_eq]
  generalize (args m c).x1 = u
  generalize (args m c).x2 = v
  unfold lo2
  pointwise []

theorem Z_hi (c : Dev nD) (i : Fin 4096) (k : Fin 1024) : Z m c (ix2 i (hi2 k)) = (args m c).x2 (ix2 i k) := by
  rw [Z_eq]
  generalize (args m c).x1 = u
  generalize (args m c).x2 = v
  unfold hi2
  pointwise []

theorem iblk0 (c : Dev nD) (t : Fin cfg0.N) (r : Fin 256) (k : Fin 1024) : iblk m c 0 t (ix2 r k) = X0 m c (ix2 (row t r) k) := by
  unfold iblk X0 args
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = t.val * 256 + r.val; rw [(idx0 t).1]; omega
  | ⟨1, _⟩ => show win0_0.index t 1 * 1024 + 1 * k.val = k.val; rw [(idx0 t).2]; omega

theorem iblk8 (c : Dev nD) (t : Fin cfg0.N) (r : Fin 256) (k : Fin 2048) : iblk m c 8 t (ix2 r k) = X8 m c (ix2 (row t r) k) := by
  unfold iblk X8 args
  rw [View.read_apply]
  show V m c main_arg8 _ = _
  rw [V_main_arg8]
  refine congrArg (m ((c : Thread nD τ).loc main_arg8)) (funext fun a => Fin.ext ?_)
  match a with
  | ⟨0, _⟩ => show win0_8.index t 0 * 256 + 1 * r.val = t.val * 256 + r.val; rw [(idx8 t).1]; omega
  | ⟨1, _⟩ => show win0_8.index t 1 * 2048 + 1 * k.val = k.val; rw [(idx8 t).2]; omega

theorem iblk1 (c : Dev nD) (t : Fin cfg0.N) (r : Fin 256) (k : Fin 1024) : iblk m c 1 t (ix2 r k) = Z m c (ix2 (row t r) (lo2 k)) := by
  unfold iblk Z
  rw [View.read_apply]
  show V m c main_v0 _ = _
  refine congrArg (V m c main_v0) (funext fun a => Fin.ext ?_)
  match a with
  | ⟨0, _⟩ => show win0_1.index t 0 * 256 + 1 * r.val = t.val * 256 + r.val; rw [(idx1 t).1]; omega
  | ⟨1, _⟩ => show win0_1.index t 1 * 1024 + 1 * k.val = k.val; rw [(idx1 t).2]; omega

theorem iblk2 (c : Dev nD) (t : Fin cfg0.N) (r : Fin 256) (k : Fin 1024) : iblk m c 2 t (ix2 r k) = Z m c (ix2 (row t r) (hi2 k)) := by
  unfold iblk Z
  rw [View.read_apply]
  show V m c main_v0 _ = _
  refine congrArg (V m c main_v0) (funext fun a => Fin.ext ?_)
  match a with
  | ⟨0, _⟩ => show win0_2.index t 0 * 256 + 1 * r.val = t.val * 256 + r.val; rw [(idx2 t).1]; omega
  | ⟨1, _⟩ => show win0_2.index t 1 * 1024 + 1 * k.val = 1024 + k.val; rw [(idx2 t).2]; omega

theorem iblk3 (c : Dev nD) (t : Fin cfg0.N) (r : Fin 1) (k : Fin 1024) : iblk m c 3 t (ix2 r k) = G3 m c (ix2 r k) := by
  unfold iblk G3
  rw [View.read_apply]
  show V m c main_v1 _ = _
  refine congrArg (V m c main_v1) (funext fun a => Fin.ext ?_)
  match a with
  | ⟨0, _⟩ => show win0_3.index t 0 * 1 + 1 * r.val = r.val; rw [(idx3 t).1]; omega
  | ⟨1, _⟩ => show win0_3.index t 1 * 1024 + 1 * k.val = k.val; rw [(idx3 t).2]; omega

theorem iblk4 (c : Dev nD) (t : Fin cfg0.N) (r : Fin 1) (k : Fin 1024) : iblk m c 4 t (ix2 r k) = G4 m c (ix2 r k) := by
  unfold iblk G4
  rw [View.read_apply]
  show V m c main_v2 _ = _
  refine congrArg (V m c main_v2) (funext fun a => Fin.ext ?_)
  match a with
  | ⟨0, _⟩ => show win0_4.index t 0 * 1 + 1 * r.val = r.val; rw [(idx4 t).1]; omega
  | ⟨1, _⟩ => show win0_4.index t 1 * 1024 + 1 * k.val = k.val; rw [(idx4 t).2]; omega

theorem iblk5 (c : Dev nD) (t : Fin cfg0.N) (r : Fin 1) (k : Fin 1024) : iblk m c 5 t (ix2 r k) = G5 m c (ix2 r k) := by
  unfold iblk G5
  rw [View.read_apply]
  show V m c main_v3 _ = _
  refine congrArg (V m c main_v3) (funext fun a => Fin.ext ?_)
  match a with
  | ⟨0, _⟩ => show win0_5.index t 0 * 1 + 1 * r.val = r.val; rw [(idx5 t).1]; omega
  | ⟨1, _⟩ => show win0_5.index t 1 * 1024 + 1 * k.val = k.val; rw [(idx5 t).2]; omega

theorem iblk7 (c : Dev nD) (t : Fin cfg0.N) (r : Fin 128) (k : Fin 8) : iblk m c 7 t (ix2 r k) = B7 m c (ix2 r k) := by
  unfold iblk B7
  rw [View.read_apply]
  show V m c main_v4 _ = _
  refine congrArg (V m c main_v4) (funext fun a => Fin.ext ?_)
  match a with
  | ⟨0, _⟩ => show win0_7.index t 0 * 128 + 1 * r.val = r.val; rw [(idx7 t).1]; omega
  | ⟨1, _⟩ => show win0_7.index t 1 * 8 + 1 * k.val = k.val; rw [(idx7 t).2]; omega

theorem iblk6 (c : Dev nD) (t : Fin cfg0.N) (g : Fin 8) (r s : Fin 128) : iblk m c 6 t (ix3 g r s) = (args m c).x6 (ix3 g r s) := by
  unfold iblk args
  rw [View.read_apply]
  show V m c main_arg6 _ = _
  rw [V_main_arg6]
  refine congrArg (m ((c : Thread nD τ).loc main_arg6)) (funext fun a => Fin.ext ?_)
  match a with
  | ⟨0, _⟩ => show win0_6.index t 0 * 8 + 1 * g.val = g.val; rw [(idx6 t).1]; omega
  | ⟨1, _⟩ => show win0_6.index t 1 * 128 + 1 * r.val = r.val; rw [(idx6 t).2.1]; omega
  | ⟨2, _⟩ => show win0_6.index t 2 * 128 + 1 * s.val = s.val; rw [(idx6 t).2.2]; omega

/-- The blocks point `t` reads. -/
abbrev blk (c : Dev nD) (t : Fin cfg0.N) : Blk :=
  ⟨iblk m c 0 t, iblk m c 1 t, iblk m c 2 t, iblk m c 3 t, iblk m c 4 t, iblk m c 5 t, iblk m c 6 t, iblk m c 7 t, iblk m c 8 t⟩

theorem pr_blk (c : Dev nD) (t : Fin cfg0.N) : pr (blk m c t) = par (args m c) := by
  unfold pr par
  congr 1
  · exact funext fun k => (iblk3 m c t 0 k).trans (G3_apply m c 0 k)
  · exact funext fun k => (iblk4 m c t 0 k).trans (G4_apply m c 0 k)
  · exact funext fun k => (iblk5 m c t 0 k).trans (G5_apply m c 0 k)
  · exact funext fun g => funext fun r => funext fun s => iblk6 m c t g r s
  · exact funext fun r => funext fun g => (iblk7 m c t r g).trans (B7_apply m c r g)

theorem ck_blk (c : Dev nD) (t : Fin cfg0.N) (d : Fin 2) : ck (blk m c t) d = chk (args m c) (gch t d) := by
  unfold ck chk
  simp only [← row_rw]
  congr 1
  · exact funext fun r => funext fun k => iblk0 m c t (rw' d r) k
  · exact funext fun r => funext fun k => (iblk1 m c t (rw' d r) k).trans (Z_lo m c _ k)
  · exact funext fun r => funext fun k => (iblk2 m c t (rw' d r) k).trans (Z_hi m c _ k)
  · exact funext fun r => funext fun k => iblk8 m c t (rw' d r) k

theorem resA_at (q : Args) (g : Fin 32) (t : Fin 128) (k : Fin 1024) : resA q (ix2 (cr g t) k) = da (par q) (chk q g) t k := by
  show da (par q) (chk q (cg (cr g t))) (ct (cr g t)) k = _
  rw [cg_cr, ct_cr]

theorem resU_at (q : Args) (g : Fin 32) (t : Fin 128) (k : Fin 1024) : resU q (ix2 (cr g t) k) = du (par q) (chk q g) t k := by
  show du (par q) (chk q (cg (cr g t))) (ct (cr g t)) k = _
  rw [cg_cr, ct_cr]

theorem resV_at (q : Args) (g : Fin 32) (t : Fin 128) (k : Fin 1024) : resV q (ix2 (cr g t) k) = dv (par q) (chk q g) t k := by
  show dv (par q) (chk q (cg (cr g t))) (ct (cr g t)) k = _
  rw [cg_cr, ct_cr]

/-! ## The results -/

theorem outs_1 (c : Dev nD) (t : Fin cfg0.N) :
    (outsAt0 m c t.val t.isLt).1 = n281 (blk m c t) := by
  by_cases h0 : t.val % 16 = 0
  · rw [outsAt0_A m c t h0 h0 h0 h0 h0]; dsimp only; rw [out_A_9]
  · rw [outsAt0_B m c t h0 h0 h0 h0 h0]; dsimp only; rw [out_B_9]

theorem outs_2 (c : Dev nD) (t : Fin cfg0.N) :
    (outsAt0 m c t.val t.isLt).2.1 = k0_pay132 (n19 (blk m c t)) (n675 (blk m c t)) (n676 (blk m c t)) (Scalar.ofBits .f32 0x3D372713#32 : Ideal .f32) := by
  by_cases h0 : t.val % 16 = 0
  · rw [outsAt0_A m c t h0 h0 h0 h0 h0]; dsimp only; rw [out_A_10]
  · rw [outsAt0_B m c t h0 h0 h0 h0 h0]; dsimp only; rw [out_B_10]

theorem outs_3 (c : Dev nD) (t : Fin cfg0.N) :
    (outsAt0 m c t.val t.isLt).2.2.1 = k0_pay133 (n668 (blk m c t)) := by
  by_cases h0 : t.val % 16 = 0
  · rw [outsAt0_A m c t h0 h0 h0 h0 h0]; dsimp only; rw [out_A_11]
  · rw [outsAt0_B m c t h0 h0 h0 h0 h0]; dsimp only; rw [out_B_11]

theorem out_a (c : Dev nD) : (dats m 0 c).arrAt 9 cfg0.N = resA (args m c) := by
  have hN : cfg0.N = 16 := N_0
  refine (dats m 0 c).arrAt_eq_of_cover 9 (resA (args m c)) (fun t _ => ?_) fun i => ?_
  · show (cfg0.win 9).cut (grid0.coords t) ((dats m 0 c).after 9 t) = _
    rw [after0_9, outs_1]
    funext j
    obtain ⟨r, k, rfl⟩ : ∃ (r : Fin 256) (k : Fin 1024), j = ix2 r k := ⟨_, _, eq_ix2 j⟩
    rw [View.read_apply]
    have e : ((((cfg0.win 9).blk t).view.emb (ix2 r k)) : S4096x1024.Idx) = ix2 (row t r) k := funext fun a => Fin.ext (by
      match a with
      | ⟨0, _⟩ => show win0_9.index t 0 * 256 + 1 * r.val = t.val * 256 + r.val; rw [(idx9 t).1]; omega
      | ⟨1, _⟩ => show win0_9.index t 1 * 1024 + 1 * k.val = k.val; rw [(idx9 t).2]; omega)
    refine Eq.trans ?_ (congrArg (resA (args m c)) e.symm)
    obtain ⟨d, s, rfl⟩ := rw_of r
    refine (da_row (blk m c t) d s k).trans ?_
    rw [ck_blk, pr_blk, row_rw, resA_at]
  · have h0 : (i 0 : Nat) < 4096 := (i 0).isLt
    have h1 : (i 1 : Nat) < 1024 := (i 1).isLt
    have ht : (i 0 : Nat) / 256 < cfg0.N := by omega
    refine ⟨⟨(i 0 : Nat) / 256, ht⟩, flush0_9 _, ?_⟩
    show i ∈ ((View.whole main_v5_0).slice (win0_9.rect ⟨(i 0 : Nat) / 256, ht⟩)).set
    rw [View.set_slice_whole, Rect.mem_set_unit]
    intro a
    match a with
    | ⟨0, _⟩ =>
      show win0_9.index ⟨(i 0 : Nat) / 256, ht⟩ 0 * 256 ≤ (i 0 : Nat) ∧ (i 0 : Nat) < win0_9.index ⟨(i 0 : Nat) / 256, ht⟩ 0 * 256 + 256
      rw [(idx9 _).1]; dsimp only; omega
    | ⟨1, _⟩ =>
      show win0_9.index ⟨(i 0 : Nat) / 256, ht⟩ 1 * 1024 ≤ (i 1 : Nat) ∧ (i 1 : Nat) < win0_9.index ⟨(i 0 : Nat) / 256, ht⟩ 1 * 1024 + 1024
      rw [(idx9 _).2]; omega

theorem out_u (c : Dev nD) : (dats m 0 c).arrAt 10 cfg0.N = resU (args m c) := by
  have hN : cfg0.N = 16 := N_0
  refine (dats m 0 c).arrAt_eq_of_cover 10 (resU (args m c)) (fun t _ => ?_) fun i => ?_
  · show (cfg0.win 10).cut (grid0.coords t) ((dats m 0 c).after 10 t) = _
    rw [after0_10, outs_2]
    funext j
    obtain ⟨r, k, rfl⟩ : ∃ (r : Fin 256) (k : Fin 1024), j = ix2 r k := ⟨_, _, eq_ix2 j⟩
    rw [View.read_apply]
    have e : ((((cfg0.win 10).blk t).view.emb (ix2 r k)) : S4096x1024.Idx) = ix2 (row t r) k := funext fun a => Fin.ext (by
      match a with
      | ⟨0, _⟩ => show win0_10.index t 0 * 256 + 1 * r.val = t.val * 256 + r.val; rw [(idx10 t).1]; omega
      | ⟨1, _⟩ => show win0_10.index t 1 * 1024 + 1 * k.val = k.val; rw [(idx10 t).2]; omega)
    refine Eq.trans ?_ (congrArg (resU (args m c)) e.symm)
    obtain ⟨d, s, rfl⟩ := rw_of r
    refine (du_row (blk m c t) d s k).trans ?_
    rw [ck_blk, pr_blk, row_rw, resU_at]
  · have h0 : (i 0 : Nat) < 4096 := (i 0).isLt
    have h1 : (i 1 : Nat) < 1024 := (i 1).isLt
    have ht : (i 0 : Nat) / 256 < cfg0.N := by omega
    refine ⟨⟨(i 0 : Nat) / 256, ht⟩, flush0_10 _, ?_⟩
    show i ∈ ((View.whole main_v5_1).slice (win0_10.rect ⟨(i 0 : Nat) / 256, ht⟩)).set
    rw [View.set_slice_whole, Rect.mem_set_unit]
    intro a
    match a with
    | ⟨0, _⟩ =>
      show win0_10.index ⟨(i 0 : Nat) / 256, ht⟩ 0 * 256 ≤ (i 0 : Nat) ∧ (i 0 : Nat) < win0_10.index ⟨(i 0 : Nat) / 256, ht⟩ 0 * 256 + 256
      rw [(idx10 _).1]; dsimp only; omega
    | ⟨1, _⟩ =>
      show win0_10.index ⟨(i 0 : Nat) / 256, ht⟩ 1 * 1024 ≤ (i 1 : Nat) ∧ (i 1 : Nat) < win0_10.index ⟨(i 0 : Nat) / 256, ht⟩ 1 * 1024 + 1024
      rw [(idx10 _).2]; omega

theorem out_v (c : Dev nD) : (dats m 0 c).arrAt 11 cfg0.N = resV (args m c) := by
  have hN : cfg0.N = 16 := N_0
  refine (dats m 0 c).arrAt_eq_of_cover 11 (resV (args m c)) (fun t _ => ?_) fun i => ?_
  · show (cfg0.win 11).cut (grid0.coords t) ((dats m 0 c).after 11 t) = _
    rw [after0_11, outs_3]
    funext j
    obtain ⟨r, k, rfl⟩ : ∃ (r : Fin 256) (k : Fin 1024), j = ix2 r k := ⟨_, _, eq_ix2 j⟩
    rw [View.read_apply]
    have e : ((((cfg0.win 11).blk t).view.emb (ix2 r k)) : S4096x1024.Idx) = ix2 (row t r) k := funext fun a => Fin.ext (by
      match a with
      | ⟨0, _⟩ => show win0_11.index t 0 * 256 + 1 * r.val = t.val * 256 + r.val; rw [(idx11 t).1]; omega
      | ⟨1, _⟩ => show win0_11.index t 1 * 1024 + 1 * k.val = k.val; rw [(idx11 t).2]; omega)
    refine Eq.trans ?_ (congrArg (resV (args m c)) e.symm)
    obtain ⟨d, s, rfl⟩ := rw_of r
    refine (dv_row (blk m c t) d s k).trans ?_
    rw [ck_blk, pr_blk, row_rw, resV_at]
  · have h0 : (i 0 : Nat) < 4096 := (i 0).isLt
    have h1 : (i 1 : Nat) < 1024 := (i 1).isLt
    have ht : (i 0 : Nat) / 256 < cfg0.N := by omega
    refine ⟨⟨(i 0 : Nat) / 256, ht⟩, flush0_11 _, ?_⟩
    show i ∈ ((View.whole main_v5_2).slice (win0_11.rect ⟨(i 0 : Nat) / 256, ht⟩)).set
    rw [View.set_slice_whole, Rect.mem_set_unit]
    intro a
    match a with
    | ⟨0, _⟩ =>
      show win0_11.index ⟨(i 0 : Nat) / 256, ht⟩ 0 * 256 ≤ (i 0 : Nat) ∧ (i 0 : Nat) < win0_11.index ⟨(i 0 : Nat) / 256, ht⟩ 0 * 256 + 256
      rw [(idx11 _).1]; dsimp only; omega
    | ⟨1, _⟩ =>
      show win0_11.index ⟨(i 0 : Nat) / 256, ht⟩ 1 * 1024 ≤ (i 1 : Nat) ∧ (i 1 : Nat) < win0_11.index ⟨(i 0 : Nat) / 256, ht⟩ 1 * 1024 + 1024
      rw [(idx11 _).2]; omega

/-- What point `t` adds to the result of window 12. -/
def part_aon (c : Dev nD) (_ : Fin 1) (k : Fin 1024) (t : Fin cfg0.N) : EReal := ∑ d : Fin 2, aaon (chk (args m c) (gch t d)) k

theorem outs_aon (c : Dev nD) (z : Fin 1) (k : Fin 1024) (n : ℕ) (h : n < cfg0.N) :
    (outsAt0 m c n h).2.2.2.1 (ix2 z k) = ∑ t : Fin (n + 1), part_aon m c z k ⟨t.val, lt_of_lt_of_le t.isLt h⟩ := by
  have key : ∀ (t : Fin cfg0.N) (xo : Vec Ideal S1x1024 .f32), k0_pay135 (n264 (blk m c t)) xo (ix2 z k) = xo (ix2 z k) + part_aon m c z k t := by
    intro t xo
    have e : k0_pay135 (n264 (blk m c t)) xo (ix2 z k) = xo (ix2 z k) + n264 (blk m c t) (ix2 z k) := by
      pointwise [k0_pay135]
    rw [e, aaon_row (blk m c t) k z]
    simp only [ck_blk, pr_blk]
    rfl
  have hN : cfg0.N = 16 := N_0
  refine running (part_aon m c z k) (fun n h => (outsAt0 m c n h).2.2.2.1 (ix2 z k)) (fun h => ?_) (fun n h => ?_) n h
  · rw [outsAt0_A m c ⟨0, h⟩ rfl rfl rfl rfl rfl]
    dsimp only
    rw [out_A_12, key]
    show Ideal.ofBits .f32 0x00000000#32 + _ = _
    rw [Ideal.ofBits_zero_f32, zero_add]
  · have h5 : ¬(n + 1) % 16 = 0 := by omega
    rw [outsAt0_B m c ⟨n + 1, h⟩ h5 h5 h5 h5 h5]
    dsimp only
    rw [out_B_12, key]
    rfl

theorem out_aon (c : Dev nD) : (dats m 0 c).arrAt 12 cfg0.N = resAon (args m c) := by
  have hN : cfg0.N = 16 := N_0
  refine (dats m 0 c).arrAt_eq_of_cover 12 (resAon (args m c)) (fun t hf => ?_) fun i => ?_
  · have h7 : t.val = 15 := by have := (flush0_12 t).mp hf; have := t.isLt; omega
    obtain rfl : t = t0_15 := Fin.ext h7
    show (cfg0.win 12).cut (grid0.coords t0_15) ((dats m 0 c).after 12 t0_15) = _
    rw [after0_12]
    have hz' : (fun a => win0_12.index t0_15 a * main_v5_3.ty.shape.size a) = fun _ => 0 := funext fun a => by fin_cases a <;> decide
    refine Eq.trans ?_ (Memref.read_access_unit_zero (Elt Ideal) main_v5_3 hz' (fun a => by rw [congrFun hz' a]; simp) (resAon (args m c))).symm
    funext j
    obtain ⟨z, k, rfl⟩ : ∃ (z : Fin 1) (k : Fin 1024), j = ix2 z k := ⟨_, _, eq_ix2 j⟩
    refine (outs_aon m c z k _ t0_15.isLt).trans ?_
    show _ = ∑ g : Fin 32, aaon (chk (args m c) g) k
    unfold part_aon
    rw [sum_blocks 16 2 rfl]
    rfl
  · refine ⟨t0_15, (flush0_12 t0_15).mpr rfl, ?_⟩
    show i ∈ ((View.whole main_v5_3).slice (win0_12.rect t0_15)).set
    rw [View.set_slice_whole, Rect.mem_set_unit]
    intro a
    have h0 : (i 0 : Nat) < 1 := (i 0).isLt
    have h1 : (i 1 : Nat) < 1024 := (i 1).isLt
    match a with
    | ⟨0, _⟩ =>
      show win0_12.index t0_15 0 * 1 ≤ (i 0 : Nat) ∧ (i 0 : Nat) < win0_12.index t0_15 0 * 1 + 1
      rw [show win0_12.index t0_15 0 = 0 from by decide +kernel]; omega
    | ⟨1, _⟩ =>
      show win0_12.index t0_15 1 * 1024 ≤ (i 1 : Nat) ∧ (i 1 : Nat) < win0_12.index t0_15 1 * 1024 + 1024
      rw [show win0_12.index t0_15 1 = 0 from by decide +kernel]; omega

/-- What point `t` adds to the result of window 13. -/
def part_gon (c : Dev nD) (_ : Fin 1) (k : Fin 1024) (t : Fin cfg0.N) : EReal := ∑ d : Fin 2, agon (par (args m c)) (chk (args m c) (gch t d)) k

theorem outs_gon (c : Dev nD) (z : Fin 1) (k : Fin 1024) (n : ℕ) (h : n < cfg0.N) :
    (outsAt0 m c n h).2.2.2.2.1 (ix2 z k) = ∑ t : Fin (n + 1), part_gon m c z k ⟨t.val, lt_of_lt_of_le t.isLt h⟩ := by
  have key : ∀ (t : Fin cfg0.N) (xo : Vec Ideal S1x1024 .f32), k0_pay137 (n244 (blk m c t)) xo (ix2 z k) = xo (ix2 z k) + part_gon m c z k t := by
    intro t xo
    have e : k0_pay137 (n244 (blk m c t)) xo (ix2 z k) = xo (ix2 z k) + n244 (blk m c t) (ix2 z k) := by
      pointwise [k0_pay137]
    rw [e, agon_row (blk m c t) k z]
    simp only [ck_blk, pr_blk]
    rfl
  have hN : cfg0.N = 16 := N_0
  refine running (part_gon m c z k) (fun n h => (outsAt0 m c n h).2.2.2.2.1 (ix2 z k)) (fun h => ?_) (fun n h => ?_) n h
  · rw [outsAt0_A m c ⟨0, h⟩ rfl rfl rfl rfl rfl]
    dsimp only
    rw [out_A_13, key]
    show Ideal.ofBits .f32 0x00000000#32 + _ = _
    rw [Ideal.ofBits_zero_f32, zero_add]
  · have h5 : ¬(n + 1) % 16 = 0 := by omega
    rw [outsAt0_B m c ⟨n + 1, h⟩ h5 h5 h5 h5 h5]
    dsimp only
    rw [out_B_13, key]
    rfl

theorem out_gon (c : Dev nD) : (dats m 0 c).arrAt 13 cfg0.N = resGon (args m c) := by
  have hN : cfg0.N = 16 := N_0
  refine (dats m 0 c).arrAt_eq_of_cover 13 (resGon (args m c)) (fun t hf => ?_) fun i => ?_
  · have h7 : t.val = 15 := by have := (flush0_13 t).mp hf; have := t.isLt; omega
    obtain rfl : t = t0_15 := Fin.ext h7
    show (cfg0.win 13).cut (grid0.coords t0_15) ((dats m 0 c).after 13 t0_15) = _
    rw [after0_13]
    have hz' : (fun a => win0_13.index t0_15 a * main_v5_4.ty.shape.size a) = fun _ => 0 := funext fun a => by fin_cases a <;> decide
    refine Eq.trans ?_ (Memref.read_access_unit_zero (Elt Ideal) main_v5_4 hz' (fun a => by rw [congrFun hz' a]; simp) (resGon (args m c))).symm
    funext j
    obtain ⟨z, k, rfl⟩ : ∃ (z : Fin 1) (k : Fin 1024), j = ix2 z k := ⟨_, _, eq_ix2 j⟩
    refine (outs_gon m c z k _ t0_15.isLt).trans ?_
    show _ = ∑ g : Fin 32, agon (par (args m c)) (chk (args m c) g) k
    unfold part_gon
    rw [sum_blocks 16 2 rfl]
    rfl
  · refine ⟨t0_15, (flush0_13 t0_15).mpr rfl, ?_⟩
    show i ∈ ((View.whole main_v5_4).slice (win0_13.rect t0_15)).set
    rw [View.set_slice_whole, Rect.mem_set_unit]
    intro a
    have h0 : (i 0 : Nat) < 1 := (i 0).isLt
    have h1 : (i 1 : Nat) < 1024 := (i 1).isLt
    match a with
    | ⟨0, _⟩ =>
      show win0_13.index t0_15 0 * 1 ≤ (i 0 : Nat) ∧ (i 0 : Nat) < win0_13.index t0_15 0 * 1 + 1
      rw [show win0_13.index t0_15 0 = 0 from by decide +kernel]; omega
    | ⟨1, _⟩ =>
      show win0_13.index t0_15 1 * 1024 ≤ (i 1 : Nat) ∧ (i 1 : Nat) < win0_13.index t0_15 1 * 1024 + 1024
      rw [show win0_13.index t0_15 1 = 0 from by decide +kernel]; omega

/-- What point `t` adds to the result of window 14. -/
def part_vn (c : Dev nD) (_ : Fin 1) (k : Fin 1024) (t : Fin cfg0.N) : EReal := ∑ d : Fin 2, avn (par (args m c)) (chk (args m c) (gch t d)) k

theorem outs_vn (c : Dev nD) (z : Fin 1) (k : Fin 1024) (n : ℕ) (h : n < cfg0.N) :
    (outsAt0 m c n h).2.2.2.2.2.1 (ix2 z k) = ∑ t : Fin (n + 1), part_vn m c z k ⟨t.val, lt_of_lt_of_le t.isLt h⟩ := by
  have key : ∀ (t : Fin cfg0.N) (xo : Vec Ideal S1x1024 .f32), k0_pay139 (n639 (blk m c t)) xo (ix2 z k) = xo (ix2 z k) + part_vn m c z k t := by
    intro t xo
    have e : k0_pay139 (n639 (blk m c t)) xo (ix2 z k) = xo (ix2 z k) + n639 (blk m c t) (ix2 z k) := by
      pointwise [k0_pay139]
    rw [e, avn_row (blk m c t) k z]
    simp only [ck_blk, pr_blk]
    rfl
  have hN : cfg0.N = 16 := N_0
  refine running (part_vn m c z k) (fun n h => (outsAt0 m c n h).2.2.2.2.2.1 (ix2 z k)) (fun h => ?_) (fun n h => ?_) n h
  · rw [outsAt0_A m c ⟨0, h⟩ rfl rfl rfl rfl rfl]
    dsimp only
    rw [out_A_14, key]
    show Ideal.ofBits .f32 0x00000000#32 + _ = _
    rw [Ideal.ofBits_zero_f32, zero_add]
  · have h5 : ¬(n + 1) % 16 = 0 := by omega
    rw [outsAt0_B m c ⟨n + 1, h⟩ h5 h5 h5 h5 h5]
    dsimp only
    rw [out_B_14, key]
    rfl

theorem out_vn (c : Dev nD) : (dats m 0 c).arrAt 14 cfg0.N = resVn (args m c) := by
  have hN : cfg0.N = 16 := N_0
  refine (dats m 0 c).arrAt_eq_of_cover 14 (resVn (args m c)) (fun t hf => ?_) fun i => ?_
  · have h7 : t.val = 15 := by have := (flush0_14 t).mp hf; have := t.isLt; omega
    obtain rfl : t = t0_15 := Fin.ext h7
    show (cfg0.win 14).cut (grid0.coords t0_15) ((dats m 0 c).after 14 t0_15) = _
    rw [after0_14]
    have hz' : (fun a => win0_14.index t0_15 a * main_v5_5.ty.shape.size a) = fun _ => 0 := funext fun a => by fin_cases a <;> decide
    refine Eq.trans ?_ (Memref.read_access_unit_zero (Elt Ideal) main_v5_5 hz' (fun a => by rw [congrFun hz' a]; simp) (resVn (args m c))).symm
    funext j
    obtain ⟨z, k, rfl⟩ : ∃ (z : Fin 1) (k : Fin 1024), j = ix2 z k := ⟨_, _, eq_ix2 j⟩
    refine (outs_vn m c z k _ t0_15.isLt).trans ?_
    show _ = ∑ g : Fin 32, avn (par (args m c)) (chk (args m c) g) k
    unfold part_vn
    rw [sum_blocks 16 2 rfl]
    rfl
  · refine ⟨t0_15, (flush0_14 t0_15).mpr rfl, ?_⟩
    show i ∈ ((View.whole main_v5_5).slice (win0_14.rect t0_15)).set
    rw [View.set_slice_whole, Rect.mem_set_unit]
    intro a
    have h0 : (i 0 : Nat) < 1 := (i 0).isLt
    have h1 : (i 1 : Nat) < 1024 := (i 1).isLt
    match a with
    | ⟨0, _⟩ =>
      show win0_14.index t0_15 0 * 1 ≤ (i 0 : Nat) ∧ (i 0 : Nat) < win0_14.index t0_15 0 * 1 + 1
      rw [show win0_14.index t0_15 0 = 0 from by decide +kernel]; omega
    | ⟨1, _⟩ =>
      show win0_14.index t0_15 1 * 1024 ≤ (i 1 : Nat) ∧ (i 1 : Nat) < win0_14.index t0_15 1 * 1024 + 1024
      rw [show win0_14.index t0_15 1 = 0 from by decide +kernel]; omega

/-- What point `t` adds to the result of window 16. -/
def part_b (c : Dev nD) (z : Fin 128) (k : Fin 8) (t : Fin cfg0.N) : EReal := ∑ d : Fin 2, ab (par (args m c)) (chk (args m c) (gch t d)) z k

theorem outs_b (c : Dev nD) (z : Fin 128) (k : Fin 8) (n : ℕ) (h : n < cfg0.N) :
    (outsAt0 m c n h).2.2.2.2.2.2.2 (ix2 z k) = ∑ t : Fin (n + 1), part_b m c z k ⟨t.val, lt_of_lt_of_le t.isLt h⟩ := by
  have key : ∀ (t : Fin cfg0.N) (xo : Vec Ideal S128x8 .f32), k0_pay4 (n609 (blk m c t)) xo (ix2 z k) = xo (ix2 z k) + part_b m c z k t := by
    intro t xo
    have e : k0_pay4 (n609 (blk m c t)) xo (ix2 z k) = xo (ix2 z k) + n609 (blk m c t) (ix2 z k) := by
      pointwise [k0_pay4]
    rw [e, ab_row (blk m c t) z k]
    simp only [ck_blk, pr_blk]
    rfl
  have hN : cfg0.N = 16 := N_0
  refine running (part_b m c z k) (fun n h => (outsAt0 m c n h).2.2.2.2.2.2.2 (ix2 z k)) (fun h => ?_) (fun n h => ?_) n h
  · rw [outsAt0_A m c ⟨0, h⟩ rfl rfl rfl rfl rfl]
    dsimp only
    rw [out_A_16, key]
    show Ideal.ofBits .f32 0x00000000#32 + _ = _
    rw [Ideal.ofBits_zero_f32, zero_add]
  · have h5 : ¬(n + 1) % 16 = 0 := by omega
    rw [outsAt0_B m c ⟨n + 1, h⟩ h5 h5 h5 h5 h5]
    dsimp only
    rw [out_B_16, key]
    rfl

theorem out_b (c : Dev nD) : (dats m 0 c).arrAt 16 cfg0.N = resB (args m c) := by
  have hN : cfg0.N = 16 := N_0
  refine (dats m 0 c).arrAt_eq_of_cover 16 (resB (args m c)) (fun t hf => ?_) fun i => ?_
  · have h7 : t.val = 15 := by have := (flush0_16 t).mp hf; have := t.isLt; omega
    obtain rfl : t = t0_15 := Fin.ext h7
    show (cfg0.win 16).cut (grid0.coords t0_15) ((dats m 0 c).after 16 t0_15) = _
    rw [after0_16]
    have hz' : (fun a => win0_16.index t0_15 a * main_v5_7.ty.shape.size a) = fun _ => 0 := funext fun a => by fin_cases a <;> decide
    refine Eq.trans ?_ (Memref.read_access_unit_zero (Elt Ideal) main_v5_7 hz' (fun a => by rw [congrFun hz' a]; simp) (resB (args m c))).symm
    funext j
    obtain ⟨z, k, rfl⟩ : ∃ (z : Fin 128) (k : Fin 8), j = ix2 z k := ⟨_, _, eq_ix2 j⟩
    refine (outs_b m c z k _ t0_15.isLt).trans ?_
    show _ = ∑ g : Fin 32, ab (par (args m c)) (chk (args m c) g) z k
    unfold part_b
    rw [sum_blocks 16 2 rfl]
    rfl
  · refine ⟨t0_15, (flush0_16 t0_15).mpr rfl, ?_⟩
    show i ∈ ((View.whole main_v5_7).slice (win0_16.rect t0_15)).set
    rw [View.set_slice_whole, Rect.mem_set_unit]
    intro a
    have h0 : (i 0 : Nat) < 128 := (i 0).isLt
    have h1 : (i 1 : Nat) < 8 := (i 1).isLt
    match a with
    | ⟨0, _⟩ =>
      show win0_16.index t0_15 0 * 128 ≤ (i 0 : Nat) ∧ (i 0 : Nat) < win0_16.index t0_15 0 * 128 + 128
      rw [show win0_16.index t0_15 0 = 0 from by decide +kernel]; omega
    | ⟨1, _⟩ =>
      show win0_16.index t0_15 1 * 8 ≤ (i 1 : Nat) ∧ (i 1 : Nat) < win0_16.index t0_15 1 * 8 + 8
      rw [show win0_16.index t0_15 1 = 0 from by decide +kernel]; omega

/-- What point `t` adds to the gradient of the matrices. -/
def part_w (c : Dev nD) (g : Fin 8) (r s : Fin 128) (t : Fin cfg0.N) : EReal :=
  if s ≤ r then ∑ d : Fin 2, aw (par (args m c)) (chk (args m c) (gch t d)) g r s else 0

theorem outs_w (c : Dev nD) (g : Fin 8) (r s : Fin 128) (n : ℕ) (h : n < cfg0.N) :
    (outsAt0 m c n h).2.2.2.2.2.2.1 (ix3 g r s) = ∑ t : Fin (n + 1), part_w m c g r s ⟨t.val, lt_of_lt_of_le t.isLt h⟩ := by
  have key : ∀ (t : Fin cfg0.N) (xo : Vec Ideal S8x128x128 .f32), k0_pay2 (n635 (blk m c t)) xo (ix3 g r s) = xo (ix3 g r s) + part_w m c g r s t := by
    intro t xo
    have e : k0_pay2 (n635 (blk m c t)) xo (ix3 g r s) = xo (ix3 g r s) + n635 (blk m c t) (ix3 g r s) := by
      pointwise [k0_pay2]
    rw [e, aw_row (blk m c t) g r s]
    simp only [ck_blk, pr_blk]
    rfl
  have hN : cfg0.N = 16 := N_0
  refine running (part_w m c g r s) (fun n h => (outsAt0 m c n h).2.2.2.2.2.2.1 (ix3 g r s)) (fun h => ?_) (fun n h => ?_) n h
  · rw [outsAt0_A m c ⟨0, h⟩ rfl rfl rfl rfl rfl]
    dsimp only
    rw [out_A_15, key]
    show Ideal.ofBits .f32 0x00000000#32 + _ = _
    rw [Ideal.ofBits_zero_f32, zero_add]
  · have h5 : ¬(n + 1) % 16 = 0 := by omega
    rw [outsAt0_B m c ⟨n + 1, h⟩ h5 h5 h5 h5 h5]
    dsimp only
    rw [out_B_15, key]
    rfl

theorem out_w (c : Dev nD) : (dats m 0 c).arrAt 15 cfg0.N = resW (args m c) := by
  have hN : cfg0.N = 16 := N_0
  refine (dats m 0 c).arrAt_eq_of_cover 15 (resW (args m c)) (fun t hf => ?_) fun i => ?_
  · have h7 : t.val = 15 := by have := (flush0_15 t).mp hf; have := t.isLt; omega
    obtain rfl : t = t0_15 := Fin.ext h7
    show (cfg0.win 15).cut (grid0.coords t0_15) ((dats m 0 c).after 15 t0_15) = _
    rw [after0_15]
    have hz' : (fun a => win0_15.index t0_15 a * main_v5_6.ty.shape.size a) = fun _ => 0 := funext fun a => by fin_cases a <;> decide
    refine Eq.trans ?_ (Memref.read_access_unit_zero (Elt Ideal) main_v5_6 hz' (fun a => by rw [congrFun hz' a]; simp) (resW (args m c))).symm
    funext j
    obtain ⟨g, r, s, rfl⟩ : ∃ (g : Fin 8) (r s : Fin 128), j = ix3 g r s := ⟨_, _, _, eq_ix3 j⟩
    refine (outs_w m c g r s _ t0_15.isLt).trans ?_
    show _ = if s ≤ r then ∑ i : Fin 32, aw (par (args m c)) (chk (args m c) i) g r s else 0
    unfold part_w
    by_cases hs : s ≤ r
    · simp only [if_pos hs]
      rw [sum_blocks 16 2 rfl]
      rfl
    · simp only [if_neg hs, Finset.sum_const_zero]
  · refine ⟨t0_15, (flush0_15 t0_15).mpr rfl, ?_⟩
    show i ∈ ((View.whole main_v5_6).slice (win0_15.rect t0_15)).set
    rw [View.set_slice_whole, Rect.mem_set_unit]
    intro a
    have h0 : (i 0 : Nat) < 8 := (i 0).isLt
    have h1 : (i 1 : Nat) < 128 := (i 1).isLt
    have h2 : (i 2 : Nat) < 128 := (i 2).isLt
    match a with
    | ⟨0, _⟩ =>
      show win0_15.index t0_15 0 * 8 ≤ (i 0 : Nat) ∧ (i 0 : Nat) < win0_15.index t0_15 0 * 8 + 8
      rw [show win0_15.index t0_15 0 = 0 from by decide +kernel]; omega
    | ⟨1, _⟩ =>
      show win0_15.index t0_15 1 * 128 ≤ (i 1 : Nat) ∧ (i 1 : Nat) < win0_15.index t0_15 1 * 128 + 128
      rw [show win0_15.index t0_15 1 = 0 from by decide +kernel]; omega
    | ⟨2, _⟩ =>
      show win0_15.index t0_15 2 * 128 ≤ (i 2 : Nat) ∧ (i 2 : Nat) < win0_15.index t0_15 2 * 128 + 128
      rw [show win0_15.index t0_15 2 = 0 from by decide +kernel]; omega

end Cert.MixIdeal.Val

/-! ## The claim -/

namespace Cert.Mix.Claim

open Idealize.ShloMosaic Idealize.ShloMosaic.TcCoe Idealize.SL.Sem
open Cert.MixIdeal.Val (args resA resU resV resAon resGon resVn resW resB)

theorem algebraic : Cert.algebraic_MixIdeal_MixRefIdeal (hMixIdeal := Cert.MixIdeal.Gen.facts) (hMixRefIdeal := Cert.MixRefIdeal.Gen.facts) := by
  intro m g m' g' _ hargs
  refine ⟨fun c => resA (args m c), fun c => resU (args m c), fun c => resV (args m c), fun c => resAon (args m c), fun c => resGon (args m c), fun c => resVn (args m c), fun c => resW (args m c), fun c => resB (args m c), ?_, ?_⟩
  · refine (θ_run _ _ _).mono (fun r h c => ?_) (Cert.MixIdeal.Value.run_blocks (F := Ideal) m g)
    obtain ⟨h0, h1, h2, h3, h4, h5, h6, h7, h8⟩ := h c
    exact ⟨h0.trans (Cert.MixIdeal.Val.out_a m c), h1.trans (Cert.MixIdeal.Val.out_u m c), h2.trans (Cert.MixIdeal.Val.out_v m c), h3.trans (Cert.MixIdeal.Val.out_aon m c), h4.trans (Cert.MixIdeal.Val.out_gon m c), h5.trans (Cert.MixIdeal.Val.out_vn m c), h6.trans (Cert.MixIdeal.Val.out_w m c), h7.trans (Cert.MixIdeal.Val.out_b m c), h8⟩
  · refine (θ_run _ _ _).mono (fun r h c => ?_) (Cert.MixRefIdeal.Value.run (F := Ideal) m' g')
    obtain ⟨h0, h1, h2, h3, h4, h5, h6, h7, h8⟩ := h c
    obtain ⟨e0, e1, e2, e3, e4, e5, e6, e7, e8⟩ := hargs c
    have f0 : StableHlo.launchContents m' c (Proc.tc.devRef Cert.MixRefIdeal.main_arg0) = m (c.tc.loc Cert.MixIdeal.main_arg0) := e0
    have f1 : StableHlo.launchContents m' c (Proc.tc.devRef Cert.MixRefIdeal.main_arg1) = m (c.tc.loc Cert.MixIdeal.main_arg1) := e1
    have f2 : StableHlo.launchContents m' c (Proc.tc.devRef Cert.MixRefIdeal.main_arg2) = m (c.tc.loc Cert.MixIdeal.main_arg2) := e2
    have f3 : StableHlo.launchContents m' c (Proc.tc.devRef Cert.MixRefIdeal.main_arg3) = m (c.tc.loc Cert.MixIdeal.main_arg3) := e3
    have f4 : StableHlo.launchContents m' c (Proc.tc.devRef Cert.MixRefIdeal.main_arg4) = m (c.tc.loc Cert.MixIdeal.main_arg4) := e4
    have f5 : StableHlo.launchContents m' c (Proc.tc.devRef Cert.MixRefIdeal.main_arg5) = m (c.tc.loc Cert.MixIdeal.main_arg5) := e5
    have f6 : StableHlo.launchContents m' c (Proc.tc.devRef Cert.MixRefIdeal.main_arg6) = m (c.tc.loc Cert.MixIdeal.main_arg6) := e6
    have f7 : StableHlo.launchContents m' c (Proc.tc.devRef Cert.MixRefIdeal.main_arg7) = m (c.tc.loc Cert.MixIdeal.main_arg7) := e7
    have f8 : StableHlo.launchContents m' c (Proc.tc.devRef Cert.MixRefIdeal.main_arg8) = m (c.tc.loc Cert.MixIdeal.main_arg8) := e8
    refine ⟨h0.trans ?_, h1.trans ?_, h2.trans ?_, h3.trans ?_, h4.trans ?_, h5.trans ?_, h6.trans ?_, h7.trans ?_, h8⟩
    · rw [Cert.MixRefIdeal.Read.val_main_v146_eq, f0, f3, f8]; exact Cert.MixRefIdeal.Val.ref_A (args m c)
    · rw [Cert.MixRefIdeal.Read.val_main_v204_eq, f1, f2, f4, f5, f6, f7, f8]; exact Cert.MixRefIdeal.Val.ref_U (args m c)
    · rw [Cert.MixRefIdeal.Read.val_main_v205_eq, f1, f2, f4, f5, f6, f7, f8]; exact Cert.MixRefIdeal.Val.ref_V (args m c)
    · rw [Cert.MixRefIdeal.Read.val_main_v206_eq, f0, f8]; exact Cert.MixRefIdeal.Val.ref_Aon (args m c)
    · rw [Cert.MixRefIdeal.Read.val_main_v207_eq, f1, f2, f5, f6, f7, f8]; exact Cert.MixRefIdeal.Val.ref_Gon (args m c)
    · rw [Cert.MixRefIdeal.Read.val_main_v208_eq, f1, f2, f4, f5, f6, f7, f8]; exact Cert.MixRefIdeal.Val.ref_Vn (args m c)
    · rw [Cert.MixRefIdeal.Read.val_main_v158_eq, f1, f2, f4, f5, f6, f7, f8]; exact Cert.MixRefIdeal.Val.ref_W (args m c)
    · rw [Cert.MixRefIdeal.Read.val_main_v209_eq, f1, f2, f4, f5, f6, f7, f8]; exact Cert.MixRefIdeal.Val.ref_B (args m c)

end Cert.Mix.Claim

end
-- ==== Proof.AttnfStep.lean ====
/-
  The attention forward kernel, one grid point at a time. The body of a point works on three running arrays: the
  largest score so far of each query of the block, the sum of the exponentials relative to it, and the weighted sum
  of the values. Here each of the body's three conditional steps is given as a function of those arrays, and the
  body is shown to compute the composition of the three.
-/
module

public import proofs.«01_k».proof.Proof.Gen.AttnfIdeal.Frame
public import proofs.«01_k».proof.Proof.Gen.AttnfIdeal.Skeleton
public import Idealize.ShloMosaic.Lib.VecWindow

@[expose] public section

set_option maxRecDepth 16384

noncomputable section

namespace Cert.AttnfIdeal.Step

open Cert.AttnfIdeal Cert.AttnfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The blocks a grid point reads: queries, keys, values. -/
structure Blk (F : FTy → Type) where
  q : Vec F S1x1024x192 .bf16
  k : Vec F S1x1024x192 .bf16
  v : Vec F S1x1024x128 .bf16

/-- The three running arrays. -/
structure Acc (F : FTy → Type) where
  m : Vec F S1024x1 .f32
  l : Vec F S1024x1 .f32
  a : Vec F S1024x128 .f32

variable (x : Blk F)

/-- A block of keys strictly before the block of queries. -/
def off (s : Acc F) : Acc F where
  m := k0_pay4 (k0_pay10 x.q x.k s.m)
  l := k0_pay13 x.q x.k s.m s.m s.l
  a := k0_pay14 x.q x.k s.m s.m s.a x.v

/-- The block of keys at the same positions as the block of queries. -/
def diag (s : Acc F) : Acc F where
  m := k0_pay6 (k0_pay16 x.q x.k s.m)
  l := k0_pay19 x.q x.k s.m s.m s.l
  a := k0_pay5 (k0_pay20 x.q x.k s.m s.m s.a) (k0_pay21 x.q x.k s.m) x.v

/-- The keys' block is the first. -/
abbrev first (i : grid0.Coords) : Prop :=
  Scalar.cmpi .ne (Scalar.extui (Scalar.cmpi .eq (BitVec.ofNat 32 (i 2).val) 0#32) : BitVec 32) 0#32 = 1#1

/-- The keys' block lies before the queries'. -/
abbrev earlier (i : grid0.Coords) : Prop :=
  Scalar.cmpi .ne (Scalar.extui (Scalar.cmpi .slt (BitVec.ofNat 32 (i 2).val) (BitVec.ofNat 32 (i 1).val)) : BitVec 32) 0#32 = 1#1

def clear (i : grid0.Coords) (s : Acc F) : Acc F :=
  if first i then { m := k0_pay1, l := k0_pay2, a := k0_pay3 } else s

def below (i : grid0.Coords) (s : Acc F) : Acc F := if earlier i then off x s else s

def onDiag (i : grid0.Coords) (s : Acc F) : Acc F := if k0_cond3 i = 1#1 then diag x s else s

/-- The running arrays after a grid point. -/
def step (i : grid0.Coords) (s : Acc F) : Acc F := onDiag x i (below x i (clear i s))

/-- What the point leaves in the output's block. -/
def outO (i : grid0.Coords) (s : Acc F) (y : Vec F S1024x128 .f32) : Vec F S1024x128 .f32 :=
  if k0_cond3 i = 1#1 then k0_pay7 s.a s.l else y

/-- What the point leaves in the block of the logarithms. -/
def outL (i : grid0.Coords) (s : Acc F) (z : Vec F S1x1024x1 .f32) : Vec F S1x1024x1 .f32 :=
  if k0_cond3 i = 1#1 then k0_pay8 s.m s.l else z

section Body

variable (c : Dev nD) (i : grid0.Coords)
  (arg3 : Memref sig .tc .vmem S1x1024x192 .bf16) (h3 : arg3.IsWhole) (arg4 : Memref sig .tc .vmem S1x1024x192 .bf16) (h4 : arg4.IsWhole)
  (arg5 : Memref sig .tc .vmem S1x1024x128 .bf16) (h5 : arg5.IsWhole) (arg6 : Memref sig .tc .vmem S1024x128 .f32) (h6 : arg6.IsWhole)
  (arg7 : Memref sig .tc .vmem S1x1024x1 .f32) (h7 : arg7.IsWhole) (arg8 : Memref sig .tc .vmem S1024x1 .f32) (h8 : arg8.IsWhole)
  (arg9 : Memref sig .tc .vmem S1024x1 .f32) (h9 : arg9.IsWhole) (arg10 : Memref sig .tc .vmem S1024x128 .f32) (h10 : arg10.IsWhole)

/-- The body's buffers at given contents. -/
def held (s : Acc F) (y : Vec F S1024x128 .f32) (z : Vec F S1x1024x1 .f32) : sProp 𝕄 :=
  iprop(owns (c : Thread nD τ) arg3 fullShare x.q ∗ owns (c : Thread nD τ) arg4 fullShare x.k ∗ owns (c : Thread nD τ) arg5 fullShare x.v
    ∗ owns (c : Thread nD τ) arg6 fullShare y ∗ owns (c : Thread nD τ) arg7 fullShare z
    ∗ owns (c : Thread nD τ) arg8 fullShare s.m ∗ owns (c : Thread nD τ) arg9 fullShare s.l ∗ owns (c : Thread nD τ) arg10 fullShare s.a)

set_option maxHeartbeats 4000000 in
theorem body (E : Set ℕ) (s : Acc F) (y : Vec F S1024x128 .f32) (z : Vec F S1x1024x1 .f32) :
    held x c arg3 arg4 arg5 arg6 arg7 arg8 arg9 arg10 s y z
      ⊢ wp frame (wpE (defs₀ (F := F)) Variants.none c none) E
          (cc0_attn_fwd i arg3 h3 arg4 h4 arg5 h5 arg6 h6 arg7 h7 arg8 h8 arg9 h9 arg10 h10)
          (fun _ => held x c arg3 arg4 arg5 arg6 arg7 arg8 arg9 arg10 (step x i s) (outO i (step x i s) y) (outL i (step x i s) z)) := by
  simp only [cc0_attn_fwd_eq_skeleton]; unfold cc0_attn_fwd_skel
  lift_lets
  intro a1 a2 v0 v1 v2 v3 v4 v5 e t3 t2
  have r3 : ∀ (s s' : Acc F), onDiag x i s = s' → held x c arg3 arg4 arg5 arg6 arg7 arg8 arg9 arg10 s y z
      ⊢ wp frame (wpE (defs₀ (F := F)) Variants.none c none) E (t3 ⟨⟩)
        (fun _ => held x c arg3 arg4 arg5 arg6 arg7 arg8 arg9 arg10 s' (outO i s' y) (outL i s' z)) := by
    intro s s' hs
    unfold outO outL
    by_cases hc : k0_cond3 i = 1#1
    · have hs : diag x s = s' := (if_pos hc).symm.trans hs
      simp only [t3, e]
      rw [if_pos hc, if_pos hc]
      unfold held owns
      iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
      sl_exec (disch := first | sl_exact hc)
      sl_step
      subst hs
      have hx : x = ⟨View.read (Elt F) arg3.view f3, View.read (Elt F) arg4.view f4, View.read (Elt F) arg5.view f5⟩ := by rw [hf3, hf4, hf5]
      have hs : s = ⟨View.read (Elt F) arg8.view f8, View.read (Elt F) arg9.view f9, View.read (Elt F) arg10.view f10⟩ := by rw [hf8, hf9, hf10]
      sl_unfold_words
      isplitl [H3]
      · iexists _; isplitr; swap; · iexact H3
        ipureintro; exact hf3
      isplitl [H4]
      · iexists _; isplitr; swap; · iexact H4
        ipureintro; exact hf4
      isplitl [H5]
      · iexists _; isplitr; swap; · iexact H5
        ipureintro; exact hf5
      isplitl [H6]
      · iexists _; isplitr; swap; · iexact H6
        ipureintro
        rw [hx, hs]
        unfold diag
        refine (View.read_writes_full _ _ _ _ _).trans ?_
        repeat rw [View.readCov_full]
        repeat rw [View.readAt_full]
      isplitl [H7]
      · iexists _; isplitr; swap; · iexact H7
        ipureintro
        rw [hx, hs]
        unfold diag
        refine (View.read_writes_full _ _ _ _ _).trans ?_
        repeat rw [View.readCov_full]
        repeat rw [View.readAt_full]
      isplitl [H8]
      · iexists _; isplitr; swap; · iexact H8
        ipureintro
        rw [hx, hs]
        unfold diag
        refine (View.read_writes_full _ _ _ _ _).trans ?_
        repeat rw [View.readCov_full]
        repeat rw [View.readAt_full]
      isplitl [H9]
      · iexists _; isplitr; swap; · iexact H9
        ipureintro
        rw [hx, hs]
        unfold diag
        refine (View.read_writes_full _ _ _ _ _).trans ?_
        repeat rw [View.readCov_full]
        repeat rw [View.readAt_full]
      iexists _; isplitr; swap; · iexact H10
      ipureintro
      rw [hx, hs]
      unfold diag
      refine (View.read_writes_full _ _ _ _ _).trans ?_
      repeat rw [View.readCov_full]
      repeat rw [View.readAt_full]
    · have hs : s = s' := (if_neg hc).symm.trans hs
      simp only [t3, e]
      rw [if_neg hc, if_neg hc]
      subst hs
      iintro H
      sl_exec (disch := first | sl_exact hc)
      sl_step
      iexact H
  clear_value e t3
  have r2 : ∀ (s s' : Acc F) (K : PUnit → sProp 𝕄), below x i s = s'
      → (held x c arg3 arg4 arg5 arg6 arg7 arg8 arg9 arg10 s' y z ⊢ wp frame (wpE (defs₀ (F := F)) Variants.none c none) E (t3 ⟨⟩) K)
      → (held x c arg3 arg4 arg5 arg6 arg7 arg8 arg9 arg10 s y z ⊢ wp frame (wpE (defs₀ (F := F)) Variants.none c none) E (t2 ⟨⟩) K) := by
    intro s s' K hs hK
    by_cases hc : earlier i
    · have hs : off x s = s' := (if_pos hc).symm.trans hs
      simp only [t2]
      revert hK
      unfold held owns
      intro hK
      iintro ⟨⟨%f3, %hf3, H3⟩, ⟨%f4, %hf4, H4⟩, ⟨%f5, %hf5, H5⟩, H6, H7, ⟨%f8, %hf8, H8⟩, ⟨%f9, %hf9, H9⟩, ⟨%f10, %hf10, H10⟩⟩
      sl_exec (disch := first | sl_exact hc)
      iapply hK
      subst hs
      have hx : x = ⟨View.read (Elt F) arg3.view f3, View.read (Elt F) arg4.view f4, View.read (Elt F) arg5.view f5⟩ := by rw [hf3, hf4, hf5]
      have hs : s = ⟨View.read (Elt F) arg8.view f8, View.read (Elt F) arg9.view f9, View.read (Elt F) arg10.view f10⟩ := by rw [hf8, hf9, hf10]
      sl_unfold_words
      isplitl [H3]
      · iexists _; isplitr; swap; · iexact H3
        ipureintro; exact hf3
      isplitl [H4]
      · iexists _; isplitr; swap; · iexact H4
        ipureintro; exact hf4
      isplitl [H5]
      · iexists _; isplitr; swap; · iexact H5
        ipureintro; exact hf5
      isplitl [H6]; · iexact H6
      isplitl [H7]; · iexact H7
      isplitl [H8]
      · iexists _; isplitr; swap; · iexact H8
        ipureintro
        rw [hx, hs]
        unfold off
        refine (View.read_writes_full _ _ _ _ _).trans ?_
        repeat rw [View.readCov_full]
        repeat rw [View.readAt_full]
        rfl
      isplitl [H9]
      · iexists _; isplitr; swap; · iexact H9
        ipureintro
        rw [hx, hs]
        unfold off
        refine (View.read_writes_full _ _ _ _ _).trans ?_
        repeat rw [View.readCov_full]
        repeat rw [View.readAt_full]
        rfl
      iexists _; isplitr; swap; · iexact H10
      ipureintro
      rw [hx, hs]
      unfold off
      refine (View.read_writes_full _ _ _ _ _).trans ?_
      repeat rw [View.readCov_full]
      repeat rw [View.readAt_full]
      rfl
    · have hs : s = s' := (if_neg hc).symm.trans hs
      simp only [t2]
      subst hs
      iintro H
      sl_exec (disch := first | sl_exact hc)
      iapply hK
      iexact H
  clear_value t2
  suffices hK : held x c arg3 arg4 arg5 arg6 arg7 arg8 arg9 arg10 (clear i s) y z ⊢ wp frame (wpE (defs₀ (F := F)) Variants.none c none) E (t2 ⟨⟩)
      (fun _ => held x c arg3 arg4 arg5 arg6 arg7 arg8 arg9 arg10 (step x i s) (outO i (step x i s) y) (outL i (step x i s) z)) by
    revert hK
    generalize (fun _ : PUnit => held x c arg3 arg4 arg5 arg6 arg7 arg8 arg9 arg10 (step x i s) (outO i (step x i s) y) (outL i (step x i s) z)) = K
    intro hK
    by_cases hc : first i
    · have hs : clear i s = ({ m := k0_pay1, l := k0_pay2, a := k0_pay3 } : Acc F) := if_pos hc
      rw [hs] at hK
      revert hK
      unfold held owns
      intro hK
      iintro ⟨H3, H4, H5, H6, H7, ⟨%f8, %hf8, H8⟩, ⟨%f9, %hf9, H9⟩, ⟨%f10, %hf10, H10⟩⟩
      sl_exec (disch := first | sl_exact hc)
      iapply hK
      isplitl [H3]; · iexact H3
      isplitl [H4]; · iexact H4
      isplitl [H5]; · iexact H5
      isplitl [H6]; · iexact H6
      isplitl [H7]; · iexact H7
      isplitl [H8]
      · iexists _; isplitr; swap; · iexact H8
        ipureintro
        exact View.read_writes_full _ _ _ _ _
      isplitl [H9]
      · iexists _; isplitr; swap; · iexact H9
        ipureintro
        exact View.read_writes_full _ _ _ _ _
      iexists _; isplitr; swap; · iexact H10
      ipureintro
      exact View.read_writes_full _ _ _ _ _
    · rw [show clear i s = s from if_neg hc] at hK
      iintro H
      sl_exec (disch := first | sl_exact hc)
      iapply hK
      iexact H
  exact r2 _ _ _ rfl (r3 _ _ rfl)

end Body

end Cert.AttnfIdeal.Step

end
-- ==== Proof.AttnfFrame.lean ====
/-
  The attention forward program's run: the body's steps over the whole grid, the three running arrays carried from
  point to point, and the frame that follows.
-/
module

public import proofs.«01_k».proof.Proof.AttnfStep
public import Idealize.ShloMosaic.Lib.Claim

@[expose] public section

set_option maxRecDepth 16384

noncomputable section

namespace Cert.AttnfIdeal.Step

open Cert.AttnfIdeal Cert.AttnfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! Where a point's conditions hold. -/

theorem first_iff : ∀ t : Fin cfg0.N, first (grid0.coords t) ↔ t.val % 4 = 0 :=
  (by decide +kernel : ∀ t : Fin grid0.N, first (grid0.coords t) ↔ t.val % 4 = 0)
theorem earlier_iff : ∀ t : Fin cfg0.N, earlier (grid0.coords t) ↔ t.val % 4 < t.val / 4 % 4 :=
  (by decide +kernel : ∀ t : Fin grid0.N, earlier (grid0.coords t) ↔ t.val % 4 < t.val / 4 % 4)
theorem cond3_iff : ∀ t : Fin cfg0.N, k0_cond3 (grid0.coords t) = 1#1 ↔ t.val % 4 = t.val / 4 % 4 :=
  (by decide +kernel : ∀ t : Fin grid0.N, k0_cond3 (grid0.coords t) = 1#1 ↔ t.val % 4 = t.val / 4 % 4)
theorem idle3_iff : ∀ t : Fin cfg0.N, cfg0.idle 3 (grid0.coords t) = true ↔ ¬t.val % 4 = t.val / 4 % 4 :=
  (by decide +kernel : ∀ t : Fin grid0.N, idle0 3 (grid0.coords t) = true ↔ ¬t.val % 4 = t.val / 4 % 4)
theorem idle4_iff : ∀ t : Fin cfg0.N, cfg0.idle 4 (grid0.coords t) = true ↔ ¬t.val % 4 = t.val / 4 % 4 :=
  (by decide +kernel : ∀ t : Fin grid0.N, idle0 4 (grid0.coords t) = true ↔ ¬t.val % 4 = t.val / 4 % 4)

/-- The blocks read at a point. -/
def blk (c : Dev nD) (t : Fin cfg0.N) : Blk F where
  q := iblk m c 0 t
  k := iblk m c 1 t
  v := iblk m c 2 t

/-- The running arrays before point `n`. -/
def st (c : Dev nD) : ℕ → Acc F
  | 0 => { m := k0_pay1, l := k0_pay2, a := k0_pay3 }
  | n + 1 => if h : n < cfg0.N then step (blk m c ⟨n, h⟩) (grid0.coords ⟨n, h⟩) (st c n) else st c n

theorem st_succ (c : Dev nD) (t : Fin cfg0.N) : st m c (t.val + 1) = step (blk m c t) (grid0.coords t) (st m c t.val) :=
  dif_pos t.isLt

/-- What a point leaves depends on the running arrays only where it does not clear them first. -/
theorem step_eq (c : Dev nD) (t : Fin cfg0.N) (s : Acc F) (h : ¬t.val % 4 = 0 → s = st m c t.val) :
    step (blk m c t) (grid0.coords t) s = st m c (t.val + 1) := by
  rw [st_succ]
  by_cases h4 : t.val % 4 = 0
  · unfold step clear
    rw [if_pos ((first_iff t).mpr h4), if_pos ((first_iff t).mpr h4)]
  · rw [h h4]

/-- A point whose keys all come after its queries leaves the running arrays alone. -/
theorem step_idle (c : Dev nD) (t : Fin cfg0.N) (h : t.val / 4 % 4 < t.val % 4) : st m c (t.val + 1) = st m c t.val := by
  rw [st_succ]
  unfold step onDiag below clear
  rw [if_neg (fun h' => by have := (cond3_iff t).mp h'; omega), if_neg (fun h' => by have := (earlier_iff t).mp h'; omega),
    if_neg (fun h' => by have := (first_iff t).mp h'; omega)]

/-- The three running arrays between points. -/
def carried (c : Dev nD) (n : ℕ) : sProp 𝕄 :=
  iprop((∃ s : Acc F, ⌜¬n % 4 = 0 → s = st m c n⌝
    ∗ owns (c : Thread nD τ) (Memref.whole cc0_scratch0) fullShare s.m ∗ owns (c : Thread nD τ) (Memref.whole cc0_scratch1) fullShare s.l
    ∗ owns (c : Thread nD τ) (Memref.whole cc0_scratch2) fullShare s.a)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay7 (st m c (t.val + 1)).a (st m c (t.val + 1)).l
    | ⟨4, _⟩ => k0_pay8 (st m c (t.val + 1)).m (st m c (t.val + 1)).l
  Φ n := carried m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay7 (st m c (t.val + 1)).a (st m c (t.val + 1)).l := by dsimp only [dats]
theorem after0_4 (c : Dev nD) (t : Fin cfg0.N) : (dats m 0 c).after 4 t = k0_pay8 (st m c (t.val + 1)).m (st m c (t.val + 1)).l := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Once the diagonal is past, the output's block holds what the diagonal left there. -/
theorem before0_3 (c : Dev nD) : ∀ (n : ℕ) (hn : n < cfg0.N) (_ : n / 4 % 4 < n % 4) (d), (dats m 0 c).before 3 ⟨n, hn⟩ d = k0_pay7 (st m c n).a (st m c n).l
  | 0, _, h, _ => absurd h (by decide)
  | n + 1, hn, h, d => by
    have hn' : n < cfg0.N := Nat.lt_of_succ_lt hn
    rw [Dat.before_of_pos (dats m 0 c) 3 ⟨n + 1, hn⟩ (Nat.succ_ne_zero n) rfl d,
      if_neg (fun hf => by have := (flush0_3 _).mp hf; dsimp only at this; omega)]
    show (dats m 0 c).left 3 ⟨n, hn'⟩ d = _
    unfold Dat.left
    by_cases hi : cfg0.idle 3 (grid0.coords ⟨n, hn'⟩) = true
    · have hlt := (idle3_iff ⟨n, hn'⟩).mp hi
      dsimp only at hlt
      have hlt' : n / 4 % 4 < n % 4 := by omega
      rw [show cfg0.idle 3 (cfg0.grid.coords ⟨n, hn'⟩) = true from hi]
      dsimp only
      rw [before0_3 c n hn' hlt' d, ← step_idle m c ⟨n, hn'⟩ hlt']
    · rw [show cfg0.idle 3 (cfg0.grid.coords ⟨n, hn'⟩) = false from Bool.eq_false_iff.mpr hi]
      dsimp only
      unfold Dat.kept
      rw [Pipeline.fill_of_clip_none 3 _ (fun _ => rfl) d ((dats m 0 c).after 3 _), Window.fill_cut, after0_3]

/-- Once the diagonal is past, the logarithms' block holds what the diagonal left there. -/
theorem before0_4 (c : Dev nD) : ∀ (n : ℕ) (hn : n < cfg0.N) (_ : n / 4 % 4 < n % 4) (d), (dats m 0 c).before 4 ⟨n, hn⟩ d = k0_pay8 (st m c n).m (st m c n).l
  | 0, _, h, _ => absurd h (by decide)
  | n + 1, hn, h, d => by
    have hn' : n < cfg0.N := Nat.lt_of_succ_lt hn
    rw [Dat.before_of_pos (dats m 0 c) 4 ⟨n + 1, hn⟩ (Nat.succ_ne_zero n) rfl d,
      if_neg (fun hf => by have := (flush0_4 _).mp hf; dsimp only at this; omega)]
    show (dats m 0 c).left 4 ⟨n, hn'⟩ d = _
    unfold Dat.left
    by_cases hi : cfg0.idle 4 (grid0.coords ⟨n, hn'⟩) = true
    · have hlt := (idle4_iff ⟨n, hn'⟩).mp hi
      dsimp only at hlt
      have hlt' : n / 4 % 4 < n % 4 := by omega
      rw [show cfg0.idle 4 (cfg0.grid.coords ⟨n, hn'⟩) = true from hi]
      dsimp only
      rw [before0_4 c n hn' hlt' d, ← step_idle m c ⟨n, hn'⟩ hlt']
    · rw [show cfg0.idle 4 (cfg0.grid.coords ⟨n, hn'⟩) = false from Bool.eq_false_iff.mpr hi]
      dsimp only
      unfold Dat.kept
      rw [Pipeline.fill_of_clip_none 4 _ (fun _ => rfl) d ((dats m 0 c).after 4 _), Window.fill_cut, after0_4]

/-- What the pipeline asks of the buffer of window `w` after a point: an idle point gives it back as found. -/
def leaves (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leaves_live (c : Dev nD) (w : Fin cfg0.W) (t : Fin cfg0.N) (h : ¬cfg0.idle w (grid0.coords t) = true) :
    leaves m c w t = owns (c : Thread nD τ) ((cfg0.win w).stage (cfg0.slots t w)) fullShare ((dats m 0 c).after w t) := by
  unfold leaves
  rw [show cfg0.idle w (cfg0.grid.coords t) = false from Bool.eq_false_iff.mpr h]

theorem leaves_idle (c : Dev nD) (w : Fin cfg0.W) (t : Fin cfg0.N) (h : cfg0.idle w (grid0.coords t) = true) (hf : ¬(cfg0.win w).flush t = true) :
    leaves m c w t = iprop(∃ d, owns (c : Thread nD τ) ((cfg0.win w).stage (cfg0.slots t w)) fullShare ((dats m 0 c).before w t d)) := by
  unfold leaves
  rw [show cfg0.idle w (cfg0.grid.coords t) = true from h, Bool.eq_false_iff.mpr hf]

theorem leaves_flush (c : Dev nD) (w : Fin cfg0.W) (t : Fin cfg0.N) (h : cfg0.idle w (grid0.coords t) = true) (hf : (cfg0.win w).flush t = true) :
    leaves m c w t = owns (c : Thread nD τ) ((cfg0.win w).stage (cfg0.slots t w)) fullShare ((dats m 0 c).after w t) := by
  unfold leaves
  rw [show cfg0.idle w (cfg0.grid.coords t) = true from h, hf]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ leaves m c 3 t ∗ leaves m c 4 t)

/-- What the body leaves is what the pipeline asks for. -/
theorem post_of_held (c : Dev nD) (t : Fin cfg0.N) (e3 e4) :
    iprop(held (blk m c t) c (st0_0 t) (st0_1 t) (st0_2 t) (st0_3 t) (st0_4 t)
      (Memref.whole cc0_scratch0) (Memref.whole cc0_scratch1) (Memref.whole cc0_scratch2) (st m c (t.val + 1))
      (outO (grid0.coords t) (st m c (t.val + 1)) ((dats m 0 c).before 3 t e3)) (outL (grid0.coords t) (st m c (t.val + 1)) ((dats m 0 c).before 4 t e4))
      ∗ ((dats m 0 c).owesAt () t.castSucc ∗ ∃ r, prngReg c r)) ⊢ bodyPost m c t := by
  unfold held bodyPost
  rw [show (dats m 0 c).owesAt () t.succ = (dats m 0 c).owesAt () t.castSucc from rfl,
    show (dats m 0 c).Φ t.succ = carried m c (t.val + 1) from rfl,
    after0_0, after0_1, after0_2]
  unfold carried
  iintro ⟨⟨H0, H1, H2, H3, H4, Ha, Hb, Hd⟩, Ho, Hr⟩
  isplitl [Ha Hb Hd Hr]
  · isplitl [Ha Hb Hd]
    · iexists (st m c (t.val + 1))
      isplitr
      · ipureintro; exact fun _ => rfl
      isplitl [Ha]; · iexact Ha
      isplitl [Hb]; · iexact Hb
      iexact Hd
    iexact Hr
  isplitl [Ho]; · iexact Ho
  isplitl [H0]; · iexact H0
  isplitl [H1]; · iexact H1
  isplitl [H2]; · iexact H2
  have h3 := idle3_iff t
  have h4 := idle4_iff t
  by_cases h5 : t.val % 4 = t.val / 4 % 4
  · rw [leaves_live m c 3 t (fun h => h3.mp h h5), leaves_live m c 4 t (fun h => h4.mp h h5), after0_3, after0_4]
    unfold outO outL
    rw [if_pos ((cond3_iff t).mpr h5), if_pos ((cond3_iff t).mpr h5)]
    isplitl [H3]; · iexact H3
    iexact H4
  · unfold outO outL
    rw [if_neg (fun h => h5 ((cond3_iff t).mp h)), if_neg (fun h => h5 ((cond3_iff t).mp h))]
    by_cases h6 : t.val % 4 = 3
    · have hlt : t.val / 4 % 4 < t.val % 4 := by omega
      rw [leaves_flush m c 3 t (h3.mpr h5) ((flush0_3 t).mpr h6), leaves_flush m c 4 t (h4.mpr h5) ((flush0_4 t).mpr h6), after0_3, after0_4,
        before0_3 m c t.val t.isLt hlt, before0_4 m c t.val t.isLt hlt, step_idle m c t hlt]
      isplitl [H3]; · iexact H3
      iexact H4
    · rw [leaves_idle m c 3 t (h3.mpr h5) (fun h => h6 ((flush0_3 t).mp h)), leaves_idle m c 4 t (h4.mpr h5) (fun h => h6 ((flush0_4 t).mp h))]
      isplitl [H3]
      · iexists e3; iexact H3
      iexists e4; iexact H4

theorem sound_at (c : Dev nD) (t : Fin cfg0.N) (e3 e4) (s : Acc F) (hs : ¬t.val % 4 = 0 → s = st m c t.val) :
    iprop(held (blk m c t) c (st0_0 t) (st0_1 t) (st0_2 t) (st0_3 t) (st0_4 t)
      (Memref.whole cc0_scratch0) (Memref.whole cc0_scratch1) (Memref.whole cc0_scratch2) s ((dats m 0 c).before 3 t e3) ((dats m 0 c).before 4 t e4)
      ∗ ((dats m 0 c).owesAt () t.castSucc ∗ ∃ r, prngReg c r))
      ⊢ wp frame (wpE (defs₀ (F := F)) Variants.none c none) Set.univ (bodyAt0 t) (fun _ => bodyPost m c t) := by
  have hs := step_eq m c t s hs
  have hb := body (blk m c t) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
    (Memref.whole cc0_scratch0) (Memref.isWhole_whole _) (Memref.whole cc0_scratch1) (Memref.isWhole_whole _) (Memref.whole cc0_scratch2) (Memref.isWhole_whole _)
    Set.univ s ((dats m 0 c).before 3 t e3) ((dats m 0 c).before 4 t e4)
  rw [hs] at hb
  exact (sep_mono hb .rfl).trans ((wp_frame_r _ _ _).trans (wp_mono _ _ _ fun _ => post_of_held m c t e3 e4))

theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2]
  rw [show (dats m 0 c).Φ t.castSucc = carried m c t.val from rfl]
  unfold carried
  iintro ⟨⟨⟨%s, %hs, Ha, Hb, Hd⟩, Hr⟩, Ho, ⟨%e0, H0⟩, ⟨%e1, H1⟩, ⟨%e2, H2⟩, ⟨%e3, H3⟩, ⟨%e4, H4⟩⟩
  iapply (sound_at m c t e3 e4 s hs)
  unfold held
  isplitr [Ho Hr]
  · isplitl [H0]; · iexact H0
    isplitl [H1]; · iexact H1
    isplitl [H2]; · iexact H2
    isplitl [H3]; · iexact H3
    isplitl [H4]; · iexact H4
    isplitl [Ha]; · iexact Ha
    isplitl [Hb]; · iexact Hb
    iexact Hd
  isplitl [Ho]; · iexact Ho
  iexact Hr

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffers as the region hands them over, -/
theorem enter (c : Dev nD) : Pipeline.ΦA spec0 c ⊢ (dats (F := F) m 0 c).Φ 0 := by
  rw [show (dats m 0 c).Φ 0 = carried m c 0 from rfl]
  unfold Pipeline.ΦA carried
  rw [scopedRest0_eq]
  simp only [owns_whole]
  iintro ⟨⟨⟨%f, Hf⟩, ⟨%g, Hg⟩, ⟨%h, Hh⟩⟩, Hr⟩
  isplitl [Hf Hg Hh]
  · iexists (⟨f, g, h⟩ : Acc F)
    isplitr
    · ipureintro; exact fun h => (h trivial).elim
    isplitl [Hf]; · iexact Hf
    isplitl [Hg]; · iexact Hg
    iexact Hh
  iexact Hr

/-- and as it takes them back. -/
theorem leave (c : Dev nD) : (dats (F := F) m 0 c).Φ (Fin.last cfg0.N) ⊢ Pipeline.ΦA spec0 c := by
  rw [show (dats m 0 c).Φ (Fin.last cfg0.N) = carried m c cfg0.N from rfl]
  unfold Pipeline.ΦA carried
  rw [scopedRest0_eq]
  simp only [owns_whole]
  iintro ⟨⟨%s, %_, Hf, Hg, Hh⟩, Hr⟩
  isplitl [Hf Hg Hh]
  · isplitl [Hf]
    · iexists s.m; iexact Hf
    isplitl [Hg]
    · iexists s.l; iexact Hg
    iexists s.a; iexact Hh
  iexact Hr

set_option backward.isDefEq.respectTransparency.types false in
/-- The launch. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were, and every counter at zero. -/
theorem frame_at : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.AttnfIdeal.Step
-- ==== Proof.AttnfClaim.lean ====
/- The frames of the attention's forward call, for the kernel over bits, over extended reals, and for the reference. -/
module

public import proofs.«01_k».proof.Defs
public import proofs.«01_k».proof.Proof.AttnfFrame
public import proofs.«01_k».proof.Proof.Gen.Attnf
public import proofs.«01_k».proof.Proof.Gen.AttnfRefIdeal.Run
public import proofs.«01_k».proof.Proof.Gen.Pre_finite_attnf
public import Idealize.ShloMosaic.Lib.Quiescent
public import Idealize.ShloMosaic.Lib.Tactic.ProgEq

@[expose] public section

noncomputable section

namespace Cert.Attnf.Claim

open Idealize.ShloMosaic Idealize.ShloMosaic.TcCoe Idealize.SL.Sem

/-- On the machine's own words the mask is the word that the program text holds. -/
@[reducible] def words : Named Bits where
  named _ _ {φ} b := Scalar.ofBits (F := Bits) φ b

theorem frame : Cert.quiescent_Attnf (hAttnf := Cert.Attnf.Gen.facts) := fun m ρ _ =>
  cast (by sl_kernel_rfl) (@Cert.AttnfIdeal.Step.frame_at Bits _ words m ρ)

theorem frame_ideal : Cert.quiescent_AttnfIdeal (hAttnfIdeal := Cert.AttnfIdeal.Gen.facts) := fun m ρ _ =>
  Cert.AttnfIdeal.Step.frame_at m ρ

theorem frame_ideal_pre : Cert.quiescent_AttnfIdeal_pre_finite_attnf (hAttnfIdeal := Cert.AttnfIdeal.Gen.facts)
    (hPre_finite_attnf := Cert.Pre_finite_attnf.Gen.facts) := fun m ρ _ => Cert.AttnfIdeal.Step.frame_at m ρ

theorem ref_run (m : (ℓ : Loc Cert.AttnfRefIdeal.nD Cert.AttnfRefIdeal.τ Cert.AttnfRefIdeal.sig) → Buf (Elt Ideal) ℓ)
    (g : Dev Cert.AttnfRefIdeal.nD → PrngReg) :
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread _ _).loc Cert.AttnfRefIdeal.main_arg0) = m ((c.tc : Thread _ _).loc Cert.AttnfRefIdeal.main_arg0)
      ∧ r.2.mem ((c.tc : Thread _ _).loc Cert.AttnfRefIdeal.main_arg1) = m ((c.tc : Thread _ _).loc Cert.AttnfRefIdeal.main_arg1)
      ∧ r.2.mem ((c.tc : Thread _ _).loc Cert.AttnfRefIdeal.main_arg2) = m ((c.tc : Thread _ _).loc Cert.AttnfRefIdeal.main_arg2))
      ∧ r.2.sem = fun _ => 0) :=
  (θ_run _ _ _).mono (fun r h => ⟨fun c => (h c).2.2, sem_eq_zero_of_no_sems (by decide) r.2⟩)
    (Cert.AttnfRefIdeal.Value.run (F := Ideal) m g)

theorem frame_ref : Cert.quiescent_AttnfRefIdeal (hAttnfRefIdeal := Cert.AttnfRefIdeal.Gen.facts) := fun m g _ => ref_run m g

theorem frame_ref_pre : Cert.quiescent_AttnfRefIdeal_pre_finite_attnf (hAttnfRefIdeal := Cert.AttnfRefIdeal.Gen.facts)
    (hPre_finite_attnf := Cert.Pre_finite_attnf.Gen.facts) := fun m g _ => ref_run m g

end Cert.Attnf.Claim

end
-- ==== Proof.AttnfRow.lean ====
/-
  One row of a softmax taken a block of keys at a time: the running maximum, the running sum of exponentials and the
  running weighted sum stand for the sums over the keys seen so far, each relative to the current maximum; after the
  last block they give the softmax and the logarithm of its denominator.
-/
module

public import proofs.«01_k».proof.Proof.AttnAlg

@[expose] public section

set_option maxRecDepth 16384

noncomputable section

namespace Cert.AttnfIdeal.Step

open Idealize.ShloMosaic
open Cert.Shapes (coe_sum)
open Cert.AttnIdeal.Step (rowOf)

variable (S : Fin 4096 → ℝ) (i : Fin 4096)

/-- The weight of key `j` relative to `μ`. -/
def w (μ : ℝ) (j : Fin 4096) : ℝ := if j.val ≤ i.val then Real.exp (S j - μ) else 0

theorem w_shift (μ ν : ℝ) (j : Fin 4096) : w S i ν j = Real.exp (μ - ν) * w S i μ j := by
  unfold w
  split
  · rw [← Real.exp_add]; congr 1; ring
  · rw [mul_zero]

/-- The sum over the keys of the first `n` blocks. -/
def part (f : Fin 4096 → ℝ) (n : ℕ) : ℝ :=
  ∑ b ∈ Finset.range n, if h : b < 4 then ∑ s : Fin 1024, f (rowOf ⟨b, h⟩ s) else 0

theorem part_zero (f : Fin 4096 → ℝ) : part f 0 = 0 := rfl

theorem part_succ (f : Fin 4096 → ℝ) (k : Fin 4) : part f (k.val + 1) = part f k.val + ∑ s : Fin 1024, f (rowOf k s) := by
  unfold part
  rw [Finset.sum_range_succ, dif_pos k.isLt]

theorem part_mul (c : ℝ) (f : Fin 4096 → ℝ) (n : ℕ) : part (fun j => c * f j) n = c * part f n := by
  unfold part
  rw [Finset.mul_sum]
  refine Finset.sum_congr rfl fun b _ => ?_
  split
  · rw [Finset.mul_sum]
  · rw [mul_zero]

theorem part_all (f : Fin 4096 → ℝ) (hf : ∀ j : Fin 4096, ¬j.val ≤ i.val → f j = 0) (n : ℕ) (hn : n ≤ 4) (hi : i.val < 1024 * n) :
    part f n = ∑ j, f j := by
  have h4 : part f 4 = ∑ j, f j := by
    unfold part
    rw [Finset.sum_range, Cert.Shapes.sum_blocks 4 1024 rfl f]
    refine Finset.sum_congr rfl fun b _ => ?_
    rw [dif_pos b.isLt]
    refine Finset.sum_congr rfl fun s _ => congrArg f (Fin.ext ?_)
    show 1024 * b.val + s.val = b.val * 1024 + s.val
    omega
  rw [← h4]
  unfold part
  refine Finset.sum_subset (Finset.range_subset_range.2 hn) fun b _ hb => ?_
  split
  · refine Finset.sum_eq_zero fun s _ => hf _ ?_
    rw [Finset.mem_range] at hb
    show ¬1024 * b + s.val ≤ i.val
    omega
  · rfl

variable (v : Fin 4096 → Fin 128 → ℝ)

/-- The running values after the first `n` blocks of keys. -/
def Seen (n : ℕ) (m l : EReal) (a : Fin 128 → EReal) : Prop :=
  ∃ μ : ℝ, m = (μ : EReal) ∧ l = (part (w S i μ) n : EReal) ∧ ∀ d, a d = (part (fun j => w S i μ j * v j d) n : EReal)

/-- The running values before any key. -/
def Fresh (n : ℕ) (m l : EReal) (a : Fin 128 → EReal) : Prop := n = 0 ∧ m = ⊥ ∧ l = 0 ∧ ∀ d, a d = 0

theorem fold_real (f : Fin 1024 → EReal) (hf : ∀ s, f s = ⊥ ∨ ∃ x : ℝ, f s = (x : EReal)) (s0 : Fin 1024) (x0 : ℝ) (h0 : f s0 = (x0 : EReal)) :
    ∃ M : ℝ, Finset.fold max ⊥ f Finset.univ = (M : EReal) := by
  have hlt : Finset.fold max ⊥ f Finset.univ < ⊤ := by
    rw [Finset.fold_max_lt]
    refine ⟨bot_lt_top, fun s _ => ?_⟩
    rcases hf s with h | ⟨x, h⟩
    · rw [h]; exact bot_lt_top
    · rw [h]; exact EReal.coe_lt_top _
  have hgt : (x0 : EReal) ≤ Finset.fold max ⊥ f Finset.univ := by
    rw [Finset.le_fold_max]
    exact Or.inr ⟨s0, Finset.mem_univ _, h0.ge⟩
  induction hm : Finset.fold max ⊥ f Finset.univ using EReal.rec with
  | bot => rw [hm] at hgt; exact absurd hgt (not_le.2 (EReal.bot_lt_coe _))
  | coe r => exact ⟨r, rfl⟩
  | top => rw [hm] at hlt; exact absurd hlt (lt_irrefl _)

variable {S i v}

/-- One more block of keys. -/
theorem seen_step {k : Fin 4} {m l : EReal} {a : Fin 128 → EReal} (H : Seen S i v k.val m l a ∨ Fresh k.val m l a)
    (f : Fin 1024 → EReal) (hf : ∀ s, f s = if (rowOf k s).val ≤ i.val then (S (rowOf k s) : EReal) else ⊥)
    (s0 : Fin 1024) (h0 : (rowOf k s0).val ≤ i.val) (m' : EReal) (hm' : m' = max m (Finset.fold max ⊥ f Finset.univ)) :
    Seen S i v (k.val + 1) m' (Ideal.exp (m - m') * l + ∑ s, Ideal.exp (f s - m'))
      (fun d => Ideal.exp (m - m') * a d + ∑ s, Ideal.exp (f s - m') * (v (rowOf k s) d : EReal)) := by
  obtain ⟨M, hM⟩ := fold_real f (fun s => by
    rw [hf]; split
    · exact Or.inr ⟨_, rfl⟩
    · exact Or.inl rfl) s0 (S (rowOf k s0)) (by rw [hf, if_pos h0])
  have he : ∀ (ν : ℝ) (s : Fin 1024), Ideal.exp (f s - (ν : EReal)) = (w S i ν (rowOf k s) : EReal) := by
    intro ν s
    rw [hf]
    unfold w
    split
    · rw [← EReal.coe_sub, Ideal.exp_coe]
    · rw [EReal.bot_sub, Ideal.exp_bot, EReal.coe_zero]
  rw [hM] at hm'
  rcases H with ⟨μ, rfl, rfl, ha⟩ | ⟨hk, rfl, rfl, ha⟩
  · have hν : m' = ((max μ M : ℝ) : EReal) := by rw [hm']; exact (EReal.coe_strictMono.monotone.map_max).symm
    refine ⟨max μ M, hν, ?_, fun d => ?_⟩
    · rw [hν]
      simp only [he, ← EReal.coe_sub, Ideal.exp_coe, ← coe_sum, ← EReal.coe_mul, ← EReal.coe_add]
      rw [part_succ, ← part_mul]
      simp only [← w_shift]
    · rw [hν]
      simp only [he, ha, ← EReal.coe_sub, Ideal.exp_coe, ← coe_sum, ← EReal.coe_mul, ← EReal.coe_add]
      rw [part_succ, ← part_mul]
      simp only [← mul_assoc, ← w_shift]
  · have hν : m' = (M : EReal) := by rw [hm']; exact max_eq_right bot_le
    refine ⟨M, hν, ?_, fun d => ?_⟩
    · rw [hν]
      simp only [he, mul_zero, zero_add, ← coe_sum]
      rw [part_succ, hk, part_zero, zero_add]
    · rw [hν]
      simp only [he, ha, mul_zero, zero_add, ← coe_sum, ← EReal.coe_mul]
      rw [part_succ, hk, part_zero, zero_add]

/-- After the last block: the softmax's weighted sum, and the logarithm of its denominator. -/
theorem seen_out {n : ℕ} {m l : EReal} {a : Fin 128 → EReal} (H : Seen S i v n m l a) (hn : n ≤ 4) (hi : i.val < 1024 * n)
    (μ : ℝ) (e : Fin 4096 → ℝ) (he : ∀ j, e j = w S i μ j) (hp : 0 < ∑ j, e j) :
    (∀ d, Ideal.div (a d) l = ∑ j, (v j d : EReal) * ((e j / ∑ k, e k : ℝ) : EReal))
    ∧ m + Ideal.log l = (μ : EReal) + Ideal.log ((∑ j, e j : ℝ) : EReal) := by
  obtain ⟨ν, rfl, rfl, ha⟩ := H
  have hw : ∀ j, w S i ν j = Real.exp (μ - ν) * e j := fun j => by rw [he, ← w_shift]
  have hl : part (w S i ν) n = Real.exp (μ - ν) * ∑ j, e j := by
    rw [part_all i (w S i ν) (fun j hj => if_neg hj) n hn hi, Finset.mul_sum]
    exact Finset.sum_congr rfl fun j _ => hw j
  have hx := Real.exp_pos (μ - ν)
  have hl0 : 0 < part (w S i ν) n := by rw [hl]; exact mul_pos hx hp
  refine ⟨fun d => ?_, ?_⟩
  · have hs : part (fun j => w S i ν j * v j d) n = Real.exp (μ - ν) * ∑ j, e j * v j d := by
      rw [part_all i (fun j => w S i ν j * v j d) (fun j hj => by show w S i ν j * v j d = 0; unfold w; rw [if_neg hj, zero_mul]) n hn hi, Finset.mul_sum]
      exact Finset.sum_congr rfl fun j _ => by rw [hw]; ring
    rw [ha, Ideal.div_coe hl0.ne', hs, hl]
    simp only [← EReal.coe_mul, ← coe_sum]
    refine congrArg _ ?_
    generalize hL : (∑ k, e k) = L at hp
    have e1 : ∀ j, v j d * (e j / L) = e j * v j d / L := fun j => by ring
    simp only [e1]
    rw [← Finset.sum_div]
    field_simp
  · rw [hl, Ideal.log_coe, if_neg (not_le.2 (mul_pos hx hp)), Ideal.log_coe, if_neg (not_le.2 hp), ← EReal.coe_add, ← EReal.coe_add,
      Real.log_mul hx.ne' hp.ne', Real.log_exp]
    refine congrArg _ ?_
    ring

end Cert.AttnfIdeal.Step

end
-- ==== Proof.AttnfPay.lean ====
/-
  The attention forward kernel's steps read at an index: a block of keys raises the running maximum of a row, and
  rescales and extends its running sums.
-/
module

public import proofs.«01_k».proof.Proof.AttnfStep
public import proofs.«01_k».proof.Proof.AttnHost

@[expose] public section

set_option maxRecDepth 16384

noncomputable section

namespace Cert.AttnfIdeal.Step

open Cert.AttnfIdeal Cert.AttnfIdeal.Gen
open Idealize.ShloMosaic
open Cert.AttnIdeal.Step (bot_word)

/-- The mask of the scores is `⊥`. -/
theorem mask_bot : Named.named (F := Ideal) κ "mask" (φ := .f32) 0xF149F2CA#32 = (⊥ : EReal) := rfl

variable (x : Blk Ideal) (s : Acc Ideal) (r : Fin 1024) (d : Fin 128)

/-- The score of the block's query `r` on the block's key `t`; -/
def kS (r t : Fin 1024) : EReal := ∑ d : Fin 192, x.q (ix3 0 r d) * x.k (ix3 0 t d)

/-- the same for the block on the diagonal. -/
def kD (r t : Fin 1024) : EReal := if t.val ≤ r.val then kS x r t else ⊥

/-- A row's new maximum. -/
def newMax (f : Fin 1024 → EReal) (m : EReal) : EReal := max m (Finset.fold max ⊥ f Finset.univ)

theorem kS_apply (r t : Fin 1024) : k0_pay9 x.q x.k (ix2 r t) = kS x r t := by
  unfold kS
  pointwise [k0_pay9]

theorem le_word (r t : Fin 1024) : IntOp.cmpi .sle (BitVec.ofNat 32 t.val) (IntOp.addi (BitVec.ofNat 32 r.val) 0#32) = 1#1 ↔ t.val ≤ r.val := by
  word_omega

theorem kD_apply (r t : Fin 1024) : k0_pay15 x.q x.k (ix2 r t) = kD x r t := by
  unfold kD kS
  rw [← mask_bot]
  pointwise [k0_pay15]
  unfold Scalar.select
  exact if_congr (le_word r t) rfl rfl

theorem max_off : k0_pay10 x.q x.k s.m (ix2 r 0) = newMax (kS x r) (s.m (ix2 r 0)) := by
  unfold newMax
  rw [← bot_word]
  simp only [← kS_apply]
  pointwise [k0_pay10]

theorem max_diag : k0_pay16 x.q x.k s.m (ix2 r 0) = newMax (kD x r) (s.m (ix2 r 0)) := by
  unfold newMax
  rw [← bot_word]
  simp only [← kD_apply]
  pointwise [k0_pay16]

theorem off_m : (off x s).m (ix2 r 0) = newMax (kS x r) (s.m (ix2 r 0)) := by
  rw [← max_off]
  show k0_pay4 (k0_pay10 x.q x.k s.m) (ix2 r 0) = _
  pointwise [k0_pay4]

theorem off_l : (off x s).l (ix2 r 0) = Ideal.exp (s.m (ix2 r 0) - newMax (kS x r) (s.m (ix2 r 0))) * s.l (ix2 r 0)
    + ∑ t, Ideal.exp (kS x r t - newMax (kS x r) (s.m (ix2 r 0))) := by
  simp only [← max_off, ← kS_apply]
  show k0_pay13 x.q x.k s.m s.m s.l (ix2 r 0) = _
  pointwise [k0_pay13, k0_pay12, k0_pay11]

theorem off_a : (off x s).a (ix2 r d) = Ideal.exp (s.m (ix2 r 0) - newMax (kS x r) (s.m (ix2 r 0))) * s.a (ix2 r d)
    + ∑ t, Ideal.exp (kS x r t - newMax (kS x r) (s.m (ix2 r 0))) * x.v (ix3 0 t d) := by
  simp only [← max_off, ← kS_apply]
  show k0_pay14 x.q x.k s.m s.m s.a x.v (ix2 r d) = _
  pointwise [k0_pay14, k0_pay12, k0_pay11]

theorem diag_m : (diag x s).m (ix2 r 0) = newMax (kD x r) (s.m (ix2 r 0)) := by
  rw [← max_diag]
  show k0_pay6 (k0_pay16 x.q x.k s.m) (ix2 r 0) = _
  pointwise [k0_pay6]

theorem diag_l : (diag x s).l (ix2 r 0) = Ideal.exp (s.m (ix2 r 0) - newMax (kD x r) (s.m (ix2 r 0))) * s.l (ix2 r 0)
    + ∑ t, Ideal.exp (kD x r t - newMax (kD x r) (s.m (ix2 r 0))) := by
  simp only [← max_diag, ← kD_apply]
  show k0_pay19 x.q x.k s.m s.m s.l (ix2 r 0) = _
  pointwise [k0_pay19, k0_pay18, k0_pay17]

theorem diag_a : (diag x s).a (ix2 r d) = Ideal.exp (s.m (ix2 r 0) - newMax (kD x r) (s.m (ix2 r 0))) * s.a (ix2 r d)
    + ∑ t, Ideal.exp (kD x r t - newMax (kD x r) (s.m (ix2 r 0))) * x.v (ix3 0 t d) := by
  simp only [← max_diag, ← kD_apply]
  show k0_pay5 (k0_pay20 x.q x.k s.m s.m s.a) (k0_pay21 x.q x.k s.m) x.v (ix2 r d) = _
  pointwise [k0_pay5, k0_pay20, k0_pay21, k0_pay18, k0_pay17]

theorem clear_m : k0_pay1 (F := Ideal) (ix2 r 0) = ⊥ := by
  rw [← mask_bot]
  pointwise [k0_pay1]

theorem clear_l : k0_pay2 (F := Ideal) (ix2 r 0) = 0 := by
  pointwise [k0_pay2]

theorem clear_a : k0_pay3 (F := Ideal) (ix2 r d) = 0 := by
  pointwise [k0_pay3]

theorem out_o (a : Vec Ideal S1024x128 .f32) (l : Vec Ideal S1024x1 .f32) : k0_pay7 (F := Ideal) a l (ix2 r d) = Ideal.div (a (ix2 r d)) (l (ix2 r 0)) := by
  pointwise [k0_pay7]

theorem out_l (m l : Vec Ideal S1024x1 .f32) : k0_pay8 (F := Ideal) m l (ix3 0 r 0) = m (ix2 r 0) + Ideal.log (l (ix2 r 0)) := by
  pointwise [k0_pay8]

end Cert.AttnfIdeal.Step

end
-- ==== Proof.AttnfVal.lean ====
/-
  What the attention forward kernel leaves in its two results: row by row, the softmax's weighted sum of the values and
  the logarithm of its denominator.
-/
module

public import proofs.«01_k».proof.Proof.AttnfRow
public import proofs.«01_k».proof.Proof.AttnfPay
public import proofs.«01_k».proof.Proof.AttnfFrame

@[expose] public section

set_option maxRecDepth 16384

noncomputable section

namespace Cert.AttnfIdeal.Step

open Cert.AttnfIdeal Cert.AttnfIdeal.Gen
open Idealize.ShloMosaic Idealize.ShloMosaic.TcCoe
open Idealize.ShloMosaic.Pipeline (Dat Cfg Window)
open Cert.AttnIdeal.Step (rowOf scale scR kernel_score row Row mx ex ln)

variable (m : (ℓ : Loc nD τ sig) → Buf (Elt Ideal) ℓ) (c : Dev nD)

def B0 : FVec Ideal S4096x8x192 .f32 := m (c, Proc.devRef .tc main_arg0)
def B1 : FVec Ideal S4096x8x192 .f32 := m (c, Proc.devRef .tc main_arg1)
def B2 : FVec Ideal S4096x8x128 .f32 := m (c, Proc.devRef .tc main_arg2)

/-! ## What the kernel reads -/

def Qf : S8x4096x192.Idx → EReal := V m c main_v3
def Kf : S8x4096x192.Idx → EReal := V m c main_v5
def Vf : S8x4096x128.Idx → EReal := V m c main_v7

theorem Qf_apply (h : Fin 8) (i : Fin 4096) (d : Fin 192) : Qf m c (ix3 h i d) = B0 m c (ix3 i h d) * scale := by
  unfold Qf V hostOps0
  after_reads_at
  rfl

theorem Kf_apply (h : Fin 8) (i : Fin 4096) (d : Fin 192) : Kf m c (ix3 h i d) = B1 m c (ix3 i h d) := by
  unfold Kf V hostOps0
  after_reads_at
  rfl

theorem Vf_apply (h : Fin 8) (i : Fin 4096) (d : Fin 128) : Vf m c (ix3 h i d) = B2 m c (ix3 i h d) := by
  unfold Vf V hostOps0
  after_reads_at
  rfl

/-! ## The blocks at a point -/

theorem lt_N (t : Fin cfg0.N) : t.val < 128 := lt_of_lt_of_eq t.isLt (show cfg0.N = 128 from N_0)

abbrev hd (t : Fin cfg0.N) : Fin 8 := ⟨t.val / 16, by have := lt_N t; omega⟩
abbrev qi (t : Fin cfg0.N) : Fin 4 := ⟨t.val / 4 % 4, by omega⟩
abbrev ki (t : Fin cfg0.N) : Fin 4 := ⟨t.val % 4, by omega⟩

theorem idx0 : ∀ t : Fin cfg0.N, win0_0.index t 0 = t.val / 16 ∧ win0_0.index t 1 = t.val / 4 % 4 ∧ win0_0.index t 2 = 0 :=
  (by decide +kernel : ∀ t : Fin grid0.N, win0_0.index t 0 = t.val / 16 ∧ win0_0.index t 1 = t.val / 4 % 4 ∧ win0_0.index t 2 = 0)
theorem idx1 : ∀ t : Fin cfg0.N, win0_1.index t 0 = t.val / 16 ∧ win0_1.index t 1 = min (t.val % 4) (t.val / 4 % 4) ∧ win0_1.index t 2 = 0 :=
  (by decide +kernel : ∀ t : Fin grid0.N, win0_1.index t 0 = t.val / 16 ∧ win0_1.index t 1 = min (t.val % 4) (t.val / 4 % 4) ∧ win0_1.index t 2 = 0)
theorem idx2 : ∀ t : Fin cfg0.N, win0_2.index t 0 = t.val / 16 ∧ win0_2.index t 1 = min (t.val % 4) (t.val / 4 % 4) ∧ win0_2.index t 2 = 0 :=
  (by decide +kernel : ∀ t : Fin grid0.N, win0_2.index t 0 = t.val / 16 ∧ win0_2.index t 1 = min (t.val % 4) (t.val / 4 % 4) ∧ win0_2.index t 2 = 0)
theorem idx3 : ∀ t : Fin cfg0.N, win0_3.index t 0 = t.val / 4 % 4 ∧ win0_3.index t 1 = t.val / 16 :=
  (by decide +kernel : ∀ t : Fin grid0.N, win0_3.index t 0 = t.val / 4 % 4 ∧ win0_3.index t 1 = t.val / 16)
theorem idx4 : ∀ t : Fin cfg0.N, win0_4.index t 0 = t.val / 16 ∧ win0_4.index t 1 = t.val / 4 % 4 ∧ win0_4.index t 2 = 0 :=
  (by decide +kernel : ∀ t : Fin grid0.N, win0_4.index t 0 = t.val / 16 ∧ win0_4.index t 1 = t.val / 4 % 4 ∧ win0_4.index t 2 = 0)

theorem blk_q (t : Fin cfg0.N) (r : Fin 1024) (d : Fin 192) :
    (blk m c t).q (ix3 0 r d) = Qf m c (ix3 (hd t) (rowOf (qi t) r) d) := by
  show iblk m c 0 t (ix3 0 r d) = _
  unfold iblk Qf
  rw [View.read_apply]
  show V m c main_v3 _ = _
  refine congrArg (V m c main_v3) (funext fun a => Fin.ext ?_)
  obtain ⟨e0, e1, e2⟩ := idx0 t
  match a with
  | ⟨0, _⟩ => show win0_0.index t 0 * 1 + 1 * 0 = t.val / 16; omega
  | ⟨1, _⟩ => show win0_0.index t 1 * 1024 + 1 * r.val = 1024 * (t.val / 4 % 4) + r.val; omega
  | ⟨2, _⟩ => show win0_0.index t 2 * 192 + 1 * d.val = d.val; omega

theorem blk_k (t : Fin cfg0.N) (h : t.val % 4 ≤ t.val / 4 % 4) (r : Fin 1024) (d : Fin 192) :
    (blk m c t).k (ix3 0 r d) = Kf m c (ix3 (hd t) (rowOf (ki t) r) d) := by
  show iblk m c 1 t (ix3 0 r d) = _
  unfold iblk Kf
  rw [View.read_apply]
  show V m c main_v5 _ = _
  refine congrArg (V m c main_v5) (funext fun a => Fin.ext ?_)
  obtain ⟨e0, e1, e2⟩ := idx1 t
  match a with
  | ⟨0, _⟩ => show win0_1.index t 0 * 1 + 1 * 0 = t.val / 16; omega
  | ⟨1, _⟩ => show win0_1.index t 1 * 1024 + 1 * r.val = 1024 * (t.val % 4) + r.val; omega
  | ⟨2, _⟩ => show win0_1.index t 2 * 192 + 1 * d.val = d.val; omega

theorem blk_v (t : Fin cfg0.N) (h : t.val % 4 ≤ t.val / 4 % 4) (r : Fin 1024) (d : Fin 128) :
    (blk m c t).v (ix3 0 r d) = Vf m c (ix3 (hd t) (rowOf (ki t) r) d) := by
  show iblk m c 2 t (ix3 0 r d) = _
  unfold iblk Vf
  rw [View.read_apply]
  show V m c main_v7 _ = _
  refine congrArg (V m c main_v7) (funext fun a => Fin.ext ?_)
  obtain ⟨e0, e1, e2⟩ := idx2 t
  match a with
  | ⟨0, _⟩ => show win0_2.index t 0 * 1 + 1 * 0 = t.val / 16; omega
  | ⟨1, _⟩ => show win0_2.index t 1 * 1024 + 1 * r.val = 1024 * (t.val % 4) + r.val; omega
  | ⟨2, _⟩ => show win0_2.index t 2 * 128 + 1 * d.val = d.val; omega

/-- The arguments are real numbers. -/
structure Real3 (r0 r1 : S4096x8x192.Idx → ℝ) (r2 : S4096x8x128.Idx → ℝ) : Prop where
  q : ∀ k, B0 m c k = (r0 k : EReal)
  k : ∀ k, B1 m c k = (r1 k : EReal)
  v : ∀ k, B2 m c k = (r2 k : EReal)

variable {m c} {r0 r1 : S4096x8x192.Idx → ℝ} {r2 : S4096x8x128.Idx → ℝ}

theorem kS_blk (H : Real3 m c r0 r1 r2) (t : Fin cfg0.N) (h : t.val % 4 ≤ t.val / 4 % 4) (r s : Fin 1024) :
    kS (blk m c t) r s = (scR r0 r1 (hd t) (rowOf (qi t) r) (rowOf (ki t) s) : EReal) := by
  unfold kS
  simp only [blk_q, blk_k m c t h, Qf_apply, Kf_apply]
  exact kernel_score (B0 m c) (B1 m c) r0 r1 _ _ _ H.q H.k

/-! ## The running arrays -/

/-- Row `r` of the running arrays stands for the first `n` blocks of keys. -/
def SeenAcc (r0 r1 : S4096x8x192.Idx → ℝ) (r2 : S4096x8x128.Idx → ℝ) (h : Fin 8) (q : Fin 4) (r : Fin 1024) (n : ℕ) (s : Acc Ideal) : Prop :=
  Seen (scR r0 r1 h (rowOf q r)) (rowOf q r) (fun j d => r2 (ix3 j h d)) n (s.m (ix2 r 0)) (s.l (ix2 r 0)) (fun d => s.a (ix2 r d))

def FreshAcc (r : Fin 1024) (n : ℕ) (s : Acc Ideal) : Prop := Fresh n (s.m (ix2 r 0)) (s.l (ix2 r 0)) (fun d => s.a (ix2 r d))

theorem fresh_clear {n : ℕ} (hn : n = 0) (r : Fin 1024) : FreshAcc r n { m := k0_pay1 (F := Ideal), l := k0_pay2 (F := Ideal), a := k0_pay3 (F := Ideal) } :=
  ⟨hn, clear_m r, clear_l r, fun d => clear_a r d⟩

theorem block_step (H : Real3 m c r0 r1 r2) (t : Fin cfg0.N) (h : t.val % 4 ≤ t.val / 4 % 4) (r : Fin 1024) (s : Acc Ideal)
    (hs : SeenAcc r0 r1 r2 (hd t) (qi t) r (t.val % 4) s ∨ FreshAcc r (t.val % 4) s) :
    SeenAcc r0 r1 r2 (hd t) (qi t) r (t.val % 4 + 1) (onDiag (blk m c t) (grid0.coords t) (below (blk m c t) (grid0.coords t) s)) := by
  unfold onDiag below
  by_cases hd' : t.val % 4 = t.val / 4 % 4
  · rw [if_pos ((cond3_iff t).mpr hd'), if_neg (fun h' => by have := (earlier_iff t).mp h'; omega)]
    unfold SeenAcc
    rw [diag_m, diag_l]
    simp only [diag_a, blk_v m c t h, Vf_apply, H.v]
    refine seen_step (k := ki t) hs (kD (blk m c t) r) (fun u => ?_) 0 ?_ _ rfl
    · unfold kD
      rw [kS_blk H t h]
      refine if_congr ?_ rfl rfl
      show u.val ≤ r.val ↔ 1024 * (t.val % 4) + u.val ≤ 1024 * (t.val / 4 % 4) + r.val
      omega
    · show 1024 * (t.val % 4) + 0 ≤ 1024 * (t.val / 4 % 4) + r.val
      omega
  · rw [if_neg (fun h' => hd' ((cond3_iff t).mp h')), if_pos ((earlier_iff t).mpr (by omega))]
    unfold SeenAcc
    rw [off_m, off_l]
    simp only [off_a, blk_v m c t h, Vf_apply, H.v]
    refine seen_step (k := ki t) hs (kS (blk m c t) r) (fun u => ?_) 0 ?_ _ rfl
    · rw [kS_blk H t h, if_pos]
      show 1024 * (t.val % 4) + u.val ≤ 1024 * (t.val / 4 % 4) + r.val
      omega
    · show 1024 * (t.val % 4) + 0 ≤ 1024 * (t.val / 4 % 4) + r.val
      omega

/-- The point of head `h`, query block `q` and key block `k`. -/
abbrev pt (h : Fin 8) (q : Fin 4) (k : ℕ) (hk : k < 4) : Fin cfg0.N :=
  ⟨16 * h.val + 4 * q.val + k, lt_of_lt_of_eq (by omega : _ < 128) (show 128 = cfg0.N from N_0.symm)⟩

theorem seen_at (H : Real3 m c r0 r1 r2) (h : Fin 8) (q : Fin 4) (r : Fin 1024) : ∀ (n : ℕ) (_ : n < 4),
    SeenAcc r0 r1 r2 h q r (min n q.val + 1) (st m c (16 * h.val + 4 * q.val + n + 1))
  | 0, hn => by
    have e1 : hd (pt h q 0 hn) = h := Fin.ext (by show (16 * h.val + 4 * q.val + 0) / 16 = h.val; omega)
    have e2 : qi (pt h q 0 hn) = q := Fin.ext (by show (16 * h.val + 4 * q.val + 0) / 4 % 4 = q.val; omega)
    have e3 : (pt h q 0 hn).val % 4 = 0 := by show (16 * h.val + 4 * q.val + 0) % 4 = 0; omega
    have e := st_succ m c (pt h q 0 hn)
    unfold step clear at e
    rw [if_pos ((first_iff (pt h q 0 hn)).mpr e3)] at e
    have hb := block_step H (pt h q 0 hn) (by rw [e3]; exact Nat.zero_le _) r { m := k0_pay1 (F := Ideal), l := k0_pay2 (F := Ideal), a := k0_pay3 (F := Ideal) }
      (Or.inr (fresh_clear e3 r))
    rw [← e, e1, e2, e3] at hb
    rw [Nat.zero_min]
    exact hb
  | n + 1, hn => by
    have ih := seen_at H h q r n (by omega)
    by_cases hq : n + 1 ≤ q.val
    · have e1 : hd (pt h q (n + 1) hn) = h := Fin.ext (by show (16 * h.val + 4 * q.val + (n + 1)) / 16 = h.val; omega)
      have e2 : qi (pt h q (n + 1) hn) = q := Fin.ext (by show (16 * h.val + 4 * q.val + (n + 1)) / 4 % 4 = q.val; omega)
      have e3 : (pt h q (n + 1) hn).val % 4 = n + 1 := by show (16 * h.val + 4 * q.val + (n + 1)) % 4 = n + 1; omega
      have e4 : (pt h q (n + 1) hn).val / 4 % 4 = q.val := by show (16 * h.val + 4 * q.val + (n + 1)) / 4 % 4 = q.val; omega
      have e := st_succ m c (pt h q (n + 1) hn)
      unfold step clear at e
      rw [if_neg (fun h' => by have := (first_iff (pt h q (n + 1) hn)).mp h'; omega)] at e
      rw [min_eq_left (by omega : n ≤ q.val)] at ih
      have hb := block_step H (pt h q (n + 1) hn) (by rw [e3, e4]; exact hq) r (st m c (16 * h.val + 4 * q.val + (n + 1)))
        (Or.inl (by rw [e1, e2, e3]; exact ih))
      rw [e1, e2, e3] at hb
      rw [min_eq_left hq]
      exact e ▸ hb
    · have e := step_idle m c (pt h q (n + 1) hn) (by
        show (16 * h.val + 4 * q.val + (n + 1)) / 4 % 4 < (16 * h.val + 4 * q.val + (n + 1)) % 4
        omega)
      rw [min_eq_right (by omega : q.val ≤ n)] at ih
      rw [min_eq_right (by omega : q.val ≤ n + 1)]
      exact e ▸ ih

/-! ## The arrays -/

variable (m c) in
/-- The output of query `i` at column `d` of head `h`, -/
def outF (h : Fin 8) (i : Fin 4096) (d : Fin 128) : EReal :=
  ∑ j : Fin 4096, B2 m c (ix3 j h d) * Ideal.div (ex (B0 m c) (B1 m c) h i j) (ln (B0 m c) (B1 m c) h i)

variable (m c) in
/-- and the logarithm of its softmax's denominator. -/
def lseF (h : Fin 8) (i : Fin 4096) : EReal := mx (B0 m c) (B1 m c) h i + Ideal.log (ln (B0 m c) (B1 m c) h i)

theorem last (H : Real3 m c r0 r1 r2) (h : Fin 8) (q : Fin 4) (r : Fin 1024) :
    (∀ d, Ideal.div ((st m c (16 * h.val + 4 * q.val + 3 + 1)).a (ix2 r d)) ((st m c (16 * h.val + 4 * q.val + 3 + 1)).l (ix2 r 0)) = outF m c h (rowOf q r) d)
    ∧ (st m c (16 * h.val + 4 * q.val + 3 + 1)).m (ix2 r 0) + Ideal.log ((st m c (16 * h.val + 4 * q.val + 3 + 1)).l (ix2 r 0)) = lseF m c h (rowOf q r) := by
  have hs := seen_at H h q r 3 (by decide)
  rw [min_eq_right (by omega : q.val ≤ 3)] at hs
  obtain ⟨μ, e, R⟩ := row (B0 m c) (B1 m c) r0 r1 h (rowOf q r) H.q H.k
  have he : ∀ j, e j = w (scR r0 r1 h (rowOf q r)) (rowOf q r) μ j := fun j => by
    unfold w
    split
    case isTrue hj => exact R.seen j hj
    case isFalse hj => exact R.hidden j hj
  obtain ⟨ho, hl⟩ := seen_out hs (by omega) (by show 1024 * q.val + r.val < 1024 * (q.val + 1); omega) μ e he R.pos
  refine ⟨fun d => (ho d).trans ?_, hl.trans ?_⟩
  · unfold outF
    simp only [R.div, H.v]
  · unfold lseF
    rw [R.top, R.total]

variable (m c) in
def oAll (i : S4096x1024.Idx) : EReal := outF m c ⟨(i 1).val / 128, by have : (i 1).val < 1024 := (i 1).isLt; omega⟩ (i 0) ⟨(i 1).val % 128, by omega⟩
variable (m c) in
def lAll (i : S8x4096x1.Idx) : EReal := lseF m c (i 0) (i 1)

theorem arr_o (H : Real3 m c r0 r1 r2) : (dats m 0 c).arrAt 3 cfg0.N = oAll m c := by
  have hN : cfg0.N = 128 := N_0
  refine (dats m 0 c).arrAt_eq_of_cover 3 (oAll m c) (fun t hf => ?_) fun i => ?_
  · have h3 := (flush0_3 t).mp hf
    have ht := lt_N t
    obtain ⟨e0, e1⟩ := idx3 t
    show (cfg0.win 3).cut (grid0.coords t) ((dats m 0 c).after 3 t) = _
    rw [after0_3]
    funext j
    obtain ⟨r, d, rfl⟩ : ∃ (r : Fin 1024) (d : Fin 128), j = ix2 r d := ⟨_, _, eq_ix2 j⟩
    rw [View.read_apply]
    have e : ((((cfg0.win 3).blk t).view.emb (ix2 r d)) : S4096x1024.Idx) = ix2 (rowOf (qi t) r) ⟨128 * (hd t).val + d.val, by omega⟩ := funext fun a => Fin.ext (by
      match a with
      | ⟨0, _⟩ => show win0_3.index t 0 * 1024 + 1 * r.val = 1024 * (t.val / 4 % 4) + r.val; omega
      | ⟨1, _⟩ => show win0_3.index t 1 * 128 + 1 * d.val = 128 * (t.val / 16) + d.val; omega)
    refine Eq.trans ?_ (congrArg (oAll m c) e.symm)
    have et : 16 * (hd t).val + 4 * (qi t).val + 3 + 1 = t.val + 1 := by
      show 16 * (t.val / 16) + 4 * (t.val / 4 % 4) + 3 + 1 = t.val + 1
      omega
    have hl := (last H (hd t) (qi t) r).1 d
    rw [et, ← out_o] at hl
    refine hl.trans ?_
    show outF m c (hd t) (rowOf (qi t) r) d = outF m c ⟨(128 * (t.val / 16) + d.val) / 128, _⟩ (rowOf (qi t) r) ⟨(128 * (t.val / 16) + d.val) % 128, _⟩
    refine congrArg₂ (fun a b => outF m c a (rowOf (qi t) r) b) (Fin.ext ?_) (Fin.ext ?_)
    · show t.val / 16 = (128 * (t.val / 16) + d.val) / 128
      omega
    · show d.val = (128 * (t.val / 16) + d.val) % 128
      omega
  · have h0 : (i 0 : Nat) < 4096 := (i 0).isLt
    have h1 : (i 1 : Nat) < 1024 := (i 1).isLt
    have ht : 16 * ((i 1 : Nat) / 128) + 4 * ((i 0 : Nat) / 1024) + 3 < cfg0.N := by omega
    obtain ⟨e0, e1⟩ := idx3 ⟨_, ht⟩
    dsimp only at e0 e1
    refine ⟨⟨_, ht⟩, (flush0_3 _).mpr (by dsimp only; omega), ?_⟩
    show i ∈ ((View.whole main_v8_0).slice (win0_3.rect ⟨_, ht⟩)).set
    rw [View.set_slice_whole, Rect.mem_set_unit]
    intro a
    match a with
    | ⟨0, _⟩ => show win0_3.index ⟨_, ht⟩ 0 * 1024 ≤ (i 0 : Nat) ∧ (i 0 : Nat) < win0_3.index ⟨_, ht⟩ 0 * 1024 + 1024; omega
    | ⟨1, _⟩ => show win0_3.index ⟨_, ht⟩ 1 * 128 ≤ (i 1 : Nat) ∧ (i 1 : Nat) < win0_3.index ⟨_, ht⟩ 1 * 128 + 128; omega

theorem arr_l (H : Real3 m c r0 r1 r2) : (dats m 0 c).arrAt 4 cfg0.N = lAll m c := by
  have hN : cfg0.N = 128 := N_0
  refine (dats m 0 c).arrAt_eq_of_cover 4 (lAll m c) (fun t hf => ?_) fun i => ?_
  · have h3 := (flush0_4 t).mp hf
    have ht := lt_N t
    obtain ⟨e0, e1, e2⟩ := idx4 t
    show (cfg0.win 4).cut (grid0.coords t) ((dats m 0 c).after 4 t) = _
    rw [after0_4]
    funext j
    obtain ⟨z, r, y, rfl⟩ : ∃ (z : Fin 1) (r : Fin 1024) (y : Fin 1), j = ix3 z r y := ⟨_, _, _, eq_ix3 j⟩
    obtain rfl : z = 0 := Subsingleton.elim _ _
    obtain rfl : y = 0 := Subsingleton.elim _ _
    rw [View.read_apply]
    have e : ((((cfg0.win 4).blk t).view.emb (ix3 0 r 0)) : S8x4096x1.Idx) = ix3 (hd t) (rowOf (qi t) r) 0 := funext fun a => Fin.ext (by
      match a with
      | ⟨0, _⟩ => show win0_4.index t 0 * 1 + 1 * 0 = t.val / 16; omega
      | ⟨1, _⟩ => show win0_4.index t 1 * 1024 + 1 * r.val = 1024 * (t.val / 4 % 4) + r.val; omega
      | ⟨2, _⟩ => show win0_4.index t 2 * 1 + 1 * 0 = 0; omega)
    refine Eq.trans ?_ (congrArg (lAll m c) e.symm)
    have et : 16 * (hd t).val + 4 * (qi t).val + 3 + 1 = t.val + 1 := by
      show 16 * (t.val / 16) + 4 * (t.val / 4 % 4) + 3 + 1 = t.val + 1
      omega
    have hl := (last H (hd t) (qi t) r).2
    rw [et, ← out_l] at hl
    exact hl
  · have h0 : (i 0 : Nat) < 8 := (i 0).isLt
    have h1 : (i 1 : Nat) < 4096 := (i 1).isLt
    have h2 : (i 2 : Nat) < 1 := (i 2).isLt
    have ht : 16 * (i 0 : Nat) + 4 * ((i 1 : Nat) / 1024) + 3 < cfg0.N := by omega
    obtain ⟨e0, e1, e2⟩ := idx4 ⟨_, ht⟩
    dsimp only at e0 e1 e2
    refine ⟨⟨_, ht⟩, (flush0_4 _).mpr (by dsimp only; omega), ?_⟩
    show i ∈ ((View.whole main_v8_1).slice (win0_4.rect ⟨_, ht⟩)).set
    rw [View.set_slice_whole, Rect.mem_set_unit]
    intro a
    match a with
    | ⟨0, _⟩ => show win0_4.index ⟨_, ht⟩ 0 * 1 ≤ (i 0 : Nat) ∧ (i 0 : Nat) < win0_4.index ⟨_, ht⟩ 0 * 1 + 1; omega
    | ⟨1, _⟩ => show win0_4.index ⟨_, ht⟩ 1 * 1024 ≤ (i 1 : Nat) ∧ (i 1 : Nat) < win0_4.index ⟨_, ht⟩ 1 * 1024 + 1024; omega
    | ⟨2, _⟩ => show win0_4.index ⟨_, ht⟩ 2 * 1 ≤ (i 2 : Nat) ∧ (i 2 : Nat) < win0_4.index ⟨_, ht⟩ 2 * 1 + 1; omega

end Cert.AttnfIdeal.Step

end
-- ==== Proof.AttnfRef.lean ====
/-
  The two results of the reference's attention, each element from the softmax of its query's scores.
-/
module

public import proofs.«01_k».proof.Proof.AttnHost
public import proofs.«01_k».proof.Proof.Gen.AttnfRefIdeal.Read

@[expose] public section

set_option maxRecDepth 16384

noncomputable section

namespace Cert.AttnfRefIdeal.Values

open Cert.AttnfRefIdeal Cert.AttnfRefIdeal.Gen Cert.AttnfRefIdeal.Read
open Cert.AttnIdeal.Step (sc mx ex ln scale col le_word bot_word add_log_apply)
open Idealize.ShloMosaic

variable (x0 x1 : FVec Ideal S4096x8x192 .f32) (x2 : FVec Ideal S4096x8x128 .f32)

/-! The logarithm of the denominator. -/

theorem score (h : Fin 8) (i j : Fin 4096) : val_main_v11 (F := Ideal) x0 x1 (ix3 h i j) = sc x0 x1 h i j := by
  unfold sc scale
  rw [← bot_word]
  pointwise [val_main_v11, val_main_call0_v1, val_main_v10, val_main_v9, val_main_v8, val_main_v7, val_main_v6, val_main_v5, val_main_v4, val_main_v3,
    val_main_v2, val_main_v1, val_main_v0, val_main_cst, val_main_call0_v2, val_main_call0_v0, val_main_cst_0]
  unfold Scalar.select
  exact if_congr (le_word i j) rfl rfl

theorem top (h : Fin 8) (i : Fin 4096) (z : Fin 1) : val_main_v13 (F := Ideal) x0 x1 (ix3 h i z) = mx x0 x1 h i := by
  unfold mx
  simp only [← score]
  rw [← bot_word]
  pointwise [val_main_v13, val_main_v12, val_main_cst_1]

theorem weight (h : Fin 8) (i j : Fin 4096) : val_main_v16 (F := Ideal) x0 x1 (ix3 h i j) = ex x0 x1 h i j := by
  unfold ex
  rw [← score, ← top x0 x1 h i 0]
  pointwise [val_main_v16, val_main_v15, val_main_v14]

theorem total (h : Fin 8) (i : Fin 4096) (z : Fin 1) : val_main_v18 (F := Ideal) x0 x1 (ix3 h i z) = ln x0 x1 h i := by
  unfold ln
  simp only [← weight]
  pointwise [val_main_v18, val_main_v17, val_main_cst_2]

theorem lse_eq (h : Fin 8) (i : Fin 4096) (z : Fin 1) :
    val_main_v20 (F := Ideal) x0 x1 (ix3 h i z) = mx x0 x1 h i + Ideal.log (ln x0 x1 h i) := by
  rw [← top x0 x1 h i z, ← total x0 x1 h i z]
  exact add_log_apply _ _ _

/-! The output. -/

theorem score' (h : Fin 8) (i j : Fin 4096) : val_main_v32 (F := Ideal) x0 x1 (ix3 h i j) = sc x0 x1 h i j := by
  unfold sc scale
  rw [← bot_word]
  pointwise [val_main_v32, val_main_call1_v1, val_main_v31, val_main_v30, val_main_v29, val_main_v28, val_main_v27, val_main_v26, val_main_v25, val_main_v24,
    val_main_v23, val_main_v22, val_main_v21, val_main_cst_3, val_main_call1_v2, val_main_call1_v0, val_main_cst_4]
  unfold Scalar.select
  exact if_congr (le_word i j) rfl rfl

theorem top' (h : Fin 8) (i : Fin 4096) : val_main_v33 (F := Ideal) x0 x1 (ix2 h i) = mx x0 x1 h i := by
  unfold mx
  simp only [← score']
  rw [← bot_word]
  pointwise [val_main_v33, val_main_cst_5]

theorem max_bot (x : EReal) : max (Ideal.ofBits .f32 0xFF800000#32) x = x := by
  rw [bot_word]
  exact max_eq_right bot_le

theorem top_read (y : FVec Ideal S8x4096 .f32) (j : S8x4096.Idx) : maximumf (val_main_v34 (F := Ideal)) y j = y j :=
  max_bot (y j)

theorem top_again (h : Fin 8) (i : Fin 4096) : val_main_v35 (F := Ideal) x0 x1 (ix2 h i) = mx x0 x1 h i := by
  rw [← top']
  exact top_read _ _

theorem weight' (h : Fin 8) (i j : Fin 4096) : val_main_v39 (F := Ideal) x0 x1 (ix3 h i j) = ex x0 x1 h i j := by
  unfold ex
  rw [← score', ← top_again]
  pointwise [val_main_v39, val_main_v38, val_main_v37, val_main_v36]

theorem total' (h : Fin 8) (i : Fin 4096) (z : Fin 1) : val_main_v41 (F := Ideal) x0 x1 (ix3 h i z) = ln x0 x1 h i := by
  unfold ln
  simp only [← weight']
  pointwise [val_main_v41, val_main_v40, val_main_cst_7]

theorem out_eq (i : Fin 4096) (k : Fin 1024) : val_main_v46 (F := Ideal) x0 x1 x2 (ix2 i k)
    = ∑ j : Fin 4096, x2 (ix3 j ⟨k.val / 128, by omega⟩ ⟨k.val % 128, by omega⟩)
      * Ideal.div (ex x0 x1 ⟨k.val / 128, by omega⟩ i j) (ln x0 x1 ⟨k.val / 128, by omega⟩ i) := by
  simp only [← weight', ← total' x0 x1 _ i 0]
  pointwise [val_main_v46, val_main_v45, val_main_v44, val_main_v43, val_main_v42]

end Cert.AttnfRefIdeal.Values

end
-- ==== Proof.AttnfValue.lean ====
/- The value claim of the attention's forward call: kernel and reference leave the same output and logarithms. -/
module

public import proofs.«01_k».proof.Proof.AttnfVal
public import proofs.«01_k».proof.Proof.AttnfRef
public import proofs.«01_k».proof.Proof.AttnfClaim
public import proofs.«01_k».proof.Proof.Shapes

@[expose] public section

noncomputable section

namespace Cert.Attnf.Claim

open Idealize.ShloMosaic Idealize.ShloMosaic.TcCoe Idealize.SL.Sem
open Cert.AttnfIdeal.Step (B0 B1 B2 Real3 oAll lAll arr_o arr_l)

theorem real_args {m : (ℓ : Loc Cert.AttnfIdeal.nD Cert.AttnfIdeal.τ Cert.AttnfIdeal.sig) → Buf (Elt Ideal) ℓ}
    (h : Cert.Pre_AttnfIdeal_finite_attnf (hPre_finite_attnf := Cert.Pre_finite_attnf.Gen.facts) m) (c : Dev Cert.AttnfIdeal.nD) :
    ∃ r0 r1 r2, Real3 m c r0 r1 r2 := by
  obtain ⟨h0, h1, h2⟩ := h c
  obtain ⟨r0, e0⟩ := Cert.Shapes.real_of_finite (B0 m c) _ (fun _ => rfl) h0
  obtain ⟨r1, e1⟩ := Cert.Shapes.real_of_finite (B1 m c) _ (fun _ => rfl) h1
  obtain ⟨r2, e2⟩ := Cert.Shapes.real_of_finite (B2 m c) _ (fun _ => rfl) h2
  exact ⟨r0, r1, r2, e0, e1, e2⟩

theorem o_same (m : (ℓ : Loc Cert.AttnfIdeal.nD Cert.AttnfIdeal.τ Cert.AttnfIdeal.sig) → Buf (Elt Ideal) ℓ) (c : Dev Cert.AttnfIdeal.nD) :
    Cert.AttnfRefIdeal.Read.val_main_v46 (F := Ideal) (B0 m c) (B1 m c) (B2 m c) = oAll m c := by
  funext i
  obtain ⟨r, k, rfl⟩ : ∃ (r : Fin 4096) (k : Fin 1024), i = ix2 r k := ⟨_, _, eq_ix2 i⟩
  exact Cert.AttnfRefIdeal.Values.out_eq _ _ _ r k

theorem l_same (m : (ℓ : Loc Cert.AttnfIdeal.nD Cert.AttnfIdeal.τ Cert.AttnfIdeal.sig) → Buf (Elt Ideal) ℓ) (c : Dev Cert.AttnfIdeal.nD) :
    Cert.AttnfRefIdeal.Read.val_main_v20 (F := Ideal) (B0 m c) (B1 m c) = lAll m c := by
  funext i
  obtain ⟨h, r, z, rfl⟩ : ∃ (h : Fin 8) (r : Fin 4096) (z : Fin 1), i = ix3 h r z := ⟨_, _, _, eq_ix3 i⟩
  exact Cert.AttnfRefIdeal.Values.lse_eq _ _ h r z

theorem algebraic : Cert.algebraic_AttnfIdeal_AttnfRefIdeal_pre_finite_attnf (hAttnfIdeal := Cert.AttnfIdeal.Gen.facts)
    (hAttnfRefIdeal := Cert.AttnfRefIdeal.Gen.facts) (hPre_finite_attnf := Cert.Pre_finite_attnf.Gen.facts) := by
  intro m g m' g' hpre hargs
  refine ⟨fun c => oAll m c, fun c => lAll m c, ?_, ?_⟩
  · refine (θ_run _ _ _).mono (fun r h c => ?_) (θ_run_and (Cert.AttnfIdeal.Step.run_main m g) (Cert.AttnfIdeal.Step.frame_at m g))
    obtain ⟨r0, r1, r2, H⟩ := real_args hpre c
    exact ⟨((h.1 c).1 3).trans (arr_o H), ((h.1 c).1 4).trans (arr_l H), h.2.1 c⟩
  · refine (θ_run _ _ _).mono (fun r h c => ?_) (Cert.AttnfRefIdeal.Value.run (F := Ideal) m' g')
    obtain ⟨h0, h1, h2⟩ := h c
    obtain ⟨e0, e1, e2⟩ := hargs c
    refine ⟨h0.trans ?_, h1.trans ?_, h2⟩
    · rw [Cert.AttnfRefIdeal.Read.val_main_v46_eq, e0, e1, e2]; exact o_same m c
    · rw [Cert.AttnfRefIdeal.Read.val_main_v20_eq, e0, e1]; exact l_same m c

end Cert.Attnf.Claim

end
-- ==== Proof.Rmsf.lean ====
/- The RMS norm's forward call: what the kernel leaves in its result, what the reference computes, and that they agree. -/
module

public import proofs.«01_k».proof.Proof.Gen.RmsfIdeal.Value
public import proofs.«01_k».proof.Proof.Gen.RmsfRefIdeal.Read
public import proofs.«01_k».proof.Defs
public import proofs.«01_k».proof.Proof.Shapes
public import proofs.«01_k».proof.Proof.Rms
public import Idealize.ShloMosaic.Lib.Pointwise
public import Idealize.ShloMosaic.Lib.StableHlo.ReadAt

@[expose] public section

set_option maxRecDepth 16384

noncomputable section

namespace Cert.RmsfIdeal.Val

open Cert.RmsfIdeal Cert.RmsfIdeal.Gen Cert.Shapes
open Cert.RmsIdeal.Val (ms rs)
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-! ## What one point leaves -/

theorem out_2 (x0 : Vec Ideal S512x2048 .f32) (x1 : Vec Ideal S1x2048 .f32) : out0_2 x0 x1 = k0_pay1 x0 x1 := by
  unfold out0_2
  rw [View.canon_unit_zero hz2]
  simp only [View.ld_unit_zero (S := S512x2048) hz2, View.ld_unit_zero (S := S1x2048) hz2]

/-- A row of the norm. -/
def nrm (x g : Fin 2048 → EReal) (k : Fin 2048) : EReal := x k * rs x * g k

theorem pay1_apply (x : Vec Ideal S512x2048 .f32) (g : Vec Ideal S1x2048 .f32) (r : Fin 512) (k : Fin 2048) :
    k0_pay1 x g (ix2 r k) = nrm (fun k => x (ix2 r k)) (fun k => g (ix2 0 k)) k := by
  unfold nrm rs ms
  pointwise [k0_pay1]

/-! ## The blocks the windows read -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- Row `r` of point `t`'s block, in the whole array. -/
def row (t : Fin cfg0.N) (r : Fin 512) : Fin 4096 :=
  ⟨t.val * 512 + r.val, by have := lt_of_lt_of_eq t.isLt (show cfg0.N = 8 from N_0); omega⟩

abbrev X (c : Dev nD) : S4096x2048.Idx → EReal := m ((c : Thread nD τ).loc main_arg0)
def G (c : Dev nD) : S2048.Idx → EReal := m (c, Proc.devRef .tc main_arg1)
def Ga (c : Dev nD) : S1x2048.Idx → EReal := V m c main_v0

theorem Ga_apply (c : Dev nD) (z : Fin 1) (k : Fin 2048) : Ga m c (ix2 z k) = G m c (ix1 k) := by
  unfold Ga G V hostOps0
  after_reads_at

theorem iblk0 (c : Dev nD) (t : Fin cfg0.N) (r : Fin 512) (k : Fin 2048) : iblk m c 0 t (ix2 r k) = X m c (ix2 (row t r) k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = t.val * 512 + r.val; rw [(idx0 t).1]; omega
  | ⟨1, _⟩ => show win0_0.index t 1 * 2048 + 1 * k.val = k.val; rw [(idx0 t).2]; omega

theorem iblk1 (c : Dev nD) (t : Fin cfg0.N) (r : Fin 1) (k : Fin 2048) : iblk m c 1 t (ix2 r k) = Ga m c (ix2 r k) := by
  unfold iblk Ga
  rw [View.read_apply]
  show V m c main_v0 _ = _
  refine congrArg (V m c main_v0) (funext fun a => Fin.ext ?_)
  match a with
  | ⟨0, _⟩ => show win0_1.index t 0 * 1 + 1 * r.val = r.val; rw [(idx1 t).1]; omega
  | ⟨1, _⟩ => show win0_1.index t 1 * 2048 + 1 * k.val = k.val; rw [(idx1 t).2]; omega

/-! ## The result -/

/-- The norm of every row. -/
def norm (x : S4096x2048.Idx → EReal) (g : S2048.Idx → EReal) : S4096x2048.Idx → EReal := fun i => nrm (fun k => x (ix2 (i 0) k)) (fun k => g (ix1 k)) (i 1)

theorem out_x (c : Dev nD) : (dats m 0 c).arrAt 2 cfg0.N = norm (X m c) (G m c) := by
  have hN : cfg0.N = 8 := N_0
  refine (dats m 0 c).arrAt_eq_of_cover 2 (norm (X m c) (G m c)) (fun t _ => ?_) fun i => ?_
  · show (cfg0.win 2).cut (grid0.coords t) ((dats m 0 c).after 2 t) = _
    rw [after0_2, out_2]
    funext j
    obtain ⟨r, k, rfl⟩ : ∃ (r : Fin 512) (k : Fin 2048), j = ix2 r k := ⟨_, _, eq_ix2 j⟩
    rw [View.read_apply]
    have e : ((((cfg0.win 2).blk t).view.emb (ix2 r k)) : S4096x2048.Idx) = ix2 (row t r) k := funext fun a => Fin.ext (by
      match a with
      | ⟨0, _⟩ => show win0_2.index t 0 * 512 + 1 * r.val = t.val * 512 + r.val; rw [(idx2 t).1]; omega
      | ⟨1, _⟩ => show win0_2.index t 1 * 2048 + 1 * k.val = k.val; rw [(idx2 t).2]; omega)
    refine Eq.trans ?_ (congrArg (norm (X m c) (G m c)) e.symm)
    refine (pay1_apply (iblk m c 0 t) (iblk m c 1 t) r k).trans ?_
    simp only [iblk0, iblk1, Ga_apply]
    rfl
  · have h0 : (i 0 : Nat) < 4096 := (i 0).isLt
    have h1 : (i 1 : Nat) < 2048 := (i 1).isLt
    have ht : (i 0 : Nat) / 512 < cfg0.N := by omega
    refine ⟨⟨(i 0 : Nat) / 512, ht⟩, flush0_2 _, ?_⟩
    show i ∈ ((View.whole main_v1).slice (win0_2.rect ⟨(i 0 : Nat) / 512, ht⟩)).set
    rw [View.set_slice_whole, Rect.mem_set_unit]
    intro a
    match a with
    | ⟨0, _⟩ =>
      show win0_2.index ⟨(i 0 : Nat) / 512, ht⟩ 0 * 512 ≤ (i 0 : Nat) ∧ (i 0 : Nat) < win0_2.index ⟨(i 0 : Nat) / 512, ht⟩ 0 * 512 + 512
      rw [(idx2 _).1]; dsimp only; omega
    | ⟨1, _⟩ =>
      show win0_2.index ⟨(i 0 : Nat) / 512, ht⟩ 1 * 2048 ≤ (i 1 : Nat) ∧ (i 1 : Nat) < win0_2.index ⟨(i 0 : Nat) / 512, ht⟩ 1 * 2048 + 2048
      rw [(idx2 _).2]; omega

end Cert.RmsfIdeal.Val

/-! ## The reference -/

namespace Cert.RmsfRefIdeal.Val

open Cert.RmsfRefIdeal Cert.RmsfRefIdeal.Gen Cert.RmsfRefIdeal.Read Cert.Shapes
open Cert.RmsIdeal.Val (ms rs)
open Cert.RmsfIdeal.Val (nrm norm)
open Idealize.ShloMosaic

theorem ref_x (x : FVec Ideal S4096x2048 .f32) (g : FVec Ideal S2048 .f32) : val_main_v13 (F := Ideal) x g = norm x g := by
  funext j
  obtain ⟨i, k, rfl⟩ : ∃ (i : Fin 4096) (k : Fin 2048), j = ix2 i k := ⟨_, _, eq_ix2 j⟩
  show _ = nrm (fun k => x (ix2 i k)) (fun k => g (ix1 k)) k
  unfold nrm rs ms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

end Cert.RmsfRefIdeal.Val

/-! ## The claim -/

namespace Cert.Rmsf.Claim

open Idealize.ShloMosaic Idealize.ShloMosaic.TcCoe Idealize.SL.Sem
open Cert.RmsfIdeal.Val (X G norm)

theorem frame_ref : Cert.quiescent_RmsfRefIdeal (hRmsfRefIdeal := Cert.RmsfRefIdeal.Gen.facts) := fun m g _ =>
  (θ_run _ _ _).mono (fun r h => ⟨fun c => (h c).2, sem_eq_zero_of_no_sems (by decide) r.2⟩)
    (Cert.RmsfRefIdeal.Value.run (F := Ideal) m g)

theorem algebraic : Cert.algebraic_RmsfIdeal_RmsfRefIdeal (hRmsfIdeal := Cert.RmsfIdeal.Gen.facts) (hRmsfRefIdeal := Cert.RmsfRefIdeal.Gen.facts) := by
  intro m g m' g' _ hargs
  refine ⟨fun c => norm (X m c) (G m c), ?_, ?_⟩
  · refine (θ_run _ _ _).mono (fun r h c => ?_) (Cert.RmsfIdeal.Value.run_blocks (F := Ideal) m g)
    obtain ⟨h0, h1⟩ := h c
    exact ⟨h0.trans (Cert.RmsfIdeal.Val.out_x m c), h1⟩
  · refine (θ_run _ _ _).mono (fun r h c => ?_) (Cert.RmsfRefIdeal.Value.run (F := Ideal) m' g')
    obtain ⟨h0, h1⟩ := h c
    obtain ⟨e0, e1⟩ := hargs c
    refine ⟨h0.trans ?_, h1⟩
    rw [Cert.RmsfRefIdeal.Read.val_main_v13_eq, e0, e1]; exact Cert.RmsfRefIdeal.Val.ref_x _ _

end Cert.Rmsf.Claim

end
-- ==== Proof.Plef.lean ====
/- The forward call of the per-layer embedding's gate: what the kernel leaves in its result, what the reference computes, and that they agree. -/
module

public import proofs.«01_k».proof.Proof.Gen.PlefIdeal.Value
public import proofs.«01_k».proof.Proof.Gen.PlefRefIdeal.Read
public import proofs.«01_k».proof.Defs
public import proofs.«01_k».proof.Proof.Shapes
public import proofs.«01_k».proof.Proof.Rmsf
public import Idealize.ShloMosaic.Lib.Pointwise
public import Idealize.ShloMosaic.Lib.StableHlo.ReadAt

@[expose] public section

set_option maxRecDepth 16384

noncomputable section

namespace Cert.PlefIdeal.Val

open Cert.PlefIdeal Cert.PlefIdeal.Gen Cert.Shapes
open Cert.RmsIdeal.Val (ms rs)
open Cert.RmsfIdeal.Val (nrm)
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-! ## What one point leaves -/

theorem out_4 (x0 x1 x2 : Vec Ideal S512x2048 .f32) (x3 : Vec Ideal S1x2048 .f32) : out0_4 x0 x1 x2 x3 = k0_pay1 x0 x1 x2 x3 := by
  unfold out0_4
  rw [View.canon_unit_zero hz2]
  simp only [View.ld_unit_zero (S := S512x2048) hz2, View.ld_unit_zero (S := S1x2048) hz2]

/-- A row of the residual with the gated norm added. -/
def gated (h a x g : Fin 2048 → EReal) (k : Fin 2048) : EReal := h k + Ideal.logistic (a k) * nrm x g k

theorem pay1_apply (h a x : Vec Ideal S512x2048 .f32) (g : Vec Ideal S1x2048 .f32) (r : Fin 512) (k : Fin 2048) :
    k0_pay1 h a x g (ix2 r k) = gated (fun k => h (ix2 r k)) (fun k => a (ix2 r k)) (fun k => x (ix2 r k)) (fun k => g (ix2 0 k)) k := by
  unfold gated nrm rs ms
  pointwise [k0_pay1]

/-! ## The blocks the windows read -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Row `r` of point `t`'s block, in the whole array. -/
def row (t : Fin cfg0.N) (r : Fin 512) : Fin 4096 :=
  ⟨t.val * 512 + r.val, by have := lt_of_lt_of_eq t.isLt (show cfg0.N = 8 from N_0); omega⟩

abbrev H (c : Dev nD) : S4096x2048.Idx → EReal := m ((c : Thread nD τ).loc main_arg0)
abbrev A (c : Dev nD) : S4096x2048.Idx → EReal := m ((c : Thread nD τ).loc main_arg1)
abbrev X (c : Dev nD) : S4096x2048.Idx → EReal := m ((c : Thread nD τ).loc main_arg2)
def G (c : Dev nD) : S2048.Idx → EReal := m (c, Proc.devRef .tc main_arg3)
def Ga (c : Dev nD) : S1x2048.Idx → EReal := V m c main_v0

theorem Ga_apply (c : Dev nD) (z : Fin 1) (k : Fin 2048) : Ga m c (ix2 z k) = G m c (ix1 k) := by
  unfold Ga G V hostOps0
  after_reads_at

theorem iblk0 (c : Dev nD) (t : Fin cfg0.N) (r : Fin 512) (k : Fin 2048) : iblk m c 0 t (ix2 r k) = H m c (ix2 (row t r) k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = t.val * 512 + r.val; rw [(idx0 t).1]; omega
  | ⟨1, _⟩ => show win0_0.index t 1 * 2048 + 1 * k.val = k.val; rw [(idx0 t).2]; omega

theorem iblk1 (c : Dev nD) (t : Fin cfg0.N) (r : Fin 512) (k : Fin 2048) : iblk m c 1 t (ix2 r k) = A m c (ix2 (row t r) k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * r.val = t.val * 512 + r.val; rw [(idx1 t).1]; omega
  | ⟨1, _⟩ => show win0_1.index t 1 * 2048 + 1 * k.val = k.val; rw [(idx1 t).2]; omega

theorem iblk2 (c : Dev nD) (t : Fin cfg0.N) (r : Fin 512) (k : Fin 2048) : iblk m c 2 t (ix2 r k) = X m c (ix2 (row t r) k) := by
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 512 + 1 * r.val = t.val * 512 + r.val; rw [(idx2 t).1]; omega
  | ⟨1, _⟩ => show win0_2.index t 1 * 2048 + 1 * k.val = k.val; rw [(idx2 t).2]; omega

theorem iblk3 (c : Dev nD) (t : Fin cfg0.N) (r : Fin 1) (k : Fin 2048) : iblk m c 3 t (ix2 r k) = Ga m c (ix2 r k) := by
  unfold iblk Ga
  rw [View.read_apply]
  show V m c main_v0 _ = _
  refine congrArg (V m c main_v0) (funext fun a => Fin.ext ?_)
  match a with
  | ⟨0, _⟩ => show win0_3.index t 0 * 1 + 1 * r.val = r.val; rw [(idx3 t).1]; omega
  | ⟨1, _⟩ => show win0_3.index t 1 * 2048 + 1 * k.val = k.val; rw [(idx3 t).2]; omega

/-! ## The result -/

/-- Every row. -/
def res (h a x : S4096x2048.Idx → EReal) (g : S2048.Idx → EReal) : S4096x2048.Idx → EReal := fun i =>
  gated (fun k => h (ix2 (i 0) k)) (fun k => a (ix2 (i 0) k)) (fun k => x (ix2 (i 0) k)) (fun k => g (ix1 k)) (i 1)

theorem out_x (c : Dev nD) : (dats m 0 c).arrAt 4 cfg0.N = res (H m c) (A m c) (X m c) (G m c) := by
  have hN : cfg0.N = 8 := N_0
  refine (dats m 0 c).arrAt_eq_of_cover 4 (res (H m c) (A m c) (X m c) (G m c)) (fun t _ => ?_) fun i => ?_
  · show (cfg0.win 4).cut (grid0.coords t) ((dats m 0 c).after 4 t) = _
    rw [after0_4, out_4]
    funext j
    obtain ⟨r, k, rfl⟩ : ∃ (r : Fin 512) (k : Fin 2048), j = ix2 r k := ⟨_, _, eq_ix2 j⟩
    rw [View.read_apply]
    have e : ((((cfg0.win 4).blk t).view.emb (ix2 r k)) : S4096x2048.Idx) = ix2 (row t r) k := funext fun a => Fin.ext (by
      match a with
      | ⟨0, _⟩ => show win0_4.index t 0 * 512 + 1 * r.val = t.val * 512 + r.val; rw [(idx4 t).1]; omega
      | ⟨1, _⟩ => show win0_4.index t 1 * 2048 + 1 * k.val = k.val; rw [(idx4 t).2]; omega)
    refine Eq.trans ?_ (congrArg (res (H m c) (A m c) (X m c) (G m c)) e.symm)
    refine (pay1_apply (iblk m c 0 t) (iblk m c 1 t) (iblk m c 2 t) (iblk m c 3 t) r k).trans ?_
    simp only [iblk0, iblk1, iblk2, iblk3, Ga_apply]
    rfl
  · have h0 : (i 0 : Nat) < 4096 := (i 0).isLt
    have h1 : (i 1 : Nat) < 2048 := (i 1).isLt
    have ht : (i 0 : Nat) / 512 < cfg0.N := by omega
    refine ⟨⟨(i 0 : Nat) / 512, ht⟩, flush0_4 _, ?_⟩
    show i ∈ ((View.whole main_v1).slice (win0_4.rect ⟨(i 0 : Nat) / 512, ht⟩)).set
    rw [View.set_slice_whole, Rect.mem_set_unit]
    intro a
    match a with
    | ⟨0, _⟩ =>
      show win0_4.index ⟨(i 0 : Nat) / 512, ht⟩ 0 * 512 ≤ (i 0 : Nat) ∧ (i 0 : Nat) < win0_4.index ⟨(i 0 : Nat) / 512, ht⟩ 0 * 512 + 512
      rw [(idx4 _).1]; dsimp only; omega
    | ⟨1, _⟩ =>
      show win0_4.index ⟨(i 0 : Nat) / 512, ht⟩ 1 * 2048 ≤ (i 1 : Nat) ∧ (i 1 : Nat) < win0_4.index ⟨(i 0 : Nat) / 512, ht⟩ 1 * 2048 + 2048
      rw [(idx4 _).2]; omega

end Cert.PlefIdeal.Val

/-! ## The reference -/

namespace Cert.PlefRefIdeal.Val

open Cert.PlefRefIdeal Cert.PlefRefIdeal.Gen Cert.PlefRefIdeal.Read Cert.Shapes
open Cert.RmsIdeal.Val (ms rs)
open Cert.RmsfIdeal.Val (nrm)
open Cert.PlefIdeal.Val (gated res)
open Idealize.ShloMosaic

variable (h a x : FVec Ideal S4096x2048 .f32) (g : FVec Ideal S2048 .f32)

theorem ref_sig (i : Fin 4096) (k : Fin 2048) : val_main_v5 (F := Ideal) a (ix2 i k) = Ideal.logistic (a (ix2 i k)) := by
  pointwise [val_main_v5, val_main_v4, val_main_cst_0, val_main_v3, val_main_v2, val_main_cst, val_main_v1, val_main_v0]
  rfl

theorem ref_x : val_main_v20 (F := Ideal) h a x g = res h a x g := by
  funext j
  obtain ⟨i, k, rfl⟩ : ∃ (i : Fin 4096) (k : Fin 2048), j = ix2 i k := ⟨_, _, eq_ix2 j⟩
  show _ = gated (fun k => h (ix2 i k)) (fun k => a (ix2 i k)) (fun k => x (ix2 i k)) (fun k => g (ix1 k)) k
  unfold gated nrm rs ms
  rw [← ref_sig a i k]
  pointwise [val_main_v20, val_main_v19, val_main_v18, val_main_v17, val_main_v16, val_main_v15, val_main_v14, val_main_v13, val_main_v12, val_main_v11, val_main_v10, val_main_v9, val_main_v8, val_main_v7, val_main_v6, val_main_cst_1, val_main_cst_2, val_main_cst_3]

end Cert.PlefRefIdeal.Val

/-! ## The claim -/

namespace Cert.Plef.Claim

open Idealize.ShloMosaic Idealize.ShloMosaic.TcCoe Idealize.SL.Sem
open Cert.PlefIdeal.Val (H A X G res)

theorem frame_ref : Cert.quiescent_PlefRefIdeal (hPlefRefIdeal := Cert.PlefRefIdeal.Gen.facts) := fun m g _ =>
  (θ_run _ _ _).mono (fun r h => ⟨fun c => (h c).2, sem_eq_zero_of_no_sems (by decide) r.2⟩)
    (Cert.PlefRefIdeal.Value.run (F := Ideal) m g)

theorem algebraic : Cert.algebraic_PlefIdeal_PlefRefIdeal (hPlefIdeal := Cert.PlefIdeal.Gen.facts) (hPlefRefIdeal := Cert.PlefRefIdeal.Gen.facts) := by
  intro m g m' g' _ hargs
  refine ⟨fun c => res (H m c) (A m c) (X m c) (G m c), ?_, ?_⟩
  · refine (θ_run _ _ _).mono (fun r h c => ?_) (Cert.PlefIdeal.Value.run_blocks (F := Ideal) m g)
    obtain ⟨h0, h1⟩ := h c
    exact ⟨h0.trans (Cert.PlefIdeal.Val.out_x m c), h1⟩
  · refine (θ_run _ _ _).mono (fun r h c => ?_) (Cert.PlefRefIdeal.Value.run (F := Ideal) m' g')
    obtain ⟨h0, h1⟩ := h c
    obtain ⟨e0, e1, e2, e3⟩ := hargs c
    refine ⟨h0.trans ?_, h1⟩
    rw [Cert.PlefRefIdeal.Read.val_main_v20_eq, e0, e1, e2, e3]; exact Cert.PlefRefIdeal.Val.ref_x _ _ _ _

end Cert.Plef.Claim

end
-- ==== Proof.MixfVal.lean ====
/- The forward call of the mixing: what one grid point leaves. -/
module

public import proofs.«01_k».proof.Proof.Gen.MixfIdeal.Frame
public import proofs.«01_k».proof.Proof.MixSpec
public import proofs.«01_k».proof.Proof.Shapes
public import Idealize.ShloMosaic.Lib.Pointwise

@[expose] public section

set_option maxRecDepth 16384

noncomputable section

namespace Cert.MixfIdeal.Val

open Cert.MixfIdeal Cert.MixfIdeal.Gen Cert.Shapes
open Cert.MixIdeal.Val (Chk Par Args ms rs gl th nv gate go wt grp lane lo2 hi2 piece le_word par chk cr cg ct ln cg_cr ct_cr cr_of lane_of)
open Idealize.ShloMosaic Idealize.ShloMosaic.Tactic

/-- The blocks one grid point reads: four chunks of 128 rows, the gains, the matrices, the biases. -/
structure Blk where
  x0 : Vec Ideal S512x1024 .f32
  x1 : Vec Ideal S512x1024 .f32
  x2 : Vec Ideal S512x1024 .f32
  x3 : Vec Ideal S1x1024 .f32
  x4 : Vec Ideal S1x1024 .f32
  x5 : Vec Ideal S1x1024 .f32
  x6 : Vec Ideal S8x128x128 .f32
  x7 : Vec Ideal S128x8 .f32

/-- Row `t` of chunk `d` in the block. -/
def rw4 (d : Fin 4) (t : Fin 128) : Fin 512 := ⟨d.val * 128 + t.val, by omega⟩

theorem rw4_0 (t : Fin 128) : rw4 0 t = ⟨t.val, by omega⟩ := Fin.ext (by simp [rw4])
theorem rw4_1 (t : Fin 128) : rw4 1 t = ⟨128 + t.val, by omega⟩ := Fin.ext (by simp [rw4])
theorem rw4_2 (t : Fin 128) : rw4 2 t = ⟨256 + t.val, by omega⟩ := Fin.ext (by simp [rw4])
theorem rw4_3 (t : Fin 128) : rw4 3 t = ⟨384 + t.val, by omega⟩ := Fin.ext (by simp [rw4])

/-! ## The parts of the body -/

/-- The biases, the activated first half, the masked matrices, the normalised second half, -/
def bia (b : Blk) : FVec Ideal S128x8 .f32 := k0_pay5 b.x7
def act (b : Blk) : FVec Ideal S512x1024 .f32 := k0_pay6 b.x1
def mat (b : Blk) : FVec Ideal S8x128x128 .bf16 := k0_pay8 b.x6
def nrv (b : Blk) : FVec Ideal S512x1024 .bf16 := k0_pay9 (k0_pay1 b.x2) (k0_pay4 b.x5) (k0_pay7 b.x2) (Scalar.ofBits .f32 0x3F800000#32 : Ideal .f32)
/-- and the mixed rows of the first three chunks. -/
def mix0 (b : Blk) : FVec Ideal S128x1024 .f32 :=
  k0_pay14 (bia b) (mat b) (nrv b) (k0_pay10 (k0_pay1 b.x2) (k0_pay4 b.x5) b.x6 (bia b) (k0_pay7 b.x2) (Scalar.ofBits .f32 0x3F800000#32 : Ideal .f32)) (k0_pay11 (k0_pay1 b.x2) (k0_pay4 b.x5) b.x6 (bia b) (k0_pay7 b.x2) (Scalar.ofBits .f32 0x3F800000#32 : Ideal .f32)) (k0_pay12 (k0_pay1 b.x2) (k0_pay4 b.x5) b.x6 (bia b) (k0_pay7 b.x2) (Scalar.ofBits .f32 0x3F800000#32 : Ideal .f32)) (k0_pay13 (k0_pay1 b.x2) (k0_pay4 b.x5) (k0_pay7 b.x2) (Scalar.ofBits .f32 0x3F800000#32 : Ideal .f32))
def mix1 (b : Blk) : FVec Ideal S128x1024 .f32 :=
  k0_pay18 (bia b) (mat b) (nrv b) (k0_pay15 (bia b) (mat b) (nrv b)) (k0_pay16 (mat b) (nrv b)) (k0_pay17 (bia b))
def mix2 (b : Blk) : FVec Ideal S128x1024 .f32 :=
  k0_pay29 (bia b) (mat b) (nrv b) (k0_pay21 (bia b) (k0_pay19 (nrv b)) (k0_pay20 (mat b))) (k0_pay22 (bia b) (mat b) (nrv b)) (k0_pay23 (bia b) (mat b) (nrv b)) (k0_pay24 (bia b) (mat b) (nrv b)) (k0_pay25 (bia b) (mat b) (nrv b)) (k0_pay26 (bia b) (mat b) (nrv b)) (k0_pay27 (mat b) (nrv b)) (k0_pay28 (bia b))
/-- What the body stores. -/
def fin (b : Blk) : FVec Ideal S512x2048 .bf16 :=
  k0_pay37 b.x0 (k0_pay2 b.x3) (k0_pay3 b.x4) (bia b) (act b) (mat b) (nrv b) (mix0 b) (mix1 b) (mix2 b) (k0_pay30 (bia b) (mat b) (nrv b)) (k0_pay31 (bia b) (mat b) (nrv b)) (k0_pay32 (bia b) (mat b) (nrv b)) (k0_pay33 (bia b) (mat b) (nrv b)) (k0_pay34 (bia b) (mat b) (nrv b)) (k0_pay35 (nrv b)) (k0_pay36 (mat b)) (constant S128x128 .f32 0x00000000#32)

theorem out_8 (x0 x1 x2 : Vec Ideal S512x1024 .f32) (x3 x4 x5 : Vec Ideal S1x1024 .f32) (x6 : Vec Ideal S8x128x128 .f32) (x7 : Vec Ideal S128x8 .f32) : out0_8 x0 x1 x2 x3 x4 x5 x6 x7 = fin ⟨x0, x1, x2, x3, x4, x5, x6, x7⟩ := by
  unfold_out out0_8
  rw [View.canon_unit_zero hz2]
  simp only [View.ld_unit_zero (S := S512x1024) hz2, View.ld_unit_zero (S := S1x1024) hz2, View.ld_unit_zero (S := S128x8) hz2, View.ld_unit_zero (S := S8x128x128) hz3]
  rfl

variable (b : Blk)

/-! ## What is mixed -/

theorem act_apply (r : Fin 512) (k : Fin 1024) : act b (ix2 r k) = gl (b.x1 (ix2 r k)) := by
  unfold gl th
  pointwise [act, k0_pay6]

theorem nrv_apply (r : Fin 512) (k : Fin 1024) : nrv b (ix2 r k) = gl (b.x2 (ix2 r k)) * rs (fun k => gl (b.x2 (ix2 r k))) * b.x5 (ix2 0 k) := by
  unfold rs ms gl th
  pointwise [nrv, k0_pay9, k0_pay1, k0_pay4, k0_pay7]

theorem mat_apply (g : Fin 8) (t s : Fin 128) : mat b (ix3 g t s) = wt (fun g t s => b.x6 (ix3 g t s)) g t s := by
  unfold wt
  pointwise [mat, k0_pay8]
  unfold Scalar.select
  exact if_congr (le_word t s) rfl rfl

/-! ## The mixing -/

theorem mix0_apply (t : Fin 128) (k : Fin 1024) :
    mix0 b (ix2 t k) = (∑ s : Fin 128, mat b (ix3 (grp k) t s) * nrv b (ix2 ⟨s.val, by omega⟩ k)) + b.x7 (ix2 t (grp k)) := by
  unfold mix0 bia nrv mat k0_pay10 k0_pay11 k0_pay12 k0_pay13
  generalize k0_pay8 b.x6 = w
  generalize k0_pay9 (k0_pay1 b.x2) (k0_pay4 b.x5) (k0_pay7 b.x2) (Scalar.ofBits .f32 0x3F800000#32 : Ideal .f32) = y
  obtain ⟨_, _, _, _, _, _, _, v⟩ := b
  dsimp only
  pointwise [k0_pay14, k0_pay5]
  have hk := k.isLt
  by_cases h0 : k.val < 128
  · rw [dif_pos h0]
    exact piece (fun g q => (∑ s : Fin 128, w (ix3 g t s) * y (ix2 ⟨s.val, by omega⟩ q)) + v (ix2 t g)) (by show (0 : ℕ) = _; omega) (rfl)
  rw [dif_neg h0]
  by_cases h1 : k.val - 128 < 128
  · rw [dif_pos h1]
    exact piece (fun g q => (∑ s : Fin 128, w (ix3 g t s) * y (ix2 ⟨s.val, by omega⟩ q)) + v (ix2 t g)) (by show (1 : ℕ) = _; omega) (by dsimp only; omega)
  rw [dif_neg h1]
  by_cases h2 : k.val - 128 - 128 < 128
  · rw [dif_pos h2]
    exact piece (fun g q => (∑ s : Fin 128, w (ix3 g t s) * y (ix2 ⟨s.val, by omega⟩ q)) + v (ix2 t g)) (by show (2 : ℕ) = _; omega) (by dsimp only; omega)
  rw [dif_neg h2]
  by_cases h3 : k.val - 128 - 128 - 128 < 128
  · rw [dif_pos h3]
    exact piece (fun g q => (∑ s : Fin 128, w (ix3 g t s) * y (ix2 ⟨s.val, by omega⟩ q)) + v (ix2 t g)) (by show (3 : ℕ) = _; omega) (by dsimp only; omega)
  rw [dif_neg h3]
  by_cases h4 : k.val - 128 - 128 - 128 - 128 < 128
  · rw [dif_pos h4]
    exact piece (fun g q => (∑ s : Fin 128, w (ix3 g t s) * y (ix2 ⟨s.val, by omega⟩ q)) + v (ix2 t g)) (by show (4 : ℕ) = _; omega) (by dsimp only; omega)
  rw [dif_neg h4]
  by_cases h5 : k.val - 128 - 128 - 128 - 128 - 128 < 128
  · rw [dif_pos h5]
    exact piece (fun g q => (∑ s : Fin 128, w (ix3 g t s) * y (ix2 ⟨s.val, by omega⟩ q)) + v (ix2 t g)) (by show (5 : ℕ) = _; omega) (by dsimp only; omega)
  rw [dif_neg h5]
  by_cases h6 : k.val - 128 - 128 - 128 - 128 - 128 - 128 < 128
  · rw [dif_pos h6]
    exact piece (fun g q => (∑ s : Fin 128, w (ix3 g t s) * y (ix2 ⟨s.val, by omega⟩ q)) + v (ix2 t g)) (by show (6 : ℕ) = _; omega) (by dsimp only; omega)
  rw [dif_neg h6]
  exact piece (fun g q => (∑ s : Fin 128, w (ix3 g t s) * y (ix2 ⟨s.val, by omega⟩ q)) + v (ix2 t g)) (by show (7 : ℕ) = _; omega) (by dsimp only; omega)

theorem mix1_apply (t : Fin 128) (k : Fin 1024) :
    mix1 b (ix2 t k) = (∑ s : Fin 128, mat b (ix3 (grp k) t s) * nrv b (ix2 ⟨128 + s.val, by omega⟩ k)) + b.x7 (ix2 t (grp k)) := by
  unfold mix1 bia
  generalize mat b = w
  generalize nrv b = y
  obtain ⟨_, _, _, _, _, _, _, v⟩ := b
  dsimp only
  pointwise [k0_pay18, k0_pay15, k0_pay16, k0_pay17, k0_pay5]
  have hk := k.isLt
  by_cases h0 : k.val < 128
  · rw [dif_pos h0]
    exact piece (fun g q => (∑ s : Fin 128, w (ix3 g t s) * y (ix2 ⟨128 + s.val, by omega⟩ q)) + v (ix2 t g)) (by show (0 : ℕ) = _; omega) (rfl)
  rw [dif_neg h0]
  by_cases h1 : k.val - 128 < 128
  · rw [dif_pos h1]
    exact piece (fun g q => (∑ s : Fin 128, w (ix3 g t s) * y (ix2 ⟨128 + s.val, by omega⟩ q)) + v (ix2 t g)) (by show (1 : ℕ) = _; omega) (by dsimp only; omega)
  rw [dif_neg h1]
  by_cases h2 : k.val - 128 - 128 < 128
  · rw [dif_pos h2]
    exact piece (fun g q => (∑ s : Fin 128, w (ix3 g t s) * y (ix2 ⟨128 + s.val, by omega⟩ q)) + v (ix2 t g)) (by show (2 : ℕ) = _; omega) (by dsimp only; omega)
  rw [dif_neg h2]
  by_cases h3 : k.val - 128 - 128 - 128 < 128
  · rw [dif_pos h3]
    exact piece (fun g q => (∑ s : Fin 128, w (ix3 g t s) * y (ix2 ⟨128 + s.val, by omega⟩ q)) + v (ix2 t g)) (by show (3 : ℕ) = _; omega) (by dsimp only; omega)
  rw [dif_neg h3]
  by_cases h4 : k.val - 128 - 128 - 128 - 128 < 128
  · rw [dif_pos h4]
    exact piece (fun g q => (∑ s : Fin 128, w (ix3 g t s) * y (ix2 ⟨128 + s.val, by omega⟩ q)) + v (ix2 t g)) (by show (4 : ℕ) = _; omega) (by dsimp only; omega)
  rw [dif_neg h4]
  by_cases h5 : k.val - 128 - 128 - 128 - 128 - 128 < 128
  · rw [dif_pos h5]
    exact piece (fun g q => (∑ s : Fin 128, w (ix3 g t s) * y (ix2 ⟨128 + s.val, by omega⟩ q)) + v (ix2 t g)) (by show (5 : ℕ) = _; omega) (by dsimp only; omega)
  rw [dif_neg h5]
  by_cases h6 : k.val - 128 - 128 - 128 - 128 - 128 - 128 < 128
  · rw [dif_pos h6]
    exact piece (fun g q => (∑ s : Fin 128, w (ix3 g t s) * y (ix2 ⟨128 + s.val, by omega⟩ q)) + v (ix2 t g)) (by show (6 : ℕ) = _; omega) (by dsimp only; omega)
  rw [dif_neg h6]
  exact piece (fun g q => (∑ s : Fin 128, w (ix3 g t s) * y (ix2 ⟨128 + s.val, by omega⟩ q)) + v (ix2 t g)) (by show (7 : ℕ) = _; omega) (by dsimp only; omega)

theorem mix2_apply (t : Fin 128) (k : Fin 1024) :
    mix2 b (ix2 t k) = (∑ s : Fin 128, mat b (ix3 (grp k) t s) * nrv b (ix2 ⟨256 + s.val, by omega⟩ k)) + b.x7 (ix2 t (grp k)) := by
  unfold mix2 bia
  generalize mat b = w
  generalize nrv b = y
  obtain ⟨_, _, _, _, _, _, _, v⟩ := b
  dsimp only
  pointwise [k0_pay29, k0_pay21, k0_pay19, k0_pay20, k0_pay22, k0_pay23, k0_pay24, k0_pay25, k0_pay26, k0_pay27, k0_pay28, k0_pay5]
  have hk := k.isLt
  by_cases h0 : k.val < 128
  · rw [dif_pos h0]
    exact piece (fun g q => (∑ s : Fin 128, w (ix3 g t s) * y (ix2 ⟨256 + s.val, by omega⟩ q)) + v (ix2 t g)) (by show (0 : ℕ) = _; omega) (rfl)
  rw [dif_neg h0]
  by_cases h1 : k.val - 128 < 128
  · rw [dif_pos h1]
    exact piece (fun g q => (∑ s : Fin 128, w (ix3 g t s) * y (ix2 ⟨256 + s.val, by omega⟩ q)) + v (ix2 t g)) (by show (1 : ℕ) = _; omega) (by dsimp only; omega)
  rw [dif_neg h1]
  by_cases h2 : k.val - 128 - 128 < 128
  · rw [dif_pos h2]
    exact piece (fun g q => (∑ s : Fin 128, w (ix3 g t s) * y (ix2 ⟨256 + s.val, by omega⟩ q)) + v (ix2 t g)) (by show (2 : ℕ) = _; omega) (by dsimp only; omega)
  rw [dif_neg h2]
  by_cases h3 : k.val - 128 - 128 - 128 < 128
  · rw [dif_pos h3]
    exact piece (fun g q => (∑ s : Fin 128, w (ix3 g t s) * y (ix2 ⟨256 + s.val, by omega⟩ q)) + v (ix2 t g)) (by show (3 : ℕ) = _; omega) (by dsimp only; omega)
  rw [dif_neg h3]
  by_cases h4 : k.val - 128 - 128 - 128 - 128 < 128
  · rw [dif_pos h4]
    exact piece (fun g q => (∑ s : Fin 128, w (ix3 g t s) * y (ix2 ⟨256 + s.val, by omega⟩ q)) + v (ix2 t g)) (by show (4 : ℕ) = _; omega) (by dsimp only; omega)
  rw [dif_neg h4]
  by_cases h5 : k.val - 128 - 128 - 128 - 128 - 128 < 128
  · rw [dif_pos h5]
    exact piece (fun g q => (∑ s : Fin 128, w (ix3 g t s) * y (ix2 ⟨256 + s.val, by omega⟩ q)) + v (ix2 t g)) (by show (5 : ℕ) = _; omega) (by dsimp only; omega)
  rw [dif_neg h5]
  by_cases h6 : k.val - 128 - 128 - 128 - 128 - 128 - 128 < 128
  · rw [dif_pos h6]
    exact piece (fun g q => (∑ s : Fin 128, w (ix3 g t s) * y (ix2 ⟨256 + s.val, by omega⟩ q)) + v (ix2 t g)) (by show (6 : ℕ) = _; omega) (by dsimp only; omega)
  rw [dif_neg h6]
  exact piece (fun g q => (∑ s : Fin 128, w (ix3 g t s) * y (ix2 ⟨256 + s.val, by omega⟩ q)) + v (ix2 t g)) (by show (7 : ℕ) = _; omega) (by dsimp only; omega)

theorem cat_0 (a0 a1 a2 a3 : FVec Ideal S128x1024 .f32) (h) (t : Fin 128) (k : Fin 1024) :
    concatenate S512x1024 0 [⟨S128x1024, a0⟩, ⟨S128x1024, a1⟩, ⟨S128x1024, a2⟩, ⟨S128x1024, a3⟩] h (ix2 (rw4 0 t) k) = a0 (ix2 t k) := by
  rw [rw4_0]
  pointwise []

theorem cat_1 (a0 a1 a2 a3 : FVec Ideal S128x1024 .f32) (h) (t : Fin 128) (k : Fin 1024) :
    concatenate S512x1024 0 [⟨S128x1024, a0⟩, ⟨S128x1024, a1⟩, ⟨S128x1024, a2⟩, ⟨S128x1024, a3⟩] h (ix2 (rw4 1 t) k) = a1 (ix2 t k) := by
  rw [rw4_1]
  pointwise []

theorem cat_2 (a0 a1 a2 a3 : FVec Ideal S128x1024 .f32) (h) (t : Fin 128) (k : Fin 1024) :
    concatenate S512x1024 0 [⟨S128x1024, a0⟩, ⟨S128x1024, a1⟩, ⟨S128x1024, a2⟩, ⟨S128x1024, a3⟩] h (ix2 (rw4 2 t) k) = a2 (ix2 t k) := by
  rw [rw4_2]
  pointwise []
  rw [dif_neg (by omega), dif_neg (by omega), dif_pos (by omega)]
  exact congrArg (fun r => a2 (ix2 r k)) (Fin.ext (by dsimp only; omega))

theorem cat_3 (a0 a1 a2 a3 : FVec Ideal S128x1024 .f32) (h) (t : Fin 128) (k : Fin 1024) :
    concatenate S512x1024 0 [⟨S128x1024, a0⟩, ⟨S128x1024, a1⟩, ⟨S128x1024, a2⟩, ⟨S128x1024, a3⟩] h (ix2 (rw4 3 t) k) = a3 (ix2 t k) := by
  rw [rw4_3]
  pointwise []
  rw [dif_neg (by omega), dif_neg (by omega), dif_neg (by omega)]
  exact congrArg (fun r => a3 (ix2 r k)) (Fin.ext (by dsimp only; omega))

/-- The mixed rows, and what the body stores of them. -/
theorem fin_split : ∃ u : FVec Ideal S512x1024 .f32,
    (∀ (t : Fin 128) (k : Fin 1024), u (ix2 (rw4 0 t) k) = mix0 b (ix2 t k))
    ∧ (∀ (t : Fin 128) (k : Fin 1024), u (ix2 (rw4 1 t) k) = mix1 b (ix2 t k))
    ∧ (∀ (t : Fin 128) (k : Fin 1024), u (ix2 (rw4 2 t) k) = mix2 b (ix2 t k))
    ∧ (∀ (t : Fin 128) (k : Fin 1024), u (ix2 (rw4 3 t) k) = (∑ s : Fin 128, mat b (ix3 (grp k) t s) * nrv b (ix2 ⟨384 + s.val, by omega⟩ k)) + b.x7 (ix2 t (grp k)))
    ∧ ∀ (r : Fin 512) (k : Fin 1024), fin b (ix2 r (hi2 k)) = act b (ix2 r k) * u (ix2 r k) * rs (fun k => act b (ix2 r k) * u (ix2 r k)) * b.x4 (ix2 0 k) := by
  unfold fin k0_pay37
  dsimp only
  generalize hu : concatenate S512x1024 0 _ _ = u
  refine ⟨u, ?_, ?_, ?_, ?_, ?_⟩
  · intro t k
    rw [← hu]
    exact cat_0 _ _ _ _ _ t k
  · intro t k
    rw [← hu]
    exact cat_1 _ _ _ _ _ t k
  · intro t k
    rw [← hu]
    exact cat_2 _ _ _ _ _ t k
  · intro t k
    rw [← hu]
    refine (cat_3 _ _ _ _ _ t k).trans ?_
    clear hu
    unfold bia
    generalize mat b = w
    generalize nrv b = y
    obtain ⟨_, _, _, _, _, _, _, v⟩ := b
    dsimp only
    pointwise [k0_pay30, k0_pay31, k0_pay32, k0_pay33, k0_pay34, k0_pay35, k0_pay36, k0_pay5]
    have hk := k.isLt
    by_cases h0 : k.val < 128
    · rw [dif_pos h0]
      exact piece (fun g q => (∑ s : Fin 128, w (ix3 g t s) * y (ix2 ⟨384 + s.val, by omega⟩ q)) + v (ix2 t g)) (by show (0 : ℕ) = _; omega) (rfl)
    rw [dif_neg h0]
    by_cases h1 : k.val - 128 < 128
    · rw [dif_pos h1]
      exact piece (fun g q => (∑ s : Fin 128, w (ix3 g t s) * y (ix2 ⟨384 + s.val, by omega⟩ q)) + v (ix2 t g)) (by show (1 : ℕ) = _; omega) (by dsimp only; omega)
    rw [dif_neg h1]
    by_cases h2 : k.val - 128 - 128 < 128
    · rw [dif_pos h2]
      exact piece (fun g q => (∑ s : Fin 128, w (ix3 g t s) * y (ix2 ⟨384 + s.val, by omega⟩ q)) + v (ix2 t g)) (by show (2 : ℕ) = _; omega) (by dsimp only; omega)
    rw [dif_neg h2]
    by_cases h3 : k.val - 128 - 128 - 128 < 128
    · rw [dif_pos h3]
      exact piece (fun g q => (∑ s : Fin 128, w (ix3 g t s) * y (ix2 ⟨384 + s.val, by omega⟩ q)) + v (ix2 t g)) (by show (3 : ℕ) = _; omega) (by dsimp only; omega)
    rw [dif_neg h3]
    by_cases h4 : k.val - 128 - 128 - 128 - 128 < 128
    · rw [dif_pos h4]
      exact piece (fun g q => (∑ s : Fin 128, w (ix3 g t s) * y (ix2 ⟨384 + s.val, by omega⟩ q)) + v (ix2 t g)) (by show (4 : ℕ) = _; omega) (by dsimp only; omega)
    rw [dif_neg h4]
    by_cases h5 : k.val - 128 - 128 - 128 - 128 - 128 < 128
    · rw [dif_pos h5]
      exact piece (fun g q => (∑ s : Fin 128, w (ix3 g t s) * y (ix2 ⟨384 + s.val, by omega⟩ q)) + v (ix2 t g)) (by show (5 : ℕ) = _; omega) (by dsimp only; omega)
    rw [dif_neg h5]
    by_cases h6 : k.val - 128 - 128 - 128 - 128 - 128 - 128 < 128
    · rw [dif_pos h6]
      exact piece (fun g q => (∑ s : Fin 128, w (ix3 g t s) * y (ix2 ⟨384 + s.val, by omega⟩ q)) + v (ix2 t g)) (by show (6 : ℕ) = _; omega) (by dsimp only; omega)
    rw [dif_neg h6]
    exact piece (fun g q => (∑ s : Fin 128, w (ix3 g t s) * y (ix2 ⟨384 + s.val, by omega⟩ q)) + v (ix2 t g)) (by show (7 : ℕ) = _; omega) (by dsimp only; omega)
  · intro r k
    clear hu
    generalize act b = v
    unfold rs ms hi2
    pointwise [k0_pay3]

theorem fin_lo (r : Fin 512) (k : Fin 1024) : fin b (ix2 r (lo2 k)) = b.x0 (ix2 r k) * rs (fun k => b.x0 (ix2 r k)) * b.x3 (ix2 0 k) := by
  unfold fin rs ms lo2
  pointwise [k0_pay37, k0_pay2]

/-! ## By chunks -/

/-- The weights of the block, -/
def pr : Par where
  aon k := b.x3 (ix2 0 k)
  gon k := b.x4 (ix2 0 k)
  vn k := b.x5 (ix2 0 k)
  w g t s := b.x6 (ix3 g t s)
  bs t g := b.x7 (ix2 t g)

/-- and the rows of a chunk. -/
def ck (d : Fin 4) : Chk where
  A t k := b.x0 (ix2 (rw4 d t) k)
  U t k := b.x1 (ix2 (rw4 d t) k)
  V t k := b.x2 (ix2 (rw4 d t) k)
  D _ _ := 0

theorem fin_hi (d : Fin 4) (t : Fin 128) (k : Fin 1024) : fin b (ix2 (rw4 d t) (hi2 k)) = go (pr b) (ck b d) t k * rs (go (pr b) (ck b d) t) * (pr b).gon k := by
  obtain ⟨u, h0, h1, h2, h3, h4⟩ := fin_split b
  have hg : ∀ k : Fin 1024, u (ix2 (rw4 d t) k) = gate (pr b) (ck b d) t k := by
    intro k
    unfold gate nv
    match d with
    | ⟨0, _⟩ => refine (h0 t k).trans ((mix0_apply b t k).trans ?_); simp only [mat_apply, nrv_apply]; simp only [← rw4_0]; rfl
    | ⟨1, _⟩ => refine (h1 t k).trans ((mix1_apply b t k).trans ?_); simp only [mat_apply, nrv_apply]; simp only [← rw4_1]; rfl
    | ⟨2, _⟩ => refine (h2 t k).trans ((mix2_apply b t k).trans ?_); simp only [mat_apply, nrv_apply]; simp only [← rw4_2]; rfl
    | ⟨3, _⟩ => refine (h3 t k).trans ?_; simp only [mat_apply, nrv_apply]; simp only [← rw4_3]; rfl
  have ho : ∀ k : Fin 1024, act b (ix2 (rw4 d t) k) * u (ix2 (rw4 d t) k) = go (pr b) (ck b d) t k := fun k => by
    rw [hg, act_apply]
    rfl
  rw [h4]
  simp only [ho]
  rfl

end Cert.MixfIdeal.Val

end
-- ==== Proof.MixfRef.lean ====
/- What the reference of the forward call of the mixing computes. -/
module

public import proofs.«01_k».proof.Proof.MixSpec
public import proofs.«01_k».proof.Proof.Gen.MixfRefIdeal.Read
public import proofs.«01_k».proof.Proof.MixfVal
public import Idealize.ShloMosaic.Lib.TwoAxisContraction
public import Idealize.ShloMosaic.Lib.Pointwise
public import Idealize.ShloMosaic.Lib.Tactic.WordOmega

@[expose] public section

set_option maxRecDepth 16384

noncomputable section

namespace Cert.MixfIdeal.Val

open Cert.MixIdeal.Val Cert.Shapes
open Idealize.ShloMosaic

/-- A row of the result: the other head group's outputs normalised, the gated half normalised. -/
def frow (p : Par) (x : Chk) (t : Fin 128) (k : Fin 2048) : EReal :=
  if h : k.val < 1024 then x.A t ⟨k.val, h⟩ * rs (x.A t) * p.aon ⟨k.val, h⟩
  else go p x t ⟨k.val - 1024, by omega⟩ * rs (go p x t) * p.gon ⟨k.val - 1024, by omega⟩

/-- Every row. -/
def resF (q : Args) : (⟨2, ![4096, 2048]⟩ : Shape).Idx → EReal := fun i => frow (par q) (chk q (cg (i 0))) (ct (i 0)) (i 1)

theorem frow_lo (p : Par) (x : Chk) (t : Fin 128) (k : Fin 1024) : frow p x t (lo2 k) = x.A t k * rs (x.A t) * p.aon k := by
  unfold frow
  rw [dif_pos (show (lo2 k).val < 1024 from k.isLt)]
  rfl

theorem frow_hi (p : Par) (x : Chk) (t : Fin 128) (k : Fin 1024) : frow p x t (hi2 k) = go p x t k * rs (go p x t) * p.gon k := by
  unfold frow
  have e : ∀ h, (⟨(hi2 k).val - 1024, h⟩ : Fin 1024) = k := fun _ => Fin.ext (by show 1024 + k.val - 1024 = k.val; omega)
  rw [dif_neg (show ¬ (hi2 k).val < 1024 from by show ¬ 1024 + k.val < 1024; omega)]
  simp only [e]

theorem resF_at (q : Args) (g : Fin 32) (t : Fin 128) (k : Fin 2048) : resF q (ix2 (cr g t) k) = frow (par q) (chk q g) t k := by
  show frow (par q) (chk q (cg (cr g t))) (ct (cr g t)) k = _
  rw [cg_cr, ct_cr]

theorem half2 (k : Fin 2048) : (∃ j : Fin 1024, k = lo2 j) ∨ ∃ j : Fin 1024, k = hi2 j := by
  by_cases h : k.val < 1024
  · exact .inl ⟨⟨k.val, h⟩, rfl⟩
  · exact .inr ⟨⟨k.val - 1024, by omega⟩, Fin.ext (by show k.val = 1024 + (k.val - 1024); omega)⟩

end Cert.MixfIdeal.Val

namespace Cert.MixfRefIdeal.Val

open Cert.MixfRefIdeal Cert.MixfRefIdeal.Gen Cert.MixfRefIdeal.Read Cert.Shapes
open Cert.MixIdeal.Val
open Idealize.ShloMosaic

variable (q : Args) (g : Fin 32) (t s : Fin 128) (k : Fin 1024) (z : Fin 1)

/-! ## The activation and the norm -/

theorem u_gl : val_main_v12 (F := Ideal) q.x1 (ix2 (cr g t) k) = gl ((chk q g).U t k) := by
  show _ = gl (q.x1 (ix2 (cr g t) k))
  unfold gl th
  rw [mul_comm (q.x1 (ix2 (cr g t) k)) (q.x1 (ix2 (cr g t) k) * q.x1 (ix2 (cr g t) k))]
  pointwise [val_main_v0, val_main_v1, val_main_v2, val_main_v3, val_main_v4, val_main_v5, val_main_v6, val_main_v7, val_main_v8, val_main_v9, val_main_v10, val_main_v11, val_main_v12, val_main_cst, val_main_cst_0, val_main_cst_1, val_main_cst_2]

theorem v_gl : val_main_v25 (F := Ideal) q.x2 (ix2 (cr g t) k) = gl ((chk q g).V t k) := by
  show _ = gl (q.x2 (ix2 (cr g t) k))
  unfold gl th
  rw [mul_comm (q.x2 (ix2 (cr g t) k)) (q.x2 (ix2 (cr g t) k) * q.x2 (ix2 (cr g t) k))]
  pointwise [val_main_v13, val_main_v14, val_main_v15, val_main_v16, val_main_v17, val_main_v18, val_main_v19, val_main_v20, val_main_v21, val_main_v22, val_main_v23, val_main_v24, val_main_v25, val_main_cst_3, val_main_cst_4, val_main_cst_5, val_main_cst_6]

theorem v_rs : val_main_v33 (F := Ideal) q.x2 (ix2 (cr g t) z) = rs (fun k => gl ((chk q g).V t k)) := by
  simp only [← v_gl]
  unfold rs ms
  pointwise [val_main_v26, val_main_v27, val_main_v28, val_main_v29, val_main_v30, val_main_v31, val_main_v32, val_main_v33, val_main_cst_7, val_main_cst_8, val_main_cst_9]

theorem v_nv : val_main_v38 (F := Ideal) q.x2 q.x5 (ix2 (cr g t) k) = nv (par q) (chk q g) t k := by
  unfold nv
  rw [← v_rs q g t 0, ← v_gl]
  pointwise [val_main_v34, val_main_v35, val_main_v36, val_main_v37, val_main_v38, par]

/-! ## The mixing -/

theorem ge_word (t s : Fin 128) : IntOp.cmpi .sge (IntOp.addi (BitVec.ofNat 32 t.val) 0#32) (BitVec.ofNat 32 s.val) = 1#1 ↔ s ≤ t := by
  have hs := s.isLt
  have ht := t.isLt
  rw [Fin.le_def]
  word_omega

theorem mask_at (h : Fin 8) (t s : Fin 128) : val_main_call1_v0 (F := Ideal) (ix3 h t s) = if s ≤ t then 1#1 else 0#1 := by
  pointwise [val_main_call1_v0, val_main_v42, val_main_v41, val_main_call0_v5, val_main_call0_c_0, val_main_call0_v4, val_main_call0_v3, val_main_call0_v2, val_main_call0_v1, val_main_call0_c, val_main_call0_v0, val_main_v40, val_main_c]
  unfold Scalar.select
  exact if_congr (ge_word t s) rfl rfl

theorem w_at (h : Fin 8) (t s : Fin 128) : val_main_v44 (F := Ideal) q.x6 (ix3 h t s) = wt (par q).w h t s := by
  have e : val_main_v44 (F := Ideal) q.x6 (ix3 h t s) = Scalar.select (val_main_call1_v0 (F := Ideal) (ix3 h t s)) (q.x6 (ix3 h t s)) 0 := by
    pointwise [val_main_v44, val_main_v43, val_main_cst_10]
  rw [e, mask_at]
  unfold Scalar.select wt
  by_cases hs : s ≤ t
  · rw [if_pos hs, if_pos (show (1#1 : BitVec 1) = 1 from rfl), if_pos hs]
    rfl
  · rw [if_neg hs, if_neg (by decide), if_neg hs]

theorem idx39 (h : Fin 8) (d : Fin 128) : idx_main_v39 (ix4 g t h d) = ix2 (cr g t) (lane h d) := funext fun a => Fin.ext (by
  match a with
  | ⟨0, _⟩ => show (((g.val * 128 + t.val) * 8 + h.val) * 128 + d.val) / 1024 = g.val * 128 + t.val; omega
  | ⟨1, _⟩ => show (((g.val * 128 + t.val) * 8 + h.val) * 128 + d.val) % 1024 = h.val * 128 + d.val; omega)

theorem idx51 : idx_main_v51 (ix2 (cr g t) k) = ix4 g t (grp k) (ln k) := funext fun a => Fin.ext (by
  have hk := k.isLt
  have ht := t.isLt
  match a with
  | ⟨0, _⟩ => show ((g.val * 128 + t.val) * 1024 + k.val) / 131072 = g.val; omega
  | ⟨1, _⟩ => show ((g.val * 128 + t.val) * 1024 + k.val) / 1024 % 128 = t.val; omega
  | ⟨2, _⟩ => show ((g.val * 128 + t.val) * 1024 + k.val) / 128 % 8 = k.val / 128; omega
  | ⟨3, _⟩ => show ((g.val * 128 + t.val) * 1024 + k.val) % 128 = k.val % 128; omega)

theorem n_at (h : Fin 8) (d : Fin 128) : val_main_v39 (F := Ideal) q.x2 q.x5 (ix4 g t h d) = nv (par q) (chk q g) t (lane h d) := by
  rw [val_main_v39_apply, idx39, v_nv]

theorem gate_at : val_main_v51 (F := Ideal) q.x2 q.x5 q.x6 q.x7 (ix2 (cr g t) k) = gate (par q) (chk q g) t k := by
  have e0 : val_main_v46 (F := Ideal) q.x2 q.x5 q.x6 (ix4 g t (grp k) (ln k)) = ∑ s, wt (par q).w (grp k) t s * nv (par q) (chk q g) s k := by
    rw [val_main_v46_apply, val_main_v45_apply]
    refine Finset.sum_congr rfl fun s _ => ?_
    refine (congrArg₂ (· * ·) (congrArg _ (funext fun a => Fin.ext (by
      match a with
      | ⟨0, _⟩ => rfl
      | ⟨1, _⟩ => rfl
      | ⟨2, _⟩ => rfl
      | ⟨3, _⟩ => rfl) : _ = ix4 g s (grp k) (ln k))) (congrArg _ (funext fun a => Fin.ext (by
      match a with
      | ⟨0, _⟩ => rfl
      | ⟨1, _⟩ => rfl
      | ⟨2, _⟩ => rfl) : _ = ix3 (grp k) t s))).trans ?_
    dsimp only
    rw [n_at, w_at, lane_of, mul_comm]
  have e1 : val_main_v49 (F := Ideal) q.x7 (ix4 g t (grp k) (ln k)) = (par q).bs t (grp k) := by
    rw [val_main_v49_apply, val_main_v48_apply, val_main_v47_apply]
    exact congrArg q.x7 (funext fun a => Fin.ext (by
      match a with
      | ⟨0, _⟩ => rfl
      | ⟨1, _⟩ => rfl))
  rw [val_main_v51_apply, idx51, val_main_v50_apply, e0, e1]
  rfl

theorem go_at : val_main_v52 (F := Ideal) q.x1 q.x2 q.x5 q.x6 q.x7 (ix2 (cr g t) k) = go (par q) (chk q g) t k := by
  unfold go
  rw [← u_gl, ← gate_at]
  pointwise [val_main_v52]

/-! ## The two halves -/

theorem a_nrm : val_main_v65 (F := Ideal) q.x0 q.x3 (ix2 (cr g t) k) = (chk q g).A t k * rs ((chk q g).A t) * (par q).aon k := by
  unfold rs ms
  pointwise [val_main_v53, val_main_v54, val_main_v55, val_main_v56, val_main_v57, val_main_v58, val_main_v59, val_main_v60, val_main_v61, val_main_v62, val_main_v63, val_main_v64, val_main_v65, val_main_cst_11, val_main_cst_12, val_main_cst_13, chk, par]

theorem go_rs : val_main_v73 (F := Ideal) q.x1 q.x2 q.x5 q.x6 q.x7 (ix2 (cr g t) z) = rs (go (par q) (chk q g) t) := by
  unfold rs ms
  simp only [← go_at]
  pointwise [val_main_v66, val_main_v67, val_main_v68, val_main_v69, val_main_v70, val_main_v71, val_main_v72, val_main_v73, val_main_cst_14, val_main_cst_15, val_main_cst_16]

theorem g_nrm : val_main_v78 (F := Ideal) q.x1 q.x2 q.x4 q.x5 q.x6 q.x7 (ix2 (cr g t) k) = go (par q) (chk q g) t k * rs (go (par q) (chk q g) t) * (par q).gon k := by
  rw [← go_rs q g t 0, ← go_at]
  pointwise [val_main_v74, val_main_v75, val_main_v76, val_main_v77, val_main_v78, par]

theorem ref_F : val_main_v80 (F := Ideal) q.x0 q.x1 q.x2 q.x3 q.x4 q.x5 q.x6 q.x7 = Cert.MixfIdeal.Val.resF q := by
  funext j
  obtain ⟨i, k, rfl⟩ : ∃ (i : Fin 4096) (k : Fin 2048), j = ix2 i k := ⟨_, _, eq_ix2 j⟩
  rw [← cr_of i, Cert.MixfIdeal.Val.resF_at]
  obtain ⟨k, rfl⟩ | ⟨k, rfl⟩ := Cert.MixfIdeal.Val.half2 k
  · rw [Cert.MixfIdeal.Val.frow_lo, ← a_nrm]
    generalize cr (cg i) (ct i) = r
    unfold lo2
    pointwise [val_main_v80, val_main_v79]
  · rw [Cert.MixfIdeal.Val.frow_hi, ← g_nrm]
    generalize cr (cg i) (ct i) = r
    unfold hi2
    pointwise [val_main_v80, val_main_v79]

end Cert.MixfRefIdeal.Val

end
-- ==== Proof.MixfValue.lean ====
/- The forward call of the mixing: what the kernel leaves in its result, and that the reference computes the same. -/
module

public import proofs.«01_k».proof.Proof.Gen.MixfIdeal.Value
public import proofs.«01_k».proof.Proof.MixfVal
public import proofs.«01_k».proof.Proof.MixfRef
public import proofs.«01_k».proof.Defs
public import Idealize.ShloMosaic.Lib.StableHlo.ReadAt

@[expose] public section

set_option maxRecDepth 16384

noncomputable section

namespace Cert.MixfIdeal.Val

open Cert.MixfIdeal Cert.MixfIdeal.Gen Cert.Shapes
open Cert.MixIdeal.Val (Chk Par Args ms rs gl th nv gate go wt grp lane lo2 hi2 par chk cr cg ct)
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-! ## The blocks the windows read -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 1 :=
  (by decide +kernel : ∀ t : Fin grid0.N, win0_2.index t 0 = t.val ∧ win0_2.index t 1 = 1)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

/-- Row `r` of point `t`'s block, in the whole array. -/
def row (t : Fin cfg0.N) (r : Fin 512) : Fin 4096 :=
  ⟨t.val * 512 + r.val, by have := lt_of_lt_of_eq t.isLt (show cfg0.N = 8 from N_0); omega⟩

/-- Chunk `d` of point `t`'s block, in the whole array. -/
def gch (t : Fin cfg0.N) (d : Fin 4) : Fin 32 :=
  ⟨t.val * 4 + d.val, by have := lt_of_lt_of_eq t.isLt (show cfg0.N = 8 from N_0); omega⟩

theorem row_rw (t : Fin cfg0.N) (d : Fin 4) (r : Fin 128) : row t (rw4 d r) = cr (gch t d) r :=
  Fin.ext (by show t.val * 512 + (d.val * 128 + r.val) = (t.val * 4 + d.val) * 128 + r.val; omega)

theorem rw_of (r : Fin 512) : ∃ (d : Fin 4) (s : Fin 128), r = rw4 d s :=
  ⟨⟨r.val / 128, by omega⟩, ⟨r.val % 128, by omega⟩, Fin.ext (by show r.val = r.val / 128 * 128 + r.val % 128; omega)⟩

/-- What the call is given. -/
def args (c : Dev nD) : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := fun _ => 0

def X0 (c : Dev nD) := (args m c).x0
def Z (c : Dev nD) : S4096x2048.Idx → EReal := V m c main_v0
def G3 (c : Dev nD) : S1x1024.Idx → EReal := V m c main_v1
def G4 (c : Dev nD) : S1x1024.Idx → EReal := V m c main_v2
def G5 (c : Dev nD) : S1x1024.Idx → EReal := V m c main_v3
def B7 (c : Dev nD) : S128x8.Idx → EReal := V m c main_v4

theorem G3_apply (c : Dev nD) (z : Fin 1) (k : Fin 1024) : G3 m c (ix2 z k) = (args m c).x3 (ix1 k) := by
  show _ = m (c, Proc.devRef .tc main_arg3) (ix1 k)
  unfold G3 V hostOps0
  after_reads_at

theorem G4_apply (c : Dev nD) (z : Fin 1) (k : Fin 1024) : G4 m c (ix2 z k) = (args m c).x4 (ix1 k) := by
  show _ = m (c, Proc.devRef .tc main_arg4) (ix1 k)
  unfold G4 V hostOps0
  after_reads_at

theorem G5_apply (c : Dev nD) (z : Fin 1) (k : Fin 1024) : G5 m c (ix2 z k) = (args m c).x5 (ix1 k) := by
  show _ = m (c, Proc.devRef .tc main_arg5) (ix1 k)
  unfold G5 V hostOps0
  after_reads_at

theorem B7_apply (c : Dev nD) (t : Fin 128) (g : Fin 8) : B7 m c (ix2 t g) = (args m c).x7 (ix2 g t) := by
  show _ = m (c, Proc.devRef .tc main_arg7) (ix2 g t)
  unfold B7 V hostOps0
  after_reads_at

theorem Z_eq (c : Dev nD) : Z m c = concatenate S4096x2048 1 [⟨S4096x1024, (args m c).x1⟩, ⟨S4096x1024, (args m c).x2⟩] concatenates_S4096x1024_S4096x1024_S4096x2048_d1 := by
  unfold Z V hostOps0
  after_reads_simp
  rfl

theorem Z_lo (c : Dev nD) (i : Fin 4096) (k : Fin 1024) : Z m c (ix2 i (lo2 k)) = (args m c).x1 (ix2 i k) := by
  rw [Z_eq]
  generalize (args m c).x1 = u
  generalize (args m c).x2 = v
  unfold lo2
  pointwise []

theorem Z_hi (c : Dev nD) (i : Fin 4096) (k : Fin 1024) : Z m c (ix2 i (hi2 k)) = (args m c).x2 (ix2 i k) := by
  rw [Z_eq]
  generalize (args m c).x1 = u
  generalize (args m c).x2 = v
  unfold hi2
  pointwise []

theorem iblk0 (c : Dev nD) (t : Fin cfg0.N) (r : Fin 512) (k : Fin 1024) : iblk m c 0 t (ix2 r k) = X0 m c (ix2 (row t r) k) := by
  unfold iblk X0 args
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = t.val * 512 + r.val; rw [(idx0 t).1]; omega
  | ⟨1, _⟩ => show win0_0.index t 1 * 1024 + 1 * k.val = k.val; rw [(idx0 t).2]; omega

theorem iblk1 (c : Dev nD) (t : Fin cfg0.N) (r : Fin 512) (k : Fin 1024) : iblk m c 1 t (ix2 r k) = Z m c (ix2 (row t r) (lo2 k)) := by
  unfold iblk Z
  rw [View.read_apply]
  show V m c main_v0 _ = _
  refine congrArg (V m c main_v0) (funext fun a => Fin.ext ?_)
  match a with
  | ⟨0, _⟩ => show win0_1.index t 0 * 512 + 1 * r.val = t.val * 512 + r.val; rw [(idx1 t).1]; omega
  | ⟨1, _⟩ => show win0_1.index t 1 * 1024 + 1 * k.val = k.val; rw [(idx1 t).2]; omega

theorem iblk2 (c : Dev nD) (t : Fin cfg0.N) (r : Fin 512) (k : Fin 1024) : iblk m c 2 t (ix2 r k) = Z m c (ix2 (row t r) (hi2 k)) := by
  unfold iblk Z
  rw [View.read_apply]
  show V m c main_v0 _ = _
  refine congrArg (V m c main_v0) (funext fun a => Fin.ext ?_)
  match a with
  | ⟨0, _⟩ => show win0_2.index t 0 * 512 + 1 * r.val = t.val * 512 + r.val; rw [(idx2 t).1]; omega
  | ⟨1, _⟩ => show win0_2.index t 1 * 1024 + 1 * k.val = 1024 + k.val; rw [(idx2 t).2]; omega

theorem iblk3 (c : Dev nD) (t : Fin cfg0.N) (r : Fin 1) (k : Fin 1024) : iblk m c 3 t (ix2 r k) = G3 m c (ix2 r k) := by
  unfold iblk G3
  rw [View.read_apply]
  show V m c main_v1 _ = _
  refine congrArg (V m c main_v1) (funext fun a => Fin.ext ?_)
  match a with
  | ⟨0, _⟩ => show win0_3.index t 0 * 1 + 1 * r.val = r.val; rw [(idx3 t).1]; omega
  | ⟨1, _⟩ => show win0_3.index t 1 * 1024 + 1 * k.val = k.val; rw [(idx3 t).2]; omega

theorem iblk4 (c : Dev nD) (t : Fin cfg0.N) (r : Fin 1) (k : Fin 1024) : iblk m c 4 t (ix2 r k) = G4 m c (ix2 r k) := by
  unfold iblk G4
  rw [View.read_apply]
  show V m c main_v2 _ = _
  refine congrArg (V m c main_v2) (funext fun a => Fin.ext ?_)
  match a with
  | ⟨0, _⟩ => show win0_4.index t 0 * 1 + 1 * r.val = r.val; rw [(idx4 t).1]; omega
  | ⟨1, _⟩ => show win0_4.index t 1 * 1024 + 1 * k.val = k.val; rw [(idx4 t).2]; omega

theorem iblk5 (c : Dev nD) (t : Fin cfg0.N) (r : Fin 1) (k : Fin 1024) : iblk m c 5 t (ix2 r k) = G5 m c (ix2 r k) := by
  unfold iblk G5
  rw [View.read_apply]
  show V m c main_v3 _ = _
  refine congrArg (V m c main_v3) (funext fun a => Fin.ext ?_)
  match a with
  | ⟨0, _⟩ => show win0_5.index t 0 * 1 + 1 * r.val = r.val; rw [(idx5 t).1]; omega
  | ⟨1, _⟩ => show win0_5.index t 1 * 1024 + 1 * k.val = k.val; rw [(idx5 t).2]; omega

theorem iblk7 (c : Dev nD) (t : Fin cfg0.N) (r : Fin 128) (k : Fin 8) : iblk m c 7 t (ix2 r k) = B7 m c (ix2 r k) := by
  unfold iblk B7
  rw [View.read_apply]
  show V m c main_v4 _ = _
  refine congrArg (V m c main_v4) (funext fun a => Fin.ext ?_)
  match a with
  | ⟨0, _⟩ => show win0_7.index t 0 * 128 + 1 * r.val = r.val; rw [(idx7 t).1]; omega
  | ⟨1, _⟩ => show win0_7.index t 1 * 8 + 1 * k.val = k.val; rw [(idx7 t).2]; omega

theorem iblk6 (c : Dev nD) (t : Fin cfg0.N) (g : Fin 8) (r s : Fin 128) : iblk m c 6 t (ix3 g r s) = (args m c).x6 (ix3 g r s) := by
  unfold iblk args
  rw [View.read_apply]
  show V m c main_arg6 _ = _
  rw [V_main_arg6]
  refine congrArg (m ((c : Thread nD τ).loc main_arg6)) (funext fun a => Fin.ext ?_)
  match a with
  | ⟨0, _⟩ => show win0_6.index t 0 * 8 + 1 * g.val = g.val; rw [(idx6 t).1]; omega
  | ⟨1, _⟩ => show win0_6.index t 1 * 128 + 1 * r.val = r.val; rw [(idx6 t).2.1]; omega
  | ⟨2, _⟩ => show win0_6.index t 2 * 128 + 1 * s.val = s.val; rw [(idx6 t).2.2]; omega

/-- The blocks point `t` reads. -/
abbrev blk (c : Dev nD) (t : Fin cfg0.N) : Blk :=
  ⟨iblk m c 0 t, iblk m c 1 t, iblk m c 2 t, iblk m c 3 t, iblk m c 4 t, iblk m c 5 t, iblk m c 6 t, iblk m c 7 t⟩

theorem pr_blk (c : Dev nD) (t : Fin cfg0.N) : pr (blk m c t) = par (args m c) := by
  unfold pr par
  congr 1
  · exact funext fun k => (iblk3 m c t 0 k).trans (G3_apply m c 0 k)
  · exact funext fun k => (iblk4 m c t 0 k).trans (G4_apply m c 0 k)
  · exact funext fun k => (iblk5 m c t 0 k).trans (G5_apply m c 0 k)
  · exact funext fun g => funext fun r => funext fun s => iblk6 m c t g r s
  · exact funext fun r => funext fun g => (iblk7 m c t r g).trans (B7_apply m c r g)

theorem ck_blk (c : Dev nD) (t : Fin cfg0.N) (d : Fin 4) : ck (blk m c t) d = chk (args m c) (gch t d) := by
  unfold ck chk
  simp only [← row_rw]
  congr 1
  · exact funext fun r => funext fun k => iblk0 m c t (rw4 d r) k
  · exact funext fun r => funext fun k => (iblk1 m c t (rw4 d r) k).trans (Z_lo m c _ k)
  · exact funext fun r => funext fun k => (iblk2 m c t (rw4 d r) k).trans (Z_hi m c _ k)

/-! ## The result -/

theorem out_f (c : Dev nD) : (dats m 0 c).arrAt 8 cfg0.N = resF (args m c) := by
  have hN : cfg0.N = 8 := N_0
  refine (dats m 0 c).arrAt_eq_of_cover 8 (resF (args m c)) (fun t _ => ?_) fun i => ?_
  · show (cfg0.win 8).cut (grid0.coords t) ((dats m 0 c).after 8 t) = _
    rw [after0_8, out_8]
    funext j
    obtain ⟨r, k, rfl⟩ : ∃ (r : Fin 512) (k : Fin 2048), j = ix2 r k := ⟨_, _, eq_ix2 j⟩
    rw [View.read_apply]
    have e : ((((cfg0.win 8).blk t).view.emb (ix2 r k)) : S4096x2048.Idx) = ix2 (row t r) k := funext fun a => Fin.ext (by
      match a with
      | ⟨0, _⟩ => show win0_8.index t 0 * 512 + 1 * r.val = t.val * 512 + r.val; rw [(idx8 t).1]; omega
      | ⟨1, _⟩ => show win0_8.index t 1 * 2048 + 1 * k.val = k.val; rw [(idx8 t).2]; omega)
    refine Eq.trans ?_ (congrArg (resF (args m c)) e.symm)
    obtain ⟨d, s, rfl⟩ := rw_of r
    rw [row_rw, resF_at, ← pr_blk m c t, ← ck_blk m c t d]
    obtain ⟨k, rfl⟩ | ⟨k, rfl⟩ := half2 k
    · rw [frow_lo]
      exact fin_lo (blk m c t) (rw4 d s) k
    · rw [frow_hi]
      exact fin_hi (blk m c t) d s k
  · have h0 : (i 0 : Nat) < 4096 := (i 0).isLt
    have h1 : (i 1 : Nat) < 2048 := (i 1).isLt
    have ht : (i 0 : Nat) / 512 < cfg0.N := by omega
    refine ⟨⟨(i 0 : Nat) / 512, ht⟩, flush0_8 _, ?_⟩
    show i ∈ ((View.whole main_v5).slice (win0_8.rect ⟨(i 0 : Nat) / 512, ht⟩)).set
    rw [View.set_slice_whole, Rect.mem_set_unit]
    intro a
    match a with
    | ⟨0, _⟩ =>
      show win0_8.index ⟨(i 0 : Nat) / 512, ht⟩ 0 * 512 ≤ (i 0 : Nat) ∧ (i 0 : Nat) < win0_8.index ⟨(i 0 : Nat) / 512, ht⟩ 0 * 512 + 512
      rw [(idx8 _).1]; dsimp only; omega
    | ⟨1, _⟩ =>
      show win0_8.index ⟨(i 0 : Nat) / 512, ht⟩ 1 * 2048 ≤ (i 1 : Nat) ∧ (i 1 : Nat) < win0_8.index ⟨(i 0 : Nat) / 512, ht⟩ 1 * 2048 + 2048
      rw [(idx8 _).2]; omega

end Cert.MixfIdeal.Val

/-! ## The claim -/

namespace Cert.Mixf.Claim

open Idealize.ShloMosaic Idealize.ShloMosaic.TcCoe Idealize.SL.Sem
open Cert.MixfIdeal.Val (args resF)

theorem frame_ref : Cert.quiescent_MixfRefIdeal (hMixfRefIdeal := Cert.MixfRefIdeal.Gen.facts) := fun m g _ =>
  (θ_run _ _ _).mono (fun r h => ⟨fun c => (h c).2, sem_eq_zero_of_no_sems (by decide) r.2⟩)
    (Cert.MixfRefIdeal.Value.run (F := Ideal) m g)

theorem algebraic : Cert.algebraic_MixfIdeal_MixfRefIdeal (hMixfIdeal := Cert.MixfIdeal.Gen.facts) (hMixfRefIdeal := Cert.MixfRefIdeal.Gen.facts) := by
  intro m g m' g' _ hargs
  refine ⟨fun c => resF (args m c), ?_, ?_⟩
  · refine (θ_run _ _ _).mono (fun r h c => ?_) (Cert.MixfIdeal.Value.run_blocks (F := Ideal) m g)
    obtain ⟨h0, h1⟩ := h c
    exact ⟨h0.trans (Cert.MixfIdeal.Val.out_f m c), h1⟩
  · refine (θ_run _ _ _).mono (fun r h c => ?_) (Cert.MixfRefIdeal.Value.run (F := Ideal) m' g')
    obtain ⟨h0, h1⟩ := h c
    obtain ⟨e0, e1, e2, e3, e4, e5, e6, e7⟩ := hargs c
    refine ⟨h0.trans ?_, h1⟩
    rw [Cert.MixfRefIdeal.Read.val_main_v80_eq, e0, e1, e2, e3, e4, e5, e6, e7]; exact Cert.MixfRefIdeal.Val.ref_F (args m c)

end Cert.Mixf.Claim

end
-- ==== Proof.FfnfValue.lean ====
/-
  The forward call of the half-step SwiGLU: what the kernel leaves in its three results, what the reference computes, and that they agree.
-/
module

public import proofs.«01_k».proof.Proof.Gen.FfnfIdeal.Value
public import proofs.«01_k».proof.Proof.Gen.FfnfRefIdeal.Read
public import proofs.«01_k».proof.Defs
public import proofs.«01_k».proof.Proof.FfnRef
public import Idealize.ShloMosaic.Lib.Pointwise
public import Idealize.ShloMosaic.Lib.StableHlo.ReadAt

@[expose] public section

set_option maxRecDepth 16384

noncomputable section

namespace Cert.FfnfIdeal.Val

open Cert.FfnfIdeal Cert.FfnfIdeal.Gen Cert.Shapes
open Cert.FfnRefIdeal.Read (colB hid sum_cols)
open Idealize.ShloMosaic Idealize.ShloMosaic.TcCoe
open Idealize.SL Idealize.SL.Sem
open Idealize.ShloMosaic.Pipeline (Dat Cfg Window)

/-! ## What one point leaves -/

section

variable (c : Dev nD) (i : grid0.Coords) (a1 : Memref sig .tc .vmem S512x2048 .bf16) (a2 : Memref sig .tc .vmem S512x2048 .f32)
  (a3 a4 : Memref sig .tc .vmem S1x2048x688 .bf16) (a5 : Memref sig .tc .vmem S1x688x2048 .bf16) (a6 : Memref sig .tc .vmem S512x2048 .f32)
  (a7 a8 : Memref sig .tc .vmem S1x512x688 .bf16) (a9 : Memref sig .tc .vmem S512x2048 .f32) (h1 : a1.IsWhole) (h2 : a2.IsWhole) (h3 : a3.IsWhole) (h4 : a4.IsWhole)
  (h5 : a5.IsWhole) (h6 : a6.IsWhole) (h7 : a7.IsWhole) (h8 : a8.IsWhole) (h9 : a9.IsWhole) (x0 : Vec Ideal S512x2048 .bf16) (x1 : Vec Ideal S512x2048 .f32)
  (x2 x3 : Vec Ideal S1x2048x688 .bf16) (x4 : Vec Ideal S1x688x2048 .bf16)

theorem out_A_6 (hc0 : cond0_0 i) (hc1 : ¬cond0_1 i) :
    out0_A_6 c i a1 h1 a2 h2 a3 h3 a4 h4 a5 h5 a6 h6 a7 h7 a8 h8 a9 h9 hc0 hc1 x0 x1 x2 x3 x4 = k0_pay7 x0 x2 := by
  unfold out0_A_6
  rw [View.read_writes_eq_canon]
  on_goal 2 => exact fun _ => cover0_A_6 ..
  unfold kernelRun0_A
  dsimp only
  rw [View.canon_unit_zero hz3]
  simp only [View.readAt_eq_ld, Memref.IsWhole.read_unread, View.ld_unit_zero (S := ⟨2, _⟩) hz2, View.ld_unit_zero (S := ⟨3, _⟩) hz3]

theorem out_A_7 (hc0 : cond0_0 i) (hc1 : ¬cond0_1 i) :
    out0_A_7 c i a1 h1 a2 h2 a3 h3 a4 h4 a5 h5 a6 h6 a7 h7 a8 h8 a9 h9 hc0 hc1 x0 x1 x2 x3 x4 = k0_pay8 x0 x3 := by
  unfold out0_A_7
  rw [View.read_writes_eq_canon]
  on_goal 2 => exact fun _ => cover0_A_7 ..
  unfold kernelRun0_A
  dsimp only
  rw [View.canon_unit_zero hz3]
  simp only [View.readAt_eq_ld, Memref.IsWhole.read_unread, View.ld_unit_zero (S := ⟨2, _⟩) hz2, View.ld_unit_zero (S := ⟨3, _⟩) hz3]

theorem sout_A_0 (hc0 : cond0_0 i) (hc1 : ¬cond0_1 i) :
    sout0_A_0 c i a1 h1 a2 h2 a3 h3 a4 h4 a5 h5 a6 h6 a7 h7 a8 h8 a9 h9 hc0 hc1 x0 x1 x2 x3 x4 = k0_pay1 (k0_pay9 x0 x2 x3 (k0_pay3 (F := Ideal)) x4) := by
  unfold sout0_A_0
  rw [View.read_writes_eq_canon]
  on_goal 2 => exact fun _ => scover0_A_0 ..
  unfold kernelRun0_A
  dsimp only
  sl_unfold_words
  rw [View.canon_cons_unit_zero (S := S512x2048) hz2, View.readCov_unit_zero (S := S512x2048) _ hz2]
  simp only [View.readAt_eq_ld, Memref.IsWhole.read_unread, View.ld_unit_zero (S := ⟨2, _⟩) hz2, View.ld_unit_zero (S := ⟨3, _⟩) hz3]

theorem out_B_6 (hc0 : ¬cond0_0 i) (hc1 : ¬cond0_1 i) (xs : Vec Ideal S512x2048 .f32) :
    out0_B_6 c i a1 h1 a2 h2 a3 h3 a4 h4 a5 h5 a6 h6 a7 h7 a8 h8 a9 h9 hc0 hc1 x0 x1 x2 x3 x4 xs = k0_pay7 x0 x2 := by
  unfold out0_B_6
  rw [View.read_writes_eq_canon]
  on_goal 2 => exact fun _ => cover0_B_6 ..
  unfold kernelRun0_B
  dsimp only
  rw [View.canon_unit_zero hz3]
  simp only [View.readAt_eq_ld, Memref.IsWhole.read_unread, View.ld_unit_zero (S := ⟨2, _⟩) hz2, View.ld_unit_zero (S := ⟨3, _⟩) hz3]

theorem out_B_7 (hc0 : ¬cond0_0 i) (hc1 : ¬cond0_1 i) (xs : Vec Ideal S512x2048 .f32) :
    out0_B_7 c i a1 h1 a2 h2 a3 h3 a4 h4 a5 h5 a6 h6 a7 h7 a8 h8 a9 h9 hc0 hc1 x0 x1 x2 x3 x4 xs = k0_pay8 x0 x3 := by
  unfold out0_B_7
  rw [View.read_writes_eq_canon]
  on_goal 2 => exact fun _ => cover0_B_7 ..
  unfold kernelRun0_B
  dsimp only
  rw [View.canon_unit_zero hz3]
  simp only [View.readAt_eq_ld, Memref.IsWhole.read_unread, View.ld_unit_zero (S := ⟨2, _⟩) hz2, View.ld_unit_zero (S := ⟨3, _⟩) hz3]

theorem sout_B_0 (hc0 : ¬cond0_0 i) (hc1 : ¬cond0_1 i) (xs : Vec Ideal S512x2048 .f32) :
    sout0_B_0 c i a1 h1 a2 h2 a3 h3 a4 h4 a5 h5 a6 h6 a7 h7 a8 h8 a9 h9 hc0 hc1 x0 x1 x2 x3 x4 xs = k0_pay1 (k0_pay9 x0 x2 x3 xs x4) := by
  unfold sout0_B_0
  rw [View.read_writes_eq_canon]
  on_goal 2 => exact fun _ => scover0_B_0 ..
  unfold kernelRun0_B
  dsimp only
  try sl_unfold_words
  rw [View.canon_unit_zero hz2]
  simp only [View.readAt_eq_ld, Memref.IsWhole.read_unread, View.ld_unit_zero (S := ⟨2, _⟩) hz2, View.ld_unit_zero (S := ⟨3, _⟩) hz3]

theorem out_C_5 (hc0 : ¬cond0_0 i) (hc1 : cond0_1 i) (xs : Vec Ideal S512x2048 .f32) :
    out0_C_5 c i a1 h1 a2 h2 a3 h3 a4 h4 a5 h5 a6 h6 a7 h7 a8 h8 a9 h9 hc0 hc1 x0 x1 x2 x3 x4 xs = k0_pay2 x1 (k0_pay1 (k0_pay9 x0 x2 x3 xs x4)) := by
  unfold out0_C_5
  rw [View.read_writes_eq_canon]
  on_goal 2 => exact fun _ => cover0_C_5 ..
  unfold kernelRun0_C
  dsimp only
  sl_unfold_words
  rw [View.canon_unit_zero hz2, View.readCov_unit_zero (S := S512x2048) _ hz2]
  simp only [View.readAt_eq_ld, Memref.IsWhole.read_unread, View.ld_unit_zero (S := ⟨2, _⟩) hz2, View.ld_unit_zero (S := ⟨3, _⟩) hz3]

theorem out_C_6 (hc0 : ¬cond0_0 i) (hc1 : cond0_1 i) (xs : Vec Ideal S512x2048 .f32) :
    out0_C_6 c i a1 h1 a2 h2 a3 h3 a4 h4 a5 h5 a6 h6 a7 h7 a8 h8 a9 h9 hc0 hc1 x0 x1 x2 x3 x4 xs = k0_pay7 x0 x2 := by
  unfold out0_C_6
  rw [View.read_writes_eq_canon]
  on_goal 2 => exact fun _ => cover0_C_6 ..
  unfold kernelRun0_C
  dsimp only
  rw [View.canon_unit_zero hz3]
  simp only [View.readAt_eq_ld, Memref.IsWhole.read_unread, View.ld_unit_zero (S := ⟨2, _⟩) hz2, View.ld_unit_zero (S := ⟨3, _⟩) hz3]

theorem out_C_7 (hc0 : ¬cond0_0 i) (hc1 : cond0_1 i) (xs : Vec Ideal S512x2048 .f32) :
    out0_C_7 c i a1 h1 a2 h2 a3 h3 a4 h4 a5 h5 a6 h6 a7 h7 a8 h8 a9 h9 hc0 hc1 x0 x1 x2 x3 x4 xs = k0_pay8 x0 x3 := by
  unfold out0_C_7
  rw [View.read_writes_eq_canon]
  on_goal 2 => exact fun _ => cover0_C_7 ..
  unfold kernelRun0_C
  dsimp only
  rw [View.canon_unit_zero hz3]
  simp only [View.readAt_eq_ld, Memref.IsWhole.read_unread, View.ld_unit_zero (S := ⟨2, _⟩) hz2, View.ld_unit_zero (S := ⟨3, _⟩) hz3]

theorem sout_C_0 (hc0 : ¬cond0_0 i) (hc1 : cond0_1 i) (xs : Vec Ideal S512x2048 .f32) :
    sout0_C_0 c i a1 h1 a2 h2 a3 h3 a4 h4 a5 h5 a6 h6 a7 h7 a8 h8 a9 h9 hc0 hc1 x0 x1 x2 x3 x4 xs = k0_pay1 (k0_pay9 x0 x2 x3 xs x4) := by
  unfold sout0_C_0
  rw [View.read_writes_eq_canon]
  on_goal 2 => exact fun _ => scover0_C_0 ..
  unfold kernelRun0_C
  dsimp only
  try sl_unfold_words
  rw [View.canon_unit_zero hz2]
  simp only [View.readAt_eq_ld, Memref.IsWhole.read_unread, View.ld_unit_zero (S := ⟨2, _⟩) hz2, View.ld_unit_zero (S := ⟨3, _⟩) hz3]

end

/-! ## The payloads at an index -/

/-- A row of a block times a column of a block of weights. -/
def mulB (x0 : Vec Ideal S512x2048 .bf16) (w : Vec Ideal S1x2048x688 .bf16) (r : Fin 512) (k : Fin 688) : EReal :=
  ∑ d : Fin 2048, x0 (ix2 r d) * w (ix3 0 d k)

/-- The gated product. -/
def gat (a b : EReal) : EReal := a * Ideal.logistic a * b

section
variable (x0 : Vec Ideal S512x2048 .bf16) (x1 s : Vec Ideal S512x2048 .f32) (x2 x3 : Vec Ideal S1x2048x688 .bf16) (x4 : Vec Ideal S1x688x2048 .bf16)

theorem pay5_apply (r : Fin 512) (k : Fin 688) : k0_pay5 x0 x2 (ix2 r k) = mulB x0 x2 r k := by
  unfold mulB
  pointwise [k0_pay5, k0_pay4, zero_add]

theorem pay6_apply (r : Fin 512) (k : Fin 688) : k0_pay6 x0 x3 (ix2 r k) = mulB x0 x3 r k := by
  unfold mulB
  pointwise [k0_pay6, k0_pay4, zero_add]

theorem pay7_apply (r : Fin 512) (k : Fin 688) : k0_pay7 x0 x2 (ix3 0 r k) = mulB x0 x2 r k := by
  rw [← pay5_apply]
  pointwise [k0_pay7]

theorem pay8_apply (r : Fin 512) (k : Fin 688) : k0_pay8 x0 x3 (ix3 0 r k) = mulB x0 x3 r k := by
  rw [← pay6_apply]
  pointwise [k0_pay8]

theorem pay3_apply (r : Fin 512) (d : Fin 2048) : k0_pay3 (F := Ideal) (ix2 r d) = 0 := by
  pointwise [k0_pay3]

theorem pay9_apply (r : Fin 512) (d : Fin 2048) : k0_pay1 (k0_pay9 x0 x2 x3 s x4) (ix2 r d)
    = s (ix2 r d) + ∑ k : Fin 688, gat (mulB x0 x2 r k) (mulB x0 x3 r k) * x4 (ix3 0 k d) := by
  unfold gat
  simp only [← pay5_apply x0 x2, ← pay6_apply x0 x3]
  pointwise [k0_pay1, k0_pay9, zero_add]

theorem pay2_apply (r : Fin 512) (d : Fin 2048) : k0_pay2 x1 s (ix2 r d) = x1 (ix2 r d) + Ideal.ofBits .f32 0x3F000000#32 * s (ix2 r d) := by
  pointwise [k0_pay2]

end

/-! ## The arrays the kernel reads -/

variable (m : (ℓ : Loc nD τ sig) → Buf (Elt Ideal) ℓ) (c : Dev nD)

def X : FVec Ideal S4096x2048 .f32 := m (c, Proc.devRef .tc main_arg0)
def H : FVec Ideal S4096x2048 .f32 := m ((c : Thread nD τ).loc main_arg1)
def W1 : FVec Ideal S2048x5504 .f32 := m (c, Proc.devRef .tc main_arg2)
def W3 : FVec Ideal S2048x5504 .f32 := m (c, Proc.devRef .tc main_arg3)
def W2 : FVec Ideal S5504x2048 .f32 := m (c, Proc.devRef .tc main_arg4)

theorem X_apply (i : S4096x2048.Idx) : V m c main_v0 i = X m c i := by
  unfold V hostOps0
  after_reads_at
  rfl

theorem W1_apply (j : Fin 8) (d : Fin 2048) (k : Fin 688) : V m c main_v3 (ix3 j d k) = W1 m c (ix2 d (colB j k)) := by
  unfold V hostOps0
  after_reads_at
  simp only [colB, Nat.mul_comm]
  rfl

theorem W3_apply (j : Fin 8) (d : Fin 2048) (k : Fin 688) : V m c main_v6 (ix3 j d k) = W3 m c (ix2 d (colB j k)) := by
  unfold V hostOps0
  after_reads_at
  simp only [colB, Nat.mul_comm]
  rfl

theorem W2_apply (j : Fin 8) (k : Fin 688) (d : Fin 2048) : V m c main_v8 (ix3 j k d) = W2 m c (ix2 (colB j k) d) := by
  unfold V hostOps0
  after_reads_at
  simp only [colB, Nat.mul_comm]
  rfl

theorem lt_N (t : Fin cfg0.N) : t.val < 64 := lt_of_lt_of_eq t.isLt (show cfg0.N = 64 from N_0)

abbrev ri (t : Fin cfg0.N) : Fin 8 := ⟨t.val / 8, by have := lt_N t; omega⟩
abbrev hj (t : Fin cfg0.N) : Fin 8 := ⟨t.val % 8, by omega⟩

/-- Row `r` of the row block `n`. -/
abbrev rowOf (n : Fin 8) (r : Fin 512) : Fin 4096 := ⟨512 * n.val + r.val, by omega⟩

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val / 8 ∧ win0_1.index t 1 = 0 :=
  (by decide +kernel : ∀ t : Fin grid0.N, win0_1.index t 0 = t.val / 8 ∧ win0_1.index t 1 = 0)
theorem idx2 : ∀ t : Fin cfg0.N, win0_2.index t 0 = t.val % 8 ∧ win0_2.index t 1 = 0 ∧ win0_2.index t 2 = 0 :=
  (by decide +kernel : ∀ t : Fin grid0.N, win0_2.index t 0 = t.val % 8 ∧ win0_2.index t 1 = 0 ∧ win0_2.index t 2 = 0)
theorem idx3 : ∀ t : Fin cfg0.N, win0_3.index t 0 = t.val % 8 ∧ win0_3.index t 1 = 0 ∧ win0_3.index t 2 = 0 :=
  (by decide +kernel : ∀ t : Fin grid0.N, win0_3.index t 0 = t.val % 8 ∧ win0_3.index t 1 = 0 ∧ win0_3.index t 2 = 0)
theorem idx4 : ∀ t : Fin cfg0.N, win0_4.index t 0 = t.val % 8 ∧ win0_4.index t 1 = 0 ∧ win0_4.index t 2 = 0 :=
  (by decide +kernel : ∀ t : Fin grid0.N, win0_4.index t 0 = t.val % 8 ∧ win0_4.index t 1 = 0 ∧ win0_4.index t 2 = 0)
theorem idx5 : ∀ t : Fin cfg0.N, win0_5.index t 0 = t.val / 8 ∧ win0_5.index t 1 = 0 :=
  (by decide +kernel : ∀ t : Fin grid0.N, win0_5.index t 0 = t.val / 8 ∧ win0_5.index t 1 = 0)
theorem idx6 : ∀ t : Fin cfg0.N, win0_6.index t 0 = t.val % 8 ∧ win0_6.index t 1 = t.val / 8 ∧ win0_6.index t 2 = 0 :=
  (by decide +kernel : ∀ t : Fin grid0.N, win0_6.index t 0 = t.val % 8 ∧ win0_6.index t 1 = t.val / 8 ∧ win0_6.index t 2 = 0)
theorem idx7 : ∀ t : Fin cfg0.N, win0_7.index t 0 = t.val % 8 ∧ win0_7.index t 1 = t.val / 8 ∧ win0_7.index t 2 = 0 :=
  (by decide +kernel : ∀ t : Fin grid0.N, win0_7.index t 0 = t.val % 8 ∧ win0_7.index t 1 = t.val / 8 ∧ win0_7.index t 2 = 0)

theorem blk0 (t : Fin cfg0.N) (r : Fin 512) (d : Fin 2048) : iblk m c 0 t (ix2 r d) = X m c (ix2 (rowOf (ri t) r) d) := by
  unfold iblk
  rw [View.read_apply]
  show V m c main_v0 _ = _
  refine (X_apply m c _).trans ?_
  refine congrArg (X m c) (funext fun a => Fin.ext ?_)
  obtain ⟨e0, e1⟩ := idx0 t
  match a with
  | ⟨0, _⟩ => show win0_0.index t 0 * 512 + 1 * r.val = 512 * (t.val / 8) + r.val; omega
  | ⟨1, _⟩ => show win0_0.index t 1 * 2048 + 1 * d.val = d.val; omega

theorem blk1 (t : Fin cfg0.N) (r : Fin 512) (d : Fin 2048) : iblk m c 1 t (ix2 r d) = H m c (ix2 (rowOf (ri t) r) d) := by
  unfold iblk
  rw [View.read_apply]
  show V m c main_arg1 _ = _
  rw [V_main_arg1]
  refine congrArg (H m c) (funext fun a => Fin.ext ?_)
  obtain ⟨e0, e1⟩ := idx1 t
  match a with
  | ⟨0, _⟩ => show win0_1.index t 0 * 512 + 1 * r.val = 512 * (t.val / 8) + r.val; omega
  | ⟨1, _⟩ => show win0_1.index t 1 * 2048 + 1 * d.val = d.val; omega

theorem blk2 (t : Fin cfg0.N) (d : Fin 2048) (k : Fin 688) : iblk m c 2 t (ix3 0 d k) = W1 m c (ix2 d (colB (hj t) k)) := by
  refine Eq.trans ?_ (W1_apply m c (hj t) d k)
  unfold iblk
  rw [View.read_apply]
  show V m c main_v3 _ = _
  refine congrArg (V m c main_v3) (funext fun a => Fin.ext ?_)
  obtain ⟨e0, e1, e2⟩ := idx2 t
  match a with
  | ⟨0, _⟩ => show win0_2.index t 0 * 1 + 1 * 0 = t.val % 8; omega
  | ⟨1, _⟩ => show win0_2.index t 1 * 2048 + 1 * d.val = d.val; omega
  | ⟨2, _⟩ => show win0_2.index t 2 * 688 + 1 * k.val = k.val; omega

theorem blk3 (t : Fin cfg0.N) (d : Fin 2048) (k : Fin 688) : iblk m c 3 t (ix3 0 d k) = W3 m c (ix2 d (colB (hj t) k)) := by
  refine Eq.trans ?_ (W3_apply m c (hj t) d k)
  unfold iblk
  rw [View.read_apply]
  show V m c main_v6 _ = _
  refine congrArg (V m c main_v6) (funext fun a => Fin.ext ?_)
  obtain ⟨e0, e1, e2⟩ := idx3 t
  match a with
  | ⟨0, _⟩ => show win0_3.index t 0 * 1 + 1 * 0 = t.val % 8; omega
  | ⟨1, _⟩ => show win0_3.index t 1 * 2048 + 1 * d.val = d.val; omega
  | ⟨2, _⟩ => show win0_3.index t 2 * 688 + 1 * k.val = k.val; omega

theorem blk4 (t : Fin cfg0.N) (k : Fin 688) (d : Fin 2048) : iblk m c 4 t (ix3 0 k d) = W2 m c (ix2 (colB (hj t) k) d) := by
  refine Eq.trans ?_ (W2_apply m c (hj t) k d)
  unfold iblk
  rw [View.read_apply]
  show V m c main_v8 _ = _
  refine congrArg (V m c main_v8) (funext fun a => Fin.ext ?_)
  obtain ⟨e0, e1, e2⟩ := idx4 t
  match a with
  | ⟨0, _⟩ => show win0_4.index t 0 * 1 + 1 * 0 = t.val % 8; omega
  | ⟨1, _⟩ => show win0_4.index t 1 * 688 + 1 * k.val = k.val; omega
  | ⟨2, _⟩ => show win0_4.index t 2 * 2048 + 1 * d.val = d.val; omega

/-! ## The results -/

/-- A hidden product by blocks of columns, -/
def hidden (x : FVec Ideal S4096x2048 .f32) (w : FVec Ideal S2048x5504 .f32) : FVec Ideal S8x4096x688 .bf16 :=
  fun i => hid x w (i 1) (colB (i 0) (i 2))

/-- what one hidden column adds to an element, -/
def term (x : FVec Ideal S4096x2048 .f32) (w1 w3 : FVec Ideal S2048x5504 .f32) (w2 : FVec Ideal S5504x2048 .f32) (i : Fin 4096) (d : Fin 2048) (q : Fin 5504) : EReal :=
  gat (hid x w1 i q) (hid x w3 i q) * w2 (ix2 q d)

/-- and the half step added to the residual. -/
def res (x h : FVec Ideal S4096x2048 .f32) (w1 w3 : FVec Ideal S2048x5504 .f32) (w2 : FVec Ideal S5504x2048 .f32) : FVec Ideal S4096x2048 .f32 :=
  fun i => h (ix2 (i 0) (i 1)) + Ideal.ofBits .f32 0x3F000000#32 * ∑ q : Fin 5504, term x w1 w3 w2 (i 0) (i 1) q

/-- What one block of hidden columns adds. -/
def DX (i : Fin 4096) (d : Fin 2048) (j : Fin 8) : EReal := ∑ k : Fin 688, term (X m c) (W1 m c) (W3 m c) (W2 m c) i d (colB j k)

theorem first_at (t : Fin cfg0.N) (r : Fin 512) (k : Fin 688) :
    mulB (iblk m c 0 t) (iblk m c 2 t) r k = hid (X m c) (W1 m c) (rowOf (ri t) r) (colB (hj t) k) := by
  unfold mulB hid
  refine Finset.sum_congr rfl fun e _ => ?_
  rw [blk0, blk2]

theorem second_at (t : Fin cfg0.N) (r : Fin 512) (k : Fin 688) :
    mulB (iblk m c 0 t) (iblk m c 3 t) r k = hid (X m c) (W3 m c) (rowOf (ri t) r) (colB (hj t) k) := by
  unfold mulB hid
  refine Finset.sum_congr rfl fun e _ => ?_
  rw [blk0, blk3]

theorem step_at (t : Fin cfg0.N) (s : Vec Ideal S512x2048 .f32) (r : Fin 512) (d : Fin 2048) :
    k0_pay1 (k0_pay9 (iblk m c 0 t) (iblk m c 2 t) (iblk m c 3 t) s (iblk m c 4 t)) (ix2 r d)
      = s (ix2 r d) + DX m c (rowOf (ri t) r) d (hj t) := by
  refine (pay9_apply (iblk m c 0 t) s (iblk m c 2 t) (iblk m c 3 t) (iblk m c 4 t) r d).trans ?_
  unfold DX term
  refine congrArg (fun y : EReal => s (ix2 r d) + y) (Finset.sum_congr rfl fun k _ => ?_)
  rw [first_at, second_at, blk4]

/-- The carried sum after a point. -/
def acc (t : Fin cfg0.N) : Vec Ideal S512x2048 .f32 := (outsAt0 m c t.val t.isLt).2.2.2

theorem acc_first (t : Fin cfg0.N) (h : t.val % 8 = 0) (r : Fin 512) (d : Fin 2048) :
    acc m c t (ix2 r d) = DX m c (rowOf (ri t) r) d (hj t) := by
  unfold acc
  rw [outsAt0_A m c t h (by omega)]
  dsimp only
  rw [sout_A_0]
  refine (step_at m c t _ r d).trans ?_
  rw [pay3_apply, zero_add]

theorem acc_later (t t' : Fin cfg0.N) (e : t.val = t'.val + 1) (h : ¬t.val % 8 = 0) (r : Fin 512) (d : Fin 2048) :
    acc m c t (ix2 r d) = acc m c t' (ix2 r d) + DX m c (rowOf (ri t) r) d (hj t) := by
  obtain ⟨n, hn⟩ := t'
  obtain ⟨q, hq⟩ := t
  obtain rfl : q = n + 1 := e
  unfold acc
  by_cases h7 : (n + 1) % 8 = 7
  · rw [outsAt0_C m c ⟨n + 1, _⟩ h h7]
    dsimp only
    rw [sout_C_0]
    exact step_at m c ⟨n + 1, _⟩ _ r d
  · rw [outsAt0_B m c ⟨n + 1, _⟩ h h7]
    dsimp only
    rw [sout_B_0]
    exact step_at m c ⟨n + 1, _⟩ _ r d

abbrev pt (i : Fin 8) (j : ℕ) (hj : j < 8) : Fin cfg0.N :=
  ⟨8 * i.val + j, by rw [show cfg0.N = 64 from N_0]; omega⟩

theorem acc_last (i : Fin 8) (r : Fin 512) (d : Fin 2048) :
    acc m c (pt i 7 (by decide)) (ix2 r d) = ∑ q : Fin 5504, term (X m c) (W1 m c) (W3 m c) (W2 m c) (rowOf i r) d q := by
  rw [← sum_cols]
  have at_pt : ∀ j (hh : j < 8), DX m c (rowOf (ri (pt i j hh)) r) d (hj (pt i j hh)) = DX m c (rowOf i r) d ⟨j, hh⟩ := by
    intro j hh
    have e1 : ri (pt i j hh) = i := Fin.ext (by show (8 * i.val + j) / 8 = i.val; omega)
    have e2 : hj (pt i j hh) = ⟨j, hh⟩ := Fin.ext (by show (8 * i.val + j) % 8 = j; omega)
    rw [e1, e2]
  refine running (DX m c (rowOf i r) d) (fun n hn => acc m c (pt i n hn) (ix2 r d)) (fun hq => ?_) (fun n hq => ?_) 7 (by decide)
  · refine (acc_first m c (pt i 0 hq) (by show (8 * i.val + 0) % 8 = 0; omega) r d).trans ?_
    rw [at_pt]
  · refine (acc_later m c (pt i (n + 1) hq) (pt i n (by omega)) rfl (by show ¬(8 * i.val + (n + 1)) % 8 = 0; omega) r d).trans ?_
    rw [at_pt]

theorem left5 (t : Fin cfg0.N) (h7 : t.val % 8 = 7) (r : Fin 512) (d : Fin 2048) :
    (outsAt0 m c t.val t.isLt).1 (ix2 r d) = H m c (ix2 (rowOf (ri t) r) d) + Ideal.ofBits .f32 0x3F000000#32 * acc m c t (ix2 r d) := by
  unfold acc
  rw [outsAt0_C m c t (by omega) h7]
  dsimp only
  rw [out_C_5, sout_C_0]
  refine (pay2_apply _ _ r d).trans ?_
  rw [blk1]

theorem left6 (t : Fin cfg0.N) (r : Fin 512) (k : Fin 688) :
    (outsAt0 m c t.val t.isLt).2.1 (ix3 0 r k) = hid (X m c) (W1 m c) (rowOf (ri t) r) (colB (hj t) k) := by
  rw [← first_at]
  by_cases h0 : t.val % 8 = 0
  · rw [outsAt0_A m c t h0 (by omega)]
    dsimp only
    rw [out_A_6]
    exact pay7_apply _ _ r k
  · by_cases h7 : t.val % 8 = 7
    · rw [outsAt0_C m c t h0 h7]
      dsimp only
      rw [out_C_6]
      exact pay7_apply _ _ r k
    · rw [outsAt0_B m c t h0 h7]
      dsimp only
      rw [out_B_6]
      exact pay7_apply _ _ r k

theorem left7 (t : Fin cfg0.N) (r : Fin 512) (k : Fin 688) :
    (outsAt0 m c t.val t.isLt).2.2.1 (ix3 0 r k) = hid (X m c) (W3 m c) (rowOf (ri t) r) (colB (hj t) k) := by
  rw [← second_at]
  by_cases h0 : t.val % 8 = 0
  · rw [outsAt0_A m c t h0 (by omega)]
    dsimp only
    rw [out_A_7]
    exact pay8_apply _ _ r k
  · by_cases h7 : t.val % 8 = 7
    · rw [outsAt0_C m c t h0 h7]
      dsimp only
      rw [out_C_7]
      exact pay8_apply _ _ r k
    · rw [outsAt0_B m c t h0 h7]
      dsimp only
      rw [out_B_7]
      exact pay8_apply _ _ r k

theorem out_res : (dats m 0 c).arrAt 5 cfg0.N = res (X m c) (H m c) (W1 m c) (W3 m c) (W2 m c) := by
  have hN : cfg0.N = 64 := N_0
  refine (dats m 0 c).arrAt_eq_of_cover 5 (res (X m c) (H m c) (W1 m c) (W3 m c) (W2 m c)) (fun t hf => ?_) fun i => ?_
  · have h7 := (flush0_5 t).mp hf
    obtain ⟨e0, e1⟩ := idx5 t
    show (cfg0.win 5).cut (grid0.coords t) ((dats m 0 c).after 5 t) = _
    rw [after0_5]
    funext j
    obtain ⟨r, d, rfl⟩ : ∃ (r : Fin 512) (d : Fin 2048), j = ix2 r d := ⟨_, _, eq_ix2 j⟩
    rw [View.read_apply]
    have e : ((((cfg0.win 5).blk t).view.emb (ix2 r d)) : S4096x2048.Idx) = ix2 (rowOf (ri t) r) d := funext fun a => Fin.ext (by
      match a with
      | ⟨0, _⟩ => show win0_5.index t 0 * 512 + 1 * r.val = 512 * (t.val / 8) + r.val; omega
      | ⟨1, _⟩ => show win0_5.index t 1 * 2048 + 1 * d.val = d.val; omega)
    refine Eq.trans ?_ (congrArg (res (X m c) (H m c) (W1 m c) (W3 m c) (W2 m c)) e.symm)
    refine (left5 m c t h7 r d).trans ?_
    have et : t = pt (ri t) 7 (by decide) := Fin.ext (by show t.val = 8 * (t.val / 8) + 7; omega)
    refine congrArg (fun y : EReal => H m c (ix2 (rowOf (ri t) r) d) + Ideal.ofBits .f32 0x3F000000#32 * y) ?_
    exact (congrArg (fun q => acc m c q (ix2 r d)) et).trans (acc_last m c (ri t) r d)
  · have h0 : (i 0 : Nat) < 4096 := (i 0).isLt
    have h1 : (i 1 : Nat) < 2048 := (i 1).isLt
    have ht : 8 * ((i 0 : Nat) / 512) + 7 < cfg0.N := by omega
    obtain ⟨e0, e1⟩ := idx5 ⟨_, ht⟩
    dsimp only at e0 e1
    refine ⟨⟨_, ht⟩, (flush0_5 _).mpr (by dsimp only; omega), ?_⟩
    show i ∈ ((View.whole main_v9_0).slice (win0_5.rect ⟨_, ht⟩)).set
    rw [View.set_slice_whole, Rect.mem_set_unit]
    intro a
    match a with
    | ⟨0, _⟩ => show win0_5.index ⟨_, ht⟩ 0 * 512 ≤ (i 0 : Nat) ∧ (i 0 : Nat) < win0_5.index ⟨_, ht⟩ 0 * 512 + 512; omega
    | ⟨1, _⟩ => show win0_5.index ⟨_, ht⟩ 1 * 2048 ≤ (i 1 : Nat) ∧ (i 1 : Nat) < win0_5.index ⟨_, ht⟩ 1 * 2048 + 2048; omega

theorem out_h6 : (dats m 0 c).arrAt 6 cfg0.N = hidden (X m c) (W1 m c) := by
  have hN : cfg0.N = 64 := N_0
  refine (dats m 0 c).arrAt_eq_of_cover 6 (hidden (X m c) (W1 m c)) (fun t hf => ?_) fun i => ?_
  · obtain ⟨e0, e1, e2⟩ := idx6 t
    show (cfg0.win 6).cut (grid0.coords t) ((dats m 0 c).after 6 t) = _
    rw [after0_6]
    funext j
    obtain ⟨z, r, k, rfl⟩ : ∃ (z : Fin 1) (r : Fin 512) (k : Fin 688), j = ix3 z r k := ⟨_, _, _, eq_ix3 j⟩
    obtain rfl : z = 0 := Subsingleton.elim _ _
    rw [View.read_apply]
    have e : ((((cfg0.win 6).blk t).view.emb (ix3 0 r k)) : S8x4096x688.Idx) = ix3 (hj t) (rowOf (ri t) r) k := funext fun a => Fin.ext (by
      match a with
      | ⟨0, _⟩ => show win0_6.index t 0 * 1 + 1 * 0 = t.val % 8; omega
      | ⟨1, _⟩ => show win0_6.index t 1 * 512 + 1 * r.val = 512 * (t.val / 8) + r.val; omega
      | ⟨2, _⟩ => show win0_6.index t 2 * 688 + 1 * k.val = k.val; omega)
    refine Eq.trans ?_ (congrArg (hidden (X m c) (W1 m c)) e.symm)
    exact left6 m c t r k
  · have h0 : (i 0 : Nat) < 8 := (i 0).isLt
    have h1 : (i 1 : Nat) < 4096 := (i 1).isLt
    have h2 : (i 2 : Nat) < 688 := (i 2).isLt
    have ht : 8 * ((i 1 : Nat) / 512) + (i 0 : Nat) < cfg0.N := by omega
    obtain ⟨e0, e1, e2⟩ := idx6 ⟨_, ht⟩
    dsimp only at e0 e1 e2
    refine ⟨⟨_, ht⟩, flush0_6 _, ?_⟩
    show i ∈ ((View.whole main_v9_1).slice (win0_6.rect ⟨_, ht⟩)).set
    rw [View.set_slice_whole, Rect.mem_set_unit]
    intro a
    match a with
    | ⟨0, _⟩ => show win0_6.index ⟨_, ht⟩ 0 * 1 ≤ (i 0 : Nat) ∧ (i 0 : Nat) < win0_6.index ⟨_, ht⟩ 0 * 1 + 1; omega
    | ⟨1, _⟩ => show win0_6.index ⟨_, ht⟩ 1 * 512 ≤ (i 1 : Nat) ∧ (i 1 : Nat) < win0_6.index ⟨_, ht⟩ 1 * 512 + 512; omega
    | ⟨2, _⟩ => show win0_6.index ⟨_, ht⟩ 2 * 688 ≤ (i 2 : Nat) ∧ (i 2 : Nat) < win0_6.index ⟨_, ht⟩ 2 * 688 + 688; omega

theorem out_h7 : (dats m 0 c).arrAt 7 cfg0.N = hidden (X m c) (W3 m c) := by
  have hN : cfg0.N = 64 := N_0
  refine (dats m 0 c).arrAt_eq_of_cover 7 (hidden (X m c) (W3 m c)) (fun t hf => ?_) fun i => ?_
  · obtain ⟨e0, e1, e2⟩ := idx7 t
    show (cfg0.win 7).cut (grid0.coords t) ((dats m 0 c).after 7 t) = _
    rw [after0_7]
    funext j
    obtain ⟨z, r, k, rfl⟩ : ∃ (z : Fin 1) (r : Fin 512) (k : Fin 688), j = ix3 z r k := ⟨_, _, _, eq_ix3 j⟩
    obtain rfl : z = 0 := Subsingleton.elim _ _
    rw [View.read_apply]
    have e : ((((cfg0.win 7).blk t).view.emb (ix3 0 r k)) : S8x4096x688.Idx) = ix3 (hj t) (rowOf (ri t) r) k := funext fun a => Fin.ext (by
      match a with
      | ⟨0, _⟩ => show win0_7.index t 0 * 1 + 1 * 0 = t.val % 8; omega
      | ⟨1, _⟩ => show win0_7.index t 1 * 512 + 1 * r.val = 512 * (t.val / 8) + r.val; omega
      | ⟨2, _⟩ => show win0_7.index t 2 * 688 + 1 * k.val = k.val; omega)
    refine Eq.trans ?_ (congrArg (hidden (X m c) (W3 m c)) e.symm)
    exact left7 m c t r k
  · have h0 : (i 0 : Nat) < 8 := (i 0).isLt
    have h1 : (i 1 : Nat) < 4096 := (i 1).isLt
    have h2 : (i 2 : Nat) < 688 := (i 2).isLt
    have ht : 8 * ((i 1 : Nat) / 512) + (i 0 : Nat) < cfg0.N := by omega
    obtain ⟨e0, e1, e2⟩ := idx7 ⟨_, ht⟩
    dsimp only at e0 e1 e2
    refine ⟨⟨_, ht⟩, flush0_7 _, ?_⟩
    show i ∈ ((View.whole main_v9_2).slice (win0_7.rect ⟨_, ht⟩)).set
    rw [View.set_slice_whole, Rect.mem_set_unit]
    intro a
    match a with
    | ⟨0, _⟩ => show win0_7.index ⟨_, ht⟩ 0 * 1 ≤ (i 0 : Nat) ∧ (i 0 : Nat) < win0_7.index ⟨_, ht⟩ 0 * 1 + 1; omega
    | ⟨1, _⟩ => show win0_7.index ⟨_, ht⟩ 1 * 512 ≤ (i 1 : Nat) ∧ (i 1 : Nat) < win0_7.index ⟨_, ht⟩ 1 * 512 + 512; omega
    | ⟨2, _⟩ => show win0_7.index ⟨_, ht⟩ 2 * 688 ≤ (i 2 : Nat) ∧ (i 2 : Nat) < win0_7.index ⟨_, ht⟩ 2 * 688 + 688; omega

end Cert.FfnfIdeal.Val

/-! ## The reference -/

namespace Cert.FfnfRefIdeal.Val

open Cert.FfnfRefIdeal Cert.FfnfRefIdeal.Gen Cert.FfnfRefIdeal.Read Cert.Shapes
open Cert.FfnRefIdeal.Read (colB hid logistic_word)
open Cert.FfnfIdeal.Val (gat term res hidden)
open Idealize.ShloMosaic

variable (x h : FVec Ideal S4096x2048 .f32) (w1 w3 : FVec Ideal S2048x5504 .f32) (w2 : FVec Ideal S5504x2048 .f32)

theorem hid_0 (w : FVec Ideal S2048x5504 .f32) (i : Fin 4096) (q : Fin 5504) : val_main_v0 (F := Ideal) x w (ix2 i q) = hid x w i q := by
  unfold hid
  pointwise [val_main_v0]

theorem hid_2 (i : Fin 4096) (q : Fin 5504) : val_main_v2 (F := Ideal) x w3 (ix2 i q) = hid x w3 i q := by
  unfold hid
  pointwise [val_main_v2]

theorem gated (i : Fin 4096) (q : Fin 5504) : val_main_v3 (F := Ideal) x w1 w3 (ix2 i q) = gat (hid x w1 i q) (hid x w3 i q) := by
  unfold gat
  rw [← hid_0 x w1, ← hid_2, ← logistic_word]
  pointwise [val_main_v3, val_main_v1, val_main_call0_v5, val_main_call0_v4, val_main_call0_cst_0, val_main_call0_v3, val_main_call0_v2, val_main_call0_cst, val_main_call0_v1, val_main_call0_v0]

theorem ref_res : val_main_v7 (F := Ideal) x h w1 w3 w2 = res x h w1 w3 w2 := by
  funext j
  obtain ⟨i, d, rfl⟩ : ∃ (i : Fin 4096) (d : Fin 2048), j = ix2 i d := ⟨_, _, eq_ix2 j⟩
  show _ = h (ix2 i d) + Ideal.ofBits .f32 0x3F000000#32 * ∑ q : Fin 5504, term x w1 w3 w2 i d q
  unfold term
  simp only [← gated]
  pointwise [val_main_v7, val_main_v6, val_main_v5, val_main_v4, val_main_cst]

theorem ref_1 : val_main_v11 (F := Ideal) x w1 = hidden x w1 := by
  funext j
  obtain ⟨j, i, k, rfl⟩ : ∃ (j' : Fin 8) (i : Fin 4096) (k : Fin 688), j = ix3 j' i k := ⟨_, _, _, eq_ix3 j⟩
  show _ = hid x w1 i (colB j k)
  rw [← hid_0]
  pointwise [val_main_v11, val_main_v10, val_main_v9]
  simp only [colB, Nat.mul_comm]
  rfl

theorem ref_3 : val_main_v15 (F := Ideal) x w3 = hidden x w3 := ref_1 x w3

end Cert.FfnfRefIdeal.Val

/-! ## The claim -/

namespace Cert.Ffnf.Claim

open Idealize.ShloMosaic Idealize.ShloMosaic.TcCoe Idealize.SL.Sem
open Cert.FfnfIdeal.Val (X H W1 W3 W2 res hidden)

theorem frame_ref : Cert.quiescent_FfnfRefIdeal (hFfnfRefIdeal := Cert.FfnfRefIdeal.Gen.facts) := fun m g _ =>
  (θ_run _ _ _).mono (fun r h => ⟨fun c => (h c).2.2.2, sem_eq_zero_of_no_sems (by decide) r.2⟩)
    (Cert.FfnfRefIdeal.Value.run (F := Ideal) m g)

theorem algebraic : Cert.algebraic_FfnfIdeal_FfnfRefIdeal (hFfnfIdeal := Cert.FfnfIdeal.Gen.facts) (hFfnfRefIdeal := Cert.FfnfRefIdeal.Gen.facts) := by
  intro m g m' g' _ hargs
  refine ⟨fun c => res (X m c) (H m c) (W1 m c) (W3 m c) (W2 m c), fun c => hidden (X m c) (W1 m c), fun c => hidden (X m c) (W3 m c), ?_, ?_⟩
  · refine (θ_run _ _ _).mono (fun r h c => ?_) (Cert.FfnfIdeal.Value.run_blocks (F := Ideal) m g)
    obtain ⟨h0, h1, h2, h3⟩ := h c
    exact ⟨h0.trans (Cert.FfnfIdeal.Val.out_res m c), h1.trans (Cert.FfnfIdeal.Val.out_h6 m c), h2.trans (Cert.FfnfIdeal.Val.out_h7 m c), h3⟩
  · refine (θ_run _ _ _).mono (fun r h c => ?_) (Cert.FfnfRefIdeal.Value.run (F := Ideal) m' g')
    obtain ⟨h0, h1, h2, h3⟩ := h c
    obtain ⟨e0, e1, e2, e3, e4⟩ := hargs c
    refine ⟨h0.trans ?_, h1.trans ?_, h2.trans ?_, h3⟩
    · rw [Cert.FfnfRefIdeal.Read.val_main_v7_eq, e0, e1, e2, e3, e4]; exact Cert.FfnfRefIdeal.Val.ref_res _ _ _ _ _
    · rw [Cert.FfnfRefIdeal.Read.val_main_v11_eq, e0, e2]; exact Cert.FfnfRefIdeal.Val.ref_1 _ _
    · rw [Cert.FfnfRefIdeal.Read.val_main_v15_eq, e0, e3]; exact Cert.FfnfRefIdeal.Val.ref_3 _ _

end Cert.Ffnf.Claim

end
-- ==== Proof.MlafPay.lean ====
/-
  The forward call of the rotary preparation: one grid point's results, one formula for every head, read at an index.
-/
module

public import proofs.«01_k».proof.Proof.Gen.MlafIdeal.Frame
public import proofs.«01_k».proof.Proof.Shapes
public import Idealize.ShloMosaic.Lib.Pointwise

@[expose] public section

set_option maxRecDepth 16384

noncomputable section

namespace Cert.MlafIdeal.Val

open Cert.MlafIdeal Cert.MlafIdeal.Gen Cert.Shapes
open Idealize.ShloMosaic Idealize.ShloMosaic.TcCoe

/-! ## One formula for every head -/

section
variable (x0 : Vec Ideal S512x512 .f32) (x1 : Vec Ideal S512x256 .f32) (x2 : Vec Ideal S512x128 .f32) (x3 x4 : Vec Ideal S512x192 .f32)
  (x5 : Vec Ideal S192x192 .bf16) (x6 : Vec Ideal S1x512 .f32) (x7 : Vec Ideal S1x256 .f32) (x8 x9 : Vec Ideal S1x192 .f32)
  (x10 : Vec Ideal S8x512x192 .bf16) (x11 : Vec Ideal S8x256x256 .bf16)

/-- The normalised latents. -/
def cqv : FVec Ideal S512x512 .f32 := k0_pay16 (k0_pay2 (View.ld x0 r0_0)) (k0_pay8 (View.ld x6 r0_5)) (k0_pay14 (View.ld x0 r0_0)) (k0_pay15 (F := Ideal))
def ckvv : FVec Ideal S512x256 .f32 := k0_pay17 (k0_pay3 (View.ld x1 r0_1)) (k0_pay9 (View.ld x7 r0_6))

/-- A head's product with its weights. -/
def qin (o : ℕ) (hs : S8x512x192.Slices ![o, 0, 0] S1x512x192) : FVec Ideal S512x192 .f32 :=
  matmul dot_S512x512_S512x192_S512x192_1_0_0_1_n_n none (truncf .bf16 (cqv x0 x6) bitsLt_bf16_f32)
    (shapeCast S512x192 (extractStridedSlice S1x512x192 ![o, 0, 0] (k0_pay12 (View.ld x10 r0_8)) hs) shapeCasts_S1x512x192_S512x192) (constant S512x192 .f32 0x00000000#32)

def kvin (o : ℕ) (hs : S8x256x256.Slices ![o, 0, 0] S1x256x256) : FVec Ideal S512x256 .f32 :=
  matmul dot_S512x256_S256x256_S512x256_1_0_0_1_n_n none (truncf .bf16 (ckvv x1 x7) bitsLt_bf16_f32)
    (shapeCast S256x256 (extractStridedSlice S1x256x256 ![o, 0, 0] (k0_pay13 (View.ld x11 r0_9)) hs) shapeCasts_S1x256x256_S256x256) (constant S512x256 .f32 0x00000000#32)

def kin (o : ℕ) (hs : S8x256x256.Slices ![o, 0, 0] S1x256x256) : FVec Ideal S512x192 .f32 :=
  concatenate S512x192 1 [⟨S512x128, extractStridedSlice S512x128 ![0, 0] (kvin x1 x7 x11 o hs) slices_S512x256_o0_0_S512x128⟩, ⟨S512x64, k0_pay18 (k0_pay4 (View.ld x2 r0_2))⟩]
    concatenates_S512x128_S512x64_S512x192_d1

/-- The norm of a head, -/
def nv (z : FVec Ideal S512x192 .f32) (g : FVec Ideal S1x192 .f32) : FVec Ideal S512x192 .f32 :=
  mulf (mulf z (broadcastTo S512x192 (rsqrt (addf (divf (shapeCast S512x1 (multiReduction .add [1] S512 (mulf z z) 0x00000000#32 reduces_S512x192_S512 (.inl rfl) rfl) shapeCasts_S512_S512x1)
    (broadcast S512x1 (Scalar.ofBits .f32 0x43400000#32))) (broadcast S512x1 (Scalar.ofBits .f32 0x358637BD#32)))) broadcasts_S512x1_S512x192))
    (broadcastTo S512x192 g broadcasts_S1x192_S512x192)

/-- and its rotation. -/
def rope (u : FVec Ideal S512x192 .f32) : FVec Ideal S512x192 .f32 :=
  addf (mulf u (k0_pay5 (View.ld x3 r0_3)))
    (mulf (addf (matmul dot_S512x192_S192x192_S512x192_1_0_0_1_n_n none (truncf .bf16 u bitsLt_bf16_f32) (k0_pay7 (View.ld x5 r0_4)) (constant S512x192 .f32 0x00000000#32))
      (matmul dot_S512x192_S192x192_S512x192_1_0_0_1_n_n none (truncf .bf16 (subf u (extf .f32 (truncf .bf16 u bitsLt_bf16_f32) bitsLt_bf16_f32)) bitsLt_bf16_f32) (k0_pay7 (View.ld x5 r0_4))
        (constant S512x192 .f32 0x00000000#32))) (k0_pay6 (View.ld x4 r0_3)))

def outQ (o : ℕ) (hs : S8x512x192.Slices ![o, 0, 0] S1x512x192) : FVec Ideal S1x512x192 .bf16 :=
  shapeCast S1x512x192 (truncf .bf16 (mulf (rope x3 x4 x5 (nv (qin x0 x6 x10 o hs) (k0_pay10 (View.ld x8 r0_7)))) (broadcast S512x192 (Scalar.ofBits .f32 0x3D93CD3A#32))) bitsLt_bf16_f32)
    shapeCasts_S512x192_S1x512x192

def outK (o : ℕ) (hs : S8x256x256.Slices ![o, 0, 0] S1x256x256) : FVec Ideal S1x512x192 .bf16 :=
  shapeCast S1x512x192 (truncf .bf16 (rope x3 x4 x5 (nv (kin x1 x2 x7 x11 o hs) (k0_pay11 (View.ld x9 r0_7)))) bitsLt_bf16_f32) shapeCasts_S512x192_S1x512x192

def outV (o : ℕ) (hs : S8x256x256.Slices ![o, 0, 0] S1x256x256) : FVec Ideal S1x512x128 .bf16 :=
  shapeCast S1x512x128 (truncf .bf16 (extractStridedSlice S512x128 ![0, 128] (kvin x1 x7 x11 o hs) slices_S512x256_o0_128_S512x128) bitsLt_bf16_f32) shapeCasts_S512x128_S1x512x128

theorem out_12 : out0_12 x0 x1 x2 x3 x4 x5 x6 x7 x8 x9 x10 x11 = (let f := outQ x0 x3 x4 x5 x6 x8 x10; View.canon [⟨r0_24, f 7 slices_S8x512x192_o7_0_0_S1x512x192⟩, ⟨r0_22, f 6 slices_S8x512x192_o6_0_0_S1x512x192⟩, ⟨r0_20, f 5 slices_S8x512x192_o5_0_0_S1x512x192⟩, ⟨r0_18, f 4 slices_S8x512x192_o4_0_0_S1x512x192⟩, ⟨r0_16, f 3 slices_S8x512x192_o3_0_0_S1x512x192⟩, ⟨r0_14, f 2 slices_S8x512x192_o2_0_0_S1x512x192⟩, ⟨r0_12, f 1 slices_S8x512x192_o1_0_0_S1x512x192⟩, ⟨r0_10, f 0 slices_S8x512x192_o0_0_0_S1x512x192⟩]) := rfl

theorem out_13 : out0_13 x0 x1 x2 x3 x4 x5 x6 x7 x8 x9 x10 x11 = (let f := outK x1 x2 x3 x4 x5 x7 x9 x11; View.canon [⟨r0_24, f 7 slices_S8x256x256_o7_0_0_S1x256x256⟩, ⟨r0_22, f 6 slices_S8x256x256_o6_0_0_S1x256x256⟩, ⟨r0_20, f 5 slices_S8x256x256_o5_0_0_S1x256x256⟩, ⟨r0_18, f 4 slices_S8x256x256_o4_0_0_S1x256x256⟩, ⟨r0_16, f 3 slices_S8x256x256_o3_0_0_S1x256x256⟩, ⟨r0_14, f 2 slices_S8x256x256_o2_0_0_S1x256x256⟩, ⟨r0_12, f 1 slices_S8x256x256_o1_0_0_S1x256x256⟩, ⟨r0_10, f 0 slices_S8x256x256_o0_0_0_S1x256x256⟩]) := rfl

theorem out_14 : out0_14 x0 x1 x2 x3 x4 x5 x6 x7 x8 x9 x10 x11 = (let f := outV x1 x7 x11; View.canon [⟨r0_25, f 7 slices_S8x256x256_o7_0_0_S1x256x256⟩, ⟨r0_23, f 6 slices_S8x256x256_o6_0_0_S1x256x256⟩, ⟨r0_21, f 5 slices_S8x256x256_o5_0_0_S1x256x256⟩, ⟨r0_19, f 4 slices_S8x256x256_o4_0_0_S1x256x256⟩, ⟨r0_17, f 3 slices_S8x256x256_o3_0_0_S1x256x256⟩, ⟨r0_15, f 2 slices_S8x256x256_o2_0_0_S1x256x256⟩, ⟨r0_13, f 1 slices_S8x256x256_o1_0_0_S1x256x256⟩, ⟨r0_11, f 0 slices_S8x256x256_o0_0_0_S1x256x256⟩]) := rfl

/-! ## Read at an index -/

/-- An entry of a normalised row. -/
def nrm {n : ℕ} (d : BitVec 32) (z g : Fin n → EReal) (k : Fin n) : EReal :=
  z k * Ideal.rsqrt (Ideal.div (∑ j, z j * z j) (Ideal.ofBits .f32 d) + Ideal.ofBits .f32 0x358637BD#32) * g k

theorem cqv_apply (r : Fin 512) (k : Fin 512) : cqv x0 x6 (ix2 r k) = nrm 0x44000000#32 (fun j => x0 (ix2 r j)) (fun j => x6 (ix2 0 j)) k := by
  unfold cqv nrm
  rw [View.ld_unit_zero (S := S512x512) hz2, View.ld_unit_zero (S := S1x512) hz2]
  pointwise [k0_pay16, k0_pay2, k0_pay8, k0_pay14, k0_pay15, zero_add]

theorem ckvv_apply (r : Fin 512) (k : Fin 256) : ckvv x1 x7 (ix2 r k) = nrm 0x43800000#32 (fun j => x1 (ix2 r j)) (fun j => x7 (ix2 0 j)) k := by
  unfold ckvv nrm
  rw [View.ld_unit_zero (S := S512x256) hz2, View.ld_unit_zero (S := S1x256) hz2]
  pointwise [k0_pay17, k0_pay3, k0_pay9, zero_add]

theorem qin_apply (o : ℕ) (hs : S8x512x192.Slices ![o, 0, 0] S1x512x192) (ho : o < 8) (r : Fin 512) (j : Fin 192) :
    qin x0 x6 x10 o hs (ix2 r j) = ∑ e : Fin 512, cqv x0 x6 (ix2 r e) * x10 (ix3 ⟨o, ho⟩ e j) := by
  unfold qin
  rw [View.ld_unit_zero (S := S8x512x192) hz3]
  generalize cqv x0 x6 = u
  pointwise [k0_pay12, zero_add]

theorem kvin_apply (o : ℕ) (hs : S8x256x256.Slices ![o, 0, 0] S1x256x256) (ho : o < 8) (r : Fin 512) (j : Fin 256) :
    kvin x1 x7 x11 o hs (ix2 r j) = ∑ e : Fin 256, ckvv x1 x7 (ix2 r e) * x11 (ix3 ⟨o, ho⟩ e j) := by
  unfold kvin
  rw [View.ld_unit_zero (S := S8x256x256) hz3]
  generalize ckvv x1 x7 = u
  pointwise [k0_pay13, zero_add]

theorem kin_lo (o : ℕ) (hs : S8x256x256.Slices ![o, 0, 0] S1x256x256) (r : Fin 512) (j : Fin 128) :
    kin x1 x2 x7 x11 o hs (ix2 r ⟨j.val, by omega⟩) = kvin x1 x7 x11 o hs (ix2 r ⟨j.val, by omega⟩) := by
  unfold kin
  generalize kvin x1 x7 x11 o hs = u
  pointwise

theorem kin_hi (o : ℕ) (hs : S8x256x256.Slices ![o, 0, 0] S1x256x256) (r : Fin 512) (j : Fin 64) :
    kin x1 x2 x7 x11 o hs (ix2 r ⟨128 + j.val, by omega⟩) = x2 (ix2 r ⟨j.val, by omega⟩) := by
  unfold kin
  rw [View.ld_unit_zero (S := S512x128) hz2]
  generalize kvin x1 x7 x11 o hs = u
  pointwise [k0_pay18, k0_pay4]

theorem nv_apply (z : FVec Ideal S512x192 .f32) (g : FVec Ideal S1x192 .f32) (r : Fin 512) (k : Fin 192) :
    nv z g (ix2 r k) = nrm 0x43400000#32 (fun j => z (ix2 r j)) (fun j => g (ix2 0 j)) k := by
  unfold nrm
  pointwise [nv, zero_add]

theorem rope_apply (u : FVec Ideal S512x192 .f32) (r : Fin 512) (k : Fin 192) : rope x3 x4 x5 u (ix2 r k)
    = u (ix2 r k) * x3 (ix2 r k) + ((∑ i : Fin 192, u (ix2 r i) * x5 (ix2 i k)) + ∑ i : Fin 192, (u (ix2 r i) - u (ix2 r i)) * x5 (ix2 i k)) * x4 (ix2 r k) := by
  unfold rope
  rw [View.ld_unit_zero (S := S512x192) hz2, View.ld_unit_zero (S := S192x192) hz2, View.ld_unit_zero (S := S512x192) hz2]
  pointwise [k0_pay5, k0_pay6, k0_pay7, zero_add]

theorem outQ_apply (o : ℕ) (hs : S8x512x192.Slices ![o, 0, 0] S1x512x192) (r : Fin 512) (k : Fin 192) :
    outQ x0 x3 x4 x5 x6 x8 x10 o hs (ix3 0 r k) = rope x3 x4 x5 (nv (qin x0 x6 x10 o hs) x8) (ix2 r k) * Ideal.ofBits .f32 0x3D93CD3A#32 := by
  unfold outQ k0_pay10
  rw [View.ld_unit_zero (S := S1x192) hz2, shapeCast_self]
  generalize rope x3 x4 x5 (nv (qin x0 x6 x10 o hs) x8) = u
  pointwise

theorem outK_apply (o : ℕ) (hs : S8x256x256.Slices ![o, 0, 0] S1x256x256) (r : Fin 512) (k : Fin 192) :
    outK x1 x2 x3 x4 x5 x7 x9 x11 o hs (ix3 0 r k) = rope x3 x4 x5 (nv (kin x1 x2 x7 x11 o hs) x9) (ix2 r k) := by
  unfold outK k0_pay11
  rw [View.ld_unit_zero (S := S1x192) hz2, shapeCast_self]
  generalize rope x3 x4 x5 (nv (kin x1 x2 x7 x11 o hs) x9) = u
  pointwise

theorem outV_apply (o : ℕ) (hs : S8x256x256.Slices ![o, 0, 0] S1x256x256) (r : Fin 512) (k : Fin 128) :
    outV x1 x7 x11 o hs (ix3 0 r k) = kvin x1 x7 x11 o hs (ix2 r ⟨128 + k.val, by omega⟩) := by
  unfold outV
  generalize kvin x1 x7 x11 o hs = u
  pointwise

end

end Cert.MlafIdeal.Val

end
-- ==== Proof.MlafHost.lean ====
/-
  The forward call of the rotary preparation: the arrays the call stages, read at an index.
-/
module

public import proofs.«01_k».proof.Proof.MlafPay
public import Idealize.ShloMosaic.Lib.StableHlo.ReadAt

@[expose] public section

set_option maxRecDepth 16384

noncomputable section

namespace Cert.MlafIdeal.Val

open Cert.MlafIdeal Cert.MlafIdeal.Gen Cert.Shapes
open Idealize.ShloMosaic Idealize.ShloMosaic.TcCoe Idealize.SL.Sem
open Idealize.ShloMosaic.Pipeline

/-- Column `j` of head `h` of each up-projection. -/
def colQ (h : Fin 8) (j : Fin 192) : Fin 1536 := ⟨192 * h.val + j.val, by omega⟩
def colK (h : Fin 8) (j : Fin 256) : Fin 2048 := ⟨256 * h.val + j.val, by omega⟩

variable (m : (ℓ : Loc nD τ sig) → Buf (Elt Ideal) ℓ) (c : Dev nD)

def Cq : FVec Ideal S4096x512 .f32 := m (c, Proc.devRef .tc main_arg0)
def Ckv : FVec Ideal S4096x256 .f32 := m (c, Proc.devRef .tc main_arg1)
def Kr : FVec Ideal S4096x64 .f32 := m (c, Proc.devRef .tc main_arg2)
def Co : FVec Ideal S4096x32 .f32 := m (c, Proc.devRef .tc main_arg3)
def Si : FVec Ideal S4096x32 .f32 := m (c, Proc.devRef .tc main_arg4)
def Qa : FVec Ideal S512 .f32 := m (c, Proc.devRef .tc main_arg5)
def Kva : FVec Ideal S256 .f32 := m (c, Proc.devRef .tc main_arg6)
def Qn : FVec Ideal S192 .f32 := m (c, Proc.devRef .tc main_arg7)
def Kn : FVec Ideal S192 .f32 := m (c, Proc.devRef .tc main_arg8)
def Wu : FVec Ideal S512x1536 .f32 := m (c, Proc.devRef .tc main_arg9)
def Wk : FVec Ideal S256x2048 .f32 := m (c, Proc.devRef .tc main_arg10)

theorem Wu_apply (h : Fin 8) (e : Fin 512) (j : Fin 192) : V m c main_v41 (ix3 h e j) = Wu m c (ix2 e (colQ h j)) := by
  unfold V hostOps0
  after_reads_at
  simp only [colQ, Nat.mul_comm]
  rfl

theorem Wk_apply (h : Fin 8) (e : Fin 256) (j : Fin 256) : V m c main_v44 (ix3 h e j) = Wk m c (ix2 e (colK h j)) := by
  unfold V hostOps0
  after_reads_at
  simp only [colK, Nat.mul_comm]
  rfl

theorem Qa_apply (j : Fin 512) : V m c main_v35 (ix2 0 j) = Qa m c (ix1 j) := by
  unfold V hostOps0
  after_reads_at
  rfl

theorem z_eq : V m c main_v1 = concatenate S4096x1024 1 [⟨S4096x512, Cq m c⟩, ⟨S4096x256, Ckv m c⟩, ⟨S4096x64, Kr m c⟩,
    ⟨S4096x192, broadcastInDim S4096x192 ![] bcast_S_S4096x192 (constant (F := Ideal) S_ .f32 0x00000000#32)⟩] concatenates_S4096x512_S4096x256_S4096x64_S4096x192_S4096x1024_d1 := by
  unfold V hostOps0
  after_reads_simp
  rfl

theorem z0 (n : Fin 4096) (j : Fin 512) : V m c main_v1 (ix2 n ⟨j.val, by omega⟩) = Cq m c (ix2 n j) := by
  rw [z_eq]
  generalize Cq m c = a, Ckv m c = b, Kr m c = d
  pointwise

theorem z1 (n : Fin 4096) (j : Fin 256) : V m c main_v1 (ix2 n ⟨512 + j.val, by omega⟩) = Ckv m c (ix2 n j) := by
  rw [z_eq]
  generalize Cq m c = a, Ckv m c = b, Kr m c = d
  pointwise

theorem z2 (n : Fin 4096) (j : Fin 64) : V m c main_v1 (ix2 n ⟨768 + j.val, by omega⟩) = Kr m c (ix2 n j) := by
  rw [z_eq]
  generalize Cq m c = a, Ckv m c = b, Kr m c = d
  pointwise
  rw [dif_neg (by omega), dif_neg (by omega), dif_pos (by omega)]
  exact congrArg (fun q => d (ix2 n q)) (Fin.ext (by show 768 + j.val - 512 - 256 = j.val; omega))

theorem Kva_apply (j : Fin 256) : V m c main_v36 (ix2 0 j) = Kva m c (ix1 j) := by
  unfold V hostOps0
  after_reads_at
  rfl

theorem Qn_apply (j : Fin 192) : V m c main_v37 (ix2 0 j) = Qn m c (ix1 j) := by
  unfold V hostOps0
  after_reads_at
  rfl

theorem Kn_apply (j : Fin 192) : V m c main_v38 (ix2 0 j) = Kn m c (ix1 j) := by
  unfold V hostOps0
  after_reads_at
  rfl

theorem tab_eq : V m c main_v4 = concatenate S4096x192 1 [⟨S4096x128, broadcastInDim S4096x128 ![] bcast_S_S4096x128 (constant (F := Ideal) S_ .f32 0x3F800000#32)⟩,
    ⟨S4096x32, Co m c⟩, ⟨S4096x32, Co m c⟩] concatenates_S4096x128_S4096x32_S4096x32_S4096x192_d1 := by
  unfold V hostOps0
  after_reads_simp
  rfl

theorem tab_eq' : V m c main_v5 = concatenate S4096x192 1 [⟨S4096x128, broadcastInDim S4096x128 ![] bcast_S_S4096x128 (constant (F := Ideal) S_ .f32 0x00000000#32)⟩,
    ⟨S4096x32, Si m c⟩, ⟨S4096x32, Si m c⟩] concatenates_S4096x128_S4096x32_S4096x32_S4096x192_d1 := by
  unfold V hostOps0
  after_reads_simp
  rfl

/-- A table: a constant below column 128, the given column twice above it. -/
def tab (f : EReal) (x : Fin 32 → EReal) (k : Fin 192) : EReal :=
  if h : k.val < 128 then f else if h : k.val - 128 < 32 then x ⟨k.val - 128, by omega⟩ else x ⟨k.val - 128 - 32, by omega⟩

theorem cos_apply (n : Fin 4096) (k : Fin 192) : V m c main_v4 (ix2 n k) = tab 1 (fun j => Co m c (ix2 n j)) k := by
  rw [tab_eq]
  generalize Co m c = a
  unfold tab
  pointwise

theorem sin_apply (n : Fin 4096) (k : Fin 192) : V m c main_v5 (ix2 n k) = tab 0 (fun j => Si m c (ix2 n j)) k := by
  rw [tab_eq']
  generalize Si m c = a
  unfold tab
  pointwise

/-- The row and the column number of each entry, and the two masks of the rotation. -/
def rowNo : IVec S192x192 32 := broadcastInDim S192x192 ![0, 1] bcast_S192x1_S192x192_0_1 (broadcastInDim S192x1 ![0] bcast_S192_S192x1_0 (iotaInDim S192 32 0))
def colNo : IVec S1x192 32 := broadcastInDim S1x192 ![1] bcast_S192_S1x192_1 (iotaInDim S192 32 0)
def word (w : BitVec 32) : IVec S1x192 32 := broadcastInDim S1x192 ![] bcast_S_S1x192 (constantI S_ 32 w)
def first : IVec S192x192 1 := andi (broadcastInDim S192x192 ![0, 1] bcast_S1x192_S192x192_0_1 (andi (cmpi .sge colNo (word 128#32)) (cmpi .slt colNo (word 160#32))))
  (cmpi .eq rowNo (broadcastInDim S192x192 ![0, 1] bcast_S1x192_S192x192_0_1 (addi colNo (word 32#32))))
def second : IVec S192x192 1 := andi (broadcastInDim S192x192 ![0, 1] bcast_S1x192_S192x192_0_1 (cmpi .sge colNo (word 160#32)))
  (cmpi .eq rowNo (broadcastInDim S192x192 ![0, 1] bcast_S1x192_S192x192_0_1 (subi colNo (word 32#32))))
def full (w : BitVec 32) : FVec Ideal S192x192 .f32 := broadcastInDim S192x192 ![] bcast_S_S192x192 (constant S_ .f32 w)

theorem rot_eq : V m c main_v34 = select first (full 0xBF800000#32) (select second (full 0x3F800000#32) (full 0x00000000#32)) := by
  unfold V hostOps0
  after_reads_simp
  rfl

theorem first_apply (i j : Fin 192) : first (ix2 i j) = if 128 ≤ j.val ∧ j.val < 160 ∧ i.val = j.val + 32 then 1#1 else 0#1 := by
  pointwise [first, rowNo, colNo, word]
  revert i j
  decide +kernel

theorem second_apply (i j : Fin 192) : second (ix2 i j) = if 160 ≤ j.val ∧ j.val = i.val + 32 then 1#1 else 0#1 := by
  pointwise [second, rowNo, colNo, word]
  revert i j
  decide +kernel

/-- An entry of the rotation. -/
def rot (i j : Fin 192) : EReal :=
  if 128 ≤ j.val ∧ j.val < 160 ∧ i.val = j.val + 32 then Ideal.ofBits .f32 0xBF800000#32 else if 160 ≤ j.val ∧ j.val = i.val + 32 then 1 else 0

theorem rot_apply (i j : Fin 192) : V m c main_v34 (ix2 i j) = rot i j := by
  rw [rot_eq]
  have ha := first_apply i j
  have hb := second_apply i j
  generalize first = a, second = b at *
  pointwise [full]
  rw [ha, hb]
  unfold rot Scalar.select
  by_cases h1 : 128 ≤ j.val ∧ j.val < 160 ∧ i.val = j.val + 32
  · rw [if_pos h1, if_pos h1]; exact if_pos rfl
  · rw [if_neg h1, if_neg h1, if_neg (by decide)]
    by_cases h2 : 160 ≤ j.val ∧ j.val = i.val + 32
    · rw [if_pos h2, if_pos h2]; exact if_pos rfl
    · rw [if_neg h2, if_neg h2, if_neg (by decide)]

end Cert.MlafIdeal.Val

end
-- ==== Proof.MlafSpec.lean ====
/-
  The forward call of the rotary preparation: its three results as plain formulas, and the two facts that take the
  kernel's form of the rotation to the plain one.
-/
module

public import proofs.«01_k».proof.Proof.MlafHost

@[expose] public section

set_option maxRecDepth 16384

noncomputable section

namespace Cert.MlafIdeal.Val

open Cert.MlafIdeal Cert.Shapes
open Idealize.ShloMosaic Idealize.ShloMosaic.TcCoe

/-! ## The results -/

/-- A row rotated: unchanged below column 128, the two halves above it turned by the angle. -/
def plain (co si : Fin 32 → EReal) (u : Fin 192 → EReal) (k : Fin 192) : EReal :=
  if h : k.val < 128 then u k
  else if h' : k.val - 128 < 32 then
    u ⟨128 + (k.val - 128), by omega⟩ * co ⟨k.val - 128, by omega⟩ - u ⟨128 + (32 + (k.val - 128)), by omega⟩ * si ⟨k.val - 128, by omega⟩
  else u ⟨128 + (32 + (k.val - 128 - 32)), by omega⟩ * co ⟨k.val - 128 - 32, by omega⟩
    + u ⟨128 + (k.val - 128 - 32), by omega⟩ * si ⟨k.val - 128 - 32, by omega⟩

section
variable (cq : FVec Ideal S4096x512 .f32) (ckv : FVec Ideal S4096x256 .f32) (kr : FVec Ideal S4096x64 .f32) (co si : FVec Ideal S4096x32 .f32)
  (qa : FVec Ideal S512 .f32) (kva : FVec Ideal S256 .f32) (qn kn : FVec Ideal S192 .f32) (wu : FVec Ideal S512x1536 .f32) (wk : FVec Ideal S256x2048 .f32)

/-- The projected query row, the projected key and value row, and the key row, of one head. -/
def ql (n : Fin 4096) (h : Fin 8) (j : Fin 192) : EReal :=
  ∑ e : Fin 512, nrm 0x44000000#32 (fun j => cq (ix2 n j)) (fun j => qa (ix1 j)) e * wu (ix2 e (colQ h j))
def kvl (n : Fin 4096) (h : Fin 8) (j : Fin 256) : EReal :=
  ∑ e : Fin 256, nrm 0x43800000#32 (fun j => ckv (ix2 n j)) (fun j => kva (ix1 j)) e * wk (ix2 e (colK h j))
def kl (n : Fin 4096) (h : Fin 8) (j : Fin 192) : EReal :=
  if h' : j.val < 128 then kvl ckv kva wk n h ⟨j.val, by omega⟩ else kr (ix2 n ⟨j.val - 128, by omega⟩)
def qh (n : Fin 4096) (h : Fin 8) : Fin 192 → EReal := nrm 0x43400000#32 (ql cq qa wu n h) (fun j => qn (ix1 j))
def kh (n : Fin 4096) (h : Fin 8) : Fin 192 → EReal := nrm 0x43400000#32 (kl ckv kr kva wk n h) (fun j => kn (ix1 j))

def resQ : FVec Ideal S8x4096x192 .bf16 := fun i =>
  plain (fun j => co (ix2 (i 1) j)) (fun j => si (ix2 (i 1) j)) (qh cq qa qn wu (i 1) (i 0)) (i 2) * Ideal.ofBits .f32 0x3D93CD3A#32
def resK : FVec Ideal S8x4096x192 .bf16 := fun i =>
  plain (fun j => co (ix2 (i 1) j)) (fun j => si (ix2 (i 1) j)) (kh ckv kr kva kn wk (i 1) (i 0)) (i 2)
def resV : FVec Ideal S8x4096x128 .bf16 := fun i => kvl ckv kva wk (i 1) (i 0) ⟨128 + (i 2).val, Nat.add_lt_add_left (i 2).isLt 128⟩

/-! ## Real rows -/

def IsR (x : EReal) : Prop := ∃ r : ℝ, x = r

theorem IsR.sub_self {x : EReal} (h : IsR x) : x - x = 0 := by
  obtain ⟨r, rfl⟩ := h
  rw [← EReal.coe_sub, _root_.sub_self, EReal.coe_zero]

theorem sum_real {n : ℕ} {f g : Fin n → EReal} (hf : ∀ j, IsR (f j)) (hg : ∀ j, IsR (g j)) : IsR (∑ j, f j * g j) := by
  choose a ha using hf
  choose b hb using hg
  exact ⟨∑ j, a j * b j, by simp only [ha, hb, ← EReal.coe_mul, ← coe_sum]⟩

theorem eps_eq : Ideal.ofBits .f32 0x358637BD#32 = ((8796093 / 8796093022208 : ℝ) : EReal) := by
  simp [Ideal.ofBits, Ideal.ieee, -EReal.coe_mul]; norm_num

theorem nrm_real {n : ℕ} {d : BitVec 32} {D : ℝ} (hd : Ideal.ofBits .f32 d = (D : EReal)) (hD : 0 < D) {z g : Fin n → EReal}
    (hz : ∀ j, IsR (z j)) (hg : ∀ j, IsR (g j)) (k : Fin n) : IsR (nrm d z g k) := by
  choose a ha using hz
  choose b hb using hg
  have hp : 0 < (∑ j, a j * a j) * (1 / D) + 8796093 / 8796093022208 :=
    add_pos_of_nonneg_of_pos (mul_nonneg (Finset.sum_nonneg fun j _ => mul_self_nonneg _) (one_div_pos.2 hD).le) (by norm_num)
  refine ⟨a k * (Real.sqrt ((∑ j, a j * a j) * (1 / D) + 8796093 / 8796093022208))⁻¹ * b k, ?_⟩
  unfold nrm
  simp only [ha, hb, ← EReal.coe_mul, ← coe_sum]
  rw [hd, Ideal.div_coe hD.ne', ← EReal.coe_mul, eps_eq, ← EReal.coe_add]
  have e : Ideal.rsqrt (((∑ j, a j * a j) * (1 / D) + 8796093 / 8796093022208 : ℝ) : EReal)
      = ((Real.sqrt ((∑ j, a j * a j) * (1 / D) + 8796093 / 8796093022208))⁻¹ : ℝ) := by
    rw [Ideal.rsqrt_coe, if_neg (not_lt.2 hp.le), if_neg hp.ne']
  rw [e, ← EReal.coe_mul, ← EReal.coe_mul]

theorem d512 : Ideal.ofBits .f32 0x44000000#32 = ((512 : ℝ) : EReal) := by
  simp [Ideal.ofBits, Ideal.ieee, -EReal.coe_mul]; norm_num
theorem d256 : Ideal.ofBits .f32 0x43800000#32 = ((256 : ℝ) : EReal) := by
  simp [Ideal.ofBits, Ideal.ieee, -EReal.coe_mul]; norm_num
theorem d192 : Ideal.ofBits .f32 0x43400000#32 = ((192 : ℝ) : EReal) := by
  simp [Ideal.ofBits, Ideal.ieee, -EReal.coe_mul]; norm_num

theorem qh_real (h0 : ∀ i, IsR (cq i)) (h5 : ∀ i, IsR (qa i)) (h7 : ∀ i, IsR (qn i)) (h9 : ∀ i, IsR (wu i)) (n : Fin 4096) (h : Fin 8) (k : Fin 192) :
    IsR (qh cq qa qn wu n h k) :=
  nrm_real d192 (by norm_num) (fun j => sum_real (nrm_real d512 (by norm_num) (fun _ => h0 _) fun _ => h5 _) fun _ => h9 _) (fun _ => h7 _) k

theorem kl_real (h1 : ∀ i, IsR (ckv i)) (h2 : ∀ i, IsR (kr i)) (h6 : ∀ i, IsR (kva i)) (h10 : ∀ i, IsR (wk i)) (n : Fin 4096) (h : Fin 8) (j : Fin 192) :
    IsR (kl ckv kr kva wk n h j) := by
  unfold kl
  split
  · exact sum_real (nrm_real d256 (by norm_num) (fun _ => h1 _) fun _ => h6 _) fun _ => h10 _
  · exact h2 _

theorem kh_real (h1 : ∀ i, IsR (ckv i)) (h2 : ∀ i, IsR (kr i)) (h6 : ∀ i, IsR (kva i)) (h8 : ∀ i, IsR (kn i)) (h10 : ∀ i, IsR (wk i))
    (n : Fin 4096) (h : Fin 8) (k : Fin 192) : IsR (kh ckv kr kva kn wk n h k) :=
  nrm_real d192 (by norm_num) (kl_real ckv kr kva wk h1 h2 h6 h10 n h) (fun _ => h8 _) k

end

/-! ## The rotation -/

theorem minus_one : Ideal.ofBits .f32 0xBF800000#32 = -1 := by
  have e : Ideal.ofBits .f32 0xBF800000#32 = ((-1 : ℝ) : EReal) := by
    simp [Ideal.ofBits, Ideal.ieee, -EReal.coe_mul]; norm_num
  rw [e, EReal.coe_neg, EReal.coe_one]

theorem rot_low (u : Fin 192 → EReal) (k : Fin 192) (h : ¬k.val < 128) (h' : k.val - 128 < 32) :
    ∑ i, u i * rot i k = -u ⟨128 + (32 + (k.val - 128)), by omega⟩ := by
  rw [Finset.sum_eq_single (⟨128 + (32 + (k.val - 128)), by omega⟩ : Fin 192) (fun i _ hi => ?_) fun hi => absurd (Finset.mem_univ _) hi]
  · unfold rot
    rw [if_pos (by dsimp only; omega), minus_one, mul_neg, mul_one]
  · have hne : i.val ≠ 128 + (32 + (k.val - 128)) := fun e => hi (Fin.ext e)
    unfold rot
    rw [if_neg (by omega), if_neg (by omega), mul_zero]

theorem rot_high (u : Fin 192 → EReal) (k : Fin 192) (h : ¬k.val < 128) (h' : ¬k.val - 128 < 32) :
    ∑ i, u i * rot i k = u ⟨128 + (k.val - 128 - 32), by omega⟩ := by
  rw [Finset.sum_eq_single (⟨128 + (k.val - 128 - 32), by omega⟩ : Fin 192) (fun i _ hi => ?_) fun hi => absurd (Finset.mem_univ _) hi]
  · unfold rot
    rw [if_neg (by dsimp only; omega), if_pos (by dsimp only; omega), mul_one]
  · have hne : i.val ≠ 128 + (k.val - 128 - 32) := fun e => hi (Fin.ext e)
    unfold rot
    rw [if_neg (by omega), if_neg (by omega), mul_zero]

theorem rope_plain (co si : Fin 32 → EReal) (u : Fin 192 → EReal) (hu : ∀ i, IsR (u i)) (k : Fin 192) :
    u k * tab 1 co k + ((∑ i, u i * rot i k) + ∑ i, (u i - u i) * rot i k) * tab 0 si k = plain co si u k := by
  simp only [fun i => (hu i).sub_self, zero_mul, Finset.sum_const_zero, add_zero]
  unfold tab plain
  by_cases h : k.val < 128
  · rw [dif_pos h, dif_pos h, dif_pos h, mul_one, mul_zero, add_zero]
  · rw [dif_neg h, dif_neg h, dif_neg h]
    by_cases h' : k.val - 128 < 32
    · have ek : (⟨128 + (k.val - 128), by omega⟩ : Fin 192) = k := Fin.ext (by dsimp only; omega)
      rw [dif_pos h', dif_pos h', dif_pos h', rot_low u k h h', EReal.neg_mul, ← sub_eq_add_neg, ek]
    · have ek : (⟨128 + (32 + (k.val - 128 - 32)), by omega⟩ : Fin 192) = k := Fin.ext (by dsimp only; omega)
      rw [dif_neg h', dif_neg h', dif_neg h', rot_high u k h h', ek]

end Cert.MlafIdeal.Val

end
-- ==== Proof.MlafRef.lean ====
/-
  The forward call of the rotary preparation: what the reference computes, read at an index.
-/
module

public import proofs.«01_k».proof.Proof.MlafSpec
public import proofs.«01_k».proof.Proof.Gen.MlafRefIdeal.Read

@[expose] public section

set_option maxRecDepth 16384

noncomputable section

namespace Cert.MlafRefIdeal.Val

open Cert.MlafRefIdeal Cert.MlafRefIdeal.Gen Cert.MlafRefIdeal.Read Cert.Shapes
open Cert.MlafIdeal.Val (nrm colQ colK ql kvl kl qh kh plain resQ resK resV)
open Idealize.ShloMosaic

variable (cq : FVec Ideal S4096x512 .f32) (ckv : FVec Ideal S4096x256 .f32) (kr : FVec Ideal S4096x64 .f32) (co si : FVec Ideal S4096x32 .f32)
  (qa : FVec Ideal S512 .f32) (kva : FVec Ideal S256 .f32) (qn kn : FVec Ideal S192 .f32) (wu : FVec Ideal S512x1536 .f32) (wk : FVec Ideal S256x2048 .f32)

theorem v12 (n : Fin 4096) (k : Fin 512) : val_main_v12 (F := Ideal) cq qa (ix2 n k) = nrm 0x44000000#32 (fun j => cq (ix2 n j)) (fun j => qa (ix1 j)) k := by
  unfold nrm
  pointwise [val_main_v12, val_main_v11, val_main_v10, val_main_v9, val_main_v8, val_main_v7, val_main_v6, val_main_v5, val_main_cst_1, val_main_v4, val_main_v3, val_main_cst_0, val_main_v2, val_main_v1, val_main_cst, val_main_v0]

theorem v27 (n : Fin 4096) (k : Fin 256) : val_main_v27 (F := Ideal) ckv kva (ix2 n k) = nrm 0x43800000#32 (fun j => ckv (ix2 n j)) (fun j => kva (ix1 j)) k := by
  unfold nrm
  pointwise [val_main_v27, val_main_v26, val_main_v25, val_main_v24, val_main_v23, val_main_v22, val_main_v21, val_main_v20, val_main_cst_4, val_main_v19, val_main_v18, val_main_cst_3, val_main_v17, val_main_v16, val_main_cst_2, val_main_v15]

theorem v14 (n : Fin 4096) (h : Fin 8) (j : Fin 192) : val_main_v14 (F := Ideal) cq qa wu (ix3 n h j) = ql cq qa wu n h j := by
  unfold ql
  simp only [← v12]
  unfold val_main_v14 val_main_v13
  generalize val_main_v12 (F := Ideal) cq qa = u
  pointwise
  simp only [colQ, Nat.mul_comm]

theorem v29 (n : Fin 4096) (h : Fin 8) (j : Fin 256) : val_main_v29 (F := Ideal) ckv kva wk (ix3 n h j) = kvl ckv kva wk n h j := by
  unfold kvl
  simp only [← v27]
  unfold val_main_v29 val_main_v28
  generalize val_main_v27 (F := Ideal) ckv kva = u
  pointwise
  simp only [colK, Nat.mul_comm]

theorem v34 (n : Fin 4096) (h : Fin 8) (j : Fin 192) : val_main_v34 (F := Ideal) ckv kr kva wk (ix3 n h j) = kl ckv kr kva wk n h j := by
  unfold kl
  simp only [← v29]
  unfold val_main_v34 val_main_v33 val_main_v32 val_main_v30
  generalize val_main_v29 (F := Ideal) ckv kva wk = u
  pointwise

theorem v47 (n : Fin 4096) (h : Fin 8) (k : Fin 192) : val_main_v47 (F := Ideal) cq qa qn wu (ix3 n h k) = qh cq qa qn wu n h k := by
  unfold qh nrm
  simp only [← v14]
  unfold val_main_v47 val_main_v44 val_main_v43 val_main_v42 val_main_v41 val_main_v39 val_main_v37 val_main_v36 val_main_v35
  generalize val_main_v14 (F := Ideal) cq qa wu = u
  pointwise [val_main_v46, val_main_v45, val_main_v40, val_main_cst_7, val_main_v38, val_main_cst_6, val_main_cst_5]

theorem v60 (n : Fin 4096) (h : Fin 8) (k : Fin 192) : val_main_v60 (F := Ideal) ckv kr kva kn wk (ix3 n h k) = kh ckv kr kva kn wk n h k := by
  unfold kh nrm
  simp only [← v34]
  unfold val_main_v60 val_main_v57 val_main_v56 val_main_v55 val_main_v54 val_main_v52 val_main_v50 val_main_v49 val_main_v48
  generalize val_main_v34 (F := Ideal) ckv kr kva wk = u
  pointwise [val_main_v59, val_main_v58, val_main_v53, val_main_cst_10, val_main_v51, val_main_cst_9, val_main_cst_8]

theorem ref_v : val_main_v104 (F := Ideal) ckv kva wk = resV ckv kva wk := by
  funext i
  obtain ⟨h, n, k, rfl⟩ : ∃ (h : Fin 8) (n : Fin 4096) (k : Fin 128), i = ix3 h n k := ⟨_, _, _, eq_ix3 i⟩
  show _ = kvl ckv kva wk n h ⟨128 + k.val, Nat.add_lt_add_left k.isLt 128⟩
  rw [← v29]
  unfold val_main_v104 val_main_v103 val_main_v31
  generalize val_main_v29 (F := Ideal) ckv kva wk = u
  pointwise

theorem ref_q : val_main_v100 (F := Ideal) cq co si qa qn wu = resQ cq co si qa qn wu := by
  funext i
  obtain ⟨h, n, k, rfl⟩ : ∃ (h : Fin 8) (n : Fin 4096) (k : Fin 192), i = ix3 h n k := ⟨_, _, _, eq_ix3 i⟩
  show _ = plain (fun j => co (ix2 n j)) (fun j => si (ix2 n j)) (qh cq qa qn wu n h) k * Ideal.ofBits .f32 0x3D93CD3A#32
  have e : qh cq qa qn wu n h = fun k => val_main_v47 (F := Ideal) cq qa qn wu (ix3 n h k) := funext fun k => (v47 cq qa qn wu n h k).symm
  rw [e]
  unfold plain val_main_v100 val_main_v99 val_main_v98 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61
  generalize val_main_v47 (F := Ideal) cq qa qn wu = u
  pointwise [val_main_v97, val_main_cst_11]

theorem ref_k : val_main_v102 (F := Ideal) ckv kr co si kva kn wk = resK ckv kr co si kva kn wk := by
  funext i
  obtain ⟨h, n, k, rfl⟩ : ∃ (h : Fin 8) (n : Fin 4096) (k : Fin 192), i = ix3 h n k := ⟨_, _, _, eq_ix3 i⟩
  show _ = plain (fun j => co (ix2 n j)) (fun j => si (ix2 n j)) (kh ckv kr kva kn wk n h) k
  have e : kh ckv kr kva kn wk n h = fun k => val_main_v60 (F := Ideal) ckv kr kva kn wk (ix3 n h k) := funext fun k => (v60 ckv kr kva kn wk n h k).symm
  rw [e]
  unfold plain val_main_v102 val_main_v101 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79
  generalize val_main_v60 (F := Ideal) ckv kr kva kn wk = u
  pointwise

end Cert.MlafRefIdeal.Val

end
-- ==== Proof.MlafValue.lean ====
/-
  The forward call of the rotary preparation: the arrays the call leaves, and the claim.
-/
module

public import proofs.«01_k».proof.Proof.MlafRef
public import proofs.«01_k».proof.Defs
public import proofs.«01_k».proof.Proof.Gen.MlafRefIdeal.Run
public import proofs.«01_k».proof.Proof.Gen.Pre_finite_mlaf
public import Idealize.ShloMosaic.Lib.Pipeline.ValueKit.Tiles

@[expose] public section

set_option maxRecDepth 16384

noncomputable section

namespace Cert.MlafIdeal.Val

open Cert.MlafIdeal Cert.MlafIdeal.Gen Cert.Shapes
open Idealize.ShloMosaic Idealize.ShloMosaic.TcCoe Idealize.SL.Sem

/-! ## One grid point -/

section
variable (x0 : Vec Ideal S512x512 .f32) (x1 : Vec Ideal S512x256 .f32) (x2 : Vec Ideal S512x128 .f32) (x3 x4 : Vec Ideal S512x192 .f32)
  (x5 : Vec Ideal S192x192 .bf16) (x6 : Vec Ideal S1x512 .f32) (x7 : Vec Ideal S1x256 .f32) (x8 x9 : Vec Ideal S1x192 .f32)
  (x10 : Vec Ideal S8x512x192 .bf16) (x11 : Vec Ideal S8x256x256 .bf16)
  (cq : FVec Ideal S4096x512 .f32) (ckv : FVec Ideal S4096x256 .f32) (kr : FVec Ideal S4096x64 .f32) (co si : FVec Ideal S4096x32 .f32)
  (qa : FVec Ideal S512 .f32) (kva : FVec Ideal S256 .f32) (qn kn : FVec Ideal S192 .f32) (wu : FVec Ideal S512x1536 .f32) (wk : FVec Ideal S256x2048 .f32)
  (n : Fin 512 → Fin 4096)

/-- The point's blocks are those rows of the arguments. -/
structure Blocks : Prop where
  b0 : ∀ r j, x0 (ix2 r j) = cq (ix2 (n r) j)
  b1 : ∀ r j, x1 (ix2 r j) = ckv (ix2 (n r) j)
  b2 : ∀ r (j : Fin 64), x2 (ix2 r ⟨j.val, by omega⟩) = kr (ix2 (n r) j)
  b3 : ∀ r k, x3 (ix2 r k) = tab 1 (fun j => co (ix2 (n r) j)) k
  b4 : ∀ r k, x4 (ix2 r k) = tab 0 (fun j => si (ix2 (n r) j)) k
  b5 : ∀ i j, x5 (ix2 i j) = rot i j
  b6 : ∀ j, x6 (ix2 0 j) = qa (ix1 j)
  b7 : ∀ j, x7 (ix2 0 j) = kva (ix1 j)
  b8 : ∀ j, x8 (ix2 0 j) = qn (ix1 j)
  b9 : ∀ j, x9 (ix2 0 j) = kn (ix1 j)
  b10 : ∀ h e j, x10 (ix3 h e j) = wu (ix2 e (colQ h j))
  b11 : ∀ h e j, x11 (ix3 h e j) = wk (ix2 e (colK h j))

variable {x0 x1 x2 x3 x4 x5 x6 x7 x8 x9 x10 x11 cq ckv kr co si qa kva qn kn wu wk n}
variable (B : Blocks x0 x1 x2 x3 x4 x5 x6 x7 x8 x9 x10 x11 cq ckv kr co si qa kva qn kn wu wk n)
include B

theorem q_at (hq : ∀ n h k, IsR (qh cq qa qn wu n h k)) (o : ℕ) (hs : S8x512x192.Slices ![o, 0, 0] S1x512x192) (ho : o < 8) (r : Fin 512) (k : Fin 192) :
    outQ x0 x3 x4 x5 x6 x8 x10 o hs (ix3 0 r k) = resQ cq co si qa qn wu (ix3 ⟨o, ho⟩ (n r) k) := by
  have e : ∀ i, nv (qin x0 x6 x10 o hs) x8 (ix2 r i) = qh cq qa qn wu (n r) ⟨o, ho⟩ i := fun i => by
    rw [nv_apply]
    simp only [qin_apply _ _ _ o hs ho, cqv_apply, B.b0, B.b6, B.b8, B.b10]
    rfl
  rw [outQ_apply, rope_apply]
  simp only [e, B.b3, B.b4, B.b5]
  exact congrArg (fun y : EReal => y * Ideal.ofBits .f32 0x3D93CD3A#32) (rope_plain _ _ _ (hq _ _) k)

theorem kv_at (o : ℕ) (hs : S8x256x256.Slices ![o, 0, 0] S1x256x256) (ho : o < 8) (r : Fin 512) (j : Fin 256) :
    kvin x1 x7 x11 o hs (ix2 r j) = kvl ckv kva wk (n r) ⟨o, ho⟩ j := by
  simp only [kvin_apply _ _ _ o hs ho, ckvv_apply, B.b1, B.b7, B.b11]
  rfl

theorem kin_at (o : ℕ) (hs : S8x256x256.Slices ![o, 0, 0] S1x256x256) (ho : o < 8) (r : Fin 512) (j : Fin 192) :
    kin x1 x2 x7 x11 o hs (ix2 r j) = kl ckv kr kva wk (n r) ⟨o, ho⟩ j := by
  unfold kl
  by_cases h : j.val < 128
  · rw [dif_pos h]
    exact (kin_lo x1 x2 x7 x11 o hs r ⟨j.val, h⟩).trans (kv_at B o hs ho r _)
  · rw [dif_neg h]
    have ej : j = ⟨128 + (j.val - 128), by omega⟩ := Fin.ext (by dsimp only; omega)
    exact (congrArg (fun q => kin x1 x2 x7 x11 o hs (ix2 r q)) ej).trans ((kin_hi x1 x2 x7 x11 o hs r ⟨j.val - 128, by omega⟩).trans (B.b2 r ⟨j.val - 128, by omega⟩))

theorem k_at (hk : ∀ n h k, IsR (kh ckv kr kva kn wk n h k)) (o : ℕ) (hs : S8x256x256.Slices ![o, 0, 0] S1x256x256) (ho : o < 8) (r : Fin 512) (k : Fin 192) :
    outK x1 x2 x3 x4 x5 x7 x9 x11 o hs (ix3 0 r k) = resK ckv kr co si kva kn wk (ix3 ⟨o, ho⟩ (n r) k) := by
  have e : ∀ i, nv (kin x1 x2 x7 x11 o hs) x9 (ix2 r i) = kh ckv kr kva kn wk (n r) ⟨o, ho⟩ i := fun i => by
    rw [nv_apply]
    simp only [kin_at B o hs ho, B.b9]
    rfl
  rw [outK_apply, rope_apply]
  simp only [e, B.b3, B.b4, B.b5]
  exact rope_plain _ _ _ (hk _ _) k

theorem v_at (o : ℕ) (hs : S8x256x256.Slices ![o, 0, 0] S1x256x256) (ho : o < 8) (r : Fin 512) (k : Fin 128) :
    outV x1 x7 x11 o hs (ix3 0 r k) = resV ckv kva wk (ix3 ⟨o, ho⟩ (n r) k) :=
  (outV_apply x1 x7 x11 o hs r k).trans (kv_at B o hs ho r _)

omit B in
/-- One head's store, where it holds the entry, has the value that every head's store has there. -/
theorem tile {b : ℕ} (o : ℕ) (ho : o < 8) (w : (⟨3, ![1, 512, b]⟩ : Shape).Idx → EReal) (G : Fin 8 → Fin 512 → Fin b → EReal)
    (hw : ∀ r k, w (ix3 0 r k) = G ⟨o, ho⟩ r k) (h : Fin 8) (r : Fin 512) (k : Fin b) :
    ∀ x : (⟨3, ![1, 512, b]⟩ : Shape).Idx, (∀ a : Fin 3, ((ix3 h r k : (⟨3, ![8, 512, b]⟩ : Shape).Idx) a : Nat) = ![o, 0, 0] a + x a) → w x = G h r k := by
  intro x hx
  obtain ⟨z, r', k', rfl⟩ : ∃ (z : Fin 1) (r' : Fin 512) (k' : Fin b), x = ix3 z r' k' := ⟨_, _, _, eq_ix3 x⟩
  obtain rfl : z = 0 := Subsingleton.elim _ _
  have h0 : h.val = o + 0 := hx 0
  have h1 : r.val = 0 + r'.val := hx 1
  have h2 : k.val = 0 + k'.val := hx 2
  obtain rfl : h = ⟨o, ho⟩ := Fin.ext h0
  obtain rfl : r = r' := Fin.ext (by omega)
  obtain rfl : k = k' := Fin.ext (by omega)
  exact hw r k

theorem left12 (hq : ∀ n h k, IsR (qh cq qa qn wu n h k)) (h : Fin 8) (r : Fin 512) (k : Fin 192) :
    out0_12 x0 x1 x2 x3 x4 x5 x6 x7 x8 x9 x10 x11 (ix3 h r k) = resQ cq co si qa qn wu (ix3 h (n r) k) := by
  rw [out_12]
  refine View.canon_eq_of_allAt _ _ _ (cover0_12 _ _ _ _ _ _ _ _ _) ?_
  repeat refine View.allAt_cons_unit _ _ _ _ _ (tile _ (by decide) _ (fun h r k => resQ cq co si qa qn wu (ix3 h (n r) k)) (fun r k => q_at B hq _ _ _ r k) h r k) ?_
  exact View.allAt_nil _ _

theorem left13 (hk : ∀ n h k, IsR (kh ckv kr kva kn wk n h k)) (h : Fin 8) (r : Fin 512) (k : Fin 192) :
    out0_13 x0 x1 x2 x3 x4 x5 x6 x7 x8 x9 x10 x11 (ix3 h r k) = resK ckv kr co si kva kn wk (ix3 h (n r) k) := by
  rw [out_13]
  refine View.canon_eq_of_allAt _ _ _ (cover0_13 _ _ _ _ _ _ _ _ _) ?_
  repeat refine View.allAt_cons_unit _ _ _ _ _ (tile _ (by decide) _ (fun h r k => resK ckv kr co si kva kn wk (ix3 h (n r) k)) (fun r k => k_at B hk _ _ _ r k) h r k) ?_
  exact View.allAt_nil _ _

theorem left14 (h : Fin 8) (r : Fin 512) (k : Fin 128) :
    out0_14 x0 x1 x2 x3 x4 x5 x6 x7 x8 x9 x10 x11 (ix3 h r k) = resV ckv kva wk (ix3 h (n r) k) := by
  rw [out_14]
  refine View.canon_eq_of_allAt _ _ _ (cover0_14 _ _ _ _ _ _ _ _ _) ?_
  repeat refine View.allAt_cons_unit _ _ _ _ _ (tile _ (by decide) _ (fun h r k => resV ckv kva wk (ix3 h (n r) k)) (fun r k => v_at B _ _ _ r k) h r k) ?_
  exact View.allAt_nil _ _

end

/-! ## The arrays -/

variable (m : (ℓ : Loc nD τ sig) → Buf (Elt Ideal) ℓ) (c : Dev nD)

theorem lt_N (t : Fin cfg0.N) : t.val < 8 := lt_of_lt_of_eq t.isLt (show cfg0.N = 8 from N_0)

/-- Row `r` of the block at point `t`. -/
def row (t : Fin cfg0.N) (r : Fin 512) : Fin 4096 := ⟨512 * t.val + r.val, by have := lt_N t; omega⟩

theorem idx0 : ∀ t : Fin grid0.N, win0_0.index t 0 = t.val ∧ win0_0.index t 1 = 0 := by decide +kernel
theorem idx1 : ∀ t : Fin grid0.N, win0_1.index t 0 = t.val ∧ win0_1.index t 1 = 2 := by decide +kernel
theorem idx2 : ∀ t : Fin grid0.N, win0_2.index t 0 = t.val ∧ win0_2.index t 1 = 6 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel
theorem idx10 : ∀ t : Fin grid0.N, win0_10.index t 0 = 0 ∧ win0_10.index t 1 = 0 ∧ win0_10.index t 2 = 0 := by decide +kernel
theorem idx11 : ∀ t : Fin grid0.N, win0_11.index t 0 = 0 ∧ win0_11.index t 1 = 0 ∧ win0_11.index t 2 = 0 := by decide +kernel
theorem idx12 : ∀ t : Fin grid0.N, win0_12.index t 0 = 0 ∧ win0_12.index t 1 = t.val ∧ win0_12.index t 2 = 0 := by decide +kernel
theorem idx13 : ∀ t : Fin grid0.N, win0_13.index t 0 = 0 ∧ win0_13.index t 1 = t.val ∧ win0_13.index t 2 = 0 := by decide +kernel
theorem idx14 : ∀ t : Fin grid0.N, win0_14.index t 0 = 0 ∧ win0_14.index t 1 = t.val ∧ win0_14.index t 2 = 0 := by decide +kernel

theorem blk0 (t : Fin cfg0.N) (r : Fin 512) (j : Fin 512) : iblk m c 0 t (ix2 r j) = Cq m c (ix2 (row t r) j) := by
  unfold iblk
  rw [View.read_apply]
  show V m c main_v1 _ = _
  obtain ⟨e0, e1⟩ := idx0 t
  refine (congrArg (V m c main_v1) (a₂ := (ix2 (row t r) ⟨j.val, by omega⟩ : S4096x1024.Idx)) (funext fun a => Fin.ext ?_)).trans (z0 m c _ j)
  match a with
  | ⟨0, _⟩ => show win0_0.index t 0 * 512 + 1 * r.val = 512 * t.val + r.val; omega
  | ⟨1, _⟩ => show win0_0.index t 1 * 512 + 1 * j.val = j.val; omega

theorem blk1 (t : Fin cfg0.N) (r : Fin 512) (j : Fin 256) : iblk m c 1 t (ix2 r j) = Ckv m c (ix2 (row t r) j) := by
  unfold iblk
  rw [View.read_apply]
  show V m c main_v1 _ = _
  obtain ⟨e0, e1⟩ := idx1 t
  refine (congrArg (V m c main_v1) (a₂ := (ix2 (row t r) ⟨512 + j.val, by omega⟩ : S4096x1024.Idx)) (funext fun a => Fin.ext ?_)).trans (z1 m c _ j)
  match a with
  | ⟨0, _⟩ => show win0_1.index t 0 * 512 + 1 * r.val = 512 * t.val + r.val; omega
  | ⟨1, _⟩ => show win0_1.index t 1 * 256 + 1 * j.val = 512 + j.val; omega

theorem blk2 (t : Fin cfg0.N) (r : Fin 512) (j : Fin 64) : iblk m c 2 t (ix2 r ⟨j.val, by omega⟩) = Kr m c (ix2 (row t r) j) := by
  unfold iblk
  rw [View.read_apply]
  show V m c main_v1 _ = _
  obtain ⟨e0, e1⟩ := idx2 t
  refine (congrArg (V m c main_v1) (a₂ := (ix2 (row t r) ⟨768 + j.val, by omega⟩ : S4096x1024.Idx)) (funext fun a => Fin.ext ?_)).trans (z2 m c _ j)
  match a with
  | ⟨0, _⟩ => show win0_2.index t 0 * 512 + 1 * r.val = 512 * t.val + r.val; omega
  | ⟨1, _⟩ => show win0_2.index t 1 * 128 + 1 * j.val = 768 + j.val; omega

theorem blk3 (t : Fin cfg0.N) (r : Fin 512) (k : Fin 192) : iblk m c 3 t (ix2 r k) = tab 1 (fun j => Co m c (ix2 (row t r) j)) k := by
  unfold iblk
  rw [View.read_apply]
  show V m c main_v4 _ = _
  obtain ⟨e0, e1⟩ := idx3 t
  refine (congrArg (V m c main_v4) (a₂ := (ix2 (row t r) k : S4096x192.Idx)) (funext fun a => Fin.ext ?_)).trans (cos_apply m c _ k)
  match a with
  | ⟨0, _⟩ => show win0_3.index t 0 * 512 + 1 * r.val = 512 * t.val + r.val; omega
  | ⟨1, _⟩ => show win0_3.index t 1 * 192 + 1 * k.val = k.val; omega

theorem blk4 (t : Fin cfg0.N) (r : Fin 512) (k : Fin 192) : iblk m c 4 t (ix2 r k) = tab 0 (fun j => Si m c (ix2 (row t r) j)) k := by
  unfold iblk
  rw [View.read_apply]
  show V m c main_v5 _ = _
  obtain ⟨e0, e1⟩ := idx4 t
  refine (congrArg (V m c main_v5) (a₂ := (ix2 (row t r) k : S4096x192.Idx)) (funext fun a => Fin.ext ?_)).trans (sin_apply m c _ k)
  match a with
  | ⟨0, _⟩ => show win0_4.index t 0 * 512 + 1 * r.val = 512 * t.val + r.val; omega
  | ⟨1, _⟩ => show win0_4.index t 1 * 192 + 1 * k.val = k.val; omega

theorem blk5 (t : Fin cfg0.N) (i : Fin 192) (j : Fin 192) : iblk m c 5 t (ix2 i j) = rot i j := by
  unfold iblk
  rw [View.read_apply]
  show V m c main_v34 _ = _
  obtain ⟨e0, e1⟩ := idx5 t
  refine (congrArg (V m c main_v34) (a₂ := (ix2 i j : S192x192.Idx)) (funext fun a => Fin.ext ?_)).trans (rot_apply m c i j)
  match a with
  | ⟨0, _⟩ => show win0_5.index t 0 * 192 + 1 * i.val = i.val; omega
  | ⟨1, _⟩ => show win0_5.index t 1 * 192 + 1 * j.val = j.val; omega

theorem blk6 (t : Fin cfg0.N) (j : Fin 512) : iblk m c 6 t (ix2 0 j) = Qa m c (ix1 j) := by
  unfold iblk
  rw [View.read_apply]
  show V m c main_v35 _ = _
  obtain ⟨e0, e1⟩ := idx6 t
  refine (congrArg (V m c main_v35) (a₂ := (ix2 0 j : S1x512.Idx)) (funext fun a => Fin.ext ?_)).trans (Qa_apply m c j)
  match a with
  | ⟨0, _⟩ => show win0_6.index t 0 * 1 + 1 * 0 = 0; omega
  | ⟨1, _⟩ => show win0_6.index t 1 * 512 + 1 * j.val = j.val; omega

theorem blk7 (t : Fin cfg0.N) (j : Fin 256) : iblk m c 7 t (ix2 0 j) = Kva m c (ix1 j) := by
  unfold iblk
  rw [View.read_apply]
  show V m c main_v36 _ = _
  obtain ⟨e0, e1⟩ := idx7 t
  refine (congrArg (V m c main_v36) (a₂ := (ix2 0 j : S1x256.Idx)) (funext fun a => Fin.ext ?_)).trans (Kva_apply m c j)
  match a with
  | ⟨0, _⟩ => show win0_7.index t 0 * 1 + 1 * 0 = 0; omega
  | ⟨1, _⟩ => show win0_7.index t 1 * 256 + 1 * j.val = j.val; omega

theorem blk8 (t : Fin cfg0.N) (j : Fin 192) : iblk m c 8 t (ix2 0 j) = Qn m c (ix1 j) := by
  unfold iblk
  rw [View.read_apply]
  show V m c main_v37 _ = _
  obtain ⟨e0, e1⟩ := idx8 t
  refine (congrArg (V m c main_v37) (a₂ := (ix2 0 j : S1x192.Idx)) (funext fun a => Fin.ext ?_)).trans (Qn_apply m c j)
  match a with
  | ⟨0, _⟩ => show win0_8.index t 0 * 1 + 1 * 0 = 0; omega
  | ⟨1, _⟩ => show win0_8.index t 1 * 192 + 1 * j.val = j.val; omega

theorem blk9 (t : Fin cfg0.N) (j : Fin 192) : iblk m c 9 t (ix2 0 j) = Kn m c (ix1 j) := by
  unfold iblk
  rw [View.read_apply]
  show V m c main_v38 _ = _
  obtain ⟨e0, e1⟩ := idx9 t
  refine (congrArg (V m c main_v38) (a₂ := (ix2 0 j : S1x192.Idx)) (funext fun a => Fin.ext ?_)).trans (Kn_apply m c j)
  match a with
  | ⟨0, _⟩ => show win0_9.index t 0 * 1 + 1 * 0 = 0; omega
  | ⟨1, _⟩ => show win0_9.index t 1 * 192 + 1 * j.val = j.val; omega

theorem blk10 (t : Fin cfg0.N) (h : Fin 8) (e : Fin 512) (j : Fin 192) : iblk m c 10 t (ix3 h e j) = Wu m c (ix2 e (colQ h j)) := by
  unfold iblk
  rw [View.read_apply]
  show V m c main_v41 _ = _
  obtain ⟨e0, e1, e2⟩ := idx10 t
  refine (congrArg (V m c main_v41) (a₂ := (ix3 h e j : S8x512x192.Idx)) (funext fun a => Fin.ext ?_)).trans (Wu_apply m c h e j)
  match a with
  | ⟨0, _⟩ => show win0_10.index t 0 * 8 + 1 * h.val = h.val; omega
  | ⟨1, _⟩ => show win0_10.index t 1 * 512 + 1 * e.val = e.val; omega
  | ⟨2, _⟩ => show win0_10.index t 2 * 192 + 1 * j.val = j.val; omega

theorem blk11 (t : Fin cfg0.N) (h : Fin 8) (e : Fin 256) (j : Fin 256) : iblk m c 11 t (ix3 h e j) = Wk m c (ix2 e (colK h j)) := by
  unfold iblk
  rw [View.read_apply]
  show V m c main_v44 _ = _
  obtain ⟨e0, e1, e2⟩ := idx11 t
  refine (congrArg (V m c main_v44) (a₂ := (ix3 h e j : S8x256x256.Idx)) (funext fun a => Fin.ext ?_)).trans (Wk_apply m c h e j)
  match a with
  | ⟨0, _⟩ => show win0_11.index t 0 * 8 + 1 * h.val = h.val; omega
  | ⟨1, _⟩ => show win0_11.index t 1 * 256 + 1 * e.val = e.val; omega
  | ⟨2, _⟩ => show win0_11.index t 2 * 256 + 1 * j.val = j.val; omega

theorem blocks (t : Fin cfg0.N) : Blocks (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (Cq m c) (Ckv m c) (Kr m c) (Co m c) (Si m c) (Qa m c) (Kva m c) (Qn m c) (Kn m c) (Wu m c) (Wk m c) (row t) :=
  ⟨blk0 m c t, blk1 m c t, blk2 m c t, blk3 m c t, blk4 m c t, blk5 m c t, blk6 m c t, blk7 m c t, blk8 m c t, blk9 m c t, blk10 m c t, blk11 m c t⟩

theorem out_q (hq : ∀ n h k, IsR (qh (Cq m c) (Qa m c) (Qn m c) (Wu m c) n h k)) : (dats m 0 c).arrAt 12 cfg0.N = resQ (Cq m c) (Co m c) (Si m c) (Qa m c) (Qn m c) (Wu m c) := by
  have hN : cfg0.N = 8 := N_0
  refine (dats m 0 c).arrAt_eq_of_cover 12 (resQ (Cq m c) (Co m c) (Si m c) (Qa m c) (Qn m c) (Wu m c)) (fun t hf => ?_) fun i => ?_
  · obtain ⟨e0, e1, e2⟩ := idx12 t
    show (cfg0.win 12).cut (grid0.coords t) ((dats m 0 c).after 12 t) = _
    rw [after0_12]
    funext j
    obtain ⟨h, r, k, rfl⟩ : ∃ (h : Fin 8) (r : Fin 512) (k : Fin 192), j = ix3 h r k := ⟨_, _, _, eq_ix3 j⟩
    rw [View.read_apply]
    have e : ((((cfg0.win 12).blk t).view.emb (ix3 h r k)) : S8x4096x192.Idx) = ix3 h (row t r) k := funext fun a => Fin.ext (by
      match a with
      | ⟨0, _⟩ => show win0_12.index t 0 * 8 + 1 * h.val = h.val; omega
      | ⟨1, _⟩ => show win0_12.index t 1 * 512 + 1 * r.val = 512 * t.val + r.val; omega
      | ⟨2, _⟩ => show win0_12.index t 2 * 192 + 1 * k.val = k.val; omega)
    exact (left12 (blocks m c t) hq h r k).trans (congrArg (resQ (Cq m c) (Co m c) (Si m c) (Qa m c) (Qn m c) (Wu m c)) e.symm)
  · have h0 : (i 0 : Nat) < 8 := (i 0).isLt
    have h1 : (i 1 : Nat) < 4096 := (i 1).isLt
    have h2 : (i 2 : Nat) < 192 := (i 2).isLt
    have ht : (i 1 : Nat) / 512 < cfg0.N := by omega
    obtain ⟨e0, e1, e2⟩ := idx12 ⟨_, ht⟩
    dsimp only at e0 e1 e2
    refine ⟨⟨_, ht⟩, flush0_12 _, ?_⟩
    show i ∈ ((View.whole main_v45_0).slice (win0_12.rect ⟨_, ht⟩)).set
    rw [View.set_slice_whole, Rect.mem_set_unit]
    intro a
    match a with
    | ⟨0, _⟩ => show win0_12.index ⟨_, ht⟩ 0 * 8 ≤ (i 0 : Nat) ∧ (i 0 : Nat) < win0_12.index ⟨_, ht⟩ 0 * 8 + 8; omega
    | ⟨1, _⟩ => show win0_12.index ⟨_, ht⟩ 1 * 512 ≤ (i 1 : Nat) ∧ (i 1 : Nat) < win0_12.index ⟨_, ht⟩ 1 * 512 + 512; omega
    | ⟨2, _⟩ => show win0_12.index ⟨_, ht⟩ 2 * 192 ≤ (i 2 : Nat) ∧ (i 2 : Nat) < win0_12.index ⟨_, ht⟩ 2 * 192 + 192; omega

theorem out_k (hk : ∀ n h k, IsR (kh (Ckv m c) (Kr m c) (Kva m c) (Kn m c) (Wk m c) n h k)) : (dats m 0 c).arrAt 13 cfg0.N = resK (Ckv m c) (Kr m c) (Co m c) (Si m c) (Kva m c) (Kn m c) (Wk m c) := by
  have hN : cfg0.N = 8 := N_0
  refine (dats m 0 c).arrAt_eq_of_cover 13 (resK (Ckv m c) (Kr m c) (Co m c) (Si m c) (Kva m c) (Kn m c) (Wk m c)) (fun t hf => ?_) fun i => ?_
  · obtain ⟨e0, e1, e2⟩ := idx13 t
    show (cfg0.win 13).cut (grid0.coords t) ((dats m 0 c).after 13 t) = _
    rw [after0_13]
    funext j
    obtain ⟨h, r, k, rfl⟩ : ∃ (h : Fin 8) (r : Fin 512) (k : Fin 192), j = ix3 h r k := ⟨_, _, _, eq_ix3 j⟩
    rw [View.read_apply]
    have e : ((((cfg0.win 13).blk t).view.emb (ix3 h r k)) : S8x4096x192.Idx) = ix3 h (row t r) k := funext fun a => Fin.ext (by
      match a with
      | ⟨0, _⟩ => show win0_13.index t 0 * 8 + 1 * h.val = h.val; omega
      | ⟨1, _⟩ => show win0_13.index t 1 * 512 + 1 * r.val = 512 * t.val + r.val; omega
      | ⟨2, _⟩ => show win0_13.index t 2 * 192 + 1 * k.val = k.val; omega)
    exact (left13 (blocks m c t) hk h r k).trans (congrArg (resK (Ckv m c) (Kr m c) (Co m c) (Si m c) (Kva m c) (Kn m c) (Wk m c)) e.symm)
  · have h0 : (i 0 : Nat) < 8 := (i 0).isLt
    have h1 : (i 1 : Nat) < 4096 := (i 1).isLt
    have h2 : (i 2 : Nat) < 192 := (i 2).isLt
    have ht : (i 1 : Nat) / 512 < cfg0.N := by omega
    obtain ⟨e0, e1, e2⟩ := idx13 ⟨_, ht⟩
    dsimp only at e0 e1 e2
    refine ⟨⟨_, ht⟩, flush0_13 _, ?_⟩
    show i ∈ ((View.whole main_v45_1).slice (win0_13.rect ⟨_, ht⟩)).set
    rw [View.set_slice_whole, Rect.mem_set_unit]
    intro a
    match a with
    | ⟨0, _⟩ => show win0_13.index ⟨_, ht⟩ 0 * 8 ≤ (i 0 : Nat) ∧ (i 0 : Nat) < win0_13.index ⟨_, ht⟩ 0 * 8 + 8; omega
    | ⟨1, _⟩ => show win0_13.index ⟨_, ht⟩ 1 * 512 ≤ (i 1 : Nat) ∧ (i 1 : Nat) < win0_13.index ⟨_, ht⟩ 1 * 512 + 512; omega
    | ⟨2, _⟩ => show win0_13.index ⟨_, ht⟩ 2 * 192 ≤ (i 2 : Nat) ∧ (i 2 : Nat) < win0_13.index ⟨_, ht⟩ 2 * 192 + 192; omega

theorem out_v : (dats m 0 c).arrAt 14 cfg0.N = resV (Ckv m c) (Kva m c) (Wk m c) := by
  have hN : cfg0.N = 8 := N_0
  refine (dats m 0 c).arrAt_eq_of_cover 14 (resV (Ckv m c) (Kva m c) (Wk m c)) (fun t hf => ?_) fun i => ?_
  · obtain ⟨e0, e1, e2⟩ := idx14 t
    show (cfg0.win 14).cut (grid0.coords t) ((dats m 0 c).after 14 t) = _
    rw [after0_14]
    funext j
    obtain ⟨h, r, k, rfl⟩ : ∃ (h : Fin 8) (r : Fin 512) (k : Fin 128), j = ix3 h r k := ⟨_, _, _, eq_ix3 j⟩
    rw [View.read_apply]
    have e : ((((cfg0.win 14).blk t).view.emb (ix3 h r k)) : S8x4096x128.Idx) = ix3 h (row t r) k := funext fun a => Fin.ext (by
      match a with
      | ⟨0, _⟩ => show win0_14.index t 0 * 8 + 1 * h.val = h.val; omega
      | ⟨1, _⟩ => show win0_14.index t 1 * 512 + 1 * r.val = 512 * t.val + r.val; omega
      | ⟨2, _⟩ => show win0_14.index t 2 * 128 + 1 * k.val = k.val; omega)
    exact (left14 (blocks m c t) h r k).trans (congrArg (resV (Ckv m c) (Kva m c) (Wk m c)) e.symm)
  · have h0 : (i 0 : Nat) < 8 := (i 0).isLt
    have h1 : (i 1 : Nat) < 4096 := (i 1).isLt
    have h2 : (i 2 : Nat) < 128 := (i 2).isLt
    have ht : (i 1 : Nat) / 512 < cfg0.N := by omega
    obtain ⟨e0, e1, e2⟩ := idx14 ⟨_, ht⟩
    dsimp only at e0 e1 e2
    refine ⟨⟨_, ht⟩, flush0_14 _, ?_⟩
    show i ∈ ((View.whole main_v45_2).slice (win0_14.rect ⟨_, ht⟩)).set
    rw [View.set_slice_whole, Rect.mem_set_unit]
    intro a
    match a with
    | ⟨0, _⟩ => show win0_14.index ⟨_, ht⟩ 0 * 8 ≤ (i 0 : Nat) ∧ (i 0 : Nat) < win0_14.index ⟨_, ht⟩ 0 * 8 + 8; omega
    | ⟨1, _⟩ => show win0_14.index ⟨_, ht⟩ 1 * 512 ≤ (i 1 : Nat) ∧ (i 1 : Nat) < win0_14.index ⟨_, ht⟩ 1 * 512 + 512; omega
    | ⟨2, _⟩ => show win0_14.index ⟨_, ht⟩ 2 * 128 ≤ (i 2 : Nat) ∧ (i 2 : Nat) < win0_14.index ⟨_, ht⟩ 2 * 128 + 128; omega

end Cert.MlafIdeal.Val

/-! ## The claim -/

namespace Cert.Mlaf.Claim

open Idealize.ShloMosaic Idealize.ShloMosaic.TcCoe Idealize.SL.Sem
open Cert.MlafIdeal.Val

theorem real_all {s : Shape} (x y : FVec Ideal s .f32) (hy : ∀ k, y k = Ideal.ofBits .f32 0x7F800000#32)
    (h : cmpf .olt (Host.absf x) y = fun _ => 1#1) (i : s.Idx) : IsR (x i) :=
  let ⟨r, e⟩ := Cert.Shapes.real_of_finite x y hy h
  ⟨r i, e i⟩

theorem frame_ideal_pre : Cert.quiescent_MlafIdeal_pre_finite_mlaf (hMlafIdeal := Cert.MlafIdeal.Gen.facts)
    (hPre_finite_mlaf := Cert.Pre_finite_mlaf.Gen.facts) := fun m ρ _ => Cert.MlafIdeal.Gen.frame m ρ

theorem frame_ref : Cert.quiescent_MlafRefIdeal (hMlafRefIdeal := Cert.MlafRefIdeal.Gen.facts) := fun m g _ =>
  (θ_run _ _ _).mono (fun r h => ⟨fun c => (h c).2.2.2, sem_eq_zero_of_no_sems (by decide) r.2⟩)
    (Cert.MlafRefIdeal.Value.run (F := Ideal) m g)

theorem frame_ref_pre : Cert.quiescent_MlafRefIdeal_pre_finite_mlaf (hMlafRefIdeal := Cert.MlafRefIdeal.Gen.facts)
    (hPre_finite_mlaf := Cert.Pre_finite_mlaf.Gen.facts) := fun m g _ => frame_ref m g trivial

theorem algebraic : Cert.algebraic_MlafIdeal_MlafRefIdeal_pre_finite_mlaf (hMlafIdeal := Cert.MlafIdeal.Gen.facts)
    (hMlafRefIdeal := Cert.MlafRefIdeal.Gen.facts) (hPre_finite_mlaf := Cert.Pre_finite_mlaf.Gen.facts) := by
  intro m g m' g' hpre hargs
  refine ⟨fun c => resQ (Cq m c) (Co m c) (Si m c) (Qa m c) (Qn m c) (Wu m c),
    fun c => resK (Ckv m c) (Kr m c) (Co m c) (Si m c) (Kva m c) (Kn m c) (Wk m c), fun c => resV (Ckv m c) (Kva m c) (Wk m c), ?_, ?_⟩
  · refine (θ_run _ _ _).mono (fun r h c => ?_) (θ_run_and (Cert.MlafIdeal.Gen.run_main m g) (Cert.MlafIdeal.Gen.unchanged m g))
    obtain ⟨p0, p1, p2, p5, p6, p7, p8, p9, p10⟩ := hpre c
    have h0 := real_all (Cq m c) _ (fun _ => rfl) p0
    have h1 := real_all (Ckv m c) _ (fun _ => rfl) p1
    have h2 := real_all (Kr m c) _ (fun _ => rfl) p2
    have h5 := real_all (Qa m c) _ (fun _ => rfl) p5
    have h6 := real_all (Kva m c) _ (fun _ => rfl) p6
    have h7 := real_all (Qn m c) _ (fun _ => rfl) p7
    have h8 := real_all (Kn m c) _ (fun _ => rfl) p8
    have h9 := real_all (Wu m c) _ (fun _ => rfl) p9
    have h10 := real_all (Wk m c) _ (fun _ => rfl) p10
    refine ⟨((h.1 c).1 12).trans (out_q m c fun n a k => qh_real _ _ _ _ h0 h5 h7 h9 n a k),
      ((h.1 c).1 13).trans (out_k m c fun n a k => kh_real _ _ _ _ _ h1 h2 h6 h8 h10 n a k), ((h.1 c).1 14).trans (out_v m c), h.2 c⟩
  · refine (θ_run _ _ _).mono (fun r h c => ?_) (Cert.MlafRefIdeal.Value.run (F := Ideal) m' g')
    obtain ⟨h0, h1, h2, h3⟩ := h c
    obtain ⟨e0, e1, e2, e3, e4, e5, e6, e7, e8, e9, e10⟩ := hargs c
    refine ⟨h0.trans ?_, h1.trans ?_, h2.trans ?_, h3⟩
    · rw [Cert.MlafRefIdeal.Read.val_main_v100_eq, e0, e3, e4, e5, e7, e9]; exact Cert.MlafRefIdeal.Val.ref_q _ _ _ _ _ _
    · rw [Cert.MlafRefIdeal.Read.val_main_v102_eq, e1, e2, e3, e4, e6, e8, e10]; exact Cert.MlafRefIdeal.Val.ref_k _ _ _ _ _ _ _
    · rw [Cert.MlafRefIdeal.Read.val_main_v104_eq, e1, e6, e10]; exact Cert.MlafRefIdeal.Val.ref_v _ _ _

end Cert.Mlaf.Claim

end
-- ==== Proof.lean ====
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite_attn
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RmsIdeal.Value
public import proofs.«01_k».proof.Proof.Gen.RmsRefIdeal
public import proofs.«01_k».proof.Proof.Gen.RmsRefIdeal.Run
public import proofs.«01_k».proof.Proof.Gen.RmsRefIdeal.Read
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_finite_ffn
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Attnf
public import proofs.«01_k».proof.Proof.Gen.Attnf.Skeleton
public import proofs.«01_k».proof.Proof.Gen.Attnf.Launch
public import proofs.«01_k».proof.Proof.Gen.Attnf.Points
public import proofs.«01_k».proof.Proof.Gen.Attnf.Frame
public import proofs.«01_k».proof.Proof.Gen.AttnfIdeal
public import proofs.«01_k».proof.Proof.Gen.AttnfIdeal.Skeleton
public import proofs.«01_k».proof.Proof.Gen.AttnfIdeal.Launch
public import proofs.«01_k».proof.Proof.Gen.AttnfIdeal.Points
public import proofs.«01_k».proof.Proof.Gen.AttnfIdeal.Frame
public import proofs.«01_k».proof.Proof.Gen.AttnfRefIdeal
public import proofs.«01_k».proof.Proof.Gen.AttnfRefIdeal.Run
public import proofs.«01_k».proof.Proof.Gen.AttnfRefIdeal.Read
public import proofs.«01_k».proof.Proof.Gen.Pre_finite_attnf
public import proofs.«01_k».proof.Proof.Gen.Rmsf
public import proofs.«01_k».proof.Proof.Gen.Rmsf.Skeleton
public import proofs.«01_k».proof.Proof.Gen.Rmsf.Launch
public import proofs.«01_k».proof.Proof.Gen.Rmsf.Points
public import proofs.«01_k».proof.Proof.Gen.Rmsf.Frame
public import proofs.«01_k».proof.Proof.Gen.RmsfIdeal
public import proofs.«01_k».proof.Proof.Gen.RmsfIdeal.Skeleton
public import proofs.«01_k».proof.Proof.Gen.RmsfIdeal.Launch
public import proofs.«01_k».proof.Proof.Gen.RmsfIdeal.Points
public import proofs.«01_k».proof.Proof.Gen.RmsfIdeal.Frame
public import proofs.«01_k».proof.Proof.Gen.RmsfIdeal.Value
public import proofs.«01_k».proof.Proof.Gen.RmsfRefIdeal
public import proofs.«01_k».proof.Proof.Gen.RmsfRefIdeal.Run
public import proofs.«01_k».proof.Proof.Gen.RmsfRefIdeal.Read
public import proofs.«01_k».proof.Proof.Gen.Plef
public import proofs.«01_k».proof.Proof.Gen.Plef.Skeleton
public import proofs.«01_k».proof.Proof.Gen.Plef.Launch
public import proofs.«01_k».proof.Proof.Gen.Plef.Points
public import proofs.«01_k».proof.Proof.Gen.Plef.Frame
public import proofs.«01_k».proof.Proof.Gen.PlefIdeal
public import proofs.«01_k».proof.Proof.Gen.PlefIdeal.Skeleton
public import proofs.«01_k».proof.Proof.Gen.PlefIdeal.Launch
public import proofs.«01_k».proof.Proof.Gen.PlefIdeal.Points
public import proofs.«01_k».proof.Proof.Gen.PlefIdeal.Frame
public import proofs.«01_k».proof.Proof.Gen.PlefIdeal.Value
public import proofs.«01_k».proof.Proof.Gen.PlefRefIdeal
public import proofs.«01_k».proof.Proof.Gen.PlefRefIdeal.Run
public import proofs.«01_k».proof.Proof.Gen.PlefRefIdeal.Read
public import proofs.«01_k».proof.Proof.Gen.Mixf
public import proofs.«01_k».proof.Proof.Gen.Mixf.Skeleton
public import proofs.«01_k».proof.Proof.Gen.Mixf.Launch
public import proofs.«01_k».proof.Proof.Gen.Mixf.Points
public import proofs.«01_k».proof.Proof.Gen.Mixf.Frame
public import proofs.«01_k».proof.Proof.Gen.MixfIdeal
public import proofs.«01_k».proof.Proof.Gen.MixfIdeal.Skeleton
public import proofs.«01_k».proof.Proof.Gen.MixfIdeal.Launch
public import proofs.«01_k».proof.Proof.Gen.MixfIdeal.Points
public import proofs.«01_k».proof.Proof.Gen.MixfIdeal.Frame
public import proofs.«01_k».proof.Proof.Gen.MixfIdeal.Value
public import proofs.«01_k».proof.Proof.Gen.MixfRefIdeal
public import proofs.«01_k».proof.Proof.Gen.MixfRefIdeal.Run
public import proofs.«01_k».proof.Proof.Gen.MixfRefIdeal.Read
public import proofs.«01_k».proof.Proof.Gen.Ffnf
public import proofs.«01_k».proof.Proof.Gen.Ffnf.Skeleton
public import proofs.«01_k».proof.Proof.Gen.Ffnf.Launch
public import proofs.«01_k».proof.Proof.Gen.Ffnf.Points
public import proofs.«01_k».proof.Proof.Gen.Ffnf.Frame
public import proofs.«01_k».proof.Proof.Gen.FfnfIdeal
public import proofs.«01_k».proof.Proof.Gen.FfnfIdeal.Skeleton
public import proofs.«01_k».proof.Proof.Gen.FfnfIdeal.Launch
public import proofs.«01_k».proof.Proof.Gen.FfnfIdeal.Points
public import proofs.«01_k».proof.Proof.Gen.FfnfIdeal.Frame
public import proofs.«01_k».proof.Proof.Gen.FfnfIdeal.Value
public import proofs.«01_k».proof.Proof.Gen.FfnfRefIdeal
public import proofs.«01_k».proof.Proof.Gen.FfnfRefIdeal.Run
public import proofs.«01_k».proof.Proof.Gen.FfnfRefIdeal.Read
public import proofs.«01_k».proof.Proof.Gen.Mlaf
public import proofs.«01_k».proof.Proof.Gen.Mlaf.Skeleton
public import proofs.«01_k».proof.Proof.Gen.Mlaf.Launch
public import proofs.«01_k».proof.Proof.Gen.Mlaf.Points
public import proofs.«01_k».proof.Proof.Gen.Mlaf.Frame
public import proofs.«01_k».proof.Proof.Gen.MlafIdeal
public import proofs.«01_k».proof.Proof.Gen.MlafIdeal.Skeleton
public import proofs.«01_k».proof.Proof.Gen.MlafIdeal.Launch
public import proofs.«01_k».proof.Proof.Gen.MlafIdeal.Points
public import proofs.«01_k».proof.Proof.Gen.MlafIdeal.Frame
public import proofs.«01_k».proof.Proof.Gen.MlafRefIdeal
public import proofs.«01_k».proof.Proof.Gen.MlafRefIdeal.Run
public import proofs.«01_k».proof.Proof.Gen.MlafRefIdeal.Read
public import proofs.«01_k».proof.Proof.Gen.Pre_finite_mlaf
public import Idealize.ShloMosaic.Adequacy
public import Idealize.ShloMosaic.Init
public import proofs.«01_k».proof.Proof.Loss
public import proofs.«01_k».proof.Proof.AttnClaim
public import proofs.«01_k».proof.Proof.AttnValue
public import proofs.«01_k».proof.Proof.Rms
public import proofs.«01_k».proof.Proof.Ple
public import proofs.«01_k».proof.Proof.FfnClaim
public import proofs.«01_k».proof.Proof.FfnValue
public import proofs.«01_k».proof.Proof.MixFrame
public import proofs.«01_k».proof.Proof.MixValue
public import proofs.«01_k».proof.Proof.AttnfClaim
public import proofs.«01_k».proof.Proof.AttnfValue
public import proofs.«01_k».proof.Proof.Rmsf
public import proofs.«01_k».proof.Proof.Plef
public import proofs.«01_k».proof.Proof.MixfValue
public import proofs.«01_k».proof.Proof.FfnfValue
public import proofs.«01_k».proof.Proof.MlafValue

@[expose] public section

noncomputable section

namespace Cert.Proof

open Idealize.ShloMosaic Idealize.SL.Sem

theorem claim : Cert.Claim := ⟨Cert.Loss.Gen.facts, Cert.LossIdeal.Gen.facts, Cert.LossRefIdeal.Gen.facts,
  Cert.Attn.Gen.facts, Cert.AttnIdeal.Gen.facts, Cert.AttnRefIdeal.Gen.facts,
  Cert.Rms.Gen.facts, Cert.RmsIdeal.Gen.facts, Cert.RmsRefIdeal.Gen.facts,
  Cert.Ple.Gen.facts, Cert.PleIdeal.Gen.facts, Cert.PleRefIdeal.Gen.facts,
  Cert.Ffn.Gen.facts, Cert.FfnIdeal.Gen.facts, Cert.FfnRefIdeal.Gen.facts,
  Cert.Mix.Gen.facts, Cert.MixIdeal.Gen.facts, Cert.MixRefIdeal.Gen.facts,
  Cert.Attnf.Gen.facts, Cert.AttnfIdeal.Gen.facts, Cert.AttnfRefIdeal.Gen.facts,
  Cert.Rmsf.Gen.facts, Cert.RmsfIdeal.Gen.facts, Cert.RmsfRefIdeal.Gen.facts,
  Cert.Plef.Gen.facts, Cert.PlefIdeal.Gen.facts, Cert.PlefRefIdeal.Gen.facts,
  Cert.Mixf.Gen.facts, Cert.MixfIdeal.Gen.facts, Cert.MixfRefIdeal.Gen.facts,
  Cert.Ffnf.Gen.facts, Cert.FfnfIdeal.Gen.facts, Cert.FfnfRefIdeal.Gen.facts,
  Cert.Mlaf.Gen.facts, Cert.MlafIdeal.Gen.facts, Cert.MlafRefIdeal.Gen.facts,
  Cert.Pre_finite_attn.Gen.facts, Cert.Pre_finite_ffn.Gen.facts, Cert.Pre_finite_attnf.Gen.facts,
  Cert.Pre_finite_mlaf.Gen.facts,
  fun m ρ _ => Cert.Loss.Gen.frame m ρ, fun m ρ _ => Cert.LossIdeal.Gen.frame m ρ,
  Cert.Loss.Claim.frame_ref, Cert.Attn.Claim.frame,
  Cert.Attn.Claim.frame_ideal, Cert.Attn.Claim.frame_ideal_pre,
  Cert.Attn.Claim.frame_ref, Cert.Attn.Claim.frame_ref_pre,
  fun m ρ _ => Cert.Rms.Gen.frame m ρ, fun m ρ _ => Cert.RmsIdeal.Gen.frame m ρ,
  Cert.Rms.Claim.frame_ref, fun m ρ _ => Cert.Ple.Gen.frame m ρ,
  fun m ρ _ => Cert.PleIdeal.Gen.frame m ρ, Cert.Ple.Claim.frame_ref,
  Cert.Ffn.Claim.frame, Cert.Ffn.Claim.frame_ideal,
  Cert.Ffn.Claim.frame_ideal_pre, Cert.Ffn.Claim.frame_ref,
  Cert.Ffn.Claim.frame_ref_pre, fun m ρ _ => Cert.Mix.Gen.frame m ρ,
  fun m ρ _ => Cert.MixIdeal.Gen.frame m ρ, Cert.Mix.Claim.frame_ref,
  Cert.Attnf.Claim.frame, Cert.Attnf.Claim.frame_ideal,
  Cert.Attnf.Claim.frame_ideal_pre, Cert.Attnf.Claim.frame_ref,
  Cert.Attnf.Claim.frame_ref_pre, fun m ρ _ => Cert.Rmsf.Gen.frame m ρ,
  fun m ρ _ => Cert.RmsfIdeal.Gen.frame m ρ, Cert.Rmsf.Claim.frame_ref,
  fun m ρ _ => Cert.Plef.Gen.frame m ρ, fun m ρ _ => Cert.PlefIdeal.Gen.frame m ρ,
  Cert.Plef.Claim.frame_ref, fun m ρ _ => Cert.Mixf.Gen.frame m ρ,
  fun m ρ _ => Cert.MixfIdeal.Gen.frame m ρ, Cert.Mixf.Claim.frame_ref,
  fun m ρ _ => Cert.Ffnf.Gen.frame m ρ, fun m ρ _ => Cert.FfnfIdeal.Gen.frame m ρ,
  Cert.Ffnf.Claim.frame_ref, fun m ρ _ => Cert.Mlaf.Gen.frame m ρ,
  fun m ρ _ => Cert.MlafIdeal.Gen.frame m ρ, Cert.Mlaf.Claim.frame_ideal_pre,
  Cert.Mlaf.Claim.frame_ref, Cert.Mlaf.Claim.frame_ref_pre,
  trivial, Cert.Loss.Claim.algebraic, trivial, Cert.Attn.Claim.algebraic,
  trivial, Cert.Rms.Claim.algebraic, trivial, Cert.Ple.Claim.algebraic,
  trivial, Cert.Ffn.Claim.algebraic, trivial, Cert.Mix.Claim.algebraic,
  IdealRules.named_const.statement Cert.AttnfIdeal.κ "mask" .f32 0xF149F2CA#32 ⊥ rfl, Cert.Attnf.Claim.algebraic, trivial, Cert.Rmsf.Claim.algebraic,
  trivial, Cert.Plef.Claim.algebraic, trivial, Cert.Mixf.Claim.algebraic,
  trivial, Cert.Ffnf.Claim.algebraic, trivial, Cert.Mlaf.Claim.algebraic⟩

end Cert.Proof

end
